-- ==== Defs.lean ====
def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Out2 (m : (ℓ : Loc Cert.Out2.nD Cert.Out2.τ Cert.Out2.sig) → Buf (Elt Bits) ℓ) : Prop :=
  True

def Pre_Out2Ideal (m : (ℓ : Loc Cert.Out2Ideal.nD Cert.Out2Ideal.τ Cert.Out2Ideal.sig) → Buf (Elt Ideal) ℓ) : Prop :=
  True

def Pre_Out2RefIdeal (m : (ℓ : Loc Cert.Out2RefIdeal.nD Cert.Out2RefIdeal.τ Cert.Out2RefIdeal.sig) → Buf (Elt Ideal) ℓ) : Prop :=
  True

def Pre_Out3 (m : (ℓ : Loc Cert.Out3.nD Cert.Out3.τ Cert.Out3.sig) → Buf (Elt Bits) ℓ) : Prop :=
  True

def Pre_Out3Ideal (m : (ℓ : Loc Cert.Out3Ideal.nD Cert.Out3Ideal.τ Cert.Out3Ideal.sig) → Buf (Elt Ideal) ℓ) : Prop :=
  True

def Pre_Out3RefIdeal (m : (ℓ : Loc Cert.Out3RefIdeal.nD Cert.Out3RefIdeal.τ Cert.Out3RefIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_Ffn3RefIdeal (m : (ℓ : Loc Cert.Ffn3RefIdeal.nD Cert.Ffn3RefIdeal.τ Cert.Ffn3RefIdeal.sig) → Buf (Elt Ideal) ℓ) : Prop :=
  True

def Pre_MemAttend (m : (ℓ : Loc Cert.MemAttend.nD Cert.MemAttend.τ Cert.MemAttend.sig) → Buf (Elt Bits) ℓ) : Prop :=
  True

def Pre_MemAttendIdeal (m : (ℓ : Loc Cert.MemAttendIdeal.nD Cert.MemAttendIdeal.τ Cert.MemAttendIdeal.sig) → Buf (Elt Ideal) ℓ) : Prop :=
  True

def Pre_MemAttendIdeal_finite_ma [hPre_finite_ma : Cert.Pre_finite_ma.Facts] (m : (ℓ : Loc Cert.MemAttendIdeal.nD Cert.MemAttendIdeal.τ Cert.MemAttendIdeal.sig) → Buf (Elt Ideal) ℓ) : Prop :=
  ∀ c : Dev Cert.MemAttendIdeal.nD,
    (Cert.Pre_finite_ma.fn (F := Ideal) (m ((c.tc : Thread Cert.MemAttendIdeal.nD Cert.MemAttendIdeal.τ).loc Cert.MemAttendIdeal.main_arg0)) (m ((c.tc : Thread Cert.MemAttendIdeal.nD Cert.MemAttendIdeal.τ).loc Cert.MemAttendIdeal.main_arg1))) = (fun _ => 1#1)

def Pre_MemAttendRefIdeal (m : (ℓ : Loc Cert.MemAttendRefIdeal.nD Cert.MemAttendRefIdeal.τ Cert.MemAttendRefIdeal.sig) → Buf (Elt Ideal) ℓ) : Prop :=
  True

def Pre_MemAttendRefIdeal_finite_ma [hPre_finite_ma : Cert.Pre_finite_ma.Facts] (m : (ℓ : Loc Cert.MemAttendRefIdeal.nD Cert.MemAttendRefIdeal.τ Cert.MemAttendRefIdeal.sig) → Buf (Elt Ideal) ℓ) : Prop :=
  ∀ c : Dev Cert.MemAttendRefIdeal.nD,
    (Cert.Pre_finite_ma.fn (F := Ideal) (m ((c.tc : Thread Cert.MemAttendRefIdeal.nD Cert.MemAttendRefIdeal.τ).loc Cert.MemAttendRefIdeal.main_arg0)) (m ((c.tc : Thread Cert.MemAttendRefIdeal.nD Cert.MemAttendRefIdeal.τ).loc Cert.MemAttendRefIdeal.main_arg1))) = (fun _ => 1#1)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2)
      ∧ r.2.mem ((c.tc : Thread Cert.In0.nD Cert.In0.τ).loc Cert.In0.main_arg3) = m ((c.tc : Thread Cert.In0.nD Cert.In0.τ).loc Cert.In0.main_arg3))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
      ∧ r.2.mem ((c.tc : Thread Cert.In0Ideal.nD Cert.In0Ideal.τ).loc Cert.In0Ideal.main_arg3) = m ((c.tc : Thread Cert.In0Ideal.nD Cert.In0Ideal.τ).loc Cert.In0Ideal.main_arg3))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2)
      ∧ r.2.mem ((c.tc : Thread Cert.In0RefIdeal.nD Cert.In0RefIdeal.τ).loc Cert.In0RefIdeal.main_arg3) = m ((c.tc : Thread Cert.In0RefIdeal.nD Cert.In0RefIdeal.τ).loc Cert.In0RefIdeal.main_arg3))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4)
      ∧ r.2.mem ((c.tc : Thread Cert.Out0.nD Cert.Out0.τ).loc Cert.Out0.main_arg5) = m ((c.tc : Thread Cert.Out0.nD Cert.Out0.τ).loc Cert.Out0.main_arg5)
      ∧ r.2.mem ((c.tc : Thread Cert.Out0.nD Cert.Out0.τ).loc Cert.Out0.main_arg6) = m ((c.tc : Thread Cert.Out0.nD Cert.Out0.τ).loc Cert.Out0.main_arg6))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
      ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5)
      ∧ r.2.mem ((c.tc : Thread Cert.Out0Ideal.nD Cert.Out0Ideal.τ).loc Cert.Out0Ideal.main_arg6) = m ((c.tc : Thread Cert.Out0Ideal.nD Cert.Out0Ideal.τ).loc Cert.Out0Ideal.main_arg6))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3)
      ∧ r.2.mem ((c.tc : Thread Cert.Out0RefIdeal.nD Cert.Out0RefIdeal.τ).loc Cert.Out0RefIdeal.main_arg4) = m ((c.tc : Thread Cert.Out0RefIdeal.nD Cert.Out0RefIdeal.τ).loc Cert.Out0RefIdeal.main_arg4)
      ∧ r.2.mem ((c.tc : Thread Cert.Out0RefIdeal.nD Cert.Out0RefIdeal.τ).loc Cert.Out0RefIdeal.main_arg5) = m ((c.tc : Thread Cert.Out0RefIdeal.nD Cert.Out0RefIdeal.τ).loc Cert.Out0RefIdeal.main_arg5)
      ∧ r.2.mem ((c.tc : Thread Cert.Out0RefIdeal.nD Cert.Out0RefIdeal.τ).loc Cert.Out0RefIdeal.main_arg6) = m ((c.tc : Thread Cert.Out0RefIdeal.nD Cert.Out0RefIdeal.τ).loc Cert.Out0RefIdeal.main_arg6))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5)
      ∧ r.2.mem ((c.tc : Thread Cert.Out1.nD Cert.Out1.τ).loc Cert.Out1.main_arg6) = m ((c.tc : Thread Cert.Out1.nD Cert.Out1.τ).loc Cert.Out1.main_arg6))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
      ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5)
      ∧ r.2.mem ((c.tc : Thread Cert.Out1RefIdeal.nD Cert.Out1RefIdeal.τ).loc Cert.Out1RefIdeal.main_arg6) = m ((c.tc : Thread Cert.Out1RefIdeal.nD Cert.Out1RefIdeal.τ).loc Cert.Out1RefIdeal.main_arg6))
      ∧ r.2.sem = fun _ => 0)

def quiescent_Out2 [hOut2 : Cert.Out2.Facts] : Prop :=
  ∀ (m : (ℓ : Loc Cert.Out2.nD Cert.Out2.τ Cert.Out2.sig) → Buf (Elt Bits) ℓ) (g : Dev Cert.Out2.nD → PrngReg), Pre_Out2 m →
    θ_run (Cert.Out2.defs (F := Bits)) (onTc (τ := Cert.Out2.τ) (Cert.Out2.main (F := Bits))) ⟨m, fun _ => 0, g⟩ (fun r => (∀ c : Dev Cert.Out2.nD,
      r.2.mem ((c.tc : Thread Cert.Out2.nD Cert.Out2.τ).loc Cert.Out2.main_arg0) = m ((c.tc : Thread Cert.Out2.nD Cert.Out2.τ).loc Cert.Out2.main_arg0)
      ∧ r.2.mem ((c.tc : Thread Cert.Out2.nD Cert.Out2.τ).loc Cert.Out2.main_arg1) = m ((c.tc : Thread Cert.Out2.nD Cert.Out2.τ).loc Cert.Out2.main_arg1)
      ∧ r.2.mem ((c.tc : Thread Cert.Out2.nD Cert.Out2.τ).loc Cert.Out2.main_arg2) = m ((c.tc : Thread Cert.Out2.nD Cert.Out2.τ).loc Cert.Out2.main_arg2)
      ∧ r.2.mem ((c.tc : Thread Cert.Out2.nD Cert.Out2.τ).loc Cert.Out2.main_arg3) = m ((c.tc : Thread Cert.Out2.nD Cert.Out2.τ).loc Cert.Out2.main_arg3)
      ∧ r.2.mem ((c.tc : Thread Cert.Out2.nD Cert.Out2.τ).loc Cert.Out2.main_arg4) = m ((c.tc : Thread Cert.Out2.nD Cert.Out2.τ).loc Cert.Out2.main_arg4)
      ∧ r.2.mem ((c.tc : Thread Cert.Out2.nD Cert.Out2.τ).loc Cert.Out2.main_arg5) = m ((c.tc : Thread Cert.Out2.nD Cert.Out2.τ).loc Cert.Out2.main_arg5)
      ∧ r.2.mem ((c.tc : Thread Cert.Out2.nD Cert.Out2.τ).loc Cert.Out2.main_arg6) = m ((c.tc : Thread Cert.Out2.nD Cert.Out2.τ).loc Cert.Out2.main_arg6))
      ∧ r.2.sem = fun _ => 0)

def quiescent_Out2Ideal [hOut2Ideal : Cert.Out2Ideal.Facts] : Prop :=
  ∀ (m : (ℓ : Loc Cert.Out2Ideal.nD Cert.Out2Ideal.τ Cert.Out2Ideal.sig) → Buf (Elt Ideal) ℓ) (g : Dev Cert.Out2Ideal.nD → PrngReg), Pre_Out2Ideal m →
    θ_run (Cert.Out2Ideal.defs (F := Ideal)) (onTc (τ := Cert.Out2Ideal.τ) (Cert.Out2Ideal.main (F := Ideal))) ⟨m, fun _ => 0, g⟩ (fun r => (∀ c : Dev Cert.Out2Ideal.nD,
      r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
      ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
      ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2)
      ∧ r.2.mem ((c.tc : Thread Cert.Out2Ideal.nD Cert.Out2Ideal.τ).loc Cert.Out2Ideal.main_arg3) = m ((c.tc : Thread Cert.Out2Ideal.nD Cert.Out2Ideal.τ).loc Cert.Out2Ideal.main_arg3)
      ∧ r.2.mem ((c.tc : Thread Cert.Out2Ideal.nD Cert.Out2Ideal.τ).loc Cert.Out2Ideal.main_arg4) = m ((c.tc : Thread Cert.Out2Ideal.nD Cert.Out2Ideal.τ).loc Cert.Out2Ideal.main_arg4)
      ∧ r.2.mem ((c.tc : Thread Cert.Out2Ideal.nD Cert.Out2Ideal.τ).loc Cert.Out2Ideal.main_arg5) = m ((c.tc : Thread Cert.Out2Ideal.nD Cert.Out2Ideal.τ).loc Cert.Out2Ideal.main_arg5)
      ∧ r.2.mem ((c.tc : Thread Cert.Out2Ideal.nD Cert.Out2Ideal.τ).loc Cert.Out2Ideal.main_arg6) = m ((c.tc : Thread Cert.Out2Ideal.nD Cert.Out2Ideal.τ).loc Cert.Out2Ideal.main_arg6))
      ∧ r.2.sem = fun _ => 0)

def quiescent_Out2RefIdeal [hOut2RefIdeal : Cert.Out2RefIdeal.Facts] : Prop :=
  ∀ (m : (ℓ : Loc Cert.Out2RefIdeal.nD Cert.Out2RefIdeal.τ Cert.Out2RefIdeal.sig) → Buf (Elt Ideal) ℓ) (g : Dev Cert.Out2RefIdeal.nD → PrngReg), Pre_Out2RefIdeal m →
    θ_run (Cert.Out2RefIdeal.defs (F := Ideal)) (onTc (τ := Cert.Out2RefIdeal.τ) (Cert.Out2RefIdeal.main (F := Ideal))) ⟨m, fun _ => 0, g⟩ (fun r => (∀ c : Dev Cert.Out2RefIdeal.nD,
      r.2.mem ((c.tc : Thread Cert.Out2RefIdeal.nD Cert.Out2RefIdeal.τ).loc Cert.Out2RefIdeal.main_arg0) = m ((c.tc : Thread Cert.Out2RefIdeal.nD Cert.Out2RefIdeal.τ).loc Cert.Out2RefIdeal.main_arg0)
      ∧ r.2.mem ((c.tc : Thread Cert.Out2RefIdeal.nD Cert.Out2RefIdeal.τ).loc Cert.Out2RefIdeal.main_arg1) = m ((c.tc : Thread Cert.Out2RefIdeal.nD Cert.Out2RefIdeal.τ).loc Cert.Out2RefIdeal.main_arg1)
      ∧ r.2.mem ((c.tc : Thread Cert.Out2RefIdeal.nD Cert.Out2RefIdeal.τ).loc Cert.Out2RefIdeal.main_arg2) = m ((c.tc : Thread Cert.Out2RefIdeal.nD Cert.Out2RefIdeal.τ).loc Cert.Out2RefIdeal.main_arg2)
      ∧ r.2.mem ((c.tc : Thread Cert.Out2RefIdeal.nD Cert.Out2RefIdeal.τ).loc Cert.Out2RefIdeal.main_arg3) = m ((c.tc : Thread Cert.Out2RefIdeal.nD Cert.Out2RefIdeal.τ).loc Cert.Out2RefIdeal.main_arg3)
      ∧ r.2.mem ((c.tc : Thread Cert.Out2RefIdeal.nD Cert.Out2RefIdeal.τ).loc Cert.Out2RefIdeal.main_arg4) = m ((c.tc : Thread Cert.Out2RefIdeal.nD Cert.Out2RefIdeal.τ).loc Cert.Out2RefIdeal.main_arg4)
      ∧ r.2.mem ((c.tc : Thread Cert.Out2RefIdeal.nD Cert.Out2RefIdeal.τ).loc Cert.Out2RefIdeal.main_arg5) = m ((c.tc : Thread Cert.Out2RefIdeal.nD Cert.Out2RefIdeal.τ).loc Cert.Out2RefIdeal.main_arg5)
      ∧ r.2.mem ((c.tc : Thread Cert.Out2RefIdeal.nD Cert.Out2RefIdeal.τ).loc Cert.Out2RefIdeal.main_arg6) = m ((c.tc : Thread Cert.Out2RefIdeal.nD Cert.Out2RefIdeal.τ).loc Cert.Out2RefIdeal.main_arg6))
      ∧ r.2.sem = fun _ => 0)

def quiescent_Out3 [hOut3 : Cert.Out3.Facts] : Prop :=
  ∀ (m : (ℓ : Loc Cert.Out3.nD Cert.Out3.τ Cert.Out3.sig) → Buf (Elt Bits) ℓ) (g : Dev Cert.Out3.nD → PrngReg), Pre_Out3 m →
    θ_run (Cert.Out3.defs (F := Bits)) (onTc (τ := Cert.Out3.τ) (Cert.Out3.main (F := Bits))) ⟨m, fun _ => 0, g⟩ (fun r => (∀ c : Dev Cert.Out3.nD,
      r.2.mem ((c.tc : Thread Cert.Out3.nD Cert.Out3.τ).loc Cert.Out3.main_arg0) = m ((c.tc : Thread Cert.Out3.nD Cert.Out3.τ).loc Cert.Out3.main_arg0)
      ∧ r.2.mem ((c.tc : Thread Cert.Out3.nD Cert.Out3.τ).loc Cert.Out3.main_arg1) = m ((c.tc : Thread Cert.Out3.nD Cert.Out3.τ).loc Cert.Out3.main_arg1)
      ∧ r.2.mem ((c.tc : Thread Cert.Out3.nD Cert.Out3.τ).loc Cert.Out3.main_arg2) = m ((c.tc : Thread Cert.Out3.nD Cert.Out3.τ).loc Cert.Out3.main_arg2)
      ∧ r.2.mem ((c.tc : Thread Cert.Out3.nD Cert.Out3.τ).loc Cert.Out3.main_arg3) = m ((c.tc : Thread Cert.Out3.nD Cert.Out3.τ).loc Cert.Out3.main_arg3)
      ∧ r.2.mem ((c.tc : Thread Cert.Out3.nD Cert.Out3.τ).loc Cert.Out3.main_arg4) = m ((c.tc : Thread Cert.Out3.nD Cert.Out3.τ).loc Cert.Out3.main_arg4)
      ∧ r.2.mem ((c.tc : Thread Cert.Out3.nD Cert.Out3.τ).loc Cert.Out3.main_arg5) = m ((c.tc : Thread Cert.Out3.nD Cert.Out3.τ).loc Cert.Out3.main_arg5)
      ∧ r.2.mem ((c.tc : Thread Cert.Out3.nD Cert.Out3.τ).loc Cert.Out3.main_arg6) = m ((c.tc : Thread Cert.Out3.nD Cert.Out3.τ).loc Cert.Out3.main_arg6))
      ∧ r.2.sem = fun _ => 0)

def quiescent_Out3Ideal [hOut3Ideal : Cert.Out3Ideal.Facts] : Prop :=
  ∀ (m : (ℓ : Loc Cert.Out3Ideal.nD Cert.Out3Ideal.τ Cert.Out3Ideal.sig) → Buf (Elt Ideal) ℓ) (g : Dev Cert.Out3Ideal.nD → PrngReg), Pre_Out3Ideal m →
    θ_run (Cert.Out3Ideal.defs (F := Ideal)) (onTc (τ := Cert.Out3Ideal.τ) (Cert.Out3Ideal.main (F := Ideal))) ⟨m, fun _ => 0, g⟩ (fun r => (∀ c : Dev Cert.Out3Ideal.nD,
      r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
      ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1)
      ∧ r.2.mem ((c.tc : Thread Cert.Out3Ideal.nD Cert.Out3Ideal.τ).loc Cert.Out3Ideal.main_arg2) = m ((c.tc : Thread Cert.Out3Ideal.nD Cert.Out3Ideal.τ).loc Cert.Out3Ideal.main_arg2)
      ∧ r.2.mem ((c.tc : Thread Cert.Out3Ideal.nD Cert.Out3Ideal.τ).loc Cert.Out3Ideal.main_arg3) = m ((c.tc : Thread Cert.Out3Ideal.nD Cert.Out3Ideal.τ).loc Cert.Out3Ideal.main_arg3)
      ∧ r.2.mem ((c.tc : Thread Cert.Out3Ideal.nD Cert.Out3Ideal.τ).loc Cert.Out3Ideal.main_arg4) = m ((c.tc : Thread Cert.Out3Ideal.nD Cert.Out3Ideal.τ).loc Cert.Out3Ideal.main_arg4)
      ∧ r.2.mem ((c.tc : Thread Cert.Out3Ideal.nD Cert.Out3Ideal.τ).loc Cert.Out3Ideal.main_arg5) = m ((c.tc : Thread Cert.Out3Ideal.nD Cert.Out3Ideal.τ).loc Cert.Out3Ideal.main_arg5)
      ∧ r.2.mem ((c.tc : Thread Cert.Out3Ideal.nD Cert.Out3Ideal.τ).loc Cert.Out3Ideal.main_arg6) = m ((c.tc : Thread Cert.Out3Ideal.nD Cert.Out3Ideal.τ).loc Cert.Out3Ideal.main_arg6))
      ∧ r.2.sem = fun _ => 0)

def quiescent_Out3RefIdeal [hOut3RefIdeal : Cert.Out3RefIdeal.Facts] : Prop :=
  ∀ (m : (ℓ : Loc Cert.Out3RefIdeal.nD Cert.Out3RefIdeal.τ Cert.Out3RefIdeal.sig) → Buf (Elt Ideal) ℓ) (g : Dev Cert.Out3RefIdeal.nD → PrngReg), Pre_Out3RefIdeal m →
    θ_run (Cert.Out3RefIdeal.defs (F := Ideal)) (onTc (τ := Cert.Out3RefIdeal.τ) (Cert.Out3RefIdeal.main (F := Ideal))) ⟨m, fun _ => 0, g⟩ (fun r => (∀ c : Dev Cert.Out3RefIdeal.nD,
      r.2.mem ((c.tc : Thread Cert.Out3RefIdeal.nD Cert.Out3RefIdeal.τ).loc Cert.Out3RefIdeal.main_arg0) = m ((c.tc : Thread Cert.Out3RefIdeal.nD Cert.Out3RefIdeal.τ).loc Cert.Out3RefIdeal.main_arg0)
      ∧ r.2.mem ((c.tc : Thread Cert.Out3RefIdeal.nD Cert.Out3RefIdeal.τ).loc Cert.Out3RefIdeal.main_arg1) = m ((c.tc : Thread Cert.Out3RefIdeal.nD Cert.Out3RefIdeal.τ).loc Cert.Out3RefIdeal.main_arg1)
      ∧ r.2.mem ((c.tc : Thread Cert.Out3RefIdeal.nD Cert.Out3RefIdeal.τ).loc Cert.Out3RefIdeal.main_arg2) = m ((c.tc : Thread Cert.Out3RefIdeal.nD Cert.Out3RefIdeal.τ).loc Cert.Out3RefIdeal.main_arg2)
      ∧ r.2.mem ((c.tc : Thread Cert.Out3RefIdeal.nD Cert.Out3RefIdeal.τ).loc Cert.Out3RefIdeal.main_arg3) = m ((c.tc : Thread Cert.Out3RefIdeal.nD Cert.Out3RefIdeal.τ).loc Cert.Out3RefIdeal.main_arg3)
      ∧ r.2.mem ((c.tc : Thread Cert.Out3RefIdeal.nD Cert.Out3RefIdeal.τ).loc Cert.Out3RefIdeal.main_arg4) = m ((c.tc : Thread Cert.Out3RefIdeal.nD Cert.Out3RefIdeal.τ).loc Cert.Out3RefIdeal.main_arg4)
      ∧ r.2.mem ((c.tc : Thread Cert.Out3RefIdeal.nD Cert.Out3RefIdeal.τ).loc Cert.Out3RefIdeal.main_arg5) = m ((c.tc : Thread Cert.Out3RefIdeal.nD Cert.Out3RefIdeal.τ).loc Cert.Out3RefIdeal.main_arg5)
      ∧ r.2.mem ((c.tc : Thread Cert.Out3RefIdeal.nD Cert.Out3RefIdeal.τ).loc Cert.Out3RefIdeal.main_arg6) = m ((c.tc : Thread Cert.Out3RefIdeal.nD Cert.Out3RefIdeal.τ).loc Cert.Out3RefIdeal.main_arg6))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4)
      ∧ r.2.mem ((c.tc : Thread Cert.Ffn0RefIdeal.nD Cert.Ffn0RefIdeal.τ).loc Cert.Ffn0RefIdeal.main_arg5) = m ((c.tc : Thread Cert.Ffn0RefIdeal.nD Cert.Ffn0RefIdeal.τ).loc Cert.Ffn0RefIdeal.main_arg5))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1)
      ∧ r.2.mem ((c.tc : Thread Cert.Ffn3.nD Cert.Ffn3.τ).loc Cert.Ffn3.main_arg2) = m ((c.tc : Thread Cert.Ffn3.nD Cert.Ffn3.τ).loc Cert.Ffn3.main_arg2)
      ∧ r.2.mem ((c.tc : Thread Cert.Ffn3.nD Cert.Ffn3.τ).loc Cert.Ffn3.main_arg3) = m ((c.tc : Thread Cert.Ffn3.nD Cert.Ffn3.τ).loc Cert.Ffn3.main_arg3)
      ∧ r.2.mem ((c.tc : Thread Cert.Ffn3.nD Cert.Ffn3.τ).loc Cert.Ffn3.main_arg4) = m ((c.tc : Thread Cert.Ffn3.nD Cert.Ffn3.τ).loc Cert.Ffn3.main_arg4)
      ∧ r.2.mem ((c.tc : Thread Cert.Ffn3.nD Cert.Ffn3.τ).loc Cert.Ffn3.main_arg5) = m ((c.tc : Thread Cert.Ffn3.nD Cert.Ffn3.τ).loc Cert.Ffn3.main_arg5))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
      ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
      ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
      ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
      ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5))
      ∧ r.2.sem = fun _ => 0)

def quiescent_Ffn3RefIdeal [hFfn3RefIdeal : Cert.Ffn3RefIdeal.Facts] : Prop :=
  ∀ (m : (ℓ : Loc Cert.Ffn3RefIdeal.nD Cert.Ffn3RefIdeal.τ Cert.Ffn3RefIdeal.sig) → Buf (Elt Ideal) ℓ) (g : Dev Cert.Ffn3RefIdeal.nD → PrngReg), Pre_Ffn3RefIdeal m →
    θ_run (Cert.Ffn3RefIdeal.defs (F := Ideal)) (onTc (τ := Cert.Ffn3RefIdeal.τ) (Cert.Ffn3RefIdeal.main (F := Ideal))) ⟨m, fun _ => 0, g⟩ (fun r => (∀ c : Dev Cert.Ffn3RefIdeal.nD,
      r.2.mem ((c.tc : Thread Cert.Ffn3RefIdeal.nD Cert.Ffn3RefIdeal.τ).loc Cert.Ffn3RefIdeal.main_arg0) = m ((c.tc : Thread Cert.Ffn3RefIdeal.nD Cert.Ffn3RefIdeal.τ).loc Cert.Ffn3RefIdeal.main_arg0)
      ∧ r.2.mem ((c.tc : Thread Cert.Ffn3RefIdeal.nD Cert.Ffn3RefIdeal.τ).loc Cert.Ffn3RefIdeal.main_arg1) = m ((c.tc : Thread Cert.Ffn3RefIdeal.nD Cert.Ffn3RefIdeal.τ).loc Cert.Ffn3RefIdeal.main_arg1)
      ∧ r.2.mem ((c.tc : Thread Cert.Ffn3RefIdeal.nD Cert.Ffn3RefIdeal.τ).loc Cert.Ffn3RefIdeal.main_arg2) = m ((c.tc : Thread Cert.Ffn3RefIdeal.nD Cert.Ffn3RefIdeal.τ).loc Cert.Ffn3RefIdeal.main_arg2)
      ∧ r.2.mem ((c.tc : Thread Cert.Ffn3RefIdeal.nD Cert.Ffn3RefIdeal.τ).loc Cert.Ffn3RefIdeal.main_arg3) = m ((c.tc : Thread Cert.Ffn3RefIdeal.nD Cert.Ffn3RefIdeal.τ).loc Cert.Ffn3RefIdeal.main_arg3)
      ∧ r.2.mem ((c.tc : Thread Cert.Ffn3RefIdeal.nD Cert.Ffn3RefIdeal.τ).loc Cert.Ffn3RefIdeal.main_arg4) = m ((c.tc : Thread Cert.Ffn3RefIdeal.nD Cert.Ffn3RefIdeal.τ).loc Cert.Ffn3RefIdeal.main_arg4)
      ∧ r.2.mem ((c.tc : Thread Cert.Ffn3RefIdeal.nD Cert.Ffn3RefIdeal.τ).loc Cert.Ffn3RefIdeal.main_arg5) = m ((c.tc : Thread Cert.Ffn3RefIdeal.nD Cert.Ffn3RefIdeal.τ).loc Cert.Ffn3RefIdeal.main_arg5))
      ∧ r.2.sem = fun _ => 0)

def quiescent_MemAttend [hMemAttend : Cert.MemAttend.Facts] : Prop :=
  ∀ (m : (ℓ : Loc Cert.MemAttend.nD Cert.MemAttend.τ Cert.MemAttend.sig) → Buf (Elt Bits) ℓ) (g : Dev Cert.MemAttend.nD → PrngReg), Pre_MemAttend m →
    θ_run (Cert.MemAttend.defs (F := Bits)) (onTc (τ := Cert.MemAttend.τ) (Cert.MemAttend.main (F := Bits))) ⟨m, fun _ => 0, g⟩ (fun r => (∀ c : Dev Cert.MemAttend.nD,
      r.2.mem ((c.tc : Thread Cert.MemAttend.nD Cert.MemAttend.τ).loc Cert.MemAttend.main_arg0) = m ((c.tc : Thread Cert.MemAttend.nD Cert.MemAttend.τ).loc Cert.MemAttend.main_arg0)
      ∧ r.2.mem ((c.tc : Thread Cert.MemAttend.nD Cert.MemAttend.τ).loc Cert.MemAttend.main_arg1) = m ((c.tc : Thread Cert.MemAttend.nD Cert.MemAttend.τ).loc Cert.MemAttend.main_arg1))
      ∧ r.2.sem = fun _ => 0)

def quiescent_MemAttendIdeal [hMemAttendIdeal : Cert.MemAttendIdeal.Facts] : Prop :=
  ∀ (m : (ℓ : Loc Cert.MemAttendIdeal.nD Cert.MemAttendIdeal.τ Cert.MemAttendIdeal.sig) → Buf (Elt Ideal) ℓ) (g : Dev Cert.MemAttendIdeal.nD → PrngReg), Pre_MemAttendIdeal m →
    θ_run (Cert.MemAttendIdeal.defs (F := Ideal)) (onTc (τ := Cert.MemAttendIdeal.τ) (Cert.MemAttendIdeal.main (F := Ideal))) ⟨m, fun _ => 0, g⟩ (fun r => (∀ c : Dev Cert.MemAttendIdeal.nD,
      r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
      ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1))
      ∧ r.2.sem = fun _ => 0)

def quiescent_MemAttendIdeal_pre_finite_ma [hMemAttendIdeal : Cert.MemAttendIdeal.Facts] [hPre_finite_ma : Cert.Pre_finite_ma.Facts] : Prop :=
  ∀ (m : (ℓ : Loc Cert.MemAttendIdeal.nD Cert.MemAttendIdeal.τ Cert.MemAttendIdeal.sig) → Buf (Elt Ideal) ℓ) (g : Dev Cert.MemAttendIdeal.nD → PrngReg), Pre_MemAttendIdeal_finite_ma m →
    θ_run (Cert.MemAttendIdeal.defs (F := Ideal)) (onTc (τ := Cert.MemAttendIdeal.τ) (Cert.MemAttendIdeal.main (F := Ideal))) ⟨m, fun _ => 0, g⟩ (fun r => (∀ c : Dev Cert.MemAttendIdeal.nD,
      r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
      ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1))
      ∧ r.2.sem = fun _ => 0)

def quiescent_MemAttendRefIdeal [hMemAttendRefIdeal : Cert.MemAttendRefIdeal.Facts] : Prop :=
  ∀ (m : (ℓ : Loc Cert.MemAttendRefIdeal.nD Cert.MemAttendRefIdeal.τ Cert.MemAttendRefIdeal.sig) → Buf (Elt Ideal) ℓ) (g : Dev Cert.MemAttendRefIdeal.nD → PrngReg), Pre_MemAttendRefIdeal m →
    θ_run (Cert.MemAttendRefIdeal.defs (F := Ideal)) (onTc (τ := Cert.MemAttendRefIdeal.τ) (Cert.MemAttendRefIdeal.main (F := Ideal))) ⟨m, fun _ => 0, g⟩ (fun r => (∀ c : Dev Cert.MemAttendRefIdeal.nD,
      r.2.mem ((c.tc : Thread Cert.MemAttendRefIdeal.nD Cert.MemAttendRefIdeal.τ).loc Cert.MemAttendRefIdeal.main_arg0) = m ((c.tc : Thread Cert.MemAttendRefIdeal.nD Cert.MemAttendRefIdeal.τ).loc Cert.MemAttendRefIdeal.main_arg0)
      ∧ r.2.mem ((c.tc : Thread Cert.MemAttendRefIdeal.nD Cert.MemAttendRefIdeal.τ).loc Cert.MemAttendRefIdeal.main_arg1) = m ((c.tc : Thread Cert.MemAttendRefIdeal.nD Cert.MemAttendRefIdeal.τ).loc Cert.MemAttendRefIdeal.main_arg1))
      ∧ r.2.sem = fun _ => 0)

def quiescent_MemAttendRefIdeal_pre_finite_ma [hMemAttendRefIdeal : Cert.MemAttendRefIdeal.Facts] [hPre_finite_ma : Cert.Pre_finite_ma.Facts] : Prop :=
  ∀ (m : (ℓ : Loc Cert.MemAttendRefIdeal.nD Cert.MemAttendRefIdeal.τ Cert.MemAttendRefIdeal.sig) → Buf (Elt Ideal) ℓ) (g : Dev Cert.MemAttendRefIdeal.nD → PrngReg), Pre_MemAttendRefIdeal_finite_ma m →
    θ_run (Cert.MemAttendRefIdeal.defs (F := Ideal)) (onTc (τ := Cert.MemAttendRefIdeal.τ) (Cert.MemAttendRefIdeal.main (F := Ideal))) ⟨m, fun _ => 0, g⟩ (fun r => (∀ c : Dev Cert.MemAttendRefIdeal.nD,
      r.2.mem ((c.tc : Thread Cert.MemAttendRefIdeal.nD Cert.MemAttendRefIdeal.τ).loc Cert.MemAttendRefIdeal.main_arg0) = m ((c.tc : Thread Cert.MemAttendRefIdeal.nD Cert.MemAttendRefIdeal.τ).loc Cert.MemAttendRefIdeal.main_arg0)
      ∧ r.2.mem ((c.tc : Thread Cert.MemAttendRefIdeal.nD Cert.MemAttendRefIdeal.τ).loc Cert.MemAttendRefIdeal.main_arg1) = m ((c.tc : Thread Cert.MemAttendRefIdeal.nD Cert.MemAttendRefIdeal.τ).loc Cert.MemAttendRefIdeal.main_arg1))
      ∧ r.2.sem = fun _ => 0)

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)
      ∧ m' ((c.tc : Thread Cert.In0RefIdeal.nD Cert.In0RefIdeal.τ).loc Cert.In0RefIdeal.main_arg3) = m ((c.tc : Thread Cert.In0Ideal.nD Cert.In0Ideal.τ).loc Cert.In0Ideal.main_arg3)) →
    ∃ (v0 : (c : Dev Cert.In0Ideal.nD) → Buf (Elt Ideal) ((c.tc : Thread Cert.In0Ideal.nD Cert.In0Ideal.τ).loc Cert.In0Ideal.main_v5_0)) (v1 : (c : Dev Cert.In0Ideal.nD) → Buf (Elt Ideal) ((c.tc : Thread Cert.In0Ideal.nD Cert.In0Ideal.τ).loc Cert.In0Ideal.main_v5_1)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v5_0) = v0 c
          ∧ r.2.mem ((c.tc : Thread Cert.In0Ideal.nD Cert.In0Ideal.τ).loc Cert.In0Ideal.main_v5_1) = v1 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
          ∧ r.2.mem ((c.tc : Thread Cert.In0Ideal.nD Cert.In0Ideal.τ).loc Cert.In0Ideal.main_arg3) = m ((c.tc : Thread Cert.In0Ideal.nD Cert.In0Ideal.τ).loc Cert.In0Ideal.main_arg3))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v36) = v0 c
          ∧ r.2.mem ((c.tc : Thread Cert.In0RefIdeal.nD Cert.In0RefIdeal.τ).loc Cert.In0RefIdeal.main_v37) = v1 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2)
          ∧ r.2.mem ((c.tc : Thread Cert.In0RefIdeal.nD Cert.In0RefIdeal.τ).loc Cert.In0RefIdeal.main_arg3) = m' ((c.tc : Thread Cert.In0RefIdeal.nD Cert.In0RefIdeal.τ).loc Cert.In0RefIdeal.main_arg3))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)) →
    ∃ (v0 : (c : Dev Cert.In1Ideal.nD) → Buf (Elt Ideal) ((c.tc : Thread Cert.In1Ideal.nD Cert.In1Ideal.τ).loc Cert.In1Ideal.main_v5_0)) (v1 : (c : Dev Cert.In1Ideal.nD) → Buf (Elt Ideal) ((c.tc : Thread Cert.In1Ideal.nD Cert.In1Ideal.τ).loc Cert.In1Ideal.main_v5_1)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v5_0) = v0 c
          ∧ r.2.mem ((c.tc : Thread Cert.In1Ideal.nD Cert.In1Ideal.τ).loc Cert.In1Ideal.main_v5_1) = v1 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v36) = v0 c
          ∧ r.2.mem ((c.tc : Thread Cert.In1RefIdeal.nD Cert.In1RefIdeal.τ).loc Cert.In1RefIdeal.main_v37) = v1 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)) →
    ∃ (v0 : (c : Dev Cert.MkvIdeal.nD) → Buf (Elt Ideal) ((c.tc : Thread Cert.MkvIdeal.nD Cert.MkvIdeal.τ).loc Cert.MkvIdeal.main_v2)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v2) = v0 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v77) = v0 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)
      ∧ m' ((c.tc : Thread Cert.Out0RefIdeal.nD Cert.Out0RefIdeal.τ).loc Cert.Out0RefIdeal.main_arg4) = m ((c.tc : Thread Cert.Out0Ideal.nD Cert.Out0Ideal.τ).loc Cert.Out0Ideal.main_arg4)
      ∧ m' ((c.tc : Thread Cert.Out0RefIdeal.nD Cert.Out0RefIdeal.τ).loc Cert.Out0RefIdeal.main_arg5) = m ((c.tc : Thread Cert.Out0Ideal.nD Cert.Out0Ideal.τ).loc Cert.Out0Ideal.main_arg5)
      ∧ m' ((c.tc : Thread Cert.Out0RefIdeal.nD Cert.Out0RefIdeal.τ).loc Cert.Out0RefIdeal.main_arg6) = m ((c.tc : Thread Cert.Out0Ideal.nD Cert.Out0Ideal.τ).loc Cert.Out0Ideal.main_arg6)) →
    ∃ (v0 : (c : Dev Cert.Out0Ideal.nD) → Buf (Elt Ideal) ((c.tc : Thread Cert.Out0Ideal.nD Cert.Out0Ideal.τ).loc Cert.Out0Ideal.main_v6_0)) (v1 : (c : Dev Cert.Out0Ideal.nD) → Buf (Elt Ideal) ((c.tc : Thread Cert.Out0Ideal.nD Cert.Out0Ideal.τ).loc Cert.Out0Ideal.main_v6_1)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v6_0) = v0 c
          ∧ r.2.mem ((c.tc : Thread Cert.Out0Ideal.nD Cert.Out0Ideal.τ).loc Cert.Out0Ideal.main_v6_1) = v1 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
          ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5)
          ∧ r.2.mem ((c.tc : Thread Cert.Out0Ideal.nD Cert.Out0Ideal.τ).loc Cert.Out0Ideal.main_arg6) = m ((c.tc : Thread Cert.Out0Ideal.nD Cert.Out0Ideal.τ).loc Cert.Out0Ideal.main_arg6))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v5) = v0 c
          ∧ r.2.mem ((c.tc : Thread Cert.Out0RefIdeal.nD Cert.Out0RefIdeal.τ).loc Cert.Out0RefIdeal.main_v11) = v1 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3)
          ∧ r.2.mem ((c.tc : Thread Cert.Out0RefIdeal.nD Cert.Out0RefIdeal.τ).loc Cert.Out0RefIdeal.main_arg4) = m' ((c.tc : Thread Cert.Out0RefIdeal.nD Cert.Out0RefIdeal.τ).loc Cert.Out0RefIdeal.main_arg4)
          ∧ r.2.mem ((c.tc : Thread Cert.Out0RefIdeal.nD Cert.Out0RefIdeal.τ).loc Cert.Out0RefIdeal.main_arg5) = m' ((c.tc : Thread Cert.Out0RefIdeal.nD Cert.Out0RefIdeal.τ).loc Cert.Out0RefIdeal.main_arg5)
          ∧ r.2.mem ((c.tc : Thread Cert.Out0RefIdeal.nD Cert.Out0RefIdeal.τ).loc Cert.Out0RefIdeal.main_arg6) = m' ((c.tc : Thread Cert.Out0RefIdeal.nD Cert.Out0RefIdeal.τ).loc Cert.Out0RefIdeal.main_arg6))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)
      ∧ m' ((c.tc : Thread Cert.Out1RefIdeal.nD Cert.Out1RefIdeal.τ).loc Cert.Out1RefIdeal.main_arg5) = m ((c.tc : Thread Cert.Out1Ideal.nD Cert.Out1Ideal.τ).loc Cert.Out1Ideal.main_arg5)
      ∧ m' ((c.tc : Thread Cert.Out1RefIdeal.nD Cert.Out1RefIdeal.τ).loc Cert.Out1RefIdeal.main_arg6) = m ((c.tc : Thread Cert.Out1Ideal.nD Cert.Out1Ideal.τ).loc Cert.Out1Ideal.main_arg6)) →
    ∃ (v0 : (c : Dev Cert.Out1Ideal.nD) → Buf (Elt Ideal) ((c.tc : Thread Cert.Out1Ideal.nD Cert.Out1Ideal.τ).loc Cert.Out1Ideal.main_v6_0)) (v1 : (c : Dev Cert.Out1Ideal.nD) → Buf (Elt Ideal) ((c.tc : Thread Cert.Out1Ideal.nD Cert.Out1Ideal.τ).loc Cert.Out1Ideal.main_v6_1)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v6_0) = v0 c
          ∧ r.2.mem ((c.tc : Thread Cert.Out1Ideal.nD Cert.Out1Ideal.τ).loc Cert.Out1Ideal.main_v6_1) = v1 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
          ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v5) = v0 c
          ∧ r.2.mem ((c.tc : Thread Cert.Out1RefIdeal.nD Cert.Out1RefIdeal.τ).loc Cert.Out1RefIdeal.main_v11) = v1 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4)
          ∧ r.2.mem ((c.tc : Thread Cert.Out1RefIdeal.nD Cert.Out1RefIdeal.τ).loc Cert.Out1RefIdeal.main_arg5) = m' ((c.tc : Thread Cert.Out1RefIdeal.nD Cert.Out1RefIdeal.τ).loc Cert.Out1RefIdeal.main_arg5)
          ∧ r.2.mem ((c.tc : Thread Cert.Out1RefIdeal.nD Cert.Out1RefIdeal.τ).loc Cert.Out1RefIdeal.main_arg6) = m' ((c.tc : Thread Cert.Out1RefIdeal.nD Cert.Out1RefIdeal.τ).loc Cert.Out1RefIdeal.main_arg6))

def preserves_Out2_Out2Ideal : Prop :=
  True

def algebraic_Out2Ideal_Out2RefIdeal [hOut2Ideal : Cert.Out2Ideal.Facts] [hOut2RefIdeal : Cert.Out2RefIdeal.Facts] : Prop :=
  ∀ (m : (ℓ : Loc Cert.Out2Ideal.nD Cert.Out2Ideal.τ Cert.Out2Ideal.sig) → Buf (Elt Ideal) ℓ) (g : Dev Cert.Out2Ideal.nD → PrngReg)
    (m' : (ℓ : Loc Cert.Out2RefIdeal.nD Cert.Out2RefIdeal.τ Cert.Out2RefIdeal.sig) → Buf (Elt Ideal) ℓ) (g' : Dev Cert.Out2RefIdeal.nD → PrngReg), Pre_Out2Ideal m →
    (∀ c : Dev Cert.Out2Ideal.nD,
      m' ((c.tc : Thread Cert.Out2RefIdeal.nD Cert.Out2RefIdeal.τ).loc Cert.Out2RefIdeal.main_arg0) = m ((c.tc : Thread Cert.Out2Ideal.nD Cert.Out2Ideal.τ).loc Cert.Out2Ideal.main_arg0)
      ∧ m' ((c.tc : Thread Cert.Out2RefIdeal.nD Cert.Out2RefIdeal.τ).loc Cert.Out2RefIdeal.main_arg1) = m ((c.tc : Thread Cert.Out2Ideal.nD Cert.Out2Ideal.τ).loc Cert.Out2Ideal.main_arg1)
      ∧ m' ((c.tc : Thread Cert.Out2RefIdeal.nD Cert.Out2RefIdeal.τ).loc Cert.Out2RefIdeal.main_arg2) = m ((c.tc : Thread Cert.Out2Ideal.nD Cert.Out2Ideal.τ).loc Cert.Out2Ideal.main_arg2)
      ∧ m' ((c.tc : Thread Cert.Out2RefIdeal.nD Cert.Out2RefIdeal.τ).loc Cert.Out2RefIdeal.main_arg3) = m ((c.tc : Thread Cert.Out2Ideal.nD Cert.Out2Ideal.τ).loc Cert.Out2Ideal.main_arg3)
      ∧ m' ((c.tc : Thread Cert.Out2RefIdeal.nD Cert.Out2RefIdeal.τ).loc Cert.Out2RefIdeal.main_arg4) = m ((c.tc : Thread Cert.Out2Ideal.nD Cert.Out2Ideal.τ).loc Cert.Out2Ideal.main_arg4)
      ∧ m' ((c.tc : Thread Cert.Out2RefIdeal.nD Cert.Out2RefIdeal.τ).loc Cert.Out2RefIdeal.main_arg5) = m ((c.tc : Thread Cert.Out2Ideal.nD Cert.Out2Ideal.τ).loc Cert.Out2Ideal.main_arg5)
      ∧ m' ((c.tc : Thread Cert.Out2RefIdeal.nD Cert.Out2RefIdeal.τ).loc Cert.Out2RefIdeal.main_arg6) = m ((c.tc : Thread Cert.Out2Ideal.nD Cert.Out2Ideal.τ).loc Cert.Out2Ideal.main_arg6)) →
    ∃ (v0 : (c : Dev Cert.Out2Ideal.nD) → Buf (Elt Ideal) ((c.tc : Thread Cert.Out2Ideal.nD Cert.Out2Ideal.τ).loc Cert.Out2Ideal.main_v6_0)) (v1 : (c : Dev Cert.Out2Ideal.nD) → Buf (Elt Ideal) ((c.tc : Thread Cert.Out2Ideal.nD Cert.Out2Ideal.τ).loc Cert.Out2Ideal.main_v6_1)),
      θ_run (Cert.Out2Ideal.defs (F := Ideal)) (onTc (τ := Cert.Out2Ideal.τ) (Cert.Out2Ideal.main (F := Ideal))) ⟨m, fun _ => 0, g⟩ (fun r => ∀ c : Dev Cert.Out2Ideal.nD,
          r.2.mem ((c.tc : Thread Cert.Out2Ideal.nD Cert.Out2Ideal.τ).loc Cert.Out2Ideal.main_v6_0) = v0 c
          ∧ r.2.mem ((c.tc : Thread Cert.Out2Ideal.nD Cert.Out2Ideal.τ).loc Cert.Out2Ideal.main_v6_1) = v1 c
          ∧ r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
          ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
          ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2)
          ∧ r.2.mem ((c.tc : Thread Cert.Out2Ideal.nD Cert.Out2Ideal.τ).loc Cert.Out2Ideal.main_arg3) = m ((c.tc : Thread Cert.Out2Ideal.nD Cert.Out2Ideal.τ).loc Cert.Out2Ideal.main_arg3)
          ∧ r.2.mem ((c.tc : Thread Cert.Out2Ideal.nD Cert.Out2Ideal.τ).loc Cert.Out2Ideal.main_arg4) = m ((c.tc : Thread Cert.Out2Ideal.nD Cert.Out2Ideal.τ).loc Cert.Out2Ideal.main_arg4)
          ∧ r.2.mem ((c.tc : Thread Cert.Out2Ideal.nD Cert.Out2Ideal.τ).loc Cert.Out2Ideal.main_arg5) = m ((c.tc : Thread Cert.Out2Ideal.nD Cert.Out2Ideal.τ).loc Cert.Out2Ideal.main_arg5)
          ∧ r.2.mem ((c.tc : Thread Cert.Out2Ideal.nD Cert.Out2Ideal.τ).loc Cert.Out2Ideal.main_arg6) = m ((c.tc : Thread Cert.Out2Ideal.nD Cert.Out2Ideal.τ).loc Cert.Out2Ideal.main_arg6))
      ∧ θ_run (Cert.Out2RefIdeal.defs (F := Ideal)) (onTc (τ := Cert.Out2RefIdeal.τ) (Cert.Out2RefIdeal.main (F := Ideal))) ⟨m', fun _ => 0, g'⟩ (fun r => ∀ c : Dev Cert.Out2RefIdeal.nD,
          r.2.mem ((c.tc : Thread Cert.Out2RefIdeal.nD Cert.Out2RefIdeal.τ).loc Cert.Out2RefIdeal.main_v5) = v0 c
          ∧ r.2.mem ((c.tc : Thread Cert.Out2RefIdeal.nD Cert.Out2RefIdeal.τ).loc Cert.Out2RefIdeal.main_v11) = v1 c
          ∧ r.2.mem ((c.tc : Thread Cert.Out2RefIdeal.nD Cert.Out2RefIdeal.τ).loc Cert.Out2RefIdeal.main_arg0) = m' ((c.tc : Thread Cert.Out2RefIdeal.nD Cert.Out2RefIdeal.τ).loc Cert.Out2RefIdeal.main_arg0)
          ∧ r.2.mem ((c.tc : Thread Cert.Out2RefIdeal.nD Cert.Out2RefIdeal.τ).loc Cert.Out2RefIdeal.main_arg1) = m' ((c.tc : Thread Cert.Out2RefIdeal.nD Cert.Out2RefIdeal.τ).loc Cert.Out2RefIdeal.main_arg1)
          ∧ r.2.mem ((c.tc : Thread Cert.Out2RefIdeal.nD Cert.Out2RefIdeal.τ).loc Cert.Out2RefIdeal.main_arg2) = m' ((c.tc : Thread Cert.Out2RefIdeal.nD Cert.Out2RefIdeal.τ).loc Cert.Out2RefIdeal.main_arg2)
          ∧ r.2.mem ((c.tc : Thread Cert.Out2RefIdeal.nD Cert.Out2RefIdeal.τ).loc Cert.Out2RefIdeal.main_arg3) = m' ((c.tc : Thread Cert.Out2RefIdeal.nD Cert.Out2RefIdeal.τ).loc Cert.Out2RefIdeal.main_arg3)
          ∧ r.2.mem ((c.tc : Thread Cert.Out2RefIdeal.nD Cert.Out2RefIdeal.τ).loc Cert.Out2RefIdeal.main_arg4) = m' ((c.tc : Thread Cert.Out2RefIdeal.nD Cert.Out2RefIdeal.τ).loc Cert.Out2RefIdeal.main_arg4)
          ∧ r.2.mem ((c.tc : Thread Cert.Out2RefIdeal.nD Cert.Out2RefIdeal.τ).loc Cert.Out2RefIdeal.main_arg5) = m' ((c.tc : Thread Cert.Out2RefIdeal.nD Cert.Out2RefIdeal.τ).loc Cert.Out2RefIdeal.main_arg5)
          ∧ r.2.mem ((c.tc : Thread Cert.Out2RefIdeal.nD Cert.Out2RefIdeal.τ).loc Cert.Out2RefIdeal.main_arg6) = m' ((c.tc : Thread Cert.Out2RefIdeal.nD Cert.Out2RefIdeal.τ).loc Cert.Out2RefIdeal.main_arg6))

def preserves_Out3_Out3Ideal : Prop :=
  True

def algebraic_Out3Ideal_Out3RefIdeal [hOut3Ideal : Cert.Out3Ideal.Facts] [hOut3RefIdeal : Cert.Out3RefIdeal.Facts] : Prop :=
  ∀ (m : (ℓ : Loc Cert.Out3Ideal.nD Cert.Out3Ideal.τ Cert.Out3Ideal.sig) → Buf (Elt Ideal) ℓ) (g : Dev Cert.Out3Ideal.nD → PrngReg)
    (m' : (ℓ : Loc Cert.Out3RefIdeal.nD Cert.Out3RefIdeal.τ Cert.Out3RefIdeal.sig) → Buf (Elt Ideal) ℓ) (g' : Dev Cert.Out3RefIdeal.nD → PrngReg), Pre_Out3Ideal m →
    (∀ c : Dev Cert.Out3Ideal.nD,
      m' ((c.tc : Thread Cert.Out3RefIdeal.nD Cert.Out3RefIdeal.τ).loc Cert.Out3RefIdeal.main_arg0) = m ((c.tc : Thread Cert.Out3Ideal.nD Cert.Out3Ideal.τ).loc Cert.Out3Ideal.main_arg0)
      ∧ m' ((c.tc : Thread Cert.Out3RefIdeal.nD Cert.Out3RefIdeal.τ).loc Cert.Out3RefIdeal.main_arg1) = m ((c.tc : Thread Cert.Out3Ideal.nD Cert.Out3Ideal.τ).loc Cert.Out3Ideal.main_arg1)
      ∧ m' ((c.tc : Thread Cert.Out3RefIdeal.nD Cert.Out3RefIdeal.τ).loc Cert.Out3RefIdeal.main_arg2) = m ((c.tc : Thread Cert.Out3Ideal.nD Cert.Out3Ideal.τ).loc Cert.Out3Ideal.main_arg2)
      ∧ m' ((c.tc : Thread Cert.Out3RefIdeal.nD Cert.Out3RefIdeal.τ).loc Cert.Out3RefIdeal.main_arg3) = m ((c.tc : Thread Cert.Out3Ideal.nD Cert.Out3Ideal.τ).loc Cert.Out3Ideal.main_arg3)
      ∧ m' ((c.tc : Thread Cert.Out3RefIdeal.nD Cert.Out3RefIdeal.τ).loc Cert.Out3RefIdeal.main_arg4) = m ((c.tc : Thread Cert.Out3Ideal.nD Cert.Out3Ideal.τ).loc Cert.Out3Ideal.main_arg4)
      ∧ m' ((c.tc : Thread Cert.Out3RefIdeal.nD Cert.Out3RefIdeal.τ).loc Cert.Out3RefIdeal.main_arg5) = m ((c.tc : Thread Cert.Out3Ideal.nD Cert.Out3Ideal.τ).loc Cert.Out3Ideal.main_arg5)
      ∧ m' ((c.tc : Thread Cert.Out3RefIdeal.nD Cert.Out3RefIdeal.τ).loc Cert.Out3RefIdeal.main_arg6) = m ((c.tc : Thread Cert.Out3Ideal.nD Cert.Out3Ideal.τ).loc Cert.Out3Ideal.main_arg6)) →
    ∃ (v0 : (c : Dev Cert.Out3Ideal.nD) → Buf (Elt Ideal) ((c.tc : Thread Cert.Out3Ideal.nD Cert.Out3Ideal.τ).loc Cert.Out3Ideal.main_v6_0)) (v1 : (c : Dev Cert.Out3Ideal.nD) → Buf (Elt Ideal) ((c.tc : Thread Cert.Out3Ideal.nD Cert.Out3Ideal.τ).loc Cert.Out3Ideal.main_v6_1)),
      θ_run (Cert.Out3Ideal.defs (F := Ideal)) (onTc (τ := Cert.Out3Ideal.τ) (Cert.Out3Ideal.main (F := Ideal))) ⟨m, fun _ => 0, g⟩ (fun r => ∀ c : Dev Cert.Out3Ideal.nD,
          r.2.mem ((c.tc : Thread Cert.Out3Ideal.nD Cert.Out3Ideal.τ).loc Cert.Out3Ideal.main_v6_0) = v0 c
          ∧ r.2.mem ((c.tc : Thread Cert.Out3Ideal.nD Cert.Out3Ideal.τ).loc Cert.Out3Ideal.main_v6_1) = v1 c
          ∧ r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
          ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1)
          ∧ r.2.mem ((c.tc : Thread Cert.Out3Ideal.nD Cert.Out3Ideal.τ).loc Cert.Out3Ideal.main_arg2) = m ((c.tc : Thread Cert.Out3Ideal.nD Cert.Out3Ideal.τ).loc Cert.Out3Ideal.main_arg2)
          ∧ r.2.mem ((c.tc : Thread Cert.Out3Ideal.nD Cert.Out3Ideal.τ).loc Cert.Out3Ideal.main_arg3) = m ((c.tc : Thread Cert.Out3Ideal.nD Cert.Out3Ideal.τ).loc Cert.Out3Ideal.main_arg3)
          ∧ r.2.mem ((c.tc : Thread Cert.Out3Ideal.nD Cert.Out3Ideal.τ).loc Cert.Out3Ideal.main_arg4) = m ((c.tc : Thread Cert.Out3Ideal.nD Cert.Out3Ideal.τ).loc Cert.Out3Ideal.main_arg4)
          ∧ r.2.mem ((c.tc : Thread Cert.Out3Ideal.nD Cert.Out3Ideal.τ).loc Cert.Out3Ideal.main_arg5) = m ((c.tc : Thread Cert.Out3Ideal.nD Cert.Out3Ideal.τ).loc Cert.Out3Ideal.main_arg5)
          ∧ r.2.mem ((c.tc : Thread Cert.Out3Ideal.nD Cert.Out3Ideal.τ).loc Cert.Out3Ideal.main_arg6) = m ((c.tc : Thread Cert.Out3Ideal.nD Cert.Out3Ideal.τ).loc Cert.Out3Ideal.main_arg6))
      ∧ θ_run (Cert.Out3RefIdeal.defs (F := Ideal)) (onTc (τ := Cert.Out3RefIdeal.τ) (Cert.Out3RefIdeal.main (F := Ideal))) ⟨m', fun _ => 0, g'⟩ (fun r => ∀ c : Dev Cert.Out3RefIdeal.nD,
          r.2.mem ((c.tc : Thread Cert.Out3RefIdeal.nD Cert.Out3RefIdeal.τ).loc Cert.Out3RefIdeal.main_v5) = v0 c
          ∧ r.2.mem ((c.tc : Thread Cert.Out3RefIdeal.nD Cert.Out3RefIdeal.τ).loc Cert.Out3RefIdeal.main_v11) = v1 c
          ∧ r.2.mem ((c.tc : Thread Cert.Out3RefIdeal.nD Cert.Out3RefIdeal.τ).loc Cert.Out3RefIdeal.main_arg0) = m' ((c.tc : Thread Cert.Out3RefIdeal.nD Cert.Out3RefIdeal.τ).loc Cert.Out3RefIdeal.main_arg0)
          ∧ r.2.mem ((c.tc : Thread Cert.Out3RefIdeal.nD Cert.Out3RefIdeal.τ).loc Cert.Out3RefIdeal.main_arg1) = m' ((c.tc : Thread Cert.Out3RefIdeal.nD Cert.Out3RefIdeal.τ).loc Cert.Out3RefIdeal.main_arg1)
          ∧ r.2.mem ((c.tc : Thread Cert.Out3RefIdeal.nD Cert.Out3RefIdeal.τ).loc Cert.Out3RefIdeal.main_arg2) = m' ((c.tc : Thread Cert.Out3RefIdeal.nD Cert.Out3RefIdeal.τ).loc Cert.Out3RefIdeal.main_arg2)
          ∧ r.2.mem ((c.tc : Thread Cert.Out3RefIdeal.nD Cert.Out3RefIdeal.τ).loc Cert.Out3RefIdeal.main_arg3) = m' ((c.tc : Thread Cert.Out3RefIdeal.nD Cert.Out3RefIdeal.τ).loc Cert.Out3RefIdeal.main_arg3)
          ∧ r.2.mem ((c.tc : Thread Cert.Out3RefIdeal.nD Cert.Out3RefIdeal.τ).loc Cert.Out3RefIdeal.main_arg4) = m' ((c.tc : Thread Cert.Out3RefIdeal.nD Cert.Out3RefIdeal.τ).loc Cert.Out3RefIdeal.main_arg4)
          ∧ r.2.mem ((c.tc : Thread Cert.Out3RefIdeal.nD Cert.Out3RefIdeal.τ).loc Cert.Out3RefIdeal.main_arg5) = m' ((c.tc : Thread Cert.Out3RefIdeal.nD Cert.Out3RefIdeal.τ).loc Cert.Out3RefIdeal.main_arg5)
          ∧ r.2.mem ((c.tc : Thread Cert.Out3RefIdeal.nD Cert.Out3RefIdeal.τ).loc Cert.Out3RefIdeal.main_arg6) = m' ((c.tc : Thread Cert.Out3RefIdeal.nD Cert.Out3RefIdeal.τ).loc Cert.Out3RefIdeal.main_arg6))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)
      ∧ m' ((c.tc : Thread Cert.Ffn0RefIdeal.nD Cert.Ffn0RefIdeal.τ).loc Cert.Ffn0RefIdeal.main_arg5) = m ((c.tc : Thread Cert.Ffn0Ideal.nD Cert.Ffn0Ideal.τ).loc Cert.Ffn0Ideal.main_arg5)) →
    ∃ (v0 : (c : Dev Cert.Ffn0Ideal.nD) → Buf (Elt Ideal) ((c.tc : Thread Cert.Ffn0Ideal.nD Cert.Ffn0Ideal.τ).loc Cert.Ffn0Ideal.main_v6_0)) (v1 : (c : Dev Cert.Ffn0Ideal.nD) → Buf (Elt Ideal) ((c.tc : Thread Cert.Ffn0Ideal.nD Cert.Ffn0Ideal.τ).loc Cert.Ffn0Ideal.main_v6_1)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v6_0) = v0 c
          ∧ r.2.mem ((c.tc : Thread Cert.Ffn0Ideal.nD Cert.Ffn0Ideal.τ).loc Cert.Ffn0Ideal.main_v6_1) = v1 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v26) = v0 c
          ∧ r.2.mem ((c.tc : Thread Cert.Ffn0RefIdeal.nD Cert.Ffn0RefIdeal.τ).loc Cert.Ffn0RefIdeal.main_v53) = v1 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4)
          ∧ r.2.mem ((c.tc : Thread Cert.Ffn0RefIdeal.nD Cert.Ffn0RefIdeal.τ).loc Cert.Ffn0RefIdeal.main_arg5) = m' ((c.tc : Thread Cert.Ffn0RefIdeal.nD Cert.Ffn0RefIdeal.τ).loc Cert.Ffn0RefIdeal.main_arg5))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v6_0)) (v1 : (c : Dev Cert.Ffn1Ideal.nD) → Buf (Elt Ideal) ((c.tc : Thread Cert.Ffn1Ideal.nD Cert.Ffn1Ideal.τ).loc Cert.Ffn1Ideal.main_v6_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v6_0) = v0 c
          ∧ r.2.mem ((c.tc : Thread Cert.Ffn1Ideal.nD Cert.Ffn1Ideal.τ).loc Cert.Ffn1Ideal.main_v6_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v26) = v0 c
          ∧ r.2.mem ((c.tc : Thread Cert.Ffn1RefIdeal.nD Cert.Ffn1RefIdeal.τ).loc Cert.Ffn1RefIdeal.main_v53) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v6_0)) (v1 : (c : Dev Cert.Ffn2Ideal.nD) → Buf (Elt Ideal) ((c.tc : Thread Cert.Ffn2Ideal.nD Cert.Ffn2Ideal.τ).loc Cert.Ffn2Ideal.main_v6_1)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v6_0) = v0 c
          ∧ r.2.mem ((c.tc : Thread Cert.Ffn2Ideal.nD Cert.Ffn2Ideal.τ).loc Cert.Ffn2Ideal.main_v6_1) = v1 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v26) = v0 c
          ∧ r.2.mem ((c.tc : Thread Cert.Ffn2RefIdeal.nD Cert.Ffn2RefIdeal.τ).loc Cert.Ffn2RefIdeal.main_v53) = v1 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Ffn3_Ffn3Ideal : Prop :=
  True

def algebraic_Ffn3Ideal_Ffn3RefIdeal [hFfn3Ideal : Cert.Ffn3Ideal.Facts] [hFfn3RefIdeal : Cert.Ffn3RefIdeal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.Ffn3RefIdeal.nD Cert.Ffn3RefIdeal.τ Cert.Ffn3RefIdeal.sig) → Buf (Elt Ideal) ℓ) (g' : Dev Cert.Ffn3RefIdeal.nD → PrngReg), Pre_Ffn3Ideal m →
    (∀ c : Dev Cert.Ffn3Ideal.nD,
      m' ((c.tc : Thread Cert.Ffn3RefIdeal.nD Cert.Ffn3RefIdeal.τ).loc Cert.Ffn3RefIdeal.main_arg0) = m ((c.tc : Thread Cert.Ffn3Ideal.nD Cert.Ffn3Ideal.τ).loc Cert.Ffn3Ideal.main_arg0)
      ∧ m' ((c.tc : Thread Cert.Ffn3RefIdeal.nD Cert.Ffn3RefIdeal.τ).loc Cert.Ffn3RefIdeal.main_arg1) = m ((c.tc : Thread Cert.Ffn3Ideal.nD Cert.Ffn3Ideal.τ).loc Cert.Ffn3Ideal.main_arg1)
      ∧ m' ((c.tc : Thread Cert.Ffn3RefIdeal.nD Cert.Ffn3RefIdeal.τ).loc Cert.Ffn3RefIdeal.main_arg2) = m ((c.tc : Thread Cert.Ffn3Ideal.nD Cert.Ffn3Ideal.τ).loc Cert.Ffn3Ideal.main_arg2)
      ∧ m' ((c.tc : Thread Cert.Ffn3RefIdeal.nD Cert.Ffn3RefIdeal.τ).loc Cert.Ffn3RefIdeal.main_arg3) = m ((c.tc : Thread Cert.Ffn3Ideal.nD Cert.Ffn3Ideal.τ).loc Cert.Ffn3Ideal.main_arg3)
      ∧ m' ((c.tc : Thread Cert.Ffn3RefIdeal.nD Cert.Ffn3RefIdeal.τ).loc Cert.Ffn3RefIdeal.main_arg4) = m ((c.tc : Thread Cert.Ffn3Ideal.nD Cert.Ffn3Ideal.τ).loc Cert.Ffn3Ideal.main_arg4)
      ∧ m' ((c.tc : Thread Cert.Ffn3RefIdeal.nD Cert.Ffn3RefIdeal.τ).loc Cert.Ffn3RefIdeal.main_arg5) = m ((c.tc : Thread Cert.Ffn3Ideal.nD Cert.Ffn3Ideal.τ).loc Cert.Ffn3Ideal.main_arg5)) →
    ∃ (v0 : (c : Dev Cert.Ffn3Ideal.nD) → Buf (Elt Ideal) ((c.tc : Thread Cert.Ffn3Ideal.nD Cert.Ffn3Ideal.τ).loc Cert.Ffn3Ideal.main_v6_0)) (v1 : (c : Dev Cert.Ffn3Ideal.nD) → Buf (Elt Ideal) ((c.tc : Thread Cert.Ffn3Ideal.nD Cert.Ffn3Ideal.τ).loc Cert.Ffn3Ideal.main_v6_1)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v6_0) = v0 c
          ∧ r.2.mem ((c.tc : Thread Cert.Ffn3Ideal.nD Cert.Ffn3Ideal.τ).loc Cert.Ffn3Ideal.main_v6_1) = v1 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
          ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
          ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
          ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
          ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5))
      ∧ θ_run (Cert.Ffn3RefIdeal.defs (F := Ideal)) (onTc (τ := Cert.Ffn3RefIdeal.τ) (Cert.Ffn3RefIdeal.main (F := Ideal))) ⟨m', fun _ => 0, g'⟩ (fun r => ∀ c : Dev Cert.Ffn3RefIdeal.nD,
          r.2.mem ((c.tc : Thread Cert.Ffn3RefIdeal.nD Cert.Ffn3RefIdeal.τ).loc Cert.Ffn3RefIdeal.main_v39) = v0 c
          ∧ r.2.mem ((c.tc : Thread Cert.Ffn3RefIdeal.nD Cert.Ffn3RefIdeal.τ).loc Cert.Ffn3RefIdeal.main_v79) = v1 c
          ∧ r.2.mem ((c.tc : Thread Cert.Ffn3RefIdeal.nD Cert.Ffn3RefIdeal.τ).loc Cert.Ffn3RefIdeal.main_arg0) = m' ((c.tc : Thread Cert.Ffn3RefIdeal.nD Cert.Ffn3RefIdeal.τ).loc Cert.Ffn3RefIdeal.main_arg0)
          ∧ r.2.mem ((c.tc : Thread Cert.Ffn3RefIdeal.nD Cert.Ffn3RefIdeal.τ).loc Cert.Ffn3RefIdeal.main_arg1) = m' ((c.tc : Thread Cert.Ffn3RefIdeal.nD Cert.Ffn3RefIdeal.τ).loc Cert.Ffn3RefIdeal.main_arg1)
          ∧ r.2.mem ((c.tc : Thread Cert.Ffn3RefIdeal.nD Cert.Ffn3RefIdeal.τ).loc Cert.Ffn3RefIdeal.main_arg2) = m' ((c.tc : Thread Cert.Ffn3RefIdeal.nD Cert.Ffn3RefIdeal.τ).loc Cert.Ffn3RefIdeal.main_arg2)
          ∧ r.2.mem ((c.tc : Thread Cert.Ffn3RefIdeal.nD Cert.Ffn3RefIdeal.τ).loc Cert.Ffn3RefIdeal.main_arg3) = m' ((c.tc : Thread Cert.Ffn3RefIdeal.nD Cert.Ffn3RefIdeal.τ).loc Cert.Ffn3RefIdeal.main_arg3)
          ∧ r.2.mem ((c.tc : Thread Cert.Ffn3RefIdeal.nD Cert.Ffn3RefIdeal.τ).loc Cert.Ffn3RefIdeal.main_arg4) = m' ((c.tc : Thread Cert.Ffn3RefIdeal.nD Cert.Ffn3RefIdeal.τ).loc Cert.Ffn3RefIdeal.main_arg4)
          ∧ r.2.mem ((c.tc : Thread Cert.Ffn3RefIdeal.nD Cert.Ffn3RefIdeal.τ).loc Cert.Ffn3RefIdeal.main_arg5) = m' ((c.tc : Thread Cert.Ffn3RefIdeal.nD Cert.Ffn3RefIdeal.τ).loc Cert.Ffn3RefIdeal.main_arg5))

def preserves_MemAttend_MemAttendIdeal : Prop :=
  True

def algebraic_MemAttendIdeal_MemAttendRefIdeal_pre_finite_ma [hMemAttendIdeal : Cert.MemAttendIdeal.Facts] [hMemAttendRefIdeal : Cert.MemAttendRefIdeal.Facts] [hPre_finite_ma : Cert.Pre_finite_ma.Facts] : Prop :=
  ∀ (m : (ℓ : Loc Cert.MemAttendIdeal.nD Cert.MemAttendIdeal.τ Cert.MemAttendIdeal.sig) → Buf (Elt Ideal) ℓ) (g : Dev Cert.MemAttendIdeal.nD → PrngReg)
    (m' : (ℓ : Loc Cert.MemAttendRefIdeal.nD Cert.MemAttendRefIdeal.τ Cert.MemAttendRefIdeal.sig) → Buf (Elt Ideal) ℓ) (g' : Dev Cert.MemAttendRefIdeal.nD → PrngReg), Pre_MemAttendIdeal_finite_ma m →
    (∀ c : Dev Cert.MemAttendIdeal.nD,
      m' ((c.tc : Thread Cert.MemAttendRefIdeal.nD Cert.MemAttendRefIdeal.τ).loc Cert.MemAttendRefIdeal.main_arg0) = m ((c.tc : Thread Cert.MemAttendIdeal.nD Cert.MemAttendIdeal.τ).loc Cert.MemAttendIdeal.main_arg0)
      ∧ m' ((c.tc : Thread Cert.MemAttendRefIdeal.nD Cert.MemAttendRefIdeal.τ).loc Cert.MemAttendRefIdeal.main_arg1) = m ((c.tc : Thread Cert.MemAttendIdeal.nD Cert.MemAttendIdeal.τ).loc Cert.MemAttendIdeal.main_arg1)) →
    ∃ (v0 : (c : Dev Cert.MemAttendIdeal.nD) → Buf (Elt Ideal) ((c.tc : Thread Cert.MemAttendIdeal.nD Cert.MemAttendIdeal.τ).loc Cert.MemAttendIdeal.main_v1)),
      θ_run (Cert.MemAttendIdeal.defs (F := Ideal)) (onTc (τ := Cert.MemAttendIdeal.τ) (Cert.MemAttendIdeal.main (F := Ideal))) ⟨m, fun _ => 0, g⟩ (fun r => ∀ c : Dev Cert.MemAttendIdeal.nD,
          r.2.mem ((c.tc : Thread Cert.MemAttendIdeal.nD Cert.MemAttendIdeal.τ).loc Cert.MemAttendIdeal.main_v1) = v0 c
          ∧ r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
          ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1))
      ∧ θ_run (Cert.MemAttendRefIdeal.defs (F := Ideal)) (onTc (τ := Cert.MemAttendRefIdeal.τ) (Cert.MemAttendRefIdeal.main (F := Ideal))) ⟨m', fun _ => 0, g'⟩ (fun r => ∀ c : Dev Cert.MemAttendRefIdeal.nD,
          r.2.mem ((c.tc : Thread Cert.MemAttendRefIdeal.nD Cert.MemAttendRefIdeal.τ).loc Cert.MemAttendRefIdeal.main_v24) = v0 c
          ∧ r.2.mem ((c.tc : Thread Cert.MemAttendRefIdeal.nD Cert.MemAttendRefIdeal.τ).loc Cert.MemAttendRefIdeal.main_arg0) = m' ((c.tc : Thread Cert.MemAttendRefIdeal.nD Cert.MemAttendRefIdeal.τ).loc Cert.MemAttendRefIdeal.main_arg0)
          ∧ r.2.mem ((c.tc : Thread Cert.MemAttendRefIdeal.nD Cert.MemAttendRefIdeal.τ).loc Cert.MemAttendRefIdeal.main_arg1) = m' ((c.tc : Thread Cert.MemAttendRefIdeal.nD Cert.MemAttendRefIdeal.τ).loc Cert.MemAttendRefIdeal.main_arg1))

def Claim : Prop :=
  ∃ (hIn0 : Cert.In0.Facts) (hIn0Ideal : Cert.In0Ideal.Facts) (hIn0RefIdeal : Cert.In0RefIdeal.Facts) (hIn1 : Cert.In1.Facts) (hIn1Ideal : Cert.In1Ideal.Facts) (hIn1RefIdeal : Cert.In1RefIdeal.Facts) (hMkv : Cert.Mkv.Facts) (hMkvIdeal : Cert.MkvIdeal.Facts) (hMkvRefIdeal : Cert.MkvRefIdeal.Facts) (hOut0 : Cert.Out0.Facts) (hOut0Ideal : Cert.Out0Ideal.Facts) (hOut0RefIdeal : Cert.Out0RefIdeal.Facts) (hOut1 : Cert.Out1.Facts) (hOut1Ideal : Cert.Out1Ideal.Facts) (hOut1RefIdeal : Cert.Out1RefIdeal.Facts) (hOut2 : Cert.Out2.Facts) (hOut2Ideal : Cert.Out2Ideal.Facts) (hOut2RefIdeal : Cert.Out2RefIdeal.Facts) (hOut3 : Cert.Out3.Facts) (hOut3Ideal : Cert.Out3Ideal.Facts) (hOut3RefIdeal : Cert.Out3RefIdeal.Facts) (hFfn0 : Cert.Ffn0.Facts) (hFfn0Ideal : Cert.Ffn0Ideal.Facts) (hFfn0RefIdeal : Cert.Ffn0RefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hFfn3 : Cert.Ffn3.Facts) (hFfn3Ideal : Cert.Ffn3Ideal.Facts) (hFfn3RefIdeal : Cert.Ffn3RefIdeal.Facts) (hMemAttend : Cert.MemAttend.Facts) (hMemAttendIdeal : Cert.MemAttendIdeal.Facts) (hMemAttendRefIdeal : Cert.MemAttendRefIdeal.Facts) (hPre_finite_ma : Cert.Pre_finite_ma.Facts),
    quiescent_In0 (hIn0 := hIn0)
    ∧ quiescent_In0Ideal (hIn0Ideal := hIn0Ideal)
    ∧ quiescent_In0RefIdeal (hIn0RefIdeal := hIn0RefIdeal)
    ∧ quiescent_In1 (hIn1 := hIn1)
    ∧ quiescent_In1Ideal (hIn1Ideal := hIn1Ideal)
    ∧ quiescent_In1RefIdeal (hIn1RefIdeal := hIn1RefIdeal)
    ∧ quiescent_Mkv (hMkv := hMkv)
    ∧ quiescent_MkvIdeal (hMkvIdeal := hMkvIdeal)
    ∧ quiescent_MkvRefIdeal (hMkvRefIdeal := hMkvRefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Out2 (hOut2 := hOut2)
    ∧ quiescent_Out2Ideal (hOut2Ideal := hOut2Ideal)
    ∧ quiescent_Out2RefIdeal (hOut2RefIdeal := hOut2RefIdeal)
    ∧ quiescent_Out3 (hOut3 := hOut3)
    ∧ quiescent_Out3Ideal (hOut3Ideal := hOut3Ideal)
    ∧ quiescent_Out3RefIdeal (hOut3RefIdeal := hOut3RefIdeal)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Ffn3 (hFfn3 := hFfn3)
    ∧ quiescent_Ffn3Ideal (hFfn3Ideal := hFfn3Ideal)
    ∧ quiescent_Ffn3RefIdeal (hFfn3RefIdeal := hFfn3RefIdeal)
    ∧ quiescent_MemAttend (hMemAttend := hMemAttend)
    ∧ quiescent_MemAttendIdeal (hMemAttendIdeal := hMemAttendIdeal)
    ∧ quiescent_MemAttendIdeal_pre_finite_ma (hMemAttendIdeal := hMemAttendIdeal) (hPre_finite_ma := hPre_finite_ma)
    ∧ quiescent_MemAttendRefIdeal (hMemAttendRefIdeal := hMemAttendRefIdeal)
    ∧ quiescent_MemAttendRefIdeal_pre_finite_ma (hMemAttendRefIdeal := hMemAttendRefIdeal) (hPre_finite_ma := hPre_finite_ma)
    ∧ preserves_In0_In0Ideal
    ∧ algebraic_In0Ideal_In0RefIdeal (hIn0Ideal := hIn0Ideal) (hIn0RefIdeal := hIn0RefIdeal)
    ∧ preserves_In1_In1Ideal
    ∧ algebraic_In1Ideal_In1RefIdeal (hIn1Ideal := hIn1Ideal) (hIn1RefIdeal := hIn1RefIdeal)
    ∧ preserves_Mkv_MkvIdeal
    ∧ algebraic_MkvIdeal_MkvRefIdeal (hMkvIdeal := hMkvIdeal) (hMkvRefIdeal := hMkvRefIdeal)
    ∧ preserves_Out0_Out0Ideal
    ∧ algebraic_Out0Ideal_Out0RefIdeal (hOut0Ideal := hOut0Ideal) (hOut0RefIdeal := hOut0RefIdeal)
    ∧ preserves_Out1_Out1Ideal
    ∧ algebraic_Out1Ideal_Out1RefIdeal (hOut1Ideal := hOut1Ideal) (hOut1RefIdeal := hOut1RefIdeal)
    ∧ preserves_Out2_Out2Ideal
    ∧ algebraic_Out2Ideal_Out2RefIdeal (hOut2Ideal := hOut2Ideal) (hOut2RefIdeal := hOut2RefIdeal)
    ∧ preserves_Out3_Out3Ideal
    ∧ algebraic_Out3Ideal_Out3RefIdeal (hOut3Ideal := hOut3Ideal) (hOut3RefIdeal := hOut3RefIdeal)
    ∧ preserves_Ffn0_Ffn0Ideal
    ∧ algebraic_Ffn0Ideal_Ffn0RefIdeal (hFfn0Ideal := hFfn0Ideal) (hFfn0RefIdeal := hFfn0RefIdeal)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Ffn3_Ffn3Ideal
    ∧ algebraic_Ffn3Ideal_Ffn3RefIdeal (hFfn3Ideal := hFfn3Ideal) (hFfn3RefIdeal := hFfn3RefIdeal)
    ∧ preserves_MemAttend_MemAttendIdeal
    ∧ algebraic_MemAttendIdeal_MemAttendRefIdeal_pre_finite_ma (hMemAttendIdeal := hMemAttendIdeal) (hMemAttendRefIdeal := hMemAttendRefIdeal) (hPre_finite_ma := hPre_finite_ma)
-- ==== Pre_finite_ma.lean ====
abbrev S4x2048x2048 : Shape := ⟨3, ![4, 2048, 2048]⟩
abbrev S4x4x256x2x4x128 : Shape := ⟨6, ![4, 4, 256, 2, 4, 128]⟩
abbrev S4x2048x512 : Shape := ⟨3, ![4, 2048, 512]⟩
abbrev S_ : Shape := ⟨0, ![]⟩
abbrev S1x4x256x1x4x128 : Shape := ⟨6, ![1, 4, 256, 1, 4, 128]⟩
abbrev S4x256x4x128 : Shape := ⟨4, ![4, 256, 4, 128]⟩

class Facts : Prop where
  slices_S4x2048x2048_S4x2048x512_0_0_1536 : S4x2048x2048.Slices ![0, 0, 1536] S4x2048x512
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  slices_S4x4x256x2x4x128_S1x4x256x1x4x128_0_0_0_0_0_0 : S4x4x256x2x4x128.Slices ![0, 0, 0, 0, 0, 0] S1x4x256x1x4x128
  shapeCasts_S1x4x256x1x4x128_S4x256x4x128 : S1x4x256x1x4x128.ShapeCasts S4x256x4x128
  bcast_S_S4x256x4x128 : S_.BroadcastsInDim S4x256x4x128 (![] : Fin 0 → Fin S4x256x4x128.rank)
  reducesTo_S4x256x4x128_S_d0_1_2_3 : S4x256x4x128.ReducesTo [0, 1, 2, 3] S_

variable [Facts]

def fn {F : FTy → Type} [FloatOps F] (main_arg0 : FVec F S4x2048x2048 .f32) (main_arg1 : FVec F S4x4x256x2x4x128 .f32) : IVec S_ 1 :=
  let main_v0 : FVec F S4x2048x512 .f32 := (extractStridedSlice S4x2048x512 ![0, 0, 1536] · slices_S4x2048x2048_S4x2048x512_0_0_1536) main_arg0
  let main_v1 : FVec F S4x2048x512 .f32 := Host.absf main_v0
  let main_cst : FVec F S_ .f32 := constant S_ .f32 0x7F800000#32
  let main_v2 : FVec F S4x2048x512 .f32 := broadcastInDim S4x2048x512 ![] bcast_S_S4x2048x512 main_cst
  let main_v3 : IVec S4x2048x512 1 := cmpf .olt main_v1 main_v2
  let main_c : IVec S_ 1 := constantI S_ 1 1#1
  let main_v4 : IVec S_ 1 := (fun x v => Host.reduce IntOp.andi x v reducesTo_S4x2048x512_S_d0_1_2 h_S_) main_v3 main_c
  let main_v5 : FVec F S1x4x256x1x4x128 .f32 := (extractStridedSlice S1x4x256x1x4x128 ![0, 0, 0, 0, 0, 0] · slices_S4x4x256x2x4x128_S1x4x256x1x4x128_0_0_0_0_0_0) main_arg1
  let main_v6 : FVec F S4x256x4x128 .f32 := shapeCast S4x256x4x128 main_v5 shapeCasts_S1x4x256x1x4x128_S4x256x4x128
  let main_v7 : FVec F S4x256x4x128 .f32 := Host.absf main_v6
  let main_cst_0 : FVec F S_ .f32 := constant S_ .f32 0x7F800000#32
  let main_v8 : FVec F S4x256x4x128 .f32 := broadcastInDim S4x256x4x128 ![] bcast_S_S4x256x4x128 main_cst_0
  let main_v9 : IVec S4x256x4x128 1 := cmpf .olt main_v7 main_v8
  let main_c_1 : IVec S_ 1 := constantI S_ 1 1#1
  let main_v10 : IVec S_ 1 := (fun x v => Host.reduce IntOp.andi x v reducesTo_S4x256x4x128_S_d0_1_2_3 h_S_) main_v9 main_c_1
  let main_v11 : IVec S_ 1 := andi main_v4 main_v10
  main_v11
-- ==== In0.lean ====
abbrev S4x2048x2048 : Shape := ⟨3, ![4, 2048, 2048]⟩
abbrev S8x1x2048 : Shape := ⟨3, ![8, 1, 2048]⟩
abbrev S4x2048 : Shape := ⟨2, ![4, 2048]⟩
abbrev S2x2048x2048 : Shape := ⟨3, ![2, 2048, 2048]⟩
abbrev S8192x2048 : Shape := ⟨2, ![8192, 2048]⟩
abbrev S1x2048 : Shape := ⟨2, ![1, 2048]⟩
abbrev S2048 : Shape := ⟨1, ![2048]⟩
abbrev S8x2048 : Shape := ⟨2, ![8, 2048]⟩
abbrev S1024x2048 : Shape := ⟨2, ![1024, 2048]⟩
abbrev S1x2048x512 : Shape := ⟨3, ![1, 2048, 512]⟩
abbrev S1024x512 : Shape := ⟨2, ![1024, 512]⟩
abbrev S8x512 : Shape := ⟨2, ![8, 512]⟩
abbrev S4x2048x512 : Shape := ⟨3, ![4, 2048, 512]⟩
abbrev S1024 : Shape := ⟨1, ![1024]⟩
abbrev S1024x1 : Shape := ⟨2, ![1024, 1]⟩
abbrev S2048x512 : Shape := ⟨2, ![2048, 512]⟩
abbrev S8 : Shape := ⟨1, ![8]⟩
abbrev S8x1 : Shape := ⟨2, ![8, 1]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S2x2048x2048, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S8x2048, .f32⟩
  | .hbm, ⟨8, _⟩ => ⟨S1x2048, .f32⟩
  | .hbm, ⟨9, _⟩ => ⟨S8192x2048, .f32⟩
  | .hbm, ⟨10, _⟩ => ⟨S8x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | .local _ .vmem, ⟨9, _⟩ => ⟨S8x512, .f32⟩
  | .local _ .vmem, ⟨10, _⟩ => ⟨S1024x2048, .bf16⟩
  | .local _ .vmem, ⟨11, _⟩ => ⟨S8x2048, .f32⟩
  | .local _ .vmem, ⟨12, _⟩ => ⟨S4x2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v23 : Index := Scalar.indexCast arg1
  let c0_16 : Index := 0#32
  let c0_17 : Index := 0#32
  ![v23.toNat, 0, 0]
def k0_off2 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def k0_cond4 (i : grid0.Coords) : BitVec 1 :=
  let arg0 : BitVec 32 := BitVec.ofNat 32 (i 0).val
  let c0_i32_11 : BitVec 32 := 0#32
  let v17 : BitVec 1 := Scalar.cmpi .eq arg0 c0_i32_11
  let v18 : BitVec 32 := Scalar.extui v17
  let c0_i32_12 : BitVec 32 := 0#32
  let v19 : BitVec 1 := Scalar.cmpi .ne v18 c0_i32_12
  v19

def k0_off3 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== In0RefIdeal.lean ====
abbrev S4x2048x2048 : Shape := ⟨3, ![4, 2048, 2048]⟩
abbrev S8x1x2048 : Shape := ⟨3, ![8, 1, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S8x1 : Shape := ⟨2, ![8, 1]⟩
abbrev S8x1x1 : Shape := ⟨3, ![8, 1, 1]⟩
abbrev S8192x2048 : Shape := ⟨2, ![8192, 2048]⟩
abbrev S8x2048 : Shape := ⟨2, ![8, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S2x2048x2048, .f32⟩
  | .hbm, ⟨4, _⟩ => ⟨S1x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S1x2048x2048, .f32⟩
  | .hbm, ⟨23, _⟩ => ⟨S2048x2048, .f32⟩
  | .hbm, ⟨24, _⟩ => ⟨S4x2048x2048, .f32⟩
  | .hbm, ⟨25, _⟩ => ⟨S1x2048, .f32⟩
  | .hbm, ⟨26, _⟩ => ⟨S2048, .f32⟩
  | .hbm, ⟨27, _⟩ => ⟨S8x1x2048, .f32⟩
  | .hbm, ⟨28, _⟩ => ⟨S_, .f32⟩
  | .hbm, ⟨29, _⟩ => ⟨S8x1, .f32⟩
  | .hbm, ⟨30, _⟩ => ⟨S8x1x1, .f32⟩
  | .hbm, ⟨31, _⟩ => ⟨S_, .f32⟩
  | .hbm, ⟨32, _⟩ => ⟨S8x1x1, .f32⟩
  | .hbm, ⟨33, _⟩ => ⟨S8x1x1, .f32⟩
  | .hbm, ⟨34, _⟩ => ⟨S_, .f32⟩
  | .hbm, ⟨35, _⟩ => ⟨S8x1x1, .f32⟩
  | .hbm, ⟨36, _⟩ => ⟨S8x1x1, .f32⟩
  | .hbm, ⟨37, _⟩ => ⟨S8x1x1, .f32⟩
  | .hbm, ⟨38, _⟩ => ⟨S8x1x2048, .f32⟩
  | .hbm, ⟨39, _⟩ => ⟨S8x1x2048, .f32⟩
  | .hbm, ⟨40, _⟩ => ⟨S1x1x2048, .f32⟩
  | .hbm, ⟨41, _⟩ => ⟨S8x1x2048, .f32⟩
  | .hbm, ⟨42, _⟩ => ⟨S8x1x2048, .f32⟩
  | .hbm, ⟨43, _⟩ => ⟨S1x2048x2048, .f32⟩
  | .hbm, ⟨44, _⟩ => ⟨S2048x2048, .f32⟩
  | .hbm, ⟨45, _⟩ => ⟨S8x1x2048, .f32⟩
  | .hbm, ⟨46, _⟩ => ⟨S8192x2048, .f32⟩
  | .hbm, ⟨47, _⟩ => ⟨S8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== In1.lean ====
abbrev S4x2048x2048 : Shape := ⟨3, ![4, 2048, 2048]⟩
abbrev S8x1x2048 : Shape := ⟨3, ![8, 1, 2048]⟩
abbrev S4x2048 : Shape := ⟨2, ![4, 2048]⟩
abbrev S2x2048x2048 : Shape := ⟨3, ![2, 2048, 2048]⟩
abbrev S8192x2048 : Shape := ⟨2, ![8192, 2048]⟩
abbrev S1x2048 : Shape := ⟨2, ![1, 2048]⟩
abbrev S2048 : Shape := ⟨1, ![2048]⟩
abbrev S8x2048 : Shape := ⟨2, ![8, 2048]⟩
abbrev S1024x2048 : Shape := ⟨2, ![1024, 2048]⟩
abbrev S1x2048x512 : Shape := ⟨3, ![1, 2048, 512]⟩
abbrev S1024x512 : Shape := ⟨2, ![1024, 512]⟩
abbrev S8x512 : Shape := ⟨2, ![8, 512]⟩
abbrev S4x2048x512 : Shape := ⟨3, ![4, 2048, 512]⟩
abbrev S1024 : Shape := ⟨1, ![1024]⟩
abbrev S1024x1 : Shape := ⟨2, ![1024, 1]⟩
abbrev S2048x512 : Shape := ⟨2, ![2048, 512]⟩
abbrev S8 : Shape := ⟨1, ![8]⟩
abbrev S8x1 : Shape := ⟨2, ![8, 1]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S2x2048x2048, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S8x2048, .f32⟩
  | .hbm, ⟨8, _⟩ => ⟨S1x2048, .f32⟩
  | .hbm, ⟨9, _⟩ => ⟨S8192x2048, .f32⟩
  | .hbm, ⟨10, _⟩ => ⟨S8x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | .local _ .vmem, ⟨9, _⟩ => ⟨S8x512, .f32⟩
  | .local _ .vmem, ⟨10, _⟩ => ⟨S1024x2048, .bf16⟩
  | .local _ .vmem, ⟨11, _⟩ => ⟨S8x2048, .f32⟩
  | .local _ .vmem, ⟨12, _⟩ => ⟨S4x2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v23 : Index := Scalar.indexCast arg1
  let c0_16 : Index := 0#32
  let c0_17 : Index := 0#32
  ![v23.toNat, 0, 0]
def k0_off2 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def k0_cond4 (i : grid0.Coords) : BitVec 1 :=
  let arg0 : BitVec 32 := BitVec.ofNat 32 (i 0).val
  let c0_i32_11 : BitVec 32 := 0#32
  let v17 : BitVec 1 := Scalar.cmpi .eq arg0 c0_i32_11
  let v18 : BitVec 32 := Scalar.extui v17
  let c0_i32_12 : BitVec 32 := 0#32
  let v19 : BitVec 1 := Scalar.cmpi .ne v18 c0_i32_12
  v19

def k0_off3 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c1_i32 : BitVec 32 := 1#32
  let c0_i32_0 : BitVec 32 := 0#32
  let c0_i32_1 : BitVec 32 := 0#32
  ![c1_i32.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== In1RefIdeal.lean ====
abbrev S4x2048x2048 : Shape := ⟨3, ![4, 2048, 2048]⟩
abbrev S8x1x2048 : Shape := ⟨3, ![8, 1, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S8x1 : Shape := ⟨2, ![8, 1]⟩
abbrev S8x1x1 : Shape := ⟨3, ![8, 1, 1]⟩
abbrev S8192x2048 : Shape := ⟨2, ![8192, 2048]⟩
abbrev S8x2048 : Shape := ⟨2, ![8, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S2x2048x2048, .f32⟩
  | .hbm, ⟨4, _⟩ => ⟨S1x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S1x2048x2048, .f32⟩
  | .hbm, ⟨23, _⟩ => ⟨S2048x2048, .f32⟩
  | .hbm, ⟨24, _⟩ => ⟨S4x2048x2048, .f32⟩
  | .hbm, ⟨25, _⟩ => ⟨S1x2048, .f32⟩
  | .hbm, ⟨26, _⟩ => ⟨S2048, .f32⟩
  | .hbm, ⟨27, _⟩ => ⟨S8x1x2048, .f32⟩
  | .hbm, ⟨28, _⟩ => ⟨S_, .f32⟩
  | .hbm, ⟨29, _⟩ => ⟨S8x1, .f32⟩
  | .hbm, ⟨30, _⟩ => ⟨S8x1x1, .f32⟩
  | .hbm, ⟨31, _⟩ => ⟨S_, .f32⟩
  | .hbm, ⟨32, _⟩ => ⟨S8x1x1, .f32⟩
  | .hbm, ⟨33, _⟩ => ⟨S8x1x1, .f32⟩
  | .hbm, ⟨34, _⟩ => ⟨S_, .f32⟩
  | .hbm, ⟨35, _⟩ => ⟨S8x1x1, .f32⟩
  | .hbm, ⟨36, _⟩ => ⟨S8x1x1, .f32⟩
  | .hbm, ⟨37, _⟩ => ⟨S8x1x1, .f32⟩
  | .hbm, ⟨38, _⟩ => ⟨S8x1x2048, .f32⟩
  | .hbm, ⟨39, _⟩ => ⟨S8x1x2048, .f32⟩
  | .hbm, ⟨40, _⟩ => ⟨S1x1x2048, .f32⟩
  | .hbm, ⟨41, _⟩ => ⟨S8x1x2048, .f32⟩
  | .hbm, ⟨42, _⟩ => ⟨S8x1x2048, .f32⟩
  | .hbm, ⟨43, _⟩ => ⟨S1x2048x2048, .f32⟩
  | .hbm, ⟨44, _⟩ => ⟨S2048x2048, .f32⟩
  | .hbm, ⟨45, _⟩ => ⟨S8x1x2048, .f32⟩
  | .hbm, ⟨46, _⟩ => ⟨S8192x2048, .f32⟩
  | .hbm, ⟨47, _⟩ => ⟨S8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Mkv.lean ====
abbrev S4x256x2048 : Shape := ⟨3, ![4, 256, 2048]⟩
abbrev S4x2048 : Shape := ⟨2, ![4, 2048]⟩
abbrev S4x2048x1024 : Shape := ⟨3, ![4, 2048, 1024]⟩
abbrev S1024x2048 : Shape := ⟨2, ![1024, 2048]⟩
abbrev S4x1x2048 : Shape := ⟨3, ![4, 1, 2048]⟩
abbrev S4x1024x1024 : Shape := ⟨3, ![4, 1024, 1024]⟩
abbrev S512x2048 : Shape := ⟨2, ![512, 2048]⟩
abbrev S1x1x2048 : Shape := ⟨3, ![1, 1, 2048]⟩
abbrev S1x2048x512 : Shape := ⟨3, ![1, 2048, 512]⟩
abbrev S1x512x512 : Shape := ⟨3, ![1, 512, 512]⟩
abbrev S2x2048x512 : Shape := ⟨3, ![2, 2048, 512]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S4x2048, .f32⟩
  | .hbm, ⟨2, _⟩ => ⟨S4x2048x1024, .f32⟩
  | .hbm, ⟨3, _⟩ => ⟨S1024x2048, .f32⟩
  | .hbm, ⟨4, _⟩ => ⟨S4x1x2048, .f32⟩
  | .hbm, ⟨5, _⟩ => ⟨S4x1024x1024, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1x512x512, .f32⟩
  | .local _ .vmem, ⟨7, _⟩ => ⟨S1x512x512, .f32⟩
  | .local _ .vmem, ⟨8, _⟩ => ⟨S512x2048, .bf16⟩
  | .local _ .vmem, ⟨9, _⟩ => ⟨S2x2048x512, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v17 : Index := Scalar.indexCast arg2
  let c0_12 : Index := 0#32
  let c0_13 : Index := 0#32
  ![v17.toNat, 0, 0]
def k0_off2 (i : grid0.Coords) : Fin 3 → Nat :=
  let arg2 : BitVec 32 := BitVec.ofNat 32 (i 2).val
  let v7 : Index := Scalar.indexCast arg2
  let c0_4 : Index := 0#32
  let c0_5 : Index := 0#32
  ![v7.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c1_i32 : BitVec 32 := 1#32
  let v1 : BitVec 32 := Scalar.select v0 arg2 c1_i32
  let c0_i32_0 : BitVec 32 := 0#32
  let c0_i32_1 : BitVec 32 := 0#32
  ![arg0.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MkvRefIdeal.lean ====
abbrev S4x256x2048 : Shape := ⟨3, ![4, 256, 2048]⟩
abbrev S4x2048 : Shape := ⟨2, ![4, 2048]⟩
abbrev S4x2048x1024 : Shape := ⟨3, ![4, 2048, 1024]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S1x4x256x1024 : Shape := ⟨4, ![1, 4, 256, 1024]⟩
abbrev S4x4x256x1024 : Shape := ⟨4, ![4, 4, 256, 1024]⟩
abbrev S4x1024x1024 : Shape := ⟨3, ![4, 1024, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x2048, .f32⟩
  | .hbm, ⟨2, _⟩ => ⟨S4x2048x1024, .f32⟩
  | .hbm, ⟨3, _⟩ => ⟨S1x2048, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x2048x1024, .f32⟩
  | .hbm, ⟨22, _⟩ => ⟨S2048x1024, .f32⟩
  | .hbm, ⟨23, _⟩ => ⟨S4x256x1024, .f32⟩
  | .hbm, ⟨24, _⟩ => ⟨S1x2048, .f32⟩
  | .hbm, ⟨25, _⟩ => ⟨S2048, .f32⟩
  | .hbm, ⟨26, _⟩ => ⟨S4x256x2048, .f32⟩
  | .hbm, ⟨27, _⟩ => ⟨S_, .f32⟩
  | .hbm, ⟨28, _⟩ => ⟨S4x256, .f32⟩
  | .hbm, ⟨29, _⟩ => ⟨S4x256x1, .f32⟩
  | .hbm, ⟨30, _⟩ => ⟨S_, .f32⟩
  | .hbm, ⟨31, _⟩ => ⟨S4x256x1, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S4x256x1, .f32⟩
  | .hbm, ⟨37, _⟩ => ⟨S4x256x2048, .f32⟩
  | .hbm, ⟨38, _⟩ => ⟨S4x256x2048, .f32⟩
  | .hbm, ⟨39, _⟩ => ⟨S1x1x2048, .f32⟩
  | .hbm, ⟨40, _⟩ => ⟨S4x256x2048, .f32⟩
  | .hbm, ⟨41, _⟩ => ⟨S4x256x2048, .f32⟩
  | .hbm, ⟨42, _⟩ => ⟨S1x2048x1024, .f32⟩
  | .hbm, ⟨43, _⟩ => ⟨S2048x1024, .f32⟩
  | .hbm, ⟨44, _⟩ => ⟨S4x256x1024, .f32⟩
  | .hbm, ⟨45, _⟩ => ⟨S1x2048, .f32⟩
  | .hbm, ⟨46, _⟩ => ⟨S2048, .f32⟩
  | .hbm, ⟨47, _⟩ => ⟨S4x256x2048, .f32⟩
  | .hbm, ⟨48, _⟩ => ⟨S_, .f32⟩
  | .hbm, ⟨49, _⟩ => ⟨S4x256, .f32⟩
  | .hbm, ⟨50, _⟩ => ⟨S4x256x1, .f32⟩
  | .hbm, ⟨51, _⟩ => ⟨S_, .f32⟩
  | .hbm, ⟨52, _⟩ => ⟨S4x256x1, .f32⟩
  | .hbm, ⟨53, _⟩ => ⟨S4x256x1, .f32⟩
  | .hbm, ⟨54, _⟩ => ⟨S_, .f32⟩
  | .hbm, ⟨55, _⟩ => ⟨S4x256x1, .f32⟩
  | .hbm, ⟨56, _⟩ => ⟨S4x256x1, .f32⟩
  | .hbm, ⟨57, _⟩ => ⟨S4x256x1, .f32⟩
  | .hbm, ⟨58, _⟩ => ⟨S4x256x2048, .f32⟩
  | .hbm, ⟨59, _⟩ => ⟨S4x256x2048, .f32⟩
  | .hbm, ⟨60, _⟩ => ⟨S1x1x2048, .f32⟩
  | .hbm, ⟨61, _⟩ => ⟨S4x256x2048, .f32⟩
  | .hbm, ⟨62, _⟩ => ⟨S4x256x2048, .f32⟩
  | .hbm, ⟨63, _⟩ => ⟨S1x2048x1024, .f32⟩
  | .hbm, ⟨64, _⟩ => ⟨S2048x1024, .f32⟩
  | .hbm, ⟨65, _⟩ => ⟨S4x256x1024, .f32⟩
  | .hbm, ⟨66, _⟩ => ⟨S1x2048, .f32⟩
  | .hbm, ⟨67, _⟩ => ⟨S2048, .f32⟩
  | .hbm, ⟨68, _⟩ => ⟨S4x256x2048, .f32⟩
  | .hbm, ⟨69, _⟩ => ⟨S_, .f32⟩
  | .hbm, ⟨70, _⟩ => ⟨S4x256, .f32⟩
  | .hbm, ⟨71, _⟩ => ⟨S4x256x1, .f32⟩
  | .hbm, ⟨72, _⟩ => ⟨S_, .f32⟩
  | .hbm, ⟨73, _⟩ => ⟨S4x256x1, .f32⟩
  | .hbm, ⟨74, _⟩ => ⟨S4x256x1, .f32⟩
  | .hbm, ⟨75, _⟩ => ⟨S_, .f32⟩
  | .hbm, ⟨76, _⟩ => ⟨S4x256x1, .f32⟩
  | .hbm, ⟨77, _⟩ => ⟨S4x256x1, .f32⟩
  | .hbm, ⟨78, _⟩ => ⟨S4x256x1, .f32⟩
  | .hbm, ⟨79, _⟩ => ⟨S4x256x2048, .f32⟩
  | .hbm, ⟨80, _⟩ => ⟨S4x256x2048, .f32⟩
  | .hbm, ⟨81, _⟩ => ⟨S1x1x2048, .f32⟩
  | .hbm, ⟨82, _⟩ => ⟨S4x256x2048, .f32⟩
  | .hbm, ⟨83, _⟩ => ⟨S4x256x2048, .f32⟩
  | .hbm, ⟨84, _⟩ => ⟨S1x2048x1024, .f32⟩
  | .hbm, ⟨85, _⟩ => ⟨S2048x1024, .f32⟩
  | .hbm, ⟨86, _⟩ => ⟨S4x256x1024, .f32⟩
  | .hbm, ⟨87, _⟩ => ⟨S1x4x256x1024, .f32⟩
  | .hbm, ⟨88, _⟩ => ⟨S1x4x256x1024, .f32⟩
  | .hbm, ⟨89, _⟩ => ⟨S1x4x256x1024, .f32⟩
  | .hbm, ⟨90, _⟩ => ⟨S1x4x256x1024, .f32⟩
  | .hbm, ⟨91, _⟩ => ⟨S4x4x256x1024, .f32⟩
  | .hbm, ⟨92, _⟩ => ⟨S4x1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== Out0.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S8192x1536 : Shape := ⟨2, ![8192, 1536]⟩
abbrev S8192x512 : Shape := ⟨2, ![8192, 512]⟩
abbrev S8192x2048 : Shape := ⟨2, ![8192, 2048]⟩
abbrev S8x1536 : Shape := ⟨2, ![8, 1536]⟩
abbrev S8x512 : Shape := ⟨2, ![8, 512]⟩
abbrev S8x2048 : Shape := ⟨2, ![8, 2048]⟩
abbrev S1024x1536 : Shape := ⟨2, ![1024, 1536]⟩
abbrev S1024x512 : Shape := ⟨2, ![1024, 512]⟩
abbrev S1x2048x512 : Shape := ⟨3, ![1, 2048, 512]⟩
abbrev S1024x2048 : Shape := ⟨2, ![1024, 2048]⟩
abbrev S2048x512 : Shape := ⟨2, ![2048, 512]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S8192x1536, .f32⟩
  | .hbm, ⟨8, _⟩ => ⟨S8192x512, .f32⟩
  | .hbm, ⟨9, _⟩ => ⟨S8192x2048, .f32⟩
  | .hbm, ⟨10, _⟩ => ⟨S8x1536, .f32⟩
  | .hbm, ⟨11, _⟩ => ⟨S8x512, .f32⟩
  | .hbm, ⟨12, _⟩ => ⟨S8x2048, .f32⟩
  | .hbm, ⟨13, _⟩ => ⟨S8192x2048, .f32⟩
  | .hbm, ⟨14, _⟩ => ⟨S8x2048, .f32⟩
  | .local _ .vmem, ⟨0, _⟩ => ⟨S1024x1536, .f32⟩
  | .local _ .vmem, ⟨1, _⟩ => ⟨S1024x1536, .f32⟩
  | .local _ .vmem, ⟨2, _⟩ => ⟨S1024x512, .f32⟩
  | .local _ .vmem, ⟨3, _⟩ => ⟨S1024x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S8x1536, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S8x512, .f32⟩
  | .local _ .vmem, ⟨16, _⟩ => ⟨S1024x2048, .bf16⟩
  | .local _ .vmem, ⟨17, _⟩ => ⟨S4x2048x512, .bf16⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def k0_off2 (i : grid0.Coords) : Fin 3 → Nat :=
  let arg1 : BitVec 32 := BitVec.ofNat 32 (i 1).val
  let v9 : Index := Scalar.indexCast arg1
  let c0_6 : Index := 0#32
  let c0_7 : Index := 0#32
  ![v9.toNat, 0, 0]
def k0_cond3 (i : grid0.Coords) : BitVec 1 :=
  let arg0 : BitVec 32 := BitVec.ofNat 32 (i 0).val
  let c0_i32_10 : BitVec 32 := 0#32
  let v15 : BitVec 1 := Scalar.cmpi .eq arg0 c0_i32_10
  let v16 : BitVec 32 := Scalar.extui v15
  let c0_i32_11 : BitVec 32 := 0#32
  let v17 : BitVec 1 := Scalar.cmpi .ne v16 c0_i32_11
  v17

def k0_off3 (i : grid0.Coords) : Fin 3 → Nat :=
  let arg1 : BitVec 32 := BitVec.ofNat 32 (i 1).val
  let v25 : Index := Scalar.indexCast arg1
  let c0_18 : Index := 0#32
  let c0_19 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Out0RefIdeal.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8x2048 : Shape := ⟨2, ![8, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S4x2048x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S8192x2048, .f32⟩
  | .hbm, ⟨13, _⟩ => ⟨S8x1x2048, .f32⟩
  | .hbm, ⟨14, _⟩ => ⟨S1x2048x2048, .f32⟩
  | .hbm, ⟨15, _⟩ => ⟨S2048x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Out1.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S8192x1536 : Shape := ⟨2, ![8192, 1536]⟩
abbrev S8192x512 : Shape := ⟨2, ![8192, 512]⟩
abbrev S8192x2048 : Shape := ⟨2, ![8192, 2048]⟩
abbrev S8x1536 : Shape := ⟨2, ![8, 1536]⟩
abbrev S8x512 : Shape := ⟨2, ![8, 512]⟩
abbrev S8x2048 : Shape := ⟨2, ![8, 2048]⟩
abbrev S1024x1536 : Shape := ⟨2, ![1024, 1536]⟩
abbrev S1024x512 : Shape := ⟨2, ![1024, 512]⟩
abbrev S1x2048x512 : Shape := ⟨3, ![1, 2048, 512]⟩
abbrev S1024x2048 : Shape := ⟨2, ![1024, 2048]⟩
abbrev S2048x512 : Shape := ⟨2, ![2048, 512]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S8192x1536, .f32⟩
  | .hbm, ⟨8, _⟩ => ⟨S8192x512, .f32⟩
  | .hbm, ⟨9, _⟩ => ⟨S8192x2048, .f32⟩
  | .hbm, ⟨10, _⟩ => ⟨S8x1536, .f32⟩
  | .hbm, ⟨11, _⟩ => ⟨S8x512, .f32⟩
  | .hbm, ⟨12, _⟩ => ⟨S8x2048, .f32⟩
  | .hbm, ⟨13, _⟩ => ⟨S8192x2048, .f32⟩
  | .hbm, ⟨14, _⟩ => ⟨S8x2048, .f32⟩
  | .local _ .vmem, ⟨0, _⟩ => ⟨S1024x1536, .f32⟩
  | .local _ .vmem, ⟨1, _⟩ => ⟨S1024x1536, .f32⟩
  | .local _ .vmem, ⟨2, _⟩ => ⟨S1024x512, .f32⟩
  | .local _ .vmem, ⟨3, _⟩ => ⟨S1024x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S8x1536, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S8x512, .f32⟩
  | .local _ .vmem, ⟨16, _⟩ => ⟨S1024x2048, .bf16⟩
  | .local _ .vmem, ⟨17, _⟩ => ⟨S4x2048x512, .bf16⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def k0_off2 (i : grid0.Coords) : Fin 3 → Nat :=
  let arg1 : BitVec 32 := BitVec.ofNat 32 (i 1).val
  let v9 : Index := Scalar.indexCast arg1
  let c0_6 : Index := 0#32
  let c0_7 : Index := 0#32
  ![v9.toNat, 0, 0]
def k0_cond3 (i : grid0.Coords) : BitVec 1 :=
  let arg0 : BitVec 32 := BitVec.ofNat 32 (i 0).val
  let c0_i32_10 : BitVec 32 := 0#32
  let v15 : BitVec 1 := Scalar.cmpi .eq arg0 c0_i32_10
  let v16 : BitVec 32 := Scalar.extui v15
  let c0_i32_11 : BitVec 32 := 0#32
  let v17 : BitVec 1 := Scalar.cmpi .ne v16 c0_i32_11
  v17

def k0_off3 (i : grid0.Coords) : Fin 3 → Nat :=
  let arg1 : BitVec 32 := BitVec.ofNat 32 (i 1).val
  let v25 : Index := Scalar.indexCast arg1
  let c0_18 : Index := 0#32
  let c0_19 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c1_i32 : BitVec 32 := 1#32
  let c0_i32_0 : BitVec 32 := 0#32
  let c0_i32_1 : BitVec 32 := 0#32
  ![c1_i32.toNat, c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Out1RefIdeal.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8x2048 : Shape := ⟨2, ![8, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S4x2048x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S8192x2048, .f32⟩
  | .hbm, ⟨13, _⟩ => ⟨S8x1x2048, .f32⟩
  | .hbm, ⟨14, _⟩ => ⟨S1x2048x2048, .f32⟩
  | .hbm, ⟨15, _⟩ => ⟨S2048x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Out2.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S8192x1536 : Shape := ⟨2, ![8192, 1536]⟩
abbrev S8192x512 : Shape := ⟨2, ![8192, 512]⟩
abbrev S8192x2048 : Shape := ⟨2, ![8192, 2048]⟩
abbrev S8x1536 : Shape := ⟨2, ![8, 1536]⟩
abbrev S8x512 : Shape := ⟨2, ![8, 512]⟩
abbrev S8x2048 : Shape := ⟨2, ![8, 2048]⟩
abbrev S1024x1536 : Shape := ⟨2, ![1024, 1536]⟩
abbrev S1024x512 : Shape := ⟨2, ![1024, 512]⟩
abbrev S1x2048x512 : Shape := ⟨3, ![1, 2048, 512]⟩
abbrev S1024x2048 : Shape := ⟨2, ![1024, 2048]⟩
abbrev S2048x512 : Shape := ⟨2, ![2048, 512]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S8192x1536, .f32⟩
  | .hbm, ⟨8, _⟩ => ⟨S8192x512, .f32⟩
  | .hbm, ⟨9, _⟩ => ⟨S8192x2048, .f32⟩
  | .hbm, ⟨10, _⟩ => ⟨S8x1536, .f32⟩
  | .hbm, ⟨11, _⟩ => ⟨S8x512, .f32⟩
  | .hbm, ⟨12, _⟩ => ⟨S8x2048, .f32⟩
  | .hbm, ⟨13, _⟩ => ⟨S8192x2048, .f32⟩
  | .hbm, ⟨14, _⟩ => ⟨S8x2048, .f32⟩
  | .local _ .vmem, ⟨0, _⟩ => ⟨S1024x1536, .f32⟩
  | .local _ .vmem, ⟨1, _⟩ => ⟨S1024x1536, .f32⟩
  | .local _ .vmem, ⟨2, _⟩ => ⟨S1024x512, .f32⟩
  | .local _ .vmem, ⟨3, _⟩ => ⟨S1024x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S8x1536, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S8x512, .f32⟩
  | .local _ .vmem, ⟨16, _⟩ => ⟨S1024x2048, .bf16⟩
  | .local _ .vmem, ⟨17, _⟩ => ⟨S4x2048x512, .bf16⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def k0_off2 (i : grid0.Coords) : Fin 3 → Nat :=
  let arg1 : BitVec 32 := BitVec.ofNat 32 (i 1).val
  let v9 : Index := Scalar.indexCast arg1
  let c0_6 : Index := 0#32
  let c0_7 : Index := 0#32
  ![v9.toNat, 0, 0]
def k0_cond3 (i : grid0.Coords) : BitVec 1 :=
  let arg0 : BitVec 32 := BitVec.ofNat 32 (i 0).val
  let c0_i32_10 : BitVec 32 := 0#32
  let v15 : BitVec 1 := Scalar.cmpi .eq arg0 c0_i32_10
  let v16 : BitVec 32 := Scalar.extui v15
  let c0_i32_11 : BitVec 32 := 0#32
  let v17 : BitVec 1 := Scalar.cmpi .ne v16 c0_i32_11
  v17

def k0_off3 (i : grid0.Coords) : Fin 3 → Nat :=
  let arg1 : BitVec 32 := BitVec.ofNat 32 (i 1).val
  let v25 : Index := Scalar.indexCast arg1
  let c0_18 : Index := 0#32
  let c0_19 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c2_i32 : BitVec 32 := 2#32
  let c0_i32_0 : BitVec 32 := 0#32
  let c0_i32_1 : BitVec 32 := 0#32
  ![c2_i32.toNat, c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Out2RefIdeal.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8x2048 : Shape := ⟨2, ![8, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S4x2048x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S8192x2048, .f32⟩
  | .hbm, ⟨13, _⟩ => ⟨S8x1x2048, .f32⟩
  | .hbm, ⟨14, _⟩ => ⟨S1x2048x2048, .f32⟩
  | .hbm, ⟨15, _⟩ => ⟨S2048x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Out3.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S8192x1536 : Shape := ⟨2, ![8192, 1536]⟩
abbrev S8192x512 : Shape := ⟨2, ![8192, 512]⟩
abbrev S8192x2048 : Shape := ⟨2, ![8192, 2048]⟩
abbrev S8x1536 : Shape := ⟨2, ![8, 1536]⟩
abbrev S8x512 : Shape := ⟨2, ![8, 512]⟩
abbrev S8x2048 : Shape := ⟨2, ![8, 2048]⟩
abbrev S1024x1536 : Shape := ⟨2, ![1024, 1536]⟩
abbrev S1024x512 : Shape := ⟨2, ![1024, 512]⟩
abbrev S1x2048x512 : Shape := ⟨3, ![1, 2048, 512]⟩
abbrev S1024x2048 : Shape := ⟨2, ![1024, 2048]⟩
abbrev S2048x512 : Shape := ⟨2, ![2048, 512]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S8192x1536, .f32⟩
  | .hbm, ⟨8, _⟩ => ⟨S8192x512, .f32⟩
  | .hbm, ⟨9, _⟩ => ⟨S8192x2048, .f32⟩
  | .hbm, ⟨10, _⟩ => ⟨S8x1536, .f32⟩
  | .hbm, ⟨11, _⟩ => ⟨S8x512, .f32⟩
  | .hbm, ⟨12, _⟩ => ⟨S8x2048, .f32⟩
  | .hbm, ⟨13, _⟩ => ⟨S8192x2048, .f32⟩
  | .hbm, ⟨14, _⟩ => ⟨S8x2048, .f32⟩
  | .local _ .vmem, ⟨0, _⟩ => ⟨S1024x1536, .f32⟩
  | .local _ .vmem, ⟨1, _⟩ => ⟨S1024x1536, .f32⟩
  | .local _ .vmem, ⟨2, _⟩ => ⟨S1024x512, .f32⟩
  | .local _ .vmem, ⟨3, _⟩ => ⟨S1024x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S8x1536, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S8x512, .f32⟩
  | .local _ .vmem, ⟨16, _⟩ => ⟨S1024x2048, .bf16⟩
  | .local _ .vmem, ⟨17, _⟩ => ⟨S4x2048x512, .bf16⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def k0_off2 (i : grid0.Coords) : Fin 3 → Nat :=
  let arg1 : BitVec 32 := BitVec.ofNat 32 (i 1).val
  let v9 : Index := Scalar.indexCast arg1
  let c0_6 : Index := 0#32
  let c0_7 : Index := 0#32
  ![v9.toNat, 0, 0]
def k0_cond3 (i : grid0.Coords) : BitVec 1 :=
  let arg0 : BitVec 32 := BitVec.ofNat 32 (i 0).val
  let c0_i32_10 : BitVec 32 := 0#32
  let v15 : BitVec 1 := Scalar.cmpi .eq arg0 c0_i32_10
  let v16 : BitVec 32 := Scalar.extui v15
  let c0_i32_11 : BitVec 32 := 0#32
  let v17 : BitVec 1 := Scalar.cmpi .ne v16 c0_i32_11
  v17

def k0_off3 (i : grid0.Coords) : Fin 3 → Nat :=
  let arg1 : BitVec 32 := BitVec.ofNat 32 (i 1).val
  let v25 : Index := Scalar.indexCast arg1
  let c0_18 : Index := 0#32
  let c0_19 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c3_i32_0 : BitVec 32 := 3#32
  let c0_i32_1 : BitVec 32 := 0#32
  let c0_i32_2 : BitVec 32 := 0#32
  ![c3_i32_0.toNat, c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Out3RefIdeal.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S8x1x1536 : Shape := ⟨3, ![8, 1, 1536]⟩
abbrev S8x1x512 : Shape := ⟨3, ![8, 1, 512]⟩
abbrev S8x1x2048 : Shape := ⟨3, ![8, 1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8x2048 : Shape := ⟨2, ![8, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x2048, .f32⟩
  | .hbm, ⟨4, _⟩ => ⟨S8x1x1536, .f32⟩
  | .hbm, ⟨5, _⟩ => ⟨S8x1x512, .f32⟩
  | .hbm, ⟨6, _⟩ => ⟨S8x1x2048, .f32⟩
  | .hbm, ⟨7, _⟩ => ⟨S4x2048x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S8192x2048, .f32⟩
  | .hbm, ⟨13, _⟩ => ⟨S8x1x2048, .f32⟩
  | .hbm, ⟨14, _⟩ => ⟨S1x2048x2048, .f32⟩
  | .hbm, ⟨15, _⟩ => ⟨S2048x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Ffn0.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S8192x2048 : Shape := ⟨2, ![8192, 2048]⟩
abbrev S1x2048 : Shape := ⟨2, ![1, 2048]⟩
abbrev S8x2048 : Shape := ⟨2, ![8, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩
abbrev S8 : Shape := ⟨1, ![8]⟩
abbrev S8x1 : Shape := ⟨2, ![8, 1]⟩
abbrev S8x256 : Shape := ⟨2, ![8, 256]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S8x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x2048, .f32⟩
  | .local _ .vmem, ⟨5, _⟩ => ⟨S1x256x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S8x2048, .f32⟩
  | .local _ .vmem, ⟨10, _⟩ => ⟨S1024x2048, .f32⟩
  | .local _ .vmem, ⟨11, _⟩ => ⟨S1024x2048, .f32⟩
  | .local _ .vmem, ⟨12, _⟩ => ⟨S8x2048, .f32⟩
  | .local _ .vmem, ⟨13, _⟩ => ⟨S1024x2048, .bf16⟩
  | .local _ .vmem, ⟨14, _⟩ => ⟨S8x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg0 : BitVec 32 := BitVec.ofNat 32 (i 0).val
  let c0_i32_17 : BitVec 32 := 0#32
  let v24 : BitVec 1 := Scalar.cmpi .eq arg0 c0_i32_17
  let v25 : BitVec 32 := Scalar.extui v24
  let c0_i32_18 : BitVec 32 := 0#32
  let v26 : BitVec 1 := Scalar.cmpi .ne v25 c0_i32_18
  v26

def k0_cond3 (i : grid0.Coords) : BitVec 1 :=
  let arg1 : BitVec 32 := BitVec.ofNat 32 (i 1).val
  let c0_i32_19 : BitVec 32 := 0#32
  let v27 : BitVec 1 := Scalar.cmpi .eq arg1 c0_i32_19
  let v28 : BitVec 32 := Scalar.extui v27
  let c0_i32_20 : BitVec 32 := 0#32
  let v29 : BitVec 1 := Scalar.cmpi .ne v28 c0_i32_20
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Ffn0RefIdeal.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩
abbrev S8x1 : Shape := ⟨2, ![8, 1]⟩
abbrev S8x1x1 : Shape := ⟨3, ![8, 1, 1]⟩
abbrev S8x1x11264 : Shape := ⟨3, ![8, 1, 11264]⟩
abbrev S8x1x5632 : Shape := ⟨3, ![8, 1, 5632]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | .hbm, ⟨44, _⟩ => ⟨S1x2048, .f32⟩
  | .hbm, ⟨45, _⟩ => ⟨S2048, .f32⟩
  | .hbm, ⟨46, _⟩ => ⟨S8x1x2048, .f32⟩
  | .hbm, ⟨47, _⟩ => ⟨S_, .f32⟩
  | .hbm, ⟨48, _⟩ => ⟨S8x1, .f32⟩
  | .hbm, ⟨49, _⟩ => ⟨S8x1x1, .f32⟩
  | .hbm, ⟨50, _⟩ => ⟨S_, .f32⟩
  | .hbm, ⟨51, _⟩ => ⟨S8x1x1, .f32⟩
  | .hbm, ⟨52, _⟩ => ⟨S8x1x1, .f32⟩
  | .hbm, ⟨53, _⟩ => ⟨S_, .f32⟩
  | .hbm, ⟨54, _⟩ => ⟨S8x1x1, .f32⟩
  | .hbm, ⟨55, _⟩ => ⟨S8x1x1, .f32⟩
  | .hbm, ⟨56, _⟩ => ⟨S8x1x1, .f32⟩
  | .hbm, ⟨57, _⟩ => ⟨S8x1x2048, .f32⟩
  | .hbm, ⟨58, _⟩ => ⟨S8x1x2048, .f32⟩
  | .hbm, ⟨59, _⟩ => ⟨S1x1x2048, .f32⟩
  | .hbm, ⟨60, _⟩ => ⟨S8x1x2048, .f32⟩
  | .hbm, ⟨61, _⟩ => ⟨S8x1x2048, .f32⟩
  | .hbm, ⟨62, _⟩ => ⟨S1x2048x11264, .f32⟩
  | .hbm, ⟨63, _⟩ => ⟨S2048x11264, .f32⟩
  | .hbm, ⟨64, _⟩ => ⟨S1x5632x2048, .f32⟩
  | .hbm, ⟨65, _⟩ => ⟨S5632x2048, .f32⟩
  | .hbm, ⟨66, _⟩ => ⟨S8x1x11264, .f32⟩
  | .hbm, ⟨67, _⟩ => ⟨S8x1x5632, .f32⟩
  | .hbm, ⟨68, _⟩ => ⟨S8x1x5632, .f32⟩
  | .hbm, ⟨69, _⟩ => ⟨S8x1x5632, .f32⟩
  | .hbm, ⟨70, _⟩ => ⟨S8x1x5632, .f32⟩
  | .hbm, ⟨71, _⟩ => ⟨S_, .f32⟩
  | .hbm, ⟨72, _⟩ => ⟨S8x1x5632, .f32⟩
  | .hbm, ⟨73, _⟩ => ⟨S8x1x5632, .f32⟩
  | .hbm, ⟨74, _⟩ => ⟨S_, .f32⟩
  | .hbm, ⟨75, _⟩ => ⟨S8x1x5632, .f32⟩
  | .hbm, ⟨76, _⟩ => ⟨S8x1x5632, .f32⟩
  | .hbm, ⟨77, _⟩ => ⟨S8x1x5632, .f32⟩
  | .hbm, ⟨78, _⟩ => ⟨S8x1x5632, .f32⟩
  | .hbm, ⟨79, _⟩ => ⟨S8x1x2048, .f32⟩
  | .hbm, ⟨80, _⟩ => ⟨S8x1x2048, .f32⟩
  | .hbm, ⟨81, _⟩ => ⟨S8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Ffn1.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S8192x2048 : Shape := ⟨2, ![8192, 2048]⟩
abbrev S1x2048 : Shape := ⟨2, ![1, 2048]⟩
abbrev S8x2048 : Shape := ⟨2, ![8, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩
abbrev S8 : Shape := ⟨1, ![8]⟩
abbrev S8x1 : Shape := ⟨2, ![8, 1]⟩
abbrev S8x256 : Shape := ⟨2, ![8, 256]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S8x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x2048, .f32⟩
  | .local _ .vmem, ⟨5, _⟩ => ⟨S1x256x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S8x2048, .f32⟩
  | .local _ .vmem, ⟨10, _⟩ => ⟨S1024x2048, .f32⟩
  | .local _ .vmem, ⟨11, _⟩ => ⟨S1024x2048, .f32⟩
  | .local _ .vmem, ⟨12, _⟩ => ⟨S8x2048, .f32⟩
  | .local _ .vmem, ⟨13, _⟩ => ⟨S1024x2048, .bf16⟩
  | .local _ .vmem, ⟨14, _⟩ => ⟨S8x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg0 : BitVec 32 := BitVec.ofNat 32 (i 0).val
  let c0_i32_17 : BitVec 32 := 0#32
  let v24 : BitVec 1 := Scalar.cmpi .eq arg0 c0_i32_17
  let v25 : BitVec 32 := Scalar.extui v24
  let c0_i32_18 : BitVec 32 := 0#32
  let v26 : BitVec 1 := Scalar.cmpi .ne v25 c0_i32_18
  v26

def k0_cond3 (i : grid0.Coords) : BitVec 1 :=
  let arg1 : BitVec 32 := BitVec.ofNat 32 (i 1).val
  let c0_i32_19 : BitVec 32 := 0#32
  let v27 : BitVec 1 := Scalar.cmpi .eq arg1 c0_i32_19
  let v28 : BitVec 32 := Scalar.extui v27
  let c0_i32_20 : BitVec 32 := 0#32
  let v29 : BitVec 1 := Scalar.cmpi .ne v28 c0_i32_20
  v29

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Ffn1RefIdeal.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩
abbrev S8x1 : Shape := ⟨2, ![8, 1]⟩
abbrev S8x1x1 : Shape := ⟨3, ![8, 1, 1]⟩
abbrev S8x1x11264 : Shape := ⟨3, ![8, 1, 11264]⟩
abbrev S8x1x5632 : Shape := ⟨3, ![8, 1, 5632]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | .hbm, ⟨44, _⟩ => ⟨S1x2048, .f32⟩
  | .hbm, ⟨45, _⟩ => ⟨S2048, .f32⟩
  | .hbm, ⟨46, _⟩ => ⟨S8x1x2048, .f32⟩
  | .hbm, ⟨47, _⟩ => ⟨S_, .f32⟩
  | .hbm, ⟨48, _⟩ => ⟨S8x1, .f32⟩
  | .hbm, ⟨49, _⟩ => ⟨S8x1x1, .f32⟩
  | .hbm, ⟨50, _⟩ => ⟨S_, .f32⟩
  | .hbm, ⟨51, _⟩ => ⟨S8x1x1, .f32⟩
  | .hbm, ⟨52, _⟩ => ⟨S8x1x1, .f32⟩
  | .hbm, ⟨53, _⟩ => ⟨S_, .f32⟩
  | .hbm, ⟨54, _⟩ => ⟨S8x1x1, .f32⟩
  | .hbm, ⟨55, _⟩ => ⟨S8x1x1, .f32⟩
  | .hbm, ⟨56, _⟩ => ⟨S8x1x1, .f32⟩
  | .hbm, ⟨57, _⟩ => ⟨S8x1x2048, .f32⟩
  | .hbm, ⟨58, _⟩ => ⟨S8x1x2048, .f32⟩
  | .hbm, ⟨59, _⟩ => ⟨S1x1x2048, .f32⟩
  | .hbm, ⟨60, _⟩ => ⟨S8x1x2048, .f32⟩
  | .hbm, ⟨61, _⟩ => ⟨S8x1x2048, .f32⟩
  | .hbm, ⟨62, _⟩ => ⟨S1x2048x11264, .f32⟩
  | .hbm, ⟨63, _⟩ => ⟨S2048x11264, .f32⟩
  | .hbm, ⟨64, _⟩ => ⟨S1x5632x2048, .f32⟩
  | .hbm, ⟨65, _⟩ => ⟨S5632x2048, .f32⟩
  | .hbm, ⟨66, _⟩ => ⟨S8x1x11264, .f32⟩
  | .hbm, ⟨67, _⟩ => ⟨S8x1x5632, .f32⟩
  | .hbm, ⟨68, _⟩ => ⟨S8x1x5632, .f32⟩
  | .hbm, ⟨69, _⟩ => ⟨S8x1x5632, .f32⟩
  | .hbm, ⟨70, _⟩ => ⟨S8x1x5632, .f32⟩
  | .hbm, ⟨71, _⟩ => ⟨S_, .f32⟩
  | .hbm, ⟨72, _⟩ => ⟨S8x1x5632, .f32⟩
  | .hbm, ⟨73, _⟩ => ⟨S8x1x5632, .f32⟩
  | .hbm, ⟨74, _⟩ => ⟨S_, .f32⟩
  | .hbm, ⟨75, _⟩ => ⟨S8x1x5632, .f32⟩
  | .hbm, ⟨76, _⟩ => ⟨S8x1x5632, .f32⟩
  | .hbm, ⟨77, _⟩ => ⟨S8x1x5632, .f32⟩
  | .hbm, ⟨78, _⟩ => ⟨S8x1x5632, .f32⟩
  | .hbm, ⟨79, _⟩ => ⟨S8x1x2048, .f32⟩
  | .hbm, ⟨80, _⟩ => ⟨S8x1x2048, .f32⟩
  | .hbm, ⟨81, _⟩ => ⟨S8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Ffn2.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S8192x2048 : Shape := ⟨2, ![8192, 2048]⟩
abbrev S1x2048 : Shape := ⟨2, ![1, 2048]⟩
abbrev S8x2048 : Shape := ⟨2, ![8, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩
abbrev S8 : Shape := ⟨1, ![8]⟩
abbrev S8x1 : Shape := ⟨2, ![8, 1]⟩
abbrev S8x256 : Shape := ⟨2, ![8, 256]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S8x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x2048, .f32⟩
  | .local _ .vmem, ⟨5, _⟩ => ⟨S1x256x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S8x2048, .f32⟩
  | .local _ .vmem, ⟨10, _⟩ => ⟨S1024x2048, .f32⟩
  | .local _ .vmem, ⟨11, _⟩ => ⟨S1024x2048, .f32⟩
  | .local _ .vmem, ⟨12, _⟩ => ⟨S8x2048, .f32⟩
  | .local _ .vmem, ⟨13, _⟩ => ⟨S1024x2048, .bf16⟩
  | .local _ .vmem, ⟨14, _⟩ => ⟨S8x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg0 : BitVec 32 := BitVec.ofNat 32 (i 0).val
  let c0_i32_17 : BitVec 32 := 0#32
  let v24 : BitVec 1 := Scalar.cmpi .eq arg0 c0_i32_17
  let v25 : BitVec 32 := Scalar.extui v24
  let c0_i32_18 : BitVec 32 := 0#32
  let v26 : BitVec 1 := Scalar.cmpi .ne v25 c0_i32_18
  v26

def k0_cond3 (i : grid0.Coords) : BitVec 1 :=
  let arg1 : BitVec 32 := BitVec.ofNat 32 (i 1).val
  let c0_i32_19 : BitVec 32 := 0#32
  let v27 : BitVec 1 := Scalar.cmpi .eq arg1 c0_i32_19
  let v28 : BitVec 32 := Scalar.extui v27
  let c0_i32_20 : BitVec 32 := 0#32
  let v29 : BitVec 1 := Scalar.cmpi .ne v28 c0_i32_20
  v29

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c2_i32 : BitVec 32 := 2#32
  let c0_i32 : BitVec 32 := 0#32
  let c0_i32_0 : BitVec 32 := 0#32
  ![c2_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Ffn2RefIdeal.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩
abbrev S8x1 : Shape := ⟨2, ![8, 1]⟩
abbrev S8x1x1 : Shape := ⟨3, ![8, 1, 1]⟩
abbrev S8x1x11264 : Shape := ⟨3, ![8, 1, 11264]⟩
abbrev S8x1x5632 : Shape := ⟨3, ![8, 1, 5632]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | .hbm, ⟨44, _⟩ => ⟨S1x2048, .f32⟩
  | .hbm, ⟨45, _⟩ => ⟨S2048, .f32⟩
  | .hbm, ⟨46, _⟩ => ⟨S8x1x2048, .f32⟩
  | .hbm, ⟨47, _⟩ => ⟨S_, .f32⟩
  | .hbm, ⟨48, _⟩ => ⟨S8x1, .f32⟩
  | .hbm, ⟨49, _⟩ => ⟨S8x1x1, .f32⟩
  | .hbm, ⟨50, _⟩ => ⟨S_, .f32⟩
  | .hbm, ⟨51, _⟩ => ⟨S8x1x1, .f32⟩
  | .hbm, ⟨52, _⟩ => ⟨S8x1x1, .f32⟩
  | .hbm, ⟨53, _⟩ => ⟨S_, .f32⟩
  | .hbm, ⟨54, _⟩ => ⟨S8x1x1, .f32⟩
  | .hbm, ⟨55, _⟩ => ⟨S8x1x1, .f32⟩
  | .hbm, ⟨56, _⟩ => ⟨S8x1x1, .f32⟩
  | .hbm, ⟨57, _⟩ => ⟨S8x1x2048, .f32⟩
  | .hbm, ⟨58, _⟩ => ⟨S8x1x2048, .f32⟩
  | .hbm, ⟨59, _⟩ => ⟨S1x1x2048, .f32⟩
  | .hbm, ⟨60, _⟩ => ⟨S8x1x2048, .f32⟩
  | .hbm, ⟨61, _⟩ => ⟨S8x1x2048, .f32⟩
  | .hbm, ⟨62, _⟩ => ⟨S1x2048x11264, .f32⟩
  | .hbm, ⟨63, _⟩ => ⟨S2048x11264, .f32⟩
  | .hbm, ⟨64, _⟩ => ⟨S1x5632x2048, .f32⟩
  | .hbm, ⟨65, _⟩ => ⟨S5632x2048, .f32⟩
  | .hbm, ⟨66, _⟩ => ⟨S8x1x11264, .f32⟩
  | .hbm, ⟨67, _⟩ => ⟨S8x1x5632, .f32⟩
  | .hbm, ⟨68, _⟩ => ⟨S8x1x5632, .f32⟩
  | .hbm, ⟨69, _⟩ => ⟨S8x1x5632, .f32⟩
  | .hbm, ⟨70, _⟩ => ⟨S8x1x5632, .f32⟩
  | .hbm, ⟨71, _⟩ => ⟨S_, .f32⟩
  | .hbm, ⟨72, _⟩ => ⟨S8x1x5632, .f32⟩
  | .hbm, ⟨73, _⟩ => ⟨S8x1x5632, .f32⟩
  | .hbm, ⟨74, _⟩ => ⟨S_, .f32⟩
  | .hbm, ⟨75, _⟩ => ⟨S8x1x5632, .f32⟩
  | .hbm, ⟨76, _⟩ => ⟨S8x1x5632, .f32⟩
  | .hbm, ⟨77, _⟩ => ⟨S8x1x5632, .f32⟩
  | .hbm, ⟨78, _⟩ => ⟨S8x1x5632, .f32⟩
  | .hbm, ⟨79, _⟩ => ⟨S8x1x2048, .f32⟩
  | .hbm, ⟨80, _⟩ => ⟨S8x1x2048, .f32⟩
  | .hbm, ⟨81, _⟩ => ⟨S8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Ffn3.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S8192x2048 : Shape := ⟨2, ![8192, 2048]⟩
abbrev S1x2048 : Shape := ⟨2, ![1, 2048]⟩
abbrev S8x2048 : Shape := ⟨2, ![8, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩
abbrev S8 : Shape := ⟨1, ![8]⟩
abbrev S8x1 : Shape := ⟨2, ![8, 1]⟩
abbrev S8x256 : Shape := ⟨2, ![8, 256]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S8x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x2048, .f32⟩
  | .local _ .vmem, ⟨5, _⟩ => ⟨S1x256x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S8x2048, .f32⟩
  | .local _ .vmem, ⟨10, _⟩ => ⟨S1024x2048, .f32⟩
  | .local _ .vmem, ⟨11, _⟩ => ⟨S1024x2048, .f32⟩
  | .local _ .vmem, ⟨12, _⟩ => ⟨S8x2048, .f32⟩
  | .local _ .vmem, ⟨13, _⟩ => ⟨S1024x2048, .bf16⟩
  | .local _ .vmem, ⟨14, _⟩ => ⟨S8x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![8, 22], ![false, false]⟩

def k0_cond3 (i : grid0.Coords) : BitVec 1 :=
  let arg0 : BitVec 32 := BitVec.ofNat 32 (i 0).val
  let c0_i32_18 : BitVec 32 := 0#32
  let v27 : BitVec 1 := Scalar.cmpi .eq arg0 c0_i32_18
  let v28 : BitVec 32 := Scalar.extui v27
  let c0_i32_19 : BitVec 32 := 0#32
  let v29 : BitVec 1 := Scalar.cmpi .ne v28 c0_i32_19
  v29

def k0_cond4 (i : grid0.Coords) : BitVec 1 :=
  let arg1 : BitVec 32 := BitVec.ofNat 32 (i 1).val
  let c0_i32_20 : BitVec 32 := 0#32
  let v30 : BitVec 1 := Scalar.cmpi .eq arg1 c0_i32_20
  let v31 : BitVec 32 := Scalar.extui v30
  let c0_i32_21 : BitVec 32 := 0#32
  let v32 : BitVec 1 := Scalar.cmpi .ne v31 c0_i32_21
  v32

def k0_cond5 (i : grid0.Coords) : BitVec 1 :=
  let arg1 : BitVec 32 := BitVec.ofNat 32 (i 1).val
  let c21_i32_40 : BitVec 32 := 21#32
  let v56 : BitVec 1 := Scalar.cmpi .eq arg1 c21_i32_40
  let v57 : BitVec 32 := Scalar.extui v56
  let c0_i32_41 : BitVec 32 := 0#32
  let v58 : BitVec 1 := Scalar.cmpi .ne v57 c0_i32_41
  v58

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Ffn3RefIdeal.lean ====
abbrev S4x2048x2048 : Shape := ⟨3, ![4, 2048, 2048]⟩
abbrev S8x1x2048 : Shape := ⟨3, ![8, 1, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩
abbrev S8x1 : Shape := ⟨2, ![8, 1]⟩
abbrev S8x1x1 : Shape := ⟨3, ![8, 1, 1]⟩
abbrev S8x1x11264 : Shape := ⟨3, ![8, 1, 11264]⟩
abbrev S8x1x5632 : Shape := ⟨3, ![8, 1, 5632]⟩
abbrev S8x2048 : Shape := ⟨2, ![8, 2048]⟩

abbrev nBuf : Space → Nat
  | .hbm => 114
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x1x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x2048, .f32⟩
  | .hbm, ⟨55, _⟩ => ⟨S4x2048x2048, .f32⟩
  | .hbm, ⟨56, _⟩ => ⟨S1x1x2048, .f32⟩
  | .hbm, ⟨57, _⟩ => ⟨S4x2048x2048, .f32⟩
  | .hbm, ⟨58, _⟩ => ⟨S4x2048x2048, .f32⟩
  | .hbm, ⟨59, _⟩ => ⟨S8192x2048, .f32⟩
  | .hbm, ⟨60, _⟩ => ⟨S1x2048, .f32⟩
  | .hbm, ⟨61, _⟩ => ⟨S2048, .f32⟩
  | .hbm, ⟨62, _⟩ => ⟨S8x1x2048, .f32⟩
  | .hbm, ⟨63, _⟩ => ⟨S_, .f32⟩
  | .hbm, ⟨64, _⟩ => ⟨S8x1, .f32⟩
  | .hbm, ⟨65, _⟩ => ⟨S8x1x1, .f32⟩
  | .hbm, ⟨66, _⟩ => ⟨S_, .f32⟩
  | .hbm, ⟨67, _⟩ => ⟨S8x1x1, .f32⟩
  | .hbm, ⟨68, _⟩ => ⟨S8x1x1, .f32⟩
  | .hbm, ⟨69, _⟩ => ⟨S_, .f32⟩
  | .hbm, ⟨70, _⟩ => ⟨S8x1x1, .f32⟩
  | .hbm, ⟨71, _⟩ => ⟨S8x1x1, .f32⟩
  | .hbm, ⟨72, _⟩ => ⟨S8x1x1, .f32⟩
  | .hbm, ⟨73, _⟩ => ⟨S8x1x2048, .f32⟩
  | .hbm, ⟨74, _⟩ => ⟨S8x1x2048, .f32⟩
  | .hbm, ⟨75, _⟩ => ⟨S1x1x2048, .f32⟩
  | .hbm, ⟨76, _⟩ => ⟨S8x1x2048, .f32⟩
  | .hbm, ⟨77, _⟩ => ⟨S8x1x2048, .f32⟩
  | .hbm, ⟨78, _⟩ => ⟨S1x2048x11264, .f32⟩
  | .hbm, ⟨79, _⟩ => ⟨S2048x11264, .f32⟩
  | .hbm, ⟨80, _⟩ => ⟨S1x5632x2048, .f32⟩
  | .hbm, ⟨81, _⟩ => ⟨S5632x2048, .f32⟩
  | .hbm, ⟨82, _⟩ => ⟨S8x1x11264, .f32⟩
  | .hbm, ⟨83, _⟩ => ⟨S8x1x5632, .f32⟩
  | .hbm, ⟨84, _⟩ => ⟨S8x1x5632, .f32⟩
  | .hbm, ⟨85, _⟩ => ⟨S8x1x5632, .f32⟩
  | .hbm, ⟨86, _⟩ => ⟨S8x1x5632, .f32⟩
  | .hbm, ⟨87, _⟩ => ⟨S_, .f32⟩
  | .hbm, ⟨88, _⟩ => ⟨S8x1x5632, .f32⟩
  | .hbm, ⟨89, _⟩ => ⟨S8x1x5632, .f32⟩
  | .hbm, ⟨90, _⟩ => ⟨S_, .f32⟩
  | .hbm, ⟨91, _⟩ => ⟨S8x1x5632, .f32⟩
  | .hbm, ⟨92, _⟩ => ⟨S8x1x5632, .f32⟩
  | .hbm, ⟨93, _⟩ => ⟨S8x1x5632, .f32⟩
  | .hbm, ⟨94, _⟩ => ⟨S8x1x5632, .f32⟩
  | .hbm, ⟨95, _⟩ => ⟨S8x1x2048, .f32⟩
  | .hbm, ⟨96, _⟩ => ⟨S8x1x2048, .f32⟩
  | .hbm, ⟨97, _⟩ => ⟨S8x1x2048, .f32⟩
  | .hbm, ⟨98, _⟩ => ⟨S_, .f32⟩
  | .hbm, ⟨99, _⟩ => ⟨S8x1, .f32⟩
  | .hbm, ⟨100, _⟩ => ⟨S8x1x1, .f32⟩
  | .hbm, ⟨101, _⟩ => ⟨S_, .f32⟩
  | .hbm, ⟨102, _⟩ => ⟨S8x1x1, .f32⟩
  | .hbm, ⟨103, _⟩ => ⟨S8x1x1, .f32⟩
  | .hbm, ⟨104, _⟩ => ⟨S_, .f32⟩
  | .hbm, ⟨105, _⟩ => ⟨S8x1x1, .f32⟩
  | .hbm, ⟨106, _⟩ => ⟨S8x1x1, .f32⟩
  | .hbm, ⟨107, _⟩ => ⟨S8x1x1, .f32⟩
  | .hbm, ⟨108, _⟩ => ⟨S8x1x2048, .f32⟩
  | .hbm, ⟨109, _⟩ => ⟨S8x1x2048, .f32⟩
  | .hbm, ⟨110, _⟩ => ⟨S1x1x2048, .f32⟩
  | .hbm, ⟨111, _⟩ => ⟨S8x1x2048, .f32⟩
  | .hbm, ⟨112, _⟩ => ⟨S8x1x2048, .f32⟩
  | .hbm, ⟨113, _⟩ => ⟨S8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]
-- ==== MemAttend.lean ====
abbrev S4x2048x2048 : Shape := ⟨3, ![4, 2048, 2048]⟩
abbrev S4x4x256x2x4x128 : Shape := ⟨6, ![4, 4, 256, 2, 4, 128]⟩
abbrev S4096x1024 : Shape := ⟨2, ![4096, 1024]⟩
abbrev S4x2048x512 : Shape := ⟨3, ![4, 2048, 512]⟩
abbrev S1x1024x512 : Shape := ⟨3, ![1, 1024, 512]⟩
abbrev S256x1024 : Shape := ⟨2, ![256, 1024]⟩
abbrev S1x1024x128 : Shape := ⟨3, ![1, 1024, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S4x4x256x2x4x128, .f32⟩
  | .hbm, ⟨2, _⟩ => ⟨S4096x1024, .f32⟩
  | .hbm, ⟨3, _⟩ => ⟨S4x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S256x1024, .f32⟩
  | .local _ .vmem, ⟨3, _⟩ => ⟨S256x1024, .f32⟩
  | .local _ .vmem, ⟨4, _⟩ => ⟨S1x1024x512, .f32⟩
  | .local _ .vmem, ⟨5, _⟩ => ⟨S1x1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttendRefIdeal.lean ====
abbrev S4x2048x2048 : Shape := ⟨3, ![4, 2048, 2048]⟩
abbrev S4x4x256x2x4x128 : Shape := ⟨6, ![4, 4, 256, 2, 4, 128]⟩
abbrev S4x2048x512 : Shape := ⟨3, ![4, 2048, 512]⟩
abbrev S4x2048x4x128 : Shape := ⟨4, ![4, 2048, 4, 128]⟩
abbrev S1x4x256x2x4x128 : Shape := ⟨6, ![1, 4, 256, 2, 4, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x4x256x2x4x128, .f32⟩
  | .hbm, ⟨2, _⟩ => ⟨S4x2048x512, .f32⟩
  | .hbm, ⟨3, _⟩ => ⟨S4x2048x4x128, .f32⟩
  | .hbm, ⟨4, _⟩ => ⟨S1x4x256x2x4x128, .f32⟩
  | .hbm, ⟨5, _⟩ => ⟨S4x256x2x4x128, .f32⟩
  | .hbm, ⟨6, _⟩ => ⟨S4x256x1x4x128, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x256x1x4x128, .f32⟩
  | .hbm, ⟨27, _⟩ => ⟨S4x256x4x128, .f32⟩
  | .hbm, ⟨28, _⟩ => ⟨S4x4x128x2048, .f32⟩
  | .hbm, ⟨29, _⟩ => ⟨S4x2048x4x128, .f32⟩
  | .hbm, ⟨30, _⟩ => ⟨S4x2048x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.InDat0.lean ====
/- The input projection of the first layer: what every buffer holds after every point of the grid, and the run of the whole call. -/
module

public import proofs.«01_k».proof.Proof.Gen.In0Ideal.Frame
public import proofs.«01_k».proof.Proof.Gen.In0Ideal.Skeleton
public import Idealize.ShloMosaic.Lib.VecWindow
public import Idealize.ShloMosaic.Lib.Claim

@[expose] public section

set_option maxRecDepth 16384

noncomputable section

namespace Cert.In0Val

open Cert.In0Ideal Cert.In0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The point is in the first block of rows, as the weights' store asks. -/
abbrev cond0_1 (i : grid0.Coords) : Prop := k0_cond2 i = 1#1
theorem hcond0_1 : ∀ t : Fin cfg0.N, cond0_1 (grid0.coords t) ↔ t.val < 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The point is the first of all, as the normalised samples ask. -/
abbrev cond0_2 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_2 : ∀ t : Fin cfg0.N, cond0_2 (grid0.coords t) ↔ t.val = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_2, e0, e1]
    word_cmp
   : ∀ t : Fin grid0.N, cond0_2 (grid0.coords t) ↔ t.val = 0)

/-- The point is in the first block of rows, as the samples' product asks. -/
abbrev cond0_3 (i : grid0.Coords) : Prop := k0_cond4 i = 1#1
theorem hcond0_3 : ∀ t : Fin cfg0.N, cond0_3 (grid0.coords t) ↔ t.val < 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val < 4)

/-! ## The staging memrefs -/

/-- Each window's staging memref at a point, and that it is a whole buffer. -/
abbrev ms0_0 (t : Fin cfg0.N) : 𝔹 S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S8x2048 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1x2048x512 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S8x512 .f32 := win0_5.stage (cfg0.slots t 5)
abbrev hs0_5 (t : Fin cfg0.N) : (ms0_5 t).IsWhole := hstage0_5 ((cfg0.slots t 5).cast nbuf0_5)
/-- The buffers the call keeps for itself: the normalised prompts, the normalised samples and the weights. -/
abbrev scM0_0 : 𝔹 S1024x2048 .bf16 := Memref.whole cc0_scratch0
abbrev scM0_1 : 𝔹 S8x2048 .f32 := Memref.whole cc0_scratch1
abbrev scM0_2 : 𝔹 S4x2048x512 .bf16 := Memref.whole cc0_scratch2

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d) ∗ (∃ d, owns c.tc scM0_2 fullShare d)) ∗ (∃ r, prngReg c r)) := by
  unfold Pipeline.ΦA; rw [scopedRest0_eq]; simp only [scM0_0, scM0_1, scM0_2, owns_whole]; try rfl

/-! ## Loads and stores, read back -/

section
variable {κ : Kind} {sp : Space} {e : EltTy}
/-- Loading all of a buffer reads it. -/
theorem load_S1024x2048 (v : View sig κ sp S1024x2048 e) (f : v.ty.Contents (Elt F)) (inb) :
    v.readAt (Elt F) (Rect.unit (s := S1024x2048) ![0, 0] ![1024, 2048] inb).toLoadRect f = v.read (Elt F) f := View.readAt_full v f inb
/-- Loading all of a buffer reads it. -/
theorem load_S8x2048 (v : View sig κ sp S8x2048 e) (f : v.ty.Contents (Elt F)) (inb) :
    v.readAt (Elt F) (Rect.unit (s := S8x2048) ![0, 0] ![8, 2048] inb).toLoadRect f = v.read (Elt F) f := View.readAt_full v f inb
/-- Loading all of a buffer reads it. -/
theorem load_S1x2048 (v : View sig κ sp S1x2048 e) (f : v.ty.Contents (Elt F)) (inb) :
    v.readAt (Elt F) (Rect.unit (s := S1x2048) ![0, 0] ![1, 2048] inb).toLoadRect f = v.read (Elt F) f := View.readAt_full v f inb
/-- Loading all of a buffer reads it. -/
theorem load_S1x2048x512 (v : View sig κ sp S1x2048x512 e) (f : v.ty.Contents (Elt F)) (inb) :
    v.readAt (Elt F) (Rect.unit (s := S1x2048x512) ![0, 0, 0] ![1, 2048, 512] inb).toLoadRect f = v.read (Elt F) f := View.readAt_full v f inb
/-- Reading a buffer after a store of all of it gives what was stored. -/
theorem stored_S1024x2048 (v : View sig κ sp S1024x2048 e) (f : v.ty.Contents (Elt F)) (inb) (w : (Rect.unit (s := S1024x2048) ![0, 0] ![1024, 2048] inb).shape.Idx → Elt F e) (L : List (View.Piece (Elt F) S1024x2048 e)) :
    v.read (Elt F) (v.writes (Elt F) f (⟨Rect.unit (s := S1024x2048) ![0, 0] ![1024, 2048] inb, w⟩ :: L)) = w := View.read_writes_full v f inb w L
/-- Reading a buffer after a store of all of it gives what was stored. -/
theorem stored_S8x2048 (v : View sig κ sp S8x2048 e) (f : v.ty.Contents (Elt F)) (inb) (w : (Rect.unit (s := S8x2048) ![0, 0] ![8, 2048] inb).shape.Idx → Elt F e) (L : List (View.Piece (Elt F) S8x2048 e)) :
    v.read (Elt F) (v.writes (Elt F) f (⟨Rect.unit (s := S8x2048) ![0, 0] ![8, 2048] inb, w⟩ :: L)) = w := View.read_writes_full v f inb w L
/-- Reading a buffer after a store of all of it gives what was stored. -/
theorem stored_S1024x512 (v : View sig κ sp S1024x512 e) (f : v.ty.Contents (Elt F)) (inb) (w : (Rect.unit (s := S1024x512) ![0, 0] ![1024, 512] inb).shape.Idx → Elt F e) (L : List (View.Piece (Elt F) S1024x512 e)) :
    v.read (Elt F) (v.writes (Elt F) f (⟨Rect.unit (s := S1024x512) ![0, 0] ![1024, 512] inb, w⟩ :: L)) = w := View.read_writes_full v f inb w L
/-- Reading a buffer after a store of all of it gives what was stored. -/
theorem stored_S8x512 (v : View sig κ sp S8x512 e) (f : v.ty.Contents (Elt F)) (inb) (w : (Rect.unit (s := S8x512) ![0, 0] ![8, 512] inb).shape.Idx → Elt F e) (L : List (View.Piece (Elt F) S8x512 e)) :
    v.read (Elt F) (v.writes (Elt F) f (⟨Rect.unit (s := S8x512) ![0, 0] ![8, 512] inb, w⟩ :: L)) = w := View.read_writes_full v f inb w L
end

/-! ## What the body leaves -/

/-- One block of columns of the weights held, read by the point's offsets; -/
abbrev colsOf (i : grid0.Coords) (W : Vec F S4x2048x512 .bf16) : Vec F S1x2048x512 .bf16 := VecWindow.window W (k0_off2 i) ![1, 2048, 512] (k0_off2_inb i)
/-- and the weights with that block replaced. -/
abbrev colsPut (i : grid0.Coords) (W : Vec F S4x2048x512 .bf16) (w : Vec F S1x2048x512 .bf16) : Vec F S4x2048x512 .bf16 := VecWindow.put W (k0_off2 i) ![1, 2048, 512] w

/-- The body, whatever the labels of the table it stands in: the same text in every layer. -/
def body (Λ : Labels) (i : grid0.Coords) (arg2 : 𝔹 S1024x2048 .f32) (harg2 : arg2.IsWhole) (arg3 : 𝔹 S8x2048 .f32) (harg3 : arg3.IsWhole) (arg4 : 𝔹 S1x2048 .f32) (harg4 : arg4.IsWhole) (arg5 : 𝔹 S1x2048x512 .f32) (harg5 : arg5.IsWhole) (arg6 : 𝔹 S1024x512 .f32) (harg6 : arg6.IsWhole) (arg7 : 𝔹 S8x512 .f32) (harg7 : arg7.IsWhole) (arg8 : 𝔹 S1024x2048 .bf16) (harg8 : arg8.IsWhole) (arg9 : 𝔹 S8x2048 .f32) (harg9 : arg9.IsWhole) (arg10 : 𝔹 S4x2048x512 .bf16) (harg10 : arg10.IsWhole) :
    Prog (TpuEff nD τ sig (Elt F) Λ .tc) PUnit := do
  let arg0 : BitVec 32 := BitVec.ofNat 32 (i 0).val
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v20 : Vec F S1024x2048 .f32 ← Prog.lift (.load arg2 (Rect.unit (s := S1024x2048) ![0, 0] S1024x2048.size inb_S1024x2048_S1024x2048_0_0).toLoadRect (View.loadsAt_vmem h_S1024x2048))
    let v22 : Vec F S1x2048 .f32 ← Prog.lift (.load arg4 (Rect.unit (s := S1x2048) ![0, 0] S1x2048.size inb_S1x2048_S1x2048_0_0).toLoadRect (View.loadsAt_vmem h_S1x2048))

    let v37 : Vec F S1024x2048 .bf16 ← Prog.lift (.load arg8 (Rect.unit (s := S1024x2048) ![0, 0] S1024x2048.size inb_S1024x2048_S1024x2048_0_0).toLoadRect (View.loadsAt_vmem h_S1024x2048))

    Prog.lift (.store arg8 (Rect.unit (s := S1024x2048) ![0, 0] S1024x2048.size inb_S1024x2048_S1024x2048_0_0) (k0_pay1 v20 v22) Finset.univ (View.stores_vmem h_S1024x2048 (harg8.storeExact_slice rfl _ packedbf16_S1024x2048_S1024x2048_0_0) (fun _ => rfl)) (.inl rfl))
    pure ⟨⟩
  else do
    pure ⟨⟩

  if k0_h2 : k0_cond2 i = 1#1 then do
    let v20 : Vec F S1x2048x512 .f32 ← Prog.lift (.load arg5 (Rect.unit (s := S1x2048x512) ![0, 0, 0] S1x2048x512.size inb_S1x2048x512_S1x2048x512_0_0_0).toLoadRect (View.loadsAt_vmem h_S1x2048x512))

    let v24 : Vec F S1x2048x512 .bf16 ← Prog.lift (.load arg10 (Rect.unit (s := S4x2048x512) (k0_off1 i) S1x2048x512.size (k0_off1_inb i k0_h2)).toLoadRect (View.loadsAt_vmem h_S1x2048x512))

    Prog.lift (.store arg10 (Rect.unit (s := S4x2048x512) (k0_off1 i) S1x2048x512.size (k0_off1_inb i k0_h2)) (k0_pay2 v20) Finset.univ (View.stores_vmem h_S1x2048x512 (harg10.storeExact_slice rfl _ (k0_off1_packedbf16 i k0_h2)) (fun _ => rfl)) (.inl rfl))
    pure ⟨⟩
  else do
    pure ⟨⟩
  let v6 : Vec F S1024x2048 .bf16 ← Prog.lift (.load arg8 (Rect.unit (s := S1024x2048) ![0, 0] S1024x2048.size inb_S1024x2048_S1024x2048_0_0).toLoadRect (View.loadsAt_vmem h_S1024x2048))

  let v8 : Vec F S1x2048x512 .bf16 ← Prog.lift (.load arg10 (Rect.unit (s := S4x2048x512) (k0_off2 i) S1x2048x512.size (k0_off2_inb i)).toLoadRect (View.loadsAt_vmem h_S1x2048x512))
  let v11 : Vec F S1024x512 .f32 ← Prog.lift (.load arg6 (Rect.unit (s := S1024x512) ![0, 0] S1024x512.size inb_S1024x512_S1024x512_0_0).toLoadRect (View.loadsAt_vmem h_S1024x512))
  Prog.lift (.store arg6 (Rect.unit (s := S1024x512) ![0, 0] S1024x512.size inb_S1024x512_S1024x512_0_0) (k0_pay3 v6 v8) Finset.univ (View.stores_vmem_bits_univ h_S1024x512 rfl) (.inl rfl))
  let v12 : BitVec 1 := Scalar.cmpi .eq arg0 0#32
  let v13 : BitVec 1 := Scalar.cmpi .eq arg1 0#32
  let v14 : BitVec 1 := Scalar.andi v12 v13
  let v15 : BitVec 32 := Scalar.extui v14
  let v16 : BitVec 1 := Scalar.cmpi .ne v15 0#32
  if k0_h3 : v16 = 1#1 then do
    let v20 : Vec F S8x2048 .f32 ← Prog.lift (.load arg3 (Rect.unit (s := S8x2048) ![0, 0] S8x2048.size inb_S8x2048_S8x2048_0_0).toLoadRect (View.loadsAt_vmem h_S8x2048))
    let v22 : Vec F S1x2048 .f32 ← Prog.lift (.load arg4 (Rect.unit (s := S1x2048) ![0, 0] S1x2048.size inb_S1x2048_S1x2048_0_0).toLoadRect (View.loadsAt_vmem h_S1x2048))

    let v36 : Vec F S8x2048 .f32 ← Prog.lift (.load arg9 (Rect.unit (s := S8x2048) ![0, 0] S8x2048.size inb_S8x2048_S8x2048_0_0).toLoadRect (View.loadsAt_vmem h_S8x2048))

    Prog.lift (.store arg9 (Rect.unit (s := S8x2048) ![0, 0] S8x2048.size inb_S8x2048_S8x2048_0_0) (k0_pay4 v20 v22) Finset.univ (View.stores_vmem_bits_univ h_S8x2048 rfl) (.inl rfl))
    pure ⟨⟩
  else do
    pure ⟨⟩

  if k0_h4 : k0_cond4 i = 1#1 then do
    let v20 : Vec F S8x2048 .f32 ← Prog.lift (.load arg9 (Rect.unit (s := S8x2048) ![0, 0] S8x2048.size inb_S8x2048_S8x2048_0_0).toLoadRect (View.loadsAt_vmem h_S8x2048))

    let v22 : Vec F S1x2048x512 .bf16 ← Prog.lift (.load arg10 (Rect.unit (s := S4x2048x512) (k0_off3 i) S1x2048x512.size (k0_off3_inb i k0_h4)).toLoadRect (View.loadsAt_vmem h_S1x2048x512))
    let v26 : Vec F S8x512 .f32 ← Prog.lift (.load arg7 (Rect.unit (s := S8x512) ![0, 0] S8x512.size inb_S8x512_S8x512_0_0).toLoadRect (View.loadsAt_vmem h_S8x512))
    Prog.lift (.store arg7 (Rect.unit (s := S8x512) ![0, 0] S8x512.size inb_S8x512_S8x512_0_0) (k0_pay5 v20 v22) Finset.univ (View.stores_vmem_bits_univ h_S8x512 rfl) (.inl rfl))
    pure ⟨⟩
  else do
    pure ⟨⟩
  pure ⟨⟩

variable {Λ : Labels} (D : Defs nD τ sig (Elt F) Λ) (c : Dev nD) (i : grid0.Coords) (arg2 : 𝔹 S1024x2048 .f32) (harg2 : arg2.IsWhole) (arg3 : 𝔹 S8x2048 .f32) (harg3 : arg3.IsWhole) (arg4 : 𝔹 S1x2048 .f32) (harg4 : arg4.IsWhole) (arg5 : 𝔹 S1x2048x512 .f32) (harg5 : arg5.IsWhole) (arg6 : 𝔹 S1024x512 .f32) (harg6 : arg6.IsWhole) (arg7 : 𝔹 S8x512 .f32) (harg7 : arg7.IsWhole) (arg8 : 𝔹 S1024x2048 .bf16) (harg8 : arg8.IsWhole) (arg9 : 𝔹 S8x2048 .f32) (harg9 : arg9.IsWhole) (arg10 : 𝔹 S4x2048x512 .bf16) (harg10 : arg10.IsWhole)
  (x0 : Vec F S1024x2048 .f32) (x1 : Vec F S8x2048 .f32) (x2 : Vec F S1x2048 .f32) (x3 : Vec F S1x2048x512 .f32) (y4 : Vec F S1024x512 .f32) (y5 : Vec F S8x512 .f32) (y6 : Vec F S1024x2048 .bf16) (y7 : Vec F S8x2048 .f32) (y8 : Vec F S4x2048x512 .bf16)

/-- The body, called with the windows and its own buffers at the contents given first, leaves them at those given last, the inputs as they were. -/
def Leaves (z4 : Vec F S1024x512 .f32) (z5 : Vec F S8x512 .f32) (z6 : Vec F S1024x2048 .bf16) (z7 : Vec F S8x2048 .f32) (z8 : Vec F S4x2048x512 .bf16) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare y4 ∗ owns c.tc arg7 fullShare y5 ∗ owns c.tc arg8 fullShare y6 ∗ owns c.tc arg9 fullShare y7 ∗ owns c.tc arg10 fullShare y8
        ∗ (iprop(owns c.tc arg2 fullShare x0 ∗ owns c.tc arg3 fullShare x1 ∗ owns c.tc arg4 fullShare x2 ∗ owns c.tc arg5 fullShare x3 ∗ owns c.tc arg6 fullShare z4 ∗ owns c.tc arg7 fullShare z5 ∗ owns c.tc arg8 fullShare z6 ∗ owns c.tc arg9 fullShare z7 ∗ owns c.tc arg10 fullShare z8) -∗ K ⟨⟩))
      ⊢ wp frame (wpE D Variants.none c none) E (body Λ i arg2 harg2 arg3 harg3 arg4 harg4 arg5 harg5 arg6 harg6 arg7 harg7 arg8 harg8 arg9 harg9 arg10 harg10) K

set_option maxHeartbeats 4000000 in
/-- The body at the first point of all. -/
theorem run_A (hc0 : cond0_0 i) (hc1 : cond0_1 i) (hc2 : cond0_2 i) (hc3 : cond0_3 i) :
    Leaves D c i arg2 harg2 arg3 harg3 arg4 harg4 arg5 harg5 arg6 harg6 arg7 harg7 arg8 harg8 arg9 harg9 arg10 harg10 x0 x1 x2 x3 y4 y5 y6 y7 y8 (k0_pay3 (k0_pay1 x0 x2) (k0_pay2 x3)) (k0_pay5 (k0_pay4 x1 x2) (k0_pay2 x3)) (k0_pay1 x0 x2) (k0_pay4 x1 x2) (colsPut i y8 (k0_pay2 x3)) := by
  intro E K
  unfold body owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc3)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left
  · iexists _; isplitr; swap; · iexact H8
    ipureintro; sl_unfold_words; exact (View.read_writes_cons_put _ _ _ _ [] rfl).trans (congrArg₂ (colsPut i) (harg10.read_unread y8) (congrArg k0_pay2 ((load_S1x2048x512 _ _ _).trans (harg5.read_unread x3))))
  all_goals (iexists _; isplitr; rotate_left; iassumption)
  all_goals ipureintro; try sl_unfold_words
  all_goals simp only [load_S1024x2048, load_S8x2048, load_S1x2048, load_S1x2048x512, stored_S1024x2048, stored_S8x2048, stored_S1024x512, stored_S8x512, View.readCov_cons_toLoadRect, *]

set_option maxHeartbeats 4000000 in
/-- The body at a later block of columns, in the first block of rows. -/
theorem run_B (hc0 : ¬cond0_0 i) (hc1 : cond0_1 i) (hc2 : ¬cond0_2 i) (hc3 : cond0_3 i) :
    Leaves D c i arg2 harg2 arg3 harg3 arg4 harg4 arg5 harg5 arg6 harg6 arg7 harg7 arg8 harg8 arg9 harg9 arg10 harg10 x0 x1 x2 x3 y4 y5 y6 y7 y8 (k0_pay3 y6 (k0_pay2 x3)) (k0_pay5 y7 (k0_pay2 x3)) y6 y7 (colsPut i y8 (k0_pay2 x3)) := by
  intro E K
  unfold body owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc3)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left
  · iexists _; isplitr; swap; · iexact H8
    ipureintro; sl_unfold_words; exact (View.read_writes_cons_put _ _ _ _ [] rfl).trans (congrArg₂ (colsPut i) (harg10.read_unread y8) (congrArg k0_pay2 ((load_S1x2048x512 _ _ _).trans (harg5.read_unread x3))))
  all_goals (iexists _; isplitr; rotate_left; iassumption)
  all_goals ipureintro; try sl_unfold_words
  all_goals simp only [load_S1024x2048, load_S8x2048, load_S1x2048, load_S1x2048x512, stored_S1024x2048, stored_S8x2048, stored_S1024x512, stored_S8x512, View.readCov_cons_toLoadRect, *]

set_option maxHeartbeats 4000000 in
/-- The body at the first block of columns, in a later block of rows. -/
theorem run_C (hc0 : cond0_0 i) (hc1 : ¬cond0_1 i) (hc2 : ¬cond0_2 i) (hc3 : ¬cond0_3 i) :
    Leaves D c i arg2 harg2 arg3 harg3 arg4 harg4 arg5 harg5 arg6 harg6 arg7 harg7 arg8 harg8 arg9 harg9 arg10 harg10 x0 x1 x2 x3 y4 y5 y6 y7 y8 (k0_pay3 (k0_pay1 x0 x2) (colsOf i y8)) y5 (k0_pay1 x0 x2) y7 y8 := by
  intro E K
  unfold body owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc3)
  sl_step
  iapply Hk
  isplitl [H0]; rotate_left; isplitl [H1]; rotate_left; isplitl [H2]; rotate_left; isplitl [H3]; rotate_left
  isplitl [H4]
  · iexists _; isplitr; swap; · iexact H4
    ipureintro; sl_unfold_words; simp only [load_S1024x2048, load_S8x2048, load_S1x2048, load_S1x2048x512, stored_S1024x2048, stored_S8x2048, stored_S1024x512, stored_S8x512, View.readCov_cons_toLoadRect, *]
    exact congrArg (k0_pay3 _) (congrArg (colsOf i) (harg10.read_unread y8))
  isplitl [H5]; rotate_left; isplitl [H6]; rotate_left; isplitl [H7]; rotate_left
  all_goals (iexists _; isplitr; rotate_left; iassumption)
  all_goals ipureintro; try sl_unfold_words
  all_goals simp only [load_S1024x2048, load_S8x2048, load_S1x2048, load_S1x2048x512, stored_S1024x2048, stored_S8x2048, stored_S1024x512, stored_S8x512, View.readCov_cons_toLoadRect, *]

set_option maxHeartbeats 4000000 in
/-- The body at a later block of columns, in a later block of rows. -/
theorem run_D (hc0 : ¬cond0_0 i) (hc1 : ¬cond0_1 i) (hc2 : ¬cond0_2 i) (hc3 : ¬cond0_3 i) :
    Leaves D c i arg2 harg2 arg3 harg3 arg4 harg4 arg5 harg5 arg6 harg6 arg7 harg7 arg8 harg8 arg9 harg9 arg10 harg10 x0 x1 x2 x3 y4 y5 y6 y7 y8 (k0_pay3 y6 (colsOf i y8)) y5 y6 y7 y8 := by
  intro E K
  unfold body owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc3)
  sl_step
  iapply Hk
  isplitl [H0]; rotate_left; isplitl [H1]; rotate_left; isplitl [H2]; rotate_left; isplitl [H3]; rotate_left
  isplitl [H4]
  · iexists _; isplitr; swap; · iexact H4
    ipureintro; sl_unfold_words; simp only [load_S1024x2048, load_S8x2048, load_S1x2048, load_S1x2048x512, stored_S1024x2048, stored_S8x2048, stored_S1024x512, stored_S8x512, View.readCov_cons_toLoadRect, *]
    exact congrArg (k0_pay3 _) (congrArg (colsOf i) (harg10.read_unread y8))
  isplitl [H5]; rotate_left; isplitl [H6]; rotate_left; isplitl [H7]; rotate_left
  all_goals (iexists _; isplitr; rotate_left; iassumption)
  all_goals ipureintro; assumption

/-- The call's body is that one. -/
theorem body_eq : cc0_rms_matmul2 (F := F) = body Λ₀ := rfl

/-! ## What the buffers hold after each point -/

theorem lt_N (t : Fin cfg0.N) : t.val < 32 := lt_of_lt_of_eq t.isLt (show cfg0.N = 32 from N_0)

/-- The first point of the point's block of rows; -/
def rowOf (t : Fin cfg0.N) : Fin cfg0.N := ⟨t.val / 4 * 4, by have := t.isLt; omega⟩
/-- the point of the first block of rows with the point's block of columns; -/
def colAt (t : Fin cfg0.N) : Fin cfg0.N := ⟨t.val % 4, by have := t.isLt; omega⟩
/-- the first of all; -/
def origin : Fin cfg0.N := ⟨0, by decide⟩
/-- the last point that touches the sample rows. -/
def smpAt (t : Fin cfg0.N) : Fin cfg0.N := ⟨min t.val 3, by have := t.isLt; omega⟩

/-- The point before. -/
abbrev prev (t : Fin cfg0.N) : Fin cfg0.N := ⟨t.val - 1, Nat.lt_of_le_of_lt (Nat.sub_le _ _) t.isLt⟩

/-- The normalised prompts held after a point: those of its block of rows. -/
def xnAt (c : Dev nD) (t : Fin cfg0.N) : Vec F S1024x2048 .bf16 := k0_pay1 (iblk m c 0 (rowOf t)) (iblk m c 2 (rowOf t))
/-- The normalised samples, from the first point on. -/
def xsnAt (c : Dev nD) : Vec F S8x2048 .f32 := k0_pay4 (iblk m c 1 origin) (iblk m c 2 origin)
/-- The block of columns of the weights a point of the first block of rows stores. -/
def wAt (c : Dev nD) (t : Fin cfg0.N) : Vec F S1x2048x512 .bf16 := k0_pay2 (iblk m c 3 t)
/-- The prompt rows' result at a point. -/
def oAt (c : Dev nD) (t : Fin cfg0.N) : Vec F S1024x512 .f32 := k0_pay3 (xnAt m c t) (wAt m c (colAt t))
/-- The sample rows' result at a point of the first block of rows, kept from there. -/
def osAt (c : Dev nD) (t : Fin cfg0.N) : Vec F S8x512 .f32 := k0_pay5 (xsnAt m c) (wAt m c (smpAt t))

/-- What the call's own buffers are known to hold before point `n`: the normalised prompts of the point before, the normalised samples, and every block of columns stored so far. -/
def Held (c : Dev nD) (n : ℕ) (X : Vec F S1024x2048 .bf16) (S : Vec F S8x2048 .f32) (W : Vec F S4x2048x512 .bf16) : Prop :=
  (∀ t : Fin cfg0.N, t.val + 1 = n → X = xnAt m c t) ∧ (0 < n → S = xsnAt m c) ∧ ∀ t : Fin cfg0.N, t.val < 4 → t.val < n → colsOf (grid0.coords t) W = wAt m c t

/-- A point's offset into the weights is its block of columns. -/
theorem off_eq (t : Fin cfg0.N) : k0_off2 (grid0.coords t) = ![t.val % 4, 0, 0] := by
  have e1 : (grid0.coords t 1).val = t.val / 1 % 4 := Pipeline.Grid.coords_val t 1 (by decide) rfl
  have h : (BitVec.ofNat 32 (t.val / 1 % 4)).toNat = t.val % 4 := by
    rw [BitVec.toNat_ofNat, Nat.div_one]; omega
  unfold k0_off2
  simp only [e1]
  exact congrArg (fun k => ![k, 0, 0]) h

theorem window_off (W : Vec F S4x2048x512 .bf16) (off off' : Fin 3 → ℕ) (h : off = off') (inb inb') :
    VecWindow.window W off ![1, 2048, 512] inb = VecWindow.window W off' ![1, 2048, 512] inb' := by subst h; rfl

theorem cols_same (t : Fin cfg0.N) (W : Vec F S4x2048x512 .bf16) (w : Vec F S1x2048x512 .bf16) :
    colsOf (grid0.coords t) (colsPut (grid0.coords t) W w) = w := VecWindow.window_put_same W _ _ _ w

theorem cols_other (t t' : Fin cfg0.N) (h : t'.val < 4) (ht : t.val < 4) (hne : t' ≠ t) (W : Vec F S4x2048x512 .bf16) (w : Vec F S1x2048x512 .bf16) :
    colsOf (grid0.coords t') (colsPut (grid0.coords t) W w) = colsOf (grid0.coords t') W := by
  refine VecWindow.window_put_of_disjoint W _ _ _ _ _ w (0 : Fin 3) ?_
  rw [off_eq, off_eq]
  have : t'.val ≠ t.val := fun e => hne (Fin.ext e)
  show t'.val % 4 + 1 ≤ t.val % 4 ∨ t.val % 4 + 1 ≤ t'.val % 4
  omega

theorem cols_col (t : Fin cfg0.N) (W : Vec F S4x2048x512 .bf16) : colsOf (grid0.coords t) W = colsOf (grid0.coords (colAt t)) W :=
  window_off W _ _ (by rw [off_eq, off_eq]; show ![t.val % 4, 0, 0] = ![t.val % 4 % 4, 0, 0]; rw [Nat.mod_mod]) _ _

/-- A point of the first block of rows adds its block of columns to what is held. -/
theorem held_put (c : Dev nD) (t : Fin cfg0.N) (h2 : t.val < 4) (X : Vec F S1024x2048 .bf16) (S : Vec F S8x2048 .f32) (W : Vec F S4x2048x512 .bf16) (h : Held m c t.val X S W) :
    Held m c (t.val + 1) (xnAt m c t) (xsnAt m c) (colsPut (grid0.coords t) W (k0_pay2 (iblk m c 3 t))) := by
  refine ⟨fun t' e => by rw [show t' = t from Fin.ext (by omega)], fun _ => rfl, fun t' h4 hn => ?_⟩
  by_cases e : t' = t
  · subst e; exact cols_same t' W _
  · rw [cols_other t t' h4 h2 e]
    exact h.2.2 t' h4 (by have : t'.val ≠ t.val := fun e' => e (Fin.ext e'); omega)

/-- A later one keeps them. -/
theorem held_keep (c : Dev nD) (t : Fin cfg0.N) (h2 : ¬t.val < 4) (X : Vec F S1024x2048 .bf16) (S : Vec F S8x2048 .f32) (W : Vec F S4x2048x512 .bf16) (h : Held m c t.val X S W) :
    Held m c (t.val + 1) (xnAt m c t) (xsnAt m c) W :=
  ⟨fun t' e => by rw [show t' = t from Fin.ext (by omega)], fun _ => rfl, fun t' h4 _ => h.2.2 t' h4 (by omega)⟩

theorem xnAt_first (c : Dev nD) (t : Fin cfg0.N) (h : t.val % 4 = 0) : k0_pay1 (iblk m c 0 t) (iblk m c 2 t) = xnAt m c t := by
  unfold xnAt; rw [show rowOf t = t from Fin.ext (by show t.val / 4 * 4 = t.val; omega)]
theorem xnAt_next (c : Dev nD) (t : Fin cfg0.N) (h : ¬t.val % 4 = 0) (X : Vec F S1024x2048 .bf16) (S : Vec F S8x2048 .f32) (W : Vec F S4x2048x512 .bf16) (hH : Held m c t.val X S W) :
    X = xnAt m c t := by
  rw [hH.1 (prev t) (by show t.val - 1 + 1 = t.val; omega)]
  unfold xnAt
  rw [show rowOf (prev t) = rowOf t from Fin.ext (by show (t.val - 1) / 4 * 4 = t.val / 4 * 4; omega)]
theorem wAt_first (c : Dev nD) (t : Fin cfg0.N) (h : t.val < 4) : k0_pay2 (iblk m c 3 t) = wAt m c (colAt t) := by
  unfold wAt; rw [show colAt t = t from Fin.ext (by show t.val % 4 = t.val; omega)]
theorem wAt_later (c : Dev nD) (t : Fin cfg0.N) (h : ¬t.val < 4) (X : Vec F S1024x2048 .bf16) (S : Vec F S8x2048 .f32) (W : Vec F S4x2048x512 .bf16) (hH : Held m c t.val X S W) :
    colsOf (grid0.coords t) W = wAt m c (colAt t) :=
  (cols_col t W).trans (hH.2.2 (colAt t) (by show t.val % 4 < 4; omega) (by show t.val % 4 < t.val; omega))
theorem osAt_first (c : Dev nD) (t : Fin cfg0.N) (h : t.val < 4) : k0_pay5 (xsnAt m c) (k0_pay2 (iblk m c 3 t)) = osAt m c t := by
  unfold osAt wAt; rw [show smpAt t = t from Fin.ext (by show min t.val 3 = t.val; omega)]
theorem osAt_kept (c : Dev nD) (t : Fin cfg0.N) (h : ¬t.val < 4) : osAt m c (prev t) = osAt m c t := by
  unfold osAt; rw [show smpAt (prev t) = smpAt t from Fin.ext (by show min (t.val - 1) 3 = min t.val 3; omega)]

/-- Every point takes what is held before it to what is held after it, and leaves the closed forms in the result buffers. -/
theorem step (c : Dev nD) (t : Fin cfg0.N) (y4 : Vec F S1024x512 .f32) (y5 : Vec F S8x512 .f32) (h5 : ¬t.val < 4 → y5 = osAt m c t)
    (X : Vec F S1024x2048 .bf16) (S : Vec F S8x2048 .f32) (W : Vec F S4x2048x512 .bf16) (h : Held m c t.val X S W) :
    ∃ W', Held m c (t.val + 1) (xnAt m c t) (xsnAt m c) W' ∧
      Leaves (defs₀ (F := F)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
        (iblk m c 0 t) (iblk m c 1 t) (iblk m c 2 t) (iblk m c 3 t) y4 y5 X S W (oAt m c t) (osAt m c t) (xnAt m c t) (xsnAt m c) W' := by
  by_cases h2 : t.val < 4
  · refine ⟨_, held_put m c t h2 X S W h, ?_⟩
    unfold oAt
    rw [← osAt_first m c t h2, ← wAt_first m c t h2]
    by_cases h0 : t.val % 4 = 0
    · have e : t = origin := Fin.ext (by show t.val = 0; omega)
      rw [← xnAt_first m c t h0, show xsnAt m c = k0_pay4 (iblk m c 1 t) (iblk m c 2 t) from by rw [e]; rfl]
      exact run_A defs₀ c _ _ _ _ _ _ _ _ _ _ _ _ _ _ _ _ _ _ _ _ _ _ _ _ _ _ _ _ ((hcond0_0 t).mpr h0) ((hcond0_1 t).mpr h2) ((hcond0_2 t).mpr (by omega)) ((hcond0_3 t).mpr h2)
    · rw [← xnAt_next m c t h0 X S W h, ← h.2.1 (by omega)]
      exact run_B defs₀ c _ _ _ _ _ _ _ _ _ _ _ _ _ _ _ _ _ _ _ _ _ _ _ _ _ _ _ _ (fun e => h0 ((hcond0_0 t).mp e)) ((hcond0_1 t).mpr h2) (fun e => h0 (by have := (hcond0_2 t).mp e; omega)) ((hcond0_3 t).mpr h2)
  · refine ⟨W, held_keep m c t h2 X S W h, ?_⟩
    unfold oAt
    rw [← h5 h2, ← wAt_later m c t h2 X S W h, ← h.2.1 (by omega)]
    by_cases h0 : t.val % 4 = 0
    · rw [← xnAt_first m c t h0]
      exact run_C defs₀ c _ _ _ _ _ _ _ _ _ _ _ _ _ _ _ _ _ _ _ _ _ _ _ _ _ _ _ _ ((hcond0_0 t).mpr h0) (fun e => h2 ((hcond0_1 t).mp e)) (fun e => h2 (by have := (hcond0_2 t).mp e; omega)) (fun e => h2 ((hcond0_3 t).mp e))
    · rw [← xnAt_next m c t h0 X S W h]
      exact run_D defs₀ c _ _ _ _ _ _ _ _ _ _ _ _ _ _ _ _ _ _ _ _ _ _ _ _ _ _ _ _ (fun e => h0 ((hcond0_0 t).mp e)) (fun e => h2 ((hcond0_1 t).mp e)) (fun e => h0 (by have := (hcond0_2 t).mp e; omega)) (fun e => h2 ((hcond0_3 t).mp e))

/-! ## The proof data -/

/-- The invariant before point `n`. -/
def PhiS (c : Dev nD) (n : ℕ) : sProp 𝕄 :=
  iprop((∃ X, ∃ S, ∃ W, ⌜Held m c n X S W⌝ ∗ owns c.tc scM0_0 fullShare X ∗ owns c.tc scM0_1 fullShare S ∗ owns c.tc scM0_2 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oAt m c t
    | ⟨5, _⟩ => osAt m c t
  Φ t := PhiS m c t.val
  q _ := fullShare
  owed _ := 0

theorem A_eq (c : Dev nD) (w : Fin cfg0.W) : (dats m 0 c).A w = V m c (Pipeline.arrRef spec0 w) := by
  dsimp only [dats]
theorem after0_4 (c : Dev nD) (t : Fin cfg0.N) : (dats m 0 c).after 4 t = oAt m c t := by dsimp only [dats]
theorem after0_5 (c : Dev nD) (t : Fin cfg0.N) : (dats m 0 c).after 5 t = osAt m c t := by dsimp only [dats]

/-- The sample rows' window is touched at the points of the first block of rows only, -/
theorem idle0_5 : ∀ t : Fin cfg0.N, cfg0.idle 5 (grid0.coords t) = !decide (t.val < 4) := by decide +kernel
/-- and written back when its block changes and at the end. -/
theorem flush0_5 : ∀ t : Fin cfg0.N, (cfg0.win 5).flush t = decide (t.val < 3 ∨ t.val = 31) := by decide +kernel

/-- From the second block of rows on the sample rows' buffer is what the last point of the first left. -/
theorem before0_5 (c : Dev nD) : ∀ (n : ℕ) (h : n < cfg0.N) (h0 : ¬n < 4) (d),
    (dats m 0 c).before 5 ⟨n, h⟩ d = osAt m c ⟨n, h⟩ := by
  intro n
  induction n using Nat.strong_induction_on with
  | _ n ih =>
    intro h h0 d
    have hN : n < 32 := lt_of_lt_of_eq h (show cfg0.N = 32 from N_0)
    refine Eq.trans ?_ (osAt_kept m c ⟨n, h⟩ h0)
    rw [(dats m 0 c).before_of_pos 5 ⟨n, h⟩ (by simp only; omega) rfl d,
      if_neg (fun e => absurd ((flush0_5 _).symm.trans e) (by simp only [decide_eq_true_eq]; omega))]
    unfold Dat.left
    by_cases hl : n - 1 < 4
    · rw [show cfg0.idle 5 (cfg0.grid.coords (prev ⟨n, h⟩)) = false from (idle0_5 _).trans (by simp [hl])]
      unfold Dat.kept
      show (cfg0.win 5).fill _ d _ = _
      rw [Pipeline.fill_of_clip_none 5 _ (fun _ => rfl) d ((dats m 0 c).after 5 ⟨n - 1, by omega⟩), Window.fill_cut, after0_5]
    · rw [show cfg0.idle 5 (cfg0.grid.coords (prev ⟨n, h⟩)) = true from (idle0_5 _).trans (by simp [hl])]
      exact ih (n - 1) (by omega) (by omega) hl d

/-- What the body has to leave in the sample rows' buffer: the closed form, at every point. -/
theorem leaves5 (c : Dev nD) (t : Fin cfg0.N) :
    (owns c.tc (ms0_5 t) fullShare (osAt m c t) : sProp 𝕄) ⊢ (dats m 0 c).leavesExact 5 t := by
  have hN := lt_N t
  by_cases hl : t.val < 4
  · unfold Dat.leavesExact
    rw [show cfg0.idle 5 (cfg0.grid.coords t) = false from (idle0_5 t).trans (by simp [hl])]
    dsimp only
    rw [after0_5]
  · by_cases hf : t.val = 31
    · unfold Dat.leavesExact
      rw [show cfg0.idle 5 (cfg0.grid.coords t) = true from (idle0_5 t).trans (by simp [hl]), show (cfg0.win 5).flush t = true from (flush0_5 t).trans (by simp [hf])]
      dsimp only
      rw [after0_5]
    · rw [(dats m 0 c).leavesExact_idle 5 t ((idle0_5 t).trans (by simp [hl])) ((flush0_5 t).trans (by simp; omega))]
      iintro H
      iexists osAt m c t
      rw [before0_5 m c t.val t.isLt hl]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  rw [body_eq]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%X, %S, %W, %hH, HS0, HS1, HS2⟩, Hg⟩, Ho, ⟨%d0, H0⟩, ⟨%d1, H1⟩, ⟨%d2, H2⟩, ⟨%d3, H3⟩, ⟨%d4, H4⟩, ⟨%d5, H5⟩⟩
  obtain ⟨W', hW', hrun⟩ := step m c t ((dats m 0 c).before 4 t d4) ((dats m 0 c).before 5 t d5) (fun h => before0_5 m c t.val t.isLt h d5) X S W hH
  iapply (hrun Set.univ _)
  iframe H0 H1 H2 H3 H4 H5 HS0 HS1 HS2
  iintro ⟨H0, H1, H2, H3, H4, H5, HS0, HS1, HS2⟩
  isplitl [HS0 HS1 HS2 Hg]
  · isplitl [HS0 HS1 HS2]
    · iexists _; iexists _; iexists W'
      isplitr; · ipureintro; exact hW'
      isplitl [HS0]; · iexact HS0
      isplitl [HS1]; · iexact HS1
      iexact HS2
    iexact Hg
  iframe Ho H0 H1 H2 H3 H4
  iapply (leaves5 m c t)
  iexact H5

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%X, HS0⟩, ⟨%S, HS1⟩, ⟨%W, HS2⟩⟩, Hg⟩
      isplitl [HS0 HS1 HS2]
      · iexists X; iexists S; iexists W
        isplitr; · ipureintro; exact ⟨fun _ e => absurd e (by omega), fun e => absurd e (by omega), fun _ _ e => absurd e (by omega)⟩
        isplitl [HS0]; · iexact HS0
        isplitl [HS1]; · iexact HS1
        iexact HS2
      · iexact Hg)
    (hout := fun c => by
      rw [show (dats m 0 c).Φ (Fin.last cfg0.N) = PhiS m c cfg0.N from rfl, PhiA0_eq]
      unfold PhiS
      iintro ⟨⟨%X, %S, %W, -, HS0, HS1, HS2⟩, Hg⟩
      isplitl [HS0 HS1 HS2]
      · isplitl [HS0]
        · iexists _; iexact HS0
        isplitl [HS1]
        · iexists _; iexact HS1
        · iexists _; iexact HS2
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.In0Val

end
-- ==== Proof.FfnMath.lean ====
/- The feed-forward block of a layer, one row at a time, over the extended reals. -/
module

public import Idealize.ShloMosaic.Lib.Pipeline.ValueKit

@[expose] public section

noncomputable section

namespace Cert.Ffn

open Idealize.ShloMosaic

/-- One row normalised by its root mean square and scaled. -/
def nrmRow (x g : Fin 2048 → EReal) (l : Fin 2048) : EReal :=
  x l * Ideal.rsqrt (Ideal.div (∑ k, x k * x k) (Ideal.ofBits .f32 0x45000000#32) + Ideal.ofBits .f32 0x358637BD#32) * g l

/-- One hidden unit: its gate, passed through the sigmoid's product, times its upward half. -/
def hid (n wa wb : Fin 2048 → EReal) : EReal :=
  (∑ k, n k * wa k) * Ideal.logistic (∑ k, n k * wa k) * ∑ k, n k * wb k

/-- What hidden unit `q` adds to column `l` of a row; nothing past the last unit. -/
def unit (x g : Fin 2048 → EReal) (w : Fin 2048 → Fin 11264 → EReal) (d : Fin 5632 → Fin 2048 → EReal) (l : Fin 2048) (q : ℕ) : EReal :=
  if h : q < 5632 then hid (nrmRow x g) (fun k => w k ⟨q, by omega⟩) (fun k => w k ⟨5632 + q, by omega⟩) * d ⟨q, h⟩ l else 0

/-- The row after its first `n` hidden units. -/
def upto (x g : Fin 2048 → EReal) (w : Fin 2048 → Fin 11264 → EReal) (d : Fin 5632 → Fin 2048 → EReal) (l : Fin 2048) (n : ℕ) : EReal :=
  x l + ∑ q ∈ Finset.range n, unit x g w d l q

/-- The row after the whole block: itself plus the sum over all hidden units. -/
def trunk (x g : Fin 2048 → EReal) (w : Fin 2048 → Fin 11264 → EReal) (d : Fin 5632 → Fin 2048 → EReal) (l : Fin 2048) : EReal :=
  x l + ∑ q : Fin 5632, hid (nrmRow x g) (fun k => w k ⟨q.val, by omega⟩) (fun k => w k ⟨5632 + q.val, by omega⟩) * d q l

theorem upto_zero (x g : Fin 2048 → EReal) (w : Fin 2048 → Fin 11264 → EReal) (d : Fin 5632 → Fin 2048 → EReal) (l : Fin 2048) :
    upto x g w d l 0 = x l := by
  unfold upto
  rw [Finset.sum_range_zero, add_zero]

/-- One more tile of 256 hidden units. -/
theorem upto_tile (x g : Fin 2048 → EReal) (w : Fin 2048 → Fin 11264 → EReal) (d : Fin 5632 → Fin 2048 → EReal) (l : Fin 2048) (n : ℕ) :
    upto x g w d l n + ∑ q : Fin 256, unit x g w d l (n + q.val) = upto x g w d l (n + 256) := by
  unfold upto
  rw [add_assoc, Finset.sum_range_add (fun q => unit x g w d l q) n 256, Finset.sum_range fun q => unit x g w d l (n + q)]

/-- All 22 tiles make the whole block. -/
theorem upto_all (x g : Fin 2048 → EReal) (w : Fin 2048 → Fin 11264 → EReal) (d : Fin 5632 → Fin 2048 → EReal) (l : Fin 2048) :
    upto x g w d l 5632 = trunk x g w d l := by
  unfold upto trunk
  rw [Finset.sum_range]
  exact congrArg (x l + ·) (Finset.sum_congr rfl fun q _ => by unfold unit; rw [dif_pos q.isLt])

/-- Equal terms make equal sums. -/
theorem add_sums {a : EReal} {f g : Fin 256 → EReal} (h : ∀ q, f q = g q) : a + ∑ q, f q = a + ∑ q, g q := by
  rw [funext h]

/-- The pattern of one is one. -/
theorem one_bits : Ideal.ofBits .f32 0x3F800000#32 = 1 := by
  show Ideal.ieee 8 23 0x3F800000#32 = 1
  simp [Ideal.ieee]
  rw [← EReal.coe_mul]
  norm_num

end Cert.Ffn

end
-- ==== Proof.InOut0.lean ====
/- The input projection of the first layer: its two results, at an index. -/
module

public import proofs.«01_k».proof.Proof.InDat0
public import proofs.«01_k».proof.Proof.FfnMath

@[expose] public section

set_option maxRecDepth 16384

noncomputable section

namespace Cert.In0Val

open Idealize.ShloMosaic Idealize.ShloMosaic.TcCoe Idealize.SL.Sem
open Idealize.ShloMosaic.Pipeline (Dat)
open Cert.In0Ideal Cert.In0Ideal.Gen Cert.Ffn

/-! ## One point's work, at an index -/

theorem xn_at (x : Vec Ideal S1024x2048 .f32) (g : Vec Ideal S1x2048 .f32) (r : Fin 1024) (l : Fin 2048) :
    k0_pay1 x g (ix2 r l) = nrmRow (fun k => x (ix2 r k)) (fun k => g (ix2 0 k)) l := by
  unfold nrmRow
  pointwise [k0_pay1]
theorem xsn_at (x : Vec Ideal S8x2048 .f32) (g : Vec Ideal S1x2048 .f32) (r : Fin 8) (l : Fin 2048) :
    k0_pay4 x g (ix2 r l) = nrmRow (fun k => x (ix2 r k)) (fun k => g (ix2 0 k)) l := by
  unfold nrmRow
  pointwise [k0_pay4]
theorem cols_at (w : Vec Ideal S1x2048x512 .f32) (k : Fin 2048) (l : Fin 512) : k0_pay2 w (ix3 0 k l) = w (ix3 0 k l) := by
  pointwise [k0_pay2]
theorem o_at (n : Vec Ideal S1024x2048 .bf16) (w : Vec Ideal S1x2048x512 .bf16) (r : Fin 1024) (l : Fin 512) :
    k0_pay3 n w (ix2 r l) = ∑ k : Fin 2048, n (ix2 r k) * w (ix3 0 k l) := by
  pointwise [k0_pay3]
theorem os_at (n : Vec Ideal S8x2048 .f32) (w : Vec Ideal S1x2048x512 .bf16) (r : Fin 8) (l : Fin 512) :
    k0_pay5 n w (ix2 r l) = ∑ k : Fin 2048, n (ix2 r k) * w (ix3 0 k l) := by
  pointwise [k0_pay5]

variable (m : (ℓ : Loc nD τ sig) → Buf (Elt Ideal) ℓ)

/-! ## The arguments, a row at a time -/

/-- Row `r` of the prompts, the batches one after another. -/
def arrX (c : Dev nD) (r : Fin 8192) : Fin 2048 → EReal := fun l => m (c.tc.loc main_arg0) (ix3 ⟨r.val / 2048, by omega⟩ ⟨r.val % 2048, by omega⟩ l)
/-- The same for the samples. -/
def arrXS (c : Dev nD) (r : Fin 8) : Fin 2048 → EReal := fun l => m (c.tc.loc main_arg1) (ix3 r 0 l)
/-- The layer's scale of the normalisation. -/
def arrG (c : Dev nD) : Fin 2048 → EReal := fun k => m (c.tc.loc main_arg2) (ix2 0 k)
/-- The layer's weights. -/
def arrW (c : Dev nD) : Fin 2048 → Fin 2048 → EReal := fun k l => m (c.tc.loc main_arg3) (ix3 0 k l)

/-! ## Where the windows are -/

theorem at0 : ∀ t : Fin cfg0.N, win0_0.index t 0 = t.val / 4 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 ∧ win0_3.index t 2 = min t.val 3 := by decide +kernel
theorem at4 : ∀ t : Fin cfg0.N, win0_4.index t 0 = t.val / 4 ∧ win0_4.index t 1 = t.val % 4 := by decide +kernel
theorem at5 : ∀ t : Fin cfg0.N, win0_5.index t 0 = 0 ∧ win0_5.index t 1 = min t.val 3 := by decide +kernel

/-! ## The blocks -/

/-- The prompts' rows, the batches one after another, under a point's window. -/
theorem rows_at (A : FVec Ideal S4x2048x2048 .f32) (t : Fin cfg0.N) (r : Fin 1024) (l : Fin 2048) :
    shapeCast S8192x2048 A shapeCasts_S4x2048x2048_S8192x2048 (((cfg0.win 0).blk t).view.emb (ix2 r l))
      = A (ix3 ⟨(t.val / 4 * 1024 + r.val) / 2048, by have := lt_N t; omega⟩ ⟨(t.val / 4 * 1024 + r.val) % 2048, by omega⟩ l) := by
  have hN := lt_N t
  have e : ((cfg0.win 0).blk t).view.emb (ix2 r l) = ix2 (⟨t.val / 4 * 1024 + r.val, by omega⟩ : Fin 8192) l := by
    refine funext fun a => Fin.ext ?_
    match a with
    | ⟨0, _⟩ => blk_simp; rw [(at0 t).1]
    | ⟨1, _⟩ => blk_simp; rw [(at0 t).2]; show 0 * 2048 + l.val = l.val; omega
  refine (congrArg (shapeCast S8192x2048 A shapeCasts_S4x2048x2048_S8192x2048) e).trans ?_
  refine shapeCast_apply _ _ _ _ ?_
  rw [Shape.rowMajor_val_two]
  refine (Shape.rowMajor_val_three _).trans ?_
  show ((t.val / 4 * 1024 + r.val) / 2048 * 2048 + (t.val / 4 * 1024 + r.val) % 2048) * 2048 + l.val = (t.val / 4 * 1024 + r.val) * 2048 + l.val
  omega
theorem blk0 (c : Dev nD) (t : Fin cfg0.N) (r : Fin 1024) (l : Fin 2048) :
    iblk m c 0 t (ix2 r l) = arrX m c ⟨t.val / 4 * 1024 + r.val, by have := lt_N t; omega⟩ l := by
  have hN := lt_N t
  unfold iblk arrX
  have hV : V m c (Pipeline.arrRef spec0 0) = shapeCast S8192x2048 (m (c.tc.loc main_arg0)) shapeCasts_S4x2048x2048_S8192x2048 := by
    show StableHlo.after hostOps0 (fun b => m (c, b)) (Proc.tc.devRef main_v0) = _
    after_results
    rfl
  rw [hV]
  exact rows_at _ t r l
theorem blk1 (c : Dev nD) (t : Fin cfg0.N) (r : Fin 8) (l : Fin 2048) : iblk m c 1 t (ix2 r l) = arrXS m c r l := by
  unfold iblk arrXS
  have hV : V m c (Pipeline.arrRef spec0 1) = shapeCast S8x2048 (m (c.tc.loc main_arg1)) shapeCasts_S8x1x2048_S8x2048 := by
    show StableHlo.after hostOps0 (fun b => m (c, b)) (Proc.tc.devRef main_v3) = _
    after_results
    rfl
  rw [hV]
  have e : ((cfg0.win 1).blk t).view.emb (ix2 r l) = ix2 r l := by
    refine funext fun a => Fin.ext ?_
    match a with
    | ⟨0, _⟩ => blk_simp; rw [(at1 t).1]; show 0 * 8 + r.val = r.val; omega
    | ⟨1, _⟩ => blk_simp; rw [(at1 t).2]; show 0 * 2048 + l.val = l.val; omega
  refine (congrArg (shapeCast S8x2048 (m (c.tc.loc main_arg1)) shapeCasts_S8x1x2048_S8x2048) e).trans ?_
  pointwise
theorem blk2 (c : Dev nD) (t : Fin cfg0.N) (l : Fin 2048) : iblk m c 2 t (ix2 0 l) = arrG m c l := by
  unfold iblk arrG
  have hV : V m c (Pipeline.arrRef spec0 2) = shapeCast S1x2048 (shapeCast S2048 (extractStridedSlice S1x2048 ![0, 0] (m (c.tc.loc main_arg2)) slices_S4x2048_S1x2048_0_0) shapeCasts_S1x2048_S2048) shapeCasts_S2048_S1x2048 := by
    show StableHlo.after hostOps0 (fun b => m (c, b)) (Proc.tc.devRef main_v4) = _
    after_results
    rfl
  rw [hV]
  have e : ((cfg0.win 2).blk t).view.emb (ix2 0 l) = ix2 0 l := by
    refine funext fun a => Fin.ext ?_
    match a with
    | ⟨0, _⟩ => blk_simp; rw [(at2 t).1]; rfl
    | ⟨1, _⟩ => blk_simp; rw [(at2 t).2]; show 0 * 2048 + l.val = l.val; omega
  refine (congrArg (shapeCast S1x2048 (shapeCast S2048 (extractStridedSlice S1x2048 ![0, 0] (m (c.tc.loc main_arg2)) slices_S4x2048_S1x2048_0_0) shapeCasts_S1x2048_S2048) shapeCasts_S2048_S1x2048) e).trans ?_
  pointwise
theorem blk3 (c : Dev nD) (t : Fin cfg0.N) (k : Fin 2048) (l : Fin 512) :
    iblk m c 3 t (ix3 0 k l) = arrW m c k ⟨min t.val 3 * 512 + l.val, by omega⟩ := by
  unfold iblk arrW
  rw [show V m c (Pipeline.arrRef spec0 3) = m (c.tc.loc main_arg3) from V_main_arg3 m c]
  refine congrArg (m (c.tc.loc main_arg3)) (funext fun a => Fin.ext ?_)
  match a with
  | ⟨0, _⟩ => blk_simp; rw [(at3 t).1]; rfl
  | ⟨1, _⟩ => blk_simp; rw [(at3 t).2.1]; show 0 * 2048 + k.val = k.val; omega
  | ⟨2, _⟩ => blk_simp; rw [(at3 t).2.2]

/-! ## The buffers, at an index -/

/-- One row projected. -/
def resRow (c : Dev nD) (x : Fin 2048 → EReal) (l : Fin 2048) : EReal := ∑ k, nrmRow x (arrG m c) k * arrW m c k l

theorem oAt_val (c : Dev nD) (t : Fin cfg0.N) (r : Fin 1024) (l : Fin 512) :
    oAt m c t (ix2 r l) = resRow m c (arrX m c ⟨t.val / 4 * 1024 + r.val, by have := lt_N t; omega⟩) ⟨t.val % 4 * 512 + l.val, by omega⟩ := by
  have hN := lt_N t
  unfold oAt resRow
  rw [o_at]
  refine Finset.sum_congr rfl fun k _ => congrArg₂ (· * ·) ?_ ?_
  · unfold xnAt
    rw [xn_at]
    refine congrArg₂ (fun a b => nrmRow a b k) (funext fun q => ?_) (funext fun q => blk2 m c (rowOf t) q)
    refine (blk0 m c (rowOf t) r q).trans (congrArg (fun z => arrX m c z q) (Fin.ext ?_))
    show t.val / 4 * 4 / 4 * 1024 + r.val = t.val / 4 * 1024 + r.val
    omega
  · unfold wAt
    rw [cols_at]
    refine (blk3 m c (colAt t) k l).trans (congrArg (arrW m c k) (Fin.ext ?_))
    show min (t.val % 4) 3 * 512 + l.val = t.val % 4 * 512 + l.val
    omega

theorem osAt_val (c : Dev nD) (t : Fin cfg0.N) (r : Fin 8) (l : Fin 512) :
    osAt m c t (ix2 r l) = resRow m c (arrXS m c r) ⟨min t.val 3 * 512 + l.val, by omega⟩ := by
  unfold osAt resRow
  rw [os_at]
  refine Finset.sum_congr rfl fun k _ => congrArg₂ (· * ·) ?_ ?_
  · unfold xsnAt
    rw [xsn_at]
    exact congrArg₂ (fun a b => nrmRow a b k) (funext fun q => blk1 m c origin r q) (funext fun q => blk2 m c origin q)
  · unfold wAt
    rw [cols_at]
    refine (blk3 m c (smpAt t) k l).trans (congrArg (arrW m c k) (Fin.ext ?_))
    show min (min t.val 3) 3 * 512 + l.val = min t.val 3 * 512 + l.val
    omega

/-! ## The result arrays -/

/-- The prompts' result as a function of its index. -/
def whole0 (c : Dev nD) : FVec Ideal S8192x2048 .f32 := fun y => resRow m c (arrX m c ⟨(y 0).val, (y 0).isLt⟩) ⟨(y 1).val, (y 1).isLt⟩
/-- The samples' result as a function of its index. -/
def whole1 (c : Dev nD) : FVec Ideal S8x2048 .f32 := fun y => resRow m c (arrXS m c ⟨(y 0).val, (y 0).isLt⟩) ⟨(y 1).val, (y 1).isLt⟩

/-- After the run the prompts' array holds the result. -/
theorem arr4 (c : Dev nD) : (dats m 0 c).arrAt 4 cfg0.N = whole0 m c := by
  refine (dats m 0 c).arrAt_eq_of_covers 4 _ (by decide +kernel) fun t hf y => ?_
  have hN := lt_N t
  blk_simp
  rw [after0_4]
  have h0 : (y 0).val < 1024 := (y 0).isLt
  have h1 : (y 1).val < 512 := (y 1).isLt
  have e : (win0_4.blk t).view.emb y = ix2 (⟨t.val / 4 * 1024 + (y 0).val, by omega⟩ : Fin 8192) (⟨t.val % 4 * 512 + (y 1).val, by omega⟩ : Fin 2048) := by
    refine funext fun a => Fin.ext ?_
    match a with
    | ⟨0, _⟩ => blk_simp; rw [(at4 t).1]; rfl
    | ⟨1, _⟩ => blk_simp; rw [(at4 t).2]; rfl
  rw [e]
  refine Eq.trans (congrArg (oAt m c t) ?_) (oAt_val m c t ⟨(y 0).val, h0⟩ ⟨(y 1).val, h1⟩)
  exact funext fun a => match a with | ⟨0, _⟩ => rfl | ⟨1, _⟩ => rfl

/-- After the run the samples' array holds the result. -/
theorem arr5 (c : Dev nD) : (dats m 0 c).arrAt 5 cfg0.N = whole1 m c := by
  refine (dats m 0 c).arrAt_eq_of_covers 5 _ (by decide +kernel) fun t hf y => ?_
  blk_simp
  rw [after0_5]
  have h0 : (y 0).val < 8 := (y 0).isLt
  have h1 : (y 1).val < 512 := (y 1).isLt
  have e : (win0_5.blk t).view.emb y = ix2 (⟨(y 0).val, h0⟩ : Fin 8) (⟨min t.val 3 * 512 + (y 1).val, by omega⟩ : Fin 2048) := by
    refine funext fun a => Fin.ext ?_
    match a with
    | ⟨0, _⟩ => blk_simp; rw [(at5 t).1]; show 0 * 8 + (y 0).val = (y 0).val; omega
    | ⟨1, _⟩ => blk_simp; rw [(at5 t).2]; rfl
  rw [e]
  refine Eq.trans (congrArg (osAt m c t) ?_) (osAt_val m c t ⟨(y 0).val, h0⟩ ⟨(y 1).val, h1⟩)
  exact funext fun a => match a with | ⟨0, _⟩ => rfl | ⟨1, _⟩ => rfl

end Cert.In0Val

end
-- ==== Proof.InRef0.lean ====
/- The reference of the input projection of the first layer, at an index. -/
module

public import proofs.«01_k».proof.Proof.FfnMath
public import proofs.«01_k».proof.Proof.Gen.In0RefIdeal.Read

@[expose] public section

set_option maxRecDepth 16384

noncomputable section

namespace Cert.In0Ref

open Idealize.ShloMosaic Idealize.ShloMosaic.TcCoe Idealize.SL.Sem
open Cert.In0RefIdeal Cert.In0RefIdeal.Read Cert.Ffn

variable (x0 : (⟨S4x2048x2048, .f32⟩ : BufTy).Contents (Elt Ideal)) (x1 : (⟨S8x1x2048, .f32⟩ : BufTy).Contents (Elt Ideal))
  (x2 : (⟨S4x2048, .f32⟩ : BufTy).Contents (Elt Ideal)) (x3 : (⟨S2x2048x2048, .f32⟩ : BufTy).Contents (Elt Ideal))

/-- One row projected. -/
def ent (x : Fin 2048 → EReal) (l : Fin 2048) : EReal := ∑ k, nrmRow x (fun k => x2 (ix2 0 k)) k * x3 (ix3 0 k l)

theorem normX (b : Fin 4) (r : Fin 2048) (k : Fin 2048) : val_main_v14 (F := Ideal) x0 x2 (ix3 b r k) = nrmRow (fun k => x0 (ix3 b r k)) (fun k => x2 (ix2 0 k)) k := by
  unfold nrmRow
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
theorem entX (b : Fin 4) (r : Fin 2048) (l : Fin 2048) : val_main_v17 (F := Ideal) x0 x2 x3 (ix3 b r l) = ent x2 x3 (fun k => x0 (ix3 b r k)) l := by
  have hW : ∀ k, val_main_v16 (F := Ideal) x3 (ix2 k l) = x3 (ix3 0 k l) := fun k => by
    pointwise [val_main_v16, val_main_v15]
  unfold ent
  rw [← Finset.sum_congr rfl fun k _ => congrArg₂ (· * ·) (normX x0 x2 b r k) (hW k)]
  pointwise [val_main_v17]

/-- The reference's prompts, at an index. -/
theorem resX (r : Fin 8192) (l : Fin 2048) : val_main_v36 (F := Ideal) x0 x2 x3 (ix2 r l) = ent x2 x3 (fun k => x0 (ix3 ⟨r.val / 2048, by omega⟩ ⟨r.val % 2048, by omega⟩ k)) l := by
  refine Eq.trans ?_ (entX x0 x2 x3 ⟨r.val / 2048, by omega⟩ ⟨r.val % 2048, by omega⟩ l)
  unfold val_main_v36
  refine shapeCast_apply _ _ _ _ ?_
  rw [Shape.rowMajor_val_two]
  refine (Shape.rowMajor_val_three _).trans ?_
  show (r.val / 2048 * 2048 + r.val % 2048) * 2048 + l.val = r.val * 2048 + l.val
  omega

theorem normS (r : Fin 8) (k : Fin 2048) : val_main_v32 (F := Ideal) x1 x2 (ix3 r 0 k) = nrmRow (fun k => x1 (ix3 r 0 k)) (fun k => x2 (ix2 0 k)) k := by
  unfold nrmRow
  pointwise [val_main_v32, val_main_v31, val_main_v30, val_main_v29, val_main_v28, val_main_v27, val_main_v26, val_main_v25, val_main_cst_4, val_main_v24, val_main_v23, val_main_cst_3, val_main_v22, val_main_v21, val_main_cst_2, val_main_v20, val_main_v19, val_main_v18]

/-- The reference's samples, at an index. -/
theorem resS (r : Fin 8) (l : Fin 2048) : val_main_v37 (F := Ideal) x1 x2 x3 (ix2 r l) = ent x2 x3 (fun k => x1 (ix3 r 0 k)) l := by
  have hW : ∀ k, val_main_v34 (F := Ideal) x3 (ix2 k l) = x3 (ix3 0 k l) := fun k => by
    pointwise [val_main_v34, val_main_v33]
  unfold ent
  rw [← Finset.sum_congr rfl fun k _ => congrArg₂ (· * ·) (normS x1 x2 r k) (hW k)]
  pointwise [val_main_v37, val_main_v35]

end Cert.In0Ref

end
-- ==== Proof.InClaim0.lean ====
/- The claims about the input projection of the first layer. -/
module

public import proofs.«01_k».proof.Defs
public import proofs.«01_k».proof.Proof.InOut0
public import proofs.«01_k».proof.Proof.InRef0
public import proofs.«01_k».proof.Proof.Gen.In0.Frame

@[expose] public section

set_option maxRecDepth 16384

noncomputable section

namespace Cert.In0Proof

open Idealize.ShloMosaic Idealize.ShloMosaic.TcCoe Idealize.SL.Sem

/-- The reference leaves its arguments alone. -/
theorem ref_frame : quiescent_In0RefIdeal := fun m g _ =>
  (θ_run _ _ _).mono (fun r h => ⟨fun c => (h c).2.2, sem_eq_zero_of_no_sems rfl r.2⟩) (In0RefIdeal.Value.run m g)

section

variable {F : FTy → Type} [FloatOps F]

attribute [local instance] In0.Gen.facts In0Ideal.Gen.facts

/-- The two printings of the kernel have the same body. -/
theorem bodies : In0.defs₀ (F := F) = In0Ideal.defs₀ (F := F) := by
  refine congrArg Defs.onTc (funext fun n => funext fun a => ?_)
  match n, a with
  | ⟨0, _⟩, (t, s) => rfl

/-- So they have the same table. -/
theorem tables : In0.defs (F := F) = In0Ideal.defs (F := F) :=
  congrArg (Pipeline.defs (In0Ideal.pcfgs (F := F))) bodies

/-- The kernel leaves its arguments alone: the one run, at the machine's floats. -/
theorem kernel_frame : quiescent_In0 := fun m g _ => by
  have h := In0Val.frame (F := Bits) m g
  rw [← tables] at h
  exact h

end

/-- The kernel over the reals leaves its arguments alone. -/
theorem frame : quiescent_In0Ideal := fun m g _ => In0Val.frame m g

/-- The kernel over the reals computes what the reference does. -/
theorem algebraic : algebraic_In0Ideal_In0RefIdeal := by
  intro m g m' g' _ ha
  refine ⟨fun c => In0Val.whole0 m c, fun c => In0Val.whole1 m c, ?_, ?_⟩
  · exact (θ_run _ _ _).mono (fun r h c => ⟨((h.1.1 c).1 4).trans (In0Val.arr4 m c), ((h.1.1 c).1 5).trans (In0Val.arr5 m c), h.2.1 c⟩)
      (θ_run_and (In0Val.run_main m g) (In0Val.frame m g))
  · refine (θ_run _ _ _).mono (fun r h c => ⟨(h c).1.trans ?_, (h c).2.1.trans ?_, (h c).2.2⟩) (In0RefIdeal.Value.run m' g')
    · rw [In0RefIdeal.Read.val_main_v36_eq, (ha c).1, (ha c).2.2.1, (ha c).2.2.2]
      funext y
      obtain ⟨r, l, rfl⟩ : ∃ (r : Fin 8192) (l : Fin 2048), y = ix2 r l := ⟨y 0, y 1, funext fun a => match a with | ⟨0, _⟩ => rfl | ⟨1, _⟩ => rfl⟩
      exact In0Ref.resX _ _ _ r l
    · rw [In0RefIdeal.Read.val_main_v37_eq, (ha c).2.1, (ha c).2.2.1, (ha c).2.2.2]
      funext y
      obtain ⟨r, l, rfl⟩ : ∃ (r : Fin 8) (l : Fin 2048), y = ix2 r l := ⟨y 0, y 1, funext fun a => match a with | ⟨0, _⟩ => rfl | ⟨1, _⟩ => rfl⟩
      exact In0Ref.resS _ _ _ r l

end Cert.In0Proof

end
-- ==== Proof.InDat1.lean ====
/- The input projection of the second layer: what every buffer holds after every point of the grid, and the run of the whole call. -/
module

public import proofs.«01_k».proof.Proof.Gen.In1Ideal.Frame
public import proofs.«01_k».proof.Proof.Gen.In1Ideal.Skeleton
public import proofs.«01_k».proof.Proof.InDat0

@[expose] public section

set_option maxRecDepth 16384

noncomputable section

namespace Cert.In1Val

open Cert.In1Ideal Cert.In1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := In0Val.hcond0_0

/-- The point is in the first block of rows, as the weights' store asks. -/
abbrev cond0_1 (i : grid0.Coords) : Prop := k0_cond2 i = 1#1
theorem hcond0_1 : ∀ t : Fin cfg0.N, cond0_1 (grid0.coords t) ↔ t.val < 4 := In0Val.hcond0_1

/-- The point is the first of all, as the normalised samples ask. -/
abbrev cond0_2 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_2 : ∀ t : Fin cfg0.N, cond0_2 (grid0.coords t) ↔ t.val = 0 := In0Val.hcond0_2

/-- The point is in the first block of rows, as the samples' product asks. -/
abbrev cond0_3 (i : grid0.Coords) : Prop := k0_cond4 i = 1#1
theorem hcond0_3 : ∀ t : Fin cfg0.N, cond0_3 (grid0.coords t) ↔ t.val < 4 := In0Val.hcond0_3

/-! ## The staging memrefs -/

/-- Each window's staging memref at a point, and that it is a whole buffer. -/
abbrev ms0_0 (t : Fin cfg0.N) : 𝔹 S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S8x2048 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1x2048x512 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S8x512 .f32 := win0_5.stage (cfg0.slots t 5)
abbrev hs0_5 (t : Fin cfg0.N) : (ms0_5 t).IsWhole := hstage0_5 ((cfg0.slots t 5).cast nbuf0_5)
/-- The buffers the call keeps for itself: the normalised prompts, the normalised samples and the weights. -/
abbrev scM0_0 : 𝔹 S1024x2048 .bf16 := Memref.whole cc0_scratch0
abbrev scM0_1 : 𝔹 S8x2048 .f32 := Memref.whole cc0_scratch1
abbrev scM0_2 : 𝔹 S4x2048x512 .bf16 := Memref.whole cc0_scratch2

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d) ∗ (∃ d, owns c.tc scM0_2 fullShare d)) ∗ (∃ r, prngReg c r)) := by
  unfold Pipeline.ΦA; rw [scopedRest0_eq]; simp only [scM0_0, scM0_1, scM0_2, owns_whole]; try rfl

/-! ## What the body leaves -/

/-- One block of columns of the weights held, read by the point's offsets; -/
abbrev colsOf (i : grid0.Coords) (W : Vec F S4x2048x512 .bf16) : Vec F S1x2048x512 .bf16 := VecWindow.window W (k0_off2 i) ![1, 2048, 512] (k0_off2_inb i)
/-- and the weights with that block replaced. -/
abbrev colsPut (i : grid0.Coords) (W : Vec F S4x2048x512 .bf16) (w : Vec F S1x2048x512 .bf16) : Vec F S4x2048x512 .bf16 := VecWindow.put W (k0_off2 i) ![1, 2048, 512] w

variable (c : Dev nD) (i : grid0.Coords) (arg2 : 𝔹 S1024x2048 .f32) (harg2 : arg2.IsWhole) (arg3 : 𝔹 S8x2048 .f32) (harg3 : arg3.IsWhole) (arg4 : 𝔹 S1x2048 .f32) (harg4 : arg4.IsWhole) (arg5 : 𝔹 S1x2048x512 .f32) (harg5 : arg5.IsWhole) (arg6 : 𝔹 S1024x512 .f32) (harg6 : arg6.IsWhole) (arg7 : 𝔹 S8x512 .f32) (harg7 : arg7.IsWhole) (arg8 : 𝔹 S1024x2048 .bf16) (harg8 : arg8.IsWhole) (arg9 : 𝔹 S8x2048 .f32) (harg9 : arg9.IsWhole) (arg10 : 𝔹 S4x2048x512 .bf16) (harg10 : arg10.IsWhole)
  (x0 : Vec F S1024x2048 .f32) (x1 : Vec F S8x2048 .f32) (x2 : Vec F S1x2048 .f32) (x3 : Vec F S1x2048x512 .f32) (y4 : Vec F S1024x512 .f32) (y5 : Vec F S8x512 .f32) (y6 : Vec F S1024x2048 .bf16) (y7 : Vec F S8x2048 .f32) (y8 : Vec F S4x2048x512 .bf16)

/-- The body, called with the windows and its own buffers at the contents given first, leaves them at those given last, the inputs as they were. -/
def Leaves (z4 : Vec F S1024x512 .f32) (z5 : Vec F S8x512 .f32) (z6 : Vec F S1024x2048 .bf16) (z7 : Vec F S8x2048 .f32) (z8 : Vec F S4x2048x512 .bf16) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare y4 ∗ owns c.tc arg7 fullShare y5 ∗ owns c.tc arg8 fullShare y6 ∗ owns c.tc arg9 fullShare y7 ∗ owns c.tc arg10 fullShare y8
        ∗ (iprop(owns c.tc arg2 fullShare x0 ∗ owns c.tc arg3 fullShare x1 ∗ owns c.tc arg4 fullShare x2 ∗ owns c.tc arg5 fullShare x3 ∗ owns c.tc arg6 fullShare z4 ∗ owns c.tc arg7 fullShare z5 ∗ owns c.tc arg8 fullShare z6 ∗ owns c.tc arg9 fullShare z7 ∗ owns c.tc arg10 fullShare z8) -∗ K ⟨⟩))
      ⊢ wp frame (wpE (defs₀ (F := F)) Variants.none c none) E (cc0_rms_matmul2 i arg2 harg2 arg3 harg3 arg4 harg4 arg5 harg5 arg6 harg6 arg7 harg7 arg8 harg8 arg9 harg9 arg10 harg10) K

/-- The body is the one of layer 0; -/
theorem body_eq : cc0_rms_matmul2 (F := F) = In0Val.body Λ₀ := rfl
/-- so it leaves what that one leaves. -/
theorem Leaves_eq : @Leaves F _ = In0Val.Leaves (defs₀ (F := F)) := by
  unfold Leaves In0Val.Leaves
  rw [body_eq]
  rfl

/-! ## What the buffers hold after each point -/

theorem lt_N (t : Fin cfg0.N) : t.val < 32 := lt_of_lt_of_eq t.isLt (show cfg0.N = 32 from N_0)

/-- The first point of the point's block of rows; -/
def rowOf (t : Fin cfg0.N) : Fin cfg0.N := ⟨t.val / 4 * 4, by have := t.isLt; omega⟩
/-- the point of the first block of rows with the point's block of columns; -/
def colAt (t : Fin cfg0.N) : Fin cfg0.N := ⟨t.val % 4, by have := t.isLt; omega⟩
/-- the first of all; -/
def origin : Fin cfg0.N := ⟨0, by decide⟩
/-- the last point that touches the sample rows. -/
def smpAt (t : Fin cfg0.N) : Fin cfg0.N := ⟨min t.val 3, by have := t.isLt; omega⟩

/-- The point before. -/
abbrev prev (t : Fin cfg0.N) : Fin cfg0.N := ⟨t.val - 1, Nat.lt_of_le_of_lt (Nat.sub_le _ _) t.isLt⟩

/-- The normalised prompts held after a point: those of its block of rows. -/
def xnAt (c : Dev nD) (t : Fin cfg0.N) : Vec F S1024x2048 .bf16 := k0_pay1 (iblk m c 0 (rowOf t)) (iblk m c 2 (rowOf t))
/-- The normalised samples, from the first point on. -/
def xsnAt (c : Dev nD) : Vec F S8x2048 .f32 := k0_pay4 (iblk m c 1 origin) (iblk m c 2 origin)
/-- The block of columns of the weights a point of the first block of rows stores. -/
def wAt (c : Dev nD) (t : Fin cfg0.N) : Vec F S1x2048x512 .bf16 := k0_pay2 (iblk m c 3 t)
/-- The prompt rows' result at a point. -/
def oAt (c : Dev nD) (t : Fin cfg0.N) : Vec F S1024x512 .f32 := k0_pay3 (xnAt m c t) (wAt m c (colAt t))
/-- The sample rows' result at a point of the first block of rows, kept from there. -/
def osAt (c : Dev nD) (t : Fin cfg0.N) : Vec F S8x512 .f32 := k0_pay5 (xsnAt m c) (wAt m c (smpAt t))

/-- What the call's own buffers are known to hold before point `n`: the normalised prompts of the point before, the normalised samples, and every block of columns stored so far. -/
def Held (c : Dev nD) (n : ℕ) (X : Vec F S1024x2048 .bf16) (S : Vec F S8x2048 .f32) (W : Vec F S4x2048x512 .bf16) : Prop :=
  (∀ t : Fin cfg0.N, t.val + 1 = n → X = xnAt m c t) ∧ (0 < n → S = xsnAt m c) ∧ ∀ t : Fin cfg0.N, t.val < 4 → t.val < n → colsOf (grid0.coords t) W = wAt m c t

/-- A point's offset into the weights is its block of columns. -/
theorem off_eq (t : Fin cfg0.N) : k0_off2 (grid0.coords t) = ![t.val % 4, 0, 0] := In0Val.off_eq t

theorem window_off (W : Vec F S4x2048x512 .bf16) (off off' : Fin 3 → ℕ) (h : off = off') (inb inb') :
    VecWindow.window W off ![1, 2048, 512] inb = VecWindow.window W off' ![1, 2048, 512] inb' := by subst h; rfl

theorem cols_same (t : Fin cfg0.N) (W : Vec F S4x2048x512 .bf16) (w : Vec F S1x2048x512 .bf16) :
    colsOf (grid0.coords t) (colsPut (grid0.coords t) W w) = w := VecWindow.window_put_same W _ _ _ w

theorem cols_other (t t' : Fin cfg0.N) (h : t'.val < 4) (ht : t.val < 4) (hne : t' ≠ t) (W : Vec F S4x2048x512 .bf16) (w : Vec F S1x2048x512 .bf16) :
    colsOf (grid0.coords t') (colsPut (grid0.coords t) W w) = colsOf (grid0.coords t') W := In0Val.cols_other t t' h ht hne W w

theorem cols_col (t : Fin cfg0.N) (W : Vec F S4x2048x512 .bf16) : colsOf (grid0.coords t) W = colsOf (grid0.coords (colAt t)) W :=
  window_off W _ _ (by rw [off_eq, off_eq]; show ![t.val % 4, 0, 0] = ![t.val % 4 % 4, 0, 0]; rw [Nat.mod_mod]) _ _

/-- A point of the first block of rows adds its block of columns to what is held. -/
theorem held_put (c : Dev nD) (t : Fin cfg0.N) (h2 : t.val < 4) (X : Vec F S1024x2048 .bf16) (S : Vec F S8x2048 .f32) (W : Vec F S4x2048x512 .bf16) (h : Held m c t.val X S W) :
    Held m c (t.val + 1) (xnAt m c t) (xsnAt m c) (colsPut (grid0.coords t) W (k0_pay2 (iblk m c 3 t))) := by
  refine ⟨fun t' e => by rw [show t' = t from Fin.ext (by omega)], fun _ => rfl, fun t' h4 hn => ?_⟩
  by_cases e : t' = t
  · subst e; exact cols_same t' W _
  · rw [cols_other t t' h4 h2 e]
    exact h.2.2 t' h4 (by have : t'.val ≠ t.val := fun e' => e (Fin.ext e'); omega)

/-- A later one keeps them. -/
theorem held_keep (c : Dev nD) (t : Fin cfg0.N) (h2 : ¬t.val < 4) (X : Vec F S1024x2048 .bf16) (S : Vec F S8x2048 .f32) (W : Vec F S4x2048x512 .bf16) (h : Held m c t.val X S W) :
    Held m c (t.val + 1) (xnAt m c t) (xsnAt m c) W :=
  ⟨fun t' e => by rw [show t' = t from Fin.ext (by omega)], fun _ => rfl, fun t' h4 _ => h.2.2 t' h4 (by omega)⟩

theorem xnAt_first (c : Dev nD) (t : Fin cfg0.N) (h : t.val % 4 = 0) : k0_pay1 (iblk m c 0 t) (iblk m c 2 t) = xnAt m c t := by
  unfold xnAt; rw [show rowOf t = t from Fin.ext (by show t.val / 4 * 4 = t.val; omega)]
theorem xnAt_next (c : Dev nD) (t : Fin cfg0.N) (h : ¬t.val % 4 = 0) (X : Vec F S1024x2048 .bf16) (S : Vec F S8x2048 .f32) (W : Vec F S4x2048x512 .bf16) (hH : Held m c t.val X S W) :
    X = xnAt m c t := by
  rw [hH.1 (prev t) (by show t.val - 1 + 1 = t.val; omega)]
  unfold xnAt
  rw [show rowOf (prev t) = rowOf t from Fin.ext (by show (t.val - 1) / 4 * 4 = t.val / 4 * 4; omega)]
theorem wAt_first (c : Dev nD) (t : Fin cfg0.N) (h : t.val < 4) : k0_pay2 (iblk m c 3 t) = wAt m c (colAt t) := by
  unfold wAt; rw [show colAt t = t from Fin.ext (by show t.val % 4 = t.val; omega)]
theorem wAt_later (c : Dev nD) (t : Fin cfg0.N) (h : ¬t.val < 4) (X : Vec F S1024x2048 .bf16) (S : Vec F S8x2048 .f32) (W : Vec F S4x2048x512 .bf16) (hH : Held m c t.val X S W) :
    colsOf (grid0.coords t) W = wAt m c (colAt t) :=
  (cols_col t W).trans (hH.2.2 (colAt t) (by show t.val % 4 < 4; omega) (by show t.val % 4 < t.val; omega))
theorem osAt_first (c : Dev nD) (t : Fin cfg0.N) (h : t.val < 4) : k0_pay5 (xsnAt m c) (k0_pay2 (iblk m c 3 t)) = osAt m c t := by
  unfold osAt wAt; rw [show smpAt t = t from Fin.ext (by show min t.val 3 = t.val; omega)]
theorem osAt_kept (c : Dev nD) (t : Fin cfg0.N) (h : ¬t.val < 4) : osAt m c (prev t) = osAt m c t := by
  unfold osAt; rw [show smpAt (prev t) = smpAt t from Fin.ext (by show min (t.val - 1) 3 = min t.val 3; omega)]

/-- Every point takes what is held before it to what is held after it, and leaves the closed forms in the result buffers. -/
theorem step (c : Dev nD) (t : Fin cfg0.N) (y4 : Vec F S1024x512 .f32) (y5 : Vec F S8x512 .f32) (h5 : ¬t.val < 4 → y5 = osAt m c t)
    (X : Vec F S1024x2048 .bf16) (S : Vec F S8x2048 .f32) (W : Vec F S4x2048x512 .bf16) (h : Held m c t.val X S W) :
    ∃ W', Held m c (t.val + 1) (xnAt m c t) (xsnAt m c) W' ∧
      Leaves c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
        (iblk m c 0 t) (iblk m c 1 t) (iblk m c 2 t) (iblk m c 3 t) y4 y5 X S W (oAt m c t) (osAt m c t) (xnAt m c t) (xsnAt m c) W' := by
  by_cases h2 : t.val < 4
  · refine ⟨_, held_put m c t h2 X S W h, ?_⟩
    unfold oAt
    rw [← osAt_first m c t h2, ← wAt_first m c t h2]
    by_cases h0 : t.val % 4 = 0
    · have e : t = origin := Fin.ext (by show t.val = 0; omega)
      rw [← xnAt_first m c t h0, show xsnAt m c = k0_pay4 (iblk m c 1 t) (iblk m c 2 t) from by rw [e]; rfl]
      rw [Leaves_eq]; exact In0Val.run_A defs₀ c _ _ _ _ _ _ _ _ _ _ _ _ _ _ _ _ _ _ _ _ _ _ _ _ _ _ _ _ ((hcond0_0 t).mpr h0) ((hcond0_1 t).mpr h2) ((hcond0_2 t).mpr (by omega)) ((hcond0_3 t).mpr h2)
    · rw [← xnAt_next m c t h0 X S W h, ← h.2.1 (by omega)]
      rw [Leaves_eq]; exact In0Val.run_B defs₀ c _ _ _ _ _ _ _ _ _ _ _ _ _ _ _ _ _ _ _ _ _ _ _ _ _ _ _ _ (fun e => h0 ((hcond0_0 t).mp e)) ((hcond0_1 t).mpr h2) (fun e => h0 (by have := (hcond0_2 t).mp e; omega)) ((hcond0_3 t).mpr h2)
  · refine ⟨W, held_keep m c t h2 X S W h, ?_⟩
    unfold oAt
    rw [← h5 h2, ← wAt_later m c t h2 X S W h, ← h.2.1 (by omega)]
    by_cases h0 : t.val % 4 = 0
    · rw [← xnAt_first m c t h0]
      rw [Leaves_eq]; exact In0Val.run_C defs₀ c _ _ _ _ _ _ _ _ _ _ _ _ _ _ _ _ _ _ _ _ _ _ _ _ _ _ _ _ ((hcond0_0 t).mpr h0) (fun e => h2 ((hcond0_1 t).mp e)) (fun e => h2 (by have := (hcond0_2 t).mp e; omega)) (fun e => h2 ((hcond0_3 t).mp e))
    · rw [← xnAt_next m c t h0 X S W h]
      rw [Leaves_eq]; exact In0Val.run_D defs₀ c _ _ _ _ _ _ _ _ _ _ _ _ _ _ _ _ _ _ _ _ _ _ _ _ _ _ _ _ (fun e => h0 ((hcond0_0 t).mp e)) (fun e => h2 ((hcond0_1 t).mp e)) (fun e => h0 (by have := (hcond0_2 t).mp e; omega)) (fun e => h2 ((hcond0_3 t).mp e))

/-! ## The proof data -/

/-- The invariant before point `n`. -/
def PhiS (c : Dev nD) (n : ℕ) : sProp 𝕄 :=
  iprop((∃ X, ∃ S, ∃ W, ⌜Held m c n X S W⌝ ∗ owns c.tc scM0_0 fullShare X ∗ owns c.tc scM0_1 fullShare S ∗ owns c.tc scM0_2 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oAt m c t
    | ⟨5, _⟩ => osAt m c t
  Φ t := PhiS m c t.val
  q _ := fullShare
  owed _ := 0

theorem A_eq (c : Dev nD) (w : Fin cfg0.W) : (dats m 0 c).A w = V m c (Pipeline.arrRef spec0 w) := by
  dsimp only [dats]
theorem after0_4 (c : Dev nD) (t : Fin cfg0.N) : (dats m 0 c).after 4 t = oAt m c t := by dsimp only [dats]
theorem after0_5 (c : Dev nD) (t : Fin cfg0.N) : (dats m 0 c).after 5 t = osAt m c t := by dsimp only [dats]

/-- The sample rows' window is touched at the points of the first block of rows only, -/
theorem idle0_5 : ∀ t : Fin cfg0.N, cfg0.idle 5 (grid0.coords t) = !decide (t.val < 4) := by decide +kernel
/-- and written back when its block changes and at the end. -/
theorem flush0_5 : ∀ t : Fin cfg0.N, (cfg0.win 5).flush t = decide (t.val < 3 ∨ t.val = 31) := by decide +kernel

/-- From the second block of rows on the sample rows' buffer is what the last point of the first left. -/
theorem before0_5 (c : Dev nD) : ∀ (n : ℕ) (h : n < cfg0.N) (h0 : ¬n < 4) (d),
    (dats m 0 c).before 5 ⟨n, h⟩ d = osAt m c ⟨n, h⟩ := by
  intro n
  induction n using Nat.strong_induction_on with
  | _ n ih =>
    intro h h0 d
    have hN : n < 32 := lt_of_lt_of_eq h (show cfg0.N = 32 from N_0)
    refine Eq.trans ?_ (osAt_kept m c ⟨n, h⟩ h0)
    rw [(dats m 0 c).before_of_pos 5 ⟨n, h⟩ (by simp only; omega) rfl d,
      if_neg (fun e => absurd ((flush0_5 _).symm.trans e) (by simp only [decide_eq_true_eq]; omega))]
    unfold Dat.left
    by_cases hl : n - 1 < 4
    · rw [show cfg0.idle 5 (cfg0.grid.coords (prev ⟨n, h⟩)) = false from (idle0_5 _).trans (by simp [hl])]
      unfold Dat.kept
      show (cfg0.win 5).fill _ d _ = _
      rw [Pipeline.fill_of_clip_none 5 _ (fun _ => rfl) d ((dats m 0 c).after 5 ⟨n - 1, by omega⟩), Window.fill_cut, after0_5]
    · rw [show cfg0.idle 5 (cfg0.grid.coords (prev ⟨n, h⟩)) = true from (idle0_5 _).trans (by simp [hl])]
      exact ih (n - 1) (by omega) (by omega) hl d

/-- What the body has to leave in the sample rows' buffer: the closed form, at every point. -/
theorem leaves5 (c : Dev nD) (t : Fin cfg0.N) :
    (owns c.tc (ms0_5 t) fullShare (osAt m c t) : sProp 𝕄) ⊢ (dats m 0 c).leavesExact 5 t := by
  have hN := lt_N t
  by_cases hl : t.val < 4
  · unfold Dat.leavesExact
    rw [show cfg0.idle 5 (cfg0.grid.coords t) = false from (idle0_5 t).trans (by simp [hl])]
    dsimp only
    rw [after0_5]
  · by_cases hf : t.val = 31
    · unfold Dat.leavesExact
      rw [show cfg0.idle 5 (cfg0.grid.coords t) = true from (idle0_5 t).trans (by simp [hl]), show (cfg0.win 5).flush t = true from (flush0_5 t).trans (by simp [hf])]
      dsimp only
      rw [after0_5]
    · rw [(dats m 0 c).leavesExact_idle 5 t ((idle0_5 t).trans (by simp [hl])) ((flush0_5 t).trans (by simp; omega))]
      iintro H
      iexists osAt m c t
      rw [before0_5 m c t.val t.isLt hl]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%X, %S, %W, %hH, HS0, HS1, HS2⟩, Hg⟩, Ho, ⟨%d0, H0⟩, ⟨%d1, H1⟩, ⟨%d2, H2⟩, ⟨%d3, H3⟩, ⟨%d4, H4⟩, ⟨%d5, H5⟩⟩
  obtain ⟨W', hW', hrun⟩ := step m c t ((dats m 0 c).before 4 t d4) ((dats m 0 c).before 5 t d5) (fun h => before0_5 m c t.val t.isLt h d5) X S W hH
  iapply (hrun Set.univ _)
  iframe H0 H1 H2 H3 H4 H5 HS0 HS1 HS2
  iintro ⟨H0, H1, H2, H3, H4, H5, HS0, HS1, HS2⟩
  isplitl [HS0 HS1 HS2 Hg]
  · isplitl [HS0 HS1 HS2]
    · iexists _; iexists _; iexists W'
      isplitr; · ipureintro; exact hW'
      isplitl [HS0]; · iexact HS0
      isplitl [HS1]; · iexact HS1
      iexact HS2
    iexact Hg
  iframe Ho H0 H1 H2 H3 H4
  iapply (leaves5 m c t)
  iexact H5

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%X, HS0⟩, ⟨%S, HS1⟩, ⟨%W, HS2⟩⟩, Hg⟩
      isplitl [HS0 HS1 HS2]
      · iexists X; iexists S; iexists W
        isplitr; · ipureintro; exact ⟨fun _ e => absurd e (by omega), fun e => absurd e (by omega), fun _ _ e => absurd e (by omega)⟩
        isplitl [HS0]; · iexact HS0
        isplitl [HS1]; · iexact HS1
        iexact HS2
      · iexact Hg)
    (hout := fun c => by
      rw [show (dats m 0 c).Φ (Fin.last cfg0.N) = PhiS m c cfg0.N from rfl, PhiA0_eq]
      unfold PhiS
      iintro ⟨⟨%X, %S, %W, -, HS0, HS1, HS2⟩, Hg⟩
      isplitl [HS0 HS1 HS2]
      · isplitl [HS0]
        · iexists _; iexact HS0
        isplitl [HS1]
        · iexists _; iexact HS1
        · iexists _; iexact HS2
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.In1Val

end
-- ==== Proof.InOut1.lean ====
/- The input projection of the second layer: its two results, at an index. -/
module

public import proofs.«01_k».proof.Proof.InDat1
public import proofs.«01_k».proof.Proof.InOut0

@[expose] public section

set_option maxRecDepth 16384

noncomputable section

namespace Cert.In1Val

open Idealize.ShloMosaic Idealize.ShloMosaic.TcCoe Idealize.SL.Sem
open Idealize.ShloMosaic.Pipeline (Dat)
open Cert.In1Ideal Cert.In1Ideal.Gen Cert.Ffn

/-! ## One point's work, at an index -/

theorem xn_at (x : Vec Ideal S1024x2048 .f32) (g : Vec Ideal S1x2048 .f32) (r : Fin 1024) (l : Fin 2048) :
    k0_pay1 x g (ix2 r l) = nrmRow (fun k => x (ix2 r k)) (fun k => g (ix2 0 k)) l :=
  In0Val.xn_at x g r l
theorem xsn_at (x : Vec Ideal S8x2048 .f32) (g : Vec Ideal S1x2048 .f32) (r : Fin 8) (l : Fin 2048) :
    k0_pay4 x g (ix2 r l) = nrmRow (fun k => x (ix2 r k)) (fun k => g (ix2 0 k)) l :=
  In0Val.xsn_at x g r l
theorem cols_at (w : Vec Ideal S1x2048x512 .f32) (k : Fin 2048) (l : Fin 512) : k0_pay2 w (ix3 0 k l) = w (ix3 0 k l) :=
  In0Val.cols_at w k l
theorem o_at (n : Vec Ideal S1024x2048 .bf16) (w : Vec Ideal S1x2048x512 .bf16) (r : Fin 1024) (l : Fin 512) :
    k0_pay3 n w (ix2 r l) = ∑ k : Fin 2048, n (ix2 r k) * w (ix3 0 k l) :=
  In0Val.o_at n w r l
theorem os_at (n : Vec Ideal S8x2048 .f32) (w : Vec Ideal S1x2048x512 .bf16) (r : Fin 8) (l : Fin 512) :
    k0_pay5 n w (ix2 r l) = ∑ k : Fin 2048, n (ix2 r k) * w (ix3 0 k l) :=
  In0Val.os_at n w r l

variable (m : (ℓ : Loc nD τ sig) → Buf (Elt Ideal) ℓ)

/-! ## The arguments, a row at a time -/

/-- Row `r` of the prompts, the batches one after another. -/
def arrX (c : Dev nD) (r : Fin 8192) : Fin 2048 → EReal := fun l => m (c.tc.loc main_arg0) (ix3 ⟨r.val / 2048, by omega⟩ ⟨r.val % 2048, by omega⟩ l)
/-- The same for the samples. -/
def arrXS (c : Dev nD) (r : Fin 8) : Fin 2048 → EReal := fun l => m (c.tc.loc main_arg1) (ix3 r 0 l)
/-- The layer's scale of the normalisation. -/
def arrG (c : Dev nD) : Fin 2048 → EReal := fun k => m (c.tc.loc main_arg2) (ix2 1 k)
/-- The layer's weights. -/
def arrW (c : Dev nD) : Fin 2048 → Fin 2048 → EReal := fun k l => m (c.tc.loc main_arg3) (ix3 1 k l)

/-! ## Where the windows are -/

theorem at0 : ∀ t : Fin cfg0.N, win0_0.index t 0 = t.val / 4 ∧ win0_0.index t 1 = 0 := In0Val.at0
theorem at1 : ∀ t : Fin cfg0.N, win0_1.index t 0 = 0 ∧ win0_1.index t 1 = 0 := In0Val.at1
theorem at2 : ∀ t : Fin cfg0.N, win0_2.index t 0 = 0 ∧ win0_2.index t 1 = 0 := by decide +kernel
theorem at3 : ∀ t : Fin cfg0.N, win0_3.index t 0 = 1 ∧ win0_3.index t 1 = 0 ∧ win0_3.index t 2 = min t.val 3 := by decide +kernel
theorem at4 : ∀ t : Fin cfg0.N, win0_4.index t 0 = t.val / 4 ∧ win0_4.index t 1 = t.val % 4 := In0Val.at4
theorem at5 : ∀ t : Fin cfg0.N, win0_5.index t 0 = 0 ∧ win0_5.index t 1 = min t.val 3 := In0Val.at5

/-! ## The blocks -/

theorem blk0 (c : Dev nD) (t : Fin cfg0.N) (r : Fin 1024) (l : Fin 2048) :
    iblk m c 0 t (ix2 r l) = arrX m c ⟨t.val / 4 * 1024 + r.val, by have := lt_N t; omega⟩ l := by
  have hN := lt_N t
  unfold iblk arrX
  have hV : V m c (Pipeline.arrRef spec0 0) = shapeCast S8192x2048 (m (c.tc.loc main_arg0)) shapeCasts_S4x2048x2048_S8192x2048 := by
    show StableHlo.after hostOps0 (fun b => m (c, b)) (Proc.tc.devRef main_v0) = _
    after_results
    rfl
  rw [hV]
  exact In0Val.rows_at _ t r l
theorem blk1 (c : Dev nD) (t : Fin cfg0.N) (r : Fin 8) (l : Fin 2048) : iblk m c 1 t (ix2 r l) = arrXS m c r l := by
  unfold iblk arrXS
  have hV : V m c (Pipeline.arrRef spec0 1) = shapeCast S8x2048 (m (c.tc.loc main_arg1)) shapeCasts_S8x1x2048_S8x2048 := by
    show StableHlo.after hostOps0 (fun b => m (c, b)) (Proc.tc.devRef main_v3) = _
    after_results
    rfl
  rw [hV]
  have e : ((cfg0.win 1).blk t).view.emb (ix2 r l) = ix2 r l := by
    refine funext fun a => Fin.ext ?_
    match a with
    | ⟨0, _⟩ => blk_simp; rw [(at1 t).1]; show 0 * 8 + r.val = r.val; omega
    | ⟨1, _⟩ => blk_simp; rw [(at1 t).2]; show 0 * 2048 + l.val = l.val; omega
  refine (congrArg (shapeCast S8x2048 (m (c.tc.loc main_arg1)) shapeCasts_S8x1x2048_S8x2048) e).trans ?_
  pointwise
theorem blk2 (c : Dev nD) (t : Fin cfg0.N) (l : Fin 2048) : iblk m c 2 t (ix2 0 l) = arrG m c l := by
  unfold iblk arrG
  have hV : V m c (Pipeline.arrRef spec0 2) = shapeCast S1x2048 (shapeCast S2048 (extractStridedSlice S1x2048 ![1, 0] (m (c.tc.loc main_arg2)) slices_S4x2048_S1x2048_1_0) shapeCasts_S1x2048_S2048) shapeCasts_S2048_S1x2048 := by
    show StableHlo.after hostOps0 (fun b => m (c, b)) (Proc.tc.devRef main_v4) = _
    after_results
    rfl
  rw [hV]
  have e : ((cfg0.win 2).blk t).view.emb (ix2 0 l) = ix2 0 l := by
    refine funext fun a => Fin.ext ?_
    match a with
    | ⟨0, _⟩ => blk_simp; rw [(at2 t).1]; rfl
    | ⟨1, _⟩ => blk_simp; rw [(at2 t).2]; show 0 * 2048 + l.val = l.val; omega
  refine (congrArg (shapeCast S1x2048 (shapeCast S2048 (extractStridedSlice S1x2048 ![1, 0] (m (c.tc.loc main_arg2)) slices_S4x2048_S1x2048_1_0) shapeCasts_S1x2048_S2048) shapeCasts_S2048_S1x2048) e).trans ?_
  pointwise
theorem blk3 (c : Dev nD) (t : Fin cfg0.N) (k : Fin 2048) (l : Fin 512) :
    iblk m c 3 t (ix3 0 k l) = arrW m c k ⟨min t.val 3 * 512 + l.val, by omega⟩ := by
  unfold iblk arrW
  rw [show V m c (Pipeline.arrRef spec0 3) = m (c.tc.loc main_arg3) from V_main_arg3 m c]
  refine congrArg (m (c.tc.loc main_arg3)) (funext fun a => Fin.ext ?_)
  match a with
  | ⟨0, _⟩ => blk_simp; rw [(at3 t).1]; rfl
  | ⟨1, _⟩ => blk_simp; rw [(at3 t).2.1]; show 0 * 2048 + k.val = k.val; omega
  | ⟨2, _⟩ => blk_simp; rw [(at3 t).2.2]

/-! ## The buffers, at an index -/

/-- One row projected. -/
def resRow (c : Dev nD) (x : Fin 2048 → EReal) (l : Fin 2048) : EReal := ∑ k, nrmRow x (arrG m c) k * arrW m c k l

theorem oAt_val (c : Dev nD) (t : Fin cfg0.N) (r : Fin 1024) (l : Fin 512) :
    oAt m c t (ix2 r l) = resRow m c (arrX m c ⟨t.val / 4 * 1024 + r.val, by have := lt_N t; omega⟩) ⟨t.val % 4 * 512 + l.val, by omega⟩ := by
  have hN := lt_N t
  unfold oAt resRow
  rw [o_at]
  refine Finset.sum_congr rfl fun k _ => congrArg₂ (· * ·) ?_ ?_
  · unfold xnAt
    rw [xn_at]
    refine congrArg₂ (fun a b => nrmRow a b k) (funext fun q => ?_) (funext fun q => blk2 m c (rowOf t) q)
    refine (blk0 m c (rowOf t) r q).trans (congrArg (fun z => arrX m c z q) (Fin.ext ?_))
    show t.val / 4 * 4 / 4 * 1024 + r.val = t.val / 4 * 1024 + r.val
    omega
  · unfold wAt
    rw [cols_at]
    refine (blk3 m c (colAt t) k l).trans (congrArg (arrW m c k) (Fin.ext ?_))
    show min (t.val % 4) 3 * 512 + l.val = t.val % 4 * 512 + l.val
    omega

theorem osAt_val (c : Dev nD) (t : Fin cfg0.N) (r : Fin 8) (l : Fin 512) :
    osAt m c t (ix2 r l) = resRow m c (arrXS m c r) ⟨min t.val 3 * 512 + l.val, by omega⟩ := by
  unfold osAt resRow
  rw [os_at]
  refine Finset.sum_congr rfl fun k _ => congrArg₂ (· * ·) ?_ ?_
  · unfold xsnAt
    rw [xsn_at]
    exact congrArg₂ (fun a b => nrmRow a b k) (funext fun q => blk1 m c origin r q) (funext fun q => blk2 m c origin q)
  · unfold wAt
    rw [cols_at]
    refine (blk3 m c (smpAt t) k l).trans (congrArg (arrW m c k) (Fin.ext ?_))
    show min (min t.val 3) 3 * 512 + l.val = min t.val 3 * 512 + l.val
    omega

/-! ## The result arrays -/

/-- The prompts' result as a function of its index. -/
def whole0 (c : Dev nD) : FVec Ideal S8192x2048 .f32 := fun y => resRow m c (arrX m c ⟨(y 0).val, (y 0).isLt⟩) ⟨(y 1).val, (y 1).isLt⟩
/-- The samples' result as a function of its index. -/
def whole1 (c : Dev nD) : FVec Ideal S8x2048 .f32 := fun y => resRow m c (arrXS m c ⟨(y 0).val, (y 0).isLt⟩) ⟨(y 1).val, (y 1).isLt⟩

/-- After the run the prompts' array holds the result. -/
theorem arr4 (c : Dev nD) : (dats m 0 c).arrAt 4 cfg0.N = whole0 m c := by
  refine (dats m 0 c).arrAt_eq_of_covers 4 _ (by decide +kernel) fun t hf y => ?_
  have hN := lt_N t
  blk_simp
  rw [after0_4]
  have h0 : (y 0).val < 1024 := (y 0).isLt
  have h1 : (y 1).val < 512 := (y 1).isLt
  have e : (win0_4.blk t).view.emb y = ix2 (⟨t.val / 4 * 1024 + (y 0).val, by omega⟩ : Fin 8192) (⟨t.val % 4 * 512 + (y 1).val, by omega⟩ : Fin 2048) := by
    refine funext fun a => Fin.ext ?_
    match a with
    | ⟨0, _⟩ => blk_simp; rw [(at4 t).1]; rfl
    | ⟨1, _⟩ => blk_simp; rw [(at4 t).2]; rfl
  rw [e]
  refine Eq.trans (congrArg (oAt m c t) ?_) (oAt_val m c t ⟨(y 0).val, h0⟩ ⟨(y 1).val, h1⟩)
  exact funext fun a => match a with | ⟨0, _⟩ => rfl | ⟨1, _⟩ => rfl

/-- After the run the samples' array holds the result. -/
theorem arr5 (c : Dev nD) : (dats m 0 c).arrAt 5 cfg0.N = whole1 m c := by
  refine (dats m 0 c).arrAt_eq_of_covers 5 _ (by decide +kernel) fun t hf y => ?_
  blk_simp
  rw [after0_5]
  have h0 : (y 0).val < 8 := (y 0).isLt
  have h1 : (y 1).val < 512 := (y 1).isLt
  have e : (win0_5.blk t).view.emb y = ix2 (⟨(y 0).val, h0⟩ : Fin 8) (⟨min t.val 3 * 512 + (y 1).val, by omega⟩ : Fin 2048) := by
    refine funext fun a => Fin.ext ?_
    match a with
    | ⟨0, _⟩ => blk_simp; rw [(at5 t).1]; show 0 * 8 + (y 0).val = (y 0).val; omega
    | ⟨1, _⟩ => blk_simp; rw [(at5 t).2]; rfl
  rw [e]
  refine Eq.trans (congrArg (osAt m c t) ?_) (osAt_val m c t ⟨(y 0).val, h0⟩ ⟨(y 1).val, h1⟩)
  exact funext fun a => match a with | ⟨0, _⟩ => rfl | ⟨1, _⟩ => rfl

end Cert.In1Val

end
-- ==== Proof.InRef1.lean ====
/- The reference of the input projection of the second layer, at an index. -/
module

public import proofs.«01_k».proof.Proof.FfnMath
public import proofs.«01_k».proof.Proof.Gen.In1RefIdeal.Read

@[expose] public section

set_option maxRecDepth 16384

noncomputable section

namespace Cert.In1Ref

open Idealize.ShloMosaic Idealize.ShloMosaic.TcCoe Idealize.SL.Sem
open Cert.In1RefIdeal Cert.In1RefIdeal.Read Cert.Ffn

variable (x0 : (⟨S4x2048x2048, .f32⟩ : BufTy).Contents (Elt Ideal)) (x1 : (⟨S8x1x2048, .f32⟩ : BufTy).Contents (Elt Ideal))
  (x2 : (⟨S4x2048, .f32⟩ : BufTy).Contents (Elt Ideal)) (x3 : (⟨S2x2048x2048, .f32⟩ : BufTy).Contents (Elt Ideal))

/-- One row projected. -/
def ent (x : Fin 2048 → EReal) (l : Fin 2048) : EReal := ∑ k, nrmRow x (fun k => x2 (ix2 1 k)) k * x3 (ix3 1 k l)

theorem normX (b : Fin 4) (r : Fin 2048) (k : Fin 2048) : val_main_v14 (F := Ideal) x0 x2 (ix3 b r k) = nrmRow (fun k => x0 (ix3 b r k)) (fun k => x2 (ix2 1 k)) k := by
  unfold nrmRow
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
theorem entX (b : Fin 4) (r : Fin 2048) (l : Fin 2048) : val_main_v17 (F := Ideal) x0 x2 x3 (ix3 b r l) = ent x2 x3 (fun k => x0 (ix3 b r k)) l := by
  have hW : ∀ k, val_main_v16 (F := Ideal) x3 (ix2 k l) = x3 (ix3 1 k l) := fun k => by
    pointwise [val_main_v16, val_main_v15]
  unfold ent
  rw [← Finset.sum_congr rfl fun k _ => congrArg₂ (· * ·) (normX x0 x2 b r k) (hW k)]
  pointwise [val_main_v17]

/-- The reference's prompts, at an index. -/
theorem resX (r : Fin 8192) (l : Fin 2048) : val_main_v36 (F := Ideal) x0 x2 x3 (ix2 r l) = ent x2 x3 (fun k => x0 (ix3 ⟨r.val / 2048, by omega⟩ ⟨r.val % 2048, by omega⟩ k)) l := by
  refine Eq.trans ?_ (entX x0 x2 x3 ⟨r.val / 2048, by omega⟩ ⟨r.val % 2048, by omega⟩ l)
  unfold val_main_v36
  refine shapeCast_apply _ _ _ _ ?_
  rw [Shape.rowMajor_val_two]
  refine (Shape.rowMajor_val_three _).trans ?_
  show (r.val / 2048 * 2048 + r.val % 2048) * 2048 + l.val = r.val * 2048 + l.val
  omega

theorem normS (r : Fin 8) (k : Fin 2048) : val_main_v32 (F := Ideal) x1 x2 (ix3 r 0 k) = nrmRow (fun k => x1 (ix3 r 0 k)) (fun k => x2 (ix2 1 k)) k := by
  unfold nrmRow
  pointwise [val_main_v32, val_main_v31, val_main_v30, val_main_v29, val_main_v28, val_main_v27, val_main_v26, val_main_v25, val_main_cst_4, val_main_v24, val_main_v23, val_main_cst_3, val_main_v22, val_main_v21, val_main_cst_2, val_main_v20, val_main_v19, val_main_v18]

/-- The reference's samples, at an index. -/
theorem resS (r : Fin 8) (l : Fin 2048) : val_main_v37 (F := Ideal) x1 x2 x3 (ix2 r l) = ent x2 x3 (fun k => x1 (ix3 r 0 k)) l := by
  have hW : ∀ k, val_main_v34 (F := Ideal) x3 (ix2 k l) = x3 (ix3 1 k l) := fun k => by
    pointwise [val_main_v34, val_main_v33]
  unfold ent
  rw [← Finset.sum_congr rfl fun k _ => congrArg₂ (· * ·) (normS x1 x2 r k) (hW k)]
  pointwise [val_main_v37, val_main_v35]

end Cert.In1Ref

end
-- ==== Proof.InClaim1.lean ====
/- The claims about the input projection of the second layer. -/
module

public import proofs.«01_k».proof.Defs
public import proofs.«01_k».proof.Proof.InOut1
public import proofs.«01_k».proof.Proof.InRef1
public import proofs.«01_k».proof.Proof.Gen.In1.Frame

@[expose] public section

set_option maxRecDepth 16384

noncomputable section

namespace Cert.In1Proof

open Idealize.ShloMosaic Idealize.ShloMosaic.TcCoe Idealize.SL.Sem

/-- The reference leaves its arguments alone. -/
theorem ref_frame : quiescent_In1RefIdeal := fun m g _ =>
  (θ_run _ _ _).mono (fun r h => ⟨fun c => (h c).2.2, sem_eq_zero_of_no_sems rfl r.2⟩) (In1RefIdeal.Value.run m g)

section

variable {F : FTy → Type} [FloatOps F]

attribute [local instance] In1.Gen.facts In1Ideal.Gen.facts

/-- The two printings of the kernel have the same body. -/
theorem bodies : In1.defs₀ (F := F) = In1Ideal.defs₀ (F := F) := by
  refine congrArg Defs.onTc (funext fun n => funext fun a => ?_)
  match n, a with
  | ⟨0, _⟩, (t, s) => rfl

/-- So they have the same table. -/
theorem tables : In1.defs (F := F) = In1Ideal.defs (F := F) :=
  congrArg (Pipeline.defs (In1Ideal.pcfgs (F := F))) bodies

/-- The kernel leaves its arguments alone: the one run, at the machine's floats. -/
theorem kernel_frame : quiescent_In1 := fun m g _ => by
  have h := In1Val.frame (F := Bits) m g
  rw [← tables] at h
  exact h

end

/-- The kernel over the reals leaves its arguments alone. -/
theorem frame : quiescent_In1Ideal := fun m g _ => In1Val.frame m g

/-- The kernel over the reals computes what the reference does. -/
theorem algebraic : algebraic_In1Ideal_In1RefIdeal := by
  intro m g m' g' _ ha
  refine ⟨fun c => In1Val.whole0 m c, fun c => In1Val.whole1 m c, ?_, ?_⟩
  · exact (θ_run _ _ _).mono (fun r h c => ⟨((h.1.1 c).1 4).trans (In1Val.arr4 m c), ((h.1.1 c).1 5).trans (In1Val.arr5 m c), h.2.1 c⟩)
      (θ_run_and (In1Val.run_main m g) (In1Val.frame m g))
  · refine (θ_run _ _ _).mono (fun r h c => ⟨(h c).1.trans ?_, (h c).2.1.trans ?_, (h c).2.2⟩) (In1RefIdeal.Value.run m' g')
    · rw [In1RefIdeal.Read.val_main_v36_eq, (ha c).1, (ha c).2.2.1, (ha c).2.2.2]
      funext y
      obtain ⟨r, l, rfl⟩ : ∃ (r : Fin 8192) (l : Fin 2048), y = ix2 r l := ⟨y 0, y 1, funext fun a => match a with | ⟨0, _⟩ => rfl | ⟨1, _⟩ => rfl⟩
      exact In1Ref.resX _ _ _ r l
    · rw [In1RefIdeal.Read.val_main_v37_eq, (ha c).2.1, (ha c).2.2.1, (ha c).2.2.2]
      funext y
      obtain ⟨r, l, rfl⟩ : ∃ (r : Fin 8) (l : Fin 2048), y = ix2 r l := ⟨y 0, y 1, funext fun a => match a with | ⟨0, _⟩ => rfl | ⟨1, _⟩ => rfl⟩
      exact In1Ref.resS _ _ _ r l

end Cert.In1Proof

end
-- ==== Proof.MkvDat.lean ====
/- The memory keys and values: what every buffer holds after every point of the grid, and the run of the whole call. -/
module

public import proofs.«01_k».proof.Proof.Gen.MkvIdeal.Frame
public import proofs.«01_k».proof.Proof.Gen.MkvIdeal.Skeleton
public import Idealize.ShloMosaic.Lib.VecWindow
public import Idealize.ShloMosaic.Lib.Claim

@[expose] public section

set_option maxRecDepth 16384

noncomputable section

namespace Cert.MkvVal

open Cert.MkvIdeal Cert.MkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (fun t => by
    have ht : t.val < 16 := Nat.lt_of_lt_of_eq t.isLt N_0
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_0, e1, e2]
    word_cmp
   : ∀ t : Fin grid0.N, cond0_0 (grid0.coords t) ↔ t.val % 2 = 0)

/-- The point is in the first block of rows of its layer. -/
abbrev cond0_1 (i : grid0.Coords) : Prop := k0_cond2 i = 1#1
theorem hcond0_1 : ∀ t : Fin cfg0.N, cond0_1 (grid0.coords t) ↔ t.val % 4 < 2 :=
  (fun t => by
    have ht : t.val < 16 := Nat.lt_of_lt_of_eq t.isLt N_0
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_1, k0_cond2, e1, e2]
    word_cmp
   : ∀ t : Fin grid0.N, cond0_1 (grid0.coords t) ↔ t.val % 4 < 2)

/-! ## The staging memrefs -/

/-- Each window's staging memref at a point, and that it is a whole buffer. -/
abbrev ms0_0 (t : Fin cfg0.N) : 𝔹 S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1x512x512 .f32 := win0_3.stage (cfg0.slots t 3)
abbrev hs0_3 (t : Fin cfg0.N) : (ms0_3 t).IsWhole := hstage0_3 ((cfg0.slots t 3).cast nbuf0_3)
/-- The two buffers the call keeps for itself: the normalised rows and the weights. -/
abbrev scM0_0 : 𝔹 S512x2048 .bf16 := Memref.whole cc0_scratch0
abbrev scM0_1 : 𝔹 S2x2048x512 .bf16 := Memref.whole cc0_scratch1

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## Loads and stores, read back -/

section
variable {κ : Kind} {sp : Space} {e : EltTy}
/-- Loading all of a buffer reads it. -/
theorem load_S512x2048 (v : View sig κ sp S512x2048 e) (f : v.ty.Contents (Elt F)) (inb) :
    v.readAt (Elt F) (Rect.unit (s := S512x2048) ![0, 0] ![512, 2048] inb).toLoadRect f = v.read (Elt F) f := View.readAt_full v f inb
/-- Loading all of a buffer reads it. -/
theorem load_S1x1x2048 (v : View sig κ sp S1x1x2048 e) (f : v.ty.Contents (Elt F)) (inb) :
    v.readAt (Elt F) (Rect.unit (s := S1x1x2048) ![0, 0, 0] ![1, 1, 2048] inb).toLoadRect f = v.read (Elt F) f := View.readAt_full v f inb
/-- Loading all of a buffer reads it. -/
theorem load_S1x2048x512 (v : View sig κ sp S1x2048x512 e) (f : v.ty.Contents (Elt F)) (inb) :
    v.readAt (Elt F) (Rect.unit (s := S1x2048x512) ![0, 0, 0] ![1, 2048, 512] inb).toLoadRect f = v.read (Elt F) f := View.readAt_full v f inb
/-- Reading a buffer after a store of all of it gives what was stored. -/
theorem stored_S512x2048 (v : View sig κ sp S512x2048 e) (f : v.ty.Contents (Elt F)) (inb) (w : (Rect.unit (s := S512x2048) ![0, 0] ![512, 2048] inb).shape.Idx → Elt F e) (L : List (View.Piece (Elt F) S512x2048 e)) :
    v.read (Elt F) (v.writes (Elt F) f (⟨Rect.unit (s := S512x2048) ![0, 0] ![512, 2048] inb, w⟩ :: L)) = w := View.read_writes_full v f inb w L
/-- Reading a buffer after a store of all of it gives what was stored. -/
theorem stored_S1x512x512 (v : View sig κ sp S1x512x512 e) (f : v.ty.Contents (Elt F)) (inb) (w : (Rect.unit (s := S1x512x512) ![0, 0, 0] ![1, 512, 512] inb).shape.Idx → Elt F e) (L : List (View.Piece (Elt F) S1x512x512 e)) :
    v.read (Elt F) (v.writes (Elt F) f (⟨Rect.unit (s := S1x512x512) ![0, 0, 0] ![1, 512, 512] inb, w⟩ :: L)) = w := View.read_writes_full v f inb w L
end

/-! ## What the body leaves -/

/-- One block of columns of the weights held, read by the point's offsets; -/
abbrev colsOf (i : grid0.Coords) (W : Vec F S2x2048x512 .bf16) : Vec F S1x2048x512 .bf16 := VecWindow.window W (k0_off2 i) ![1, 2048, 512] (k0_off2_inb i)
/-- and the weights with that block replaced. -/
abbrev colsPut (i : grid0.Coords) (W : Vec F S2x2048x512 .bf16) (w : Vec F S1x2048x512 .bf16) : Vec F S2x2048x512 .bf16 := VecWindow.put W (k0_off2 i) ![1, 2048, 512] w

variable (c : Dev nD) (i : grid0.Coords) (arg3 : 𝔹 S512x2048 .f32) (harg3 : arg3.IsWhole) (arg4 : 𝔹 S1x1x2048 .f32) (harg4 : arg4.IsWhole) (arg5 : 𝔹 S1x2048x512 .f32) (harg5 : arg5.IsWhole) (arg6 : 𝔹 S1x512x512 .f32) (harg6 : arg6.IsWhole) (arg7 : 𝔹 S512x2048 .bf16) (harg7 : arg7.IsWhole) (arg8 : 𝔹 S2x2048x512 .bf16) (harg8 : arg8.IsWhole)
  (x0 : Vec F S512x2048 .f32) (x1 : Vec F S1x1x2048 .f32) (x2 : Vec F S1x2048x512 .f32) (y3 : Vec F S1x512x512 .f32) (y4 : Vec F S512x2048 .bf16) (y5 : Vec F S2x2048x512 .bf16)

/-- The body, called with the windows and its own buffers at the contents given first, leaves them at those given last, the inputs as they were. -/
def Leaves (z3 : Vec F S1x512x512 .f32) (z4 : Vec F S512x2048 .bf16) (z5 : Vec F S2x2048x512 .bf16) : Prop :=
  ∀ (E : Set ℕ) (K : PUnit → sProp 𝕄), iprop(owns c.tc arg3 fullShare x0 ∗ owns c.tc arg4 fullShare x1 ∗ owns c.tc arg5 fullShare x2 ∗ owns c.tc arg6 fullShare y3 ∗ owns c.tc arg7 fullShare y4 ∗ owns c.tc arg8 fullShare y5
        ∗ (iprop(owns c.tc arg3 fullShare x0 ∗ owns c.tc arg4 fullShare x1 ∗ owns c.tc arg5 fullShare x2 ∗ owns c.tc arg6 fullShare z3 ∗ owns c.tc arg7 fullShare z4 ∗ owns c.tc arg8 fullShare z5) -∗ K ⟨⟩))
      ⊢ wp frame (wpE (defs₀ (F := F)) Variants.none c none) E (cc0_rms_matmul_layers i arg3 harg3 arg4 harg4 arg5 harg5 arg6 harg6 arg7 harg7 arg8 harg8) K

set_option maxHeartbeats 4000000 in
/-- The body at the first block of columns, in the first block of rows. -/
theorem run_A (hc0 : cond0_0 i) (hc1 : cond0_1 i) :
    Leaves c i arg3 harg3 arg4 harg4 arg5 harg5 arg6 harg6 arg7 harg7 arg8 harg8 x0 x1 x2 y3 y4 y5 (k0_pay3 (k0_pay1 x0 x1) (k0_pay2 x2)) (k0_pay1 x0 x1) (colsPut i y5 (k0_pay2 x2)) := by
  intro E K
  simp only [cc0_rms_matmul_layers_eq_skeleton]; unfold cc0_rms_matmul_layers_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1)
  sl_step
  iapply Hk
  isplitl [H0]; rotate_left; isplitl [H1]; rotate_left; isplitl [H2]; rotate_left; isplitl [H3]; rotate_left; isplitl [H4]; rotate_left
  · iexists _; isplitr; swap; · iexact H5
    ipureintro; sl_unfold_words; exact (View.read_writes_cons_put _ _ _ _ [] rfl).trans (congrArg₂ (colsPut i) (harg8.read_unread y5) (congrArg k0_pay2 ((load_S1x2048x512 _ _ _).trans (harg5.read_unread x2))))
  all_goals (iexists _; isplitr; rotate_left; iassumption)
  all_goals ipureintro; try sl_unfold_words
  all_goals simp only [load_S512x2048, load_S1x1x2048, load_S1x2048x512, stored_S512x2048, stored_S1x512x512, View.readCov_cons_toLoadRect, *]

set_option maxHeartbeats 4000000 in
/-- The body at the second block of columns, in the first block of rows. -/
theorem run_B (hc0 : ¬cond0_0 i) (hc1 : cond0_1 i) :
    Leaves c i arg3 harg3 arg4 harg4 arg5 harg5 arg6 harg6 arg7 harg7 arg8 harg8 x0 x1 x2 y3 y4 y5 (k0_pay3 y4 (k0_pay2 x2)) y4 (colsPut i y5 (k0_pay2 x2)) := by
  intro E K
  simp only [cc0_rms_matmul_layers_eq_skeleton]; unfold cc0_rms_matmul_layers_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1)
  sl_step
  iapply Hk
  isplitl [H0]; rotate_left; isplitl [H1]; rotate_left; isplitl [H2]; rotate_left; isplitl [H3]; rotate_left; isplitl [H4]; rotate_left
  · iexists _; isplitr; swap; · iexact H5
    ipureintro; sl_unfold_words; exact (View.read_writes_cons_put _ _ _ _ [] rfl).trans (congrArg₂ (colsPut i) (harg8.read_unread y5) (congrArg k0_pay2 ((load_S1x2048x512 _ _ _).trans (harg5.read_unread x2))))
  all_goals (iexists _; isplitr; rotate_left; iassumption)
  all_goals ipureintro; try sl_unfold_words
  all_goals simp only [load_S512x2048, load_S1x1x2048, load_S1x2048x512, stored_S512x2048, stored_S1x512x512, View.readCov_cons_toLoadRect, *]

set_option maxHeartbeats 4000000 in
/-- The body at the first block of columns, in the second block of rows. -/
theorem run_C (hc0 : cond0_0 i) (hc1 : ¬cond0_1 i) :
    Leaves c i arg3 harg3 arg4 harg4 arg5 harg5 arg6 harg6 arg7 harg7 arg8 harg8 x0 x1 x2 y3 y4 y5 (k0_pay3 (k0_pay1 x0 x1) (colsOf i y5)) (k0_pay1 x0 x1) y5 := by
  intro E K
  simp only [cc0_rms_matmul_layers_eq_skeleton]; unfold cc0_rms_matmul_layers_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1)
  sl_step
  iapply Hk
  isplitl [H0]; rotate_left; isplitl [H1]; rotate_left; isplitl [H2]; rotate_left
  isplitl [H3]
  · iexists _; isplitr; swap; · iexact H3
    ipureintro; sl_unfold_words; simp only [load_S512x2048, load_S1x1x2048, load_S1x2048x512, stored_S512x2048, stored_S1x512x512, View.readCov_cons_toLoadRect, *]
    exact congrArg (k0_pay3 _) (congrArg (colsOf i) (harg8.read_unread y5))
  isplitl [H4]; rotate_left
  all_goals (iexists _; isplitr; rotate_left; iassumption)
  all_goals ipureintro; try sl_unfold_words
  all_goals simp only [load_S512x2048, load_S1x1x2048, load_S1x2048x512, stored_S512x2048, stored_S1x512x512, View.readCov_cons_toLoadRect, *]

set_option maxHeartbeats 4000000 in
/-- The body at the second block of columns, in the second block of rows. -/
theorem run_D (hc0 : ¬cond0_0 i) (hc1 : ¬cond0_1 i) :
    Leaves c i arg3 harg3 arg4 harg4 arg5 harg5 arg6 harg6 arg7 harg7 arg8 harg8 x0 x1 x2 y3 y4 y5 (k0_pay3 y4 (colsOf i y5)) y4 y5 := by
  intro E K
  simp only [cc0_rms_matmul_layers_eq_skeleton]; unfold cc0_rms_matmul_layers_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1)
  sl_step
  iapply Hk
  isplitl [H0]; rotate_left; isplitl [H1]; rotate_left; isplitl [H2]; rotate_left
  isplitl [H3]
  · iexists _; isplitr; swap; · iexact H3
    ipureintro; sl_unfold_words; simp only [load_S512x2048, load_S1x1x2048, load_S1x2048x512, stored_S512x2048, stored_S1x512x512, View.readCov_cons_toLoadRect, *]
    exact congrArg (k0_pay3 _) (congrArg (colsOf i) (harg8.read_unread y5))
  isplitl [H4]; rotate_left
  all_goals (iexists _; isplitr; rotate_left; iassumption)
  all_goals ipureintro; assumption

/-! ## What the buffers hold after each point -/

theorem lt_N (t : Fin cfg0.N) : t.val < 16 := lt_of_lt_of_eq t.isLt (show cfg0.N = 16 from N_0)

/-- The first point of the point's block of rows; -/
def rowOf (t : Fin cfg0.N) : Fin cfg0.N := ⟨t.val / 2 * 2, by have := t.isLt; omega⟩
/-- the point of its layer's first block of rows with the point's block of columns. -/
def colAt (t : Fin cfg0.N) : Fin cfg0.N := ⟨t.val / 4 * 4 + t.val % 2, by have := t.isLt; omega⟩

/-- The normalised rows held after a point: those of its block of rows. -/
def xnAt (c : Dev nD) (t : Fin cfg0.N) : Vec F S512x2048 .bf16 := k0_pay1 (iblk m c 0 (rowOf t)) (iblk m c 1 (rowOf t))
/-- The block of columns of the weights a point of a layer's first block of rows stores. -/
def wAt (c : Dev nD) (t : Fin cfg0.N) : Vec F S1x2048x512 .bf16 := k0_pay2 (iblk m c 2 t)
/-- The result at a point. -/
def oAt (c : Dev nD) (t : Fin cfg0.N) : Vec F S1x512x512 .f32 := k0_pay3 (xnAt m c t) (wAt m c (colAt t))

/-- The point before. -/
abbrev prev (t : Fin cfg0.N) : Fin cfg0.N := ⟨t.val - 1, Nat.lt_of_le_of_lt (Nat.sub_le _ _) t.isLt⟩

/-- What the call's own buffers are known to hold before point `n`: the normalised rows of the point before, and every block of columns of its layer stored so far. -/
def Held (c : Dev nD) (n : ℕ) (L : Vec F S512x2048 .bf16) (W : Vec F S2x2048x512 .bf16) : Prop :=
  ∀ t : Fin cfg0.N, t.val + 1 = n → L = xnAt m c t ∧
    ∀ t' : Fin cfg0.N, t'.val / 4 = t.val / 4 → t'.val % 4 < 2 → t'.val ≤ t.val → colsOf (grid0.coords t') W = wAt m c t'

/-- A point's offset into the weights is its block of columns. -/
theorem off_eq (t : Fin cfg0.N) : k0_off2 (grid0.coords t) = ![t.val % 2, 0, 0] := by
  have e2 : (grid0.coords t 2).val = t.val / 1 % 2 := Pipeline.Grid.coords_val t 2 (by decide) rfl
  have h : (BitVec.ofNat 32 (t.val / 1 % 2)).toNat = t.val % 2 := by
    rw [BitVec.toNat_ofNat, Nat.div_one]; omega
  unfold k0_off2
  simp only [e2]
  exact congrArg (fun k => ![k, 0, 0]) h

theorem window_off (W : Vec F S2x2048x512 .bf16) (off off' : Fin 3 → ℕ) (h : off = off') (inb inb') :
    VecWindow.window W off ![1, 2048, 512] inb = VecWindow.window W off' ![1, 2048, 512] inb' := by subst h; rfl

theorem cols_same (t : Fin cfg0.N) (W : Vec F S2x2048x512 .bf16) (w : Vec F S1x2048x512 .bf16) :
    colsOf (grid0.coords t) (colsPut (grid0.coords t) W w) = w := VecWindow.window_put_same W _ _ _ w

theorem cols_other (t t' : Fin cfg0.N) (h : t'.val % 2 ≠ t.val % 2) (W : Vec F S2x2048x512 .bf16) (w : Vec F S1x2048x512 .bf16) :
    colsOf (grid0.coords t') (colsPut (grid0.coords t) W w) = colsOf (grid0.coords t') W := by
  refine VecWindow.window_put_of_disjoint W _ _ _ _ _ w (0 : Fin 3) ?_
  rw [off_eq, off_eq]
  show t'.val % 2 + 1 ≤ t.val % 2 ∨ t.val % 2 + 1 ≤ t'.val % 2
  omega

theorem cols_col (t : Fin cfg0.N) (W : Vec F S2x2048x512 .bf16) : colsOf (grid0.coords t) W = colsOf (grid0.coords (colAt t)) W :=
  window_off W _ _ (by rw [off_eq, off_eq]; show ![t.val % 2, 0, 0] = ![(t.val / 4 * 4 + t.val % 2) % 2, 0, 0]; rw [show (t.val / 4 * 4 + t.val % 2) % 2 = t.val % 2 by omega]) _ _

/-- A point of a layer's first block of rows adds its block of columns to what is held. -/
theorem held_put (c : Dev nD) (t : Fin cfg0.N) (h1 : t.val % 4 < 2) (L : Vec F S512x2048 .bf16) (W : Vec F S2x2048x512 .bf16) (h : Held m c t.val L W) :
    Held m c (t.val + 1) (xnAt m c t) (colsPut (grid0.coords t) W (k0_pay2 (iblk m c 2 t))) := by
  intro t₁ e₁
  obtain rfl : t₁ = t := Fin.ext (by omega)
  refine ⟨rfl, fun t' e4 h2 hle => ?_⟩
  by_cases e : t' = t₁
  · subst e; exact cols_same t' W _
  · have hne : t'.val ≠ t₁.val := fun e' => e (Fin.ext e')
    rw [cols_other t₁ t' (by omega)]
    exact (h (prev t₁) (by show t₁.val - 1 + 1 = t₁.val; omega)).2 t' (by show t'.val / 4 = (t₁.val - 1) / 4; omega) h2 (by show t'.val ≤ t₁.val - 1; omega)

/-- A later one keeps them. -/
theorem held_keep (c : Dev nD) (t : Fin cfg0.N) (h1 : ¬t.val % 4 < 2) (L : Vec F S512x2048 .bf16) (W : Vec F S2x2048x512 .bf16) (h : Held m c t.val L W) :
    Held m c (t.val + 1) (xnAt m c t) W := by
  intro t₁ e₁
  obtain rfl : t₁ = t := Fin.ext (by omega)
  exact ⟨rfl, fun t' e4 h2 hle => (h (prev t₁) (by show t₁.val - 1 + 1 = t₁.val; omega)).2 t' (by show t'.val / 4 = (t₁.val - 1) / 4; omega) h2 (by show t'.val ≤ t₁.val - 1; omega)⟩

theorem xnAt_first (c : Dev nD) (t : Fin cfg0.N) (h : t.val % 2 = 0) : k0_pay1 (iblk m c 0 t) (iblk m c 1 t) = xnAt m c t := by
  unfold xnAt; rw [show rowOf t = t from Fin.ext (by show t.val / 2 * 2 = t.val; omega)]
theorem xnAt_next (c : Dev nD) (t : Fin cfg0.N) (h : ¬t.val % 2 = 0) (L : Vec F S512x2048 .bf16) (W : Vec F S2x2048x512 .bf16) (hL : Held m c t.val L W) :
    L = xnAt m c t := by
  rw [(hL (prev t) (by show t.val - 1 + 1 = t.val; omega)).1]
  unfold xnAt
  rw [show rowOf (prev t) = rowOf t from Fin.ext (by show (t.val - 1) / 2 * 2 = t.val / 2 * 2; omega)]
theorem wAt_first (c : Dev nD) (t : Fin cfg0.N) (h : t.val % 4 < 2) : k0_pay2 (iblk m c 2 t) = wAt m c (colAt t) := by
  unfold wAt; rw [show colAt t = t from Fin.ext (by show t.val / 4 * 4 + t.val % 2 = t.val; omega)]
theorem wAt_later (c : Dev nD) (t : Fin cfg0.N) (h : ¬t.val % 4 < 2) (L : Vec F S512x2048 .bf16) (W : Vec F S2x2048x512 .bf16) (hW : Held m c t.val L W) :
    colsOf (grid0.coords t) W = wAt m c (colAt t) :=
  (cols_col t W).trans ((hW (prev t) (by show t.val - 1 + 1 = t.val; omega)).2 (colAt t)
    (by show (t.val / 4 * 4 + t.val % 2) / 4 = (t.val - 1) / 4; omega) (by show (t.val / 4 * 4 + t.val % 2) % 4 < 2; omega) (by show t.val / 4 * 4 + t.val % 2 ≤ t.val - 1; omega))

/-- Every point takes what is held before it to what is held after it, and leaves the closed form in the result buffer. -/
theorem step (c : Dev nD) (t : Fin cfg0.N) (y3 : Vec F S1x512x512 .f32) (L : Vec F S512x2048 .bf16) (W : Vec F S2x2048x512 .bf16) (h : Held m c t.val L W) :
    ∃ W', Held m c (t.val + 1) (xnAt m c t) W' ∧
      Leaves c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) y3 L W (oAt m c t) (xnAt m c t) W' := by
  by_cases h2 : t.val % 4 < 2
  · refine ⟨_, held_put m c t h2 L W h, ?_⟩
    unfold oAt
    rw [← wAt_first m c t h2]
    by_cases h0 : t.val % 2 = 0
    · rw [← xnAt_first m c t h0]
      exact run_A _ _ _ _ _ _ _ _ _ _ _ _ _ _ _ _ _ _ _ _ ((hcond0_0 t).mpr h0) ((hcond0_1 t).mpr h2)
    · rw [← xnAt_next m c t h0 L W h]
      exact run_B _ _ _ _ _ _ _ _ _ _ _ _ _ _ _ _ _ _ _ _ (fun e => h0 ((hcond0_0 t).mp e)) ((hcond0_1 t).mpr h2)
  · refine ⟨W, held_keep m c t h2 L W h, ?_⟩
    unfold oAt
    rw [← wAt_later m c t h2 L W h]
    by_cases h0 : t.val % 2 = 0
    · rw [← xnAt_first m c t h0]
      exact run_C _ _ _ _ _ _ _ _ _ _ _ _ _ _ _ _ _ _ _ _ ((hcond0_0 t).mpr h0) (fun e => h2 ((hcond0_1 t).mp e))
    · rw [← xnAt_next m c t h0 L W h]
      exact run_D _ _ _ _ _ _ _ _ _ _ _ _ _ _ _ _ _ _ _ _ (fun e => h0 ((hcond0_0 t).mp e)) (fun e => h2 ((hcond0_1 t).mp e))

/-! ## The proof data -/

/-- The invariant before point `n`. -/
def PhiS (c : Dev nD) (n : ℕ) : sProp 𝕄 :=
  iprop((∃ L, ∃ W, ⌜Held m c n L W⌝ ∗ owns c.tc scM0_0 fullShare L ∗ owns c.tc scM0_1 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
  Φ t := PhiS m c t.val
  q _ := fullShare
  owed _ := 0

theorem A_eq (c : Dev nD) (w : Fin cfg0.W) : (dats m 0 c).A w = V m c (Pipeline.arrRef spec0 w) := by
  dsimp only [dats]
theorem after0_3 (c : Dev nD) (t : Fin cfg0.N) : (dats m 0 c).after 3 t = oAt m c t := by dsimp only [dats]

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%L, %W, %hLW, HS0, HS1⟩, Hg⟩, Ho, ⟨%d0, H0⟩, ⟨%d1, H1⟩, ⟨%d2, H2⟩, ⟨%d3, H3⟩⟩
  obtain ⟨W', hW', hrun⟩ := step m c t ((dats m 0 c).before 3 t d3) L W hLW
  iapply (hrun Set.univ _)
  iframe H0 H1 H2 H3 HS0 HS1
  iintro ⟨H0, H1, H2, H3, HS0, HS1⟩
  isplitl [HS0 HS1 Hg]
  · isplitl [HS0 HS1]
    · iexists _; iexists W'
      isplitr; · ipureintro; exact hW'
      isplitl [HS0]; · iexact HS0
      iexact HS1
    iexact Hg
  iframe Ho H0 H1 H2
  iexact H3

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%L, HS0⟩, ⟨%W, HS1⟩⟩, Hg⟩
      isplitl [HS0 HS1]
      · iexists L; iexists W
        isplitr; · ipureintro; exact fun _ e => absurd e (by omega)
        isplitl [HS0]; · iexact HS0
        iexact HS1
      · iexact Hg)
    (hout := fun c => by
      rw [show (dats m 0 c).Φ (Fin.last cfg0.N) = PhiS m c cfg0.N from rfl, PhiA0_eq]
      unfold PhiS
      iintro ⟨⟨%L, %W, -, HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MkvVal

end
-- ==== Proof.MkvOut.lean ====
/- The memory keys and values: the result, at an index. -/
module

public import proofs.«01_k».proof.Proof.MkvDat
public import proofs.«01_k».proof.Proof.FfnMath

@[expose] public section

set_option maxRecDepth 16384

noncomputable section

namespace Cert.MkvVal

open Idealize.ShloMosaic Idealize.ShloMosaic.TcCoe Idealize.SL.Sem
open Idealize.ShloMosaic.Pipeline (Dat)
open Cert.MkvIdeal Cert.MkvIdeal.Gen Cert.Ffn

/-! ## One point's work, at an index -/

theorem xn_at (x : Vec Ideal S512x2048 .f32) (g : Vec Ideal S1x1x2048 .f32) (r : Fin 512) (l : Fin 2048) :
    k0_pay1 x g (ix2 r l) = nrmRow (fun k => x (ix2 r k)) (fun k => g (ix3 0 0 k)) l := by
  unfold nrmRow
  pointwise [k0_pay1]
theorem cols_at (w : Vec Ideal S1x2048x512 .f32) (k : Fin 2048) (l : Fin 512) : k0_pay2 w (ix3 0 k l) = w (ix3 0 k l) := by
  pointwise [k0_pay2]
theorem o_at (n : Vec Ideal S512x2048 .bf16) (w : Vec Ideal S1x2048x512 .bf16) (r : Fin 512) (l : Fin 512) :
    k0_pay3 n w (ix3 0 r l) = ∑ k : Fin 2048, n (ix2 r k) * w (ix3 0 k l) := by
  pointwise [k0_pay3]

variable (m : (ℓ : Loc nD τ sig) → Buf (Elt Ideal) ℓ)

/-! ## The arguments, a row at a time -/

/-- Row `r` of the memories, the batches one after another. -/
def arrX (c : Dev nD) (r : Fin 1024) : Fin 2048 → EReal := fun k => m (c.tc.loc main_arg0) (ix3 ⟨r.val / 256, by omega⟩ ⟨r.val % 256, by omega⟩ k)
/-- Layer `l`'s scale of the normalisation. -/
def arrG (c : Dev nD) (l : Fin 4) : Fin 2048 → EReal := fun k => m (c.tc.loc main_arg1) (ix2 l k)
/-- Layer `l`'s weights. -/
def arrW (c : Dev nD) (l : Fin 4) : Fin 2048 → Fin 1024 → EReal := fun k q => m (c.tc.loc main_arg2) (ix3 l k q)

/-! ## Where the windows are -/

theorem at0 : ∀ t : Fin cfg0.N, win0_0.index t 0 = t.val / 2 % 2 ∧ win0_0.index t 1 = 0 := by decide +kernel
theorem at1 : ∀ t : Fin cfg0.N, win0_1.index t 0 = t.val / 4 ∧ win0_1.index t 1 = 0 ∧ win0_1.index t 2 = 0 := by decide +kernel
theorem at2 : ∀ t : Fin cfg0.N, win0_2.index t 0 = t.val / 4 ∧ win0_2.index t 1 = 0 ∧ win0_2.index t 2 = min (t.val % 4) 1 := by decide +kernel
theorem at3 : ∀ t : Fin cfg0.N, win0_3.index t 0 = t.val / 4 ∧ win0_3.index t 1 = t.val / 2 % 2 ∧ win0_3.index t 2 = t.val % 2 := by decide +kernel

/-! ## The blocks -/

theorem blk0 (c : Dev nD) (t : Fin cfg0.N) (r : Fin 512) (k : Fin 2048) :
    iblk m c 0 t (ix2 r k) = arrX m c ⟨t.val / 2 % 2 * 512 + r.val, by omega⟩ k := by
  unfold iblk arrX
  have hV : V m c (Pipeline.arrRef spec0 0) = shapeCast S1024x2048 (m (c.tc.loc main_arg0)) shapeCasts_S4x256x2048_S1024x2048 := by
    show StableHlo.after hostOps0 (fun b => m (c, b)) (Proc.tc.devRef main_v0) = _
    after_results
    rfl
  rw [hV]
  have e : ((cfg0.win 0).blk t).view.emb (ix2 r k) = ix2 (⟨t.val / 2 % 2 * 512 + r.val, by omega⟩ : Fin 1024) k := by
    refine funext fun a => Fin.ext ?_
    match a with
    | ⟨0, _⟩ => blk_simp; rw [(at0 t).1]
    | ⟨1, _⟩ => blk_simp; rw [(at0 t).2]; show 0 * 2048 + k.val = k.val; omega
  refine (congrArg (shapeCast S1024x2048 (m (c.tc.loc main_arg0)) shapeCasts_S4x256x2048_S1024x2048) e).trans ?_
  refine shapeCast_apply _ _ _ _ ?_
  rw [Shape.rowMajor_val_two]
  refine (Shape.rowMajor_val_three _).trans ?_
  show ((t.val / 2 % 2 * 512 + r.val) / 256 * 256 + (t.val / 2 % 2 * 512 + r.val) % 256) * 2048 + k.val = (t.val / 2 % 2 * 512 + r.val) * 2048 + k.val
  omega
theorem blk1 (c : Dev nD) (t : Fin cfg0.N) (k : Fin 2048) :
    iblk m c 1 t (ix3 0 0 k) = arrG m c ⟨t.val / 4, by have := lt_N t; omega⟩ k := by
  have hN := lt_N t
  unfold iblk arrG
  have hV : V m c (Pipeline.arrRef spec0 1) = shapeCast S4x1x2048 (m (c.tc.loc main_arg1)) shapeCasts_S4x2048_S4x1x2048 := by
    show StableHlo.after hostOps0 (fun b => m (c, b)) (Proc.tc.devRef main_v1) = _
    after_results
    rfl
  rw [hV]
  have e : ((cfg0.win 1).blk t).view.emb (ix3 0 0 k) = ix3 (⟨t.val / 4, by omega⟩ : Fin 4) 0 k := by
    refine funext fun a => Fin.ext ?_
    match a with
    | ⟨0, _⟩ => blk_simp; rw [(at1 t).1]; rfl
    | ⟨1, _⟩ => blk_simp; rw [(at1 t).2.1]; rfl
    | ⟨2, _⟩ => blk_simp; rw [(at1 t).2.2]; show 0 * 2048 + k.val = k.val; omega
  refine (congrArg (shapeCast S4x1x2048 (m (c.tc.loc main_arg1)) shapeCasts_S4x2048_S4x1x2048) e).trans ?_
  pointwise
theorem blk2 (c : Dev nD) (t : Fin cfg0.N) (k : Fin 2048) (q : Fin 512) :
    iblk m c 2 t (ix3 0 k q) = arrW m c ⟨t.val / 4, by have := lt_N t; omega⟩ k ⟨min (t.val % 4) 1 * 512 + q.val, by omega⟩ := by
  unfold iblk arrW
  rw [show V m c (Pipeline.arrRef spec0 2) = m (c.tc.loc main_arg2) from V_main_arg2 m c]
  refine congrArg (m (c.tc.loc main_arg2)) (funext fun a => Fin.ext ?_)
  match a with
  | ⟨0, _⟩ => blk_simp; rw [(at2 t).1]; rfl
  | ⟨1, _⟩ => blk_simp; rw [(at2 t).2.1]; show 0 * 2048 + k.val = k.val; omega
  | ⟨2, _⟩ => blk_simp; rw [(at2 t).2.2]

/-! ## The result -/

/-- One row's keys and values in a layer. -/
def res (c : Dev nD) (l : Fin 4) (r : Fin 1024) (q : Fin 1024) : EReal := ∑ k, nrmRow (arrX m c r) (arrG m c l) k * arrW m c l k q

theorem oAt_val (c : Dev nD) (t : Fin cfg0.N) (r : Fin 512) (q : Fin 512) :
    oAt m c t (ix3 0 r q) = res m c ⟨t.val / 4, by have := lt_N t; omega⟩ ⟨t.val / 2 % 2 * 512 + r.val, by omega⟩ ⟨t.val % 2 * 512 + q.val, by omega⟩ := by
  have hN := lt_N t
  unfold oAt res
  rw [o_at]
  refine Finset.sum_congr rfl fun k _ => congrArg₂ (· * ·) ?_ ?_
  · unfold xnAt
    rw [xn_at]
    refine congrArg₂ (fun a b => nrmRow a b k) (funext fun j => ?_) (funext fun j => ?_)
    · refine (blk0 m c (rowOf t) r j).trans (congrArg (fun z => arrX m c z j) (Fin.ext ?_))
      show t.val / 2 * 2 / 2 % 2 * 512 + r.val = t.val / 2 % 2 * 512 + r.val
      omega
    · refine (blk1 m c (rowOf t) j).trans (congrArg (fun z => arrG m c z j) (Fin.ext ?_))
      show t.val / 2 * 2 / 4 = t.val / 4
      omega
  · unfold wAt
    rw [cols_at]
    refine (blk2 m c (colAt t) k q).trans (congrArg₂ (fun y z => arrW m c y k z) (Fin.ext ?_) (Fin.ext ?_))
    · show (t.val / 4 * 4 + t.val % 2) / 4 = t.val / 4
      omega
    · show min ((t.val / 4 * 4 + t.val % 2) % 4) 1 * 512 + q.val = t.val % 2 * 512 + q.val
      omega

/-- The result as a function of its index. -/
def whole (c : Dev nD) : FVec Ideal S4x1024x1024 .f32 := fun y => res m c ⟨(y 0).val, (y 0).isLt⟩ ⟨(y 1).val, (y 1).isLt⟩ ⟨(y 2).val, (y 2).isLt⟩

/-- After the run the array holds the result. -/
theorem arr3 (c : Dev nD) : (dats m 0 c).arrAt 3 cfg0.N = whole m c := by
  refine (dats m 0 c).arrAt_eq_of_covers 3 _ (by decide +kernel) fun t hf y => ?_
  have hN := lt_N t
  blk_simp
  rw [after0_3]
  have h0 : (y 0).val < 1 := (y 0).isLt
  have h1 : (y 1).val < 512 := (y 1).isLt
  have h2 : (y 2).val < 512 := (y 2).isLt
  have e : (win0_3.blk t).view.emb y = ix3 (⟨t.val / 4, by omega⟩ : Fin 4) (⟨t.val / 2 % 2 * 512 + (y 1).val, by omega⟩ : Fin 1024) (⟨t.val % 2 * 512 + (y 2).val, by omega⟩ : Fin 1024) := by
    refine funext fun a => Fin.ext ?_
    match a with
    | ⟨0, _⟩ => blk_simp; rw [(at3 t).1]
    | ⟨1, _⟩ => blk_simp; rw [(at3 t).2.1]; rfl
    | ⟨2, _⟩ => blk_simp; rw [(at3 t).2.2]; rfl
  rw [e]
  refine Eq.trans (congrArg (oAt m c t) ?_) (oAt_val m c t ⟨(y 1).val, h1⟩ ⟨(y 2).val, h2⟩)
  exact funext fun a => match a with | ⟨0, _⟩ => Fin.ext (by show (y 0).val = 0; omega) | ⟨1, _⟩ => rfl | ⟨2, _⟩ => rfl

end Cert.MkvVal

end
-- ==== Proof.MkvRef.lean ====
/- The reference of the memory keys and values, at an index. -/
module

public import proofs.«01_k».proof.Proof.FfnMath
public import proofs.«01_k».proof.Proof.Gen.MkvRefIdeal.Read

@[expose] public section

set_option maxRecDepth 16384

noncomputable section

namespace Cert.MkvRef

open Idealize.ShloMosaic Idealize.ShloMosaic.TcCoe Idealize.SL.Sem
open Cert.MkvRefIdeal Cert.MkvRefIdeal.Read Cert.Ffn

variable (x0 : (⟨S4x256x2048, .f32⟩ : BufTy).Contents (Elt Ideal)) (x1 : (⟨S4x2048, .f32⟩ : BufTy).Contents (Elt Ideal))
  (x2 : (⟨S4x2048x1024, .f32⟩ : BufTy).Contents (Elt Ideal))

/-- One entry of a layer's keys and values. -/
def ent (l : Fin 4) (b : Fin 4) (r : Fin 256) (q : Fin 1024) : EReal := ∑ k, nrmRow (fun k => x0 (ix3 b r k)) (fun k => x1 (ix2 l k)) k * x2 (ix3 l k q)

theorem norm0 (b : Fin 4) (r : Fin 256) (k : Fin 2048) : val_main_v14 (F := Ideal) x0 x1 (ix3 b r k) = nrmRow (fun k => x0 (ix3 b r k)) (fun k => x1 (ix2 0 k)) k := by
  unfold nrmRow
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
theorem ent0 (b : Fin 4) (r : Fin 256) (q : Fin 1024) : val_main_v17 (F := Ideal) x0 x1 x2 (ix3 b r q) = ent x0 x1 x2 0 b r q := by
  have hW : ∀ k, val_main_v16 (F := Ideal) x2 (ix2 k q) = x2 (ix3 0 k q) := fun k => by
    pointwise [val_main_v16, val_main_v15]
  unfold ent
  rw [← Finset.sum_congr rfl fun k _ => congrArg₂ (· * ·) (norm0 x0 x1 b r k) (hW k)]
  pointwise [val_main_v17]
theorem norm1 (b : Fin 4) (r : Fin 256) (k : Fin 2048) : val_main_v32 (F := Ideal) x0 x1 (ix3 b r k) = nrmRow (fun k => x0 (ix3 b r k)) (fun k => x1 (ix2 1 k)) k := by
  unfold nrmRow
  pointwise [val_main_v32, val_main_v31, val_main_v30, val_main_v29, val_main_v28, val_main_v27, val_main_v26, val_main_v25, val_main_cst_4, val_main_v24, val_main_v23, val_main_cst_3, val_main_v22, val_main_v21, val_main_cst_2, val_main_v20, val_main_v19, val_main_v18]
theorem ent1 (b : Fin 4) (r : Fin 256) (q : Fin 1024) : val_main_v35 (F := Ideal) x0 x1 x2 (ix3 b r q) = ent x0 x1 x2 1 b r q := by
  have hW : ∀ k, val_main_v34 (F := Ideal) x2 (ix2 k q) = x2 (ix3 1 k q) := fun k => by
    pointwise [val_main_v34, val_main_v33]
  unfold ent
  rw [← Finset.sum_congr rfl fun k _ => congrArg₂ (· * ·) (norm1 x0 x1 b r k) (hW k)]
  pointwise [val_main_v35]
theorem norm2 (b : Fin 4) (r : Fin 256) (k : Fin 2048) : val_main_v50 (F := Ideal) x0 x1 (ix3 b r k) = nrmRow (fun k => x0 (ix3 b r k)) (fun k => x1 (ix2 2 k)) k := by
  unfold nrmRow
  pointwise [val_main_v50, val_main_v49, val_main_v48, val_main_v47, val_main_v46, val_main_v45, val_main_v44, val_main_v43, val_main_cst_7, val_main_v42, val_main_v41, val_main_cst_6, val_main_v40, val_main_v39, val_main_cst_5, val_main_v38, val_main_v37, val_main_v36]
theorem ent2 (b : Fin 4) (r : Fin 256) (q : Fin 1024) : val_main_v53 (F := Ideal) x0 x1 x2 (ix3 b r q) = ent x0 x1 x2 2 b r q := by
  have hW : ∀ k, val_main_v52 (F := Ideal) x2 (ix2 k q) = x2 (ix3 2 k q) := fun k => by
    pointwise [val_main_v52, val_main_v51]
  unfold ent
  rw [← Finset.sum_congr rfl fun k _ => congrArg₂ (· * ·) (norm2 x0 x1 b r k) (hW k)]
  pointwise [val_main_v53]
theorem norm3 (b : Fin 4) (r : Fin 256) (k : Fin 2048) : val_main_v68 (F := Ideal) x0 x1 (ix3 b r k) = nrmRow (fun k => x0 (ix3 b r k)) (fun k => x1 (ix2 3 k)) k := by
  unfold nrmRow
  pointwise [val_main_v68, val_main_v67, val_main_v66, val_main_v65, val_main_v64, val_main_v63, val_main_v62, val_main_v61, val_main_cst_10, val_main_v60, val_main_v59, val_main_cst_9, val_main_v58, val_main_v57, val_main_cst_8, val_main_v56, val_main_v55, val_main_v54]
theorem ent3 (b : Fin 4) (r : Fin 256) (q : Fin 1024) : val_main_v71 (F := Ideal) x0 x1 x2 (ix3 b r q) = ent x0 x1 x2 3 b r q := by
  have hW : ∀ k, val_main_v70 (F := Ideal) x2 (ix2 k q) = x2 (ix3 3 k q) := fun k => by
    pointwise [val_main_v70, val_main_v69]
  unfold ent
  rw [← Finset.sum_congr rfl fun k _ => congrArg₂ (· * ·) (norm3 x0 x1 b r k) (hW k)]
  pointwise [val_main_v71]

/-- The layers' results, stacked. -/
theorem stack (l : Fin 4) (b : Fin 4) (r : Fin 256) (q : Fin 1024) : val_main_v76 (F := Ideal) x0 x1 x2 (ix4 l b r q) = ent x0 x1 x2 l b r q := by
  match l with
  | 0 => rw [← ent0]; pointwise [val_main_v76, val_main_v72]
  | 1 => rw [← ent1]; pointwise [val_main_v76, val_main_v73]
  | 2 => rw [← ent2]; pointwise [val_main_v76, val_main_v74]
  | 3 => rw [← ent3]; pointwise [val_main_v76, val_main_v75]

/-- The reference's result, at an index. -/
theorem res (l : Fin 4) (r : Fin 1024) (q : Fin 1024) : val_main_v77 (F := Ideal) x0 x1 x2 (ix3 l r q) = ent x0 x1 x2 l ⟨r.val / 256, by omega⟩ ⟨r.val % 256, by omega⟩ q := by
  refine Eq.trans ?_ (stack x0 x1 x2 l ⟨r.val / 256, by omega⟩ ⟨r.val % 256, by omega⟩ q)
  unfold val_main_v77
  refine shapeCast_apply _ _ _ _ ?_
  rw [Shape.rowMajor_val_three]
  refine (Shape.rowMajor_val_four _).trans ?_
  show ((l.val * 4 + r.val / 256) * 256 + r.val % 256) * 1024 + q.val = (l.val * 1024 + r.val) * 1024 + q.val
  omega

end Cert.MkvRef

end
-- ==== Proof.MkvClaim.lean ====
/- The claims about the memory keys and values. -/
module

public import proofs.«01_k».proof.Defs
public import proofs.«01_k».proof.Proof.MkvOut
public import proofs.«01_k».proof.Proof.MkvRef
public import proofs.«01_k».proof.Proof.Gen.Mkv.Frame

@[expose] public section

set_option maxRecDepth 16384

noncomputable section

namespace Cert.MkvProof

open Idealize.ShloMosaic Idealize.ShloMosaic.TcCoe Idealize.SL.Sem

/-- The reference leaves its arguments alone. -/
theorem ref_frame : quiescent_MkvRefIdeal := fun m g _ =>
  (θ_run _ _ _).mono (fun r h => ⟨fun c => (h c).2, sem_eq_zero_of_no_sems rfl r.2⟩) (MkvRefIdeal.Value.run m g)

section

variable {F : FTy → Type} [FloatOps F]

attribute [local instance] Mkv.Gen.facts MkvIdeal.Gen.facts

/-- The two printings of the kernel have the same body. -/
theorem bodies : Mkv.defs₀ (F := F) = MkvIdeal.defs₀ (F := F) := by
  refine congrArg Defs.onTc (funext fun n => funext fun a => ?_)
  match n, a with
  | ⟨0, _⟩, (t, s) => rfl

/-- So they have the same table. -/
theorem tables : Mkv.defs (F := F) = MkvIdeal.defs (F := F) :=
  congrArg (Pipeline.defs (MkvIdeal.pcfgs (F := F))) bodies

/-- The kernel leaves its arguments alone: the one run, at the machine's floats. -/
theorem kernel_frame : quiescent_Mkv := fun m g _ => by
  have h := MkvVal.frame (F := Bits) m g
  rw [← tables] at h
  exact h

end

/-- The kernel over the reals leaves its arguments alone. -/
theorem frame : quiescent_MkvIdeal := fun m g _ => MkvVal.frame m g

/-- The kernel over the reals computes what the reference does. -/
theorem algebraic : algebraic_MkvIdeal_MkvRefIdeal := by
  intro m g m' g' _ ha
  refine ⟨fun c => MkvVal.whole m c, ?_, ?_⟩
  · exact (θ_run _ _ _).mono (fun r h c => ⟨((h.1.1 c).1 3).trans (MkvVal.arr3 m c), h.2.1 c⟩)
      (θ_run_and (MkvVal.run_main m g) (MkvVal.frame m g))
  · refine (θ_run _ _ _).mono (fun r h c => ⟨(h c).1.trans ?_, (h c).2⟩) (MkvRefIdeal.Value.run m' g')
    rw [MkvRefIdeal.Read.val_main_v77_eq, (ha c).1, (ha c).2.1, (ha c).2.2]
    funext y
    obtain ⟨l, r, q, rfl⟩ : ∃ (l : Fin 4) (r : Fin 1024) (q : Fin 1024), y = ix3 l r q := ⟨y 0, y 1, y 2, funext fun a => match a with | ⟨0, _⟩ => rfl | ⟨1, _⟩ => rfl | ⟨2, _⟩ => rfl⟩
    exact MkvRef.res _ _ _ l r q

end Cert.MkvProof

end
-- ==== Proof.OutRun0.lean ====
/- The output projection of layer 0: the body on any staging memrefs, case by case, with what it leaves in each buffer. -/
module

public import proofs.«01_k».proof.Proof.Gen.Out0Ideal.Frame
public import proofs.«01_k».proof.Proof.Gen.Out0Ideal.Skeleton
public import Idealize.ShloMosaic.Lib.VecWindow

@[expose] public section

set_option maxRecDepth 16384

noncomputable section

namespace Cert.Out0Val

open Cert.Out0Ideal Cert.Out0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The point is in the first block of rows, as the weights' store asks. -/
abbrev cond0_1 (i : grid0.Coords) : Prop := k0_cond2 i = 1#1
theorem hcond0_1 : ∀ t : Fin cfg0.N, cond0_1 (grid0.coords t) ↔ t.val < 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The same, as the sample rows ask. -/
abbrev cond0_2 (i : grid0.Coords) : Prop := k0_cond3 i = 1#1
theorem hcond0_2 : ∀ t : Fin cfg0.N, cond0_2 (grid0.coords t) ↔ t.val < 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val < 4)

/-! ## The staging memrefs -/

/-- Each window's staging memref at a point, and that it is a whole buffer. -/
abbrev ms0_0 (t : Fin cfg0.N) : 𝔹 S1024x1536 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S8x1536 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S8x512 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x512 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x512 .f32 := win0_8.stage (cfg0.slots t 8)
abbrev hs0_8 (t : Fin cfg0.N) : (ms0_8 t).IsWhole := hstage0_8 ((cfg0.slots t 8).cast nbuf0_8)
/-- The two buffers the call keeps for itself: the left-hand rows and the weights. -/
abbrev scM0_0 : 𝔹 S1024x2048 .bf16 := Memref.whole cc0_scratch0
abbrev scM0_1 : 𝔹 S4x2048x512 .bf16 := Memref.whole cc0_scratch1

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## Loads and stores, read back -/

section
variable {κ : Kind} {sp : Space} {e : EltTy}
/-- Loading all of a buffer reads it. -/
theorem load_S1024x1536 (v : View sig κ sp S1024x1536 e) (f : v.ty.Contents (Elt F)) (inb) :
    v.readAt (Elt F) (Rect.unit (s := S1024x1536) ![0, 0] ![1024, 1536] inb).toLoadRect f = v.read (Elt F) f := View.readAt_full v f inb
/-- Loading all of a buffer reads it. -/
theorem load_S1024x512 (v : View sig κ sp S1024x512 e) (f : v.ty.Contents (Elt F)) (inb) :
    v.readAt (Elt F) (Rect.unit (s := S1024x512) ![0, 0] ![1024, 512] inb).toLoadRect f = v.read (Elt F) f := View.readAt_full v f inb
/-- Loading all of a buffer reads it. -/
theorem load_S1x2048x512 (v : View sig κ sp S1x2048x512 e) (f : v.ty.Contents (Elt F)) (inb) :
    v.readAt (Elt F) (Rect.unit (s := S1x2048x512) ![0, 0, 0] ![1, 2048, 512] inb).toLoadRect f = v.read (Elt F) f := View.readAt_full v f inb
/-- Loading all of a buffer reads it. -/
theorem load_S8x1536 (v : View sig κ sp S8x1536 e) (f : v.ty.Contents (Elt F)) (inb) :
    v.readAt (Elt F) (Rect.unit (s := S8x1536) ![0, 0] ![8, 1536] inb).toLoadRect f = v.read (Elt F) f := View.readAt_full v f inb
/-- Loading all of a buffer reads it. -/
theorem load_S8x512 (v : View sig κ sp S8x512 e) (f : v.ty.Contents (Elt F)) (inb) :
    v.readAt (Elt F) (Rect.unit (s := S8x512) ![0, 0] ![8, 512] inb).toLoadRect f = v.read (Elt F) f := View.readAt_full v f inb
/-- Loading all of a buffer reads it. -/
theorem load_S1024x2048 (v : View sig κ sp S1024x2048 e) (f : v.ty.Contents (Elt F)) (inb) :
    v.readAt (Elt F) (Rect.unit (s := S1024x2048) ![0, 0] ![1024, 2048] inb).toLoadRect f = v.read (Elt F) f := View.readAt_full v f inb
/-- Reading a buffer after a store of all of it gives what was stored. -/
theorem stored_S1024x512 (v : View sig κ sp S1024x512 e) (f : v.ty.Contents (Elt F)) (inb) (w : (Rect.unit (s := S1024x512) ![0, 0] ![1024, 512] inb).shape.Idx → Elt F e) (L : List (View.Piece (Elt F) S1024x512 e)) :
    v.read (Elt F) (v.writes (Elt F) f (⟨Rect.unit (s := S1024x512) ![0, 0] ![1024, 512] inb, w⟩ :: L)) = w := View.read_writes_full v f inb w L
/-- Reading a buffer after a store of all of it gives what was stored. -/
theorem stored_S8x512 (v : View sig κ sp S8x512 e) (f : v.ty.Contents (Elt F)) (inb) (w : (Rect.unit (s := S8x512) ![0, 0] ![8, 512] inb).shape.Idx → Elt F e) (L : List (View.Piece (Elt F) S8x512 e)) :
    v.read (Elt F) (v.writes (Elt F) f (⟨Rect.unit (s := S8x512) ![0, 0] ![8, 512] inb, w⟩ :: L)) = w := View.read_writes_full v f inb w L
end

/-! ## What the body leaves -/

/-- The rows of the two operands side by side, the left-hand side of the product. -/
def lhsOf (z : Vec F S1024x1536 .f32) (mo : Vec F S1024x512 .f32) : Vec F S1024x2048 .bf16 := fun y =>
  if h : (y 1).val < 1536 then k0_pay1 z (fun | ⟨0, _⟩ => y 0 | ⟨1, _⟩ => ⟨(y 1).val, h⟩)
  else k0_pay2 mo (fun | ⟨0, _⟩ => y 0 | ⟨1, _⟩ => ⟨(y 1).val - 1536, by have h2 : (y 1).val < 2048 := (y 1).isLt; show _ < 512; omega⟩)

/-- The two stores of the left-hand side leave it whole, whatever was there. -/
theorem lhs_put {κ : Kind} {sp : Space} (v : View sig κ sp S1024x2048 .bf16) (f : v.ty.Contents (Elt F)) (z : Vec F S1024x1536 .f32) (mo : Vec F S1024x512 .f32) (inb inb') :
    v.read (Elt F) (v.writes (Elt F) f [⟨Rect.unit (s := S1024x2048) ![0, 1536] ![1024, 512] inb, k0_pay2 mo⟩, ⟨Rect.unit (s := S1024x2048) ![0, 0] ![1024, 1536] inb', k0_pay1 z⟩]) = lhsOf z mo := by
  funext y
  have h2 : (y 1).val < 2048 := (y 1).isLt
  unfold lhsOf
  by_cases h : (y 1).val < 1536
  · rw [dif_pos h, View.read_writes_cons_unit_of_not_mem v f inb _ _ y rfl 1 (.inl h)]
    exact View.read_writes_cons_unit_of_mem v f inb' _ [] y (fun | ⟨0, _⟩ => y 0 | ⟨1, _⟩ => ⟨(y 1).val, h⟩) rfl (fun a => by fin_cases a <;> simp)
  · rw [dif_neg h]
    exact View.read_writes_cons_unit_of_mem v f inb _ _ y (fun | ⟨0, _⟩ => y 0 | ⟨1, _⟩ => ⟨(y 1).val - 1536, by show _ < 512; omega⟩) rfl (fun a => by fin_cases a <;> simp; omega)

/-- So does loading it whole after the two stores. -/
theorem lhs_cov {κ : Kind} {sp : Space} (v : View sig κ sp S1024x2048 .bf16) (z : Vec F S1024x1536 .f32) (mo : Vec F S1024x512 .f32) (inb inb' inb'') :
    v.readCov [⟨Rect.unit (s := S1024x2048) ![0, 1536] ![1024, 512] inb, k0_pay2 mo⟩, ⟨Rect.unit (s := S1024x2048) ![0, 0] ![1024, 1536] inb', k0_pay1 z⟩] (Rect.unit (s := S1024x2048) ![0, 0] ![1024, 2048] inb'').toLoadRect = lhsOf z mo :=
  (View.readAt_full v _ inb'').trans (lhs_put v _ z mo inb inb')

/-- One block of columns of the weights held, read by the point's offsets; -/
abbrev colsOf (i : grid0.Coords) (W : Vec F S4x2048x512 .bf16) : Vec F S1x2048x512 .bf16 := VecWindow.window W (k0_off2 i) ![1, 2048, 512] (k0_off2_inb i)
/-- and the weights with that block replaced. -/
abbrev colsPut (i : grid0.Coords) (W : Vec F S4x2048x512 .bf16) (w : Vec F S1x2048x512 .bf16) : Vec F S4x2048x512 .bf16 := VecWindow.put W (k0_off2 i) ![1, 2048, 512] w

/-- The body, whatever the labels of the table it stands in: the same text in every layer. -/
def body (Λ : Labels) (i : grid0.Coords) (arg2 : 𝔹 S1024x1536 .f32) (harg2 : arg2.IsWhole) (arg3 : 𝔹 S1024x512 .f32) (harg3 : arg3.IsWhole) (arg4 : 𝔹 S1x2048x512 .f32) (harg4 : arg4.IsWhole) (arg5 : 𝔹 S1024x512 .f32) (harg5 : arg5.IsWhole) (arg6 : 𝔹 S8x1536 .f32) (harg6 : arg6.IsWhole) (arg7 : 𝔹 S8x512 .f32) (harg7 : arg7.IsWhole) (arg8 : 𝔹 S8x512 .f32) (harg8 : arg8.IsWhole) (arg9 : 𝔹 S1024x512 .f32) (harg9 : arg9.IsWhole) (arg10 : 𝔹 S8x512 .f32) (harg10 : arg10.IsWhole) (arg11 : 𝔹 S1024x2048 .bf16) (harg11 : arg11.IsWhole) (arg12 : 𝔹 S4x2048x512 .bf16) (harg12 : arg12.IsWhole) :
    Prog (TpuEff nD τ sig (Elt F) Λ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v18 : Vec F S1024x1536 .f32 ← Prog.lift (.load arg2 (Rect.unit (s := S1024x1536) ![0, 0] S1024x1536.size inb_S1024x1536_S1024x1536_0_0).toLoadRect (View.loadsAt_vmem h_S1024x1536))
    let v21 : Vec F S1024x1536 .bf16 ← Prog.lift (.load arg11 (Rect.unit (s := S1024x2048) ![0, 0] S1024x1536.size inb_S1024x2048_S1024x1536_0_0).toLoadRect (View.loadsAt_vmem h_S1024x1536))
    Prog.lift (.store arg11 (Rect.unit (s := S1024x2048) ![0, 0] S1024x1536.size inb_S1024x2048_S1024x1536_0_0) (k0_pay1 v18) Finset.univ (View.stores_vmem h_S1024x1536 (harg11.storeExact_slice rfl _ packedbf16_S1024x2048_S1024x1536_0_0) (fun _ => rfl)) (.inl rfl))
    let v24 : Vec F S1024x512 .f32 ← Prog.lift (.load arg3 (Rect.unit (s := S1024x512) ![0, 0] S1024x512.size inb_S1024x512_S1024x512_0_0).toLoadRect (View.loadsAt_vmem h_S1024x512))
    let v27 : Vec F S1024x512 .bf16 ← Prog.lift (.load arg11 (Rect.unit (s := S1024x2048) ![0, 1536] S1024x512.size inb_S1024x2048_S1024x512_0_1536).toLoadRect (View.loadsAt_vmem h_S1024x512))
    Prog.lift (.store arg11 (Rect.unit (s := S1024x2048) ![0, 1536] S1024x512.size inb_S1024x2048_S1024x512_0_1536) (k0_pay2 v24) Finset.univ (View.stores_vmem h_S1024x512 (harg11.storeExact_slice rfl _ packedbf16_S1024x2048_S1024x512_0_1536) (fun _ => rfl)) (.inl rfl))
    pure ⟨⟩
  else do
    pure ⟨⟩
  if k0_h2 : k0_cond2 i = 1#1 then do
    let v18 : Vec F S1x2048x512 .f32 ← Prog.lift (.load arg4 (Rect.unit (s := S1x2048x512) ![0, 0, 0] S1x2048x512.size inb_S1x2048x512_S1x2048x512_0_0_0).toLoadRect (View.loadsAt_vmem h_S1x2048x512))
    let v22 : Vec F S1x2048x512 .bf16 ← Prog.lift (.load arg12 (Rect.unit (s := S4x2048x512) (k0_off1 i) S1x2048x512.size (k0_off1_inb i k0_h2)).toLoadRect (View.loadsAt_vmem h_S1x2048x512))
    Prog.lift (.store arg12 (Rect.unit (s := S4x2048x512) (k0_off1 i) S1x2048x512.size (k0_off1_inb i k0_h2)) (k0_pay3 v18) Finset.univ (View.stores_vmem h_S1x2048x512 (harg12.storeExact_slice rfl _ (k0_off1_packedbf16 i k0_h2)) (fun _ => rfl)) (.inl rfl))
    pure ⟨⟩
  else do
    pure ⟨⟩
  let v6 : Vec F S1024x512 .f32 ← Prog.lift (.load arg5 (Rect.unit (s := S1024x512) ![0, 0] S1024x512.size inb_S1024x512_S1024x512_0_0).toLoadRect (View.loadsAt_vmem h_S1024x512))
  let v8 : Vec F S1024x2048 .bf16 ← Prog.lift (.load arg11 (Rect.unit (s := S1024x2048) ![0, 0] S1024x2048.size inb_S1024x2048_S1024x2048_0_0).toLoadRect (View.loadsAt_vmem h_S1024x2048))
  let v10 : Vec F S1x2048x512 .bf16 ← Prog.lift (.load arg12 (Rect.unit (s := S4x2048x512) (k0_off2 i) S1x2048x512.size (k0_off2_inb i)).toLoadRect (View.loadsAt_vmem h_S1x2048x512))
  let v14 : Vec F S1024x512 .f32 ← Prog.lift (.load arg9 (Rect.unit (s := S1024x512) ![0, 0] S1024x512.size inb_S1024x512_S1024x512_0_0).toLoadRect (View.loadsAt_vmem h_S1024x512))
  Prog.lift (.store arg9 (Rect.unit (s := S1024x512) ![0, 0] S1024x512.size inb_S1024x512_S1024x512_0_0) (k0_pay4 v6 v8 v10) Finset.univ (View.stores_vmem_bits_univ h_S1024x512 rfl) (.inl rfl))
  if k0_h3 : k0_cond3 i = 1#1 then do
    let v18 : Vec F S8x1536 .f32 ← Prog.lift (.load arg6 (Rect.unit (s := S8x1536) ![0, 0] S8x1536.size inb_S8x1536_S8x1536_0_0).toLoadRect (View.loadsAt_vmem h_S8x1536))
    let v20 : Vec F S8x512 .f32 ← Prog.lift (.load arg7 (Rect.unit (s := S8x512) ![0, 0] S8x512.size inb_S8x512_S8x512_0_0).toLoadRect (View.loadsAt_vmem h_S8x512))
    let v23 : Vec F S8x512 .f32 ← Prog.lift (.load arg8 (Rect.unit (s := S8x512) ![0, 0] S8x512.size inb_S8x512_S8x512_0_0).toLoadRect (View.loadsAt_vmem h_S8x512))
    let v26 : Vec F S1x2048x512 .bf16 ← Prog.lift (.load arg12 (Rect.unit (s := S4x2048x512) (k0_off3 i) S1x2048x512.size (k0_off3_inb i k0_h3)).toLoadRect (View.loadsAt_vmem h_S1x2048x512))
    let v31 : Vec F S8x512 .f32 ← Prog.lift (.load arg10 (Rect.unit (s := S8x512) ![0, 0] S8x512.size inb_S8x512_S8x512_0_0).toLoadRect (View.loadsAt_vmem h_S8x512))
    Prog.lift (.store arg10 (Rect.unit (s := S8x512) ![0, 0] S8x512.size inb_S8x512_S8x512_0_0) (k0_pay5 v18 v20 v23 v26) Finset.univ (View.stores_vmem_bits_univ h_S8x512 rfl) (.inl rfl))
    pure ⟨⟩
  else do
    pure ⟨⟩
  pure ⟨⟩

variable {Λ : Labels} (D : Defs nD τ sig (Elt F) Λ) (c : Dev nD) (i : grid0.Coords) (arg2 : 𝔹 S1024x1536 .f32) (harg2 : arg2.IsWhole) (arg3 : 𝔹 S1024x512 .f32) (harg3 : arg3.IsWhole) (arg4 : 𝔹 S1x2048x512 .f32) (harg4 : arg4.IsWhole) (arg5 : 𝔹 S1024x512 .f32) (harg5 : arg5.IsWhole) (arg6 : 𝔹 S8x1536 .f32) (harg6 : arg6.IsWhole) (arg7 : 𝔹 S8x512 .f32) (harg7 : arg7.IsWhole) (arg8 : 𝔹 S8x512 .f32) (harg8 : arg8.IsWhole) (arg9 : 𝔹 S1024x512 .f32) (harg9 : arg9.IsWhole) (arg10 : 𝔹 S8x512 .f32) (harg10 : arg10.IsWhole) (arg11 : 𝔹 S1024x2048 .bf16) (harg11 : arg11.IsWhole) (arg12 : 𝔹 S4x2048x512 .bf16) (harg12 : arg12.IsWhole)
  (x0 : Vec F S1024x1536 .f32) (x1 : Vec F S1024x512 .f32) (x2 : Vec F S1x2048x512 .f32) (x3 : Vec F S1024x512 .f32) (x4 : Vec F S8x1536 .f32) (x5 : Vec F S8x512 .f32) (x6 : Vec F S8x512 .f32) (y7 : Vec F S1024x512 .f32) (y8 : Vec F S8x512 .f32) (y9 : Vec F S1024x2048 .bf16) (y10 : Vec F S4x2048x512 .bf16)

/-- The body, called with the windows and its own buffers at the contents given first, leaves them at those given last, the inputs as they were. -/
def Leaves (z7 : Vec F S1024x512 .f32) (z8 : Vec F S8x512 .f32) (z9 : Vec F S1024x2048 .bf16) (z10 : Vec F S4x2048x512 .bf16) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare y7 ∗ owns c.tc arg10 fullShare y8 ∗ owns c.tc arg11 fullShare y9 ∗ owns c.tc arg12 fullShare y10
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare z7 ∗ owns c.tc arg10 fullShare z8 ∗ owns c.tc arg11 fullShare z9 ∗ owns c.tc arg12 fullShare z10) -∗ K ⟨⟩))
      ⊢ wp frame (wpE D Variants.none c none) E (body Λ i arg2 harg2 arg3 harg3 arg4 harg4 arg5 harg5 arg6 harg6 arg7 harg7 arg8 harg8 arg9 harg9 arg10 harg10 arg11 harg11 arg12 harg12) K

set_option maxHeartbeats 4000000 in
/-- The body at the first block of columns, in the first block of rows. -/
theorem run_A (hc0 : cond0_0 i) (hc1 : cond0_1 i) (hc2 : cond0_2 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (k0_pay4 x3 (lhsOf x0 x1) (k0_pay3 x2)) (k0_pay5 x4 x5 x6 (k0_pay3 x2)) (lhsOf x0 x1) (colsPut i y10 (k0_pay3 x2)) := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  · iexists _; isplitr; swap; · iexact H10
    ipureintro; sl_unfold_words; exact (View.read_writes_cons_put _ _ _ _ [] rfl).trans (congrArg₂ (colsPut i) (harg12.read_unread y10) (congrArg k0_pay3 ((load_S1x2048x512 _ _ _).trans (harg4.read_unread x2))))
  all_goals (iexists _; isplitr; rotate_left; iassumption)
  all_goals ipureintro; try sl_unfold_words
  all_goals simp only [lhs_put, lhs_cov, load_S1024x1536, load_S1024x512, load_S1x2048x512, load_S8x1536, load_S8x512, load_S1024x2048, stored_S1024x512, stored_S8x512, View.readCov_cons_toLoadRect, *]

set_option maxHeartbeats 4000000 in
/-- The body at a later block of columns, in the first block of rows. -/
theorem run_B (hc0 : ¬cond0_0 i) (hc1 : cond0_1 i) (hc2 : cond0_2 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (k0_pay4 x3 y9 (k0_pay3 x2)) (k0_pay5 x4 x5 x6 (k0_pay3 x2)) y9 (colsPut i y10 (k0_pay3 x2)) := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  · iexists _; isplitr; swap; · iexact H10
    ipureintro; sl_unfold_words; exact (View.read_writes_cons_put _ _ _ _ [] rfl).trans (congrArg₂ (colsPut i) (harg12.read_unread y10) (congrArg k0_pay3 ((load_S1x2048x512 _ _ _).trans (harg4.read_unread x2))))
  all_goals (iexists _; isplitr; rotate_left; iassumption)
  all_goals ipureintro; try sl_unfold_words
  all_goals simp only [lhs_put, lhs_cov, load_S1024x1536, load_S1024x512, load_S1x2048x512, load_S8x1536, load_S8x512, load_S1024x2048, stored_S1024x512, stored_S8x512, View.readCov_cons_toLoadRect, *]

set_option maxHeartbeats 4000000 in
/-- The body at the first block of columns, in a later block of rows. -/
theorem run_C (hc0 : cond0_0 i) (hc1 : ¬cond0_1 i) (hc2 : ¬cond0_2 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (k0_pay4 x3 (lhsOf x0 x1) (colsOf i y10)) y8 (lhsOf x0 x1) y10 := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left
  isplitl [H7]
  · iexists _; isplitr; swap; · iexact H7
    ipureintro; sl_unfold_words; simp only [lhs_put, lhs_cov, load_S1024x1536, load_S1024x512, load_S1x2048x512, load_S8x1536, load_S8x512, load_S1024x2048, stored_S1024x512, stored_S8x512, View.readCov_cons_toLoadRect, *]
    exact congrArg (k0_pay4 _ _) (congrArg (colsOf i) (harg12.read_unread y10))
  isplitl [H8]; rotate_left; isplitl [H9]; rotate_left
  all_goals (iexists _; isplitr; rotate_left; iassumption)
  all_goals ipureintro; try sl_unfold_words
  all_goals simp only [lhs_put, lhs_cov, load_S1024x1536, load_S1024x512, load_S1x2048x512, load_S8x1536, load_S8x512, load_S1024x2048, stored_S1024x512, stored_S8x512, View.readCov_cons_toLoadRect, *]

set_option maxHeartbeats 4000000 in
/-- The body at a later block of columns, in a later block of rows. -/
theorem run_D (hc0 : ¬cond0_0 i) (hc1 : ¬cond0_1 i) (hc2 : ¬cond0_2 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (k0_pay4 x3 y9 (colsOf i y10)) y8 y9 y10 := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left
  isplitl [H7]
  · iexists _; isplitr; swap; · iexact H7
    ipureintro; sl_unfold_words; simp only [lhs_put, lhs_cov, load_S1024x1536, load_S1024x512, load_S1x2048x512, load_S8x1536, load_S8x512, load_S1024x2048, stored_S1024x512, stored_S8x512, View.readCov_cons_toLoadRect, *]
    exact congrArg (k0_pay4 _ _) (congrArg (colsOf i) (harg12.read_unread y10))
  isplitl [H8]; rotate_left; isplitl [H9]; rotate_left
  all_goals (iexists _; isplitr; rotate_left; iassumption)
  all_goals ipureintro; assumption
theorem body_eq : cc0_out_proj2 (F := F) = body Λ₀ := rfl

end Cert.Out0Val

end
-- ==== Proof.OutDat0.lean ====
/- The output projection of layer 0: what every buffer holds after every point of the grid, and the run of the whole call. -/
module

public import proofs.«01_k».proof.Proof.OutRun0
public import Idealize.ShloMosaic.Lib.Claim

@[expose] public section

set_option maxRecDepth 16384

noncomputable section

namespace Cert.Out0Val

open Cert.Out0Ideal Cert.Out0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## What the buffers hold after each point -/

theorem lt_N (t : Fin cfg0.N) : t.val < 32 := lt_of_lt_of_eq t.isLt (show cfg0.N = 32 from N_0)

/-- The first point of the point's block of rows; -/
def rowOf (t : Fin cfg0.N) : Fin cfg0.N := ⟨t.val / 4 * 4, by have := t.isLt; omega⟩
/-- the point of the first block of rows with the point's block of columns; -/
def colAt (t : Fin cfg0.N) : Fin cfg0.N := ⟨t.val % 4, by have := t.isLt; omega⟩
/-- the last point that touches the sample rows. -/
def smpAt (t : Fin cfg0.N) : Fin cfg0.N := ⟨min t.val 3, by have := t.isLt; omega⟩

/-- The point before. -/
abbrev prev (t : Fin cfg0.N) : Fin cfg0.N := ⟨t.val - 1, Nat.lt_of_le_of_lt (Nat.sub_le _ _) t.isLt⟩

/-- The blocks of the inputs the points read. -/
structure Blks (F : FTy → Type) [FloatOps F] where
  b0 : Fin cfg0.N → Vec F S1024x1536 .f32
  b1 : Fin cfg0.N → Vec F S1024x512 .f32
  b2 : Fin cfg0.N → Vec F S1x2048x512 .f32
  b3 : Fin cfg0.N → Vec F S1024x512 .f32
  b4 : Fin cfg0.N → Vec F S8x1536 .f32
  b5 : Fin cfg0.N → Vec F S8x512 .f32
  b6 : Fin cfg0.N → Vec F S8x512 .f32

namespace Pts

variable (b : Blks F)

/-- The left-hand side held after a point: that of its block of rows. -/
def lhsAt (t : Fin cfg0.N) : Vec F S1024x2048 .bf16 := lhsOf (b.b0 (rowOf t)) (b.b1 (rowOf t))
/-- The block of columns of the weights a point of the first block of rows stores. -/
def wAt (t : Fin cfg0.N) : Vec F S1x2048x512 .bf16 := k0_pay3 (b.b2 t)
/-- The prompt rows' result at a point. -/
def oAt (t : Fin cfg0.N) : Vec F S1024x512 .f32 := k0_pay4 (b.b3 t) (lhsAt b t) (wAt b (colAt t))
/-- The sample rows' result at a point of the first block of rows, kept from there. -/
def osAt (t : Fin cfg0.N) : Vec F S8x512 .f32 :=
  k0_pay5 (b.b4 (smpAt t)) (b.b5 (smpAt t)) (b.b6 (smpAt t)) (wAt b (smpAt t))

/-- What the call's own buffers are known to hold before point `n`: the left-hand side of the point before, and every block of columns stored so far. -/
def Held (n : ℕ) (L : Vec F S1024x2048 .bf16) (W : Vec F S4x2048x512 .bf16) : Prop :=
  (∀ t : Fin cfg0.N, t.val + 1 = n → L = lhsAt b t) ∧ ∀ t : Fin cfg0.N, t.val < 4 → t.val < n → colsOf (grid0.coords t) W = wAt b t

/-- A point's offset into the weights is its block of columns. -/
theorem off_eq (t : Fin cfg0.N) : k0_off2 (grid0.coords t) = ![t.val % 4, 0, 0] := by
  have e1 : (grid0.coords t 1).val = t.val / 1 % 4 := Pipeline.Grid.coords_val t 1 (by decide) rfl
  have h : (BitVec.ofNat 32 (t.val / 1 % 4)).toNat = t.val % 4 := by
    rw [BitVec.toNat_ofNat, Nat.div_one]; omega
  unfold k0_off2
  simp only [e1]
  exact congrArg (fun k => ![k, 0, 0]) h

theorem window_off (W : Vec F S4x2048x512 .bf16) (off off' : Fin 3 → ℕ) (h : off = off') (inb inb') :
    VecWindow.window W off ![1, 2048, 512] inb = VecWindow.window W off' ![1, 2048, 512] inb' := by subst h; rfl

theorem cols_same (t : Fin cfg0.N) (W : Vec F S4x2048x512 .bf16) (w : Vec F S1x2048x512 .bf16) :
    colsOf (grid0.coords t) (colsPut (grid0.coords t) W w) = w := VecWindow.window_put_same W _ _ _ w

theorem cols_other (t t' : Fin cfg0.N) (h : t'.val < 4) (ht : t.val < 4) (hne : t' ≠ t) (W : Vec F S4x2048x512 .bf16) (w : Vec F S1x2048x512 .bf16) :
    colsOf (grid0.coords t') (colsPut (grid0.coords t) W w) = colsOf (grid0.coords t') W := by
  refine VecWindow.window_put_of_disjoint W _ _ _ _ _ w (0 : Fin 3) ?_
  rw [off_eq, off_eq]
  have : t'.val ≠ t.val := fun e => hne (Fin.ext e)
  show t'.val % 4 + 1 ≤ t.val % 4 ∨ t.val % 4 + 1 ≤ t'.val % 4
  omega

theorem cols_col (t : Fin cfg0.N) (W : Vec F S4x2048x512 .bf16) : colsOf (grid0.coords t) W = colsOf (grid0.coords (colAt t)) W :=
  window_off W _ _ (by rw [off_eq, off_eq]; show ![t.val % 4, 0, 0] = ![t.val % 4 % 4, 0, 0]; rw [Nat.mod_mod]) _ _

/-- A point of the first block of rows adds its block of columns to what is held. -/
theorem held_put (t : Fin cfg0.N) (h2 : t.val < 4) (L : Vec F S1024x2048 .bf16) (W : Vec F S4x2048x512 .bf16) (h : Held b t.val L W) :
    Held b (t.val + 1) (lhsAt b t) (colsPut (grid0.coords t) W (k0_pay3 (b.b2 t))) := by
  refine ⟨fun t' e => by rw [show t' = t from Fin.ext (by omega)], fun t' h4 hn => ?_⟩
  by_cases e : t' = t
  · subst e; exact cols_same t' W _
  · rw [cols_other t t' h4 h2 e]
    exact h.2 t' h4 (by have : t'.val ≠ t.val := fun e' => e (Fin.ext e'); omega)

/-- A later one keeps them. -/
theorem held_keep (t : Fin cfg0.N) (h2 : ¬t.val < 4) (L : Vec F S1024x2048 .bf16) (W : Vec F S4x2048x512 .bf16) (h : Held b t.val L W) :
    Held b (t.val + 1) (lhsAt b t) W :=
  ⟨fun t' e => by rw [show t' = t from Fin.ext (by omega)], fun t' h4 _ => h.2 t' h4 (by omega)⟩

theorem lhsAt_first (t : Fin cfg0.N) (h : t.val % 4 = 0) : lhsOf (b.b0 t) (b.b1 t) = lhsAt b t := by
  unfold lhsAt; rw [show rowOf t = t from Fin.ext (by show t.val / 4 * 4 = t.val; omega)]
theorem lhsAt_next (t : Fin cfg0.N) (h : ¬t.val % 4 = 0) (L : Vec F S1024x2048 .bf16) (W : Vec F S4x2048x512 .bf16) (hL : Held b t.val L W) :
    L = lhsAt b t := by
  rw [hL.1 (prev t) (by show t.val - 1 + 1 = t.val; omega)]
  unfold lhsAt
  rw [show rowOf (prev t) = rowOf t from Fin.ext (by show (t.val - 1) / 4 * 4 = t.val / 4 * 4; omega)]
theorem wAt_first (t : Fin cfg0.N) (h : t.val < 4) : k0_pay3 (b.b2 t) = wAt b (colAt t) := by
  unfold wAt; rw [show colAt t = t from Fin.ext (by show t.val % 4 = t.val; omega)]
theorem wAt_later (t : Fin cfg0.N) (h : ¬t.val < 4) (L : Vec F S1024x2048 .bf16) (W : Vec F S4x2048x512 .bf16) (hW : Held b t.val L W) :
    colsOf (grid0.coords t) W = wAt b (colAt t) :=
  (cols_col t W).trans (hW.2 (colAt t) (by show t.val % 4 < 4; omega) (by show t.val % 4 < t.val; omega))
theorem osAt_first (t : Fin cfg0.N) (h : t.val < 4) :
    k0_pay5 (b.b4 t) (b.b5 t) (b.b6 t) (k0_pay3 (b.b2 t)) = osAt b t := by
  unfold osAt wAt; rw [show smpAt t = t from Fin.ext (by show min t.val 3 = t.val; omega)]
theorem osAt_kept (t : Fin cfg0.N) (h : ¬t.val < 4) : osAt b (prev t) = osAt b t := by
  unfold osAt; rw [show smpAt (prev t) = smpAt t from Fin.ext (by show min (t.val - 1) 3 = min t.val 3; omega)]

/-- Every point takes what is held before it to what is held after it, and leaves the closed forms in the result buffers. -/
theorem step {Λ : Labels} (D : Defs nD τ sig (Elt F) Λ) (c : Dev nD) (t : Fin cfg0.N) (arg2 : 𝔹 S1024x1536 .f32) (harg2 : arg2.IsWhole) (arg3 : 𝔹 S1024x512 .f32) (harg3 : arg3.IsWhole) (arg4 : 𝔹 S1x2048x512 .f32) (harg4 : arg4.IsWhole) (arg5 : 𝔹 S1024x512 .f32) (harg5 : arg5.IsWhole) (arg6 : 𝔹 S8x1536 .f32) (harg6 : arg6.IsWhole) (arg7 : 𝔹 S8x512 .f32) (harg7 : arg7.IsWhole) (arg8 : 𝔹 S8x512 .f32) (harg8 : arg8.IsWhole) (arg9 : 𝔹 S1024x512 .f32) (harg9 : arg9.IsWhole) (arg10 : 𝔹 S8x512 .f32) (harg10 : arg10.IsWhole) (arg11 : 𝔹 S1024x2048 .bf16) (harg11 : arg11.IsWhole) (arg12 : 𝔹 S4x2048x512 .bf16) (harg12 : arg12.IsWhole)
    (y7 : Vec F S1024x512 .f32) (y8 : Vec F S8x512 .f32) (h8 : ¬t.val < 4 → y8 = osAt b t)
    (L : Vec F S1024x2048 .bf16) (W : Vec F S4x2048x512 .bf16) (h : Held b t.val L W) :
    ∃ W', Held b (t.val + 1) (lhsAt b t) W' ∧
      Leaves D c (grid0.coords t) arg2 harg2 arg3 harg3 arg4 harg4 arg5 harg5 arg6 harg6 arg7 harg7 arg8 harg8 arg9 harg9 arg10 harg10 arg11 harg11 arg12 harg12
        (b.b0 t) (b.b1 t) (b.b2 t) (b.b3 t) (b.b4 t) (b.b5 t) (b.b6 t) y7 y8 L W (oAt b t) (osAt b t) (lhsAt b t) W' := by
  by_cases h2 : t.val < 4
  · refine ⟨_, held_put b t h2 L W h, ?_⟩
    unfold oAt
    rw [← osAt_first b t h2, ← wAt_first b t h2]
    by_cases h0 : t.val % 4 = 0
    · rw [← lhsAt_first b t h0]
      exact run_A D c _ _ _ _ _ _ _ _ _ _ _ _ _ _ _ _ _ _ _ _ _ _ _ _ _ _ _ _ _ _ _ _ _ _ ((hcond0_0 t).mpr h0) ((hcond0_1 t).mpr h2) ((hcond0_2 t).mpr h2)
    · rw [← lhsAt_next b t h0 L W h]
      exact run_B D c _ _ _ _ _ _ _ _ _ _ _ _ _ _ _ _ _ _ _ _ _ _ _ _ _ _ _ _ _ _ _ _ _ _ (fun e => h0 ((hcond0_0 t).mp e)) ((hcond0_1 t).mpr h2) ((hcond0_2 t).mpr h2)
  · refine ⟨W, held_keep b t h2 L W h, ?_⟩
    unfold oAt
    rw [h8 h2, ← wAt_later b t h2 L W h]
    by_cases h0 : t.val % 4 = 0
    · rw [← lhsAt_first b t h0]
      exact run_C D c _ _ _ _ _ _ _ _ _ _ _ _ _ _ _ _ _ _ _ _ _ _ _ _ _ _ _ _ _ _ _ _ _ _ ((hcond0_0 t).mpr h0) (fun e => h2 ((hcond0_1 t).mp e)) (fun e => h2 ((hcond0_2 t).mp e))
    · rw [← lhsAt_next b t h0 L W h]
      exact run_D D c _ _ _ _ _ _ _ _ _ _ _ _ _ _ _ _ _ _ _ _ _ _ _ _ _ _ _ _ _ _ _ _ _ _ (fun e => h0 ((hcond0_0 t).mp e)) (fun e => h2 ((hcond0_1 t).mp e)) (fun e => h2 ((hcond0_2 t).mp e))

end Pts

/-- The left-hand side held after a point: that of its block of rows. -/
def lhsAt (c : Dev nD) (t : Fin cfg0.N) : Vec F S1024x2048 .bf16 := lhsOf (iblk m c 0 (rowOf t)) (iblk m c 1 (rowOf t))
/-- The block of columns of the weights a point of the first block of rows stores. -/
def wAt (c : Dev nD) (t : Fin cfg0.N) : Vec F S1x2048x512 .bf16 := k0_pay3 (iblk m c 2 t)
/-- The prompt rows' result at a point. -/
def oAt (c : Dev nD) (t : Fin cfg0.N) : Vec F S1024x512 .f32 := k0_pay4 (iblk m c 3 t) (lhsAt m c t) (wAt m c (colAt t))
/-- The sample rows' result at a point of the first block of rows, kept from there. -/
def osAt (c : Dev nD) (t : Fin cfg0.N) : Vec F S8x512 .f32 :=
  k0_pay5 (iblk m c 4 (smpAt t)) (iblk m c 5 (smpAt t)) (iblk m c 6 (smpAt t)) (wAt m c (smpAt t))

/-- What the call's own buffers are known to hold before point `n`: the left-hand side of the point before, and every block of columns stored so far. -/
def Held (c : Dev nD) (n : ℕ) (L : Vec F S1024x2048 .bf16) (W : Vec F S4x2048x512 .bf16) : Prop :=
  (∀ t : Fin cfg0.N, t.val + 1 = n → L = lhsAt m c t) ∧ ∀ t : Fin cfg0.N, t.val < 4 → t.val < n → colsOf (grid0.coords t) W = wAt m c t

theorem osAt_kept (c : Dev nD) (t : Fin cfg0.N) (h : ¬t.val < 4) : osAt m c (prev t) = osAt m c t := by
  unfold osAt; rw [show smpAt (prev t) = smpAt t from Fin.ext (by show min (t.val - 1) 3 = min t.val 3; omega)]

/-- The blocks this layer's points read. -/
def blks (c : Dev nD) : Blks F := ⟨iblk m c 0, iblk m c 1, iblk m c 2, iblk m c 3, iblk m c 4, iblk m c 5, iblk m c 6⟩

/-- Every point takes what is held before it to what is held after it, and leaves the closed forms in the result buffers. -/
theorem step (c : Dev nD) (t : Fin cfg0.N) (y7 : Vec F S1024x512 .f32) (y8 : Vec F S8x512 .f32) (h8 : ¬t.val < 4 → y8 = osAt m c t)
    (L : Vec F S1024x2048 .bf16) (W : Vec F S4x2048x512 .bf16) (h : Held m c t.val L W) :
    ∃ W', Held m c (t.val + 1) (lhsAt m c t) W' ∧
      Leaves defs₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
        (iblk m c 0 t) (iblk m c 1 t) (iblk m c 2 t) (iblk m c 3 t) (iblk m c 4 t) (iblk m c 5 t) (iblk m c 6 t) y7 y8 L W (oAt m c t) (osAt m c t) (lhsAt m c t) W' := by
  have e0 : osAt m c t = Pts.osAt (blks m c) t := rfl
  have e1 : oAt m c t = Pts.oAt (blks m c) t := rfl
  have e2 : lhsAt m c t = Pts.lhsAt (blks m c) t := rfl
  have e3 : ∀ n L W, Held m c n L W = Pts.Held (blks m c) n L W := fun _ _ _ => rfl
  rw [e0] at h8
  rw [e3] at h
  rw [e0, e1, e2]
  simp only [e3]
  exact Pts.step (blks m c) defs₀ c t _ _ _ _ _ _ _ _ _ _ _ _ _ _ _ _ _ _ _ _ _ _ y7 y8 h8 L W h

/-! ## The proof data -/

/-- The invariant before point `n`. -/
def PhiS (c : Dev nD) (n : ℕ) : sProp 𝕄 :=
  iprop((∃ L, ∃ W, ⌜Held m c n L W⌝ ∗ owns c.tc scM0_0 fullShare L ∗ owns c.tc scM0_1 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
    | ⟨8, _⟩ => osAt m c t
  Φ t := PhiS m c t.val
  q _ := fullShare
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t := by dsimp only [dats]
theorem after0_8 (c : Dev nD) (t : Fin cfg0.N) : (dats m 0 c).after 8 t = osAt m c t := by dsimp only [dats]

/-- The sample rows' window is touched at the points of the first block of rows only, -/
theorem idle0_8 : ∀ t : Fin cfg0.N, cfg0.idle 8 (grid0.coords t) = !decide (t.val < 4) := by decide +kernel
/-- and written back when its block changes and at the end. -/
theorem flush0_8 : ∀ t : Fin cfg0.N, (cfg0.win 8).flush t = decide (t.val < 3 ∨ t.val = 31) := by decide +kernel

/-- From the second block of rows on the sample rows' buffer is what the last point of the first left. -/
theorem before0_8 (c : Dev nD) : ∀ (n : ℕ) (h : n < cfg0.N) (h0 : ¬n < 4) (d),
    (dats m 0 c).before 8 ⟨n, h⟩ d = osAt m c ⟨n, h⟩ := by
  intro n
  induction n using Nat.strong_induction_on with
  | _ n ih =>
    intro h h0 d
    have hN : n < 32 := lt_of_lt_of_eq h (show cfg0.N = 32 from N_0)
    refine Eq.trans ?_ (osAt_kept m c ⟨n, h⟩ h0)
    rw [(dats m 0 c).before_of_pos 8 ⟨n, h⟩ (by simp only; omega) rfl d,
      if_neg (fun e => absurd ((flush0_8 _).symm.trans e) (by simp only [decide_eq_true_eq]; omega))]
    unfold Dat.left
    by_cases hl : n - 1 < 4
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact ih (n - 1) (by omega) (by omega) hl d

/-- What the body has to leave in the sample rows' buffer: the closed form, at every point. -/
theorem leaves8 (c : Dev nD) (t : Fin cfg0.N) :
    (owns c.tc (ms0_8 t) fullShare (osAt m c t) : sProp 𝕄) ⊢ (dats m 0 c).leavesExact 8 t := by
  have hN := lt_N t
  by_cases hl : t.val < 4
  · unfold Dat.leavesExact
    rw [show cfg0.idle 8 (cfg0.grid.coords t) = false from (idle0_8 t).trans (by simp [hl])]
    dsimp only
    rw [after0_8]
  · by_cases hf : t.val = 31
    · unfold Dat.leavesExact
      rw [show cfg0.idle 8 (cfg0.grid.coords t) = true from (idle0_8 t).trans (by simp [hl]), show (cfg0.win 8).flush t = true from (flush0_8 t).trans (by simp [hf])]
      dsimp only
      rw [after0_8]
    · rw [(dats m 0 c).leavesExact_idle 8 t ((idle0_8 t).trans (by simp [hl])) ((flush0_8 t).trans (by simp; omega))]
      iintro H
      iexists osAt m c t
      rw [before0_8 m c t.val t.isLt hl]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%L, %W, %hLW, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨W', hW', hrun⟩ := step m c t ((dats m 0 c).before 7 t d7) ((dats m 0 c).before 8 t d8) (fun h => before0_8 m c t.val t.isLt h d8) L W hLW
  rw [body_eq]
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · iexists _; iexists W'
      isplitr; · ipureintro; exact hW'
      isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%L, HS0⟩, ⟨%W, HS1⟩⟩, Hg⟩
      isplitl [HS0 HS1]
      · iexists L; iexists W
        isplitr; · ipureintro; exact ⟨fun _ e => absurd e (by omega), fun _ _ e => absurd e (by omega)⟩
        isplitl [HS0]; · iexact HS0
        iexact HS1
      · iexact Hg)
    (hout := fun c => by
      rw [show (dats m 0 c).Φ (Fin.last cfg0.N) = PhiS m c cfg0.N from rfl, PhiA0_eq]
      unfold PhiS
      iintro ⟨⟨%L, %W, -, HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Out0Val

end
-- ==== Proof.OutMath.lean ====
/- The arithmetic the output projections and their references are both read down to. -/
module

public import Idealize.ShloMosaic.Lib.Pipeline.ValueKit

@[expose] public section

noncomputable section

namespace Cert.Out

open Idealize.ShloMosaic

/-- Two rows side by side. -/
def row (a : Fin 1536 → EReal) (b : Fin 512 → EReal) (k : Fin 2048) : EReal :=
  if h : k.val < 1536 then a ⟨k.val, h⟩ else b ⟨k.val - 1536, by omega⟩

/-- One row's result: itself plus the two rows side by side times a column of the weights. -/
def proj (x : Fin 2048 → EReal) (a : Fin 1536 → EReal) (b : Fin 512 → EReal) (w : Fin 2048 → Fin 2048 → EReal) (l : Fin 2048) : EReal :=
  x l + ∑ k, row a b k * w k l

end Cert.Out

end
-- ==== Proof.OutOut0.lean ====
/- The output projection of layer 0: its two results, at an index. -/
module

public import proofs.«01_k».proof.Proof.OutDat0
public import proofs.«01_k».proof.Proof.OutMath

@[expose] public section

set_option maxRecDepth 16384

noncomputable section

namespace Cert.Out0Val

open Idealize.ShloMosaic Idealize.ShloMosaic.TcCoe Idealize.SL.Sem
open Idealize.ShloMosaic.Pipeline (Dat)
open Cert.Out0Ideal Cert.Out0Ideal.Gen Cert.Out

/-! ## One point's work, at an index -/

theorem lhs_at (z : Vec Ideal S1024x1536 .f32) (mo : Vec Ideal S1024x512 .f32) (r : Fin 1024) (k : Fin 2048) :
    lhsOf z mo (ix2 r k) = row (fun q => z (ix2 r q)) (fun q => mo (ix2 r q)) k := by
  unfold lhsOf row
  by_cases h : k.val < 1536
  · rw [dif_pos h]
    refine (dif_pos h).trans (Eq.trans (congrArg (k0_pay1 z) (show _ = ix2 r ⟨k.val, h⟩ from funext fun a => match a with | ⟨0, _⟩ => rfl | ⟨1, _⟩ => rfl)) ?_)
    pointwise [k0_pay1]
  · rw [dif_neg h]
    refine (dif_neg h).trans (Eq.trans (congrArg (k0_pay2 mo) (show _ = ix2 r ⟨k.val - 1536, by omega⟩ from funext fun a => match a with | ⟨0, _⟩ => rfl | ⟨1, _⟩ => rfl)) ?_)
    pointwise [k0_pay2]
theorem cols_at (w : Vec Ideal S1x2048x512 .f32) (k : Fin 2048) (l : Fin 512) : k0_pay3 w (ix3 0 k l) = w (ix3 0 k l) := by
  pointwise [k0_pay3]
theorem o_at (x : Vec Ideal S1024x512 .f32) (L : Vec Ideal S1024x2048 .bf16) (w : Vec Ideal S1x2048x512 .bf16) (r : Fin 1024) (l : Fin 512) :
    k0_pay4 x L w (ix2 r l) = x (ix2 r l) + ∑ k : Fin 2048, L (ix2 r k) * w (ix3 0 k l) := by
  pointwise [k0_pay4]
theorem os_at (zs : Vec Ideal S8x1536 .f32) (mos xs : Vec Ideal S8x512 .f32) (w : Vec Ideal S1x2048x512 .bf16) (r : Fin 8) (l : Fin 512) :
    k0_pay5 zs mos xs w (ix2 r l) = xs (ix2 r l) + ∑ k : Fin 2048, row (fun q => zs (ix2 r q)) (fun q => mos (ix2 r q)) k * w (ix3 0 k l) := by
  unfold row
  pointwise [k0_pay5]

variable (m : (ℓ : Loc nD τ sig) → Buf (Elt Ideal) ℓ)

/-! ## The arguments, a row at a time -/

/-- Row `r` of the attention's output, the batches one after another. -/
def arrZ (c : Dev nD) (r : Fin 8192) : Fin 1536 → EReal := fun l => m (c.tc.loc main_arg0) (ix3 ⟨r.val / 2048, by omega⟩ ⟨r.val % 2048, by omega⟩ l)
/-- Row `r` of the memory's output, the batches one after another. -/
def arrM (c : Dev nD) (r : Fin 8192) : Fin 512 → EReal := fun l => m (c.tc.loc main_arg1) (ix3 ⟨r.val / 2048, by omega⟩ ⟨r.val % 2048, by omega⟩ l)
/-- Row `r` of the prompts' rows, the batches one after another. -/
def arrX (c : Dev nD) (r : Fin 8192) : Fin 2048 → EReal := fun l => m (c.tc.loc main_arg3) (ix3 ⟨r.val / 2048, by omega⟩ ⟨r.val % 2048, by omega⟩ l)
/-- The same for the samples. -/
def arrZS (c : Dev nD) (r : Fin 8) : Fin 1536 → EReal := fun l => m (c.tc.loc main_arg4) (ix3 r 0 l)
/-- The same for the samples. -/
def arrMS (c : Dev nD) (r : Fin 8) : Fin 512 → EReal := fun l => m (c.tc.loc main_arg5) (ix3 r 0 l)
/-- The same for the samples. -/
def arrXS (c : Dev nD) (r : Fin 8) : Fin 2048 → EReal := fun l => m (c.tc.loc main_arg6) (ix3 r 0 l)
/-- The layer's weights. -/
def arrW (c : Dev nD) : Fin 2048 → Fin 2048 → EReal := fun k l => m (c.tc.loc main_arg2) (ix3 0 k l)

/-! ## Where the windows are -/

theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 0 ∧ win0_2.index t 1 = 0 ∧ win0_2.index t 2 = min t.val 3 := by decide +kernel
theorem at3 : ∀ t : Fin cfg0.N, win0_3.index t 0 = t.val / 4 ∧ win0_3.index t 1 = t.val % 4 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = min t.val 3 := by decide +kernel
theorem at7 : ∀ t : Fin cfg0.N, win0_7.index t 0 = t.val / 4 ∧ win0_7.index t 1 = t.val % 4 := by decide +kernel
theorem at8 : ∀ t : Fin cfg0.N, win0_8.index t 0 = 0 ∧ win0_8.index t 1 = min t.val 3 := by decide +kernel

/-! ## The blocks -/

theorem blk2 (c : Dev nD) (t : Fin cfg0.N) (k : Fin 2048) (l : Fin 512) :
    iblk m c 2 t (ix3 0 k l) = arrW m c k ⟨min t.val 3 * 512 + l.val, by omega⟩ := by
  unfold iblk arrW
  rw [show V m c (Pipeline.arrRef spec0 2) = m (c.tc.loc main_arg2) from V_main_arg2 m c]
  refine congrArg (m (c.tc.loc main_arg2)) (funext fun a => Fin.ext ?_)
  match a with
  | ⟨0, _⟩ => blk_simp; rw [(at2 t).1]; rfl
  | ⟨1, _⟩ => blk_simp; rw [(at2 t).2.1]; show 0 * 2048 + k.val = k.val; omega
  | ⟨2, _⟩ => blk_simp; rw [(at2 t).2.2]
theorem blk0 (c : Dev nD) (t : Fin cfg0.N) (r : Fin 1024) (l : Fin 1536) :
    iblk m c 0 t (ix2 r l) = arrZ m c ⟨t.val / 4 * 1024 + r.val, by have := lt_N t; omega⟩ l := by
  have hN := lt_N t
  unfold iblk arrZ
  have hV : V m c (Pipeline.arrRef spec0 0) = shapeCast S8192x1536 (m (c.tc.loc main_arg0)) shapeCasts_S4x2048x1536_S8192x1536 := by
    show StableHlo.after hostOps0 (fun b => m (c, b)) (Proc.tc.devRef main_v0) = _
    after_results
    rfl
  rw [hV]
  have e : ((cfg0.win 0).blk t).view.emb (ix2 r l) = ix2 (⟨t.val / 4 * 1024 + r.val, by omega⟩ : Fin 8192) l := by
    refine funext fun a => Fin.ext ?_
    match a with
    | ⟨0, _⟩ => blk_simp; rw [(at0 t).1]
    | ⟨1, _⟩ => blk_simp; rw [(at0 t).2]; show 0 * 1536 + l.val = l.val; omega
  refine (congrArg (shapeCast S8192x1536 (m (c.tc.loc main_arg0)) shapeCasts_S4x2048x1536_S8192x1536) e).trans ?_
  refine shapeCast_apply _ _ _ _ ?_
  rw [Shape.rowMajor_val_two]
  refine (Shape.rowMajor_val_three _).trans ?_
  show ((t.val / 4 * 1024 + r.val) / 2048 * 2048 + (t.val / 4 * 1024 + r.val) % 2048) * 1536 + l.val = (t.val / 4 * 1024 + r.val) * 1536 + l.val
  omega
theorem blk1 (c : Dev nD) (t : Fin cfg0.N) (r : Fin 1024) (l : Fin 512) :
    iblk m c 1 t (ix2 r l) = arrM m c ⟨t.val / 4 * 1024 + r.val, by have := lt_N t; omega⟩ l := by
  have hN := lt_N t
  unfold iblk arrM
  have hV : V m c (Pipeline.arrRef spec0 1) = shapeCast S8192x512 (m (c.tc.loc main_arg1)) shapeCasts_S4x2048x512_S8192x512 := by
    show StableHlo.after hostOps0 (fun b => m (c, b)) (Proc.tc.devRef main_v1) = _
    after_results
    rfl
  rw [hV]
  have e : ((cfg0.win 1).blk t).view.emb (ix2 r l) = ix2 (⟨t.val / 4 * 1024 + r.val, by omega⟩ : Fin 8192) l := by
    refine funext fun a => Fin.ext ?_
    match a with
    | ⟨0, _⟩ => blk_simp; rw [(at1 t).1]
    | ⟨1, _⟩ => blk_simp; rw [(at1 t).2]; show 0 * 512 + l.val = l.val; omega
  refine (congrArg (shapeCast S8192x512 (m (c.tc.loc main_arg1)) shapeCasts_S4x2048x512_S8192x512) e).trans ?_
  refine shapeCast_apply _ _ _ _ ?_
  rw [Shape.rowMajor_val_two]
  refine (Shape.rowMajor_val_three _).trans ?_
  show ((t.val / 4 * 1024 + r.val) / 2048 * 2048 + (t.val / 4 * 1024 + r.val) % 2048) * 512 + l.val = (t.val / 4 * 1024 + r.val) * 512 + l.val
  omega
theorem blk3 (c : Dev nD) (t : Fin cfg0.N) (r : Fin 1024) (l : Fin 512) :
    iblk m c 3 t (ix2 r l) = arrX m c ⟨t.val / 4 * 1024 + r.val, by have := lt_N t; omega⟩ ⟨t.val % 4 * 512 + l.val, by omega⟩ := by
  have hN := lt_N t
  unfold iblk arrX
  have hV : V m c (Pipeline.arrRef spec0 3) = shapeCast S8192x2048 (m (c.tc.loc main_arg3)) shapeCasts_S4x2048x2048_S8192x2048 := by
    show StableHlo.after hostOps0 (fun b => m (c, b)) (Proc.tc.devRef main_v2) = _
    after_results
    rfl
  rw [hV]
  have e : ((cfg0.win 3).blk t).view.emb (ix2 r l) = ix2 (⟨t.val / 4 * 1024 + r.val, by omega⟩ : Fin 8192) ⟨t.val % 4 * 512 + l.val, by omega⟩ := by
    refine funext fun a => Fin.ext ?_
    match a with
    | ⟨0, _⟩ => blk_simp; rw [(at3 t).1]
    | ⟨1, _⟩ => blk_simp; rw [(at3 t).2]
  refine (congrArg (shapeCast S8192x2048 (m (c.tc.loc main_arg3)) shapeCasts_S4x2048x2048_S8192x2048) e).trans ?_
  refine shapeCast_apply _ _ _ _ ?_
  rw [Shape.rowMajor_val_two]
  refine (Shape.rowMajor_val_three _).trans ?_
  show ((t.val / 4 * 1024 + r.val) / 2048 * 2048 + (t.val / 4 * 1024 + r.val) % 2048) * 2048 + (t.val % 4 * 512 + l.val) = (t.val / 4 * 1024 + r.val) * 2048 + (t.val % 4 * 512 + l.val)
  omega
theorem blk4 (c : Dev nD) (t : Fin cfg0.N) (r : Fin 8) (l : Fin 1536) : iblk m c 4 t (ix2 r l) = arrZS m c r l := by
  unfold iblk arrZS
  have hV : V m c (Pipeline.arrRef spec0 4) = shapeCast S8x1536 (m (c.tc.loc main_arg4)) shapeCasts_S8x1x1536_S8x1536 := by
    show StableHlo.after hostOps0 (fun b => m (c, b)) (Proc.tc.devRef main_v3) = _
    after_results
    rfl
  rw [hV]
  have e : ((cfg0.win 4).blk t).view.emb (ix2 r l) = ix2 r l := by
    refine funext fun a => Fin.ext ?_
    match a with
    | ⟨0, _⟩ => blk_simp; rw [(at4 t).1]; show 0 * 8 + r.val = r.val; omega
    | ⟨1, _⟩ => blk_simp; rw [(at4 t).2]; show 0 * 1536 + l.val = l.val; omega
  refine (congrArg (shapeCast S8x1536 (m (c.tc.loc main_arg4)) shapeCasts_S8x1x1536_S8x1536) e).trans ?_
  pointwise
theorem blk5 (c : Dev nD) (t : Fin cfg0.N) (r : Fin 8) (l : Fin 512) : iblk m c 5 t (ix2 r l) = arrMS m c r l := by
  unfold iblk arrMS
  have hV : V m c (Pipeline.arrRef spec0 5) = shapeCast S8x512 (m (c.tc.loc main_arg5)) shapeCasts_S8x1x512_S8x512 := by
    show StableHlo.after hostOps0 (fun b => m (c, b)) (Proc.tc.devRef main_v4) = _
    after_results
    rfl
  rw [hV]
  have e : ((cfg0.win 5).blk t).view.emb (ix2 r l) = ix2 r l := by
    refine funext fun a => Fin.ext ?_
    match a with
    | ⟨0, _⟩ => blk_simp; rw [(at5 t).1]; show 0 * 8 + r.val = r.val; omega
    | ⟨1, _⟩ => blk_simp; rw [(at5 t).2]; show 0 * 512 + l.val = l.val; omega
  refine (congrArg (shapeCast S8x512 (m (c.tc.loc main_arg5)) shapeCasts_S8x1x512_S8x512) e).trans ?_
  pointwise
theorem blk6 (c : Dev nD) (t : Fin cfg0.N) (r : Fin 8) (l : Fin 512) : iblk m c 6 t (ix2 r l) = arrXS m c r ⟨min t.val 3 * 512 + l.val, by omega⟩ := by
  unfold iblk arrXS
  have hV : V m c (Pipeline.arrRef spec0 6) = shapeCast S8x2048 (m (c.tc.loc main_arg6)) shapeCasts_S8x1x2048_S8x2048 := by
    show StableHlo.after hostOps0 (fun b => m (c, b)) (Proc.tc.devRef main_v5) = _
    after_results
    rfl
  rw [hV]
  have e : ((cfg0.win 6).blk t).view.emb (ix2 r l) = ix2 r ⟨min t.val 3 * 512 + l.val, by omega⟩ := by
    refine funext fun a => Fin.ext ?_
    match a with
    | ⟨0, _⟩ => blk_simp; rw [(at6 t).1]; show 0 * 8 + r.val = r.val; omega
    | ⟨1, _⟩ => blk_simp; rw [(at6 t).2]
  refine (congrArg (shapeCast S8x2048 (m (c.tc.loc main_arg6)) shapeCasts_S8x1x2048_S8x2048) e).trans ?_
  pointwise

/-! ## The buffers, at an index -/

/-- A row of the prompts' result. -/
def resX (c : Dev nD) (r : Fin 8192) : Fin 2048 → EReal := proj (arrX m c r) (arrZ m c r) (arrM m c r) (arrW m c)
/-- A row of the samples' result. -/
def resS (c : Dev nD) (r : Fin 8) : Fin 2048 → EReal := proj (arrXS m c r) (arrZS m c r) (arrMS m c r) (arrW m c)

theorem oAt_val (c : Dev nD) (t : Fin cfg0.N) (r : Fin 1024) (l : Fin 512) :
    oAt m c t (ix2 r l) = resX m c ⟨t.val / 4 * 1024 + r.val, by have := lt_N t; omega⟩ ⟨t.val % 4 * 512 + l.val, by omega⟩ := by
  have hN := lt_N t
  unfold oAt resX proj
  rw [o_at]
  refine congrArg₂ (· + ·) (blk3 m c t r l) (Finset.sum_congr rfl fun k _ => congrArg₂ (· * ·) ?_ ?_)
  · unfold lhsAt
    rw [lhs_at]
    have er : ∀ q : Fin 8192, q.val = (rowOf t).val / 4 * 1024 + r.val → q = ⟨t.val / 4 * 1024 + r.val, by omega⟩ := fun q h =>
      Fin.ext (h.trans (by show t.val / 4 * 4 / 4 * 1024 + r.val = t.val / 4 * 1024 + r.val; omega))
    refine congrArg₂ (fun a b => row a b k) (funext fun q => ?_) (funext fun q => ?_)
    · exact (blk0 m c (rowOf t) r q).trans (congrArg (fun z => arrZ m c z q) (er _ rfl))
    · exact (blk1 m c (rowOf t) r q).trans (congrArg (fun z => arrM m c z q) (er _ rfl))
  · unfold wAt
    rw [cols_at]
    refine (blk2 m c (colAt t) k l).trans (congrArg (arrW m c k) (Fin.ext ?_))
    show min (t.val % 4) 3 * 512 + l.val = t.val % 4 * 512 + l.val
    omega

theorem osAt_val (c : Dev nD) (t : Fin cfg0.N) (r : Fin 8) (l : Fin 512) :
    osAt m c t (ix2 r l) = resS m c r ⟨min t.val 3 * 512 + l.val, by omega⟩ := by
  unfold osAt resS proj
  rw [os_at]
  have em : min (smpAt t).val 3 * 512 + l.val = min t.val 3 * 512 + l.val := by show min (min t.val 3) 3 * 512 + l.val = _; omega
  refine congrArg₂ (· + ·) ((blk6 m c (smpAt t) r l).trans (congrArg (arrXS m c r) (Fin.ext em))) (Finset.sum_congr rfl fun k _ => congrArg₂ (· * ·) ?_ ?_)
  · exact congrArg₂ (fun a b => row a b k) (funext fun q => blk4 m c (smpAt t) r q) (funext fun q => blk5 m c (smpAt t) r q)
  · unfold wAt
    rw [cols_at]
    exact (blk2 m c (smpAt t) k l).trans (congrArg (arrW m c k) (Fin.ext em))

/-! ## The result arrays -/

/-- The prompts' result as a function of its index. -/
def whole0 (c : Dev nD) : FVec Ideal S8192x2048 .f32 := fun y => resX m c ⟨(y 0).val, (y 0).isLt⟩ ⟨(y 1).val, (y 1).isLt⟩
/-- The samples' result as a function of its index. -/
def whole1 (c : Dev nD) : FVec Ideal S8x2048 .f32 := fun y => resS m c ⟨(y 0).val, (y 0).isLt⟩ ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt_N t
  blk_simp
  rw [after0_7]
  have h0 : (y 0).val < 1024 := (y 0).isLt
  have h1 : (y 1).val < 512 := (y 1).isLt
  have e : (win0_7.blk t).view.emb y = ix2 (⟨t.val / 4 * 1024 + (y 0).val, by omega⟩ : Fin 8192) (⟨t.val % 4 * 512 + (y 1).val, by omega⟩ : Fin 2048) := by
    refine funext fun a => Fin.ext ?_
    match a with
    | ⟨0, _⟩ => blk_simp; rw [(at7 t).1]; rfl
    | ⟨1, _⟩ => blk_simp; rw [(at7 t).2]; rfl
  rw [e]
  refine Eq.trans (congrArg (oAt m c t) ?_) (oAt_val m c t ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  blk_simp
  rw [after0_8]
  have h0 : (y 0).val < 8 := (y 0).isLt
  have h1 : (y 1).val < 512 := (y 1).isLt
  have e : (win0_8.blk t).view.emb y = ix2 (⟨(y 0).val, h0⟩ : Fin 8) (⟨min t.val 3 * 512 + (y 1).val, by omega⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; rfl
  rw [e]
  refine Eq.trans (congrArg (osAt m c t) ?_) (osAt_val m c t ⟨(y 0).val, h0⟩ ⟨(y 1).val, h1⟩)
  exact funext fun a => match a with | ⟨0, _⟩ => rfl | ⟨1, _⟩ => rfl

end Cert.Out0Val

end
-- ==== Proof.OutRef0.lean ====
/- The reference of layer 0's output projection, at an index. -/
module

public import proofs.«01_k».proof.Proof.OutMath
public import proofs.«01_k».proof.Proof.Gen.Out0RefIdeal.Read

@[expose] public section

set_option maxRecDepth 16384

noncomputable section

namespace Cert.Out0Ref

open Idealize.ShloMosaic Idealize.ShloMosaic.TcCoe Idealize.SL.Sem
open Cert.Out0RefIdeal Cert.Out0RefIdeal.Read Cert.Out

variable (x0 : (⟨S4x2048x1536, .f32⟩ : BufTy).Contents (Elt Ideal))
  (x1 : (⟨S4x2048x512, .f32⟩ : BufTy).Contents (Elt Ideal))
  (x2 : (⟨S4x2048x2048, .f32⟩ : BufTy).Contents (Elt Ideal))
  (x3 : (⟨S4x2048x2048, .f32⟩ : BufTy).Contents (Elt Ideal))
  (x4 : (⟨S8x1x1536, .f32⟩ : BufTy).Contents (Elt Ideal))
  (x5 : (⟨S8x1x512, .f32⟩ : BufTy).Contents (Elt Ideal))
  (x6 : (⟨S8x1x2048, .f32⟩ : BufTy).Contents (Elt Ideal))

/-- The layer's weights. -/
def rowW : Fin 2048 → Fin 2048 → EReal := fun k l => x2 (ix3 0 k l)

theorem catX (b : Fin 4) (r : Fin 2048) (k : Fin 2048) :
    val_main_v0 (F := Ideal) x0 x1 (ix3 b r k) = row (fun q => x0 (ix3 b r q)) (fun q => x1 (ix3 b r q)) k := by
  unfold row
  pointwise [val_main_v0]

theorem trunkX (b : Fin 4) (r : Fin 2048) (l : Fin 2048) :
    val_main_v4 (F := Ideal) x0 x1 x2 x3 (ix3 b r l) = proj (fun k => x3 (ix3 b r k)) (fun q => x0 (ix3 b r q)) (fun q => x1 (ix3 b r q)) (rowW x2) l := by
  have hW : ∀ k, val_main_v2 (F := Ideal) x2 (ix2 k l) = rowW x2 k l := fun k => by
    unfold rowW
    pointwise [val_main_v2, val_main_v1]
  unfold proj
  rw [← Finset.sum_congr rfl fun k _ => congrArg₂ (· * ·) (catX x0 x1 b r k) (hW k)]
  pointwise [val_main_v4, val_main_v3]

/-- The reference's prompts, at an index. -/
theorem resX (r : Fin 8192) (l : Fin 2048) : val_main_v5 (F := Ideal) x0 x1 x2 x3 (ix2 r l)
    = proj (fun k => x3 (ix3 ⟨r.val / 2048, by omega⟩ ⟨r.val % 2048, by omega⟩ k)) (fun q => x0 (ix3 ⟨r.val / 2048, by omega⟩ ⟨r.val % 2048, by omega⟩ q)) (fun q => x1 (ix3 ⟨r.val / 2048, by omega⟩ ⟨r.val % 2048, by omega⟩ q)) (rowW x2) l := by
  refine Eq.trans ?_ (trunkX x0 x1 x2 x3 ⟨r.val / 2048, by omega⟩ ⟨r.val % 2048, by omega⟩ l)
  unfold val_main_v5
  refine shapeCast_apply _ _ _ _ ?_
  rw [Shape.rowMajor_val_two]
  refine (Shape.rowMajor_val_three _).trans ?_
  show (r.val / 2048 * 2048 + r.val % 2048) * 2048 + l.val = r.val * 2048 + l.val
  omega

theorem catS (r : Fin 8) (k : Fin 2048) :
    val_main_v6 (F := Ideal) x4 x5 (ix3 r 0 k) = row (fun q => x4 (ix3 r 0 q)) (fun q => x5 (ix3 r 0 q)) k := by
  unfold row
  pointwise [val_main_v6]

/-- The reference's samples, at an index. -/
theorem resS (r : Fin 8) (l : Fin 2048) : val_main_v11 (F := Ideal) x2 x4 x5 x6 (ix2 r l)
    = proj (fun k => x6 (ix3 r 0 k)) (fun q => x4 (ix3 r 0 q)) (fun q => x5 (ix3 r 0 q)) (rowW x2) l := by
  have hW : ∀ k, val_main_v8 (F := Ideal) x2 (ix2 k l) = rowW x2 k l := fun k => by
    unfold rowW
    pointwise [val_main_v8, val_main_v7]
  unfold proj
  rw [← Finset.sum_congr rfl fun k _ => congrArg₂ (· * ·) (catS x4 x5 r k) (hW k)]
  pointwise [val_main_v11, val_main_v10, val_main_v9]

end Cert.Out0Ref

end
-- ==== Proof.OutClaim0.lean ====
/- The claims about the output projection of layer 0. -/
module

public import proofs.«01_k».proof.Defs
public import proofs.«01_k».proof.Proof.OutOut0
public import proofs.«01_k».proof.Proof.OutRef0
public import proofs.«01_k».proof.Proof.Gen.Out0.Frame

@[expose] public section

set_option maxRecDepth 16384

noncomputable section

namespace Cert.Out0Proof

open Idealize.ShloMosaic Idealize.ShloMosaic.TcCoe Idealize.SL.Sem

/-- The reference leaves its arguments alone. -/
theorem ref_frame : quiescent_Out0RefIdeal := fun m g _ =>
  (θ_run _ _ _).mono (fun r h => ⟨fun c => (h c).2.2, sem_eq_zero_of_no_sems rfl r.2⟩) (Out0RefIdeal.Value.run m g)

section

variable {F : FTy → Type} [FloatOps F]

attribute [local instance] Out0.Gen.facts Out0Ideal.Gen.facts

/-- The two printings of the kernel have the same body. -/
theorem bodies : Out0.defs₀ (F := F) = Out0Ideal.defs₀ (F := F) := by
  refine congrArg Defs.onTc (funext fun n => funext fun a => ?_)
  match n, a with
  | ⟨0, _⟩, (t, s) => rfl

/-- So they have the same table. -/
theorem tables : Out0.defs (F := F) = Out0Ideal.defs (F := F) :=
  congrArg (Pipeline.defs (Out0Ideal.pcfgs (F := F))) bodies

/-- The kernel leaves its arguments alone: the one run, at the machine's floats. -/
theorem kernel_frame : quiescent_Out0 := fun m g _ => by
  have h := Out0Val.frame (F := Bits) m g
  rw [← tables] at h
  exact h

end

/-- The kernel over the reals leaves its arguments alone. -/
theorem frame : quiescent_Out0Ideal := fun m g _ => Out0Val.frame m g

/-- The kernel over the reals computes what the reference does. -/
theorem algebraic : algebraic_Out0Ideal_Out0RefIdeal := by
  intro m g m' g' _ ha
  refine ⟨fun c => Out0Val.whole0 m c, fun c => Out0Val.whole1 m c, ?_, ?_⟩
  · exact (θ_run _ _ _).mono (fun r h c => ⟨((h.1.1 c).1 7).trans (Out0Val.arr7 m c), ((h.1.1 c).1 8).trans (Out0Val.arr8 m c), h.2.1 c⟩)
      (θ_run_and (Out0Val.run_main m g) (Out0Val.frame m g))
  · refine (θ_run _ _ _).mono (fun r h c => ⟨(h c).1.trans ?_, (h c).2.1.trans ?_, (h c).2.2⟩) (Out0RefIdeal.Value.run m' g')
    · rw [Out0RefIdeal.Read.val_main_v5_eq, (ha c).1, (ha c).2.1, (ha c).2.2.1, (ha c).2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Out0Ref.resX _ _ _ _ r l
    · rw [Out0RefIdeal.Read.val_main_v11_eq, (ha c).2.2.1, (ha c).2.2.2.2.1, (ha c).2.2.2.2.2.1, (ha c).2.2.2.2.2.2]
      funext y
      obtain ⟨r, l, rfl⟩ : ∃ (r : Fin 8) (l : Fin 2048), y = ix2 r l := ⟨y 0, y 1, funext fun a => match a with | ⟨0, _⟩ => rfl | ⟨1, _⟩ => rfl⟩
      exact Out0Ref.resS _ _ _ _ r l

end Cert.Out0Proof

end
-- ==== Proof.OutDat1.lean ====
/- The output projection of layer 1: what every buffer holds after every point of the grid, and the run of the whole call. -/
module

public import proofs.«01_k».proof.Proof.Gen.Out1Ideal.Frame
public import proofs.«01_k».proof.Proof.Gen.Out1Ideal.Skeleton
public import proofs.«01_k».proof.Proof.OutDat0

@[expose] public section

set_option maxRecDepth 16384

noncomputable section

namespace Cert.Out1Val

open Cert.Out1Ideal Cert.Out1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := Out0Val.hcond0_0

/-- The point is in the first block of rows, as the weights' store asks. -/
abbrev cond0_1 (i : grid0.Coords) : Prop := k0_cond2 i = 1#1
theorem hcond0_1 : ∀ t : Fin cfg0.N, cond0_1 (grid0.coords t) ↔ t.val < 4 := Out0Val.hcond0_1

/-- The same, as the sample rows ask. -/
abbrev cond0_2 (i : grid0.Coords) : Prop := k0_cond3 i = 1#1
theorem hcond0_2 : ∀ t : Fin cfg0.N, cond0_2 (grid0.coords t) ↔ t.val < 4 := Out0Val.hcond0_2

/-! ## The staging memrefs -/

/-- Each window's staging memref at a point, and that it is a whole buffer. -/
abbrev ms0_0 (t : Fin cfg0.N) : 𝔹 S1024x1536 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S8x1536 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S8x512 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x512 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x512 .f32 := win0_8.stage (cfg0.slots t 8)
abbrev hs0_8 (t : Fin cfg0.N) : (ms0_8 t).IsWhole := hstage0_8 ((cfg0.slots t 8).cast nbuf0_8)
/-- The two buffers the call keeps for itself: the left-hand rows and the weights. -/
abbrev scM0_0 : 𝔹 S1024x2048 .bf16 := Memref.whole cc0_scratch0
abbrev scM0_1 : 𝔹 S4x2048x512 .bf16 := Memref.whole cc0_scratch1

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## What the body leaves -/

/-- The rows of the two operands side by side, the left-hand side of the product. -/
def lhsOf (z : Vec F S1024x1536 .f32) (mo : Vec F S1024x512 .f32) : Vec F S1024x2048 .bf16 := fun y =>
  if h : (y 1).val < 1536 then k0_pay1 z (fun | ⟨0, _⟩ => y 0 | ⟨1, _⟩ => ⟨(y 1).val, h⟩)
  else k0_pay2 mo (fun | ⟨0, _⟩ => y 0 | ⟨1, _⟩ => ⟨(y 1).val - 1536, by have h2 : (y 1).val < 2048 := (y 1).isLt; show _ < 512; omega⟩)

/-- One block of columns of the weights held, read by the point's offsets; -/
abbrev colsOf (i : grid0.Coords) (W : Vec F S4x2048x512 .bf16) : Vec F S1x2048x512 .bf16 := VecWindow.window W (k0_off2 i) ![1, 2048, 512] (k0_off2_inb i)
/-- and the weights with that block replaced. -/
abbrev colsPut (i : grid0.Coords) (W : Vec F S4x2048x512 .bf16) (w : Vec F S1x2048x512 .bf16) : Vec F S4x2048x512 .bf16 := VecWindow.put W (k0_off2 i) ![1, 2048, 512] w

/-- The body, called with the windows and its own buffers at the contents given first, leaves them at those given last, the inputs as they were. -/
def Leaves (c : Dev nD) (i : grid0.Coords) (arg2 : 𝔹 S1024x1536 .f32) (harg2 : arg2.IsWhole) (arg3 : 𝔹 S1024x512 .f32) (harg3 : arg3.IsWhole) (arg4 : 𝔹 S1x2048x512 .f32) (harg4 : arg4.IsWhole) (arg5 : 𝔹 S1024x512 .f32) (harg5 : arg5.IsWhole) (arg6 : 𝔹 S8x1536 .f32) (harg6 : arg6.IsWhole) (arg7 : 𝔹 S8x512 .f32) (harg7 : arg7.IsWhole) (arg8 : 𝔹 S8x512 .f32) (harg8 : arg8.IsWhole) (arg9 : 𝔹 S1024x512 .f32) (harg9 : arg9.IsWhole) (arg10 : 𝔹 S8x512 .f32) (harg10 : arg10.IsWhole) (arg11 : 𝔹 S1024x2048 .bf16) (harg11 : arg11.IsWhole) (arg12 : 𝔹 S4x2048x512 .bf16) (harg12 : arg12.IsWhole)
    (x0 : Vec F S1024x1536 .f32) (x1 : Vec F S1024x512 .f32) (x2 : Vec F S1x2048x512 .f32) (x3 : Vec F S1024x512 .f32) (x4 : Vec F S8x1536 .f32) (x5 : Vec F S8x512 .f32) (x6 : Vec F S8x512 .f32) (y7 : Vec F S1024x512 .f32) (y8 : Vec F S8x512 .f32) (y9 : Vec F S1024x2048 .bf16) (y10 : Vec F S4x2048x512 .bf16)
    (z7 : Vec F S1024x512 .f32) (z8 : Vec F S8x512 .f32) (z9 : Vec F S1024x2048 .bf16) (z10 : Vec F S4x2048x512 .bf16) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare y7 ∗ owns c.tc arg10 fullShare y8 ∗ owns c.tc arg11 fullShare y9 ∗ owns c.tc arg12 fullShare y10
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare z7 ∗ owns c.tc arg10 fullShare z8 ∗ owns c.tc arg11 fullShare z9 ∗ owns c.tc arg12 fullShare z10) -∗ K ⟨⟩))
      ⊢ wp frame (wpE (defs₀ (F := F)) Variants.none c none) E (cc0_out_proj2 i arg2 harg2 arg3 harg3 arg4 harg4 arg5 harg5 arg6 harg6 arg7 harg7 arg8 harg8 arg9 harg9 arg10 harg10 arg11 harg11 arg12 harg12) K

/-- The body is the one of layer 0; -/
theorem body_eq : cc0_out_proj2 (F := F) = Out0Val.body Λ₀ := rfl
/-- so it leaves what that one leaves. -/
theorem Leaves_eq : @Leaves F _ = Out0Val.Leaves (defs₀ (F := F)) := by
  unfold Leaves Out0Val.Leaves
  rw [body_eq]
  rfl

/-! ## What the buffers hold after each point -/

theorem lt_N (t : Fin cfg0.N) : t.val < 32 := lt_of_lt_of_eq t.isLt (show cfg0.N = 32 from N_0)

/-- The first point of the point's block of rows; -/
def rowOf (t : Fin cfg0.N) : Fin cfg0.N := ⟨t.val / 4 * 4, by have := t.isLt; omega⟩
/-- the point of the first block of rows with the point's block of columns; -/
def colAt (t : Fin cfg0.N) : Fin cfg0.N := ⟨t.val % 4, by have := t.isLt; omega⟩
/-- the last point that touches the sample rows. -/
def smpAt (t : Fin cfg0.N) : Fin cfg0.N := ⟨min t.val 3, by have := t.isLt; omega⟩

/-- The left-hand side held after a point: that of its block of rows. -/
def lhsAt (c : Dev nD) (t : Fin cfg0.N) : Vec F S1024x2048 .bf16 := lhsOf (iblk m c 0 (rowOf t)) (iblk m c 1 (rowOf t))
/-- The block of columns of the weights a point of the first block of rows stores. -/
def wAt (c : Dev nD) (t : Fin cfg0.N) : Vec F S1x2048x512 .bf16 := k0_pay3 (iblk m c 2 t)
/-- The prompt rows' result at a point. -/
def oAt (c : Dev nD) (t : Fin cfg0.N) : Vec F S1024x512 .f32 := k0_pay4 (iblk m c 3 t) (lhsAt m c t) (wAt m c (colAt t))
/-- The sample rows' result at a point of the first block of rows, kept from there. -/
def osAt (c : Dev nD) (t : Fin cfg0.N) : Vec F S8x512 .f32 :=
  k0_pay5 (iblk m c 4 (smpAt t)) (iblk m c 5 (smpAt t)) (iblk m c 6 (smpAt t)) (wAt m c (smpAt t))

/-- The point before. -/
abbrev prev (t : Fin cfg0.N) : Fin cfg0.N := ⟨t.val - 1, Nat.lt_of_le_of_lt (Nat.sub_le _ _) t.isLt⟩

/-- What the call's own buffers are known to hold before point `n`: the left-hand side of the point before, and every block of columns stored so far. -/
def Held (c : Dev nD) (n : ℕ) (L : Vec F S1024x2048 .bf16) (W : Vec F S4x2048x512 .bf16) : Prop :=
  (∀ t : Fin cfg0.N, t.val + 1 = n → L = lhsAt m c t) ∧ ∀ t : Fin cfg0.N, t.val < 4 → t.val < n → colsOf (grid0.coords t) W = wAt m c t

theorem osAt_kept (c : Dev nD) (t : Fin cfg0.N) (h : ¬t.val < 4) : osAt m c (prev t) = osAt m c t := by
  unfold osAt; rw [show smpAt (prev t) = smpAt t from Fin.ext (by show min (t.val - 1) 3 = min t.val 3; omega)]

/-- The blocks this layer's points read. -/
def blks (c : Dev nD) : Out0Val.Blks F := ⟨iblk m c 0, iblk m c 1, iblk m c 2, iblk m c 3, iblk m c 4, iblk m c 5, iblk m c 6⟩

/-- Every point takes what is held before it to what is held after it, and leaves the closed forms in the result buffers. -/
theorem step (c : Dev nD) (t : Fin cfg0.N) (y7 : Vec F S1024x512 .f32) (y8 : Vec F S8x512 .f32) (h8 : ¬t.val < 4 → y8 = osAt m c t)
    (L : Vec F S1024x2048 .bf16) (W : Vec F S4x2048x512 .bf16) (h : Held m c t.val L W) :
    ∃ W', Held m c (t.val + 1) (lhsAt m c t) W' ∧
      Leaves c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
        (iblk m c 0 t) (iblk m c 1 t) (iblk m c 2 t) (iblk m c 3 t) (iblk m c 4 t) (iblk m c 5 t) (iblk m c 6 t) y7 y8 L W (oAt m c t) (osAt m c t) (lhsAt m c t) W' := by
  have e0 : osAt m c t = Out0Val.Pts.osAt (blks m c) t := rfl
  have e1 : oAt m c t = Out0Val.Pts.oAt (blks m c) t := rfl
  have e2 : lhsAt m c t = Out0Val.Pts.lhsAt (blks m c) t := rfl
  have e3 : ∀ n L W, Held m c n L W = Out0Val.Pts.Held (blks m c) n L W := fun _ _ _ => rfl
  rw [e0] at h8
  rw [e3] at h
  rw [e0, e1, e2, Leaves_eq]
  simp only [e3]
  exact Out0Val.Pts.step (blks m c) defs₀ c t _ _ _ _ _ _ _ _ _ _ _ _ _ _ _ _ _ _ _ _ _ _ y7 y8 h8 L W h

/-! ## The proof data -/

/-- The invariant before point `n`. -/
def PhiS (c : Dev nD) (n : ℕ) : sProp 𝕄 :=
  iprop((∃ L, ∃ W, ⌜Held m c n L W⌝ ∗ owns c.tc scM0_0 fullShare L ∗ owns c.tc scM0_1 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
    | ⟨8, _⟩ => osAt m c t
  Φ t := PhiS m c t.val
  q _ := fullShare
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t := by dsimp only [dats]
theorem after0_8 (c : Dev nD) (t : Fin cfg0.N) : (dats m 0 c).after 8 t = osAt m c t := by dsimp only [dats]

/-- The sample rows' window is touched at the points of the first block of rows only, -/
theorem idle0_8 : ∀ t : Fin cfg0.N, cfg0.idle 8 (grid0.coords t) = !decide (t.val < 4) := by decide +kernel
/-- and written back when its block changes and at the end. -/
theorem flush0_8 : ∀ t : Fin cfg0.N, (cfg0.win 8).flush t = decide (t.val < 3 ∨ t.val = 31) := by decide +kernel

/-- From the second block of rows on the sample rows' buffer is what the last point of the first left. -/
theorem before0_8 (c : Dev nD) : ∀ (n : ℕ) (h : n < cfg0.N) (h0 : ¬n < 4) (d),
    (dats m 0 c).before 8 ⟨n, h⟩ d = osAt m c ⟨n, h⟩ := by
  intro n
  induction n using Nat.strong_induction_on with
  | _ n ih =>
    intro h h0 d
    have hN : n < 32 := lt_of_lt_of_eq h (show cfg0.N = 32 from N_0)
    refine Eq.trans ?_ (osAt_kept m c ⟨n, h⟩ h0)
    rw [(dats m 0 c).before_of_pos 8 ⟨n, h⟩ (by simp only; omega) rfl d,
      if_neg (fun e => absurd ((flush0_8 _).symm.trans e) (by simp only [decide_eq_true_eq]; omega))]
    unfold Dat.left
    by_cases hl : n - 1 < 4
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact ih (n - 1) (by omega) (by omega) hl d

/-- What the body has to leave in the sample rows' buffer: the closed form, at every point. -/
theorem leaves8 (c : Dev nD) (t : Fin cfg0.N) :
    (owns c.tc (ms0_8 t) fullShare (osAt m c t) : sProp 𝕄) ⊢ (dats m 0 c).leavesExact 8 t := by
  have hN := lt_N t
  by_cases hl : t.val < 4
  · unfold Dat.leavesExact
    rw [show cfg0.idle 8 (cfg0.grid.coords t) = false from (idle0_8 t).trans (by simp [hl])]
    dsimp only
    rw [after0_8]
  · by_cases hf : t.val = 31
    · unfold Dat.leavesExact
      rw [show cfg0.idle 8 (cfg0.grid.coords t) = true from (idle0_8 t).trans (by simp [hl]), show (cfg0.win 8).flush t = true from (flush0_8 t).trans (by simp [hf])]
      dsimp only
      rw [after0_8]
    · rw [(dats m 0 c).leavesExact_idle 8 t ((idle0_8 t).trans (by simp [hl])) ((flush0_8 t).trans (by simp; omega))]
      iintro H
      iexists osAt m c t
      rw [before0_8 m c t.val t.isLt hl]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%L, %W, %hLW, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨W', hW', hrun⟩ := step m c t ((dats m 0 c).before 7 t d7) ((dats m 0 c).before 8 t d8) (fun h => before0_8 m c t.val t.isLt h d8) L W hLW
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · iexists _; iexists W'
      isplitr; · ipureintro; exact hW'
      isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%L, HS0⟩, ⟨%W, HS1⟩⟩, Hg⟩
      isplitl [HS0 HS1]
      · iexists L; iexists W
        isplitr; · ipureintro; exact ⟨fun _ e => absurd e (by omega), fun _ _ e => absurd e (by omega)⟩
        isplitl [HS0]; · iexact HS0
        iexact HS1
      · iexact Hg)
    (hout := fun c => by
      rw [show (dats m 0 c).Φ (Fin.last cfg0.N) = PhiS m c cfg0.N from rfl, PhiA0_eq]
      unfold PhiS
      iintro ⟨⟨%L, %W, -, HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Out1Val

end
-- ==== Proof.OutOut1.lean ====
/- The output projection of layer 1: its two results, at an index. -/
module

public import proofs.«01_k».proof.Proof.OutDat1
public import proofs.«01_k».proof.Proof.OutOut0

@[expose] public section

set_option maxRecDepth 16384

noncomputable section

namespace Cert.Out1Val

open Idealize.ShloMosaic Idealize.ShloMosaic.TcCoe Idealize.SL.Sem
open Idealize.ShloMosaic.Pipeline (Dat)
open Cert.Out1Ideal Cert.Out1Ideal.Gen Cert.Out

/-! ## One point's work, at an index -/

theorem lhs_at (z : Vec Ideal S1024x1536 .f32) (mo : Vec Ideal S1024x512 .f32) (r : Fin 1024) (k : Fin 2048) :
    lhsOf z mo (ix2 r k) = row (fun q => z (ix2 r q)) (fun q => mo (ix2 r q)) k :=
  Out0Val.lhs_at z mo r k
theorem cols_at (w : Vec Ideal S1x2048x512 .f32) (k : Fin 2048) (l : Fin 512) : k0_pay3 w (ix3 0 k l) = w (ix3 0 k l) :=
  Out0Val.cols_at w k l
theorem o_at (x : Vec Ideal S1024x512 .f32) (L : Vec Ideal S1024x2048 .bf16) (w : Vec Ideal S1x2048x512 .bf16) (r : Fin 1024) (l : Fin 512) :
    k0_pay4 x L w (ix2 r l) = x (ix2 r l) + ∑ k : Fin 2048, L (ix2 r k) * w (ix3 0 k l) :=
  Out0Val.o_at x L w r l
theorem os_at (zs : Vec Ideal S8x1536 .f32) (mos xs : Vec Ideal S8x512 .f32) (w : Vec Ideal S1x2048x512 .bf16) (r : Fin 8) (l : Fin 512) :
    k0_pay5 zs mos xs w (ix2 r l) = xs (ix2 r l) + ∑ k : Fin 2048, row (fun q => zs (ix2 r q)) (fun q => mos (ix2 r q)) k * w (ix3 0 k l) :=
  Out0Val.os_at zs mos xs w r l

variable (m : (ℓ : Loc nD τ sig) → Buf (Elt Ideal) ℓ)

/-! ## The arguments, a row at a time -/

/-- Row `r` of the attention's output, the batches one after another. -/
def arrZ (c : Dev nD) (r : Fin 8192) : Fin 1536 → EReal := fun l => m (c.tc.loc main_arg0) (ix3 ⟨r.val / 2048, by omega⟩ ⟨r.val % 2048, by omega⟩ l)
/-- Row `r` of the memory's output, the batches one after another. -/
def arrM (c : Dev nD) (r : Fin 8192) : Fin 512 → EReal := fun l => m (c.tc.loc main_arg1) (ix3 ⟨r.val / 2048, by omega⟩ ⟨r.val % 2048, by omega⟩ l)
/-- Row `r` of the prompts' rows, the batches one after another. -/
def arrX (c : Dev nD) (r : Fin 8192) : Fin 2048 → EReal := fun l => m (c.tc.loc main_arg3) (ix3 ⟨r.val / 2048, by omega⟩ ⟨r.val % 2048, by omega⟩ l)
/-- The same for the samples. -/
def arrZS (c : Dev nD) (r : Fin 8) : Fin 1536 → EReal := fun l => m (c.tc.loc main_arg4) (ix3 r 0 l)
/-- The same for the samples. -/
def arrMS (c : Dev nD) (r : Fin 8) : Fin 512 → EReal := fun l => m (c.tc.loc main_arg5) (ix3 r 0 l)
/-- The same for the samples. -/
def arrXS (c : Dev nD) (r : Fin 8) : Fin 2048 → EReal := fun l => m (c.tc.loc main_arg6) (ix3 r 0 l)
/-- The layer's weights. -/
def arrW (c : Dev nD) : Fin 2048 → Fin 2048 → EReal := fun k l => m (c.tc.loc main_arg2) (ix3 1 k l)

/-! ## Where the windows are -/

theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 1 ∧ win0_2.index t 1 = 0 ∧ win0_2.index t 2 = min t.val 3 := by decide +kernel
theorem at3 : ∀ t : Fin cfg0.N, win0_3.index t 0 = t.val / 4 ∧ win0_3.index t 1 = t.val % 4 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = min t.val 3 := by decide +kernel
theorem at7 : ∀ t : Fin cfg0.N, win0_7.index t 0 = t.val / 4 ∧ win0_7.index t 1 = t.val % 4 := by decide +kernel
theorem at8 : ∀ t : Fin cfg0.N, win0_8.index t 0 = 0 ∧ win0_8.index t 1 = min t.val 3 := by decide +kernel

/-! ## The blocks -/

theorem blk2 (c : Dev nD) (t : Fin cfg0.N) (k : Fin 2048) (l : Fin 512) :
    iblk m c 2 t (ix3 0 k l) = arrW m c k ⟨min t.val 3 * 512 + l.val, by omega⟩ := by
  unfold iblk arrW
  rw [show V m c (Pipeline.arrRef spec0 2) = m (c.tc.loc main_arg2) from V_main_arg2 m c]
  refine congrArg (m (c.tc.loc main_arg2)) (funext fun a => Fin.ext ?_)
  match a with
  | ⟨0, _⟩ => blk_simp; rw [(at2 t).1]; rfl
  | ⟨1, _⟩ => blk_simp; rw [(at2 t).2.1]; show 0 * 2048 + k.val = k.val; omega
  | ⟨2, _⟩ => blk_simp; rw [(at2 t).2.2]
theorem blk0 (c : Dev nD) (t : Fin cfg0.N) (r : Fin 1024) (l : Fin 1536) :
    iblk m c 0 t (ix2 r l) = arrZ m c ⟨t.val / 4 * 1024 + r.val, by have := lt_N t; omega⟩ l :=
  Out0Val.blk0 m c t r l
theorem blk1 (c : Dev nD) (t : Fin cfg0.N) (r : Fin 1024) (l : Fin 512) :
    iblk m c 1 t (ix2 r l) = arrM m c ⟨t.val / 4 * 1024 + r.val, by have := lt_N t; omega⟩ l :=
  Out0Val.blk1 m c t r l
theorem blk3 (c : Dev nD) (t : Fin cfg0.N) (r : Fin 1024) (l : Fin 512) :
    iblk m c 3 t (ix2 r l) = arrX m c ⟨t.val / 4 * 1024 + r.val, by have := lt_N t; omega⟩ ⟨t.val % 4 * 512 + l.val, by omega⟩ :=
  Out0Val.blk3 m c t r l
theorem blk4 (c : Dev nD) (t : Fin cfg0.N) (r : Fin 8) (l : Fin 1536) : iblk m c 4 t (ix2 r l) = arrZS m c r l :=
  Out0Val.blk4 m c t r l
theorem blk5 (c : Dev nD) (t : Fin cfg0.N) (r : Fin 8) (l : Fin 512) : iblk m c 5 t (ix2 r l) = arrMS m c r l :=
  Out0Val.blk5 m c t r l
theorem blk6 (c : Dev nD) (t : Fin cfg0.N) (r : Fin 8) (l : Fin 512) : iblk m c 6 t (ix2 r l) = arrXS m c r ⟨min t.val 3 * 512 + l.val, by omega⟩ :=
  Out0Val.blk6 m c t r l

/-! ## The buffers, at an index -/

/-- A row of the prompts' result. -/
def resX (c : Dev nD) (r : Fin 8192) : Fin 2048 → EReal := proj (arrX m c r) (arrZ m c r) (arrM m c r) (arrW m c)
/-- A row of the samples' result. -/
def resS (c : Dev nD) (r : Fin 8) : Fin 2048 → EReal := proj (arrXS m c r) (arrZS m c r) (arrMS m c r) (arrW m c)

theorem oAt_val (c : Dev nD) (t : Fin cfg0.N) (r : Fin 1024) (l : Fin 512) :
    oAt m c t (ix2 r l) = resX m c ⟨t.val / 4 * 1024 + r.val, by have := lt_N t; omega⟩ ⟨t.val % 4 * 512 + l.val, by omega⟩ := by
  have hN := lt_N t
  unfold oAt resX proj
  rw [o_at]
  refine congrArg₂ (· + ·) (blk3 m c t r l) (Finset.sum_congr rfl fun k _ => congrArg₂ (· * ·) ?_ ?_)
  · unfold lhsAt
    rw [lhs_at]
    have er : ∀ q : Fin 8192, q.val = (rowOf t).val / 4 * 1024 + r.val → q = ⟨t.val / 4 * 1024 + r.val, by omega⟩ := fun q h =>
      Fin.ext (h.trans (by show t.val / 4 * 4 / 4 * 1024 + r.val = t.val / 4 * 1024 + r.val; omega))
    refine congrArg₂ (fun a b => row a b k) (funext fun q => ?_) (funext fun q => ?_)
    · exact (blk0 m c (rowOf t) r q).trans (congrArg (fun z => arrZ m c z q) (er _ rfl))
    · exact (blk1 m c (rowOf t) r q).trans (congrArg (fun z => arrM m c z q) (er _ rfl))
  · unfold wAt
    rw [cols_at]
    refine (blk2 m c (colAt t) k l).trans (congrArg (arrW m c k) (Fin.ext ?_))
    show min (t.val % 4) 3 * 512 + l.val = t.val % 4 * 512 + l.val
    omega

theorem osAt_val (c : Dev nD) (t : Fin cfg0.N) (r : Fin 8) (l : Fin 512) :
    osAt m c t (ix2 r l) = resS m c r ⟨min t.val 3 * 512 + l.val, by omega⟩ := by
  unfold osAt resS proj
  rw [os_at]
  have em : min (smpAt t).val 3 * 512 + l.val = min t.val 3 * 512 + l.val := by show min (min t.val 3) 3 * 512 + l.val = _; omega
  refine congrArg₂ (· + ·) ((blk6 m c (smpAt t) r l).trans (congrArg (arrXS m c r) (Fin.ext em))) (Finset.sum_congr rfl fun k _ => congrArg₂ (· * ·) ?_ ?_)
  · exact congrArg₂ (fun a b => row a b k) (funext fun q => blk4 m c (smpAt t) r q) (funext fun q => blk5 m c (smpAt t) r q)
  · unfold wAt
    rw [cols_at]
    exact (blk2 m c (smpAt t) k l).trans (congrArg (arrW m c k) (Fin.ext em))

/-! ## The result arrays -/

/-- The prompts' result as a function of its index. -/
def whole0 (c : Dev nD) : FVec Ideal S8192x2048 .f32 := fun y => resX m c ⟨(y 0).val, (y 0).isLt⟩ ⟨(y 1).val, (y 1).isLt⟩
/-- The samples' result as a function of its index. -/
def whole1 (c : Dev nD) : FVec Ideal S8x2048 .f32 := fun y => resS m c ⟨(y 0).val, (y 0).isLt⟩ ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt_N t
  blk_simp
  rw [after0_7]
  have h0 : (y 0).val < 1024 := (y 0).isLt
  have h1 : (y 1).val < 512 := (y 1).isLt
  have e : (win0_7.blk t).view.emb y = ix2 (⟨t.val / 4 * 1024 + (y 0).val, by omega⟩ : Fin 8192) (⟨t.val % 4 * 512 + (y 1).val, by omega⟩ : Fin 2048) := by
    refine funext fun a => Fin.ext ?_
    match a with
    | ⟨0, _⟩ => blk_simp; rw [(at7 t).1]; rfl
    | ⟨1, _⟩ => blk_simp; rw [(at7 t).2]; rfl
  rw [e]
  refine Eq.trans (congrArg (oAt m c t) ?_) (oAt_val m c t ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  blk_simp
  rw [after0_8]
  have h0 : (y 0).val < 8 := (y 0).isLt
  have h1 : (y 1).val < 512 := (y 1).isLt
  have e : (win0_8.blk t).view.emb y = ix2 (⟨(y 0).val, h0⟩ : Fin 8) (⟨min t.val 3 * 512 + (y 1).val, by omega⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; rfl
  rw [e]
  refine Eq.trans (congrArg (osAt m c t) ?_) (osAt_val m c t ⟨(y 0).val, h0⟩ ⟨(y 1).val, h1⟩)
  exact funext fun a => match a with | ⟨0, _⟩ => rfl | ⟨1, _⟩ => rfl

end Cert.Out1Val

end
-- ==== Proof.OutRef1.lean ====
/- The reference of layer 1's output projection, at an index. -/
module

public import proofs.«01_k».proof.Proof.OutMath
public import proofs.«01_k».proof.Proof.Gen.Out1RefIdeal.Read

@[expose] public section

set_option maxRecDepth 16384

noncomputable section

namespace Cert.Out1Ref

open Idealize.ShloMosaic Idealize.ShloMosaic.TcCoe Idealize.SL.Sem
open Cert.Out1RefIdeal Cert.Out1RefIdeal.Read Cert.Out

variable (x0 : (⟨S4x2048x1536, .f32⟩ : BufTy).Contents (Elt Ideal))
  (x1 : (⟨S4x2048x512, .f32⟩ : BufTy).Contents (Elt Ideal))
  (x2 : (⟨S4x2048x2048, .f32⟩ : BufTy).Contents (Elt Ideal))
  (x3 : (⟨S4x2048x2048, .f32⟩ : BufTy).Contents (Elt Ideal))
  (x4 : (⟨S8x1x1536, .f32⟩ : BufTy).Contents (Elt Ideal))
  (x5 : (⟨S8x1x512, .f32⟩ : BufTy).Contents (Elt Ideal))
  (x6 : (⟨S8x1x2048, .f32⟩ : BufTy).Contents (Elt Ideal))

/-- The layer's weights. -/
def rowW : Fin 2048 → Fin 2048 → EReal := fun k l => x2 (ix3 1 k l)

theorem catX (b : Fin 4) (r : Fin 2048) (k : Fin 2048) :
    val_main_v0 (F := Ideal) x0 x1 (ix3 b r k) = row (fun q => x0 (ix3 b r q)) (fun q => x1 (ix3 b r q)) k := by
  unfold row
  pointwise [val_main_v0]

theorem trunkX (b : Fin 4) (r : Fin 2048) (l : Fin 2048) :
    val_main_v4 (F := Ideal) x0 x1 x2 x3 (ix3 b r l) = proj (fun k => x3 (ix3 b r k)) (fun q => x0 (ix3 b r q)) (fun q => x1 (ix3 b r q)) (rowW x2) l := by
  have hW : ∀ k, val_main_v2 (F := Ideal) x2 (ix2 k l) = rowW x2 k l := fun k => by
    unfold rowW
    pointwise [val_main_v2, val_main_v1]
  unfold proj
  rw [← Finset.sum_congr rfl fun k _ => congrArg₂ (· * ·) (catX x0 x1 b r k) (hW k)]
  pointwise [val_main_v4, val_main_v3]

/-- The reference's prompts, at an index. -/
theorem resX (r : Fin 8192) (l : Fin 2048) : val_main_v5 (F := Ideal) x0 x1 x2 x3 (ix2 r l)
    = proj (fun k => x3 (ix3 ⟨r.val / 2048, by omega⟩ ⟨r.val % 2048, by omega⟩ k)) (fun q => x0 (ix3 ⟨r.val / 2048, by omega⟩ ⟨r.val % 2048, by omega⟩ q)) (fun q => x1 (ix3 ⟨r.val / 2048, by omega⟩ ⟨r.val % 2048, by omega⟩ q)) (rowW x2) l := by
  refine Eq.trans ?_ (trunkX x0 x1 x2 x3 ⟨r.val / 2048, by omega⟩ ⟨r.val % 2048, by omega⟩ l)
  unfold val_main_v5
  refine shapeCast_apply _ _ _ _ ?_
  rw [Shape.rowMajor_val_two]
  refine (Shape.rowMajor_val_three _).trans ?_
  show (r.val / 2048 * 2048 + r.val % 2048) * 2048 + l.val = r.val * 2048 + l.val
  omega

theorem catS (r : Fin 8) (k : Fin 2048) :
    val_main_v6 (F := Ideal) x4 x5 (ix3 r 0 k) = row (fun q => x4 (ix3 r 0 q)) (fun q => x5 (ix3 r 0 q)) k := by
  unfold row
  pointwise [val_main_v6]

/-- The reference's samples, at an index. -/
theorem resS (r : Fin 8) (l : Fin 2048) : val_main_v11 (F := Ideal) x2 x4 x5 x6 (ix2 r l)
    = proj (fun k => x6 (ix3 r 0 k)) (fun q => x4 (ix3 r 0 q)) (fun q => x5 (ix3 r 0 q)) (rowW x2) l := by
  have hW : ∀ k, val_main_v8 (F := Ideal) x2 (ix2 k l) = rowW x2 k l := fun k => by
    unfold rowW
    pointwise [val_main_v8, val_main_v7]
  unfold proj
  rw [← Finset.sum_congr rfl fun k _ => congrArg₂ (· * ·) (catS x4 x5 r k) (hW k)]
  pointwise [val_main_v11, val_main_v10, val_main_v9]

end Cert.Out1Ref

end
-- ==== Proof.OutClaim1.lean ====
/- The claims about the output projection of layer 1. -/
module

public import proofs.«01_k».proof.Defs
public import proofs.«01_k».proof.Proof.OutOut1
public import proofs.«01_k».proof.Proof.OutRef1
public import proofs.«01_k».proof.Proof.Gen.Out1.Frame

@[expose] public section

set_option maxRecDepth 16384

noncomputable section

namespace Cert.Out1Proof

open Idealize.ShloMosaic Idealize.ShloMosaic.TcCoe Idealize.SL.Sem

/-- The reference leaves its arguments alone. -/
theorem ref_frame : quiescent_Out1RefIdeal := fun m g _ =>
  (θ_run _ _ _).mono (fun r h => ⟨fun c => (h c).2.2, sem_eq_zero_of_no_sems rfl r.2⟩) (Out1RefIdeal.Value.run m g)

section

variable {F : FTy → Type} [FloatOps F]

attribute [local instance] Out1.Gen.facts Out1Ideal.Gen.facts

/-- The two printings of the kernel have the same body. -/
theorem bodies : Out1.defs₀ (F := F) = Out1Ideal.defs₀ (F := F) := by
  refine congrArg Defs.onTc (funext fun n => funext fun a => ?_)
  match n, a with
  | ⟨0, _⟩, (t, s) => rfl

/-- So they have the same table. -/
theorem tables : Out1.defs (F := F) = Out1Ideal.defs (F := F) :=
  congrArg (Pipeline.defs (Out1Ideal.pcfgs (F := F))) bodies

/-- The kernel leaves its arguments alone: the one run, at the machine's floats. -/
theorem kernel_frame : quiescent_Out1 := fun m g _ => by
  have h := Out1Val.frame (F := Bits) m g
  rw [← tables] at h
  exact h

end

/-- The kernel over the reals leaves its arguments alone. -/
theorem frame : quiescent_Out1Ideal := fun m g _ => Out1Val.frame m g

/-- The kernel over the reals computes what the reference does. -/
theorem algebraic : algebraic_Out1Ideal_Out1RefIdeal := by
  intro m g m' g' _ ha
  refine ⟨fun c => Out1Val.whole0 m c, fun c => Out1Val.whole1 m c, ?_, ?_⟩
  · exact (θ_run _ _ _).mono (fun r h c => ⟨((h.1.1 c).1 7).trans (Out1Val.arr7 m c), ((h.1.1 c).1 8).trans (Out1Val.arr8 m c), h.2.1 c⟩)
      (θ_run_and (Out1Val.run_main m g) (Out1Val.frame m g))
  · refine (θ_run _ _ _).mono (fun r h c => ⟨(h c).1.trans ?_, (h c).2.1.trans ?_, (h c).2.2⟩) (Out1RefIdeal.Value.run m' g')
    · rw [Out1RefIdeal.Read.val_main_v5_eq, (ha c).1, (ha c).2.1, (ha c).2.2.1, (ha c).2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Out1Ref.resX _ _ _ _ r l
    · rw [Out1RefIdeal.Read.val_main_v11_eq, (ha c).2.2.1, (ha c).2.2.2.2.1, (ha c).2.2.2.2.2.1, (ha c).2.2.2.2.2.2]
      funext y
      obtain ⟨r, l, rfl⟩ : ∃ (r : Fin 8) (l : Fin 2048), y = ix2 r l := ⟨y 0, y 1, funext fun a => match a with | ⟨0, _⟩ => rfl | ⟨1, _⟩ => rfl⟩
      exact Out1Ref.resS _ _ _ _ r l

end Cert.Out1Proof

end
-- ==== Proof.OutDat2.lean ====
/- The output projection of layer 2: what every buffer holds after every point of the grid, and the run of the whole call. -/
module

public import proofs.«01_k».proof.Proof.Gen.Out2Ideal.Frame
public import proofs.«01_k».proof.Proof.Gen.Out2Ideal.Skeleton
public import proofs.«01_k».proof.Proof.OutDat0

@[expose] public section

set_option maxRecDepth 16384

noncomputable section

namespace Cert.Out2Val

open Cert.Out2Ideal Cert.Out2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := Out0Val.hcond0_0

/-- The point is in the first block of rows, as the weights' store asks. -/
abbrev cond0_1 (i : grid0.Coords) : Prop := k0_cond2 i = 1#1
theorem hcond0_1 : ∀ t : Fin cfg0.N, cond0_1 (grid0.coords t) ↔ t.val < 4 := Out0Val.hcond0_1

/-- The same, as the sample rows ask. -/
abbrev cond0_2 (i : grid0.Coords) : Prop := k0_cond3 i = 1#1
theorem hcond0_2 : ∀ t : Fin cfg0.N, cond0_2 (grid0.coords t) ↔ t.val < 4 := Out0Val.hcond0_2

/-! ## The staging memrefs -/

/-- Each window's staging memref at a point, and that it is a whole buffer. -/
abbrev ms0_0 (t : Fin cfg0.N) : 𝔹 S1024x1536 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S8x1536 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S8x512 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x512 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x512 .f32 := win0_8.stage (cfg0.slots t 8)
abbrev hs0_8 (t : Fin cfg0.N) : (ms0_8 t).IsWhole := hstage0_8 ((cfg0.slots t 8).cast nbuf0_8)
/-- The two buffers the call keeps for itself: the left-hand rows and the weights. -/
abbrev scM0_0 : 𝔹 S1024x2048 .bf16 := Memref.whole cc0_scratch0
abbrev scM0_1 : 𝔹 S4x2048x512 .bf16 := Memref.whole cc0_scratch1

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## What the body leaves -/

/-- The rows of the two operands side by side, the left-hand side of the product. -/
def lhsOf (z : Vec F S1024x1536 .f32) (mo : Vec F S1024x512 .f32) : Vec F S1024x2048 .bf16 := fun y =>
  if h : (y 1).val < 1536 then k0_pay1 z (fun | ⟨0, _⟩ => y 0 | ⟨1, _⟩ => ⟨(y 1).val, h⟩)
  else k0_pay2 mo (fun | ⟨0, _⟩ => y 0 | ⟨1, _⟩ => ⟨(y 1).val - 1536, by have h2 : (y 1).val < 2048 := (y 1).isLt; show _ < 512; omega⟩)

/-- One block of columns of the weights held, read by the point's offsets; -/
abbrev colsOf (i : grid0.Coords) (W : Vec F S4x2048x512 .bf16) : Vec F S1x2048x512 .bf16 := VecWindow.window W (k0_off2 i) ![1, 2048, 512] (k0_off2_inb i)
/-- and the weights with that block replaced. -/
abbrev colsPut (i : grid0.Coords) (W : Vec F S4x2048x512 .bf16) (w : Vec F S1x2048x512 .bf16) : Vec F S4x2048x512 .bf16 := VecWindow.put W (k0_off2 i) ![1, 2048, 512] w

/-- The body, called with the windows and its own buffers at the contents given first, leaves them at those given last, the inputs as they were. -/
def Leaves (c : Dev nD) (i : grid0.Coords) (arg2 : 𝔹 S1024x1536 .f32) (harg2 : arg2.IsWhole) (arg3 : 𝔹 S1024x512 .f32) (harg3 : arg3.IsWhole) (arg4 : 𝔹 S1x2048x512 .f32) (harg4 : arg4.IsWhole) (arg5 : 𝔹 S1024x512 .f32) (harg5 : arg5.IsWhole) (arg6 : 𝔹 S8x1536 .f32) (harg6 : arg6.IsWhole) (arg7 : 𝔹 S8x512 .f32) (harg7 : arg7.IsWhole) (arg8 : 𝔹 S8x512 .f32) (harg8 : arg8.IsWhole) (arg9 : 𝔹 S1024x512 .f32) (harg9 : arg9.IsWhole) (arg10 : 𝔹 S8x512 .f32) (harg10 : arg10.IsWhole) (arg11 : 𝔹 S1024x2048 .bf16) (harg11 : arg11.IsWhole) (arg12 : 𝔹 S4x2048x512 .bf16) (harg12 : arg12.IsWhole)
    (x0 : Vec F S1024x1536 .f32) (x1 : Vec F S1024x512 .f32) (x2 : Vec F S1x2048x512 .f32) (x3 : Vec F S1024x512 .f32) (x4 : Vec F S8x1536 .f32) (x5 : Vec F S8x512 .f32) (x6 : Vec F S8x512 .f32) (y7 : Vec F S1024x512 .f32) (y8 : Vec F S8x512 .f32) (y9 : Vec F S1024x2048 .bf16) (y10 : Vec F S4x2048x512 .bf16)
    (z7 : Vec F S1024x512 .f32) (z8 : Vec F S8x512 .f32) (z9 : Vec F S1024x2048 .bf16) (z10 : Vec F S4x2048x512 .bf16) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare y7 ∗ owns c.tc arg10 fullShare y8 ∗ owns c.tc arg11 fullShare y9 ∗ owns c.tc arg12 fullShare y10
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare z7 ∗ owns c.tc arg10 fullShare z8 ∗ owns c.tc arg11 fullShare z9 ∗ owns c.tc arg12 fullShare z10) -∗ K ⟨⟩))
      ⊢ wp frame (wpE (defs₀ (F := F)) Variants.none c none) E (cc0_out_proj2 i arg2 harg2 arg3 harg3 arg4 harg4 arg5 harg5 arg6 harg6 arg7 harg7 arg8 harg8 arg9 harg9 arg10 harg10 arg11 harg11 arg12 harg12) K

/-- The body is the one of layer 0; -/
theorem body_eq : cc0_out_proj2 (F := F) = Out0Val.body Λ₀ := rfl
/-- so it leaves what that one leaves. -/
theorem Leaves_eq : @Leaves F _ = Out0Val.Leaves (defs₀ (F := F)) := by
  unfold Leaves Out0Val.Leaves
  rw [body_eq]
  rfl

/-! ## What the buffers hold after each point -/

theorem lt_N (t : Fin cfg0.N) : t.val < 32 := lt_of_lt_of_eq t.isLt (show cfg0.N = 32 from N_0)

/-- The first point of the point's block of rows; -/
def rowOf (t : Fin cfg0.N) : Fin cfg0.N := ⟨t.val / 4 * 4, by have := t.isLt; omega⟩
/-- the point of the first block of rows with the point's block of columns; -/
def colAt (t : Fin cfg0.N) : Fin cfg0.N := ⟨t.val % 4, by have := t.isLt; omega⟩
/-- the last point that touches the sample rows. -/
def smpAt (t : Fin cfg0.N) : Fin cfg0.N := ⟨min t.val 3, by have := t.isLt; omega⟩

/-- The left-hand side held after a point: that of its block of rows. -/
def lhsAt (c : Dev nD) (t : Fin cfg0.N) : Vec F S1024x2048 .bf16 := lhsOf (iblk m c 0 (rowOf t)) (iblk m c 1 (rowOf t))
/-- The block of columns of the weights a point of the first block of rows stores. -/
def wAt (c : Dev nD) (t : Fin cfg0.N) : Vec F S1x2048x512 .bf16 := k0_pay3 (iblk m c 2 t)
/-- The prompt rows' result at a point. -/
def oAt (c : Dev nD) (t : Fin cfg0.N) : Vec F S1024x512 .f32 := k0_pay4 (iblk m c 3 t) (lhsAt m c t) (wAt m c (colAt t))
/-- The sample rows' result at a point of the first block of rows, kept from there. -/
def osAt (c : Dev nD) (t : Fin cfg0.N) : Vec F S8x512 .f32 :=
  k0_pay5 (iblk m c 4 (smpAt t)) (iblk m c 5 (smpAt t)) (iblk m c 6 (smpAt t)) (wAt m c (smpAt t))

/-- The point before. -/
abbrev prev (t : Fin cfg0.N) : Fin cfg0.N := ⟨t.val - 1, Nat.lt_of_le_of_lt (Nat.sub_le _ _) t.isLt⟩

/-- What the call's own buffers are known to hold before point `n`: the left-hand side of the point before, and every block of columns stored so far. -/
def Held (c : Dev nD) (n : ℕ) (L : Vec F S1024x2048 .bf16) (W : Vec F S4x2048x512 .bf16) : Prop :=
  (∀ t : Fin cfg0.N, t.val + 1 = n → L = lhsAt m c t) ∧ ∀ t : Fin cfg0.N, t.val < 4 → t.val < n → colsOf (grid0.coords t) W = wAt m c t

theorem osAt_kept (c : Dev nD) (t : Fin cfg0.N) (h : ¬t.val < 4) : osAt m c (prev t) = osAt m c t := by
  unfold osAt; rw [show smpAt (prev t) = smpAt t from Fin.ext (by show min (t.val - 1) 3 = min t.val 3; omega)]

/-- The blocks this layer's points read. -/
def blks (c : Dev nD) : Out0Val.Blks F := ⟨iblk m c 0, iblk m c 1, iblk m c 2, iblk m c 3, iblk m c 4, iblk m c 5, iblk m c 6⟩

/-- Every point takes what is held before it to what is held after it, and leaves the closed forms in the result buffers. -/
theorem step (c : Dev nD) (t : Fin cfg0.N) (y7 : Vec F S1024x512 .f32) (y8 : Vec F S8x512 .f32) (h8 : ¬t.val < 4 → y8 = osAt m c t)
    (L : Vec F S1024x2048 .bf16) (W : Vec F S4x2048x512 .bf16) (h : Held m c t.val L W) :
    ∃ W', Held m c (t.val + 1) (lhsAt m c t) W' ∧
      Leaves c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
        (iblk m c 0 t) (iblk m c 1 t) (iblk m c 2 t) (iblk m c 3 t) (iblk m c 4 t) (iblk m c 5 t) (iblk m c 6 t) y7 y8 L W (oAt m c t) (osAt m c t) (lhsAt m c t) W' := by
  have e0 : osAt m c t = Out0Val.Pts.osAt (blks m c) t := rfl
  have e1 : oAt m c t = Out0Val.Pts.oAt (blks m c) t := rfl
  have e2 : lhsAt m c t = Out0Val.Pts.lhsAt (blks m c) t := rfl
  have e3 : ∀ n L W, Held m c n L W = Out0Val.Pts.Held (blks m c) n L W := fun _ _ _ => rfl
  rw [e0] at h8
  rw [e3] at h
  rw [e0, e1, e2, Leaves_eq]
  simp only [e3]
  exact Out0Val.Pts.step (blks m c) defs₀ c t _ _ _ _ _ _ _ _ _ _ _ _ _ _ _ _ _ _ _ _ _ _ y7 y8 h8 L W h

/-! ## The proof data -/

/-- The invariant before point `n`. -/
def PhiS (c : Dev nD) (n : ℕ) : sProp 𝕄 :=
  iprop((∃ L, ∃ W, ⌜Held m c n L W⌝ ∗ owns c.tc scM0_0 fullShare L ∗ owns c.tc scM0_1 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
    | ⟨8, _⟩ => osAt m c t
  Φ t := PhiS m c t.val
  q _ := fullShare
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t := by dsimp only [dats]
theorem after0_8 (c : Dev nD) (t : Fin cfg0.N) : (dats m 0 c).after 8 t = osAt m c t := by dsimp only [dats]

/-- The sample rows' window is touched at the points of the first block of rows only, -/
theorem idle0_8 : ∀ t : Fin cfg0.N, cfg0.idle 8 (grid0.coords t) = !decide (t.val < 4) := by decide +kernel
/-- and written back when its block changes and at the end. -/
theorem flush0_8 : ∀ t : Fin cfg0.N, (cfg0.win 8).flush t = decide (t.val < 3 ∨ t.val = 31) := by decide +kernel

/-- From the second block of rows on the sample rows' buffer is what the last point of the first left. -/
theorem before0_8 (c : Dev nD) : ∀ (n : ℕ) (h : n < cfg0.N) (h0 : ¬n < 4) (d),
    (dats m 0 c).before 8 ⟨n, h⟩ d = osAt m c ⟨n, h⟩ := by
  intro n
  induction n using Nat.strong_induction_on with
  | _ n ih =>
    intro h h0 d
    have hN : n < 32 := lt_of_lt_of_eq h (show cfg0.N = 32 from N_0)
    refine Eq.trans ?_ (osAt_kept m c ⟨n, h⟩ h0)
    rw [(dats m 0 c).before_of_pos 8 ⟨n, h⟩ (by simp only; omega) rfl d,
      if_neg (fun e => absurd ((flush0_8 _).symm.trans e) (by simp only [decide_eq_true_eq]; omega))]
    unfold Dat.left
    by_cases hl : n - 1 < 4
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact ih (n - 1) (by omega) (by omega) hl d

/-- What the body has to leave in the sample rows' buffer: the closed form, at every point. -/
theorem leaves8 (c : Dev nD) (t : Fin cfg0.N) :
    (owns c.tc (ms0_8 t) fullShare (osAt m c t) : sProp 𝕄) ⊢ (dats m 0 c).leavesExact 8 t := by
  have hN := lt_N t
  by_cases hl : t.val < 4
  · unfold Dat.leavesExact
    rw [show cfg0.idle 8 (cfg0.grid.coords t) = false from (idle0_8 t).trans (by simp [hl])]
    dsimp only
    rw [after0_8]
  · by_cases hf : t.val = 31
    · unfold Dat.leavesExact
      rw [show cfg0.idle 8 (cfg0.grid.coords t) = true from (idle0_8 t).trans (by simp [hl]), show (cfg0.win 8).flush t = true from (flush0_8 t).trans (by simp [hf])]
      dsimp only
      rw [after0_8]
    · rw [(dats m 0 c).leavesExact_idle 8 t ((idle0_8 t).trans (by simp [hl])) ((flush0_8 t).trans (by simp; omega))]
      iintro H
      iexists osAt m c t
      rw [before0_8 m c t.val t.isLt hl]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%L, %W, %hLW, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨W', hW', hrun⟩ := step m c t ((dats m 0 c).before 7 t d7) ((dats m 0 c).before 8 t d8) (fun h => before0_8 m c t.val t.isLt h d8) L W hLW
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · iexists _; iexists W'
      isplitr; · ipureintro; exact hW'
      isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%L, HS0⟩, ⟨%W, HS1⟩⟩, Hg⟩
      isplitl [HS0 HS1]
      · iexists L; iexists W
        isplitr; · ipureintro; exact ⟨fun _ e => absurd e (by omega), fun _ _ e => absurd e (by omega)⟩
        isplitl [HS0]; · iexact HS0
        iexact HS1
      · iexact Hg)
    (hout := fun c => by
      rw [show (dats m 0 c).Φ (Fin.last cfg0.N) = PhiS m c cfg0.N from rfl, PhiA0_eq]
      unfold PhiS
      iintro ⟨⟨%L, %W, -, HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Out2Val

end
-- ==== Proof.OutOut2.lean ====
/- The output projection of layer 2: its two results, at an index. -/
module

public import proofs.«01_k».proof.Proof.OutDat2
public import proofs.«01_k».proof.Proof.OutOut0

@[expose] public section

set_option maxRecDepth 16384

noncomputable section

namespace Cert.Out2Val

open Idealize.ShloMosaic Idealize.ShloMosaic.TcCoe Idealize.SL.Sem
open Idealize.ShloMosaic.Pipeline (Dat)
open Cert.Out2Ideal Cert.Out2Ideal.Gen Cert.Out

/-! ## One point's work, at an index -/

theorem lhs_at (z : Vec Ideal S1024x1536 .f32) (mo : Vec Ideal S1024x512 .f32) (r : Fin 1024) (k : Fin 2048) :
    lhsOf z mo (ix2 r k) = row (fun q => z (ix2 r q)) (fun q => mo (ix2 r q)) k :=
  Out0Val.lhs_at z mo r k
theorem cols_at (w : Vec Ideal S1x2048x512 .f32) (k : Fin 2048) (l : Fin 512) : k0_pay3 w (ix3 0 k l) = w (ix3 0 k l) :=
  Out0Val.cols_at w k l
theorem o_at (x : Vec Ideal S1024x512 .f32) (L : Vec Ideal S1024x2048 .bf16) (w : Vec Ideal S1x2048x512 .bf16) (r : Fin 1024) (l : Fin 512) :
    k0_pay4 x L w (ix2 r l) = x (ix2 r l) + ∑ k : Fin 2048, L (ix2 r k) * w (ix3 0 k l) :=
  Out0Val.o_at x L w r l
theorem os_at (zs : Vec Ideal S8x1536 .f32) (mos xs : Vec Ideal S8x512 .f32) (w : Vec Ideal S1x2048x512 .bf16) (r : Fin 8) (l : Fin 512) :
    k0_pay5 zs mos xs w (ix2 r l) = xs (ix2 r l) + ∑ k : Fin 2048, row (fun q => zs (ix2 r q)) (fun q => mos (ix2 r q)) k * w (ix3 0 k l) :=
  Out0Val.os_at zs mos xs w r l

variable (m : (ℓ : Loc nD τ sig) → Buf (Elt Ideal) ℓ)

/-! ## The arguments, a row at a time -/

/-- Row `r` of the attention's output, the batches one after another. -/
def arrZ (c : Dev nD) (r : Fin 8192) : Fin 1536 → EReal := fun l => m (c.tc.loc main_arg0) (ix3 ⟨r.val / 2048, by omega⟩ ⟨r.val % 2048, by omega⟩ l)
/-- Row `r` of the memory's output, the batches one after another. -/
def arrM (c : Dev nD) (r : Fin 8192) : Fin 512 → EReal := fun l => m (c.tc.loc main_arg1) (ix3 ⟨r.val / 2048, by omega⟩ ⟨r.val % 2048, by omega⟩ l)
/-- Row `r` of the prompts' rows, the batches one after another. -/
def arrX (c : Dev nD) (r : Fin 8192) : Fin 2048 → EReal := fun l => m (c.tc.loc main_arg3) (ix3 ⟨r.val / 2048, by omega⟩ ⟨r.val % 2048, by omega⟩ l)
/-- The same for the samples. -/
def arrZS (c : Dev nD) (r : Fin 8) : Fin 1536 → EReal := fun l => m (c.tc.loc main_arg4) (ix3 r 0 l)
/-- The same for the samples. -/
def arrMS (c : Dev nD) (r : Fin 8) : Fin 512 → EReal := fun l => m (c.tc.loc main_arg5) (ix3 r 0 l)
/-- The same for the samples. -/
def arrXS (c : Dev nD) (r : Fin 8) : Fin 2048 → EReal := fun l => m (c.tc.loc main_arg6) (ix3 r 0 l)
/-- The layer's weights. -/
def arrW (c : Dev nD) : Fin 2048 → Fin 2048 → EReal := fun k l => m (c.tc.loc main_arg2) (ix3 2 k l)

/-! ## Where the windows are -/

theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 2 ∧ win0_2.index t 1 = 0 ∧ win0_2.index t 2 = min t.val 3 := by decide +kernel
theorem at3 : ∀ t : Fin cfg0.N, win0_3.index t 0 = t.val / 4 ∧ win0_3.index t 1 = t.val % 4 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = min t.val 3 := by decide +kernel
theorem at7 : ∀ t : Fin cfg0.N, win0_7.index t 0 = t.val / 4 ∧ win0_7.index t 1 = t.val % 4 := by decide +kernel
theorem at8 : ∀ t : Fin cfg0.N, win0_8.index t 0 = 0 ∧ win0_8.index t 1 = min t.val 3 := by decide +kernel

/-! ## The blocks -/

theorem blk2 (c : Dev nD) (t : Fin cfg0.N) (k : Fin 2048) (l : Fin 512) :
    iblk m c 2 t (ix3 0 k l) = arrW m c k ⟨min t.val 3 * 512 + l.val, by omega⟩ := by
  unfold iblk arrW
  rw [show V m c (Pipeline.arrRef spec0 2) = m (c.tc.loc main_arg2) from V_main_arg2 m c]
  refine congrArg (m (c.tc.loc main_arg2)) (funext fun a => Fin.ext ?_)
  match a with
  | ⟨0, _⟩ => blk_simp; rw [(at2 t).1]; rfl
  | ⟨1, _⟩ => blk_simp; rw [(at2 t).2.1]; show 0 * 2048 + k.val = k.val; omega
  | ⟨2, _⟩ => blk_simp; rw [(at2 t).2.2]
theorem blk0 (c : Dev nD) (t : Fin cfg0.N) (r : Fin 1024) (l : Fin 1536) :
    iblk m c 0 t (ix2 r l) = arrZ m c ⟨t.val / 4 * 1024 + r.val, by have := lt_N t; omega⟩ l :=
  Out0Val.blk0 m c t r l
theorem blk1 (c : Dev nD) (t : Fin cfg0.N) (r : Fin 1024) (l : Fin 512) :
    iblk m c 1 t (ix2 r l) = arrM m c ⟨t.val / 4 * 1024 + r.val, by have := lt_N t; omega⟩ l :=
  Out0Val.blk1 m c t r l
theorem blk3 (c : Dev nD) (t : Fin cfg0.N) (r : Fin 1024) (l : Fin 512) :
    iblk m c 3 t (ix2 r l) = arrX m c ⟨t.val / 4 * 1024 + r.val, by have := lt_N t; omega⟩ ⟨t.val % 4 * 512 + l.val, by omega⟩ :=
  Out0Val.blk3 m c t r l
theorem blk4 (c : Dev nD) (t : Fin cfg0.N) (r : Fin 8) (l : Fin 1536) : iblk m c 4 t (ix2 r l) = arrZS m c r l :=
  Out0Val.blk4 m c t r l
theorem blk5 (c : Dev nD) (t : Fin cfg0.N) (r : Fin 8) (l : Fin 512) : iblk m c 5 t (ix2 r l) = arrMS m c r l :=
  Out0Val.blk5 m c t r l
theorem blk6 (c : Dev nD) (t : Fin cfg0.N) (r : Fin 8) (l : Fin 512) : iblk m c 6 t (ix2 r l) = arrXS m c r ⟨min t.val 3 * 512 + l.val, by omega⟩ :=
  Out0Val.blk6 m c t r l

/-! ## The buffers, at an index -/

/-- A row of the prompts' result. -/
def resX (c : Dev nD) (r : Fin 8192) : Fin 2048 → EReal := proj (arrX m c r) (arrZ m c r) (arrM m c r) (arrW m c)
/-- A row of the samples' result. -/
def resS (c : Dev nD) (r : Fin 8) : Fin 2048 → EReal := proj (arrXS m c r) (arrZS m c r) (arrMS m c r) (arrW m c)

theorem oAt_val (c : Dev nD) (t : Fin cfg0.N) (r : Fin 1024) (l : Fin 512) :
    oAt m c t (ix2 r l) = resX m c ⟨t.val / 4 * 1024 + r.val, by have := lt_N t; omega⟩ ⟨t.val % 4 * 512 + l.val, by omega⟩ := by
  have hN := lt_N t
  unfold oAt resX proj
  rw [o_at]
  refine congrArg₂ (· + ·) (blk3 m c t r l) (Finset.sum_congr rfl fun k _ => congrArg₂ (· * ·) ?_ ?_)
  · unfold lhsAt
    rw [lhs_at]
    have er : ∀ q : Fin 8192, q.val = (rowOf t).val / 4 * 1024 + r.val → q = ⟨t.val / 4 * 1024 + r.val, by omega⟩ := fun q h =>
      Fin.ext (h.trans (by show t.val / 4 * 4 / 4 * 1024 + r.val = t.val / 4 * 1024 + r.val; omega))
    refine congrArg₂ (fun a b => row a b k) (funext fun q => ?_) (funext fun q => ?_)
    · exact (blk0 m c (rowOf t) r q).trans (congrArg (fun z => arrZ m c z q) (er _ rfl))
    · exact (blk1 m c (rowOf t) r q).trans (congrArg (fun z => arrM m c z q) (er _ rfl))
  · unfold wAt
    rw [cols_at]
    refine (blk2 m c (colAt t) k l).trans (congrArg (arrW m c k) (Fin.ext ?_))
    show min (t.val % 4) 3 * 512 + l.val = t.val % 4 * 512 + l.val
    omega

theorem osAt_val (c : Dev nD) (t : Fin cfg0.N) (r : Fin 8) (l : Fin 512) :
    osAt m c t (ix2 r l) = resS m c r ⟨min t.val 3 * 512 + l.val, by omega⟩ := by
  unfold osAt resS proj
  rw [os_at]
  have em : min (smpAt t).val 3 * 512 + l.val = min t.val 3 * 512 + l.val := by show min (min t.val 3) 3 * 512 + l.val = _; omega
  refine congrArg₂ (· + ·) ((blk6 m c (smpAt t) r l).trans (congrArg (arrXS m c r) (Fin.ext em))) (Finset.sum_congr rfl fun k _ => congrArg₂ (· * ·) ?_ ?_)
  · exact congrArg₂ (fun a b => row a b k) (funext fun q => blk4 m c (smpAt t) r q) (funext fun q => blk5 m c (smpAt t) r q)
  · unfold wAt
    rw [cols_at]
    exact (blk2 m c (smpAt t) k l).trans (congrArg (arrW m c k) (Fin.ext em))

/-! ## The result arrays -/

/-- The prompts' result as a function of its index. -/
def whole0 (c : Dev nD) : FVec Ideal S8192x2048 .f32 := fun y => resX m c ⟨(y 0).val, (y 0).isLt⟩ ⟨(y 1).val, (y 1).isLt⟩
/-- The samples' result as a function of its index. -/
def whole1 (c : Dev nD) : FVec Ideal S8x2048 .f32 := fun y => resS m c ⟨(y 0).val, (y 0).isLt⟩ ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt_N t
  blk_simp
  rw [after0_7]
  have h0 : (y 0).val < 1024 := (y 0).isLt
  have h1 : (y 1).val < 512 := (y 1).isLt
  have e : (win0_7.blk t).view.emb y = ix2 (⟨t.val / 4 * 1024 + (y 0).val, by omega⟩ : Fin 8192) (⟨t.val % 4 * 512 + (y 1).val, by omega⟩ : Fin 2048) := by
    refine funext fun a => Fin.ext ?_
    match a with
    | ⟨0, _⟩ => blk_simp; rw [(at7 t).1]; rfl
    | ⟨1, _⟩ => blk_simp; rw [(at7 t).2]; rfl
  rw [e]
  refine Eq.trans (congrArg (oAt m c t) ?_) (oAt_val m c t ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  blk_simp
  rw [after0_8]
  have h0 : (y 0).val < 8 := (y 0).isLt
  have h1 : (y 1).val < 512 := (y 1).isLt
  have e : (win0_8.blk t).view.emb y = ix2 (⟨(y 0).val, h0⟩ : Fin 8) (⟨min t.val 3 * 512 + (y 1).val, by omega⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; rfl
  rw [e]
  refine Eq.trans (congrArg (osAt m c t) ?_) (osAt_val m c t ⟨(y 0).val, h0⟩ ⟨(y 1).val, h1⟩)
  exact funext fun a => match a with | ⟨0, _⟩ => rfl | ⟨1, _⟩ => rfl

end Cert.Out2Val

end
-- ==== Proof.OutRef2.lean ====
/- The reference of layer 2's output projection, at an index. -/
module

public import proofs.«01_k».proof.Proof.OutMath
public import proofs.«01_k».proof.Proof.Gen.Out2RefIdeal.Read

@[expose] public section

set_option maxRecDepth 16384

noncomputable section

namespace Cert.Out2Ref

open Idealize.ShloMosaic Idealize.ShloMosaic.TcCoe Idealize.SL.Sem
open Cert.Out2RefIdeal Cert.Out2RefIdeal.Read Cert.Out

variable (x0 : (⟨S4x2048x1536, .f32⟩ : BufTy).Contents (Elt Ideal))
  (x1 : (⟨S4x2048x512, .f32⟩ : BufTy).Contents (Elt Ideal))
  (x2 : (⟨S4x2048x2048, .f32⟩ : BufTy).Contents (Elt Ideal))
  (x3 : (⟨S4x2048x2048, .f32⟩ : BufTy).Contents (Elt Ideal))
  (x4 : (⟨S8x1x1536, .f32⟩ : BufTy).Contents (Elt Ideal))
  (x5 : (⟨S8x1x512, .f32⟩ : BufTy).Contents (Elt Ideal))
  (x6 : (⟨S8x1x2048, .f32⟩ : BufTy).Contents (Elt Ideal))

/-- The layer's weights. -/
def rowW : Fin 2048 → Fin 2048 → EReal := fun k l => x2 (ix3 2 k l)

theorem catX (b : Fin 4) (r : Fin 2048) (k : Fin 2048) :
    val_main_v0 (F := Ideal) x0 x1 (ix3 b r k) = row (fun q => x0 (ix3 b r q)) (fun q => x1 (ix3 b r q)) k := by
  unfold row
  pointwise [val_main_v0]

theorem trunkX (b : Fin 4) (r : Fin 2048) (l : Fin 2048) :
    val_main_v4 (F := Ideal) x0 x1 x2 x3 (ix3 b r l) = proj (fun k => x3 (ix3 b r k)) (fun q => x0 (ix3 b r q)) (fun q => x1 (ix3 b r q)) (rowW x2) l := by
  have hW : ∀ k, val_main_v2 (F := Ideal) x2 (ix2 k l) = rowW x2 k l := fun k => by
    unfold rowW
    pointwise [val_main_v2, val_main_v1]
  unfold proj
  rw [← Finset.sum_congr rfl fun k _ => congrArg₂ (· * ·) (catX x0 x1 b r k) (hW k)]
  pointwise [val_main_v4, val_main_v3]

/-- The reference's prompts, at an index. -/
theorem resX (r : Fin 8192) (l : Fin 2048) : val_main_v5 (F := Ideal) x0 x1 x2 x3 (ix2 r l)
    = proj (fun k => x3 (ix3 ⟨r.val / 2048, by omega⟩ ⟨r.val % 2048, by omega⟩ k)) (fun q => x0 (ix3 ⟨r.val / 2048, by omega⟩ ⟨r.val % 2048, by omega⟩ q)) (fun q => x1 (ix3 ⟨r.val / 2048, by omega⟩ ⟨r.val % 2048, by omega⟩ q)) (rowW x2) l := by
  refine Eq.trans ?_ (trunkX x0 x1 x2 x3 ⟨r.val / 2048, by omega⟩ ⟨r.val % 2048, by omega⟩ l)
  unfold val_main_v5
  refine shapeCast_apply _ _ _ _ ?_
  rw [Shape.rowMajor_val_two]
  refine (Shape.rowMajor_val_three _).trans ?_
  show (r.val / 2048 * 2048 + r.val % 2048) * 2048 + l.val = r.val * 2048 + l.val
  omega

theorem catS (r : Fin 8) (k : Fin 2048) :
    val_main_v6 (F := Ideal) x4 x5 (ix3 r 0 k) = row (fun q => x4 (ix3 r 0 q)) (fun q => x5 (ix3 r 0 q)) k := by
  unfold row
  pointwise [val_main_v6]

/-- The reference's samples, at an index. -/
theorem resS (r : Fin 8) (l : Fin 2048) : val_main_v11 (F := Ideal) x2 x4 x5 x6 (ix2 r l)
    = proj (fun k => x6 (ix3 r 0 k)) (fun q => x4 (ix3 r 0 q)) (fun q => x5 (ix3 r 0 q)) (rowW x2) l := by
  have hW : ∀ k, val_main_v8 (F := Ideal) x2 (ix2 k l) = rowW x2 k l := fun k => by
    unfold rowW
    pointwise [val_main_v8, val_main_v7]
  unfold proj
  rw [← Finset.sum_congr rfl fun k _ => congrArg₂ (· * ·) (catS x4 x5 r k) (hW k)]
  pointwise [val_main_v11, val_main_v10, val_main_v9]

end Cert.Out2Ref

end
-- ==== Proof.OutClaim2.lean ====
/- The claims about the output projection of layer 2. -/
module

public import proofs.«01_k».proof.Defs
public import proofs.«01_k».proof.Proof.OutOut2
public import proofs.«01_k».proof.Proof.OutRef2
public import proofs.«01_k».proof.Proof.Gen.Out2.Frame

@[expose] public section

set_option maxRecDepth 16384

noncomputable section

namespace Cert.Out2Proof

open Idealize.ShloMosaic Idealize.ShloMosaic.TcCoe Idealize.SL.Sem

/-- The reference leaves its arguments alone. -/
theorem ref_frame : quiescent_Out2RefIdeal := fun m g _ =>
  (θ_run _ _ _).mono (fun r h => ⟨fun c => (h c).2.2, sem_eq_zero_of_no_sems rfl r.2⟩) (Out2RefIdeal.Value.run m g)

section

variable {F : FTy → Type} [FloatOps F]

attribute [local instance] Out2.Gen.facts Out2Ideal.Gen.facts

/-- The two printings of the kernel have the same body. -/
theorem bodies : Out2.defs₀ (F := F) = Out2Ideal.defs₀ (F := F) := by
  refine congrArg Defs.onTc (funext fun n => funext fun a => ?_)
  match n, a with
  | ⟨0, _⟩, (t, s) => rfl

/-- So they have the same table. -/
theorem tables : Out2.defs (F := F) = Out2Ideal.defs (F := F) :=
  congrArg (Pipeline.defs (Out2Ideal.pcfgs (F := F))) bodies

/-- The kernel leaves its arguments alone: the one run, at the machine's floats. -/
theorem kernel_frame : quiescent_Out2 := fun m g _ => by
  have h := Out2Val.frame (F := Bits) m g
  rw [← tables] at h
  exact h

end

/-- The kernel over the reals leaves its arguments alone. -/
theorem frame : quiescent_Out2Ideal := fun m g _ => Out2Val.frame m g

/-- The kernel over the reals computes what the reference does. -/
theorem algebraic : algebraic_Out2Ideal_Out2RefIdeal := by
  intro m g m' g' _ ha
  refine ⟨fun c => Out2Val.whole0 m c, fun c => Out2Val.whole1 m c, ?_, ?_⟩
  · exact (θ_run _ _ _).mono (fun r h c => ⟨((h.1.1 c).1 7).trans (Out2Val.arr7 m c), ((h.1.1 c).1 8).trans (Out2Val.arr8 m c), h.2.1 c⟩)
      (θ_run_and (Out2Val.run_main m g) (Out2Val.frame m g))
  · refine (θ_run _ _ _).mono (fun r h c => ⟨(h c).1.trans ?_, (h c).2.1.trans ?_, (h c).2.2⟩) (Out2RefIdeal.Value.run m' g')
    · rw [Out2RefIdeal.Read.val_main_v5_eq, (ha c).1, (ha c).2.1, (ha c).2.2.1, (ha c).2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Out2Ref.resX _ _ _ _ r l
    · rw [Out2RefIdeal.Read.val_main_v11_eq, (ha c).2.2.1, (ha c).2.2.2.2.1, (ha c).2.2.2.2.2.1, (ha c).2.2.2.2.2.2]
      funext y
      obtain ⟨r, l, rfl⟩ : ∃ (r : Fin 8) (l : Fin 2048), y = ix2 r l := ⟨y 0, y 1, funext fun a => match a with | ⟨0, _⟩ => rfl | ⟨1, _⟩ => rfl⟩
      exact Out2Ref.resS _ _ _ _ r l

end Cert.Out2Proof

end
-- ==== Proof.OutDat3.lean ====
/- The output projection of layer 3: what every buffer holds after every point of the grid, and the run of the whole call. -/
module

public import proofs.«01_k».proof.Proof.Gen.Out3Ideal.Frame
public import proofs.«01_k».proof.Proof.Gen.Out3Ideal.Skeleton
public import proofs.«01_k».proof.Proof.OutDat0

@[expose] public section

set_option maxRecDepth 16384

noncomputable section

namespace Cert.Out3Val

open Cert.Out3Ideal Cert.Out3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The point is at the first block of columns. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := Out0Val.hcond0_0

/-- The point is in the first block of rows, as the weights' store asks. -/
abbrev cond0_1 (i : grid0.Coords) : Prop := k0_cond2 i = 1#1
theorem hcond0_1 : ∀ t : Fin cfg0.N, cond0_1 (grid0.coords t) ↔ t.val < 4 := Out0Val.hcond0_1

/-- The same, as the sample rows ask. -/
abbrev cond0_2 (i : grid0.Coords) : Prop := k0_cond3 i = 1#1
theorem hcond0_2 : ∀ t : Fin cfg0.N, cond0_2 (grid0.coords t) ↔ t.val < 4 := Out0Val.hcond0_2

/-! ## The staging memrefs -/

/-- Each window's staging memref at a point, and that it is a whole buffer. -/
abbrev ms0_0 (t : Fin cfg0.N) : 𝔹 S1024x1536 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S8x1536 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S8x512 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x512 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x512 .f32 := win0_8.stage (cfg0.slots t 8)
abbrev hs0_8 (t : Fin cfg0.N) : (ms0_8 t).IsWhole := hstage0_8 ((cfg0.slots t 8).cast nbuf0_8)
/-- The two buffers the call keeps for itself: the left-hand rows and the weights. -/
abbrev scM0_0 : 𝔹 S1024x2048 .bf16 := Memref.whole cc0_scratch0
abbrev scM0_1 : 𝔹 S4x2048x512 .bf16 := Memref.whole cc0_scratch1

/-- The kit's invariant, with the call's own buffers as memrefs owned at some contents. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## What the body leaves -/

/-- The rows of the two operands side by side, the left-hand side of the product. -/
def lhsOf (z : Vec F S1024x1536 .f32) (mo : Vec F S1024x512 .f32) : Vec F S1024x2048 .bf16 := fun y =>
  if h : (y 1).val < 1536 then k0_pay1 z (fun | ⟨0, _⟩ => y 0 | ⟨1, _⟩ => ⟨(y 1).val, h⟩)
  else k0_pay2 mo (fun | ⟨0, _⟩ => y 0 | ⟨1, _⟩ => ⟨(y 1).val - 1536, by have h2 : (y 1).val < 2048 := (y 1).isLt; show _ < 512; omega⟩)

/-- One block of columns of the weights held, read by the point's offsets; -/
abbrev colsOf (i : grid0.Coords) (W : Vec F S4x2048x512 .bf16) : Vec F S1x2048x512 .bf16 := VecWindow.window W (k0_off2 i) ![1, 2048, 512] (k0_off2_inb i)
/-- and the weights with that block replaced. -/
abbrev colsPut (i : grid0.Coords) (W : Vec F S4x2048x512 .bf16) (w : Vec F S1x2048x512 .bf16) : Vec F S4x2048x512 .bf16 := VecWindow.put W (k0_off2 i) ![1, 2048, 512] w

/-- The body, called with the windows and its own buffers at the contents given first, leaves them at those given last, the inputs as they were. -/
def Leaves (c : Dev nD) (i : grid0.Coords) (arg2 : 𝔹 S1024x1536 .f32) (harg2 : arg2.IsWhole) (arg3 : 𝔹 S1024x512 .f32) (harg3 : arg3.IsWhole) (arg4 : 𝔹 S1x2048x512 .f32) (harg4 : arg4.IsWhole) (arg5 : 𝔹 S1024x512 .f32) (harg5 : arg5.IsWhole) (arg6 : 𝔹 S8x1536 .f32) (harg6 : arg6.IsWhole) (arg7 : 𝔹 S8x512 .f32) (harg7 : arg7.IsWhole) (arg8 : 𝔹 S8x512 .f32) (harg8 : arg8.IsWhole) (arg9 : 𝔹 S1024x512 .f32) (harg9 : arg9.IsWhole) (arg10 : 𝔹 S8x512 .f32) (harg10 : arg10.IsWhole) (arg11 : 𝔹 S1024x2048 .bf16) (harg11 : arg11.IsWhole) (arg12 : 𝔹 S4x2048x512 .bf16) (harg12 : arg12.IsWhole)
    (x0 : Vec F S1024x1536 .f32) (x1 : Vec F S1024x512 .f32) (x2 : Vec F S1x2048x512 .f32) (x3 : Vec F S1024x512 .f32) (x4 : Vec F S8x1536 .f32) (x5 : Vec F S8x512 .f32) (x6 : Vec F S8x512 .f32) (y7 : Vec F S1024x512 .f32) (y8 : Vec F S8x512 .f32) (y9 : Vec F S1024x2048 .bf16) (y10 : Vec F S4x2048x512 .bf16)
    (z7 : Vec F S1024x512 .f32) (z8 : Vec F S8x512 .f32) (z9 : Vec F S1024x2048 .bf16) (z10 : Vec F S4x2048x512 .bf16) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare y7 ∗ owns c.tc arg10 fullShare y8 ∗ owns c.tc arg11 fullShare y9 ∗ owns c.tc arg12 fullShare y10
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare z7 ∗ owns c.tc arg10 fullShare z8 ∗ owns c.tc arg11 fullShare z9 ∗ owns c.tc arg12 fullShare z10) -∗ K ⟨⟩))
      ⊢ wp frame (wpE (defs₀ (F := F)) Variants.none c none) E (cc0_out_proj2 i arg2 harg2 arg3 harg3 arg4 harg4 arg5 harg5 arg6 harg6 arg7 harg7 arg8 harg8 arg9 harg9 arg10 harg10 arg11 harg11 arg12 harg12) K

/-- The body is the one of layer 0; -/
theorem body_eq : cc0_out_proj2 (F := F) = Out0Val.body Λ₀ := rfl
/-- so it leaves what that one leaves. -/
theorem Leaves_eq : @Leaves F _ = Out0Val.Leaves (defs₀ (F := F)) := by
  unfold Leaves Out0Val.Leaves
  rw [body_eq]
  rfl

/-! ## What the buffers hold after each point -/

theorem lt_N (t : Fin cfg0.N) : t.val < 32 := lt_of_lt_of_eq t.isLt (show cfg0.N = 32 from N_0)

/-- The first point of the point's block of rows; -/
def rowOf (t : Fin cfg0.N) : Fin cfg0.N := ⟨t.val / 4 * 4, by have := t.isLt; omega⟩
/-- the point of the first block of rows with the point's block of columns; -/
def colAt (t : Fin cfg0.N) : Fin cfg0.N := ⟨t.val % 4, by have := t.isLt; omega⟩
/-- the last point that touches the sample rows. -/
def smpAt (t : Fin cfg0.N) : Fin cfg0.N := ⟨min t.val 3, by have := t.isLt; omega⟩

/-- The left-hand side held after a point: that of its block of rows. -/
def lhsAt (c : Dev nD) (t : Fin cfg0.N) : Vec F S1024x2048 .bf16 := lhsOf (iblk m c 0 (rowOf t)) (iblk m c 1 (rowOf t))
/-- The block of columns of the weights a point of the first block of rows stores. -/
def wAt (c : Dev nD) (t : Fin cfg0.N) : Vec F S1x2048x512 .bf16 := k0_pay3 (iblk m c 2 t)
/-- The prompt rows' result at a point. -/
def oAt (c : Dev nD) (t : Fin cfg0.N) : Vec F S1024x512 .f32 := k0_pay4 (iblk m c 3 t) (lhsAt m c t) (wAt m c (colAt t))
/-- The sample rows' result at a point of the first block of rows, kept from there. -/
def osAt (c : Dev nD) (t : Fin cfg0.N) : Vec F S8x512 .f32 :=
  k0_pay5 (iblk m c 4 (smpAt t)) (iblk m c 5 (smpAt t)) (iblk m c 6 (smpAt t)) (wAt m c (smpAt t))

/-- The point before. -/
abbrev prev (t : Fin cfg0.N) : Fin cfg0.N := ⟨t.val - 1, Nat.lt_of_le_of_lt (Nat.sub_le _ _) t.isLt⟩

/-- What the call's own buffers are known to hold before point `n`: the left-hand side of the point before, and every block of columns stored so far. -/
def Held (c : Dev nD) (n : ℕ) (L : Vec F S1024x2048 .bf16) (W : Vec F S4x2048x512 .bf16) : Prop :=
  (∀ t : Fin cfg0.N, t.val + 1 = n → L = lhsAt m c t) ∧ ∀ t : Fin cfg0.N, t.val < 4 → t.val < n → colsOf (grid0.coords t) W = wAt m c t

theorem osAt_kept (c : Dev nD) (t : Fin cfg0.N) (h : ¬t.val < 4) : osAt m c (prev t) = osAt m c t := by
  unfold osAt; rw [show smpAt (prev t) = smpAt t from Fin.ext (by show min (t.val - 1) 3 = min t.val 3; omega)]

/-- The blocks this layer's points read. -/
def blks (c : Dev nD) : Out0Val.Blks F := ⟨iblk m c 0, iblk m c 1, iblk m c 2, iblk m c 3, iblk m c 4, iblk m c 5, iblk m c 6⟩

/-- Every point takes what is held before it to what is held after it, and leaves the closed forms in the result buffers. -/
theorem step (c : Dev nD) (t : Fin cfg0.N) (y7 : Vec F S1024x512 .f32) (y8 : Vec F S8x512 .f32) (h8 : ¬t.val < 4 → y8 = osAt m c t)
    (L : Vec F S1024x2048 .bf16) (W : Vec F S4x2048x512 .bf16) (h : Held m c t.val L W) :
    ∃ W', Held m c (t.val + 1) (lhsAt m c t) W' ∧
      Leaves c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
        (iblk m c 0 t) (iblk m c 1 t) (iblk m c 2 t) (iblk m c 3 t) (iblk m c 4 t) (iblk m c 5 t) (iblk m c 6 t) y7 y8 L W (oAt m c t) (osAt m c t) (lhsAt m c t) W' := by
  have e0 : osAt m c t = Out0Val.Pts.osAt (blks m c) t := rfl
  have e1 : oAt m c t = Out0Val.Pts.oAt (blks m c) t := rfl
  have e2 : lhsAt m c t = Out0Val.Pts.lhsAt (blks m c) t := rfl
  have e3 : ∀ n L W, Held m c n L W = Out0Val.Pts.Held (blks m c) n L W := fun _ _ _ => rfl
  rw [e0] at h8
  rw [e3] at h
  rw [e0, e1, e2, Leaves_eq]
  simp only [e3]
  exact Out0Val.Pts.step (blks m c) defs₀ c t _ _ _ _ _ _ _ _ _ _ _ _ _ _ _ _ _ _ _ _ _ _ y7 y8 h8 L W h

/-! ## The proof data -/

/-- The invariant before point `n`. -/
def PhiS (c : Dev nD) (n : ℕ) : sProp 𝕄 :=
  iprop((∃ L, ∃ W, ⌜Held m c n L W⌝ ∗ owns c.tc scM0_0 fullShare L ∗ owns c.tc scM0_1 fullShare W) ∗ ∃ r, prngReg c r)

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
    | ⟨8, _⟩ => osAt m c t
  Φ t := PhiS m c t.val
  q _ := fullShare
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t := by dsimp only [dats]
theorem after0_8 (c : Dev nD) (t : Fin cfg0.N) : (dats m 0 c).after 8 t = osAt m c t := by dsimp only [dats]

/-- The sample rows' window is touched at the points of the first block of rows only, -/
theorem idle0_8 : ∀ t : Fin cfg0.N, cfg0.idle 8 (grid0.coords t) = !decide (t.val < 4) := by decide +kernel
/-- and written back when its block changes and at the end. -/
theorem flush0_8 : ∀ t : Fin cfg0.N, (cfg0.win 8).flush t = decide (t.val < 3 ∨ t.val = 31) := by decide +kernel

/-- From the second block of rows on the sample rows' buffer is what the last point of the first left. -/
theorem before0_8 (c : Dev nD) : ∀ (n : ℕ) (h : n < cfg0.N) (h0 : ¬n < 4) (d),
    (dats m 0 c).before 8 ⟨n, h⟩ d = osAt m c ⟨n, h⟩ := by
  intro n
  induction n using Nat.strong_induction_on with
  | _ n ih =>
    intro h h0 d
    have hN : n < 32 := lt_of_lt_of_eq h (show cfg0.N = 32 from N_0)
    refine Eq.trans ?_ (osAt_kept m c ⟨n, h⟩ h0)
    rw [(dats m 0 c).before_of_pos 8 ⟨n, h⟩ (by simp only; omega) rfl d,
      if_neg (fun e => absurd ((flush0_8 _).symm.trans e) (by simp only [decide_eq_true_eq]; omega))]
    unfold Dat.left
    by_cases hl : n - 1 < 4
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact ih (n - 1) (by omega) (by omega) hl d

/-- What the body has to leave in the sample rows' buffer: the closed form, at every point. -/
theorem leaves8 (c : Dev nD) (t : Fin cfg0.N) :
    (owns c.tc (ms0_8 t) fullShare (osAt m c t) : sProp 𝕄) ⊢ (dats m 0 c).leavesExact 8 t := by
  have hN := lt_N t
  by_cases hl : t.val < 4
  · unfold Dat.leavesExact
    rw [show cfg0.idle 8 (cfg0.grid.coords t) = false from (idle0_8 t).trans (by simp [hl])]
    dsimp only
    rw [after0_8]
  · by_cases hf : t.val = 31
    · unfold Dat.leavesExact
      rw [show cfg0.idle 8 (cfg0.grid.coords t) = true from (idle0_8 t).trans (by simp [hl]), show (cfg0.win 8).flush t = true from (flush0_8 t).trans (by simp [hf])]
      dsimp only
      rw [after0_8]
    · rw [(dats m 0 c).leavesExact_idle 8 t ((idle0_8 t).trans (by simp [hl])) ((flush0_8 t).trans (by simp; omega))]
      iintro H
      iexists osAt m c t
      rw [before0_8 m c t.val t.isLt hl]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%L, %W, %hLW, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨W', hW', hrun⟩ := step m c t ((dats m 0 c).before 7 t d7) ((dats m 0 c).before 8 t d8) (fun h => before0_8 m c t.val t.isLt h d8) L W hLW
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · iexists _; iexists W'
      isplitr; · ipureintro; exact hW'
      isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = PhiS m c 0 from rfl, PhiA0_eq]
      unfold PhiS
      iintro ⟨⟨⟨%L, HS0⟩, ⟨%W, HS1⟩⟩, Hg⟩
      isplitl [HS0 HS1]
      · iexists L; iexists W
        isplitr; · ipureintro; exact ⟨fun _ e => absurd e (by omega), fun _ _ e => absurd e (by omega)⟩
        isplitl [HS0]; · iexact HS0
        iexact HS1
      · iexact Hg)
    (hout := fun c => by
      rw [show (dats m 0 c).Φ (Fin.last cfg0.N) = PhiS m c cfg0.N from rfl, PhiA0_eq]
      unfold PhiS
      iintro ⟨⟨%L, %W, -, HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Out3Val

end
-- ==== Proof.OutOut3.lean ====
/- The output projection of layer 3: its two results, at an index. -/
module

public import proofs.«01_k».proof.Proof.OutDat3
public import proofs.«01_k».proof.Proof.OutOut0

@[expose] public section

set_option maxRecDepth 16384

noncomputable section

namespace Cert.Out3Val

open Idealize.ShloMosaic Idealize.ShloMosaic.TcCoe Idealize.SL.Sem
open Idealize.ShloMosaic.Pipeline (Dat)
open Cert.Out3Ideal Cert.Out3Ideal.Gen Cert.Out

/-! ## One point's work, at an index -/

theorem lhs_at (z : Vec Ideal S1024x1536 .f32) (mo : Vec Ideal S1024x512 .f32) (r : Fin 1024) (k : Fin 2048) :
    lhsOf z mo (ix2 r k) = row (fun q => z (ix2 r q)) (fun q => mo (ix2 r q)) k :=
  Out0Val.lhs_at z mo r k
theorem cols_at (w : Vec Ideal S1x2048x512 .f32) (k : Fin 2048) (l : Fin 512) : k0_pay3 w (ix3 0 k l) = w (ix3 0 k l) :=
  Out0Val.cols_at w k l
theorem o_at (x : Vec Ideal S1024x512 .f32) (L : Vec Ideal S1024x2048 .bf16) (w : Vec Ideal S1x2048x512 .bf16) (r : Fin 1024) (l : Fin 512) :
    k0_pay4 x L w (ix2 r l) = x (ix2 r l) + ∑ k : Fin 2048, L (ix2 r k) * w (ix3 0 k l) :=
  Out0Val.o_at x L w r l
theorem os_at (zs : Vec Ideal S8x1536 .f32) (mos xs : Vec Ideal S8x512 .f32) (w : Vec Ideal S1x2048x512 .bf16) (r : Fin 8) (l : Fin 512) :
    k0_pay5 zs mos xs w (ix2 r l) = xs (ix2 r l) + ∑ k : Fin 2048, row (fun q => zs (ix2 r q)) (fun q => mos (ix2 r q)) k * w (ix3 0 k l) :=
  Out0Val.os_at zs mos xs w r l

variable (m : (ℓ : Loc nD τ sig) → Buf (Elt Ideal) ℓ)

/-! ## The arguments, a row at a time -/

/-- Row `r` of the attention's output, the batches one after another. -/
def arrZ (c : Dev nD) (r : Fin 8192) : Fin 1536 → EReal := fun l => m (c.tc.loc main_arg0) (ix3 ⟨r.val / 2048, by omega⟩ ⟨r.val % 2048, by omega⟩ l)
/-- Row `r` of the memory's output, the batches one after another. -/
def arrM (c : Dev nD) (r : Fin 8192) : Fin 512 → EReal := fun l => m (c.tc.loc main_arg1) (ix3 ⟨r.val / 2048, by omega⟩ ⟨r.val % 2048, by omega⟩ l)
/-- Row `r` of the prompts' rows, the batches one after another. -/
def arrX (c : Dev nD) (r : Fin 8192) : Fin 2048 → EReal := fun l => m (c.tc.loc main_arg3) (ix3 ⟨r.val / 2048, by omega⟩ ⟨r.val % 2048, by omega⟩ l)
/-- The same for the samples. -/
def arrZS (c : Dev nD) (r : Fin 8) : Fin 1536 → EReal := fun l => m (c.tc.loc main_arg4) (ix3 r 0 l)
/-- The same for the samples. -/
def arrMS (c : Dev nD) (r : Fin 8) : Fin 512 → EReal := fun l => m (c.tc.loc main_arg5) (ix3 r 0 l)
/-- The same for the samples. -/
def arrXS (c : Dev nD) (r : Fin 8) : Fin 2048 → EReal := fun l => m (c.tc.loc main_arg6) (ix3 r 0 l)
/-- The layer's weights. -/
def arrW (c : Dev nD) : Fin 2048 → Fin 2048 → EReal := fun k l => m (c.tc.loc main_arg2) (ix3 3 k l)

/-! ## Where the windows are -/

theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 3 ∧ win0_2.index t 1 = 0 ∧ win0_2.index t 2 = min t.val 3 := by decide +kernel
theorem at3 : ∀ t : Fin cfg0.N, win0_3.index t 0 = t.val / 4 ∧ win0_3.index t 1 = t.val % 4 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = min t.val 3 := by decide +kernel
theorem at7 : ∀ t : Fin cfg0.N, win0_7.index t 0 = t.val / 4 ∧ win0_7.index t 1 = t.val % 4 := by decide +kernel
theorem at8 : ∀ t : Fin cfg0.N, win0_8.index t 0 = 0 ∧ win0_8.index t 1 = min t.val 3 := by decide +kernel

/-! ## The blocks -/

theorem blk2 (c : Dev nD) (t : Fin cfg0.N) (k : Fin 2048) (l : Fin 512) :
    iblk m c 2 t (ix3 0 k l) = arrW m c k ⟨min t.val 3 * 512 + l.val, by omega⟩ := by
  unfold iblk arrW
  rw [show V m c (Pipeline.arrRef spec0 2) = m (c.tc.loc main_arg2) from V_main_arg2 m c]
  refine congrArg (m (c.tc.loc main_arg2)) (funext fun a => Fin.ext ?_)
  match a with
  | ⟨0, _⟩ => blk_simp; rw [(at2 t).1]; rfl
  | ⟨1, _⟩ => blk_simp; rw [(at2 t).2.1]; show 0 * 2048 + k.val = k.val; omega
  | ⟨2, _⟩ => blk_simp; rw [(at2 t).2.2]
theorem blk0 (c : Dev nD) (t : Fin cfg0.N) (r : Fin 1024) (l : Fin 1536) :
    iblk m c 0 t (ix2 r l) = arrZ m c ⟨t.val / 4 * 1024 + r.val, by have := lt_N t; omega⟩ l :=
  Out0Val.blk0 m c t r l
theorem blk1 (c : Dev nD) (t : Fin cfg0.N) (r : Fin 1024) (l : Fin 512) :
    iblk m c 1 t (ix2 r l) = arrM m c ⟨t.val / 4 * 1024 + r.val, by have := lt_N t; omega⟩ l :=
  Out0Val.blk1 m c t r l
theorem blk3 (c : Dev nD) (t : Fin cfg0.N) (r : Fin 1024) (l : Fin 512) :
    iblk m c 3 t (ix2 r l) = arrX m c ⟨t.val / 4 * 1024 + r.val, by have := lt_N t; omega⟩ ⟨t.val % 4 * 512 + l.val, by omega⟩ :=
  Out0Val.blk3 m c t r l
theorem blk4 (c : Dev nD) (t : Fin cfg0.N) (r : Fin 8) (l : Fin 1536) : iblk m c 4 t (ix2 r l) = arrZS m c r l :=
  Out0Val.blk4 m c t r l
theorem blk5 (c : Dev nD) (t : Fin cfg0.N) (r : Fin 8) (l : Fin 512) : iblk m c 5 t (ix2 r l) = arrMS m c r l :=
  Out0Val.blk5 m c t r l
theorem blk6 (c : Dev nD) (t : Fin cfg0.N) (r : Fin 8) (l : Fin 512) : iblk m c 6 t (ix2 r l) = arrXS m c r ⟨min t.val 3 * 512 + l.val, by omega⟩ :=
  Out0Val.blk6 m c t r l

/-! ## The buffers, at an index -/

/-- A row of the prompts' result. -/
def resX (c : Dev nD) (r : Fin 8192) : Fin 2048 → EReal := proj (arrX m c r) (arrZ m c r) (arrM m c r) (arrW m c)
/-- A row of the samples' result. -/
def resS (c : Dev nD) (r : Fin 8) : Fin 2048 → EReal := proj (arrXS m c r) (arrZS m c r) (arrMS m c r) (arrW m c)

theorem oAt_val (c : Dev nD) (t : Fin cfg0.N) (r : Fin 1024) (l : Fin 512) :
    oAt m c t (ix2 r l) = resX m c ⟨t.val / 4 * 1024 + r.val, by have := lt_N t; omega⟩ ⟨t.val % 4 * 512 + l.val, by omega⟩ := by
  have hN := lt_N t
  unfold oAt resX proj
  rw [o_at]
  refine congrArg₂ (· + ·) (blk3 m c t r l) (Finset.sum_congr rfl fun k _ => congrArg₂ (· * ·) ?_ ?_)
  · unfold lhsAt
    rw [lhs_at]
    have er : ∀ q : Fin 8192, q.val = (rowOf t).val / 4 * 1024 + r.val → q = ⟨t.val / 4 * 1024 + r.val, by omega⟩ := fun q h =>
      Fin.ext (h.trans (by show t.val / 4 * 4 / 4 * 1024 + r.val = t.val / 4 * 1024 + r.val; omega))
    refine congrArg₂ (fun a b => row a b k) (funext fun q => ?_) (funext fun q => ?_)
    · exact (blk0 m c (rowOf t) r q).trans (congrArg (fun z => arrZ m c z q) (er _ rfl))
    · exact (blk1 m c (rowOf t) r q).trans (congrArg (fun z => arrM m c z q) (er _ rfl))
  · unfold wAt
    rw [cols_at]
    refine (blk2 m c (colAt t) k l).trans (congrArg (arrW m c k) (Fin.ext ?_))
    show min (t.val % 4) 3 * 512 + l.val = t.val % 4 * 512 + l.val
    omega

theorem osAt_val (c : Dev nD) (t : Fin cfg0.N) (r : Fin 8) (l : Fin 512) :
    osAt m c t (ix2 r l) = resS m c r ⟨min t.val 3 * 512 + l.val, by omega⟩ := by
  unfold osAt resS proj
  rw [os_at]
  have em : min (smpAt t).val 3 * 512 + l.val = min t.val 3 * 512 + l.val := by show min (min t.val 3) 3 * 512 + l.val = _; omega
  refine congrArg₂ (· + ·) ((blk6 m c (smpAt t) r l).trans (congrArg (arrXS m c r) (Fin.ext em))) (Finset.sum_congr rfl fun k _ => congrArg₂ (· * ·) ?_ ?_)
  · exact congrArg₂ (fun a b => row a b k) (funext fun q => blk4 m c (smpAt t) r q) (funext fun q => blk5 m c (smpAt t) r q)
  · unfold wAt
    rw [cols_at]
    exact (blk2 m c (smpAt t) k l).trans (congrArg (arrW m c k) (Fin.ext em))

/-! ## The result arrays -/

/-- The prompts' result as a function of its index. -/
def whole0 (c : Dev nD) : FVec Ideal S8192x2048 .f32 := fun y => resX m c ⟨(y 0).val, (y 0).isLt⟩ ⟨(y 1).val, (y 1).isLt⟩
/-- The samples' result as a function of its index. -/
def whole1 (c : Dev nD) : FVec Ideal S8x2048 .f32 := fun y => resS m c ⟨(y 0).val, (y 0).isLt⟩ ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt_N t
  blk_simp
  rw [after0_7]
  have h0 : (y 0).val < 1024 := (y 0).isLt
  have h1 : (y 1).val < 512 := (y 1).isLt
  have e : (win0_7.blk t).view.emb y = ix2 (⟨t.val / 4 * 1024 + (y 0).val, by omega⟩ : Fin 8192) (⟨t.val % 4 * 512 + (y 1).val, by omega⟩ : Fin 2048) := by
    refine funext fun a => Fin.ext ?_
    match a with
    | ⟨0, _⟩ => blk_simp; rw [(at7 t).1]; rfl
    | ⟨1, _⟩ => blk_simp; rw [(at7 t).2]; rfl
  rw [e]
  refine Eq.trans (congrArg (oAt m c t) ?_) (oAt_val m c t ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  blk_simp
  rw [after0_8]
  have h0 : (y 0).val < 8 := (y 0).isLt
  have h1 : (y 1).val < 512 := (y 1).isLt
  have e : (win0_8.blk t).view.emb y = ix2 (⟨(y 0).val, h0⟩ : Fin 8) (⟨min t.val 3 * 512 + (y 1).val, by omega⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; rfl
  rw [e]
  refine Eq.trans (congrArg (osAt m c t) ?_) (osAt_val m c t ⟨(y 0).val, h0⟩ ⟨(y 1).val, h1⟩)
  exact funext fun a => match a with | ⟨0, _⟩ => rfl | ⟨1, _⟩ => rfl

end Cert.Out3Val

end
-- ==== Proof.OutRef3.lean ====
/- The reference of layer 3's output projection, at an index. -/
module

public import proofs.«01_k».proof.Proof.OutMath
public import proofs.«01_k».proof.Proof.Gen.Out3RefIdeal.Read

@[expose] public section

set_option maxRecDepth 16384

noncomputable section

namespace Cert.Out3Ref

open Idealize.ShloMosaic Idealize.ShloMosaic.TcCoe Idealize.SL.Sem
open Cert.Out3RefIdeal Cert.Out3RefIdeal.Read Cert.Out

variable (x0 : (⟨S4x2048x1536, .f32⟩ : BufTy).Contents (Elt Ideal))
  (x1 : (⟨S4x2048x512, .f32⟩ : BufTy).Contents (Elt Ideal))
  (x2 : (⟨S4x2048x2048, .f32⟩ : BufTy).Contents (Elt Ideal))
  (x3 : (⟨S4x2048x2048, .f32⟩ : BufTy).Contents (Elt Ideal))
  (x4 : (⟨S8x1x1536, .f32⟩ : BufTy).Contents (Elt Ideal))
  (x5 : (⟨S8x1x512, .f32⟩ : BufTy).Contents (Elt Ideal))
  (x6 : (⟨S8x1x2048, .f32⟩ : BufTy).Contents (Elt Ideal))

/-- The layer's weights. -/
def rowW : Fin 2048 → Fin 2048 → EReal := fun k l => x2 (ix3 3 k l)

theorem catX (b : Fin 4) (r : Fin 2048) (k : Fin 2048) :
    val_main_v0 (F := Ideal) x0 x1 (ix3 b r k) = row (fun q => x0 (ix3 b r q)) (fun q => x1 (ix3 b r q)) k := by
  unfold row
  pointwise [val_main_v0]

theorem trunkX (b : Fin 4) (r : Fin 2048) (l : Fin 2048) :
    val_main_v4 (F := Ideal) x0 x1 x2 x3 (ix3 b r l) = proj (fun k => x3 (ix3 b r k)) (fun q => x0 (ix3 b r q)) (fun q => x1 (ix3 b r q)) (rowW x2) l := by
  have hW : ∀ k, val_main_v2 (F := Ideal) x2 (ix2 k l) = rowW x2 k l := fun k => by
    unfold rowW
    pointwise [val_main_v2, val_main_v1]
  unfold proj
  rw [← Finset.sum_congr rfl fun k _ => congrArg₂ (· * ·) (catX x0 x1 b r k) (hW k)]
  pointwise [val_main_v4, val_main_v3]

/-- The reference's prompts, at an index. -/
theorem resX (r : Fin 8192) (l : Fin 2048) : val_main_v5 (F := Ideal) x0 x1 x2 x3 (ix2 r l)
    = proj (fun k => x3 (ix3 ⟨r.val / 2048, by omega⟩ ⟨r.val % 2048, by omega⟩ k)) (fun q => x0 (ix3 ⟨r.val / 2048, by omega⟩ ⟨r.val % 2048, by omega⟩ q)) (fun q => x1 (ix3 ⟨r.val / 2048, by omega⟩ ⟨r.val % 2048, by omega⟩ q)) (rowW x2) l := by
  refine Eq.trans ?_ (trunkX x0 x1 x2 x3 ⟨r.val / 2048, by omega⟩ ⟨r.val % 2048, by omega⟩ l)
  unfold val_main_v5
  refine shapeCast_apply _ _ _ _ ?_
  rw [Shape.rowMajor_val_two]
  refine (Shape.rowMajor_val_three _).trans ?_
  show (r.val / 2048 * 2048 + r.val % 2048) * 2048 + l.val = r.val * 2048 + l.val
  omega

theorem catS (r : Fin 8) (k : Fin 2048) :
    val_main_v6 (F := Ideal) x4 x5 (ix3 r 0 k) = row (fun q => x4 (ix3 r 0 q)) (fun q => x5 (ix3 r 0 q)) k := by
  unfold row
  pointwise [val_main_v6]

/-- The reference's samples, at an index. -/
theorem resS (r : Fin 8) (l : Fin 2048) : val_main_v11 (F := Ideal) x2 x4 x5 x6 (ix2 r l)
    = proj (fun k => x6 (ix3 r 0 k)) (fun q => x4 (ix3 r 0 q)) (fun q => x5 (ix3 r 0 q)) (rowW x2) l := by
  have hW : ∀ k, val_main_v8 (F := Ideal) x2 (ix2 k l) = rowW x2 k l := fun k => by
    unfold rowW
    pointwise [val_main_v8, val_main_v7]
  unfold proj
  rw [← Finset.sum_congr rfl fun k _ => congrArg₂ (· * ·) (catS x4 x5 r k) (hW k)]
  pointwise [val_main_v11, val_main_v10, val_main_v9]

end Cert.Out3Ref

end
-- ==== Proof.OutClaim3.lean ====
/- The claims about the output projection of layer 3. -/
module

public import proofs.«01_k».proof.Defs
public import proofs.«01_k».proof.Proof.OutOut3
public import proofs.«01_k».proof.Proof.OutRef3
public import proofs.«01_k».proof.Proof.Gen.Out3.Frame

@[expose] public section

set_option maxRecDepth 16384

noncomputable section

namespace Cert.Out3Proof

open Idealize.ShloMosaic Idealize.ShloMosaic.TcCoe Idealize.SL.Sem

/-- The reference leaves its arguments alone. -/
theorem ref_frame : quiescent_Out3RefIdeal := fun m g _ =>
  (θ_run _ _ _).mono (fun r h => ⟨fun c => (h c).2.2, sem_eq_zero_of_no_sems rfl r.2⟩) (Out3RefIdeal.Value.run m g)

section

variable {F : FTy → Type} [FloatOps F]

attribute [local instance] Out3.Gen.facts Out3Ideal.Gen.facts

/-- The two printings of the kernel have the same body. -/
theorem bodies : Out3.defs₀ (F := F) = Out3Ideal.defs₀ (F := F) := by
  refine congrArg Defs.onTc (funext fun n => funext fun a => ?_)
  match n, a with
  | ⟨0, _⟩, (t, s) => rfl

/-- So they have the same table. -/
theorem tables : Out3.defs (F := F) = Out3Ideal.defs (F := F) :=
  congrArg (Pipeline.defs (Out3Ideal.pcfgs (F := F))) bodies

/-- The kernel leaves its arguments alone: the one run, at the machine's floats. -/
theorem kernel_frame : quiescent_Out3 := fun m g _ => by
  have h := Out3Val.frame (F := Bits) m g
  rw [← tables] at h
  exact h

end

/-- The kernel over the reals leaves its arguments alone. -/
theorem frame : quiescent_Out3Ideal := fun m g _ => Out3Val.frame m g

/-- The kernel over the reals computes what the reference does. -/
theorem algebraic : algebraic_Out3Ideal_Out3RefIdeal := by
  intro m g m' g' _ ha
  refine ⟨fun c => Out3Val.whole0 m c, fun c => Out3Val.whole1 m c, ?_, ?_⟩
  · exact (θ_run _ _ _).mono (fun r h c => ⟨((h.1.1 c).1 7).trans (Out3Val.arr7 m c), ((h.1.1 c).1 8).trans (Out3Val.arr8 m c), h.2.1 c⟩)
      (θ_run_and (Out3Val.run_main m g) (Out3Val.frame m g))
  · refine (θ_run _ _ _).mono (fun r h c => ⟨(h c).1.trans ?_, (h c).2.1.trans ?_, (h c).2.2⟩) (Out3RefIdeal.Value.run m' g')
    · rw [Out3RefIdeal.Read.val_main_v5_eq, (ha c).1, (ha c).2.1, (ha c).2.2.1, (ha c).2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Out3Ref.resX _ _ _ _ r l
    · rw [Out3RefIdeal.Read.val_main_v11_eq, (ha c).2.2.1, (ha c).2.2.2.2.1, (ha c).2.2.2.2.2.1, (ha c).2.2.2.2.2.2]
      funext y
      obtain ⟨r, l, rfl⟩ : ∃ (r : Fin 8) (l : Fin 2048), y = ix2 r l := ⟨y 0, y 1, funext fun a => match a with | ⟨0, _⟩ => rfl | ⟨1, _⟩ => rfl⟩
      exact Out3Ref.resS _ _ _ _ r l

end Cert.Out3Proof

end
-- ==== Proof.FfnRun0.lean ====
/- The feed-forward call of layer 0: the body on any staging memrefs, case by case, with what it leaves in each buffer. -/
module

public import proofs.«01_k».proof.Proof.Gen.Ffn0Ideal.Frame
public import proofs.«01_k».proof.Proof.Gen.Ffn0Ideal.Skeleton
public import Idealize.ShloMosaic.Lib.VecWindow

@[expose] public section

set_option maxRecDepth 16384

noncomputable section

namespace Cert.Ffn0Val

open Cert.Ffn0Ideal Cert.Ffn0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 22) — by arithmetic of the point. -/
theorem hcond0_0 : ∀ t : Fin cfg0.N, cond0_0 (grid0.coords t) ↔ t.val % 22 = 0 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_0, e0, e1]
    word_cmp
   : ∀ t : Fin grid0.N, cond0_0 (grid0.coords t) ↔ t.val % 22 = 0)

/-- The condition of the body's `scf.if` 1 (`k0_h2`), from the grid coordinates (the skeleton's scalar
    chain substituted). -/
abbrev cond0_1 (i : grid0.Coords) : Prop := k0_cond2 i = 1#1
/-- It holds at the points before point 22 — by arithmetic of the point. -/
theorem hcond0_1 : ∀ t : Fin cfg0.N, cond0_1 (grid0.coords t) ↔ t.val < 22 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_1, k0_cond2, e0, e1]
    word_cmp
   : ∀ t : Fin grid0.N, cond0_1 (grid0.coords t) ↔ t.val < 22)

/-- The condition of the body's `scf.if` 2 (`k0_h3`), from the grid coordinates (the skeleton's scalar
    chain substituted). -/
abbrev cond0_2 (i : grid0.Coords) : Prop := k0_cond3 i = 1#1
/-- It holds at the points ≡ 0 (mod 22) — by arithmetic of the point. -/
theorem hcond0_2 : ∀ t : Fin cfg0.N, cond0_2 (grid0.coords t) ↔ t.val % 22 = 0 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_2, k0_cond3, e0, e1]
    word_cmp
   : ∀ t : Fin grid0.N, cond0_2 (grid0.coords t) ↔ t.val % 22 = 0)

/-! ## The staging memrefs -/

/-- Each window's current staging memref at point `t`, spelled as the pipeline passes it (`bodyAt0`), and its wholeness. -/
abbrev ms0_0 (t : Fin cfg0.N) : 𝔹 S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x2048 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : 𝔹 S1024x2048 .bf16 := Memref.whole cc0_scratch0
abbrev scM0_1 : 𝔹 S8x2048 .f32 := Memref.whole cc0_scratch1

/-- The frame kit's invariant with the scratch operands as memrefs owned at some contents (`Gen.scopedRest0_eq`,
    Lib/Memref.lean `owns_whole`): as the body finds and leaves it. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## Whole-buffer loads and stores, read back -/

section
variable {κ : Kind} {sp : Space} {e : EltTy}
/-- Reading a buffer after a store of all of it gives what was stored. -/
theorem stored_S1024x2048 (v : View sig κ sp S1024x2048 e) (f : v.ty.Contents (Elt F)) (inb) (w : (Rect.unit (s := S1024x2048) ![0, 0] ![1024, 2048] inb).shape.Idx → Elt F e) (L : List (View.Piece (Elt F) S1024x2048 e)) :
    v.read (Elt F) (v.writes (Elt F) f (⟨Rect.unit (s := S1024x2048) ![0, 0] ![1024, 2048] inb, w⟩ :: L)) = w := View.read_writes_full v f inb w L
/-- So does loading all of it. -/
theorem reload_S1024x2048 (v : View sig κ sp S1024x2048 e) (inb inb') (w : (Rect.unit (s := S1024x2048) ![0, 0] ![1024, 2048] inb').shape.Idx → Elt F e) (L : List (View.Piece (Elt F) S1024x2048 e)) :
    v.readCov (⟨Rect.unit (s := S1024x2048) ![0, 0] ![1024, 2048] inb', w⟩ :: L) (Rect.unit (s := S1024x2048) ![0, 0] ![1024, 2048] inb).toLoadRect = w := View.readCov_full v inb inb' w L
/-- Reading a buffer after a store of all of it gives what was stored. -/
theorem stored_S8x2048 (v : View sig κ sp S8x2048 e) (f : v.ty.Contents (Elt F)) (inb) (w : (Rect.unit (s := S8x2048) ![0, 0] ![8, 2048] inb).shape.Idx → Elt F e) (L : List (View.Piece (Elt F) S8x2048 e)) :
    v.read (Elt F) (v.writes (Elt F) f (⟨Rect.unit (s := S8x2048) ![0, 0] ![8, 2048] inb, w⟩ :: L)) = w := View.read_writes_full v f inb w L
/-- So does loading all of it. -/
theorem reload_S8x2048 (v : View sig κ sp S8x2048 e) (inb inb') (w : (Rect.unit (s := S8x2048) ![0, 0] ![8, 2048] inb').shape.Idx → Elt F e) (L : List (View.Piece (Elt F) S8x2048 e)) :
    v.readCov (⟨Rect.unit (s := S8x2048) ![0, 0] ![8, 2048] inb', w⟩ :: L) (Rect.unit (s := S8x2048) ![0, 0] ![8, 2048] inb).toLoadRect = w := View.readCov_full v inb inb' w L
/-- Loading all of a buffer reads it. -/
theorem load_S1024x2048 (v : View sig κ sp S1024x2048 e) (f : v.ty.Contents (Elt F)) (inb) :
    v.readAt (Elt F) (Rect.unit (s := S1024x2048) ![0, 0] ![1024, 2048] inb).toLoadRect f = v.read (Elt F) f := View.readAt_full v f inb
/-- Loading all of a buffer reads it. -/
theorem load_S8x2048 (v : View sig κ sp S8x2048 e) (f : v.ty.Contents (Elt F)) (inb) :
    v.readAt (Elt F) (Rect.unit (s := S8x2048) ![0, 0] ![8, 2048] inb).toLoadRect f = v.read (Elt F) f := View.readAt_full v f inb
/-- Loading all of a buffer reads it. -/
theorem load_S1x2048 (v : View sig κ sp S1x2048 e) (f : v.ty.Contents (Elt F)) (inb) :
    v.readAt (Elt F) (Rect.unit (s := S1x2048) ![0, 0] ![1, 2048] inb).toLoadRect f = v.read (Elt F) f := View.readAt_full v f inb
/-- Loading all of a buffer reads it. -/
theorem load_S1x2048x256 (v : View sig κ sp S1x2048x256 e) (f : v.ty.Contents (Elt F)) (inb) :
    v.readAt (Elt F) (Rect.unit (s := S1x2048x256) ![0, 0, 0] ![1, 2048, 256] inb).toLoadRect f = v.read (Elt F) f := View.readAt_full v f inb
/-- Loading all of a buffer reads it. -/
theorem load_S1x256x2048 (v : View sig κ sp S1x256x2048 e) (f : v.ty.Contents (Elt F)) (inb) :
    v.readAt (Elt F) (Rect.unit (s := S1x256x2048) ![0, 0, 0] ![1, 256, 2048] inb).toLoadRect f = v.read (Elt F) f := View.readAt_full v f inb
end

/-! ## What the body computes -/

/-- The normalised rows. -/
abbrev nrm (x : Vec F S1024x2048 .f32) (g : Vec F S1x2048 .f32) : Vec F S1024x2048 .bf16 := k0_pay2 x g
/-- What the accumulator starts from. -/
abbrev ini (x : Vec F S1024x2048 .f32) : Vec F S1024x2048 .f32 := k0_pay1 x
/-- The accumulator after one more tile of the hidden width. -/
abbrev acc (n : Vec F S1024x2048 .bf16) (wa wb : Vec F S1x2048x256 .f32) (o : Vec F S1024x2048 .f32) (wd : Vec F S1x256x2048 .f32) : Vec F S1024x2048 .f32 := k0_pay3 n wa wb o wd
/-- What the last tile's point does to the accumulator. -/
abbrev fin (o : Vec F S1024x2048 .f32) (gf : Vec F S1x2048 .f32) : Vec F S1024x2048 .f32 := o
/-- The same four for the sample rows. -/
abbrev nrmS (x : Vec F S8x2048 .f32) (g : Vec F S1x2048 .f32) : Vec F S8x2048 .f32 := k0_pay5 x g
abbrev iniS (x : Vec F S8x2048 .f32) : Vec F S8x2048 .f32 := k0_pay4 x
abbrev accS (n : Vec F S8x2048 .f32) (wa wb : Vec F S1x2048x256 .f32) (o : Vec F S8x2048 .f32) (wd : Vec F S1x256x2048 .f32) : Vec F S8x2048 .f32 := k0_pay6 n wa wb o wd
abbrev finS (o : Vec F S8x2048 .f32) (gf : Vec F S1x2048 .f32) : Vec F S8x2048 .f32 := o

/-- The body, whatever the labels of the table it stands in: the same text in every layer. -/
def body (Λ : Labels) (i : grid0.Coords) (arg2 : 𝔹 S1x2048x256 .f32) (harg2 : arg2.IsWhole) (arg3 : 𝔹 S1x2048x256 .f32) (harg3 : arg3.IsWhole) (arg4 : 𝔹 S1x256x2048 .f32) (harg4 : arg4.IsWhole) (arg5 : 𝔹 S1024x2048 .f32) (harg5 : arg5.IsWhole) (arg6 : 𝔹 S1x2048 .f32) (harg6 : arg6.IsWhole) (arg7 : 𝔹 S1x2048 .f32) (harg7 : arg7.IsWhole) (arg8 : 𝔹 S8x2048 .f32) (harg8 : arg8.IsWhole) (arg9 : 𝔹 S1024x2048 .f32) (harg9 : arg9.IsWhole) (arg10 : 𝔹 S8x2048 .f32) (harg10 : arg10.IsWhole) (arg11 : 𝔹 S1024x2048 .bf16) (harg11 : arg11.IsWhole) (arg12 : 𝔹 S8x2048 .f32) (harg12 : arg12.IsWhole) :
    Prog (TpuEff nD τ sig (Elt F) Λ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v27 : Vec F S1024x2048 .f32 ← Prog.lift (.load arg5 (Rect.unit (s := S1024x2048) ![0, 0] S1024x2048.size inb_S1024x2048_S1024x2048_0_0).toLoadRect (View.loadsAt_vmem h_S1024x2048))
    let v29 : Vec F S1x2048 .f32 ← Prog.lift (.load arg6 (Rect.unit (s := S1x2048) ![0, 0] S1x2048.size inb_S1x2048_S1x2048_0_0).toLoadRect (View.loadsAt_vmem h_S1x2048))
    let v44 : Vec F S1024x2048 .bf16 ← Prog.lift (.load arg11 (Rect.unit (s := S1024x2048) ![0, 0] S1024x2048.size inb_S1024x2048_S1024x2048_0_0).toLoadRect (View.loadsAt_vmem h_S1024x2048))
    Prog.lift (.store arg11 (Rect.unit (s := S1024x2048) ![0, 0] S1024x2048.size inb_S1024x2048_S1024x2048_0_0) (k0_pay2 v27 v29) Finset.univ (View.stores_vmem h_S1024x2048 (harg11.storeExact_slice rfl _ packedbf16_S1024x2048_S1024x2048_0_0) (fun _ => rfl)) (.inl rfl))
    let v47 : Vec F S1024x2048 .f32 ← Prog.lift (.load arg9 (Rect.unit (s := S1024x2048) ![0, 0] S1024x2048.size inb_S1024x2048_S1024x2048_0_0).toLoadRect (View.loadsAt_vmem h_S1024x2048))
    Prog.lift (.store arg9 (Rect.unit (s := S1024x2048) ![0, 0] S1024x2048.size inb_S1024x2048_S1024x2048_0_0) (k0_pay1 v27) Finset.univ (View.stores_vmem_bits_univ h_S1024x2048 rfl) (.inl rfl))
    pure ⟨⟩
  else do
    pure ⟨⟩
  let v3 : Vec F S1024x2048 .bf16 ← Prog.lift (.load arg11 (Rect.unit (s := S1024x2048) ![0, 0] S1024x2048.size inb_S1024x2048_S1024x2048_0_0).toLoadRect (View.loadsAt_vmem h_S1024x2048))
  let v4 : Vec F S1x2048x256 .f32 ← Prog.lift (.load arg2 (Rect.unit (s := S1x2048x256) ![0, 0, 0] S1x2048x256.size inb_S1x2048x256_S1x2048x256_0_0_0).toLoadRect (View.loadsAt_vmem h_S1x2048x256))
  let v8 : Vec F S1x2048x256 .f32 ← Prog.lift (.load arg3 (Rect.unit (s := S1x2048x256) ![0, 0, 0] S1x2048x256.size inb_S1x2048x256_S1x2048x256_0_0_0).toLoadRect (View.loadsAt_vmem h_S1x2048x256))
  let v12 : Vec F S1024x2048 .f32 ← Prog.lift (.load arg9 (Rect.unit (s := S1024x2048) ![0, 0] S1024x2048.size inb_S1024x2048_S1024x2048_0_0).toLoadRect (View.loadsAt_vmem h_S1024x2048))
  let v17 : Vec F S1x256x2048 .f32 ← Prog.lift (.load arg4 (Rect.unit (s := S1x256x2048) ![0, 0, 0] S1x256x2048.size inb_S1x256x2048_S1x256x2048_0_0_0).toLoadRect (View.loadsAt_vmem h_S1x256x2048))
  let v23 : Vec F S1024x2048 .f32 ← Prog.lift (.load arg9 (Rect.unit (s := S1024x2048) ![0, 0] S1024x2048.size inb_S1024x2048_S1024x2048_0_0).toLoadRect (View.loadsAt_vmem h_S1024x2048))
  Prog.lift (.store arg9 (Rect.unit (s := S1024x2048) ![0, 0] S1024x2048.size inb_S1024x2048_S1024x2048_0_0) (k0_pay3 v3 v4 v8 v12 v17) Finset.univ (View.stores_vmem_bits_univ h_S1024x2048 rfl) (.inl rfl))
  if k0_h2 : k0_cond2 i = 1#1 then do
    if k0_h3 : k0_cond3 i = 1#1 then do
      let v53 : Vec F S8x2048 .f32 ← Prog.lift (.load arg8 (Rect.unit (s := S8x2048) ![0, 0] S8x2048.size inb_S8x2048_S8x2048_0_0).toLoadRect (View.loadsAt_vmem h_S8x2048))
      let v55 : Vec F S1x2048 .f32 ← Prog.lift (.load arg6 (Rect.unit (s := S1x2048) ![0, 0] S1x2048.size inb_S1x2048_S1x2048_0_0).toLoadRect (View.loadsAt_vmem h_S1x2048))
      let v69 : Vec F S8x2048 .f32 ← Prog.lift (.load arg12 (Rect.unit (s := S8x2048) ![0, 0] S8x2048.size inb_S8x2048_S8x2048_0_0).toLoadRect (View.loadsAt_vmem h_S8x2048))
      Prog.lift (.store arg12 (Rect.unit (s := S8x2048) ![0, 0] S8x2048.size inb_S8x2048_S8x2048_0_0) (k0_pay5 v53 v55) Finset.univ (View.stores_vmem_bits_univ h_S8x2048 rfl) (.inl rfl))
      let v72 : Vec F S8x2048 .f32 ← Prog.lift (.load arg10 (Rect.unit (s := S8x2048) ![0, 0] S8x2048.size inb_S8x2048_S8x2048_0_0).toLoadRect (View.loadsAt_vmem h_S8x2048))
      Prog.lift (.store arg10 (Rect.unit (s := S8x2048) ![0, 0] S8x2048.size inb_S8x2048_S8x2048_0_0) (k0_pay4 v53) Finset.univ (View.stores_vmem_bits_univ h_S8x2048 rfl) (.inl rfl))
      pure ⟨⟩
    else do
      pure ⟨⟩
    let v30 : Vec F S8x2048 .f32 ← Prog.lift (.load arg12 (Rect.unit (s := S8x2048) ![0, 0] S8x2048.size inb_S8x2048_S8x2048_0_0).toLoadRect (View.loadsAt_vmem h_S8x2048))
    let v31 : Vec F S1x2048x256 .f32 ← Prog.lift (.load arg2 (Rect.unit (s := S1x2048x256) ![0, 0, 0] S1x2048x256.size inb_S1x2048x256_S1x2048x256_0_0_0).toLoadRect (View.loadsAt_vmem h_S1x2048x256))
    let v36 : Vec F S1x2048x256 .f32 ← Prog.lift (.load arg3 (Rect.unit (s := S1x2048x256) ![0, 0, 0] S1x2048x256.size inb_S1x2048x256_S1x2048x256_0_0_0).toLoadRect (View.loadsAt_vmem h_S1x2048x256))
    let v41 : Vec F S8x2048 .f32 ← Prog.lift (.load arg10 (Rect.unit (s := S8x2048) ![0, 0] S8x2048.size inb_S8x2048_S8x2048_0_0).toLoadRect (View.loadsAt_vmem h_S8x2048))
    let v46 : Vec F S1x256x2048 .f32 ← Prog.lift (.load arg4 (Rect.unit (s := S1x256x2048) ![0, 0, 0] S1x256x2048.size inb_S1x256x2048_S1x256x2048_0_0_0).toLoadRect (View.loadsAt_vmem h_S1x256x2048))
    let v52 : Vec F S8x2048 .f32 ← Prog.lift (.load arg10 (Rect.unit (s := S8x2048) ![0, 0] S8x2048.size inb_S8x2048_S8x2048_0_0).toLoadRect (View.loadsAt_vmem h_S8x2048))
    Prog.lift (.store arg10 (Rect.unit (s := S8x2048) ![0, 0] S8x2048.size inb_S8x2048_S8x2048_0_0) (k0_pay6 v30 v31 v36 v41 v46) Finset.univ (View.stores_vmem_bits_univ h_S8x2048 rfl) (.inl rfl))
    pure ⟨⟩
  else do
    pure ⟨⟩
  pure ⟨⟩

variable {Λ : Labels} (D : Defs nD τ sig (Elt F) Λ) (c : Dev nD) (i : grid0.Coords) (arg2 : 𝔹 S1x2048x256 .f32) (harg2 : arg2.IsWhole) (arg3 : 𝔹 S1x2048x256 .f32) (harg3 : arg3.IsWhole) (arg4 : 𝔹 S1x256x2048 .f32) (harg4 : arg4.IsWhole) (arg5 : 𝔹 S1024x2048 .f32) (harg5 : arg5.IsWhole) (arg6 : 𝔹 S1x2048 .f32) (harg6 : arg6.IsWhole) (arg7 : 𝔹 S1x2048 .f32) (harg7 : arg7.IsWhole) (arg8 : 𝔹 S8x2048 .f32) (harg8 : arg8.IsWhole) (arg9 : 𝔹 S1024x2048 .f32) (harg9 : arg9.IsWhole) (arg10 : 𝔹 S8x2048 .f32) (harg10 : arg10.IsWhole) (arg11 : 𝔹 S1024x2048 .bf16) (harg11 : arg11.IsWhole) (arg12 : 𝔹 S8x2048 .f32) (harg12 : arg12.IsWhole)
  (x0 : Vec F S1x2048x256 .f32) (x1 : Vec F S1x2048x256 .f32) (x2 : Vec F S1x256x2048 .f32) (x3 : Vec F S1024x2048 .f32) (x4 : Vec F S1x2048 .f32) (x5 : Vec F S1x2048 .f32) (x6 : Vec F S8x2048 .f32) (y7 : Vec F S1024x2048 .f32) (y8 : Vec F S8x2048 .f32) (y9 : Vec F S1024x2048 .bf16) (y10 : Vec F S8x2048 .f32)

/-- The body, called with the windows and its own buffers at the contents given first, leaves them at those given last, the inputs as they were. -/
def Leaves (z7 : Vec F S1024x2048 .f32) (z8 : Vec F S8x2048 .f32) (z9 : Vec F S1024x2048 .bf16) (z10 : Vec F S8x2048 .f32) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare y7 ∗ owns c.tc arg10 fullShare y8 ∗ owns c.tc arg11 fullShare y9 ∗ owns c.tc arg12 fullShare y10
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare z7 ∗ owns c.tc arg10 fullShare z8 ∗ owns c.tc arg11 fullShare z9 ∗ owns c.tc arg12 fullShare z10) -∗ K ⟨⟩))
      ⊢ wp frame (wpE D Variants.none c none) E (body Λ i arg2 harg2 arg3 harg3 arg4 harg4 arg5 harg5 arg6 harg6 arg7 harg7 arg8 harg8 arg9 harg9 arg10 harg10 arg11 harg11 arg12 harg12) K

set_option maxHeartbeats 4000000 in
/-- The body where it is at the first tile, in the first block of rows. -/
theorem run_A (hc0 : cond0_0 i) (hc1 : cond0_1 i) (hc2 : cond0_2 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (acc (nrm x3 x4) x0 x1 (ini x3) x2) (accS (nrmS x6 x4) x0 x1 (iniS x6) x2) (nrm x3 x4) (nrmS x6 x4) := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is after the first tile, in the first block of rows. -/
theorem run_B (hc0 : ¬cond0_0 i) (hc1 : cond0_1 i) (hc2 : ¬cond0_2 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (acc y9 x0 x1 y7 x2) (accS y10 x0 x1 y8 x2) (y9) (y10) := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is at the first tile, in a later block of rows. -/
theorem run_D (hc0 : cond0_0 i) (hc1 : ¬cond0_1 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (acc (nrm x3 x4) x0 x1 (ini x3) x2) (y8) (nrm x3 x4) (y10) := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is after the first tile, in a later block of rows. -/
theorem run_E (hc0 : ¬cond0_0 i) (hc1 : ¬cond0_1 i) :
    Leaves D c i arg2 harg2 arg3 harg3 arg4 harg4 arg5 harg5 arg6 harg6 arg7 harg7 arg8 harg8 arg9 harg9 arg10 harg10 arg11 harg11 arg12 harg12 x0 x1 x2 x3 x4 x5 x6 y7 y8 y9 y10 (acc y9 x0 x1 y7 x2) (y8) (y9) (y10) := by
  intro E K
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]
theorem body_eq : cc0_ffn2 (F := F) = body Λ₀ := rfl

end Cert.Ffn0Val

end
-- ==== Proof.FfnDat0.lean ====
/- The feed-forward call of layer 0: what every buffer holds after every point of the grid, and the run of the whole call. -/
module

public import proofs.«01_k».proof.Proof.FfnRun0
public import Idealize.ShloMosaic.Lib.Claim

@[expose] public section

set_option maxRecDepth 16384

noncomputable section

namespace Cert.Ffn0Val

open Cert.Ffn0Ideal Cert.Ffn0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The normalised rows held after point `n`: those of the block of rows the point is in. -/
def xnAt (c : Dev nD) : (n : ℕ) → n < cfg0.N → Vec F S1024x2048 .bf16
  | 0, h => nrm (iblk m c 3 ⟨0, h⟩) (iblk m c 4 ⟨0, h⟩)
  | n + 1, h => if (n + 1) % 22 = 0 then nrm (iblk m c 3 ⟨n + 1, h⟩) (iblk m c 4 ⟨n + 1, h⟩) else xnAt c n (by omega)

/-- One point's update of the accumulator, from what it started with. -/
def stepO (c : Dev nD) (t : Fin cfg0.N) (o : Vec F S1024x2048 .f32) : Vec F S1024x2048 .f32 :=
  acc (xnAt m c t.val t.isLt) (iblk m c 0 t) (iblk m c 1 t) o (iblk m c 2 t)

/-- The prompt rows' result buffer after point `n`. -/
def oAt (c : Dev nD) : (n : ℕ) → n < cfg0.N → Vec F S1024x2048 .f32
  | 0, h => stepO m c ⟨0, h⟩ (ini (iblk m c 3 ⟨0, h⟩))
  | n + 1, h =>
    if (n + 1) % 22 = 0 then stepO m c ⟨n + 1, h⟩ (ini (iblk m c 3 ⟨n + 1, h⟩))
    else if (n + 1) % 22 = 21 then fin (stepO m c ⟨n + 1, h⟩ (oAt c n (by omega))) (iblk m c 5 ⟨n + 1, h⟩)
    else stepO m c ⟨n + 1, h⟩ (oAt c n (by omega))

/-- The sample rows normalised, held from the first point on. -/
def xsn (c : Dev nD) : Vec F S8x2048 .f32 := nrmS (iblk m c 6 ⟨0, by decide⟩) (iblk m c 4 ⟨0, by decide⟩)

/-- One point's update of the sample rows' accumulator. -/
def stepS (c : Dev nD) (t : Fin cfg0.N) (o : Vec F S8x2048 .f32) : Vec F S8x2048 .f32 :=
  accS (xsn m c) (iblk m c 0 t) (iblk m c 1 t) o (iblk m c 2 t)

/-- The sample rows' result buffer after point `n`: complete after the first block of prompt rows, untouched from there. -/
def osAt (c : Dev nD) : (n : ℕ) → n < cfg0.N → Vec F S8x2048 .f32
  | 0, h => stepS m c ⟨0, h⟩ (iniS (iblk m c 6 ⟨0, h⟩))
  | n + 1, h =>
    if n + 1 < 22 then
      if n + 1 = 21 then finS (stepS m c ⟨n + 1, h⟩ (osAt c n (by omega))) (iblk m c 5 ⟨n + 1, h⟩)
      else stepS m c ⟨n + 1, h⟩ (osAt c n (by omega))
    else osAt c n (by omega)

/-- The point before. -/
abbrev prev (t : Fin cfg0.N) : Fin cfg0.N := ⟨t.val - 1, Nat.lt_of_le_of_lt (Nat.sub_le _ _) t.isLt⟩

theorem xnAt_first (c : Dev nD) (t : Fin cfg0.N) (h : t.val % 22 = 0) :
    xnAt m c t.val t.isLt = nrm (iblk m c 3 t) (iblk m c 4 t) := by
  obtain ⟨n, hn⟩ := t
  cases n with
  | zero => rfl
  | succ n => exact (if_pos h : xnAt m c (n + 1) hn = _)
theorem xnAt_next (c : Dev nD) (t : Fin cfg0.N) (h : ¬t.val % 22 = 0) :
    xnAt m c t.val t.isLt = xnAt m c (prev t).val (prev t).isLt := by
  obtain ⟨n, hn⟩ := t
  cases n with
  | zero => exact absurd rfl h
  | succ n => exact (if_neg h : xnAt m c (n + 1) hn = _)
theorem oAt_first (c : Dev nD) (t : Fin cfg0.N) (h : t.val % 22 = 0) :
    oAt m c t.val t.isLt = stepO m c t (ini (iblk m c 3 t)) := by
  obtain ⟨n, hn⟩ := t
  cases n with
  | zero => rfl
  | succ n => exact (if_pos h : oAt m c (n + 1) hn = _)
theorem oAt_next (c : Dev nD) (t : Fin cfg0.N) (h : ¬t.val % 22 = 0) (h' : ¬t.val % 22 = 21) :
    oAt m c t.val t.isLt = stepO m c t (oAt m c (prev t).val (prev t).isLt) := by
  obtain ⟨n, hn⟩ := t
  cases n with
  | zero => exact absurd rfl h
  | succ n => exact (if_neg h : oAt m c (n + 1) hn = _).trans (if_neg h')
theorem oAt_last (c : Dev nD) (t : Fin cfg0.N) (h' : t.val % 22 = 21) :
    oAt m c t.val t.isLt = fin (stepO m c t (oAt m c (prev t).val (prev t).isLt)) (iblk m c 5 t) := by
  obtain ⟨n, hn⟩ := t
  cases n with
  | zero => exact absurd h' (by simp)
  | succ n => exact (if_neg (by simp only at h'; omega) : oAt m c (n + 1) hn = _).trans (if_pos h')
theorem osAt_first (c : Dev nD) (t : Fin cfg0.N) (h : t.val = 0) :
    osAt m c t.val t.isLt = stepS m c t (iniS (iblk m c 6 t)) := by
  obtain ⟨n, hn⟩ := t
  cases n with
  | zero => rfl
  | succ n => exact absurd h (by simp)
theorem osAt_next (c : Dev nD) (t : Fin cfg0.N) (h0 : t.val ≠ 0) (h : t.val < 22) (h' : t.val ≠ 21) :
    osAt m c t.val t.isLt = stepS m c t (osAt m c (prev t).val (prev t).isLt) := by
  obtain ⟨n, hn⟩ := t
  cases n with
  | zero => exact absurd rfl h0
  | succ n => exact (if_pos h : osAt m c (n + 1) hn = _).trans (if_neg h')
theorem osAt_last (c : Dev nD) (t : Fin cfg0.N) (h' : t.val = 21) :
    osAt m c t.val t.isLt = finS (stepS m c t (osAt m c (prev t).val (prev t).isLt)) (iblk m c 5 t) := by
  obtain ⟨n, hn⟩ := t
  cases n with
  | zero => exact absurd h' (by simp)
  | succ n => exact (if_pos (by simp only at h'; omega) : osAt m c (n + 1) hn = _).trans (if_pos h')
theorem osAt_kept (c : Dev nD) (t : Fin cfg0.N) (h : ¬t.val < 22) :
    osAt m c t.val t.isLt = osAt m c (prev t).val (prev t).isLt := by
  obtain ⟨n, hn⟩ := t
  cases n with
  | zero => exact absurd (by simp) h
  | succ n => exact (if_neg h : osAt m c (n + 1) hn = _)

theorem oAt_step (c : Dev nD) (t : Fin cfg0.N) (h : ¬t.val % 22 = 0) :
    oAt m c t.val t.isLt = stepO m c t (oAt m c (prev t).val (prev t).isLt) := by
  by_cases h' : t.val % 22 = 21
  · exact oAt_last m c t h'
  · exact oAt_next m c t h h'
theorem osAt_step (c : Dev nD) (t : Fin cfg0.N) (h0 : t.val ≠ 0) (h : t.val < 22) :
    osAt m c t.val t.isLt = stepS m c t (osAt m c (prev t).val (prev t).isLt) := by
  by_cases h' : t.val = 21
  · exact osAt_last m c t h'
  · exact osAt_next m c t h0 h h'

/-! ## The proof data -/

/-- The invariant at a point: before the first, the call's own buffers hold anything; after one, the normalised rows. -/
def PhiS (c : Dev nD) : (n : ℕ) → n < cfg0.N + 1 → sProp 𝕄
  | 0, _ => Pipeline.ΦA spec0 c
  | n + 1, h => iprop(iprop(owns c.tc scM0_0 fullShare (xnAt m c n (by omega)) ∗ owns c.tc scM0_1 fullShare (xsn m c)) ∗ ∃ r, prngReg c r)

theorem PhiS_pos (c : Dev nD) (n : ℕ) (h : n < cfg0.N + 1) (h0 : n ≠ 0) :
    PhiS m c n h = iprop(iprop(owns c.tc scM0_0 fullShare (xnAt m c (n - 1) (by omega)) ∗ owns c.tc scM0_1 fullShare (xsn m c)) ∗ ∃ r, prngReg c r) := by
  cases n with
  | zero => exact absurd rfl h0
  | succ n => rfl

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t.val t.isLt
    | ⟨8, _⟩ => osAt m c t.val t.isLt
  Φ t := PhiS m c t.val t.isLt
  q w := Pipeline.shareOf spec0 w
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t.val t.isLt := by dsimp only [dats]
theorem after0_8 (c : Dev nD) (t : Fin cfg0.N) : (dats m 0 c).after 8 t = osAt m c t.val t.isLt := by dsimp only [dats]

/-- The sample rows' window is touched at the points of the first block of prompt rows only. -/
theorem idle0_8 : ∀ t : Fin cfg0.N, cfg0.idle 8 (grid0.coords t) = !decide (t.val < 22) := by decide +kernel

/-- Between the tiles of one block of rows the accumulator is what the point before left. -/
theorem before0_7 (c : Dev nD) (t : Fin cfg0.N) (h0 : ¬t.val % 22 = 0) (d) :
    (dats m 0 c).before 7 t d = oAt m c (prev t).val (prev t).isLt := by
  rw [(dats m 0 c).before_of_pos 7 t (fun h => h0 (by rw [h])) rfl d,
    if_neg (fun h => absurd ((flush0_7 _).mp h) (by simp only; have := t.isLt; omega))]
  unfold Dat.left
  rw [show cfg0.idle 7 (cfg0.grid.coords (prev t)) = false from rfl]
  unfold Dat.kept
  show (cfg0.win 7).fill _ d _ = _
  rw [Pipeline.fill_of_clip_none 7 _ (fun _ => rfl) d ((dats m 0 c).after 7 (prev t)), Window.fill_cut, after0_7]

/-- From the second point on the sample rows' buffer is what the point before left. -/
theorem before0_8 (c : Dev nD) : ∀ (n : ℕ) (h : n < cfg0.N) (h0 : n ≠ 0) (d),
    (dats m 0 c).before 8 ⟨n, h⟩ d = osAt m c (n - 1) (by omega) := by
  intro n
  induction n using Nat.strong_induction_on with
  | _ n ih =>
    intro h h0 d
    have hN : n < 176 := lt_of_lt_of_eq h (show cfg0.N = 176 from N_0)
    rw [(dats m 0 c).before_of_pos 8 ⟨n, h⟩ h0 rfl d,
      if_neg (fun h => absurd ((flush0_8 _).mp h) (by simp only; omega))]
    unfold Dat.left
    by_cases hl : n - 1 < 22
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact (ih (n - 1) (by omega) (by omega) (by omega) d).trans (osAt_kept m c ⟨n - 1, by omega⟩ hl).symm

/-- What the body has to leave in the sample rows' buffer: the closed form, at every point. -/
theorem leaves8 (c : Dev nD) (t : Fin cfg0.N) :
    (owns c.tc (ms0_8 t) fullShare (osAt m c t.val t.isLt) : sProp 𝕄) ⊢ (dats m 0 c).leavesExact 8 t := by
  have hN : t.val < 176 := lt_of_lt_of_eq t.isLt (show cfg0.N = 176 from N_0)
  by_cases hl : t.val < 22
  · unfold Dat.leavesExact
    rw [show cfg0.idle 8 (cfg0.grid.coords t) = false from (idle0_8 t).trans (by simp [hl])]
    dsimp only
    rw [after0_8]
  · by_cases hf : t.val % 176 = 175
    · unfold Dat.leavesExact
      rw [show cfg0.idle 8 (cfg0.grid.coords t) = true from (idle0_8 t).trans (by simp [hl]), show (cfg0.win 8).flush t = true from (flush0_8 t).mpr hf]
      dsimp only
      rw [after0_8]
    · rw [(dats m 0 c).leavesExact_idle 8 t ((idle0_8 t).trans (by simp [hl])) (Bool.eq_false_iff.mpr fun h => hf ((flush0_8 t).mp h))]
      iintro H
      iexists osAt m c t.val t.isLt
      rw [show (dats m 0 c).before 8 t (osAt m c t.val t.isLt) = osAt m c t.val t.isLt from (before0_8 m c t.val t.isLt (by omega) _).trans (osAt_kept m c t hl).symm]
      iexact H

/-! ## The body at any point -/

/-- Every point takes what the point before left to the closed forms. -/
theorem step (c : Dev nD) (t : Fin cfg0.N) (y7 : Vec F S1024x2048 .f32) (y8 : Vec F S8x2048 .f32) (L : Vec F S1024x2048 .bf16) (S : Vec F S8x2048 .f32)
    (h7 : ¬t.val % 22 = 0 → y7 = oAt m c (prev t).val (prev t).isLt) (h8 : t.val ≠ 0 → y8 = osAt m c (prev t).val (prev t).isLt)
    (hL : t.val ≠ 0 → L = xnAt m c (prev t).val (prev t).isLt) (hS : t.val ≠ 0 → S = xsn m c) :
    Leaves defs₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t) y7 y8 L S (oAt m c t.val t.isLt) (osAt m c t.val t.isLt) (xnAt m c t.val t.isLt) (xsn m c) := by
  by_cases h0 : t.val % 22 = 0
  · have E7 := oAt_first m c t h0
    unfold stepO at E7
    rw [E7, xnAt_first m c t h0]
    by_cases h2 : t.val < 22
    · have e0 : t.val = 0 := by omega
      have E10 : xsn m c = nrmS (iblk m c 6 t) (iblk m c 4 t) := by unfold xsn; rw [show (⟨0, by decide⟩ : Fin cfg0.N) = t from Fin.ext e0.symm]
      have E8 := osAt_first m c t e0
      unfold stepS at E8
      rw [E8, E10]
      exact run_A defs₀ c _ _ _ _ _ _ _ _ _ _ _ _ _ _ _ _ _ _ _ _ _ _ _ _ _ _ _ _ _ _ _ _ _ _ ((hcond0_0 t).mpr h0) ((hcond0_1 t).mpr h2) ((hcond0_2 t).mpr h0)
    · have e0 : t.val ≠ 0 := by omega
      rw [osAt_kept m c t h2, hS e0, h8 e0]
      exact run_D defs₀ c _ _ _ _ _ _ _ _ _ _ _ _ _ _ _ _ _ _ _ _ _ _ _ _ _ _ _ _ _ _ _ _ _ _ ((hcond0_0 t).mpr h0) (fun h => h2 ((hcond0_1 t).mp h))
  · have e0 : t.val ≠ 0 := by omega
    have E7 := oAt_step m c t h0
    unfold stepO at E7
    rw [E7, xnAt_next m c t h0, h7 h0, h8 e0, hL e0, hS e0]
    by_cases h2 : t.val < 22
    · have E8 := osAt_step m c t e0 h2
      unfold stepS at E8
      rw [E8]
      exact run_B defs₀ c _ _ _ _ _ _ _ _ _ _ _ _ _ _ _ _ _ _ _ _ _ _ _ _ _ _ _ _ _ _ _ _ _ _ (fun h => h0 ((hcond0_0 t).mp h)) ((hcond0_1 t).mpr h2) (fun h => h0 ((hcond0_2 t).mp h))
    · rw [osAt_kept m c t h2]
      exact run_E defs₀ c _ _ _ _ _ _ _ _ _ _ _ _ _ _ _ _ _ _ _ _ _ _ _ _ _ _ _ _ _ _ _ _ _ _ (fun h => h0 ((hcond0_0 t).mp h)) (fun h => h2 ((hcond0_1 t).mp h))

/-- Before any point the call's own buffers hold something, and from the second on what the point before left. -/
theorem PhiS_open (c : Dev nD) (t : Fin cfg0.N) : PhiS m c t.val (Nat.lt_succ_of_lt t.isLt) ⊢
    iprop((∃ L, ∃ S, ⌜(t.val ≠ 0 → L = xnAt m c (prev t).val (prev t).isLt) ∧ (t.val ≠ 0 → S = xsn m c)⌝ ∗ owns c.tc scM0_0 fullShare L ∗ owns c.tc scM0_1 fullShare S) ∗ ∃ r, prngReg c r) := by
  by_cases e0 : t.val = 0
  · rw [show PhiS m c t.val (Nat.lt_succ_of_lt t.isLt) = Pipeline.ΦA spec0 c from by simp only [e0]; rfl, PhiA0_eq]
    iintro ⟨⟨⟨%L, HS0⟩, ⟨%S, HS1⟩⟩, Hg⟩
    isplitl [HS0 HS1]
    · iexists L; iexists S
      isplitr; · ipureintro; exact ⟨fun h => absurd e0 h, fun h => absurd e0 h⟩
      isplitl [HS0]; · iexact HS0
      iexact HS1
    iexact Hg
  · rw [PhiS_pos m c t.val _ e0]
    iintro ⟨⟨HS0, HS1⟩, Hg⟩
    isplitl [HS0 HS1]
    · iexists _; iexists _
      isplitr; · ipureintro; exact ⟨fun _ => rfl, fun _ => rfl⟩
      isplitl [HS0]; · iexact HS0
      iexact HS1
    iexact Hg

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val (Nat.lt_succ_of_lt t.isLt) from rfl,
    show (dats m 0 c).Φ t.succ = iprop(iprop(owns c.tc scM0_0 fullShare (xnAt m c t.val t.isLt) ∗ owns c.tc scM0_1 fullShare (xsn m c)) ∗ ∃ r, prngReg c r) from rfl]
  refine (sep_mono (PhiS_open m c t) .rfl).trans ?_
  iintro ⟨⟨⟨%L, %S, %hLS, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hrun := step m c t ((dats m 0 c).before 7 t d7) ((dats m 0 c).before 8 t d8) L S (fun h => before0_7 m c t h d7) (fun h => before0_8 m c t.val t.isLt h d8) hLS.1 hLS.2
  rw [body_eq]
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => by
      rw [show (dats m 0 c).Φ (Fin.last cfg0.N) = PhiS m c cfg0.N (by omega) from rfl, PhiS_pos m c cfg0.N _ (by decide), PhiA0_eq]
      iintro ⟨⟨HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn0Val

end
-- ==== Proof.FfnOut0.lean ====
/- The feed-forward call of layer 0: its two results, at an index. -/
module

public import proofs.«01_k».proof.Proof.FfnDat0
public import proofs.«01_k».proof.Proof.FfnMath

@[expose] public section

set_option maxRecDepth 16384

noncomputable section

namespace Cert.Ffn0Val

open Idealize.ShloMosaic Idealize.ShloMosaic.TcCoe Idealize.SL.Sem
open Idealize.ShloMosaic.Pipeline (Dat)
open Cert.Ffn0Ideal Cert.Ffn0Ideal.Gen Cert.Ffn

/-! ## One point's work, at an index -/

theorem nrm_at (x : Vec Ideal S1024x2048 .f32) (g : Vec Ideal S1x2048 .f32) (r : Fin 1024) (l : Fin 2048) :
    nrm x g (ix2 r l) = nrmRow (fun k => x (ix2 r k)) (fun k => g (ix2 0 k)) l := by
  unfold nrm nrmRow
  pointwise [k0_pay2, k0_pay1]
theorem ini_at (x : Vec Ideal S1024x2048 .f32) (r : Fin 1024) (l : Fin 2048) : ini x (ix2 r l) = x (ix2 r l) := by
  unfold ini
  pointwise [k0_pay1]
theorem acc_at (n : Vec Ideal S1024x2048 .bf16) (wa wb : Vec Ideal S1x2048x256 .f32) (o : Vec Ideal S1024x2048 .f32) (wd : Vec Ideal S1x256x2048 .f32) (r : Fin 1024) (l : Fin 2048) :
    acc n wa wb o wd (ix2 r l)
      = o (ix2 r l) + ∑ q : Fin 256, hid (fun k => n (ix2 r k)) (fun k => wa (ix3 0 k q)) (fun k => wb (ix3 0 k q)) * wd (ix3 0 q l) := by
  unfold acc hid
  pointwise [k0_pay3]
theorem nrmS_at (x : Vec Ideal S8x2048 .f32) (g : Vec Ideal S1x2048 .f32) (r : Fin 8) (l : Fin 2048) :
    nrmS x g (ix2 r l) = nrmRow (fun k => x (ix2 r k)) (fun k => g (ix2 0 k)) l := by
  unfold nrmS nrmRow
  pointwise [k0_pay5, k0_pay4]
theorem iniS_at (x : Vec Ideal S8x2048 .f32) (r : Fin 8) (l : Fin 2048) : iniS x (ix2 r l) = x (ix2 r l) := by
  unfold iniS
  pointwise [k0_pay4]
theorem accS_at (n : Vec Ideal S8x2048 .f32) (wa wb : Vec Ideal S1x2048x256 .f32) (o : Vec Ideal S8x2048 .f32) (wd : Vec Ideal S1x256x2048 .f32) (r : Fin 8) (l : Fin 2048) :
    accS n wa wb o wd (ix2 r l)
      = o (ix2 r l) + ∑ q : Fin 256, hid (fun k => n (ix2 r k)) (fun k => wa (ix3 0 k q)) (fun k => wb (ix3 0 k q)) * wd (ix3 0 q l) := by
  unfold accS hid
  pointwise [k0_pay6]

variable (m : (ℓ : Loc nD τ sig) → Buf (Elt Ideal) ℓ)

/-! ## The arguments, a row at a time -/

/-- Row `r` of the prompts' rows, the batches one after another. -/
def arrX (c : Dev nD) (r : Fin 8192) : Fin 2048 → EReal := fun l => m (c.tc.loc main_arg0) (ix3 ⟨r.val / 2048, by omega⟩ ⟨r.val % 2048, by omega⟩ l)
/-- Row `r` of the samples' rows. -/
def arrS (c : Dev nD) (r : Fin 8) : Fin 2048 → EReal := fun l => m (c.tc.loc main_arg1) (ix3 r 0 l)
/-- The layer's scale of the normalisation. -/
def arrG (c : Dev nD) : Fin 2048 → EReal := fun l => m (c.tc.loc main_arg2) (ix2 0 l)
/-- The layer's upward weights. -/
def arrW (c : Dev nD) : Fin 2048 → Fin 11264 → EReal := fun k q => m (c.tc.loc main_arg3) (ix3 0 k q)
/-- The layer's downward weights. -/
def arrD (c : Dev nD) : Fin 5632 → Fin 2048 → EReal := fun q l => m (c.tc.loc main_arg4) (ix3 0 q l)
/-- The scale of the last normalisation. -/
def arrF (c : Dev nD) : Fin 2048 → EReal := fun l => m (c.tc.loc main_arg5) (ix1 l)

/-! ## Where the windows are -/

theorem at0 : ∀ t : Fin cfg0.N, win0_0.index t 0 = 0 ∧ win0_0.index t 1 = 0 ∧ win0_0.index t 2 = t.val % 22 := by decide +kernel
theorem at1 : ∀ t : Fin cfg0.N, win0_1.index t 0 = 0 ∧ win0_1.index t 1 = 0 ∧ win0_1.index t 2 = 22 + t.val % 22 := by decide +kernel
theorem at2 : ∀ t : Fin cfg0.N, win0_2.index t 0 = 0 ∧ win0_2.index t 1 = t.val % 22 ∧ win0_2.index t 2 = 0 := by decide +kernel
theorem at3 : ∀ t : Fin cfg0.N, win0_3.index t 0 = t.val / 22 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = t.val / 22 ∧ win0_7.index t 1 = 0 := by decide +kernel
theorem at8 : ∀ t : Fin cfg0.N, win0_8.index t 0 = 0 ∧ win0_8.index t 1 = 0 := by decide +kernel

theorem lt176 (t : Fin cfg0.N) : t.val < 176 := lt_of_lt_of_eq t.isLt (show cfg0.N = 176 from N_0)

/-! ## The blocks -/

theorem blk0 (c : Dev nD) (t : Fin cfg0.N) (k : Fin 2048) (q : Fin 256) :
    iblk m c 0 t (ix3 0 k q) = arrW m c k ⟨t.val % 22 * 256 + q.val, by have := lt176 t; omega⟩ := by
  unfold iblk arrW
  rw [show V m c (Pipeline.arrRef spec0 0) = m (c.tc.loc main_arg3) from V_main_arg3 m c]
  refine congrArg (m (c.tc.loc main_arg3)) (funext fun a => Fin.ext ?_)
  match a with
  | ⟨0, _⟩ => blk_simp; rw [(at0 t).1]; rfl
  | ⟨1, _⟩ => blk_simp; rw [(at0 t).2.1]; show 0 * 2048 + k.val = k.val; omega
  | ⟨2, _⟩ => blk_simp; rw [(at0 t).2.2]
theorem blk1 (c : Dev nD) (t : Fin cfg0.N) (k : Fin 2048) (q : Fin 256) :
    iblk m c 1 t (ix3 0 k q) = arrW m c k ⟨5632 + (t.val % 22 * 256 + q.val), by have := lt176 t; omega⟩ := by
  unfold iblk arrW
  rw [show V m c (Pipeline.arrRef spec0 1) = m (c.tc.loc main_arg3) from V_main_arg3 m c]
  refine congrArg (m (c.tc.loc main_arg3)) (funext fun a => Fin.ext ?_)
  match a with
  | ⟨0, _⟩ => blk_simp; rw [(at1 t).1]; rfl
  | ⟨1, _⟩ => blk_simp; rw [(at1 t).2.1]; show 0 * 2048 + k.val = k.val; omega
  | ⟨2, _⟩ => blk_simp; rw [(at1 t).2.2]; show (22 + t.val % 22) * 256 + q.val = 5632 + (t.val % 22 * 256 + q.val); omega
theorem blk2 (c : Dev nD) (t : Fin cfg0.N) (q : Fin 256) (l : Fin 2048) :
    iblk m c 2 t (ix3 0 q l) = arrD m c ⟨t.val % 22 * 256 + q.val, by have := lt176 t; omega⟩ l := by
  unfold iblk arrD
  rw [show V m c (Pipeline.arrRef spec0 2) = m (c.tc.loc main_arg4) from V_main_arg4 m c]
  refine congrArg (m (c.tc.loc main_arg4)) (funext fun a => Fin.ext ?_)
  match a with
  | ⟨0, _⟩ => blk_simp; rw [(at2 t).1]; rfl
  | ⟨1, _⟩ => blk_simp; rw [(at2 t).2.1]
  | ⟨2, _⟩ => blk_simp; rw [(at2 t).2.2]; show 0 * 2048 + l.val = l.val; omega
/-- The prompts' rows, the batches one after another, under a point's window. -/
theorem rows_at (A : FVec Ideal S4x2048x2048 .f32) (t : Fin cfg0.N) (r : Fin 1024) (l : Fin 2048) :
    shapeCast S8192x2048 A shapeCasts_S4x2048x2048_S8192x2048 (((cfg0.win 3).blk t).view.emb (ix2 r l))
      = A (ix3 ⟨(t.val / 22 * 1024 + r.val) / 2048, by have := lt176 t; omega⟩ ⟨(t.val / 22 * 1024 + r.val) % 2048, by omega⟩ l) := by
  have hN := lt176 t
  have e : ((cfg0.win 3).blk t).view.emb (ix2 r l) = ix2 (⟨t.val / 22 * 1024 + r.val, by omega⟩ : Fin 8192) l := by
    refine funext fun a => Fin.ext ?_
    match a with
    | ⟨0, _⟩ => blk_simp; rw [(at3 t).1]
    | ⟨1, _⟩ => blk_simp; rw [(at3 t).2]; show 0 * 2048 + l.val = l.val; omega
  refine (congrArg (shapeCast S8192x2048 A shapeCasts_S4x2048x2048_S8192x2048) e).trans ?_
  refine shapeCast_apply _ _ _ _ ?_
  rw [Shape.rowMajor_val_two]
  refine (Shape.rowMajor_val_three _).trans ?_
  show ((t.val / 22 * 1024 + r.val) / 2048 * 2048 + (t.val / 22 * 1024 + r.val) % 2048) * 2048 + l.val = (t.val / 22 * 1024 + r.val) * 2048 + l.val
  omega
theorem blk3 (c : Dev nD) (t : Fin cfg0.N) (r : Fin 1024) (l : Fin 2048) :
    iblk m c 3 t (ix2 r l) = arrX m c ⟨t.val / 22 * 1024 + r.val, by have := lt176 t; omega⟩ l := by
  have hN := lt176 t
  unfold iblk arrX
  have hV : V m c (Pipeline.arrRef spec0 3) = shapeCast S8192x2048 (m (c.tc.loc main_arg0)) shapeCasts_S4x2048x2048_S8192x2048 := by
    show StableHlo.after hostOps0 (fun b => m (c, b)) (Proc.tc.devRef main_v0) = _
    after_results
    rfl
  rw [hV]
  exact rows_at _ t r l
theorem blk4 (c : Dev nD) (t : Fin cfg0.N) (l : Fin 2048) : iblk m c 4 t (ix2 0 l) = arrG m c l := by
  unfold iblk arrG
  have hV : V m c (Pipeline.arrRef spec0 4) = shapeCast S1x2048 (shapeCast S2048 (extractStridedSlice S1x2048 ![0, 0] (m (c.tc.loc main_arg2)) slices_S4x2048_S1x2048_0_0) shapeCasts_S1x2048_S2048) shapeCasts_S2048_S1x2048 := by
    show StableHlo.after hostOps0 (fun b => m (c, b)) (Proc.tc.devRef main_v4) = _
    after_results
    rfl
  rw [hV]
  have e : ((cfg0.win 4).blk t).view.emb (ix2 0 l) = ix2 0 l := by
    refine funext fun a => Fin.ext ?_
    match a with
    | ⟨0, _⟩ => blk_simp; rw [(at4 t).1]; rfl
    | ⟨1, _⟩ => blk_simp; rw [(at4 t).2]; show 0 * 2048 + l.val = l.val; omega
  refine (congrArg (shapeCast S1x2048 (shapeCast S2048 (extractStridedSlice S1x2048 ![0, 0] (m (c.tc.loc main_arg2)) slices_S4x2048_S1x2048_0_0) shapeCasts_S1x2048_S2048) shapeCasts_S2048_S1x2048) e).trans ?_
  pointwise
theorem blk5 (c : Dev nD) (t : Fin cfg0.N) (l : Fin 2048) : iblk m c 5 t (ix2 0 l) = arrF m c l := by
  unfold iblk arrF
  have hV : V m c (Pipeline.arrRef spec0 5) = shapeCast S1x2048 (m (c.tc.loc main_arg5)) shapeCasts_S2048_S1x2048 := by
    show StableHlo.after hostOps0 (fun b => m (c, b)) (Proc.tc.devRef main_v5) = _
    after_results
    rfl
  rw [hV]
  have e : ((cfg0.win 5).blk t).view.emb (ix2 0 l) = ix2 0 l := by
    refine funext fun a => Fin.ext ?_
    match a with
    | ⟨0, _⟩ => blk_simp; rw [(at5 t).1]; rfl
    | ⟨1, _⟩ => blk_simp; rw [(at5 t).2]; show 0 * 2048 + l.val = l.val; omega
  refine (congrArg (shapeCast S1x2048 (m (c.tc.loc main_arg5)) shapeCasts_S2048_S1x2048) e).trans ?_
  pointwise
theorem blk6 (c : Dev nD) (t : Fin cfg0.N) (r : Fin 8) (l : Fin 2048) : iblk m c 6 t (ix2 r l) = arrS m c r l := by
  unfold iblk arrS
  have hV : V m c (Pipeline.arrRef spec0 6) = shapeCast S8x2048 (m (c.tc.loc main_arg1)) shapeCasts_S8x1x2048_S8x2048 := by
    show StableHlo.after hostOps0 (fun b => m (c, b)) (Proc.tc.devRef main_v3) = _
    after_results
    rfl
  rw [hV]
  have e : ((cfg0.win 6).blk t).view.emb (ix2 r l) = ix2 r l := by
    refine funext fun a => Fin.ext ?_
    match a with
    | ⟨0, _⟩ => blk_simp; rw [(at6 t).1]; show 0 * 8 + r.val = r.val; omega
    | ⟨1, _⟩ => blk_simp; rw [(at6 t).2]; show 0 * 2048 + l.val = l.val; omega
  refine (congrArg (shapeCast S8x2048 (m (c.tc.loc main_arg1)) shapeCasts_S8x1x2048_S8x2048) e).trans ?_
  pointwise

/-! ## The buffers, at an index -/

/-- The block of rows a point is in. -/
abbrev rowOf (n : ℕ) (h : n < 176) (r : Fin 1024) : Fin 8192 := ⟨n / 22 * 1024 + r.val, by omega⟩

theorem xnAt_val (c : Dev nD) (r : Fin 1024) (l : Fin 2048) : ∀ (n : ℕ) (h : n < cfg0.N),
    xnAt m c n h (ix2 r l) = nrmRow (arrX m c (rowOf n (lt176 ⟨n, h⟩) r)) (arrG m c) l := by
  intro n
  induction n with
  | zero =>
    intro h
    rw [xnAt_first m c ⟨0, h⟩ rfl, nrm_at]
    exact congrArg₂ (fun x g => nrmRow x g l) (funext fun k => blk3 m c ⟨0, h⟩ r k) (funext fun k => blk4 m c _ k)
  | succ n ih =>
    intro h
    by_cases h0 : (n + 1) % 22 = 0
    · rw [xnAt_first m c ⟨n + 1, h⟩ h0, nrm_at]
      exact congrArg₂ (fun x g => nrmRow x g l) (funext fun k => blk3 m c ⟨n + 1, h⟩ r k) (funext fun k => blk4 m c _ k)
    · rw [xnAt_next m c ⟨n + 1, h⟩ h0]
      refine (ih (by omega)).trans ?_
      exact congrArg (fun z => nrmRow (arrX m c z) (arrG m c) l) (Fin.ext (by show n / 22 * 1024 + r.val = (n + 1) / 22 * 1024 + r.val; omega))

/-- One point adds its tile of hidden units to the accumulator. -/
theorem stepO_val (c : Dev nD) (t : Fin cfg0.N) (o : Vec Ideal S1024x2048 .f32) (r : Fin 1024) (l : Fin 2048)
    (ho : o (ix2 r l) = upto (arrX m c (rowOf t.val (lt176 t) r)) (arrG m c) (arrW m c) (arrD m c) l (t.val % 22 * 256)) :
    stepO m c t o (ix2 r l) = upto (arrX m c (rowOf t.val (lt176 t) r)) (arrG m c) (arrW m c) (arrD m c) l ((t.val % 22 + 1) * 256) := by
  have hN := lt176 t
  unfold stepO
  rw [acc_at, ho, show (t.val % 22 + 1) * 256 = t.val % 22 * 256 + 256 by omega, ← upto_tile]
  refine add_sums fun q => ?_
  unfold Ffn.unit
  rw [dif_pos (by omega)]
  refine congrArg₂ (· * ·) ?_ (blk2 m c t q l)
  rw [show (fun k => xnAt m c t.val t.isLt (ix2 r k)) = nrmRow (arrX m c (rowOf t.val (lt176 t) r)) (arrG m c) from funext fun k => xnAt_val m c r k t.val t.isLt]
  exact congrArg₂ (hid _) (funext fun k => blk0 m c t k q) (funext fun k => blk1 m c t k q)

/-- The accumulator after every tile but the last. -/
theorem oAt_val (c : Dev nD) (r : Fin 1024) (l : Fin 2048) : ∀ (n : ℕ) (h : n < cfg0.N), n % 22 ≠ 21 →
    oAt m c n h (ix2 r l) = upto (arrX m c (rowOf n (lt176 ⟨n, h⟩) r)) (arrG m c) (arrW m c) (arrD m c) l ((n % 22 + 1) * 256) := by
  intro n
  induction n with
  | zero =>
    intro h _
    rw [oAt_first m c ⟨0, h⟩ rfl]
    exact stepO_val m c ⟨0, h⟩ _ r l ((ini_at _ r l).trans ((blk3 m c ⟨0, h⟩ r l).trans (upto_zero _ _ _ _ l).symm))
  | succ n ih =>
    intro h hn
    by_cases h0 : (n + 1) % 22 = 0
    · rw [oAt_first m c ⟨n + 1, h⟩ h0]
      refine stepO_val m c ⟨n + 1, h⟩ _ r l ((ini_at _ r l).trans ((blk3 m c ⟨n + 1, h⟩ r l).trans ?_))
      show _ = upto _ _ _ _ l ((n + 1) % 22 * 256)
      rw [h0, Nat.zero_mul, upto_zero]
    · rw [oAt_next m c ⟨n + 1, h⟩ h0 hn]
      refine stepO_val m c ⟨n + 1, h⟩ _ r l ((ih (by omega) (by omega)).trans ?_)
      refine congrArg₂ (fun z y => upto (arrX m c z) (arrG m c) (arrW m c) (arrD m c) l y) (Fin.ext ?_) ?_
      · show n / 22 * 1024 + r.val = (n + 1) / 22 * 1024 + r.val; omega
      · show (n % 22 + 1) * 256 = (n + 1) % 22 * 256; omega

/-- A row's result, from the row and the weights. -/
def resRow (c : Dev nD) (x : Fin 2048 → EReal) : Fin 2048 → EReal := trunk x (arrG m c) (arrW m c) (arrD m c)

/-- The last tile's point completes a block of rows. -/
theorem oAt_done (c : Dev nD) (t : Fin cfg0.N) (h : t.val % 22 = 21) (r : Fin 1024) (l : Fin 2048) :
    oAt m c t.val t.isLt (ix2 r l) = resRow m c (arrX m c (rowOf t.val (lt176 t) r)) l := by
  have hN := lt176 t
  have hs : ∀ k, stepO m c t (oAt m c (prev t).val (prev t).isLt) (ix2 r k) = trunk (arrX m c (rowOf t.val (lt176 t) r)) (arrG m c) (arrW m c) (arrD m c) k := fun k => by
    refine (stepO_val m c t _ r k ((oAt_val m c r k (prev t).val (prev t).isLt (by show (t.val - 1) % 22 ≠ 21; omega)).trans ?_)).trans ?_
    · refine congrArg₂ (fun z y => upto (arrX m c z) (arrG m c) (arrW m c) (arrD m c) k y) (Fin.ext ?_) ?_
      · show (t.val - 1) / 22 * 1024 + r.val = t.val / 22 * 1024 + r.val; omega
      · show ((t.val - 1) % 22 + 1) * 256 = t.val % 22 * 256; omega
    · rw [h]; exact upto_all _ _ _ _ k
  rw [oAt_last m c t h]
  exact hs l

theorem xsn_val (c : Dev nD) (r : Fin 8) (l : Fin 2048) : xsn m c (ix2 r l) = nrmRow (arrS m c r) (arrG m c) l := by
  unfold xsn
  rw [nrmS_at]
  exact congrArg₂ (fun x g => nrmRow x g l) (funext fun k => blk6 m c _ r k) (funext fun k => blk4 m c _ k)

/-- One point of the first block of rows adds its tile to the samples' accumulator. -/
theorem stepS_val (c : Dev nD) (t : Fin cfg0.N) (ht : t.val < 22) (o : Vec Ideal S8x2048 .f32) (r : Fin 8) (l : Fin 2048)
    (ho : o (ix2 r l) = upto (arrS m c r) (arrG m c) (arrW m c) (arrD m c) l (t.val * 256)) :
    stepS m c t o (ix2 r l) = upto (arrS m c r) (arrG m c) (arrW m c) (arrD m c) l ((t.val + 1) * 256) := by
  unfold stepS
  rw [accS_at, ho, show (t.val + 1) * 256 = t.val * 256 + 256 by omega, ← upto_tile]
  refine add_sums fun q => ?_
  unfold Ffn.unit
  rw [dif_pos (by omega)]
  have e : t.val % 22 = t.val := Nat.mod_eq_of_lt ht
  refine congrArg₂ (· * ·) ?_ ((blk2 m c t q l).trans (congrArg (fun z => arrD m c z l) (Fin.ext (by show t.val % 22 * 256 + q.val = t.val * 256 + q.val; rw [e]))))
  rw [show (fun k => xsn m c (ix2 r k)) = nrmRow (arrS m c r) (arrG m c) from funext fun k => xsn_val m c r k]
  exact congrArg₂ (hid _)
    (funext fun k => (blk0 m c t k q).trans (congrArg (arrW m c k) (Fin.ext (by show t.val % 22 * 256 + q.val = t.val * 256 + q.val; rw [e]))))
    (funext fun k => (blk1 m c t k q).trans (congrArg (arrW m c k) (Fin.ext (by show 5632 + (t.val % 22 * 256 + q.val) = 5632 + (t.val * 256 + q.val); rw [e]))))

/-- The samples' accumulator within the first block of rows. -/
theorem osAt_val (c : Dev nD) (r : Fin 8) (l : Fin 2048) : ∀ (n : ℕ) (h : n < cfg0.N), n < 21 →
    osAt m c n h (ix2 r l) = upto (arrS m c r) (arrG m c) (arrW m c) (arrD m c) l ((n + 1) * 256) := by
  intro n
  induction n with
  | zero =>
    intro h _
    rw [osAt_first m c ⟨0, h⟩ rfl]
    refine stepS_val m c ⟨0, h⟩ (by simp) _ r l ((iniS_at _ r l).trans ((blk6 m c ⟨0, h⟩ r l).trans ?_))
    show _ = upto _ _ _ _ l (0 * 256)
    rw [Nat.zero_mul, upto_zero]
  | succ n ih =>
    intro h hn
    rw [osAt_next m c ⟨n + 1, h⟩ (by simp) (by simp only; omega) (by simp only; omega)]
    exact stepS_val m c ⟨n + 1, h⟩ (by simp only; omega) _ r l (ih (by omega) (by omega))

/-- From the last point of the first block of rows on the samples' buffer is complete. -/
theorem osAt_done (c : Dev nD) (r : Fin 8) (l : Fin 2048) : ∀ (n : ℕ) (h : n < cfg0.N), 21 ≤ n →
    osAt m c n h (ix2 r l) = resRow m c (arrS m c r) l := by
  intro n
  induction n with
  | zero => intro _ h; omega
  | succ n ih =>
    intro h hn
    by_cases h1 : n + 1 = 21
    · have hs : ∀ k, stepS m c ⟨n + 1, h⟩ (osAt m c n (by omega)) (ix2 r k) = trunk (arrS m c r) (arrG m c) (arrW m c) (arrD m c) k := fun k => by
        refine (stepS_val m c ⟨n + 1, h⟩ (by simp only; omega) _ r k (osAt_val m c r k n (by omega) (by omega))).trans ?_
        show upto _ _ _ _ k ((n + 1 + 1) * 256) = _
        rw [h1]; exact upto_all _ _ _ _ k
      rw [osAt_last m c ⟨n + 1, h⟩ h1]
      exact hs l
    · rw [osAt_kept m c ⟨n + 1, h⟩ (by simp only; omega)]
      exact ih (by omega) (by omega)

/-! ## The result arrays -/

/-- The prompts' result as a function of its index. -/
def whole0 (c : Dev nD) : FVec Ideal S8192x2048 .f32 := fun y => resRow m c (arrX m c ⟨(y 0).val, (y 0).isLt⟩) ⟨(y 1).val, (y 1).isLt⟩
/-- The samples' result as a function of its index. -/
def whole1 (c : Dev nD) : FVec Ideal S8x2048 .f32 := fun y => resRow m c (arrS m c ⟨(y 0).val, (y 0).isLt⟩) ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt176 t
  have h21 : t.val % 22 = 21 := (flush0_7 t).mp hf
  blk_simp
  rw [after0_7]
  have h0 : (y 0).val < 1024 := (y 0).isLt
  have h1 : (y 1).val < 2048 := (y 1).isLt
  have e : (win0_7.blk t).view.emb y = ix2 (rowOf t.val hN ⟨(y 0).val, h0⟩) ⟨(y 1).val, h1⟩ := by
    refine funext fun a => Fin.ext ?_
    match a with
    | ⟨0, _⟩ => blk_simp; rw [(at7 t).1]; rfl
    | ⟨1, _⟩ => blk_simp; rw [(at7 t).2]; show 0 * 2048 + (y 1).val = (y 1).val; omega
  rw [e]
  refine Eq.trans (congrArg (oAt m c t.val t.isLt) ?_) (oAt_done m c t h21 ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  have hN := lt176 t
  have h175 : t.val % 176 = 175 := (flush0_8 t).mp hf
  blk_simp
  rw [after0_8]
  have h0 : (y 0).val < 8 := (y 0).isLt
  have h1 : (y 1).val < 2048 := (y 1).isLt
  have e : (win0_8.blk t).view.emb y = ix2 (⟨(y 0).val, h0⟩ : Fin 8) (⟨(y 1).val, h1⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; show 0 * 2048 + (y 1).val = (y 1).val; omega
  rw [e]
  refine Eq.trans (congrArg (osAt m c t.val t.isLt) ?_) (osAt_done m c ⟨(y 0).val, h0⟩ ⟨(y 1).val, h1⟩ t.val t.isLt (by omega))
  exact funext fun a => match a with | ⟨0, _⟩ => rfl | ⟨1, _⟩ => rfl

end Cert.Ffn0Val

end
-- ==== Proof.FfnRef0.lean ====
/- The reference of layer 0's feed-forward block, at an index. -/
module

public import proofs.«01_k».proof.Proof.FfnMath
public import proofs.«01_k».proof.Proof.Gen.Ffn0RefIdeal.Read

@[expose] public section

set_option maxRecDepth 16384

noncomputable section

namespace Cert.Ffn0Ref

open Idealize.ShloMosaic Idealize.ShloMosaic.TcCoe Idealize.SL.Sem
open Cert.Ffn0RefIdeal Cert.Ffn0RefIdeal.Read Cert.Ffn

variable (x0 : (⟨S4x2048x2048, .f32⟩ : BufTy).Contents (Elt Ideal)) (x1 : (⟨S8x1x2048, .f32⟩ : BufTy).Contents (Elt Ideal))
  (x2 : (⟨S4x2048, .f32⟩ : BufTy).Contents (Elt Ideal)) (x3 : (⟨S4x2048x11264, .f32⟩ : BufTy).Contents (Elt Ideal))
  (x4 : (⟨S4x5632x2048, .f32⟩ : BufTy).Contents (Elt Ideal)) (x5 : (⟨S2048, .f32⟩ : BufTy).Contents (Elt Ideal))

/-- The layer's scale. -/
def rowG : Fin 2048 → EReal := fun k => x2 (ix2 0 k)
/-- The layer's upward weights. -/
def rowW : Fin 2048 → Fin 11264 → EReal := fun k q => x3 (ix3 0 k q)
/-- The layer's downward weights. -/
def rowD : Fin 5632 → Fin 2048 → EReal := fun q l => x4 (ix3 0 q l)
/-- The last scale. -/
def rowF : Fin 2048 → EReal := fun k => x5 (ix1 k)
/-- A row of the prompts. -/
def rowX (b : Fin 4) (r : Fin 2048) : Fin 2048 → EReal := fun k => x0 (ix3 b r k)
/-- A row of the samples. -/
def rowS (b : Fin 8) (r : Fin 1) : Fin 2048 → EReal := fun k => x1 (ix3 b r k)

theorem normX (b : Fin 4) (r : Fin 2048) (l : Fin 2048) : val_main_v14 (F := Ideal) x0 x2 (ix3 b r l) = nrmRow (rowX x0 b r) (rowG x2) l := by
  unfold nrmRow rowX rowG
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

theorem upX (b : Fin 4) (r : Fin 2048) (q : Fin 11264) :
    val_main_v19 (F := Ideal) x0 x2 x3 (ix3 b r q) = ∑ k, nrmRow (rowX x0 b r) (rowG x2) k * rowW x3 k q := by
  have hW : ∀ k, val_main_v16 (F := Ideal) x3 (ix2 k q) = rowW x3 k q := fun k => by
    unfold rowW
    pointwise [val_main_v16, val_main_v15]
  rw [← Finset.sum_congr rfl fun k _ => congrArg₂ (· * ·) (normX x0 x2 b r k) (hW k)]
  pointwise [val_main_v19]

theorem hidX (b : Fin 4) (r : Fin 2048) (q : Fin 5632) :
    val_main_v23 (F := Ideal) x0 x2 x3 (ix3 b r q) = hid (nrmRow (rowX x0 b r) (rowG x2)) (fun k => rowW x3 k ⟨q.val, by omega⟩) (fun k => rowW x3 k ⟨5632 + q.val, by omega⟩) := by
  unfold hid Ideal.logistic
  rw [← upX x0 x2 x3 b r ⟨q.val, by omega⟩, ← upX x0 x2 x3 b r ⟨5632 + q.val, by omega⟩, ← one_bits]
  pointwise [val_main_v23, val_main_v22, val_main_call0_v5, val_main_call0_v4, val_main_call0_cst_0, val_main_call0_v3, val_main_call0_v2, val_main_call0_cst, val_main_call0_v1, val_main_call0_v0, val_main_v21, val_main_v20]

theorem trunkX (b : Fin 4) (r : Fin 2048) (l : Fin 2048) :
    val_main_v25 (F := Ideal) x0 x2 x3 x4 (ix3 b r l) = trunk (rowX x0 b r) (rowG x2) (rowW x3) (rowD x4) l := by
  have hD : ∀ q, val_main_v18 (F := Ideal) x4 (ix2 q l) = rowD x4 q l := fun q => by
    unfold rowD
    pointwise [val_main_v18, val_main_v17]
  unfold trunk
  rw [← Finset.sum_congr rfl fun q _ => congrArg₂ (· * ·) (hidX x0 x2 x3 b r q) (hD q)]
  pointwise [val_main_v25, val_main_v24]
  rfl

/-- The reference's prompts, at an index. -/
theorem resX (r : Fin 8192) (l : Fin 2048) : val_main_v26 (F := Ideal) x0 x2 x3 x4 (ix2 r l) = trunk (rowX x0 ⟨r.val / 2048, by omega⟩ ⟨r.val % 2048, by omega⟩) (rowG x2) (rowW x3) (rowD x4) l := by
  refine Eq.trans ?_ (trunkX x0 x2 x3 x4 ⟨r.val / 2048, by omega⟩ ⟨r.val % 2048, by omega⟩ l)
  unfold val_main_v26
  refine shapeCast_apply _ _ _ _ ?_
  rw [Shape.rowMajor_val_two]
  refine (Shape.rowMajor_val_three _).trans ?_
  show (r.val / 2048 * 2048 + r.val % 2048) * 2048 + l.val = r.val * 2048 + l.val
  omega

theorem normS (b : Fin 8) (r : Fin 1) (l : Fin 2048) : val_main_v41 (F := Ideal) x1 x2 (ix3 b r l) = nrmRow (rowS x1 b r) (rowG x2) l := by
  obtain rfl : r = 0 := Subsingleton.elim _ _
  unfold nrmRow rowS rowG
  pointwise [val_main_v41, val_main_v40, val_main_v39, val_main_v38, val_main_v37, val_main_v36, val_main_v35, val_main_v34, val_main_cst_4, val_main_v33, val_main_v32, val_main_cst_3, val_main_v31, val_main_v30, val_main_cst_2, val_main_v29, val_main_v28, val_main_v27]

theorem upS (b : Fin 8) (r : Fin 1) (q : Fin 11264) :
    val_main_v46 (F := Ideal) x1 x2 x3 (ix3 b r q) = ∑ k, nrmRow (rowS x1 b r) (rowG x2) k * rowW x3 k q := by
  obtain rfl : r = 0 := Subsingleton.elim _ _
  have hW : ∀ k, val_main_v43 (F := Ideal) x3 (ix2 k q) = rowW x3 k q := fun k => by
    unfold rowW
    pointwise [val_main_v43, val_main_v42]
  rw [← Finset.sum_congr rfl fun k _ => congrArg₂ (· * ·) (normS x1 x2 b 0 k) (hW k)]
  pointwise [val_main_v46]

theorem hidS (b : Fin 8) (r : Fin 1) (q : Fin 5632) :
    val_main_v50 (F := Ideal) x1 x2 x3 (ix3 b r q) = hid (nrmRow (rowS x1 b r) (rowG x2)) (fun k => rowW x3 k ⟨q.val, by omega⟩) (fun k => rowW x3 k ⟨5632 + q.val, by omega⟩) := by
  obtain rfl : r = 0 := Subsingleton.elim _ _
  unfold hid Ideal.logistic
  rw [← upS x1 x2 x3 b 0 ⟨q.val, by omega⟩, ← upS x1 x2 x3 b 0 ⟨5632 + q.val, by omega⟩, ← one_bits]
  pointwise [val_main_v50, val_main_v49, val_main_call1_v5, val_main_call1_v4, val_main_call1_cst_0, val_main_call1_v3, val_main_call1_v2, val_main_call1_cst, val_main_call1_v1, val_main_call1_v0, val_main_v48, val_main_v47]

theorem trunkS (b : Fin 8) (r : Fin 1) (l : Fin 2048) :
    val_main_v52 (F := Ideal) x1 x2 x3 x4 (ix3 b r l) = trunk (rowS x1 b r) (rowG x2) (rowW x3) (rowD x4) l := by
  obtain rfl : r = 0 := Subsingleton.elim _ _
  have hD : ∀ q, val_main_v45 (F := Ideal) x4 (ix2 q l) = rowD x4 q l := fun q => by
    unfold rowD
    pointwise [val_main_v45, val_main_v44]
  unfold trunk
  rw [← Finset.sum_congr rfl fun q _ => congrArg₂ (· * ·) (hidS x1 x2 x3 b 0 q) (hD q)]
  pointwise [val_main_v52, val_main_v51]
  rfl

/-- The reference's samples, at an index. -/
theorem resS (r : Fin 8) (l : Fin 2048) : val_main_v53 (F := Ideal) x1 x2 x3 x4 (ix2 r l) = trunk (rowS x1 r 0) (rowG x2) (rowW x3) (rowD x4) l := by
  refine Eq.trans ?_ (trunkS x1 x2 x3 x4 r 0 l)
  pointwise [val_main_v53]

end Cert.Ffn0Ref

end
-- ==== Proof.FfnClaim0.lean ====
/- The feed-forward block of layer 0 and its reference end with equal results. -/
module

public import proofs.«01_k».proof.Defs
public import proofs.«01_k».proof.Proof.FfnOut0
public import proofs.«01_k».proof.Proof.FfnRef0
public import proofs.«01_k».proof.Proof.Gen.Ffn0.Frame

@[expose] public section

set_option maxRecDepth 16384

noncomputable section

namespace Cert.Ffn0Proof

open Idealize.ShloMosaic Idealize.ShloMosaic.TcCoe Idealize.SL.Sem

/-- The reference leaves its arguments alone. -/
theorem ref_frame : quiescent_Ffn0RefIdeal := fun m g _ =>
  (θ_run _ _ _).mono (fun r h => ⟨fun c => (h c).2.2, sem_eq_zero_of_no_sems rfl r.2⟩) (Ffn0RefIdeal.Value.run m g)

section

variable {F : FTy → Type} [FloatOps F]

attribute [local instance] Ffn0.Gen.facts Ffn0Ideal.Gen.facts

/-- The two printings of the kernel have the same body. -/
theorem bodies : Ffn0.defs₀ (F := F) = Ffn0Ideal.defs₀ (F := F) := by
  refine congrArg Defs.onTc (funext fun n => funext fun a => ?_)
  match n, a with
  | ⟨0, _⟩, (t, s) => rfl

/-- So they have the same table. -/
theorem tables : Ffn0.defs (F := F) = Ffn0Ideal.defs (F := F) :=
  congrArg (Pipeline.defs (Ffn0Ideal.pcfgs (F := F))) bodies

/-- The kernel leaves its arguments alone: the one run, at the machine's floats. -/
theorem kernel_frame : quiescent_Ffn0 := fun m g _ => by
  have h := Ffn0Val.frame (F := Bits) m g
  rw [← tables] at h
  exact h

end

/-- The kernel over the reals leaves its arguments alone. -/
theorem frame : quiescent_Ffn0Ideal := fun m g _ => Ffn0Val.frame m g

/-- The kernel over the reals computes what the reference does. -/
theorem algebraic : algebraic_Ffn0Ideal_Ffn0RefIdeal := by
  intro m g m' g' _ ha
  refine ⟨fun c => Ffn0Val.whole0 m c, fun c => Ffn0Val.whole1 m c, ?_, ?_⟩
  · exact (θ_run _ _ _).mono (fun r h c => ⟨((h.1.1 c).1 7).trans (Ffn0Val.arr7 m c), ((h.1.1 c).1 8).trans (Ffn0Val.arr8 m c), h.2.1 c⟩)
      (θ_run_and (Ffn0Val.run_main m g) (Ffn0Val.frame m g))
  · refine (θ_run _ _ _).mono (fun r h c => ⟨(h c).1.trans ?_, (h c).2.1.trans ?_, (h c).2.2⟩) (Ffn0RefIdeal.Value.run m' g')
    · rw [Ffn0RefIdeal.Read.val_main_v26_eq, (ha c).1, (ha c).2.2.1, (ha c).2.2.2.1, (ha c).2.2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Ffn0Ref.resX _ _ _ _ r l
    · rw [Ffn0RefIdeal.Read.val_main_v53_eq, (ha c).2.1, (ha c).2.2.1, (ha c).2.2.2.1, (ha c).2.2.2.2.1]
      funext y
      obtain ⟨r, l, rfl⟩ : ∃ (r : Fin 8) (l : Fin 2048), y = ix2 r l := ⟨y 0, y 1, funext fun a => match a with | ⟨0, _⟩ => rfl | ⟨1, _⟩ => rfl⟩
      exact Ffn0Ref.resS _ _ _ _ r l

end Cert.Ffn0Proof

end
-- ==== Proof.FfnDat1.lean ====
/- The feed-forward call of layer 1: what every buffer holds after every point of the grid, and the run of the whole call. -/
module

public import proofs.«01_k».proof.Proof.Gen.Ffn1Ideal.Frame
public import proofs.«01_k».proof.Proof.Gen.Ffn1Ideal.Skeleton
public import proofs.«01_k».proof.Proof.FfnRun0
public import Idealize.ShloMosaic.Lib.Claim

@[expose] public section

set_option maxRecDepth 16384

noncomputable section

namespace Cert.Ffn1Val

open Cert.Ffn1Ideal Cert.Ffn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 22) — by arithmetic of the point. -/
theorem hcond0_0 : ∀ t : Fin cfg0.N, cond0_0 (grid0.coords t) ↔ t.val % 22 = 0 := Ffn0Val.hcond0_0

/-- The condition of the body's `scf.if` 1 (`k0_h2`), from the grid coordinates (the skeleton's scalar
    chain substituted). -/
abbrev cond0_1 (i : grid0.Coords) : Prop := k0_cond2 i = 1#1
/-- It holds at the points before point 22 — by arithmetic of the point. -/
theorem hcond0_1 : ∀ t : Fin cfg0.N, cond0_1 (grid0.coords t) ↔ t.val < 22 := Ffn0Val.hcond0_1

/-- The condition of the body's `scf.if` 2 (`k0_h3`), from the grid coordinates (the skeleton's scalar
    chain substituted). -/
abbrev cond0_2 (i : grid0.Coords) : Prop := k0_cond3 i = 1#1
/-- It holds at the points ≡ 0 (mod 22) — by arithmetic of the point. -/
theorem hcond0_2 : ∀ t : Fin cfg0.N, cond0_2 (grid0.coords t) ↔ t.val % 22 = 0 := Ffn0Val.hcond0_2

/-! ## The staging memrefs -/

/-- Each window's current staging memref at point `t`, spelled as the pipeline passes it (`bodyAt0`), and its wholeness. -/
abbrev ms0_0 (t : Fin cfg0.N) : 𝔹 S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x2048 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : 𝔹 S1024x2048 .bf16 := Memref.whole cc0_scratch0
abbrev scM0_1 : 𝔹 S8x2048 .f32 := Memref.whole cc0_scratch1

/-- The frame kit's invariant with the scratch operands as memrefs owned at some contents (`Gen.scopedRest0_eq`,
    Lib/Memref.lean `owns_whole`): as the body finds and leaves it. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## What the body computes -/

/-- The normalised rows. -/
abbrev nrm (x : Vec F S1024x2048 .f32) (g : Vec F S1x2048 .f32) : Vec F S1024x2048 .bf16 := k0_pay2 x g
/-- What the accumulator starts from. -/
abbrev ini (x : Vec F S1024x2048 .f32) : Vec F S1024x2048 .f32 := k0_pay1 x
/-- The accumulator after one more tile of the hidden width. -/
abbrev acc (n : Vec F S1024x2048 .bf16) (wa wb : Vec F S1x2048x256 .f32) (o : Vec F S1024x2048 .f32) (wd : Vec F S1x256x2048 .f32) : Vec F S1024x2048 .f32 := k0_pay3 n wa wb o wd
/-- What the last tile's point does to the accumulator. -/
abbrev fin (o : Vec F S1024x2048 .f32) (gf : Vec F S1x2048 .f32) : Vec F S1024x2048 .f32 := o
/-- The same four for the sample rows. -/
abbrev nrmS (x : Vec F S8x2048 .f32) (g : Vec F S1x2048 .f32) : Vec F S8x2048 .f32 := k0_pay5 x g
abbrev iniS (x : Vec F S8x2048 .f32) : Vec F S8x2048 .f32 := k0_pay4 x
abbrev accS (n : Vec F S8x2048 .f32) (wa wb : Vec F S1x2048x256 .f32) (o : Vec F S8x2048 .f32) (wd : Vec F S1x256x2048 .f32) : Vec F S8x2048 .f32 := k0_pay6 n wa wb o wd
abbrev finS (o : Vec F S8x2048 .f32) (gf : Vec F S1x2048 .f32) : Vec F S8x2048 .f32 := o

/-- The body is the one of layer 0; -/
theorem body_eq : cc0_ffn2 (F := F) = Ffn0Val.body Λ₀ := rfl
/-- so it leaves what that one leaves. -/
abbrev Leaves := @Ffn0Val.Leaves F _ _ (defs₀ (F := F))

/-! ## What the buffers hold after each point -/

/-- The normalised rows held after point `n`: those of the block of rows the point is in. -/
def xnAt (c : Dev nD) : (n : ℕ) → n < cfg0.N → Vec F S1024x2048 .bf16
  | 0, h => nrm (iblk m c 3 ⟨0, h⟩) (iblk m c 4 ⟨0, h⟩)
  | n + 1, h => if (n + 1) % 22 = 0 then nrm (iblk m c 3 ⟨n + 1, h⟩) (iblk m c 4 ⟨n + 1, h⟩) else xnAt c n (by omega)

/-- One point's update of the accumulator, from what it started with. -/
def stepO (c : Dev nD) (t : Fin cfg0.N) (o : Vec F S1024x2048 .f32) : Vec F S1024x2048 .f32 :=
  acc (xnAt m c t.val t.isLt) (iblk m c 0 t) (iblk m c 1 t) o (iblk m c 2 t)

/-- The prompt rows' result buffer after point `n`. -/
def oAt (c : Dev nD) : (n : ℕ) → n < cfg0.N → Vec F S1024x2048 .f32
  | 0, h => stepO m c ⟨0, h⟩ (ini (iblk m c 3 ⟨0, h⟩))
  | n + 1, h =>
    if (n + 1) % 22 = 0 then stepO m c ⟨n + 1, h⟩ (ini (iblk m c 3 ⟨n + 1, h⟩))
    else if (n + 1) % 22 = 21 then fin (stepO m c ⟨n + 1, h⟩ (oAt c n (by omega))) (iblk m c 5 ⟨n + 1, h⟩)
    else stepO m c ⟨n + 1, h⟩ (oAt c n (by omega))

/-- The sample rows normalised, held from the first point on. -/
def xsn (c : Dev nD) : Vec F S8x2048 .f32 := nrmS (iblk m c 6 ⟨0, by decide⟩) (iblk m c 4 ⟨0, by decide⟩)

/-- One point's update of the sample rows' accumulator. -/
def stepS (c : Dev nD) (t : Fin cfg0.N) (o : Vec F S8x2048 .f32) : Vec F S8x2048 .f32 :=
  accS (xsn m c) (iblk m c 0 t) (iblk m c 1 t) o (iblk m c 2 t)

/-- The sample rows' result buffer after point `n`: complete after the first block of prompt rows, untouched from there. -/
def osAt (c : Dev nD) : (n : ℕ) → n < cfg0.N → Vec F S8x2048 .f32
  | 0, h => stepS m c ⟨0, h⟩ (iniS (iblk m c 6 ⟨0, h⟩))
  | n + 1, h =>
    if n + 1 < 22 then
      if n + 1 = 21 then finS (stepS m c ⟨n + 1, h⟩ (osAt c n (by omega))) (iblk m c 5 ⟨n + 1, h⟩)
      else stepS m c ⟨n + 1, h⟩ (osAt c n (by omega))
    else osAt c n (by omega)

/-- The point before. -/
abbrev prev (t : Fin cfg0.N) : Fin cfg0.N := ⟨t.val - 1, Nat.lt_of_le_of_lt (Nat.sub_le _ _) t.isLt⟩

theorem xnAt_first (c : Dev nD) (t : Fin cfg0.N) (h : t.val % 22 = 0) :
    xnAt m c t.val t.isLt = nrm (iblk m c 3 t) (iblk m c 4 t) := by
  obtain ⟨n, hn⟩ := t
  cases n with
  | zero => rfl
  | succ n => exact (if_pos h : xnAt m c (n + 1) hn = _)
theorem xnAt_next (c : Dev nD) (t : Fin cfg0.N) (h : ¬t.val % 22 = 0) :
    xnAt m c t.val t.isLt = xnAt m c (prev t).val (prev t).isLt := by
  obtain ⟨n, hn⟩ := t
  cases n with
  | zero => exact absurd rfl h
  | succ n => exact (if_neg h : xnAt m c (n + 1) hn = _)
theorem oAt_first (c : Dev nD) (t : Fin cfg0.N) (h : t.val % 22 = 0) :
    oAt m c t.val t.isLt = stepO m c t (ini (iblk m c 3 t)) := by
  obtain ⟨n, hn⟩ := t
  cases n with
  | zero => rfl
  | succ n => exact (if_pos h : oAt m c (n + 1) hn = _)
theorem oAt_next (c : Dev nD) (t : Fin cfg0.N) (h : ¬t.val % 22 = 0) (h' : ¬t.val % 22 = 21) :
    oAt m c t.val t.isLt = stepO m c t (oAt m c (prev t).val (prev t).isLt) := by
  obtain ⟨n, hn⟩ := t
  cases n with
  | zero => exact absurd rfl h
  | succ n => exact (if_neg h : oAt m c (n + 1) hn = _).trans (if_neg h')
theorem oAt_last (c : Dev nD) (t : Fin cfg0.N) (h' : t.val % 22 = 21) :
    oAt m c t.val t.isLt = fin (stepO m c t (oAt m c (prev t).val (prev t).isLt)) (iblk m c 5 t) := by
  obtain ⟨n, hn⟩ := t
  cases n with
  | zero => exact absurd h' (by simp)
  | succ n => exact (if_neg (by simp only at h'; omega) : oAt m c (n + 1) hn = _).trans (if_pos h')
theorem osAt_first (c : Dev nD) (t : Fin cfg0.N) (h : t.val = 0) :
    osAt m c t.val t.isLt = stepS m c t (iniS (iblk m c 6 t)) := by
  obtain ⟨n, hn⟩ := t
  cases n with
  | zero => rfl
  | succ n => exact absurd h (by simp)
theorem osAt_next (c : Dev nD) (t : Fin cfg0.N) (h0 : t.val ≠ 0) (h : t.val < 22) (h' : t.val ≠ 21) :
    osAt m c t.val t.isLt = stepS m c t (osAt m c (prev t).val (prev t).isLt) := by
  obtain ⟨n, hn⟩ := t
  cases n with
  | zero => exact absurd rfl h0
  | succ n => exact (if_pos h : osAt m c (n + 1) hn = _).trans (if_neg h')
theorem osAt_last (c : Dev nD) (t : Fin cfg0.N) (h' : t.val = 21) :
    osAt m c t.val t.isLt = finS (stepS m c t (osAt m c (prev t).val (prev t).isLt)) (iblk m c 5 t) := by
  obtain ⟨n, hn⟩ := t
  cases n with
  | zero => exact absurd h' (by simp)
  | succ n => exact (if_pos (by simp only at h'; omega) : osAt m c (n + 1) hn = _).trans (if_pos h')
theorem osAt_kept (c : Dev nD) (t : Fin cfg0.N) (h : ¬t.val < 22) :
    osAt m c t.val t.isLt = osAt m c (prev t).val (prev t).isLt := by
  obtain ⟨n, hn⟩ := t
  cases n with
  | zero => exact absurd (by simp) h
  | succ n => exact (if_neg h : osAt m c (n + 1) hn = _)

theorem oAt_step (c : Dev nD) (t : Fin cfg0.N) (h : ¬t.val % 22 = 0) :
    oAt m c t.val t.isLt = stepO m c t (oAt m c (prev t).val (prev t).isLt) := by
  by_cases h' : t.val % 22 = 21
  · exact oAt_last m c t h'
  · exact oAt_next m c t h h'
theorem osAt_step (c : Dev nD) (t : Fin cfg0.N) (h0 : t.val ≠ 0) (h : t.val < 22) :
    osAt m c t.val t.isLt = stepS m c t (osAt m c (prev t).val (prev t).isLt) := by
  by_cases h' : t.val = 21
  · exact osAt_last m c t h'
  · exact osAt_next m c t h0 h h'

/-! ## The proof data -/

/-- The invariant at a point: before the first, the call's own buffers hold anything; after one, the normalised rows. -/
def PhiS (c : Dev nD) : (n : ℕ) → n < cfg0.N + 1 → sProp 𝕄
  | 0, _ => Pipeline.ΦA spec0 c
  | n + 1, h => iprop(iprop(owns c.tc scM0_0 fullShare (xnAt m c n (by omega)) ∗ owns c.tc scM0_1 fullShare (xsn m c)) ∗ ∃ r, prngReg c r)

theorem PhiS_pos (c : Dev nD) (n : ℕ) (h : n < cfg0.N + 1) (h0 : n ≠ 0) :
    PhiS m c n h = iprop(iprop(owns c.tc scM0_0 fullShare (xnAt m c (n - 1) (by omega)) ∗ owns c.tc scM0_1 fullShare (xsn m c)) ∗ ∃ r, prngReg c r) := by
  cases n with
  | zero => exact absurd rfl h0
  | succ n => rfl

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t.val t.isLt
    | ⟨8, _⟩ => osAt m c t.val t.isLt
  Φ t := PhiS m c t.val t.isLt
  q w := Pipeline.shareOf spec0 w
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t.val t.isLt := by dsimp only [dats]
theorem after0_8 (c : Dev nD) (t : Fin cfg0.N) : (dats m 0 c).after 8 t = osAt m c t.val t.isLt := by dsimp only [dats]

/-- The sample rows' window is touched at the points of the first block of prompt rows only. -/
theorem idle0_8 : ∀ t : Fin cfg0.N, cfg0.idle 8 (grid0.coords t) = !decide (t.val < 22) := by decide +kernel

/-- Between the tiles of one block of rows the accumulator is what the point before left. -/
theorem before0_7 (c : Dev nD) (t : Fin cfg0.N) (h0 : ¬t.val % 22 = 0) (d) :
    (dats m 0 c).before 7 t d = oAt m c (prev t).val (prev t).isLt := by
  rw [(dats m 0 c).before_of_pos 7 t (fun h => h0 (by rw [h])) rfl d,
    if_neg (fun h => absurd ((flush0_7 _).mp h) (by simp only; have := t.isLt; omega))]
  unfold Dat.left
  rw [show cfg0.idle 7 (cfg0.grid.coords (prev t)) = false from rfl]
  unfold Dat.kept
  show (cfg0.win 7).fill _ d _ = _
  rw [Pipeline.fill_of_clip_none 7 _ (fun _ => rfl) d ((dats m 0 c).after 7 (prev t)), Window.fill_cut, after0_7]

/-- From the second point on the sample rows' buffer is what the point before left. -/
theorem before0_8 (c : Dev nD) : ∀ (n : ℕ) (h : n < cfg0.N) (h0 : n ≠ 0) (d),
    (dats m 0 c).before 8 ⟨n, h⟩ d = osAt m c (n - 1) (by omega) := by
  intro n
  induction n using Nat.strong_induction_on with
  | _ n ih =>
    intro h h0 d
    have hN : n < 176 := lt_of_lt_of_eq h (show cfg0.N = 176 from N_0)
    rw [(dats m 0 c).before_of_pos 8 ⟨n, h⟩ h0 rfl d,
      if_neg (fun h => absurd ((flush0_8 _).mp h) (by simp only; omega))]
    unfold Dat.left
    by_cases hl : n - 1 < 22
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact (ih (n - 1) (by omega) (by omega) (by omega) d).trans (osAt_kept m c ⟨n - 1, by omega⟩ hl).symm

/-- What the body has to leave in the sample rows' buffer: the closed form, at every point. -/
theorem leaves8 (c : Dev nD) (t : Fin cfg0.N) :
    (owns c.tc (ms0_8 t) fullShare (osAt m c t.val t.isLt) : sProp 𝕄) ⊢ (dats m 0 c).leavesExact 8 t := by
  have hN : t.val < 176 := lt_of_lt_of_eq t.isLt (show cfg0.N = 176 from N_0)
  by_cases hl : t.val < 22
  · unfold Dat.leavesExact
    rw [show cfg0.idle 8 (cfg0.grid.coords t) = false from (idle0_8 t).trans (by simp [hl])]
    dsimp only
    rw [after0_8]
  · by_cases hf : t.val % 176 = 175
    · unfold Dat.leavesExact
      rw [show cfg0.idle 8 (cfg0.grid.coords t) = true from (idle0_8 t).trans (by simp [hl]), show (cfg0.win 8).flush t = true from (flush0_8 t).mpr hf]
      dsimp only
      rw [after0_8]
    · rw [(dats m 0 c).leavesExact_idle 8 t ((idle0_8 t).trans (by simp [hl])) (Bool.eq_false_iff.mpr fun h => hf ((flush0_8 t).mp h))]
      iintro H
      iexists osAt m c t.val t.isLt
      rw [show (dats m 0 c).before 8 t (osAt m c t.val t.isLt) = osAt m c t.val t.isLt from (before0_8 m c t.val t.isLt (by omega) _).trans (osAt_kept m c t hl).symm]
      iexact H

/-! ## The body at any point -/

/-- Every point takes what the point before left to the closed forms. -/
theorem step (c : Dev nD) (t : Fin cfg0.N) (y7 : Vec F S1024x2048 .f32) (y8 : Vec F S8x2048 .f32) (L : Vec F S1024x2048 .bf16) (S : Vec F S8x2048 .f32)
    (h7 : ¬t.val % 22 = 0 → y7 = oAt m c (prev t).val (prev t).isLt) (h8 : t.val ≠ 0 → y8 = osAt m c (prev t).val (prev t).isLt)
    (hL : t.val ≠ 0 → L = xnAt m c (prev t).val (prev t).isLt) (hS : t.val ≠ 0 → S = xsn m c) :
    Leaves c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t) y7 y8 L S (oAt m c t.val t.isLt) (osAt m c t.val t.isLt) (xnAt m c t.val t.isLt) (xsn m c) := by
  by_cases h0 : t.val % 22 = 0
  · have E7 := oAt_first m c t h0
    unfold stepO at E7
    rw [E7, xnAt_first m c t h0]
    by_cases h2 : t.val < 22
    · have e0 : t.val = 0 := by omega
      have E10 : xsn m c = nrmS (iblk m c 6 t) (iblk m c 4 t) := by unfold xsn; rw [show (⟨0, by decide⟩ : Fin cfg0.N) = t from Fin.ext e0.symm]
      have E8 := osAt_first m c t e0
      unfold stepS at E8
      rw [E8, E10]
      exact Ffn0Val.run_A (F := F) defs₀ c _ _ _ _ _ _ _ _ _ _ _ _ _ _ _ _ _ _ _ _ _ _ _ _ _ _ _ _ _ _ _ _ _ _ ((hcond0_0 t).mpr h0) ((hcond0_1 t).mpr h2) ((hcond0_2 t).mpr h0)
    · have e0 : t.val ≠ 0 := by omega
      rw [osAt_kept m c t h2, hS e0, h8 e0]
      exact Ffn0Val.run_D (F := F) defs₀ c _ _ _ _ _ _ _ _ _ _ _ _ _ _ _ _ _ _ _ _ _ _ _ _ _ _ _ _ _ _ _ _ _ _ ((hcond0_0 t).mpr h0) (fun h => h2 ((hcond0_1 t).mp h))
  · have e0 : t.val ≠ 0 := by omega
    have E7 := oAt_step m c t h0
    unfold stepO at E7
    rw [E7, xnAt_next m c t h0, h7 h0, h8 e0, hL e0, hS e0]
    by_cases h2 : t.val < 22
    · have E8 := osAt_step m c t e0 h2
      unfold stepS at E8
      rw [E8]
      exact Ffn0Val.run_B (F := F) defs₀ c _ _ _ _ _ _ _ _ _ _ _ _ _ _ _ _ _ _ _ _ _ _ _ _ _ _ _ _ _ _ _ _ _ _ (fun h => h0 ((hcond0_0 t).mp h)) ((hcond0_1 t).mpr h2) (fun h => h0 ((hcond0_2 t).mp h))
    · rw [osAt_kept m c t h2]
      exact Ffn0Val.run_E (F := F) defs₀ c _ _ _ _ _ _ _ _ _ _ _ _ _ _ _ _ _ _ _ _ _ _ _ _ _ _ _ _ _ _ _ _ _ _ (fun h => h0 ((hcond0_0 t).mp h)) (fun h => h2 ((hcond0_1 t).mp h))

/-- Before any point the call's own buffers hold something, and from the second on what the point before left. -/
theorem PhiS_open (c : Dev nD) (t : Fin cfg0.N) : PhiS m c t.val (Nat.lt_succ_of_lt t.isLt) ⊢
    iprop((∃ L, ∃ S, ⌜(t.val ≠ 0 → L = xnAt m c (prev t).val (prev t).isLt) ∧ (t.val ≠ 0 → S = xsn m c)⌝ ∗ owns c.tc scM0_0 fullShare L ∗ owns c.tc scM0_1 fullShare S) ∗ ∃ r, prngReg c r) := by
  by_cases e0 : t.val = 0
  · rw [show PhiS m c t.val (Nat.lt_succ_of_lt t.isLt) = Pipeline.ΦA spec0 c from by simp only [e0]; rfl, PhiA0_eq]
    iintro ⟨⟨⟨%L, HS0⟩, ⟨%S, HS1⟩⟩, Hg⟩
    isplitl [HS0 HS1]
    · iexists L; iexists S
      isplitr; · ipureintro; exact ⟨fun h => absurd e0 h, fun h => absurd e0 h⟩
      isplitl [HS0]; · iexact HS0
      iexact HS1
    iexact Hg
  · rw [PhiS_pos m c t.val _ e0]
    iintro ⟨⟨HS0, HS1⟩, Hg⟩
    isplitl [HS0 HS1]
    · iexists _; iexists _
      isplitr; · ipureintro; exact ⟨fun _ => rfl, fun _ => rfl⟩
      isplitl [HS0]; · iexact HS0
      iexact HS1
    iexact Hg

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val (Nat.lt_succ_of_lt t.isLt) from rfl,
    show (dats m 0 c).Φ t.succ = iprop(iprop(owns c.tc scM0_0 fullShare (xnAt m c t.val t.isLt) ∗ owns c.tc scM0_1 fullShare (xsn m c)) ∗ ∃ r, prngReg c r) from rfl]
  refine (sep_mono (PhiS_open m c t) .rfl).trans ?_
  iintro ⟨⟨⟨%L, %S, %hLS, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hrun := step m c t ((dats m 0 c).before 7 t d7) ((dats m 0 c).before 8 t d8) L S (fun h => before0_7 m c t h d7) (fun h => before0_8 m c t.val t.isLt h d8) hLS.1 hLS.2
  rw [body_eq]
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => by
      rw [show (dats m 0 c).Φ (Fin.last cfg0.N) = PhiS m c cfg0.N (by omega) from rfl, PhiS_pos m c cfg0.N _ (by decide), PhiA0_eq]
      iintro ⟨⟨HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn1Val

end
-- ==== Proof.FfnOut1.lean ====
/- The feed-forward call of layer 1: its two results, at an index. -/
module

public import proofs.«01_k».proof.Proof.FfnDat1
public import proofs.«01_k».proof.Proof.FfnOut0

@[expose] public section

set_option maxRecDepth 16384

noncomputable section

namespace Cert.Ffn1Val

open Idealize.ShloMosaic Idealize.ShloMosaic.TcCoe Idealize.SL.Sem
open Idealize.ShloMosaic.Pipeline (Dat)
open Cert.Ffn1Ideal Cert.Ffn1Ideal.Gen Cert.Ffn

/-! ## One point's work, at an index -/

theorem nrm_at (x : Vec Ideal S1024x2048 .f32) (g : Vec Ideal S1x2048 .f32) (r : Fin 1024) (l : Fin 2048) :
    nrm x g (ix2 r l) = nrmRow (fun k => x (ix2 r k)) (fun k => g (ix2 0 k)) l :=
  Ffn0Val.nrm_at x g r l
theorem ini_at (x : Vec Ideal S1024x2048 .f32) (r : Fin 1024) (l : Fin 2048) : ini x (ix2 r l) = x (ix2 r l) :=
  Ffn0Val.ini_at x r l
theorem acc_at (n : Vec Ideal S1024x2048 .bf16) (wa wb : Vec Ideal S1x2048x256 .f32) (o : Vec Ideal S1024x2048 .f32) (wd : Vec Ideal S1x256x2048 .f32) (r : Fin 1024) (l : Fin 2048) :
    acc n wa wb o wd (ix2 r l)
      = o (ix2 r l) + ∑ q : Fin 256, hid (fun k => n (ix2 r k)) (fun k => wa (ix3 0 k q)) (fun k => wb (ix3 0 k q)) * wd (ix3 0 q l) :=
  Ffn0Val.acc_at n wa wb o wd r l
theorem nrmS_at (x : Vec Ideal S8x2048 .f32) (g : Vec Ideal S1x2048 .f32) (r : Fin 8) (l : Fin 2048) :
    nrmS x g (ix2 r l) = nrmRow (fun k => x (ix2 r k)) (fun k => g (ix2 0 k)) l :=
  Ffn0Val.nrmS_at x g r l
theorem iniS_at (x : Vec Ideal S8x2048 .f32) (r : Fin 8) (l : Fin 2048) : iniS x (ix2 r l) = x (ix2 r l) :=
  Ffn0Val.iniS_at x r l
theorem accS_at (n : Vec Ideal S8x2048 .f32) (wa wb : Vec Ideal S1x2048x256 .f32) (o : Vec Ideal S8x2048 .f32) (wd : Vec Ideal S1x256x2048 .f32) (r : Fin 8) (l : Fin 2048) :
    accS n wa wb o wd (ix2 r l)
      = o (ix2 r l) + ∑ q : Fin 256, hid (fun k => n (ix2 r k)) (fun k => wa (ix3 0 k q)) (fun k => wb (ix3 0 k q)) * wd (ix3 0 q l) :=
  Ffn0Val.accS_at n wa wb o wd r l

variable (m : (ℓ : Loc nD τ sig) → Buf (Elt Ideal) ℓ)

/-! ## The arguments, a row at a time -/

/-- Row `r` of the prompts' rows, the batches one after another. -/
def arrX (c : Dev nD) (r : Fin 8192) : Fin 2048 → EReal := fun l => m (c.tc.loc main_arg0) (ix3 ⟨r.val / 2048, by omega⟩ ⟨r.val % 2048, by omega⟩ l)
/-- Row `r` of the samples' rows. -/
def arrS (c : Dev nD) (r : Fin 8) : Fin 2048 → EReal := fun l => m (c.tc.loc main_arg1) (ix3 r 0 l)
/-- The layer's scale of the normalisation. -/
def arrG (c : Dev nD) : Fin 2048 → EReal := fun l => m (c.tc.loc main_arg2) (ix2 1 l)
/-- The layer's upward weights. -/
def arrW (c : Dev nD) : Fin 2048 → Fin 11264 → EReal := fun k q => m (c.tc.loc main_arg3) (ix3 1 k q)
/-- The layer's downward weights. -/
def arrD (c : Dev nD) : Fin 5632 → Fin 2048 → EReal := fun q l => m (c.tc.loc main_arg4) (ix3 1 q l)
/-- The scale of the last normalisation. -/
def arrF (c : Dev nD) : Fin 2048 → EReal := fun l => m (c.tc.loc main_arg5) (ix1 l)

/-! ## Where the windows are -/

theorem at0 : ∀ t : Fin cfg0.N, win0_0.index t 0 = 1 ∧ win0_0.index t 1 = 0 ∧ win0_0.index t 2 = t.val % 22 := by decide +kernel
theorem at1 : ∀ t : Fin cfg0.N, win0_1.index t 0 = 1 ∧ win0_1.index t 1 = 0 ∧ win0_1.index t 2 = 22 + t.val % 22 := by decide +kernel
theorem at2 : ∀ t : Fin cfg0.N, win0_2.index t 0 = 1 ∧ win0_2.index t 1 = t.val % 22 ∧ win0_2.index t 2 = 0 := by decide +kernel
theorem at3 : ∀ t : Fin cfg0.N, win0_3.index t 0 = t.val / 22 ∧ win0_3.index t 1 = 0 := Ffn0Val.at3
theorem at4 : ∀ t : Fin cfg0.N, win0_4.index t 0 = 0 ∧ win0_4.index t 1 = 0 := Ffn0Val.at4
theorem at5 : ∀ t : Fin cfg0.N, win0_5.index t 0 = 0 ∧ win0_5.index t 1 = 0 := Ffn0Val.at5
theorem at6 : ∀ t : Fin cfg0.N, win0_6.index t 0 = 0 ∧ win0_6.index t 1 = 0 := Ffn0Val.at6
theorem at7 : ∀ t : Fin cfg0.N, win0_7.index t 0 = t.val / 22 ∧ win0_7.index t 1 = 0 := Ffn0Val.at7
theorem at8 : ∀ t : Fin cfg0.N, win0_8.index t 0 = 0 ∧ win0_8.index t 1 = 0 := Ffn0Val.at8

theorem lt176 (t : Fin cfg0.N) : t.val < 176 := lt_of_lt_of_eq t.isLt (show cfg0.N = 176 from N_0)

/-! ## The blocks -/

theorem blk0 (c : Dev nD) (t : Fin cfg0.N) (k : Fin 2048) (q : Fin 256) :
    iblk m c 0 t (ix3 0 k q) = arrW m c k ⟨t.val % 22 * 256 + q.val, by have := lt176 t; omega⟩ := by
  unfold iblk arrW
  rw [show V m c (Pipeline.arrRef spec0 0) = m (c.tc.loc main_arg3) from V_main_arg3 m c]
  refine congrArg (m (c.tc.loc main_arg3)) (funext fun a => Fin.ext ?_)
  match a with
  | ⟨0, _⟩ => blk_simp; rw [(at0 t).1]; rfl
  | ⟨1, _⟩ => blk_simp; rw [(at0 t).2.1]; show 0 * 2048 + k.val = k.val; omega
  | ⟨2, _⟩ => blk_simp; rw [(at0 t).2.2]
theorem blk1 (c : Dev nD) (t : Fin cfg0.N) (k : Fin 2048) (q : Fin 256) :
    iblk m c 1 t (ix3 0 k q) = arrW m c k ⟨5632 + (t.val % 22 * 256 + q.val), by have := lt176 t; omega⟩ := by
  unfold iblk arrW
  rw [show V m c (Pipeline.arrRef spec0 1) = m (c.tc.loc main_arg3) from V_main_arg3 m c]
  refine congrArg (m (c.tc.loc main_arg3)) (funext fun a => Fin.ext ?_)
  match a with
  | ⟨0, _⟩ => blk_simp; rw [(at1 t).1]; rfl
  | ⟨1, _⟩ => blk_simp; rw [(at1 t).2.1]; show 0 * 2048 + k.val = k.val; omega
  | ⟨2, _⟩ => blk_simp; rw [(at1 t).2.2]; show (22 + t.val % 22) * 256 + q.val = 5632 + (t.val % 22 * 256 + q.val); omega
theorem blk2 (c : Dev nD) (t : Fin cfg0.N) (q : Fin 256) (l : Fin 2048) :
    iblk m c 2 t (ix3 0 q l) = arrD m c ⟨t.val % 22 * 256 + q.val, by have := lt176 t; omega⟩ l := by
  unfold iblk arrD
  rw [show V m c (Pipeline.arrRef spec0 2) = m (c.tc.loc main_arg4) from V_main_arg4 m c]
  refine congrArg (m (c.tc.loc main_arg4)) (funext fun a => Fin.ext ?_)
  match a with
  | ⟨0, _⟩ => blk_simp; rw [(at2 t).1]; rfl
  | ⟨1, _⟩ => blk_simp; rw [(at2 t).2.1]
  | ⟨2, _⟩ => blk_simp; rw [(at2 t).2.2]; show 0 * 2048 + l.val = l.val; omega
theorem blk3 (c : Dev nD) (t : Fin cfg0.N) (r : Fin 1024) (l : Fin 2048) :
    iblk m c 3 t (ix2 r l) = arrX m c ⟨t.val / 22 * 1024 + r.val, by have := lt176 t; omega⟩ l := by
  have hN := lt176 t
  unfold iblk arrX
  have hV : V m c (Pipeline.arrRef spec0 3) = shapeCast S8192x2048 (m (c.tc.loc main_arg0)) shapeCasts_S4x2048x2048_S8192x2048 := by
    show StableHlo.after hostOps0 (fun b => m (c, b)) (Proc.tc.devRef main_v0) = _
    after_results
    rfl
  rw [hV]
  exact Ffn0Val.rows_at _ t r l
theorem blk4 (c : Dev nD) (t : Fin cfg0.N) (l : Fin 2048) : iblk m c 4 t (ix2 0 l) = arrG m c l := by
  unfold iblk arrG
  have hV : V m c (Pipeline.arrRef spec0 4) = shapeCast S1x2048 (shapeCast S2048 (extractStridedSlice S1x2048 ![1, 0] (m (c.tc.loc main_arg2)) slices_S4x2048_S1x2048_1_0) shapeCasts_S1x2048_S2048) shapeCasts_S2048_S1x2048 := by
    show StableHlo.after hostOps0 (fun b => m (c, b)) (Proc.tc.devRef main_v4) = _
    after_results
    rfl
  rw [hV]
  have e : ((cfg0.win 4).blk t).view.emb (ix2 0 l) = ix2 0 l := by
    refine funext fun a => Fin.ext ?_
    match a with
    | ⟨0, _⟩ => blk_simp; rw [(at4 t).1]; rfl
    | ⟨1, _⟩ => blk_simp; rw [(at4 t).2]; show 0 * 2048 + l.val = l.val; omega
  refine (congrArg (shapeCast S1x2048 (shapeCast S2048 (extractStridedSlice S1x2048 ![1, 0] (m (c.tc.loc main_arg2)) slices_S4x2048_S1x2048_1_0) shapeCasts_S1x2048_S2048) shapeCasts_S2048_S1x2048) e).trans ?_
  pointwise
theorem blk5 (c : Dev nD) (t : Fin cfg0.N) (l : Fin 2048) : iblk m c 5 t (ix2 0 l) = arrF m c l := by
  unfold iblk arrF
  have hV : V m c (Pipeline.arrRef spec0 5) = shapeCast S1x2048 (m (c.tc.loc main_arg5)) shapeCasts_S2048_S1x2048 := by
    show StableHlo.after hostOps0 (fun b => m (c, b)) (Proc.tc.devRef main_v5) = _
    after_results
    rfl
  rw [hV]
  have e : ((cfg0.win 5).blk t).view.emb (ix2 0 l) = ix2 0 l := by
    refine funext fun a => Fin.ext ?_
    match a with
    | ⟨0, _⟩ => blk_simp; rw [(at5 t).1]; rfl
    | ⟨1, _⟩ => blk_simp; rw [(at5 t).2]; show 0 * 2048 + l.val = l.val; omega
  refine (congrArg (shapeCast S1x2048 (m (c.tc.loc main_arg5)) shapeCasts_S2048_S1x2048) e).trans ?_
  pointwise
theorem blk6 (c : Dev nD) (t : Fin cfg0.N) (r : Fin 8) (l : Fin 2048) : iblk m c 6 t (ix2 r l) = arrS m c r l := by
  unfold iblk arrS
  have hV : V m c (Pipeline.arrRef spec0 6) = shapeCast S8x2048 (m (c.tc.loc main_arg1)) shapeCasts_S8x1x2048_S8x2048 := by
    show StableHlo.after hostOps0 (fun b => m (c, b)) (Proc.tc.devRef main_v3) = _
    after_results
    rfl
  rw [hV]
  have e : ((cfg0.win 6).blk t).view.emb (ix2 r l) = ix2 r l := by
    refine funext fun a => Fin.ext ?_
    match a with
    | ⟨0, _⟩ => blk_simp; rw [(at6 t).1]; show 0 * 8 + r.val = r.val; omega
    | ⟨1, _⟩ => blk_simp; rw [(at6 t).2]; show 0 * 2048 + l.val = l.val; omega
  refine (congrArg (shapeCast S8x2048 (m (c.tc.loc main_arg1)) shapeCasts_S8x1x2048_S8x2048) e).trans ?_
  pointwise

/-! ## The buffers, at an index -/

/-- The block of rows a point is in. -/
abbrev rowOf (n : ℕ) (h : n < 176) (r : Fin 1024) : Fin 8192 := ⟨n / 22 * 1024 + r.val, by omega⟩

theorem xnAt_val (c : Dev nD) (r : Fin 1024) (l : Fin 2048) : ∀ (n : ℕ) (h : n < cfg0.N),
    xnAt m c n h (ix2 r l) = nrmRow (arrX m c (rowOf n (lt176 ⟨n, h⟩) r)) (arrG m c) l := by
  intro n
  induction n with
  | zero =>
    intro h
    rw [xnAt_first m c ⟨0, h⟩ rfl, nrm_at]
    exact congrArg₂ (fun x g => nrmRow x g l) (funext fun k => blk3 m c ⟨0, h⟩ r k) (funext fun k => blk4 m c _ k)
  | succ n ih =>
    intro h
    by_cases h0 : (n + 1) % 22 = 0
    · rw [xnAt_first m c ⟨n + 1, h⟩ h0, nrm_at]
      exact congrArg₂ (fun x g => nrmRow x g l) (funext fun k => blk3 m c ⟨n + 1, h⟩ r k) (funext fun k => blk4 m c _ k)
    · rw [xnAt_next m c ⟨n + 1, h⟩ h0]
      refine (ih (by omega)).trans ?_
      exact congrArg (fun z => nrmRow (arrX m c z) (arrG m c) l) (Fin.ext (by show n / 22 * 1024 + r.val = (n + 1) / 22 * 1024 + r.val; omega))

/-- One point adds its tile of hidden units to the accumulator. -/
theorem stepO_val (c : Dev nD) (t : Fin cfg0.N) (o : Vec Ideal S1024x2048 .f32) (r : Fin 1024) (l : Fin 2048)
    (ho : o (ix2 r l) = upto (arrX m c (rowOf t.val (lt176 t) r)) (arrG m c) (arrW m c) (arrD m c) l (t.val % 22 * 256)) :
    stepO m c t o (ix2 r l) = upto (arrX m c (rowOf t.val (lt176 t) r)) (arrG m c) (arrW m c) (arrD m c) l ((t.val % 22 + 1) * 256) := by
  have hN := lt176 t
  unfold stepO
  rw [acc_at, ho, show (t.val % 22 + 1) * 256 = t.val % 22 * 256 + 256 by omega, ← upto_tile]
  refine add_sums fun q => ?_
  unfold Ffn.unit
  rw [dif_pos (by omega)]
  refine congrArg₂ (· * ·) ?_ (blk2 m c t q l)
  rw [show (fun k => xnAt m c t.val t.isLt (ix2 r k)) = nrmRow (arrX m c (rowOf t.val (lt176 t) r)) (arrG m c) from funext fun k => xnAt_val m c r k t.val t.isLt]
  exact congrArg₂ (hid _) (funext fun k => blk0 m c t k q) (funext fun k => blk1 m c t k q)

/-- The accumulator after every tile but the last. -/
theorem oAt_val (c : Dev nD) (r : Fin 1024) (l : Fin 2048) : ∀ (n : ℕ) (h : n < cfg0.N), n % 22 ≠ 21 →
    oAt m c n h (ix2 r l) = upto (arrX m c (rowOf n (lt176 ⟨n, h⟩) r)) (arrG m c) (arrW m c) (arrD m c) l ((n % 22 + 1) * 256) := by
  intro n
  induction n with
  | zero =>
    intro h _
    rw [oAt_first m c ⟨0, h⟩ rfl]
    exact stepO_val m c ⟨0, h⟩ _ r l ((ini_at _ r l).trans ((blk3 m c ⟨0, h⟩ r l).trans (upto_zero _ _ _ _ l).symm))
  | succ n ih =>
    intro h hn
    by_cases h0 : (n + 1) % 22 = 0
    · rw [oAt_first m c ⟨n + 1, h⟩ h0]
      refine stepO_val m c ⟨n + 1, h⟩ _ r l ((ini_at _ r l).trans ((blk3 m c ⟨n + 1, h⟩ r l).trans ?_))
      show _ = upto _ _ _ _ l ((n + 1) % 22 * 256)
      rw [h0, Nat.zero_mul, upto_zero]
    · rw [oAt_next m c ⟨n + 1, h⟩ h0 hn]
      refine stepO_val m c ⟨n + 1, h⟩ _ r l ((ih (by omega) (by omega)).trans ?_)
      refine congrArg₂ (fun z y => upto (arrX m c z) (arrG m c) (arrW m c) (arrD m c) l y) (Fin.ext ?_) ?_
      · show n / 22 * 1024 + r.val = (n + 1) / 22 * 1024 + r.val; omega
      · show (n % 22 + 1) * 256 = (n + 1) % 22 * 256; omega

/-- A row's result, from the row and the weights. -/
def resRow (c : Dev nD) (x : Fin 2048 → EReal) : Fin 2048 → EReal := trunk x (arrG m c) (arrW m c) (arrD m c)

/-- The last tile's point completes a block of rows. -/
theorem oAt_done (c : Dev nD) (t : Fin cfg0.N) (h : t.val % 22 = 21) (r : Fin 1024) (l : Fin 2048) :
    oAt m c t.val t.isLt (ix2 r l) = resRow m c (arrX m c (rowOf t.val (lt176 t) r)) l := by
  have hN := lt176 t
  have hs : ∀ k, stepO m c t (oAt m c (prev t).val (prev t).isLt) (ix2 r k) = trunk (arrX m c (rowOf t.val (lt176 t) r)) (arrG m c) (arrW m c) (arrD m c) k := fun k => by
    refine (stepO_val m c t _ r k ((oAt_val m c r k (prev t).val (prev t).isLt (by show (t.val - 1) % 22 ≠ 21; omega)).trans ?_)).trans ?_
    · refine congrArg₂ (fun z y => upto (arrX m c z) (arrG m c) (arrW m c) (arrD m c) k y) (Fin.ext ?_) ?_
      · show (t.val - 1) / 22 * 1024 + r.val = t.val / 22 * 1024 + r.val; omega
      · show ((t.val - 1) % 22 + 1) * 256 = t.val % 22 * 256; omega
    · rw [h]; exact upto_all _ _ _ _ k
  rw [oAt_last m c t h]
  exact hs l

theorem xsn_val (c : Dev nD) (r : Fin 8) (l : Fin 2048) : xsn m c (ix2 r l) = nrmRow (arrS m c r) (arrG m c) l := by
  unfold xsn
  rw [nrmS_at]
  exact congrArg₂ (fun x g => nrmRow x g l) (funext fun k => blk6 m c _ r k) (funext fun k => blk4 m c _ k)

/-- One point of the first block of rows adds its tile to the samples' accumulator. -/
theorem stepS_val (c : Dev nD) (t : Fin cfg0.N) (ht : t.val < 22) (o : Vec Ideal S8x2048 .f32) (r : Fin 8) (l : Fin 2048)
    (ho : o (ix2 r l) = upto (arrS m c r) (arrG m c) (arrW m c) (arrD m c) l (t.val * 256)) :
    stepS m c t o (ix2 r l) = upto (arrS m c r) (arrG m c) (arrW m c) (arrD m c) l ((t.val + 1) * 256) := by
  unfold stepS
  rw [accS_at, ho, show (t.val + 1) * 256 = t.val * 256 + 256 by omega, ← upto_tile]
  refine add_sums fun q => ?_
  unfold Ffn.unit
  rw [dif_pos (by omega)]
  have e : t.val % 22 = t.val := Nat.mod_eq_of_lt ht
  refine congrArg₂ (· * ·) ?_ ((blk2 m c t q l).trans (congrArg (fun z => arrD m c z l) (Fin.ext (by show t.val % 22 * 256 + q.val = t.val * 256 + q.val; rw [e]))))
  rw [show (fun k => xsn m c (ix2 r k)) = nrmRow (arrS m c r) (arrG m c) from funext fun k => xsn_val m c r k]
  exact congrArg₂ (hid _)
    (funext fun k => (blk0 m c t k q).trans (congrArg (arrW m c k) (Fin.ext (by show t.val % 22 * 256 + q.val = t.val * 256 + q.val; rw [e]))))
    (funext fun k => (blk1 m c t k q).trans (congrArg (arrW m c k) (Fin.ext (by show 5632 + (t.val % 22 * 256 + q.val) = 5632 + (t.val * 256 + q.val); rw [e]))))

/-- The samples' accumulator within the first block of rows. -/
theorem osAt_val (c : Dev nD) (r : Fin 8) (l : Fin 2048) : ∀ (n : ℕ) (h : n < cfg0.N), n < 21 →
    osAt m c n h (ix2 r l) = upto (arrS m c r) (arrG m c) (arrW m c) (arrD m c) l ((n + 1) * 256) := by
  intro n
  induction n with
  | zero =>
    intro h _
    rw [osAt_first m c ⟨0, h⟩ rfl]
    refine stepS_val m c ⟨0, h⟩ (by simp) _ r l ((iniS_at _ r l).trans ((blk6 m c ⟨0, h⟩ r l).trans ?_))
    show _ = upto _ _ _ _ l (0 * 256)
    rw [Nat.zero_mul, upto_zero]
  | succ n ih =>
    intro h hn
    rw [osAt_next m c ⟨n + 1, h⟩ (by simp) (by simp only; omega) (by simp only; omega)]
    exact stepS_val m c ⟨n + 1, h⟩ (by simp only; omega) _ r l (ih (by omega) (by omega))

/-- From the last point of the first block of rows on the samples' buffer is complete. -/
theorem osAt_done (c : Dev nD) (r : Fin 8) (l : Fin 2048) : ∀ (n : ℕ) (h : n < cfg0.N), 21 ≤ n →
    osAt m c n h (ix2 r l) = resRow m c (arrS m c r) l := by
  intro n
  induction n with
  | zero => intro _ h; omega
  | succ n ih =>
    intro h hn
    by_cases h1 : n + 1 = 21
    · have hs : ∀ k, stepS m c ⟨n + 1, h⟩ (osAt m c n (by omega)) (ix2 r k) = trunk (arrS m c r) (arrG m c) (arrW m c) (arrD m c) k := fun k => by
        refine (stepS_val m c ⟨n + 1, h⟩ (by simp only; omega) _ r k (osAt_val m c r k n (by omega) (by omega))).trans ?_
        show upto _ _ _ _ k ((n + 1 + 1) * 256) = _
        rw [h1]; exact upto_all _ _ _ _ k
      rw [osAt_last m c ⟨n + 1, h⟩ h1]
      exact hs l
    · rw [osAt_kept m c ⟨n + 1, h⟩ (by simp only; omega)]
      exact ih (by omega) (by omega)

/-! ## The result arrays -/

/-- The prompts' result as a function of its index. -/
def whole0 (c : Dev nD) : FVec Ideal S8192x2048 .f32 := fun y => resRow m c (arrX m c ⟨(y 0).val, (y 0).isLt⟩) ⟨(y 1).val, (y 1).isLt⟩
/-- The samples' result as a function of its index. -/
def whole1 (c : Dev nD) : FVec Ideal S8x2048 .f32 := fun y => resRow m c (arrS m c ⟨(y 0).val, (y 0).isLt⟩) ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt176 t
  have h21 : t.val % 22 = 21 := (flush0_7 t).mp hf
  blk_simp
  rw [after0_7]
  have h0 : (y 0).val < 1024 := (y 0).isLt
  have h1 : (y 1).val < 2048 := (y 1).isLt
  have e : (win0_7.blk t).view.emb y = ix2 (rowOf t.val hN ⟨(y 0).val, h0⟩) ⟨(y 1).val, h1⟩ := by
    refine funext fun a => Fin.ext ?_
    match a with
    | ⟨0, _⟩ => blk_simp; rw [(at7 t).1]; rfl
    | ⟨1, _⟩ => blk_simp; rw [(at7 t).2]; show 0 * 2048 + (y 1).val = (y 1).val; omega
  rw [e]
  refine Eq.trans (congrArg (oAt m c t.val t.isLt) ?_) (oAt_done m c t h21 ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  have hN := lt176 t
  have h175 : t.val % 176 = 175 := (flush0_8 t).mp hf
  blk_simp
  rw [after0_8]
  have h0 : (y 0).val < 8 := (y 0).isLt
  have h1 : (y 1).val < 2048 := (y 1).isLt
  have e : (win0_8.blk t).view.emb y = ix2 (⟨(y 0).val, h0⟩ : Fin 8) (⟨(y 1).val, h1⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; show 0 * 2048 + (y 1).val = (y 1).val; omega
  rw [e]
  refine Eq.trans (congrArg (osAt m c t.val t.isLt) ?_) (osAt_done m c ⟨(y 0).val, h0⟩ ⟨(y 1).val, h1⟩ t.val t.isLt (by omega))
  exact funext fun a => match a with | ⟨0, _⟩ => rfl | ⟨1, _⟩ => rfl

end Cert.Ffn1Val

end
-- ==== Proof.FfnRef1.lean ====
/- The reference of layer 1's feed-forward block, at an index. -/
module

public import proofs.«01_k».proof.Proof.FfnMath
public import proofs.«01_k».proof.Proof.Gen.Ffn1RefIdeal.Read

@[expose] public section

set_option maxRecDepth 16384

noncomputable section

namespace Cert.Ffn1Ref

open Idealize.ShloMosaic Idealize.ShloMosaic.TcCoe Idealize.SL.Sem
open Cert.Ffn1RefIdeal Cert.Ffn1RefIdeal.Read Cert.Ffn

variable (x0 : (⟨S4x2048x2048, .f32⟩ : BufTy).Contents (Elt Ideal)) (x1 : (⟨S8x1x2048, .f32⟩ : BufTy).Contents (Elt Ideal))
  (x2 : (⟨S4x2048, .f32⟩ : BufTy).Contents (Elt Ideal)) (x3 : (⟨S4x2048x11264, .f32⟩ : BufTy).Contents (Elt Ideal))
  (x4 : (⟨S4x5632x2048, .f32⟩ : BufTy).Contents (Elt Ideal)) (x5 : (⟨S2048, .f32⟩ : BufTy).Contents (Elt Ideal))

/-- The layer's scale. -/
def rowG : Fin 2048 → EReal := fun k => x2 (ix2 1 k)
/-- The layer's upward weights. -/
def rowW : Fin 2048 → Fin 11264 → EReal := fun k q => x3 (ix3 1 k q)
/-- The layer's downward weights. -/
def rowD : Fin 5632 → Fin 2048 → EReal := fun q l => x4 (ix3 1 q l)
/-- The last scale. -/
def rowF : Fin 2048 → EReal := fun k => x5 (ix1 k)
/-- A row of the prompts. -/
def rowX (b : Fin 4) (r : Fin 2048) : Fin 2048 → EReal := fun k => x0 (ix3 b r k)
/-- A row of the samples. -/
def rowS (b : Fin 8) (r : Fin 1) : Fin 2048 → EReal := fun k => x1 (ix3 b r k)

theorem normX (b : Fin 4) (r : Fin 2048) (l : Fin 2048) : val_main_v14 (F := Ideal) x0 x2 (ix3 b r l) = nrmRow (rowX x0 b r) (rowG x2) l := by
  unfold nrmRow rowX rowG
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

theorem upX (b : Fin 4) (r : Fin 2048) (q : Fin 11264) :
    val_main_v19 (F := Ideal) x0 x2 x3 (ix3 b r q) = ∑ k, nrmRow (rowX x0 b r) (rowG x2) k * rowW x3 k q := by
  have hW : ∀ k, val_main_v16 (F := Ideal) x3 (ix2 k q) = rowW x3 k q := fun k => by
    unfold rowW
    pointwise [val_main_v16, val_main_v15]
  rw [← Finset.sum_congr rfl fun k _ => congrArg₂ (· * ·) (normX x0 x2 b r k) (hW k)]
  pointwise [val_main_v19]

theorem hidX (b : Fin 4) (r : Fin 2048) (q : Fin 5632) :
    val_main_v23 (F := Ideal) x0 x2 x3 (ix3 b r q) = hid (nrmRow (rowX x0 b r) (rowG x2)) (fun k => rowW x3 k ⟨q.val, by omega⟩) (fun k => rowW x3 k ⟨5632 + q.val, by omega⟩) := by
  unfold hid Ideal.logistic
  rw [← upX x0 x2 x3 b r ⟨q.val, by omega⟩, ← upX x0 x2 x3 b r ⟨5632 + q.val, by omega⟩, ← one_bits]
  pointwise [val_main_v23, val_main_v22, val_main_call0_v5, val_main_call0_v4, val_main_call0_cst_0, val_main_call0_v3, val_main_call0_v2, val_main_call0_cst, val_main_call0_v1, val_main_call0_v0, val_main_v21, val_main_v20]

theorem trunkX (b : Fin 4) (r : Fin 2048) (l : Fin 2048) :
    val_main_v25 (F := Ideal) x0 x2 x3 x4 (ix3 b r l) = trunk (rowX x0 b r) (rowG x2) (rowW x3) (rowD x4) l := by
  have hD : ∀ q, val_main_v18 (F := Ideal) x4 (ix2 q l) = rowD x4 q l := fun q => by
    unfold rowD
    pointwise [val_main_v18, val_main_v17]
  unfold trunk
  rw [← Finset.sum_congr rfl fun q _ => congrArg₂ (· * ·) (hidX x0 x2 x3 b r q) (hD q)]
  pointwise [val_main_v25, val_main_v24]
  rfl

/-- The reference's prompts, at an index. -/
theorem resX (r : Fin 8192) (l : Fin 2048) : val_main_v26 (F := Ideal) x0 x2 x3 x4 (ix2 r l) = trunk (rowX x0 ⟨r.val / 2048, by omega⟩ ⟨r.val % 2048, by omega⟩) (rowG x2) (rowW x3) (rowD x4) l := by
  refine Eq.trans ?_ (trunkX x0 x2 x3 x4 ⟨r.val / 2048, by omega⟩ ⟨r.val % 2048, by omega⟩ l)
  unfold val_main_v26
  refine shapeCast_apply _ _ _ _ ?_
  rw [Shape.rowMajor_val_two]
  refine (Shape.rowMajor_val_three _).trans ?_
  show (r.val / 2048 * 2048 + r.val % 2048) * 2048 + l.val = r.val * 2048 + l.val
  omega

theorem normS (b : Fin 8) (r : Fin 1) (l : Fin 2048) : val_main_v41 (F := Ideal) x1 x2 (ix3 b r l) = nrmRow (rowS x1 b r) (rowG x2) l := by
  obtain rfl : r = 0 := Subsingleton.elim _ _
  unfold nrmRow rowS rowG
  pointwise [val_main_v41, val_main_v40, val_main_v39, val_main_v38, val_main_v37, val_main_v36, val_main_v35, val_main_v34, val_main_cst_4, val_main_v33, val_main_v32, val_main_cst_3, val_main_v31, val_main_v30, val_main_cst_2, val_main_v29, val_main_v28, val_main_v27]

theorem upS (b : Fin 8) (r : Fin 1) (q : Fin 11264) :
    val_main_v46 (F := Ideal) x1 x2 x3 (ix3 b r q) = ∑ k, nrmRow (rowS x1 b r) (rowG x2) k * rowW x3 k q := by
  obtain rfl : r = 0 := Subsingleton.elim _ _
  have hW : ∀ k, val_main_v43 (F := Ideal) x3 (ix2 k q) = rowW x3 k q := fun k => by
    unfold rowW
    pointwise [val_main_v43, val_main_v42]
  rw [← Finset.sum_congr rfl fun k _ => congrArg₂ (· * ·) (normS x1 x2 b 0 k) (hW k)]
  pointwise [val_main_v46]

theorem hidS (b : Fin 8) (r : Fin 1) (q : Fin 5632) :
    val_main_v50 (F := Ideal) x1 x2 x3 (ix3 b r q) = hid (nrmRow (rowS x1 b r) (rowG x2)) (fun k => rowW x3 k ⟨q.val, by omega⟩) (fun k => rowW x3 k ⟨5632 + q.val, by omega⟩) := by
  obtain rfl : r = 0 := Subsingleton.elim _ _
  unfold hid Ideal.logistic
  rw [← upS x1 x2 x3 b 0 ⟨q.val, by omega⟩, ← upS x1 x2 x3 b 0 ⟨5632 + q.val, by omega⟩, ← one_bits]
  pointwise [val_main_v50, val_main_v49, val_main_call1_v5, val_main_call1_v4, val_main_call1_cst_0, val_main_call1_v3, val_main_call1_v2, val_main_call1_cst, val_main_call1_v1, val_main_call1_v0, val_main_v48, val_main_v47]

theorem trunkS (b : Fin 8) (r : Fin 1) (l : Fin 2048) :
    val_main_v52 (F := Ideal) x1 x2 x3 x4 (ix3 b r l) = trunk (rowS x1 b r) (rowG x2) (rowW x3) (rowD x4) l := by
  obtain rfl : r = 0 := Subsingleton.elim _ _
  have hD : ∀ q, val_main_v45 (F := Ideal) x4 (ix2 q l) = rowD x4 q l := fun q => by
    unfold rowD
    pointwise [val_main_v45, val_main_v44]
  unfold trunk
  rw [← Finset.sum_congr rfl fun q _ => congrArg₂ (· * ·) (hidS x1 x2 x3 b 0 q) (hD q)]
  pointwise [val_main_v52, val_main_v51]
  rfl

/-- The reference's samples, at an index. -/
theorem resS (r : Fin 8) (l : Fin 2048) : val_main_v53 (F := Ideal) x1 x2 x3 x4 (ix2 r l) = trunk (rowS x1 r 0) (rowG x2) (rowW x3) (rowD x4) l := by
  refine Eq.trans ?_ (trunkS x1 x2 x3 x4 r 0 l)
  pointwise [val_main_v53]

end Cert.Ffn1Ref

end
-- ==== Proof.FfnClaim1.lean ====
/- The feed-forward block of layer 1 and its reference end with equal results. -/
module

public import proofs.«01_k».proof.Defs
public import proofs.«01_k».proof.Proof.FfnOut1
public import proofs.«01_k».proof.Proof.FfnRef1
public import proofs.«01_k».proof.Proof.Gen.Ffn1.Frame

@[expose] public section

set_option maxRecDepth 16384

noncomputable section

namespace Cert.Ffn1Proof

open Idealize.ShloMosaic Idealize.ShloMosaic.TcCoe Idealize.SL.Sem

/-- The reference leaves its arguments alone. -/
theorem ref_frame : quiescent_Ffn1RefIdeal := fun m g _ =>
  (θ_run _ _ _).mono (fun r h => ⟨fun c => (h c).2.2, sem_eq_zero_of_no_sems rfl r.2⟩) (Ffn1RefIdeal.Value.run m g)

section

variable {F : FTy → Type} [FloatOps F]

attribute [local instance] Ffn1.Gen.facts Ffn1Ideal.Gen.facts

/-- The two printings of the kernel have the same body. -/
theorem bodies : Ffn1.defs₀ (F := F) = Ffn1Ideal.defs₀ (F := F) := by
  refine congrArg Defs.onTc (funext fun n => funext fun a => ?_)
  match n, a with
  | ⟨0, _⟩, (t, s) => rfl

/-- So they have the same table. -/
theorem tables : Ffn1.defs (F := F) = Ffn1Ideal.defs (F := F) :=
  congrArg (Pipeline.defs (Ffn1Ideal.pcfgs (F := F))) bodies

/-- The kernel leaves its arguments alone: the one run, at the machine's floats. -/
theorem kernel_frame : quiescent_Ffn1 := fun m g _ => by
  have h := Ffn1Val.frame (F := Bits) m g
  rw [← tables] at h
  exact h

end

/-- The kernel over the reals leaves its arguments alone. -/
theorem frame : quiescent_Ffn1Ideal := fun m g _ => Ffn1Val.frame m g

/-- The kernel over the reals computes what the reference does. -/
theorem algebraic : algebraic_Ffn1Ideal_Ffn1RefIdeal := by
  intro m g m' g' _ ha
  refine ⟨fun c => Ffn1Val.whole0 m c, fun c => Ffn1Val.whole1 m c, ?_, ?_⟩
  · exact (θ_run _ _ _).mono (fun r h c => ⟨((h.1.1 c).1 7).trans (Ffn1Val.arr7 m c), ((h.1.1 c).1 8).trans (Ffn1Val.arr8 m c), h.2.1 c⟩)
      (θ_run_and (Ffn1Val.run_main m g) (Ffn1Val.frame m g))
  · refine (θ_run _ _ _).mono (fun r h c => ⟨(h c).1.trans ?_, (h c).2.1.trans ?_, (h c).2.2⟩) (Ffn1RefIdeal.Value.run m' g')
    · rw [Ffn1RefIdeal.Read.val_main_v26_eq, (ha c).1, (ha c).2.2.1, (ha c).2.2.2.1, (ha c).2.2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Ffn1Ref.resX _ _ _ _ r l
    · rw [Ffn1RefIdeal.Read.val_main_v53_eq, (ha c).2.1, (ha c).2.2.1, (ha c).2.2.2.1, (ha c).2.2.2.2.1]
      funext y
      obtain ⟨r, l, rfl⟩ : ∃ (r : Fin 8) (l : Fin 2048), y = ix2 r l := ⟨y 0, y 1, funext fun a => match a with | ⟨0, _⟩ => rfl | ⟨1, _⟩ => rfl⟩
      exact Ffn1Ref.resS _ _ _ _ r l

end Cert.Ffn1Proof

end
-- ==== Proof.FfnDat2.lean ====
/- The feed-forward call of layer 2: what every buffer holds after every point of the grid, and the run of the whole call. -/
module

public import proofs.«01_k».proof.Proof.Gen.Ffn2Ideal.Frame
public import proofs.«01_k».proof.Proof.Gen.Ffn2Ideal.Skeleton
public import proofs.«01_k».proof.Proof.FfnRun0
public import Idealize.ShloMosaic.Lib.Claim

@[expose] public section

set_option maxRecDepth 16384

noncomputable section

namespace Cert.Ffn2Val

open Cert.Ffn2Ideal Cert.Ffn2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 22) — by arithmetic of the point. -/
theorem hcond0_0 : ∀ t : Fin cfg0.N, cond0_0 (grid0.coords t) ↔ t.val % 22 = 0 := Ffn0Val.hcond0_0

/-- The condition of the body's `scf.if` 1 (`k0_h2`), from the grid coordinates (the skeleton's scalar
    chain substituted). -/
abbrev cond0_1 (i : grid0.Coords) : Prop := k0_cond2 i = 1#1
/-- It holds at the points before point 22 — by arithmetic of the point. -/
theorem hcond0_1 : ∀ t : Fin cfg0.N, cond0_1 (grid0.coords t) ↔ t.val < 22 := Ffn0Val.hcond0_1

/-- The condition of the body's `scf.if` 2 (`k0_h3`), from the grid coordinates (the skeleton's scalar
    chain substituted). -/
abbrev cond0_2 (i : grid0.Coords) : Prop := k0_cond3 i = 1#1
/-- It holds at the points ≡ 0 (mod 22) — by arithmetic of the point. -/
theorem hcond0_2 : ∀ t : Fin cfg0.N, cond0_2 (grid0.coords t) ↔ t.val % 22 = 0 := Ffn0Val.hcond0_2

/-! ## The staging memrefs -/

/-- Each window's current staging memref at point `t`, spelled as the pipeline passes it (`bodyAt0`), and its wholeness. -/
abbrev ms0_0 (t : Fin cfg0.N) : 𝔹 S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x2048 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : 𝔹 S1024x2048 .bf16 := Memref.whole cc0_scratch0
abbrev scM0_1 : 𝔹 S8x2048 .f32 := Memref.whole cc0_scratch1

/-- The frame kit's invariant with the scratch operands as memrefs owned at some contents (`Gen.scopedRest0_eq`,
    Lib/Memref.lean `owns_whole`): as the body finds and leaves it. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## What the body computes -/

/-- The normalised rows. -/
abbrev nrm (x : Vec F S1024x2048 .f32) (g : Vec F S1x2048 .f32) : Vec F S1024x2048 .bf16 := k0_pay2 x g
/-- What the accumulator starts from. -/
abbrev ini (x : Vec F S1024x2048 .f32) : Vec F S1024x2048 .f32 := k0_pay1 x
/-- The accumulator after one more tile of the hidden width. -/
abbrev acc (n : Vec F S1024x2048 .bf16) (wa wb : Vec F S1x2048x256 .f32) (o : Vec F S1024x2048 .f32) (wd : Vec F S1x256x2048 .f32) : Vec F S1024x2048 .f32 := k0_pay3 n wa wb o wd
/-- What the last tile's point does to the accumulator. -/
abbrev fin (o : Vec F S1024x2048 .f32) (gf : Vec F S1x2048 .f32) : Vec F S1024x2048 .f32 := o
/-- The same four for the sample rows. -/
abbrev nrmS (x : Vec F S8x2048 .f32) (g : Vec F S1x2048 .f32) : Vec F S8x2048 .f32 := k0_pay5 x g
abbrev iniS (x : Vec F S8x2048 .f32) : Vec F S8x2048 .f32 := k0_pay4 x
abbrev accS (n : Vec F S8x2048 .f32) (wa wb : Vec F S1x2048x256 .f32) (o : Vec F S8x2048 .f32) (wd : Vec F S1x256x2048 .f32) : Vec F S8x2048 .f32 := k0_pay6 n wa wb o wd
abbrev finS (o : Vec F S8x2048 .f32) (gf : Vec F S1x2048 .f32) : Vec F S8x2048 .f32 := o

/-- The body is the one of layer 0; -/
theorem body_eq : cc0_ffn2 (F := F) = Ffn0Val.body Λ₀ := rfl
/-- so it leaves what that one leaves. -/
abbrev Leaves := @Ffn0Val.Leaves F _ _ (defs₀ (F := F))

/-! ## What the buffers hold after each point -/

/-- The normalised rows held after point `n`: those of the block of rows the point is in. -/
def xnAt (c : Dev nD) : (n : ℕ) → n < cfg0.N → Vec F S1024x2048 .bf16
  | 0, h => nrm (iblk m c 3 ⟨0, h⟩) (iblk m c 4 ⟨0, h⟩)
  | n + 1, h => if (n + 1) % 22 = 0 then nrm (iblk m c 3 ⟨n + 1, h⟩) (iblk m c 4 ⟨n + 1, h⟩) else xnAt c n (by omega)

/-- One point's update of the accumulator, from what it started with. -/
def stepO (c : Dev nD) (t : Fin cfg0.N) (o : Vec F S1024x2048 .f32) : Vec F S1024x2048 .f32 :=
  acc (xnAt m c t.val t.isLt) (iblk m c 0 t) (iblk m c 1 t) o (iblk m c 2 t)

/-- The prompt rows' result buffer after point `n`. -/
def oAt (c : Dev nD) : (n : ℕ) → n < cfg0.N → Vec F S1024x2048 .f32
  | 0, h => stepO m c ⟨0, h⟩ (ini (iblk m c 3 ⟨0, h⟩))
  | n + 1, h =>
    if (n + 1) % 22 = 0 then stepO m c ⟨n + 1, h⟩ (ini (iblk m c 3 ⟨n + 1, h⟩))
    else if (n + 1) % 22 = 21 then fin (stepO m c ⟨n + 1, h⟩ (oAt c n (by omega))) (iblk m c 5 ⟨n + 1, h⟩)
    else stepO m c ⟨n + 1, h⟩ (oAt c n (by omega))

/-- The sample rows normalised, held from the first point on. -/
def xsn (c : Dev nD) : Vec F S8x2048 .f32 := nrmS (iblk m c 6 ⟨0, by decide⟩) (iblk m c 4 ⟨0, by decide⟩)

/-- One point's update of the sample rows' accumulator. -/
def stepS (c : Dev nD) (t : Fin cfg0.N) (o : Vec F S8x2048 .f32) : Vec F S8x2048 .f32 :=
  accS (xsn m c) (iblk m c 0 t) (iblk m c 1 t) o (iblk m c 2 t)

/-- The sample rows' result buffer after point `n`: complete after the first block of prompt rows, untouched from there. -/
def osAt (c : Dev nD) : (n : ℕ) → n < cfg0.N → Vec F S8x2048 .f32
  | 0, h => stepS m c ⟨0, h⟩ (iniS (iblk m c 6 ⟨0, h⟩))
  | n + 1, h =>
    if n + 1 < 22 then
      if n + 1 = 21 then finS (stepS m c ⟨n + 1, h⟩ (osAt c n (by omega))) (iblk m c 5 ⟨n + 1, h⟩)
      else stepS m c ⟨n + 1, h⟩ (osAt c n (by omega))
    else osAt c n (by omega)

/-- The point before. -/
abbrev prev (t : Fin cfg0.N) : Fin cfg0.N := ⟨t.val - 1, Nat.lt_of_le_of_lt (Nat.sub_le _ _) t.isLt⟩

theorem xnAt_first (c : Dev nD) (t : Fin cfg0.N) (h : t.val % 22 = 0) :
    xnAt m c t.val t.isLt = nrm (iblk m c 3 t) (iblk m c 4 t) := by
  obtain ⟨n, hn⟩ := t
  cases n with
  | zero => rfl
  | succ n => exact (if_pos h : xnAt m c (n + 1) hn = _)
theorem xnAt_next (c : Dev nD) (t : Fin cfg0.N) (h : ¬t.val % 22 = 0) :
    xnAt m c t.val t.isLt = xnAt m c (prev t).val (prev t).isLt := by
  obtain ⟨n, hn⟩ := t
  cases n with
  | zero => exact absurd rfl h
  | succ n => exact (if_neg h : xnAt m c (n + 1) hn = _)
theorem oAt_first (c : Dev nD) (t : Fin cfg0.N) (h : t.val % 22 = 0) :
    oAt m c t.val t.isLt = stepO m c t (ini (iblk m c 3 t)) := by
  obtain ⟨n, hn⟩ := t
  cases n with
  | zero => rfl
  | succ n => exact (if_pos h : oAt m c (n + 1) hn = _)
theorem oAt_next (c : Dev nD) (t : Fin cfg0.N) (h : ¬t.val % 22 = 0) (h' : ¬t.val % 22 = 21) :
    oAt m c t.val t.isLt = stepO m c t (oAt m c (prev t).val (prev t).isLt) := by
  obtain ⟨n, hn⟩ := t
  cases n with
  | zero => exact absurd rfl h
  | succ n => exact (if_neg h : oAt m c (n + 1) hn = _).trans (if_neg h')
theorem oAt_last (c : Dev nD) (t : Fin cfg0.N) (h' : t.val % 22 = 21) :
    oAt m c t.val t.isLt = fin (stepO m c t (oAt m c (prev t).val (prev t).isLt)) (iblk m c 5 t) := by
  obtain ⟨n, hn⟩ := t
  cases n with
  | zero => exact absurd h' (by simp)
  | succ n => exact (if_neg (by simp only at h'; omega) : oAt m c (n + 1) hn = _).trans (if_pos h')
theorem osAt_first (c : Dev nD) (t : Fin cfg0.N) (h : t.val = 0) :
    osAt m c t.val t.isLt = stepS m c t (iniS (iblk m c 6 t)) := by
  obtain ⟨n, hn⟩ := t
  cases n with
  | zero => rfl
  | succ n => exact absurd h (by simp)
theorem osAt_next (c : Dev nD) (t : Fin cfg0.N) (h0 : t.val ≠ 0) (h : t.val < 22) (h' : t.val ≠ 21) :
    osAt m c t.val t.isLt = stepS m c t (osAt m c (prev t).val (prev t).isLt) := by
  obtain ⟨n, hn⟩ := t
  cases n with
  | zero => exact absurd rfl h0
  | succ n => exact (if_pos h : osAt m c (n + 1) hn = _).trans (if_neg h')
theorem osAt_last (c : Dev nD) (t : Fin cfg0.N) (h' : t.val = 21) :
    osAt m c t.val t.isLt = finS (stepS m c t (osAt m c (prev t).val (prev t).isLt)) (iblk m c 5 t) := by
  obtain ⟨n, hn⟩ := t
  cases n with
  | zero => exact absurd h' (by simp)
  | succ n => exact (if_pos (by simp only at h'; omega) : osAt m c (n + 1) hn = _).trans (if_pos h')
theorem osAt_kept (c : Dev nD) (t : Fin cfg0.N) (h : ¬t.val < 22) :
    osAt m c t.val t.isLt = osAt m c (prev t).val (prev t).isLt := by
  obtain ⟨n, hn⟩ := t
  cases n with
  | zero => exact absurd (by simp) h
  | succ n => exact (if_neg h : osAt m c (n + 1) hn = _)

theorem oAt_step (c : Dev nD) (t : Fin cfg0.N) (h : ¬t.val % 22 = 0) :
    oAt m c t.val t.isLt = stepO m c t (oAt m c (prev t).val (prev t).isLt) := by
  by_cases h' : t.val % 22 = 21
  · exact oAt_last m c t h'
  · exact oAt_next m c t h h'
theorem osAt_step (c : Dev nD) (t : Fin cfg0.N) (h0 : t.val ≠ 0) (h : t.val < 22) :
    osAt m c t.val t.isLt = stepS m c t (osAt m c (prev t).val (prev t).isLt) := by
  by_cases h' : t.val = 21
  · exact osAt_last m c t h'
  · exact osAt_next m c t h0 h h'

/-! ## The proof data -/

/-- The invariant at a point: before the first, the call's own buffers hold anything; after one, the normalised rows. -/
def PhiS (c : Dev nD) : (n : ℕ) → n < cfg0.N + 1 → sProp 𝕄
  | 0, _ => Pipeline.ΦA spec0 c
  | n + 1, h => iprop(iprop(owns c.tc scM0_0 fullShare (xnAt m c n (by omega)) ∗ owns c.tc scM0_1 fullShare (xsn m c)) ∗ ∃ r, prngReg c r)

theorem PhiS_pos (c : Dev nD) (n : ℕ) (h : n < cfg0.N + 1) (h0 : n ≠ 0) :
    PhiS m c n h = iprop(iprop(owns c.tc scM0_0 fullShare (xnAt m c (n - 1) (by omega)) ∗ owns c.tc scM0_1 fullShare (xsn m c)) ∗ ∃ r, prngReg c r) := by
  cases n with
  | zero => exact absurd rfl h0
  | succ n => rfl

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t.val t.isLt
    | ⟨8, _⟩ => osAt m c t.val t.isLt
  Φ t := PhiS m c t.val t.isLt
  q w := Pipeline.shareOf spec0 w
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t.val t.isLt := by dsimp only [dats]
theorem after0_8 (c : Dev nD) (t : Fin cfg0.N) : (dats m 0 c).after 8 t = osAt m c t.val t.isLt := by dsimp only [dats]

/-- The sample rows' window is touched at the points of the first block of prompt rows only. -/
theorem idle0_8 : ∀ t : Fin cfg0.N, cfg0.idle 8 (grid0.coords t) = !decide (t.val < 22) := by decide +kernel

/-- Between the tiles of one block of rows the accumulator is what the point before left. -/
theorem before0_7 (c : Dev nD) (t : Fin cfg0.N) (h0 : ¬t.val % 22 = 0) (d) :
    (dats m 0 c).before 7 t d = oAt m c (prev t).val (prev t).isLt := by
  rw [(dats m 0 c).before_of_pos 7 t (fun h => h0 (by rw [h])) rfl d,
    if_neg (fun h => absurd ((flush0_7 _).mp h) (by simp only; have := t.isLt; omega))]
  unfold Dat.left
  rw [show cfg0.idle 7 (cfg0.grid.coords (prev t)) = false from rfl]
  unfold Dat.kept
  show (cfg0.win 7).fill _ d _ = _
  rw [Pipeline.fill_of_clip_none 7 _ (fun _ => rfl) d ((dats m 0 c).after 7 (prev t)), Window.fill_cut, after0_7]

/-- From the second point on the sample rows' buffer is what the point before left. -/
theorem before0_8 (c : Dev nD) : ∀ (n : ℕ) (h : n < cfg0.N) (h0 : n ≠ 0) (d),
    (dats m 0 c).before 8 ⟨n, h⟩ d = osAt m c (n - 1) (by omega) := by
  intro n
  induction n using Nat.strong_induction_on with
  | _ n ih =>
    intro h h0 d
    have hN : n < 176 := lt_of_lt_of_eq h (show cfg0.N = 176 from N_0)
    rw [(dats m 0 c).before_of_pos 8 ⟨n, h⟩ h0 rfl d,
      if_neg (fun h => absurd ((flush0_8 _).mp h) (by simp only; omega))]
    unfold Dat.left
    by_cases hl : n - 1 < 22
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact (ih (n - 1) (by omega) (by omega) (by omega) d).trans (osAt_kept m c ⟨n - 1, by omega⟩ hl).symm

/-- What the body has to leave in the sample rows' buffer: the closed form, at every point. -/
theorem leaves8 (c : Dev nD) (t : Fin cfg0.N) :
    (owns c.tc (ms0_8 t) fullShare (osAt m c t.val t.isLt) : sProp 𝕄) ⊢ (dats m 0 c).leavesExact 8 t := by
  have hN : t.val < 176 := lt_of_lt_of_eq t.isLt (show cfg0.N = 176 from N_0)
  by_cases hl : t.val < 22
  · unfold Dat.leavesExact
    rw [show cfg0.idle 8 (cfg0.grid.coords t) = false from (idle0_8 t).trans (by simp [hl])]
    dsimp only
    rw [after0_8]
  · by_cases hf : t.val % 176 = 175
    · unfold Dat.leavesExact
      rw [show cfg0.idle 8 (cfg0.grid.coords t) = true from (idle0_8 t).trans (by simp [hl]), show (cfg0.win 8).flush t = true from (flush0_8 t).mpr hf]
      dsimp only
      rw [after0_8]
    · rw [(dats m 0 c).leavesExact_idle 8 t ((idle0_8 t).trans (by simp [hl])) (Bool.eq_false_iff.mpr fun h => hf ((flush0_8 t).mp h))]
      iintro H
      iexists osAt m c t.val t.isLt
      rw [show (dats m 0 c).before 8 t (osAt m c t.val t.isLt) = osAt m c t.val t.isLt from (before0_8 m c t.val t.isLt (by omega) _).trans (osAt_kept m c t hl).symm]
      iexact H

/-! ## The body at any point -/

/-- Every point takes what the point before left to the closed forms. -/
theorem step (c : Dev nD) (t : Fin cfg0.N) (y7 : Vec F S1024x2048 .f32) (y8 : Vec F S8x2048 .f32) (L : Vec F S1024x2048 .bf16) (S : Vec F S8x2048 .f32)
    (h7 : ¬t.val % 22 = 0 → y7 = oAt m c (prev t).val (prev t).isLt) (h8 : t.val ≠ 0 → y8 = osAt m c (prev t).val (prev t).isLt)
    (hL : t.val ≠ 0 → L = xnAt m c (prev t).val (prev t).isLt) (hS : t.val ≠ 0 → S = xsn m c) :
    Leaves c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t) y7 y8 L S (oAt m c t.val t.isLt) (osAt m c t.val t.isLt) (xnAt m c t.val t.isLt) (xsn m c) := by
  by_cases h0 : t.val % 22 = 0
  · have E7 := oAt_first m c t h0
    unfold stepO at E7
    rw [E7, xnAt_first m c t h0]
    by_cases h2 : t.val < 22
    · have e0 : t.val = 0 := by omega
      have E10 : xsn m c = nrmS (iblk m c 6 t) (iblk m c 4 t) := by unfold xsn; rw [show (⟨0, by decide⟩ : Fin cfg0.N) = t from Fin.ext e0.symm]
      have E8 := osAt_first m c t e0
      unfold stepS at E8
      rw [E8, E10]
      exact Ffn0Val.run_A (F := F) defs₀ c _ _ _ _ _ _ _ _ _ _ _ _ _ _ _ _ _ _ _ _ _ _ _ _ _ _ _ _ _ _ _ _ _ _ ((hcond0_0 t).mpr h0) ((hcond0_1 t).mpr h2) ((hcond0_2 t).mpr h0)
    · have e0 : t.val ≠ 0 := by omega
      rw [osAt_kept m c t h2, hS e0, h8 e0]
      exact Ffn0Val.run_D (F := F) defs₀ c _ _ _ _ _ _ _ _ _ _ _ _ _ _ _ _ _ _ _ _ _ _ _ _ _ _ _ _ _ _ _ _ _ _ ((hcond0_0 t).mpr h0) (fun h => h2 ((hcond0_1 t).mp h))
  · have e0 : t.val ≠ 0 := by omega
    have E7 := oAt_step m c t h0
    unfold stepO at E7
    rw [E7, xnAt_next m c t h0, h7 h0, h8 e0, hL e0, hS e0]
    by_cases h2 : t.val < 22
    · have E8 := osAt_step m c t e0 h2
      unfold stepS at E8
      rw [E8]
      exact Ffn0Val.run_B (F := F) defs₀ c _ _ _ _ _ _ _ _ _ _ _ _ _ _ _ _ _ _ _ _ _ _ _ _ _ _ _ _ _ _ _ _ _ _ (fun h => h0 ((hcond0_0 t).mp h)) ((hcond0_1 t).mpr h2) (fun h => h0 ((hcond0_2 t).mp h))
    · rw [osAt_kept m c t h2]
      exact Ffn0Val.run_E (F := F) defs₀ c _ _ _ _ _ _ _ _ _ _ _ _ _ _ _ _ _ _ _ _ _ _ _ _ _ _ _ _ _ _ _ _ _ _ (fun h => h0 ((hcond0_0 t).mp h)) (fun h => h2 ((hcond0_1 t).mp h))

/-- Before any point the call's own buffers hold something, and from the second on what the point before left. -/
theorem PhiS_open (c : Dev nD) (t : Fin cfg0.N) : PhiS m c t.val (Nat.lt_succ_of_lt t.isLt) ⊢
    iprop((∃ L, ∃ S, ⌜(t.val ≠ 0 → L = xnAt m c (prev t).val (prev t).isLt) ∧ (t.val ≠ 0 → S = xsn m c)⌝ ∗ owns c.tc scM0_0 fullShare L ∗ owns c.tc scM0_1 fullShare S) ∗ ∃ r, prngReg c r) := by
  by_cases e0 : t.val = 0
  · rw [show PhiS m c t.val (Nat.lt_succ_of_lt t.isLt) = Pipeline.ΦA spec0 c from by simp only [e0]; rfl, PhiA0_eq]
    iintro ⟨⟨⟨%L, HS0⟩, ⟨%S, HS1⟩⟩, Hg⟩
    isplitl [HS0 HS1]
    · iexists L; iexists S
      isplitr; · ipureintro; exact ⟨fun h => absurd e0 h, fun h => absurd e0 h⟩
      isplitl [HS0]; · iexact HS0
      iexact HS1
    iexact Hg
  · rw [PhiS_pos m c t.val _ e0]
    iintro ⟨⟨HS0, HS1⟩, Hg⟩
    isplitl [HS0 HS1]
    · iexists _; iexists _
      isplitr; · ipureintro; exact ⟨fun _ => rfl, fun _ => rfl⟩
      isplitl [HS0]; · iexact HS0
      iexact HS1
    iexact Hg

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val (Nat.lt_succ_of_lt t.isLt) from rfl,
    show (dats m 0 c).Φ t.succ = iprop(iprop(owns c.tc scM0_0 fullShare (xnAt m c t.val t.isLt) ∗ owns c.tc scM0_1 fullShare (xsn m c)) ∗ ∃ r, prngReg c r) from rfl]
  refine (sep_mono (PhiS_open m c t) .rfl).trans ?_
  iintro ⟨⟨⟨%L, %S, %hLS, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hrun := step m c t ((dats m 0 c).before 7 t d7) ((dats m 0 c).before 8 t d8) L S (fun h => before0_7 m c t h d7) (fun h => before0_8 m c t.val t.isLt h d8) hLS.1 hLS.2
  rw [body_eq]
  iapply (hrun Set.univ _)
  iframe H0 H1 H2 H3 H4 H5 H6 H7 H8 HS0 HS1
  iintro ⟨H0, H1, H2, H3, H4, H5, H6, H7, H8, HS0, HS1⟩
  isplitl [HS0 HS1 Hg]
  · isplitl [HS0 HS1]
    · isplitl [HS0]; · iexact HS0
      iexact HS1
    iexact Hg
  iframe Ho H0 H1 H2 H3 H4 H5 H6 H7
  iapply (leaves8 m c t)
  iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => by
      rw [show (dats m 0 c).Φ (Fin.last cfg0.N) = PhiS m c cfg0.N (by omega) from rfl, PhiS_pos m c cfg0.N _ (by decide), PhiA0_eq]
      iintro ⟨⟨HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn2Val

end
-- ==== Proof.FfnOut2.lean ====
/- The feed-forward call of layer 2: its two results, at an index. -/
module

public import proofs.«01_k».proof.Proof.FfnDat2
public import proofs.«01_k».proof.Proof.FfnOut0

@[expose] public section

set_option maxRecDepth 16384

noncomputable section

namespace Cert.Ffn2Val

open Idealize.ShloMosaic Idealize.ShloMosaic.TcCoe Idealize.SL.Sem
open Idealize.ShloMosaic.Pipeline (Dat)
open Cert.Ffn2Ideal Cert.Ffn2Ideal.Gen Cert.Ffn

/-! ## One point's work, at an index -/

theorem nrm_at (x : Vec Ideal S1024x2048 .f32) (g : Vec Ideal S1x2048 .f32) (r : Fin 1024) (l : Fin 2048) :
    nrm x g (ix2 r l) = nrmRow (fun k => x (ix2 r k)) (fun k => g (ix2 0 k)) l :=
  Ffn0Val.nrm_at x g r l
theorem ini_at (x : Vec Ideal S1024x2048 .f32) (r : Fin 1024) (l : Fin 2048) : ini x (ix2 r l) = x (ix2 r l) :=
  Ffn0Val.ini_at x r l
theorem acc_at (n : Vec Ideal S1024x2048 .bf16) (wa wb : Vec Ideal S1x2048x256 .f32) (o : Vec Ideal S1024x2048 .f32) (wd : Vec Ideal S1x256x2048 .f32) (r : Fin 1024) (l : Fin 2048) :
    acc n wa wb o wd (ix2 r l)
      = o (ix2 r l) + ∑ q : Fin 256, hid (fun k => n (ix2 r k)) (fun k => wa (ix3 0 k q)) (fun k => wb (ix3 0 k q)) * wd (ix3 0 q l) :=
  Ffn0Val.acc_at n wa wb o wd r l
theorem nrmS_at (x : Vec Ideal S8x2048 .f32) (g : Vec Ideal S1x2048 .f32) (r : Fin 8) (l : Fin 2048) :
    nrmS x g (ix2 r l) = nrmRow (fun k => x (ix2 r k)) (fun k => g (ix2 0 k)) l :=
  Ffn0Val.nrmS_at x g r l
theorem iniS_at (x : Vec Ideal S8x2048 .f32) (r : Fin 8) (l : Fin 2048) : iniS x (ix2 r l) = x (ix2 r l) :=
  Ffn0Val.iniS_at x r l
theorem accS_at (n : Vec Ideal S8x2048 .f32) (wa wb : Vec Ideal S1x2048x256 .f32) (o : Vec Ideal S8x2048 .f32) (wd : Vec Ideal S1x256x2048 .f32) (r : Fin 8) (l : Fin 2048) :
    accS n wa wb o wd (ix2 r l)
      = o (ix2 r l) + ∑ q : Fin 256, hid (fun k => n (ix2 r k)) (fun k => wa (ix3 0 k q)) (fun k => wb (ix3 0 k q)) * wd (ix3 0 q l) :=
  Ffn0Val.accS_at n wa wb o wd r l

variable (m : (ℓ : Loc nD τ sig) → Buf (Elt Ideal) ℓ)

/-! ## The arguments, a row at a time -/

/-- Row `r` of the prompts' rows, the batches one after another. -/
def arrX (c : Dev nD) (r : Fin 8192) : Fin 2048 → EReal := fun l => m (c.tc.loc main_arg0) (ix3 ⟨r.val / 2048, by omega⟩ ⟨r.val % 2048, by omega⟩ l)
/-- Row `r` of the samples' rows. -/
def arrS (c : Dev nD) (r : Fin 8) : Fin 2048 → EReal := fun l => m (c.tc.loc main_arg1) (ix3 r 0 l)
/-- The layer's scale of the normalisation. -/
def arrG (c : Dev nD) : Fin 2048 → EReal := fun l => m (c.tc.loc main_arg2) (ix2 2 l)
/-- The layer's upward weights. -/
def arrW (c : Dev nD) : Fin 2048 → Fin 11264 → EReal := fun k q => m (c.tc.loc main_arg3) (ix3 2 k q)
/-- The layer's downward weights. -/
def arrD (c : Dev nD) : Fin 5632 → Fin 2048 → EReal := fun q l => m (c.tc.loc main_arg4) (ix3 2 q l)
/-- The scale of the last normalisation. -/
def arrF (c : Dev nD) : Fin 2048 → EReal := fun l => m (c.tc.loc main_arg5) (ix1 l)

/-! ## Where the windows are -/

theorem at0 : ∀ t : Fin cfg0.N, win0_0.index t 0 = 2 ∧ win0_0.index t 1 = 0 ∧ win0_0.index t 2 = t.val % 22 := by decide +kernel
theorem at1 : ∀ t : Fin cfg0.N, win0_1.index t 0 = 2 ∧ win0_1.index t 1 = 0 ∧ win0_1.index t 2 = 22 + t.val % 22 := by decide +kernel
theorem at2 : ∀ t : Fin cfg0.N, win0_2.index t 0 = 2 ∧ win0_2.index t 1 = t.val % 22 ∧ win0_2.index t 2 = 0 := by decide +kernel
theorem at3 : ∀ t : Fin cfg0.N, win0_3.index t 0 = t.val / 22 ∧ win0_3.index t 1 = 0 := Ffn0Val.at3
theorem at4 : ∀ t : Fin cfg0.N, win0_4.index t 0 = 0 ∧ win0_4.index t 1 = 0 := Ffn0Val.at4
theorem at5 : ∀ t : Fin cfg0.N, win0_5.index t 0 = 0 ∧ win0_5.index t 1 = 0 := Ffn0Val.at5
theorem at6 : ∀ t : Fin cfg0.N, win0_6.index t 0 = 0 ∧ win0_6.index t 1 = 0 := Ffn0Val.at6
theorem at7 : ∀ t : Fin cfg0.N, win0_7.index t 0 = t.val / 22 ∧ win0_7.index t 1 = 0 := Ffn0Val.at7
theorem at8 : ∀ t : Fin cfg0.N, win0_8.index t 0 = 0 ∧ win0_8.index t 1 = 0 := Ffn0Val.at8

theorem lt176 (t : Fin cfg0.N) : t.val < 176 := lt_of_lt_of_eq t.isLt (show cfg0.N = 176 from N_0)

/-! ## The blocks -/

theorem blk0 (c : Dev nD) (t : Fin cfg0.N) (k : Fin 2048) (q : Fin 256) :
    iblk m c 0 t (ix3 0 k q) = arrW m c k ⟨t.val % 22 * 256 + q.val, by have := lt176 t; omega⟩ := by
  unfold iblk arrW
  rw [show V m c (Pipeline.arrRef spec0 0) = m (c.tc.loc main_arg3) from V_main_arg3 m c]
  refine congrArg (m (c.tc.loc main_arg3)) (funext fun a => Fin.ext ?_)
  match a with
  | ⟨0, _⟩ => blk_simp; rw [(at0 t).1]; rfl
  | ⟨1, _⟩ => blk_simp; rw [(at0 t).2.1]; show 0 * 2048 + k.val = k.val; omega
  | ⟨2, _⟩ => blk_simp; rw [(at0 t).2.2]
theorem blk1 (c : Dev nD) (t : Fin cfg0.N) (k : Fin 2048) (q : Fin 256) :
    iblk m c 1 t (ix3 0 k q) = arrW m c k ⟨5632 + (t.val % 22 * 256 + q.val), by have := lt176 t; omega⟩ := by
  unfold iblk arrW
  rw [show V m c (Pipeline.arrRef spec0 1) = m (c.tc.loc main_arg3) from V_main_arg3 m c]
  refine congrArg (m (c.tc.loc main_arg3)) (funext fun a => Fin.ext ?_)
  match a with
  | ⟨0, _⟩ => blk_simp; rw [(at1 t).1]; rfl
  | ⟨1, _⟩ => blk_simp; rw [(at1 t).2.1]; show 0 * 2048 + k.val = k.val; omega
  | ⟨2, _⟩ => blk_simp; rw [(at1 t).2.2]; show (22 + t.val % 22) * 256 + q.val = 5632 + (t.val % 22 * 256 + q.val); omega
theorem blk2 (c : Dev nD) (t : Fin cfg0.N) (q : Fin 256) (l : Fin 2048) :
    iblk m c 2 t (ix3 0 q l) = arrD m c ⟨t.val % 22 * 256 + q.val, by have := lt176 t; omega⟩ l := by
  unfold iblk arrD
  rw [show V m c (Pipeline.arrRef spec0 2) = m (c.tc.loc main_arg4) from V_main_arg4 m c]
  refine congrArg (m (c.tc.loc main_arg4)) (funext fun a => Fin.ext ?_)
  match a with
  | ⟨0, _⟩ => blk_simp; rw [(at2 t).1]; rfl
  | ⟨1, _⟩ => blk_simp; rw [(at2 t).2.1]
  | ⟨2, _⟩ => blk_simp; rw [(at2 t).2.2]; show 0 * 2048 + l.val = l.val; omega
theorem blk3 (c : Dev nD) (t : Fin cfg0.N) (r : Fin 1024) (l : Fin 2048) :
    iblk m c 3 t (ix2 r l) = arrX m c ⟨t.val / 22 * 1024 + r.val, by have := lt176 t; omega⟩ l := by
  have hN := lt176 t
  unfold iblk arrX
  have hV : V m c (Pipeline.arrRef spec0 3) = shapeCast S8192x2048 (m (c.tc.loc main_arg0)) shapeCasts_S4x2048x2048_S8192x2048 := by
    show StableHlo.after hostOps0 (fun b => m (c, b)) (Proc.tc.devRef main_v0) = _
    after_results
    rfl
  rw [hV]
  exact Ffn0Val.rows_at _ t r l
theorem blk4 (c : Dev nD) (t : Fin cfg0.N) (l : Fin 2048) : iblk m c 4 t (ix2 0 l) = arrG m c l := by
  unfold iblk arrG
  have hV : V m c (Pipeline.arrRef spec0 4) = shapeCast S1x2048 (shapeCast S2048 (extractStridedSlice S1x2048 ![2, 0] (m (c.tc.loc main_arg2)) slices_S4x2048_S1x2048_2_0) shapeCasts_S1x2048_S2048) shapeCasts_S2048_S1x2048 := by
    show StableHlo.after hostOps0 (fun b => m (c, b)) (Proc.tc.devRef main_v4) = _
    after_results
    rfl
  rw [hV]
  have e : ((cfg0.win 4).blk t).view.emb (ix2 0 l) = ix2 0 l := by
    refine funext fun a => Fin.ext ?_
    match a with
    | ⟨0, _⟩ => blk_simp; rw [(at4 t).1]; rfl
    | ⟨1, _⟩ => blk_simp; rw [(at4 t).2]; show 0 * 2048 + l.val = l.val; omega
  refine (congrArg (shapeCast S1x2048 (shapeCast S2048 (extractStridedSlice S1x2048 ![2, 0] (m (c.tc.loc main_arg2)) slices_S4x2048_S1x2048_2_0) shapeCasts_S1x2048_S2048) shapeCasts_S2048_S1x2048) e).trans ?_
  pointwise
theorem blk5 (c : Dev nD) (t : Fin cfg0.N) (l : Fin 2048) : iblk m c 5 t (ix2 0 l) = arrF m c l := by
  unfold iblk arrF
  have hV : V m c (Pipeline.arrRef spec0 5) = shapeCast S1x2048 (m (c.tc.loc main_arg5)) shapeCasts_S2048_S1x2048 := by
    show StableHlo.after hostOps0 (fun b => m (c, b)) (Proc.tc.devRef main_v5) = _
    after_results
    rfl
  rw [hV]
  have e : ((cfg0.win 5).blk t).view.emb (ix2 0 l) = ix2 0 l := by
    refine funext fun a => Fin.ext ?_
    match a with
    | ⟨0, _⟩ => blk_simp; rw [(at5 t).1]; rfl
    | ⟨1, _⟩ => blk_simp; rw [(at5 t).2]; show 0 * 2048 + l.val = l.val; omega
  refine (congrArg (shapeCast S1x2048 (m (c.tc.loc main_arg5)) shapeCasts_S2048_S1x2048) e).trans ?_
  pointwise
theorem blk6 (c : Dev nD) (t : Fin cfg0.N) (r : Fin 8) (l : Fin 2048) : iblk m c 6 t (ix2 r l) = arrS m c r l := by
  unfold iblk arrS
  have hV : V m c (Pipeline.arrRef spec0 6) = shapeCast S8x2048 (m (c.tc.loc main_arg1)) shapeCasts_S8x1x2048_S8x2048 := by
    show StableHlo.after hostOps0 (fun b => m (c, b)) (Proc.tc.devRef main_v3) = _
    after_results
    rfl
  rw [hV]
  have e : ((cfg0.win 6).blk t).view.emb (ix2 r l) = ix2 r l := by
    refine funext fun a => Fin.ext ?_
    match a with
    | ⟨0, _⟩ => blk_simp; rw [(at6 t).1]; show 0 * 8 + r.val = r.val; omega
    | ⟨1, _⟩ => blk_simp; rw [(at6 t).2]; show 0 * 2048 + l.val = l.val; omega
  refine (congrArg (shapeCast S8x2048 (m (c.tc.loc main_arg1)) shapeCasts_S8x1x2048_S8x2048) e).trans ?_
  pointwise

/-! ## The buffers, at an index -/

/-- The block of rows a point is in. -/
abbrev rowOf (n : ℕ) (h : n < 176) (r : Fin 1024) : Fin 8192 := ⟨n / 22 * 1024 + r.val, by omega⟩

theorem xnAt_val (c : Dev nD) (r : Fin 1024) (l : Fin 2048) : ∀ (n : ℕ) (h : n < cfg0.N),
    xnAt m c n h (ix2 r l) = nrmRow (arrX m c (rowOf n (lt176 ⟨n, h⟩) r)) (arrG m c) l := by
  intro n
  induction n with
  | zero =>
    intro h
    rw [xnAt_first m c ⟨0, h⟩ rfl, nrm_at]
    exact congrArg₂ (fun x g => nrmRow x g l) (funext fun k => blk3 m c ⟨0, h⟩ r k) (funext fun k => blk4 m c _ k)
  | succ n ih =>
    intro h
    by_cases h0 : (n + 1) % 22 = 0
    · rw [xnAt_first m c ⟨n + 1, h⟩ h0, nrm_at]
      exact congrArg₂ (fun x g => nrmRow x g l) (funext fun k => blk3 m c ⟨n + 1, h⟩ r k) (funext fun k => blk4 m c _ k)
    · rw [xnAt_next m c ⟨n + 1, h⟩ h0]
      refine (ih (by omega)).trans ?_
      exact congrArg (fun z => nrmRow (arrX m c z) (arrG m c) l) (Fin.ext (by show n / 22 * 1024 + r.val = (n + 1) / 22 * 1024 + r.val; omega))

/-- One point adds its tile of hidden units to the accumulator. -/
theorem stepO_val (c : Dev nD) (t : Fin cfg0.N) (o : Vec Ideal S1024x2048 .f32) (r : Fin 1024) (l : Fin 2048)
    (ho : o (ix2 r l) = upto (arrX m c (rowOf t.val (lt176 t) r)) (arrG m c) (arrW m c) (arrD m c) l (t.val % 22 * 256)) :
    stepO m c t o (ix2 r l) = upto (arrX m c (rowOf t.val (lt176 t) r)) (arrG m c) (arrW m c) (arrD m c) l ((t.val % 22 + 1) * 256) := by
  have hN := lt176 t
  unfold stepO
  rw [acc_at, ho, show (t.val % 22 + 1) * 256 = t.val % 22 * 256 + 256 by omega, ← upto_tile]
  refine add_sums fun q => ?_
  unfold Ffn.unit
  rw [dif_pos (by omega)]
  refine congrArg₂ (· * ·) ?_ (blk2 m c t q l)
  rw [show (fun k => xnAt m c t.val t.isLt (ix2 r k)) = nrmRow (arrX m c (rowOf t.val (lt176 t) r)) (arrG m c) from funext fun k => xnAt_val m c r k t.val t.isLt]
  exact congrArg₂ (hid _) (funext fun k => blk0 m c t k q) (funext fun k => blk1 m c t k q)

/-- The accumulator after every tile but the last. -/
theorem oAt_val (c : Dev nD) (r : Fin 1024) (l : Fin 2048) : ∀ (n : ℕ) (h : n < cfg0.N), n % 22 ≠ 21 →
    oAt m c n h (ix2 r l) = upto (arrX m c (rowOf n (lt176 ⟨n, h⟩) r)) (arrG m c) (arrW m c) (arrD m c) l ((n % 22 + 1) * 256) := by
  intro n
  induction n with
  | zero =>
    intro h _
    rw [oAt_first m c ⟨0, h⟩ rfl]
    exact stepO_val m c ⟨0, h⟩ _ r l ((ini_at _ r l).trans ((blk3 m c ⟨0, h⟩ r l).trans (upto_zero _ _ _ _ l).symm))
  | succ n ih =>
    intro h hn
    by_cases h0 : (n + 1) % 22 = 0
    · rw [oAt_first m c ⟨n + 1, h⟩ h0]
      refine stepO_val m c ⟨n + 1, h⟩ _ r l ((ini_at _ r l).trans ((blk3 m c ⟨n + 1, h⟩ r l).trans ?_))
      show _ = upto _ _ _ _ l ((n + 1) % 22 * 256)
      rw [h0, Nat.zero_mul, upto_zero]
    · rw [oAt_next m c ⟨n + 1, h⟩ h0 hn]
      refine stepO_val m c ⟨n + 1, h⟩ _ r l ((ih (by omega) (by omega)).trans ?_)
      refine congrArg₂ (fun z y => upto (arrX m c z) (arrG m c) (arrW m c) (arrD m c) l y) (Fin.ext ?_) ?_
      · show n / 22 * 1024 + r.val = (n + 1) / 22 * 1024 + r.val; omega
      · show (n % 22 + 1) * 256 = (n + 1) % 22 * 256; omega

/-- A row's result, from the row and the weights. -/
def resRow (c : Dev nD) (x : Fin 2048 → EReal) : Fin 2048 → EReal := trunk x (arrG m c) (arrW m c) (arrD m c)

/-- The last tile's point completes a block of rows. -/
theorem oAt_done (c : Dev nD) (t : Fin cfg0.N) (h : t.val % 22 = 21) (r : Fin 1024) (l : Fin 2048) :
    oAt m c t.val t.isLt (ix2 r l) = resRow m c (arrX m c (rowOf t.val (lt176 t) r)) l := by
  have hN := lt176 t
  have hs : ∀ k, stepO m c t (oAt m c (prev t).val (prev t).isLt) (ix2 r k) = trunk (arrX m c (rowOf t.val (lt176 t) r)) (arrG m c) (arrW m c) (arrD m c) k := fun k => by
    refine (stepO_val m c t _ r k ((oAt_val m c r k (prev t).val (prev t).isLt (by show (t.val - 1) % 22 ≠ 21; omega)).trans ?_)).trans ?_
    · refine congrArg₂ (fun z y => upto (arrX m c z) (arrG m c) (arrW m c) (arrD m c) k y) (Fin.ext ?_) ?_
      · show (t.val - 1) / 22 * 1024 + r.val = t.val / 22 * 1024 + r.val; omega
      · show ((t.val - 1) % 22 + 1) * 256 = t.val % 22 * 256; omega
    · rw [h]; exact upto_all _ _ _ _ k
  rw [oAt_last m c t h]
  exact hs l

theorem xsn_val (c : Dev nD) (r : Fin 8) (l : Fin 2048) : xsn m c (ix2 r l) = nrmRow (arrS m c r) (arrG m c) l := by
  unfold xsn
  rw [nrmS_at]
  exact congrArg₂ (fun x g => nrmRow x g l) (funext fun k => blk6 m c _ r k) (funext fun k => blk4 m c _ k)

/-- One point of the first block of rows adds its tile to the samples' accumulator. -/
theorem stepS_val (c : Dev nD) (t : Fin cfg0.N) (ht : t.val < 22) (o : Vec Ideal S8x2048 .f32) (r : Fin 8) (l : Fin 2048)
    (ho : o (ix2 r l) = upto (arrS m c r) (arrG m c) (arrW m c) (arrD m c) l (t.val * 256)) :
    stepS m c t o (ix2 r l) = upto (arrS m c r) (arrG m c) (arrW m c) (arrD m c) l ((t.val + 1) * 256) := by
  unfold stepS
  rw [accS_at, ho, show (t.val + 1) * 256 = t.val * 256 + 256 by omega, ← upto_tile]
  refine add_sums fun q => ?_
  unfold Ffn.unit
  rw [dif_pos (by omega)]
  have e : t.val % 22 = t.val := Nat.mod_eq_of_lt ht
  refine congrArg₂ (· * ·) ?_ ((blk2 m c t q l).trans (congrArg (fun z => arrD m c z l) (Fin.ext (by show t.val % 22 * 256 + q.val = t.val * 256 + q.val; rw [e]))))
  rw [show (fun k => xsn m c (ix2 r k)) = nrmRow (arrS m c r) (arrG m c) from funext fun k => xsn_val m c r k]
  exact congrArg₂ (hid _)
    (funext fun k => (blk0 m c t k q).trans (congrArg (arrW m c k) (Fin.ext (by show t.val % 22 * 256 + q.val = t.val * 256 + q.val; rw [e]))))
    (funext fun k => (blk1 m c t k q).trans (congrArg (arrW m c k) (Fin.ext (by show 5632 + (t.val % 22 * 256 + q.val) = 5632 + (t.val * 256 + q.val); rw [e]))))

/-- The samples' accumulator within the first block of rows. -/
theorem osAt_val (c : Dev nD) (r : Fin 8) (l : Fin 2048) : ∀ (n : ℕ) (h : n < cfg0.N), n < 21 →
    osAt m c n h (ix2 r l) = upto (arrS m c r) (arrG m c) (arrW m c) (arrD m c) l ((n + 1) * 256) := by
  intro n
  induction n with
  | zero =>
    intro h _
    rw [osAt_first m c ⟨0, h⟩ rfl]
    refine stepS_val m c ⟨0, h⟩ (by simp) _ r l ((iniS_at _ r l).trans ((blk6 m c ⟨0, h⟩ r l).trans ?_))
    show _ = upto _ _ _ _ l (0 * 256)
    rw [Nat.zero_mul, upto_zero]
  | succ n ih =>
    intro h hn
    rw [osAt_next m c ⟨n + 1, h⟩ (by simp) (by simp only; omega) (by simp only; omega)]
    exact stepS_val m c ⟨n + 1, h⟩ (by simp only; omega) _ r l (ih (by omega) (by omega))

/-- From the last point of the first block of rows on the samples' buffer is complete. -/
theorem osAt_done (c : Dev nD) (r : Fin 8) (l : Fin 2048) : ∀ (n : ℕ) (h : n < cfg0.N), 21 ≤ n →
    osAt m c n h (ix2 r l) = resRow m c (arrS m c r) l := by
  intro n
  induction n with
  | zero => intro _ h; omega
  | succ n ih =>
    intro h hn
    by_cases h1 : n + 1 = 21
    · have hs : ∀ k, stepS m c ⟨n + 1, h⟩ (osAt m c n (by omega)) (ix2 r k) = trunk (arrS m c r) (arrG m c) (arrW m c) (arrD m c) k := fun k => by
        refine (stepS_val m c ⟨n + 1, h⟩ (by simp only; omega) _ r k (osAt_val m c r k n (by omega) (by omega))).trans ?_
        show upto _ _ _ _ k ((n + 1 + 1) * 256) = _
        rw [h1]; exact upto_all _ _ _ _ k
      rw [osAt_last m c ⟨n + 1, h⟩ h1]
      exact hs l
    · rw [osAt_kept m c ⟨n + 1, h⟩ (by simp only; omega)]
      exact ih (by omega) (by omega)

/-! ## The result arrays -/

/-- The prompts' result as a function of its index. -/
def whole0 (c : Dev nD) : FVec Ideal S8192x2048 .f32 := fun y => resRow m c (arrX m c ⟨(y 0).val, (y 0).isLt⟩) ⟨(y 1).val, (y 1).isLt⟩
/-- The samples' result as a function of its index. -/
def whole1 (c : Dev nD) : FVec Ideal S8x2048 .f32 := fun y => resRow m c (arrS m c ⟨(y 0).val, (y 0).isLt⟩) ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt176 t
  have h21 : t.val % 22 = 21 := (flush0_7 t).mp hf
  blk_simp
  rw [after0_7]
  have h0 : (y 0).val < 1024 := (y 0).isLt
  have h1 : (y 1).val < 2048 := (y 1).isLt
  have e : (win0_7.blk t).view.emb y = ix2 (rowOf t.val hN ⟨(y 0).val, h0⟩) ⟨(y 1).val, h1⟩ := by
    refine funext fun a => Fin.ext ?_
    match a with
    | ⟨0, _⟩ => blk_simp; rw [(at7 t).1]; rfl
    | ⟨1, _⟩ => blk_simp; rw [(at7 t).2]; show 0 * 2048 + (y 1).val = (y 1).val; omega
  rw [e]
  refine Eq.trans (congrArg (oAt m c t.val t.isLt) ?_) (oAt_done m c t h21 ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  have hN := lt176 t
  have h175 : t.val % 176 = 175 := (flush0_8 t).mp hf
  blk_simp
  rw [after0_8]
  have h0 : (y 0).val < 8 := (y 0).isLt
  have h1 : (y 1).val < 2048 := (y 1).isLt
  have e : (win0_8.blk t).view.emb y = ix2 (⟨(y 0).val, h0⟩ : Fin 8) (⟨(y 1).val, h1⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; show 0 * 2048 + (y 1).val = (y 1).val; omega
  rw [e]
  refine Eq.trans (congrArg (osAt m c t.val t.isLt) ?_) (osAt_done m c ⟨(y 0).val, h0⟩ ⟨(y 1).val, h1⟩ t.val t.isLt (by omega))
  exact funext fun a => match a with | ⟨0, _⟩ => rfl | ⟨1, _⟩ => rfl

end Cert.Ffn2Val

end
-- ==== Proof.FfnRef2.lean ====
/- The reference of layer 2's feed-forward block, at an index. -/
module

public import proofs.«01_k».proof.Proof.FfnMath
public import proofs.«01_k».proof.Proof.Gen.Ffn2RefIdeal.Read

@[expose] public section

set_option maxRecDepth 16384

noncomputable section

namespace Cert.Ffn2Ref

open Idealize.ShloMosaic Idealize.ShloMosaic.TcCoe Idealize.SL.Sem
open Cert.Ffn2RefIdeal Cert.Ffn2RefIdeal.Read Cert.Ffn

variable (x0 : (⟨S4x2048x2048, .f32⟩ : BufTy).Contents (Elt Ideal)) (x1 : (⟨S8x1x2048, .f32⟩ : BufTy).Contents (Elt Ideal))
  (x2 : (⟨S4x2048, .f32⟩ : BufTy).Contents (Elt Ideal)) (x3 : (⟨S4x2048x11264, .f32⟩ : BufTy).Contents (Elt Ideal))
  (x4 : (⟨S4x5632x2048, .f32⟩ : BufTy).Contents (Elt Ideal)) (x5 : (⟨S2048, .f32⟩ : BufTy).Contents (Elt Ideal))

/-- The layer's scale. -/
def rowG : Fin 2048 → EReal := fun k => x2 (ix2 2 k)
/-- The layer's upward weights. -/
def rowW : Fin 2048 → Fin 11264 → EReal := fun k q => x3 (ix3 2 k q)
/-- The layer's downward weights. -/
def rowD : Fin 5632 → Fin 2048 → EReal := fun q l => x4 (ix3 2 q l)
/-- The last scale. -/
def rowF : Fin 2048 → EReal := fun k => x5 (ix1 k)
/-- A row of the prompts. -/
def rowX (b : Fin 4) (r : Fin 2048) : Fin 2048 → EReal := fun k => x0 (ix3 b r k)
/-- A row of the samples. -/
def rowS (b : Fin 8) (r : Fin 1) : Fin 2048 → EReal := fun k => x1 (ix3 b r k)

theorem normX (b : Fin 4) (r : Fin 2048) (l : Fin 2048) : val_main_v14 (F := Ideal) x0 x2 (ix3 b r l) = nrmRow (rowX x0 b r) (rowG x2) l := by
  unfold nrmRow rowX rowG
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

theorem upX (b : Fin 4) (r : Fin 2048) (q : Fin 11264) :
    val_main_v19 (F := Ideal) x0 x2 x3 (ix3 b r q) = ∑ k, nrmRow (rowX x0 b r) (rowG x2) k * rowW x3 k q := by
  have hW : ∀ k, val_main_v16 (F := Ideal) x3 (ix2 k q) = rowW x3 k q := fun k => by
    unfold rowW
    pointwise [val_main_v16, val_main_v15]
  rw [← Finset.sum_congr rfl fun k _ => congrArg₂ (· * ·) (normX x0 x2 b r k) (hW k)]
  pointwise [val_main_v19]

theorem hidX (b : Fin 4) (r : Fin 2048) (q : Fin 5632) :
    val_main_v23 (F := Ideal) x0 x2 x3 (ix3 b r q) = hid (nrmRow (rowX x0 b r) (rowG x2)) (fun k => rowW x3 k ⟨q.val, by omega⟩) (fun k => rowW x3 k ⟨5632 + q.val, by omega⟩) := by
  unfold hid Ideal.logistic
  rw [← upX x0 x2 x3 b r ⟨q.val, by omega⟩, ← upX x0 x2 x3 b r ⟨5632 + q.val, by omega⟩, ← one_bits]
  pointwise [val_main_v23, val_main_v22, val_main_call0_v5, val_main_call0_v4, val_main_call0_cst_0, val_main_call0_v3, val_main_call0_v2, val_main_call0_cst, val_main_call0_v1, val_main_call0_v0, val_main_v21, val_main_v20]

theorem trunkX (b : Fin 4) (r : Fin 2048) (l : Fin 2048) :
    val_main_v25 (F := Ideal) x0 x2 x3 x4 (ix3 b r l) = trunk (rowX x0 b r) (rowG x2) (rowW x3) (rowD x4) l := by
  have hD : ∀ q, val_main_v18 (F := Ideal) x4 (ix2 q l) = rowD x4 q l := fun q => by
    unfold rowD
    pointwise [val_main_v18, val_main_v17]
  unfold trunk
  rw [← Finset.sum_congr rfl fun q _ => congrArg₂ (· * ·) (hidX x0 x2 x3 b r q) (hD q)]
  pointwise [val_main_v25, val_main_v24]
  rfl

/-- The reference's prompts, at an index. -/
theorem resX (r : Fin 8192) (l : Fin 2048) : val_main_v26 (F := Ideal) x0 x2 x3 x4 (ix2 r l) = trunk (rowX x0 ⟨r.val / 2048, by omega⟩ ⟨r.val % 2048, by omega⟩) (rowG x2) (rowW x3) (rowD x4) l := by
  refine Eq.trans ?_ (trunkX x0 x2 x3 x4 ⟨r.val / 2048, by omega⟩ ⟨r.val % 2048, by omega⟩ l)
  unfold val_main_v26
  refine shapeCast_apply _ _ _ _ ?_
  rw [Shape.rowMajor_val_two]
  refine (Shape.rowMajor_val_three _).trans ?_
  show (r.val / 2048 * 2048 + r.val % 2048) * 2048 + l.val = r.val * 2048 + l.val
  omega

theorem normS (b : Fin 8) (r : Fin 1) (l : Fin 2048) : val_main_v41 (F := Ideal) x1 x2 (ix3 b r l) = nrmRow (rowS x1 b r) (rowG x2) l := by
  obtain rfl : r = 0 := Subsingleton.elim _ _
  unfold nrmRow rowS rowG
  pointwise [val_main_v41, val_main_v40, val_main_v39, val_main_v38, val_main_v37, val_main_v36, val_main_v35, val_main_v34, val_main_cst_4, val_main_v33, val_main_v32, val_main_cst_3, val_main_v31, val_main_v30, val_main_cst_2, val_main_v29, val_main_v28, val_main_v27]

theorem upS (b : Fin 8) (r : Fin 1) (q : Fin 11264) :
    val_main_v46 (F := Ideal) x1 x2 x3 (ix3 b r q) = ∑ k, nrmRow (rowS x1 b r) (rowG x2) k * rowW x3 k q := by
  obtain rfl : r = 0 := Subsingleton.elim _ _
  have hW : ∀ k, val_main_v43 (F := Ideal) x3 (ix2 k q) = rowW x3 k q := fun k => by
    unfold rowW
    pointwise [val_main_v43, val_main_v42]
  rw [← Finset.sum_congr rfl fun k _ => congrArg₂ (· * ·) (normS x1 x2 b 0 k) (hW k)]
  pointwise [val_main_v46]

theorem hidS (b : Fin 8) (r : Fin 1) (q : Fin 5632) :
    val_main_v50 (F := Ideal) x1 x2 x3 (ix3 b r q) = hid (nrmRow (rowS x1 b r) (rowG x2)) (fun k => rowW x3 k ⟨q.val, by omega⟩) (fun k => rowW x3 k ⟨5632 + q.val, by omega⟩) := by
  obtain rfl : r = 0 := Subsingleton.elim _ _
  unfold hid Ideal.logistic
  rw [← upS x1 x2 x3 b 0 ⟨q.val, by omega⟩, ← upS x1 x2 x3 b 0 ⟨5632 + q.val, by omega⟩, ← one_bits]
  pointwise [val_main_v50, val_main_v49, val_main_call1_v5, val_main_call1_v4, val_main_call1_cst_0, val_main_call1_v3, val_main_call1_v2, val_main_call1_cst, val_main_call1_v1, val_main_call1_v0, val_main_v48, val_main_v47]

theorem trunkS (b : Fin 8) (r : Fin 1) (l : Fin 2048) :
    val_main_v52 (F := Ideal) x1 x2 x3 x4 (ix3 b r l) = trunk (rowS x1 b r) (rowG x2) (rowW x3) (rowD x4) l := by
  obtain rfl : r = 0 := Subsingleton.elim _ _
  have hD : ∀ q, val_main_v45 (F := Ideal) x4 (ix2 q l) = rowD x4 q l := fun q => by
    unfold rowD
    pointwise [val_main_v45, val_main_v44]
  unfold trunk
  rw [← Finset.sum_congr rfl fun q _ => congrArg₂ (· * ·) (hidS x1 x2 x3 b 0 q) (hD q)]
  pointwise [val_main_v52, val_main_v51]
  rfl

/-- The reference's samples, at an index. -/
theorem resS (r : Fin 8) (l : Fin 2048) : val_main_v53 (F := Ideal) x1 x2 x3 x4 (ix2 r l) = trunk (rowS x1 r 0) (rowG x2) (rowW x3) (rowD x4) l := by
  refine Eq.trans ?_ (trunkS x1 x2 x3 x4 r 0 l)
  pointwise [val_main_v53]

end Cert.Ffn2Ref

end
-- ==== Proof.FfnClaim2.lean ====
/- The feed-forward block of layer 2 and its reference end with equal results. -/
module

public import proofs.«01_k».proof.Defs
public import proofs.«01_k».proof.Proof.FfnOut2
public import proofs.«01_k».proof.Proof.FfnRef2
public import proofs.«01_k».proof.Proof.Gen.Ffn2.Frame

@[expose] public section

set_option maxRecDepth 16384

noncomputable section

namespace Cert.Ffn2Proof

open Idealize.ShloMosaic Idealize.ShloMosaic.TcCoe Idealize.SL.Sem

/-- The reference leaves its arguments alone. -/
theorem ref_frame : quiescent_Ffn2RefIdeal := fun m g _ =>
  (θ_run _ _ _).mono (fun r h => ⟨fun c => (h c).2.2, sem_eq_zero_of_no_sems rfl r.2⟩) (Ffn2RefIdeal.Value.run m g)

section

variable {F : FTy → Type} [FloatOps F]

attribute [local instance] Ffn2.Gen.facts Ffn2Ideal.Gen.facts

/-- The two printings of the kernel have the same body. -/
theorem bodies : Ffn2.defs₀ (F := F) = Ffn2Ideal.defs₀ (F := F) := by
  refine congrArg Defs.onTc (funext fun n => funext fun a => ?_)
  match n, a with
  | ⟨0, _⟩, (t, s) => rfl

/-- So they have the same table. -/
theorem tables : Ffn2.defs (F := F) = Ffn2Ideal.defs (F := F) :=
  congrArg (Pipeline.defs (Ffn2Ideal.pcfgs (F := F))) bodies

/-- The kernel leaves its arguments alone: the one run, at the machine's floats. -/
theorem kernel_frame : quiescent_Ffn2 := fun m g _ => by
  have h := Ffn2Val.frame (F := Bits) m g
  rw [← tables] at h
  exact h

end

/-- The kernel over the reals leaves its arguments alone. -/
theorem frame : quiescent_Ffn2Ideal := fun m g _ => Ffn2Val.frame m g

/-- The kernel over the reals computes what the reference does. -/
theorem algebraic : algebraic_Ffn2Ideal_Ffn2RefIdeal := by
  intro m g m' g' _ ha
  refine ⟨fun c => Ffn2Val.whole0 m c, fun c => Ffn2Val.whole1 m c, ?_, ?_⟩
  · exact (θ_run _ _ _).mono (fun r h c => ⟨((h.1.1 c).1 7).trans (Ffn2Val.arr7 m c), ((h.1.1 c).1 8).trans (Ffn2Val.arr8 m c), h.2.1 c⟩)
      (θ_run_and (Ffn2Val.run_main m g) (Ffn2Val.frame m g))
  · refine (θ_run _ _ _).mono (fun r h c => ⟨(h c).1.trans ?_, (h c).2.1.trans ?_, (h c).2.2⟩) (Ffn2RefIdeal.Value.run m' g')
    · rw [Ffn2RefIdeal.Read.val_main_v26_eq, (ha c).1, (ha c).2.2.1, (ha c).2.2.2.1, (ha c).2.2.2.2.1]
      funext y
      obtain ⟨r, l, rfl⟩ : ∃ (r : Fin 8192) (l : Fin 2048), y = ix2 r l := ⟨y 0, y 1, funext fun a => match a with | ⟨0, _⟩ => rfl | ⟨1, _⟩ => rfl⟩
      exact Ffn2Ref.resX _ _ _ _ r l
    · rw [Ffn2RefIdeal.Read.val_main_v53_eq, (ha c).2.1, (ha c).2.2.1, (ha c).2.2.2.1, (ha c).2.2.2.2.1]
      funext y
      obtain ⟨r, l, rfl⟩ : ∃ (r : Fin 8) (l : Fin 2048), y = ix2 r l := ⟨y 0, y 1, funext fun a => match a with | ⟨0, _⟩ => rfl | ⟨1, _⟩ => rfl⟩
      exact Ffn2Ref.resS _ _ _ _ r l

end Cert.Ffn2Proof

end
-- ==== Proof.FfnDat3.lean ====
/- The feed-forward call of layer 3: what every buffer holds after every point of the grid, and the run of the whole call. -/
module

public import proofs.«01_k».proof.Proof.Gen.Ffn3Ideal.Frame
public import proofs.«01_k».proof.Proof.Gen.Ffn3Ideal.Skeleton
public import Idealize.ShloMosaic.Lib.VecWindow
public import Idealize.ShloMosaic.Lib.Claim

@[expose] public section

set_option maxRecDepth 16384

noncomputable section

namespace Cert.Ffn3Val

open Cert.Ffn3Ideal Cert.Ffn3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝔹" => Memref sig Kind.tc Space.vmem
local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 22) — by arithmetic of the point. -/
theorem hcond0_0 : ∀ t : Fin cfg0.N, cond0_0 (grid0.coords t) ↔ t.val % 22 = 0 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_0, e0, e1]
    word_cmp
   : ∀ t : Fin grid0.N, cond0_0 (grid0.coords t) ↔ t.val % 22 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 21#32)) 0#32) = 1#1
/-- It holds at the points ≡ 21 (mod 22) — by arithmetic of the point. -/
theorem hcond0_1 : ∀ t : Fin cfg0.N, cond0_1 (grid0.coords t) ↔ t.val % 22 = 21 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_1, e0, e1]
    word_cmp
   : ∀ t : Fin grid0.N, cond0_1 (grid0.coords t) ↔ t.val % 22 = 21)

/-- The condition of the body's `scf.if` 2 (`k0_h3`), from the grid coordinates (the skeleton's scalar
    chain substituted). -/
abbrev cond0_2 (i : grid0.Coords) : Prop := k0_cond3 i = 1#1
/-- It holds at the points before point 22 — by arithmetic of the point. -/
theorem hcond0_2 : ∀ t : Fin cfg0.N, cond0_2 (grid0.coords t) ↔ t.val < 22 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_2, k0_cond3, e0, e1]
    word_cmp
   : ∀ t : Fin grid0.N, cond0_2 (grid0.coords t) ↔ t.val < 22)

/-- The condition of the body's `scf.if` 3 (`k0_h4`), from the grid coordinates (the skeleton's scalar
    chain substituted). -/
abbrev cond0_3 (i : grid0.Coords) : Prop := k0_cond4 i = 1#1
/-- It holds at the points ≡ 0 (mod 22) — by arithmetic of the point. -/
theorem hcond0_3 : ∀ t : Fin cfg0.N, cond0_3 (grid0.coords t) ↔ t.val % 22 = 0 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_3, k0_cond4, e0, e1]
    word_cmp
   : ∀ t : Fin grid0.N, cond0_3 (grid0.coords t) ↔ t.val % 22 = 0)

/-- The condition of the body's `scf.if` 4 (`k0_h5`), from the grid coordinates (the skeleton's scalar
    chain substituted). -/
abbrev cond0_4 (i : grid0.Coords) : Prop := k0_cond5 i = 1#1
/-- It holds at the points ≡ 21 (mod 22) — by arithmetic of the point. -/
theorem hcond0_4 : ∀ t : Fin cfg0.N, cond0_4 (grid0.coords t) ↔ t.val % 22 = 21 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 1 % 22 := Pipeline.Grid.coords_val t 1 (by decide) rfl
    simp only [cond0_4, k0_cond5, e0, e1]
    word_cmp
   : ∀ t : Fin grid0.N, cond0_4 (grid0.coords t) ↔ t.val % 22 = 21)

/-! ## The staging memrefs -/

/-- Each window's current staging memref at point `t`, spelled as the pipeline passes it (`bodyAt0`), and its wholeness. -/
abbrev ms0_0 (t : Fin cfg0.N) : 𝔹 S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : 𝔹 S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : 𝔹 S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : 𝔹 S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : 𝔹 S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : 𝔹 S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : 𝔹 S8x2048 .f32 := win0_6.stage (cfg0.slots t 6)
abbrev hs0_6 (t : Fin cfg0.N) : (ms0_6 t).IsWhole := hstage0_6 ((cfg0.slots t 6).cast nbuf0_6)
abbrev ms0_7 (t : Fin cfg0.N) : 𝔹 S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : 𝔹 S8x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : 𝔹 S1024x2048 .bf16 := Memref.whole cc0_scratch0
abbrev scM0_1 : 𝔹 S8x2048 .f32 := Memref.whole cc0_scratch1

/-- The frame kit's invariant with the scratch operands as memrefs owned at some contents (`Gen.scopedRest0_eq`,
    Lib/Memref.lean `owns_whole`): as the body finds and leaves it. -/
theorem PhiA0_eq (c : Dev nD) :
    (Pipeline.ΦA spec0 c : sProp 𝕄)
      = iprop(iprop((∃ d, owns c.tc scM0_0 fullShare d) ∗ (∃ d, owns c.tc scM0_1 fullShare d)) ∗ (∃ r, prngReg c r)) := by
  unfold Pipeline.ΦA; rw [scopedRest0_eq]; simp only [scM0_0, scM0_1, owns_whole]; try rfl

/-! ## Whole-buffer loads and stores, read back -/

section
variable {κ : Kind} {sp : Space} {e : EltTy}
/-- Reading a buffer after a store of all of it gives what was stored. -/
theorem stored_S1024x2048 (v : View sig κ sp S1024x2048 e) (f : v.ty.Contents (Elt F)) (inb) (w : (Rect.unit (s := S1024x2048) ![0, 0] ![1024, 2048] inb).shape.Idx → Elt F e) (L : List (View.Piece (Elt F) S1024x2048 e)) :
    v.read (Elt F) (v.writes (Elt F) f (⟨Rect.unit (s := S1024x2048) ![0, 0] ![1024, 2048] inb, w⟩ :: L)) = w := View.read_writes_full v f inb w L
/-- So does loading all of it. -/
theorem reload_S1024x2048 (v : View sig κ sp S1024x2048 e) (inb inb') (w : (Rect.unit (s := S1024x2048) ![0, 0] ![1024, 2048] inb').shape.Idx → Elt F e) (L : List (View.Piece (Elt F) S1024x2048 e)) :
    v.readCov (⟨Rect.unit (s := S1024x2048) ![0, 0] ![1024, 2048] inb', w⟩ :: L) (Rect.unit (s := S1024x2048) ![0, 0] ![1024, 2048] inb).toLoadRect = w := View.readCov_full v inb inb' w L
/-- Reading a buffer after a store of all of it gives what was stored. -/
theorem stored_S8x2048 (v : View sig κ sp S8x2048 e) (f : v.ty.Contents (Elt F)) (inb) (w : (Rect.unit (s := S8x2048) ![0, 0] ![8, 2048] inb).shape.Idx → Elt F e) (L : List (View.Piece (Elt F) S8x2048 e)) :
    v.read (Elt F) (v.writes (Elt F) f (⟨Rect.unit (s := S8x2048) ![0, 0] ![8, 2048] inb, w⟩ :: L)) = w := View.read_writes_full v f inb w L
/-- So does loading all of it. -/
theorem reload_S8x2048 (v : View sig κ sp S8x2048 e) (inb inb') (w : (Rect.unit (s := S8x2048) ![0, 0] ![8, 2048] inb').shape.Idx → Elt F e) (L : List (View.Piece (Elt F) S8x2048 e)) :
    v.readCov (⟨Rect.unit (s := S8x2048) ![0, 0] ![8, 2048] inb', w⟩ :: L) (Rect.unit (s := S8x2048) ![0, 0] ![8, 2048] inb).toLoadRect = w := View.readCov_full v inb inb' w L
/-- Loading all of a buffer reads it. -/
theorem load_S1024x2048 (v : View sig κ sp S1024x2048 e) (f : v.ty.Contents (Elt F)) (inb) :
    v.readAt (Elt F) (Rect.unit (s := S1024x2048) ![0, 0] ![1024, 2048] inb).toLoadRect f = v.read (Elt F) f := View.readAt_full v f inb
/-- Loading all of a buffer reads it. -/
theorem load_S8x2048 (v : View sig κ sp S8x2048 e) (f : v.ty.Contents (Elt F)) (inb) :
    v.readAt (Elt F) (Rect.unit (s := S8x2048) ![0, 0] ![8, 2048] inb).toLoadRect f = v.read (Elt F) f := View.readAt_full v f inb
/-- Loading all of a buffer reads it. -/
theorem load_S1x2048 (v : View sig κ sp S1x2048 e) (f : v.ty.Contents (Elt F)) (inb) :
    v.readAt (Elt F) (Rect.unit (s := S1x2048) ![0, 0] ![1, 2048] inb).toLoadRect f = v.read (Elt F) f := View.readAt_full v f inb
/-- Loading all of a buffer reads it. -/
theorem load_S1x2048x256 (v : View sig κ sp S1x2048x256 e) (f : v.ty.Contents (Elt F)) (inb) :
    v.readAt (Elt F) (Rect.unit (s := S1x2048x256) ![0, 0, 0] ![1, 2048, 256] inb).toLoadRect f = v.read (Elt F) f := View.readAt_full v f inb
/-- Loading all of a buffer reads it. -/
theorem load_S1x256x2048 (v : View sig κ sp S1x256x2048 e) (f : v.ty.Contents (Elt F)) (inb) :
    v.readAt (Elt F) (Rect.unit (s := S1x256x2048) ![0, 0, 0] ![1, 256, 2048] inb).toLoadRect f = v.read (Elt F) f := View.readAt_full v f inb
end

/-! ## What the body computes -/

/-- The normalised rows. -/
abbrev nrm (x : Vec F S1024x2048 .f32) (g : Vec F S1x2048 .f32) : Vec F S1024x2048 .bf16 := k0_pay2 x g
/-- What the accumulator starts from. -/
abbrev ini (x : Vec F S1024x2048 .f32) : Vec F S1024x2048 .f32 := k0_pay1 x
/-- The accumulator after one more tile of the hidden width. -/
abbrev acc (n : Vec F S1024x2048 .bf16) (wa wb : Vec F S1x2048x256 .f32) (o : Vec F S1024x2048 .f32) (wd : Vec F S1x256x2048 .f32) : Vec F S1024x2048 .f32 := k0_pay3 n wa wb o wd
/-- What the last tile's point does to the accumulator. -/
abbrev fin (o : Vec F S1024x2048 .f32) (gf : Vec F S1x2048 .f32) : Vec F S1024x2048 .f32 := k0_pay4 o gf
/-- The same four for the sample rows. -/
abbrev nrmS (x : Vec F S8x2048 .f32) (g : Vec F S1x2048 .f32) : Vec F S8x2048 .f32 := k0_pay6 x g
abbrev iniS (x : Vec F S8x2048 .f32) : Vec F S8x2048 .f32 := k0_pay5 x
abbrev accS (n : Vec F S8x2048 .f32) (wa wb : Vec F S1x2048x256 .f32) (o : Vec F S8x2048 .f32) (wd : Vec F S1x256x2048 .f32) : Vec F S8x2048 .f32 := k0_pay7 n wa wb o wd
abbrev finS (o : Vec F S8x2048 .f32) (gf : Vec F S1x2048 .f32) : Vec F S8x2048 .f32 := k0_pay8 o gf

variable (c : Dev nD) (i : grid0.Coords) (arg2 : 𝔹 S1x2048x256 .f32) (harg2 : arg2.IsWhole) (arg3 : 𝔹 S1x2048x256 .f32) (harg3 : arg3.IsWhole) (arg4 : 𝔹 S1x256x2048 .f32) (harg4 : arg4.IsWhole) (arg5 : 𝔹 S1024x2048 .f32) (harg5 : arg5.IsWhole) (arg6 : 𝔹 S1x2048 .f32) (harg6 : arg6.IsWhole) (arg7 : 𝔹 S1x2048 .f32) (harg7 : arg7.IsWhole) (arg8 : 𝔹 S8x2048 .f32) (harg8 : arg8.IsWhole) (arg9 : 𝔹 S1024x2048 .f32) (harg9 : arg9.IsWhole) (arg10 : 𝔹 S8x2048 .f32) (harg10 : arg10.IsWhole) (arg11 : 𝔹 S1024x2048 .bf16) (harg11 : arg11.IsWhole) (arg12 : 𝔹 S8x2048 .f32) (harg12 : arg12.IsWhole)
  (x0 : Vec F S1x2048x256 .f32) (x1 : Vec F S1x2048x256 .f32) (x2 : Vec F S1x256x2048 .f32) (x3 : Vec F S1024x2048 .f32) (x4 : Vec F S1x2048 .f32) (x5 : Vec F S1x2048 .f32) (x6 : Vec F S8x2048 .f32)

/-- The body, called with its inputs at the contents given and its other buffers as `P7` to `P10` say, leaves those at the contents given last, the inputs as they were. -/
def Leaves (P7 P8 P9 P10 : sProp 𝕄) (z7 : Vec F S1024x2048 .f32) (z8 : Vec F S8x2048 .f32) (z9 : Vec F S1024x2048 .bf16) (z10 : Vec F S8x2048 .f32) : Prop :=
  ∀ (E : Set ℕ) (K : PUnit → sProp 𝕄), iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ P7 ∗ P8 ∗ P9 ∗ P10
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare z7 ∗ owns c.tc arg10 fullShare z8 ∗ owns c.tc arg11 fullShare z9 ∗ owns c.tc arg12 fullShare z10) -∗ K ⟨⟩))
      ⊢ wp frame (wpE (defs₀ (F := F)) Variants.none c none) E (cc0_ffn2 i arg2 harg2 arg3 harg3 arg4 harg4 arg5 harg5 arg6 harg6 arg7 harg7 arg8 harg8 arg9 harg9 arg10 harg10 arg11 harg11 arg12 harg12) K

set_option maxHeartbeats 4000000 in
/-- The body where it is at the first tile, in the first block of rows. -/
theorem run_A (hc0 : cond0_0 i) (hc1 : ¬cond0_1 i) (hc2 : cond0_2 i) (hc3 : cond0_3 i) (hc4 : ¬cond0_4 i) :
    Leaves c i _ harg2 _ harg3 _ harg4 _ harg5 _ harg6 _ harg7 _ harg8 arg9 harg9 arg10 harg10 arg11 harg11 arg12 harg12 x0 x1 x2 x3 x4 x5 x6 iprop(∃ d, owns c.tc arg9 fullShare d) iprop(∃ d, owns c.tc arg10 fullShare d) iprop(∃ d, owns c.tc arg11 fullShare d) iprop(∃ d, owns c.tc arg12 fullShare d) (acc (nrm x3 x4) x0 x1 (ini x3) x2) (accS (nrmS x6 x4) x0 x1 (iniS x6) x2) (nrm x3 x4) (nrmS x6 x4) := by
  intro E K
  simp only [cc0_ffn2_eq_skeleton]; unfold cc0_ffn2_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, HS0⟩, ⟨%d10, %f10, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is between the tiles, in the first block of rows. -/
theorem run_B (hc0 : ¬cond0_0 i) (hc1 : ¬cond0_1 i) (hc2 : cond0_2 i) (hc3 : ¬cond0_3 i) (hc4 : ¬cond0_4 i) (y7 : Vec F S1024x2048 .f32) (y8 : Vec F S8x2048 .f32) (y9 : Vec F S1024x2048 .bf16) (y10 : Vec F S8x2048 .f32) :
    Leaves c i _ harg2 _ harg3 _ harg4 _ harg5 _ harg6 _ harg7 _ harg8 arg9 harg9 arg10 harg10 arg11 harg11 arg12 harg12 x0 x1 x2 x3 x4 x5 x6 (owns c.tc arg9 fullShare y7) (owns c.tc arg10 fullShare y8) (owns c.tc arg11 fullShare y9) (owns c.tc arg12 fullShare y10) (acc y9 x0 x1 y7 x2) (accS y10 x0 x1 y8 x2) y9 y10 := by
  intro E K
  simp only [cc0_ffn2_eq_skeleton]; unfold cc0_ffn2_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2 | sl_exact hc3 | sl_exact hc4)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is at the last tile, in the first block of rows. -/
theorem run_C (hc0 : ¬cond0_0 i) (hc1 : cond0_1 i) (hc2 : cond0_2 i) (hc3 : ¬cond0_3 i) (hc4 : cond0_4 i) (y7 : Vec F S1024x2048 .f32) (y8 : Vec F S8x2048 .f32) (y9 : Vec F S1024x2048 .bf16) (y10 : Vec F S8x2048 .f32) :
    Leaves c i _ harg2 _ harg3 _ harg4 _ harg5 _ harg6 _ harg7 _ harg8 arg9 harg9 arg10 harg10 arg11 harg11 arg12 harg12 x0 x1 x2 x3 x4 x5 x6 (owns c.tc arg9 fullShare y7) (owns c.tc arg10 fullShare y8) (owns c.tc arg11 fullShare y9) (owns c.tc arg12 fullShare y10) (fin (acc y9 x0 x1 y7 x2) x5) (finS (accS y10 x0 x1 y8 x2) x5) y9 y10 := by
  intro E K
  simp only [cc0_ffn2_eq_skeleton]; unfold cc0_ffn2_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2 | sl_exact hc3 | sl_exact hc4)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is at the first tile, in a later block of rows. -/
theorem run_D (hc0 : cond0_0 i) (hc1 : ¬cond0_1 i) (hc2 : ¬cond0_2 i) (y8 : Vec F S8x2048 .f32) (y10 : Vec F S8x2048 .f32) :
    Leaves c i _ harg2 _ harg3 _ harg4 _ harg5 _ harg6 _ harg7 _ harg8 arg9 harg9 arg10 harg10 arg11 harg11 arg12 harg12 x0 x1 x2 x3 x4 x5 x6 iprop(∃ d, owns c.tc arg9 fullShare d) (owns c.tc arg10 fullShare y8) iprop(∃ d, owns c.tc arg11 fullShare d) (owns c.tc arg12 fullShare y10) (acc (nrm x3 x4) x0 x1 (ini x3) x2) y8 (nrm x3 x4) y10 := by
  intro E K
  simp only [cc0_ffn2_eq_skeleton]; unfold cc0_ffn2_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is between the tiles, in a later block of rows. -/
theorem run_E (hc0 : ¬cond0_0 i) (hc1 : ¬cond0_1 i) (hc2 : ¬cond0_2 i) (y7 : Vec F S1024x2048 .f32) (y8 : Vec F S8x2048 .f32) (y9 : Vec F S1024x2048 .bf16) (y10 : Vec F S8x2048 .f32) :
    Leaves c i _ harg2 _ harg3 _ harg4 _ harg5 _ harg6 _ harg7 _ harg8 arg9 harg9 arg10 harg10 arg11 harg11 arg12 harg12 x0 x1 x2 x3 x4 x5 x6 (owns c.tc arg9 fullShare y7) (owns c.tc arg10 fullShare y8) (owns c.tc arg11 fullShare y9) (owns c.tc arg12 fullShare y10) (acc y9 x0 x1 y7 x2) y8 y9 y10 := by
  intro E K
  simp only [cc0_ffn2_eq_skeleton]; unfold cc0_ffn2_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

set_option maxHeartbeats 4000000 in
/-- The body where it is at the last tile, in a later block of rows. -/
theorem run_F (hc0 : ¬cond0_0 i) (hc1 : cond0_1 i) (hc2 : ¬cond0_2 i) (y7 : Vec F S1024x2048 .f32) (y8 : Vec F S8x2048 .f32) (y9 : Vec F S1024x2048 .bf16) (y10 : Vec F S8x2048 .f32) :
    Leaves c i _ harg2 _ harg3 _ harg4 _ harg5 _ harg6 _ harg7 _ harg8 arg9 harg9 arg10 harg10 arg11 harg11 arg12 harg12 x0 x1 x2 x3 x4 x5 x6 (owns c.tc arg9 fullShare y7) (owns c.tc arg10 fullShare y8) (owns c.tc arg11 fullShare y9) (owns c.tc arg12 fullShare y10) (fin (acc y9 x0 x1 y7 x2) x5) y8 y9 y10 := by
  intro E K
  simp only [cc0_ffn2_eq_skeleton]; unfold cc0_ffn2_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [HS0]; rotate_left
  all_goals (iexists _; isplitr; rotate_left; iassumption)
  all_goals ipureintro; try sl_unfold_words
  all_goals simp only [stored_S1024x2048, stored_S8x2048, reload_S1024x2048, reload_S8x2048, load_S1024x2048, load_S8x2048, load_S1x2048, load_S1x2048x256, load_S1x256x2048, *]

/-! ## What the buffers hold after each point -/

/-- The normalised rows held after point `n`: those of the block of rows the point is in. -/
def xnAt (c : Dev nD) : (n : ℕ) → n < cfg0.N → Vec F S1024x2048 .bf16
  | 0, h => nrm (iblk m c 3 ⟨0, h⟩) (iblk m c 4 ⟨0, h⟩)
  | n + 1, h => if (n + 1) % 22 = 0 then nrm (iblk m c 3 ⟨n + 1, h⟩) (iblk m c 4 ⟨n + 1, h⟩) else xnAt c n (by omega)

/-- One point's update of the accumulator, from what it started with. -/
def stepO (c : Dev nD) (t : Fin cfg0.N) (o : Vec F S1024x2048 .f32) : Vec F S1024x2048 .f32 :=
  acc (xnAt m c t.val t.isLt) (iblk m c 0 t) (iblk m c 1 t) o (iblk m c 2 t)

/-- The prompt rows' result buffer after point `n`. -/
def oAt (c : Dev nD) : (n : ℕ) → n < cfg0.N → Vec F S1024x2048 .f32
  | 0, h => stepO m c ⟨0, h⟩ (ini (iblk m c 3 ⟨0, h⟩))
  | n + 1, h =>
    if (n + 1) % 22 = 0 then stepO m c ⟨n + 1, h⟩ (ini (iblk m c 3 ⟨n + 1, h⟩))
    else if (n + 1) % 22 = 21 then fin (stepO m c ⟨n + 1, h⟩ (oAt c n (by omega))) (iblk m c 5 ⟨n + 1, h⟩)
    else stepO m c ⟨n + 1, h⟩ (oAt c n (by omega))

/-- The sample rows normalised, held from the first point on. -/
def xsn (c : Dev nD) : Vec F S8x2048 .f32 := nrmS (iblk m c 6 ⟨0, by decide⟩) (iblk m c 4 ⟨0, by decide⟩)

/-- One point's update of the sample rows' accumulator. -/
def stepS (c : Dev nD) (t : Fin cfg0.N) (o : Vec F S8x2048 .f32) : Vec F S8x2048 .f32 :=
  accS (xsn m c) (iblk m c 0 t) (iblk m c 1 t) o (iblk m c 2 t)

/-- The sample rows' result buffer after point `n`: complete after the first block of prompt rows, untouched from there. -/
def osAt (c : Dev nD) : (n : ℕ) → n < cfg0.N → Vec F S8x2048 .f32
  | 0, h => stepS m c ⟨0, h⟩ (iniS (iblk m c 6 ⟨0, h⟩))
  | n + 1, h =>
    if n + 1 < 22 then
      if n + 1 = 21 then finS (stepS m c ⟨n + 1, h⟩ (osAt c n (by omega))) (iblk m c 5 ⟨n + 1, h⟩)
      else stepS m c ⟨n + 1, h⟩ (osAt c n (by omega))
    else osAt c n (by omega)

/-- The point before. -/
abbrev prev (t : Fin cfg0.N) : Fin cfg0.N := ⟨t.val - 1, Nat.lt_of_le_of_lt (Nat.sub_le _ _) t.isLt⟩

theorem xnAt_first (c : Dev nD) (t : Fin cfg0.N) (h : t.val % 22 = 0) :
    xnAt m c t.val t.isLt = nrm (iblk m c 3 t) (iblk m c 4 t) := by
  obtain ⟨n, hn⟩ := t
  cases n with
  | zero => rfl
  | succ n => exact (if_pos h : xnAt m c (n + 1) hn = _)
theorem xnAt_next (c : Dev nD) (t : Fin cfg0.N) (h : ¬t.val % 22 = 0) :
    xnAt m c t.val t.isLt = xnAt m c (prev t).val (prev t).isLt := by
  obtain ⟨n, hn⟩ := t
  cases n with
  | zero => exact absurd rfl h
  | succ n => exact (if_neg h : xnAt m c (n + 1) hn = _)
theorem oAt_first (c : Dev nD) (t : Fin cfg0.N) (h : t.val % 22 = 0) :
    oAt m c t.val t.isLt = stepO m c t (ini (iblk m c 3 t)) := by
  obtain ⟨n, hn⟩ := t
  cases n with
  | zero => rfl
  | succ n => exact (if_pos h : oAt m c (n + 1) hn = _)
theorem oAt_next (c : Dev nD) (t : Fin cfg0.N) (h : ¬t.val % 22 = 0) (h' : ¬t.val % 22 = 21) :
    oAt m c t.val t.isLt = stepO m c t (oAt m c (prev t).val (prev t).isLt) := by
  obtain ⟨n, hn⟩ := t
  cases n with
  | zero => exact absurd rfl h
  | succ n => exact (if_neg h : oAt m c (n + 1) hn = _).trans (if_neg h')
theorem oAt_last (c : Dev nD) (t : Fin cfg0.N) (h' : t.val % 22 = 21) :
    oAt m c t.val t.isLt = fin (stepO m c t (oAt m c (prev t).val (prev t).isLt)) (iblk m c 5 t) := by
  obtain ⟨n, hn⟩ := t
  cases n with
  | zero => exact absurd h' (by simp)
  | succ n => exact (if_neg (by simp only at h'; omega) : oAt m c (n + 1) hn = _).trans (if_pos h')
theorem osAt_first (c : Dev nD) (t : Fin cfg0.N) (h : t.val = 0) :
    osAt m c t.val t.isLt = stepS m c t (iniS (iblk m c 6 t)) := by
  obtain ⟨n, hn⟩ := t
  cases n with
  | zero => rfl
  | succ n => exact absurd h (by simp)
theorem osAt_next (c : Dev nD) (t : Fin cfg0.N) (h0 : t.val ≠ 0) (h : t.val < 22) (h' : t.val ≠ 21) :
    osAt m c t.val t.isLt = stepS m c t (osAt m c (prev t).val (prev t).isLt) := by
  obtain ⟨n, hn⟩ := t
  cases n with
  | zero => exact absurd rfl h0
  | succ n => exact (if_pos h : osAt m c (n + 1) hn = _).trans (if_neg h')
theorem osAt_last (c : Dev nD) (t : Fin cfg0.N) (h' : t.val = 21) :
    osAt m c t.val t.isLt = finS (stepS m c t (osAt m c (prev t).val (prev t).isLt)) (iblk m c 5 t) := by
  obtain ⟨n, hn⟩ := t
  cases n with
  | zero => exact absurd h' (by simp)
  | succ n => exact (if_pos (by simp only at h'; omega) : osAt m c (n + 1) hn = _).trans (if_pos h')
theorem osAt_kept (c : Dev nD) (t : Fin cfg0.N) (h : ¬t.val < 22) :
    osAt m c t.val t.isLt = osAt m c (prev t).val (prev t).isLt := by
  obtain ⟨n, hn⟩ := t
  cases n with
  | zero => exact absurd (by simp) h
  | succ n => exact (if_neg h : osAt m c (n + 1) hn = _)

/-! ## The proof data -/

/-- The invariant at a point: before the first, the call's own buffers hold anything; after one, the normalised rows. -/
def PhiS (c : Dev nD) : (n : ℕ) → n < cfg0.N + 1 → sProp 𝕄
  | 0, _ => Pipeline.ΦA spec0 c
  | n + 1, h => iprop(iprop(owns c.tc scM0_0 fullShare (xnAt m c n (by omega)) ∗ owns c.tc scM0_1 fullShare (xsn m c)) ∗ ∃ r, prngReg c r)

theorem PhiS_pos (c : Dev nD) (n : ℕ) (h : n < cfg0.N + 1) (h0 : n ≠ 0) :
    PhiS m c n h = iprop(iprop(owns c.tc scM0_0 fullShare (xnAt m c (n - 1) (by omega)) ∗ owns c.tc scM0_1 fullShare (xsn m c)) ∗ ∃ r, prngReg c r) := by
  cases n with
  | zero => exact absurd rfl h0
  | succ n => rfl

/-- What each window's buffer holds after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t.val t.isLt
    | ⟨8, _⟩ => osAt m c t.val t.isLt
  Φ t := PhiS m c t.val t.isLt
  q w := Pipeline.shareOf spec0 w
  owed _ := 0

theorem A_eq (c : Dev nD) (w : Fin cfg0.W) : (dats m 0 c).A w = V m c (Pipeline.arrRef spec0 w) := by
  dsimp only [dats]
theorem after0_7 (c : Dev nD) (t : Fin cfg0.N) : (dats m 0 c).after 7 t = oAt m c t.val t.isLt := by dsimp only [dats]
theorem after0_8 (c : Dev nD) (t : Fin cfg0.N) : (dats m 0 c).after 8 t = osAt m c t.val t.isLt := by dsimp only [dats]

/-- The sample rows' window is touched at the points of the first block of prompt rows only. -/
theorem idle0_8 : ∀ t : Fin cfg0.N, cfg0.idle 8 (grid0.coords t) = !decide (t.val < 22) := by decide +kernel

/-- Between the tiles of one block of rows the accumulator is what the point before left. -/
theorem before0_7 (c : Dev nD) (t : Fin cfg0.N) (h0 : ¬t.val % 22 = 0) (d) :
    (dats m 0 c).before 7 t d = oAt m c (prev t).val (prev t).isLt := by
  rw [(dats m 0 c).before_of_pos 7 t (fun h => h0 (by rw [h])) rfl d,
    if_neg (fun h => absurd ((flush0_7 _).mp h) (by simp only; have := t.isLt; omega))]
  unfold Dat.left
  rw [show cfg0.idle 7 (cfg0.grid.coords (prev t)) = false from rfl]
  unfold Dat.kept
  show (cfg0.win 7).fill _ d _ = _
  rw [Pipeline.fill_of_clip_none 7 _ (fun _ => rfl) d ((dats m 0 c).after 7 (prev t)), Window.fill_cut, after0_7]

/-- From the second point on the sample rows' buffer is what the point before left. -/
theorem before0_8 (c : Dev nD) : ∀ (n : ℕ) (h : n < cfg0.N) (h0 : n ≠ 0) (d),
    (dats m 0 c).before 8 ⟨n, h⟩ d = osAt m c (n - 1) (by omega) := by
  intro n
  induction n using Nat.strong_induction_on with
  | _ n ih =>
    intro h h0 d
    have hN : n < 176 := lt_of_lt_of_eq h (show cfg0.N = 176 from N_0)
    rw [(dats m 0 c).before_of_pos 8 ⟨n, h⟩ h0 rfl d,
      if_neg (fun h => absurd ((flush0_8 _).mp h) (by simp only; omega))]
    unfold Dat.left
    by_cases hl : n - 1 < 22
    · rw [show cfg0.idle 8 (cfg0.grid.coords (prev ⟨n, h⟩)) = false from (idle0_8 _).trans (by simp [hl])]
      unfold Dat.kept
      show (cfg0.win 8).fill _ d _ = _
      rw [Pipeline.fill_of_clip_none 8 _ (fun _ => rfl) d ((dats m 0 c).after 8 ⟨n - 1, by omega⟩), Window.fill_cut, after0_8]
    · rw [show cfg0.idle 8 (cfg0.grid.coords (prev ⟨n, h⟩)) = true from (idle0_8 _).trans (by simp [hl])]
      exact (ih (n - 1) (by omega) (by omega) (by omega) d).trans (osAt_kept m c ⟨n - 1, by omega⟩ hl).symm

/-- What the body has to leave in the sample rows' buffer: the closed form, at every point. -/
theorem leaves8 (c : Dev nD) (t : Fin cfg0.N) :
    (owns c.tc (ms0_8 t) fullShare (osAt m c t.val t.isLt) : sProp 𝕄) ⊢ (dats m 0 c).leavesExact 8 t := by
  have hN : t.val < 176 := lt_of_lt_of_eq t.isLt (show cfg0.N = 176 from N_0)
  by_cases hl : t.val < 22
  · unfold Dat.leavesExact
    rw [show cfg0.idle 8 (cfg0.grid.coords t) = false from (idle0_8 t).trans (by simp [hl])]
    dsimp only
    rw [after0_8]
  · by_cases hf : t.val % 176 = 175
    · unfold Dat.leavesExact
      rw [show cfg0.idle 8 (cfg0.grid.coords t) = true from (idle0_8 t).trans (by simp [hl]), show (cfg0.win 8).flush t = true from (flush0_8 t).mpr hf]
      dsimp only
      rw [after0_8]
    · rw [(dats m 0 c).leavesExact_idle 8 t ((idle0_8 t).trans (by simp [hl])) (Bool.eq_false_iff.mpr fun h => hf ((flush0_8 t).mp h))]
      iintro H
      iexists osAt m c t.val t.isLt
      rw [show (dats m 0 c).before 8 t (osAt m c t.val t.isLt) = osAt m c t.val t.isLt from (before0_8 m c t.val t.isLt (by omega) _).trans (osAt_kept m c t hl).symm]
      iexact H

/-! ## The body at any point -/

set_option maxHeartbeats 4800000 in
/-- The obligation the run of the call asks of its body: at any point it takes what the point before left to what the closed forms say. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  unfold bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).owesAt () t.succ = (dats m 0 c).owesAt () t.castSucc from rfl,
    show (dats m 0 c).Φ t.castSucc = PhiS m c t.val (by have := t.isLt; omega) from rfl,
    show (dats m 0 c).Φ t.succ = iprop(iprop(owns c.tc scM0_0 fullShare (xnAt m c t.val t.isLt) ∗ owns c.tc scM0_1 fullShare (xsn m c)) ∗ ∃ r, prngReg c r) from rfl]
  have hN : t.val < 176 := lt_of_lt_of_eq t.isLt (show cfg0.N = 176 from N_0)
  by_cases h0 : t.val % 22 = 0
  · have h1 : ¬t.val % 22 = 21 := by omega
    by_cases h2 : t.val < 22
    · have e0 : t.val = 0 := by omega
      rw [show PhiS m c t.val (by have := t.isLt; omega) = Pipeline.ΦA spec0 c from by simp only [e0]; rfl, PhiA0_eq]
      have E7 := oAt_first m c t h0
      have E8 := osAt_first m c t e0
      have E9 := xnAt_first m c t h0
      have E10 : xsn m c = nrmS (iblk m c 6 t) (iblk m c 4 t) := by unfold xsn; rw [show (⟨0, by decide⟩ : Fin cfg0.N) = t from Fin.ext e0.symm]
      unfold stepO at E7; rw [E9] at E7
      unfold stepS at E8
      rw [E10] at E8
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((hcond0_0 t).mpr h0) (fun h => h1 ((hcond0_1 t).mp h)) ((hcond0_2 t).mpr h2) ((hcond0_3 t).mpr h0) (fun h => h1 ((hcond0_4 t).mp h))  Set.univ _)
      iframe H0 H1 H2 H3 H4 H5 H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · rw [E9]; iexact HS0
          · rw [E10]; iexact HS1
        iexact Hg
      iframe Ho H0 H1 H2 H3 H4 H5 H6
      isplitl [H7]; · (try rw [after0_7]); rw [E7]; iexact H7
      iapply (leaves8 m c t)
      rw [E8]; iexact H8
    · have e0 : t.val ≠ 0 := by omega
      rw [PhiS_pos m c t.val _ e0]
      have E7 := oAt_first m c t h0
      have E8 := osAt_kept m c t h2
      have E9 := xnAt_first m c t h0
      unfold stepO at E7; rw [E9] at E7
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [before0_8 m c t.val t.isLt e0 d8]
      iapply (run_D c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((hcond0_0 t).mpr h0) (fun h => h1 ((hcond0_1 t).mp h)) (fun h => h2 ((hcond0_2 t).mp h)) (osAt m c (prev t).val (prev t).isLt) (xsn m c) Set.univ _)
      iframe H0 H1 H2 H3 H4 H5 H6
      isplitl [H7]; · iexists _; iexact H7
      isplitl [H8]; · iexact H8
      isplitl [HS0]; · iexists _; iexact HS0
      isplitl [HS1]; · iexact HS1
      iintro ⟨H0, H1, H2, H3, H4, H5, H6, H7, H8, HS0, HS1⟩
      isplitl [HS0 HS1 Hg]
      · isplitl [HS0 HS1]
        · isplitl [HS0]
          · rw [E9]; iexact HS0
          · iexact HS1
        iexact Hg
      iframe Ho H0 H1 H2 H3 H4 H5 H6
      isplitl [H7]; · (try rw [after0_7]); rw [E7]; iexact H7
      iapply (leaves8 m c t)
      rw [E8]; iexact H8
  · by_cases h1 : t.val % 22 = 21
    · by_cases h2 : t.val < 22
      · have e0 : t.val ≠ 0 := by omega
        rw [PhiS_pos m c t.val _ e0]
        have E7 := oAt_last m c t h1
        have E8 := osAt_last m c t (by omega)
        have E9 := xnAt_next m c t h0
        unfold stepO at E7; rw [E9] at E7
        unfold stepS at E8
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        rw [before0_8 m c t.val t.isLt e0 d8, before0_7 m c t h0 d7]
        iapply (run_C c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((hcond0_0 t).mp h)) ((hcond0_1 t).mpr h1) ((hcond0_2 t).mpr h2) (fun h => h0 ((hcond0_3 t).mp h)) ((hcond0_4 t).mpr h1) (oAt m c (prev t).val (prev t).isLt) (osAt m c (prev t).val (prev t).isLt) (xnAt m c (prev t).val (prev t).isLt) (xsn m c) Set.univ _)
        iframe H0 H1 H2 H3 H4 H5 H6 H7 H8 HS0 HS1
        iintro ⟨H0, H1, H2, H3, H4, H5, H6, H7, H8, HS0, HS1⟩
        isplitl [HS0 HS1 Hg]
        · isplitl [HS0 HS1]
          · isplitl [HS0]
            · rw [E9]; iexact HS0
            · iexact HS1
          iexact Hg
        iframe Ho H0 H1 H2 H3 H4 H5 H6
        isplitl [H7]; · (try rw [after0_7]); rw [E7]; iexact H7
        iapply (leaves8 m c t)
        rw [E8]; iexact H8
      · have e0 : t.val ≠ 0 := by omega
        rw [PhiS_pos m c t.val _ e0]
        have E7 := oAt_last m c t h1
        have E8 := osAt_kept m c t h2
        have E9 := xnAt_next m c t h0
        unfold stepO at E7; rw [E9] at E7
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        rw [before0_8 m c t.val t.isLt e0 d8, before0_7 m c t h0 d7]
        iapply (run_F c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((hcond0_0 t).mp h)) ((hcond0_1 t).mpr h1) (fun h => h2 ((hcond0_2 t).mp h)) (oAt m c (prev t).val (prev t).isLt) (osAt m c (prev t).val (prev t).isLt) (xnAt m c (prev t).val (prev t).isLt) (xsn m c) Set.univ _)
        iframe H0 H1 H2 H3 H4 H5 H6 H7 H8 HS0 HS1
        iintro ⟨H0, H1, H2, H3, H4, H5, H6, H7, H8, HS0, HS1⟩
        isplitl [HS0 HS1 Hg]
        · isplitl [HS0 HS1]
          · isplitl [HS0]
            · rw [E9]; iexact HS0
            · iexact HS1
          iexact Hg
        iframe Ho H0 H1 H2 H3 H4 H5 H6
        isplitl [H7]; · (try rw [after0_7]); rw [E7]; iexact H7
        iapply (leaves8 m c t)
        rw [E8]; iexact H8
    · by_cases h2 : t.val < 22
      · have e0 : t.val ≠ 0 := by omega
        rw [PhiS_pos m c t.val _ e0]
        have E7 := oAt_next m c t h0 h1
        have E8 := osAt_next m c t e0 h2 (by omega)
        have E9 := xnAt_next m c t h0
        unfold stepO at E7; rw [E9] at E7
        unfold stepS at E8
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        rw [before0_8 m c t.val t.isLt e0 d8, before0_7 m c t h0 d7]
        iapply (run_B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((hcond0_0 t).mp h)) (fun h => h1 ((hcond0_1 t).mp h)) ((hcond0_2 t).mpr h2) (fun h => h0 ((hcond0_3 t).mp h)) (fun h => h1 ((hcond0_4 t).mp h)) (oAt m c (prev t).val (prev t).isLt) (osAt m c (prev t).val (prev t).isLt) (xnAt m c (prev t).val (prev t).isLt) (xsn m c) Set.univ _)
        iframe H0 H1 H2 H3 H4 H5 H6 H7 H8 HS0 HS1
        iintro ⟨H0, H1, H2, H3, H4, H5, H6, H7, H8, HS0, HS1⟩
        isplitl [HS0 HS1 Hg]
        · isplitl [HS0 HS1]
          · isplitl [HS0]
            · rw [E9]; iexact HS0
            · iexact HS1
          iexact Hg
        iframe Ho H0 H1 H2 H3 H4 H5 H6
        isplitl [H7]; · (try rw [after0_7]); rw [E7]; iexact H7
        iapply (leaves8 m c t)
        rw [E8]; iexact H8
      · have e0 : t.val ≠ 0 := by omega
        rw [PhiS_pos m c t.val _ e0]
        have E7 := oAt_next m c t h0 h1
        have E8 := osAt_kept m c t h2
        have E9 := xnAt_next m c t h0
        unfold stepO at E7; rw [E9] at E7
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        rw [before0_8 m c t.val t.isLt e0 d8, before0_7 m c t h0 d7]
        iapply (run_E c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((hcond0_0 t).mp h)) (fun h => h1 ((hcond0_1 t).mp h)) (fun h => h2 ((hcond0_2 t).mp h)) (oAt m c (prev t).val (prev t).isLt) (osAt m c (prev t).val (prev t).isLt) (xnAt m c (prev t).val (prev t).isLt) (xsn m c) Set.univ _)
        iframe H0 H1 H2 H3 H4 H5 H6 H7 H8 HS0 HS1
        iintro ⟨H0, H1, H2, H3, H4, H5, H6, H7, H8, HS0, HS1⟩
        isplitl [HS0 HS1 Hg]
        · isplitl [HS0 HS1]
          · isplitl [HS0]
            · rw [E9]; iexact HS0
            · iexact HS1
          iexact Hg
        iframe Ho H0 H1 H2 H3 H4 H5 H6
        isplitl [H7]; · (try rw [after0_7]); rw [E7]; iexact H7
        iapply (leaves8 m c t)
        rw [E8]; iexact H8

/-! ## The run -/

-- the launch theorem's implicit arguments are found by unifying its conclusion with this one, through plain definitions
set_option backward.isDefEq.respectTransparency.types false in
/-- The whole call runs, and ends with every array at what the closed forms say. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => by
      rw [show (dats m 0 c).Φ (Fin.last cfg0.N) = PhiS m c cfg0.N (by omega) from rfl, PhiS_pos m c cfg0.N _ (by decide), PhiA0_eq]
      iintro ⟨⟨HS0, HS1⟩, Hg⟩
      isplitl [HS0 HS1]
      · isplitl [HS0]
        · iexists _; iexact HS0
        · iexists _; iexact HS1
      · iexact Hg)

/-- Every execution of the call ends with its argument arrays unchanged and every semaphore counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn3Val

end
-- ==== Proof.FfnOut3.lean ====
/- The feed-forward call of layer 3: its two results, at an index. -/
module

public import proofs.«01_k».proof.Proof.FfnDat3
public import proofs.«01_k».proof.Proof.FfnOut0

@[expose] public section

set_option maxRecDepth 16384

noncomputable section

namespace Cert.Ffn3Val

open Idealize.ShloMosaic Idealize.ShloMosaic.TcCoe Idealize.SL.Sem
open Idealize.ShloMosaic.Pipeline (Dat)
open Cert.Ffn3Ideal Cert.Ffn3Ideal.Gen Cert.Ffn

/-! ## One point's work, at an index -/

theorem nrm_at (x : Vec Ideal S1024x2048 .f32) (g : Vec Ideal S1x2048 .f32) (r : Fin 1024) (l : Fin 2048) :
    nrm x g (ix2 r l) = nrmRow (fun k => x (ix2 r k)) (fun k => g (ix2 0 k)) l :=
  Ffn0Val.nrm_at x g r l
theorem ini_at (x : Vec Ideal S1024x2048 .f32) (r : Fin 1024) (l : Fin 2048) : ini x (ix2 r l) = x (ix2 r l) :=
  Ffn0Val.ini_at x r l
theorem acc_at (n : Vec Ideal S1024x2048 .bf16) (wa wb : Vec Ideal S1x2048x256 .f32) (o : Vec Ideal S1024x2048 .f32) (wd : Vec Ideal S1x256x2048 .f32) (r : Fin 1024) (l : Fin 2048) :
    acc n wa wb o wd (ix2 r l)
      = o (ix2 r l) + ∑ q : Fin 256, hid (fun k => n (ix2 r k)) (fun k => wa (ix3 0 k q)) (fun k => wb (ix3 0 k q)) * wd (ix3 0 q l) :=
  Ffn0Val.acc_at n wa wb o wd r l
theorem fin_at (x : Vec Ideal S1024x2048 .f32) (g : Vec Ideal S1x2048 .f32) (r : Fin 1024) (l : Fin 2048) :
    fin x g (ix2 r l) = nrmRow (fun k => x (ix2 r k)) (fun k => g (ix2 0 k)) l := by
  unfold fin nrmRow
  pointwise [k0_pay4]
theorem nrmS_at (x : Vec Ideal S8x2048 .f32) (g : Vec Ideal S1x2048 .f32) (r : Fin 8) (l : Fin 2048) :
    nrmS x g (ix2 r l) = nrmRow (fun k => x (ix2 r k)) (fun k => g (ix2 0 k)) l :=
  Ffn0Val.nrmS_at x g r l
theorem iniS_at (x : Vec Ideal S8x2048 .f32) (r : Fin 8) (l : Fin 2048) : iniS x (ix2 r l) = x (ix2 r l) :=
  Ffn0Val.iniS_at x r l
theorem accS_at (n : Vec Ideal S8x2048 .f32) (wa wb : Vec Ideal S1x2048x256 .f32) (o : Vec Ideal S8x2048 .f32) (wd : Vec Ideal S1x256x2048 .f32) (r : Fin 8) (l : Fin 2048) :
    accS n wa wb o wd (ix2 r l)
      = o (ix2 r l) + ∑ q : Fin 256, hid (fun k => n (ix2 r k)) (fun k => wa (ix3 0 k q)) (fun k => wb (ix3 0 k q)) * wd (ix3 0 q l) :=
  Ffn0Val.accS_at n wa wb o wd r l
theorem finS_at (x : Vec Ideal S8x2048 .f32) (g : Vec Ideal S1x2048 .f32) (r : Fin 8) (l : Fin 2048) :
    finS x g (ix2 r l) = nrmRow (fun k => x (ix2 r k)) (fun k => g (ix2 0 k)) l := by
  unfold finS nrmRow
  pointwise [k0_pay8]

variable (m : (ℓ : Loc nD τ sig) → Buf (Elt Ideal) ℓ)

/-! ## The arguments, a row at a time -/

/-- Row `r` of the prompts' rows, the batches one after another. -/
def arrX (c : Dev nD) (r : Fin 8192) : Fin 2048 → EReal := fun l => m (c.tc.loc main_arg0) (ix3 ⟨r.val / 2048, by omega⟩ ⟨r.val % 2048, by omega⟩ l)
/-- Row `r` of the samples' rows. -/
def arrS (c : Dev nD) (r : Fin 8) : Fin 2048 → EReal := fun l => m (c.tc.loc main_arg1) (ix3 r 0 l)
/-- The layer's scale of the normalisation. -/
def arrG (c : Dev nD) : Fin 2048 → EReal := fun l => m (c.tc.loc main_arg2) (ix2 3 l)
/-- The layer's upward weights. -/
def arrW (c : Dev nD) : Fin 2048 → Fin 11264 → EReal := fun k q => m (c.tc.loc main_arg3) (ix3 3 k q)
/-- The layer's downward weights. -/
def arrD (c : Dev nD) : Fin 5632 → Fin 2048 → EReal := fun q l => m (c.tc.loc main_arg4) (ix3 3 q l)
/-- The scale of the last normalisation. -/
def arrF (c : Dev nD) : Fin 2048 → EReal := fun l => m (c.tc.loc main_arg5) (ix1 l)

/-! ## Where the windows are -/

theorem at0 : ∀ t : Fin cfg0.N, win0_0.index t 0 = 3 ∧ win0_0.index t 1 = 0 ∧ win0_0.index t 2 = t.val % 22 := by decide +kernel
theorem at1 : ∀ t : Fin cfg0.N, win0_1.index t 0 = 3 ∧ win0_1.index t 1 = 0 ∧ win0_1.index t 2 = 22 + t.val % 22 := by decide +kernel
theorem at2 : ∀ t : Fin cfg0.N, win0_2.index t 0 = 3 ∧ win0_2.index t 1 = t.val % 22 ∧ win0_2.index t 2 = 0 := by decide +kernel
theorem at3 : ∀ t : Fin cfg0.N, win0_3.index t 0 = t.val / 22 ∧ win0_3.index t 1 = 0 := Ffn0Val.at3
theorem at4 : ∀ t : Fin cfg0.N, win0_4.index t 0 = 0 ∧ win0_4.index t 1 = 0 := Ffn0Val.at4
theorem at5 : ∀ t : Fin cfg0.N, win0_5.index t 0 = 0 ∧ win0_5.index t 1 = 0 := Ffn0Val.at5
theorem at6 : ∀ t : Fin cfg0.N, win0_6.index t 0 = 0 ∧ win0_6.index t 1 = 0 := Ffn0Val.at6
theorem at7 : ∀ t : Fin cfg0.N, win0_7.index t 0 = t.val / 22 ∧ win0_7.index t 1 = 0 := Ffn0Val.at7
theorem at8 : ∀ t : Fin cfg0.N, win0_8.index t 0 = 0 ∧ win0_8.index t 1 = 0 := Ffn0Val.at8

theorem lt176 (t : Fin cfg0.N) : t.val < 176 := lt_of_lt_of_eq t.isLt (show cfg0.N = 176 from N_0)

/-! ## The blocks -/

theorem blk0 (c : Dev nD) (t : Fin cfg0.N) (k : Fin 2048) (q : Fin 256) :
    iblk m c 0 t (ix3 0 k q) = arrW m c k ⟨t.val % 22 * 256 + q.val, by have := lt176 t; omega⟩ := by
  unfold iblk arrW
  rw [show V m c (Pipeline.arrRef spec0 0) = m (c.tc.loc main_arg3) from V_main_arg3 m c]
  refine congrArg (m (c.tc.loc main_arg3)) (funext fun a => Fin.ext ?_)
  match a with
  | ⟨0, _⟩ => blk_simp; rw [(at0 t).1]; rfl
  | ⟨1, _⟩ => blk_simp; rw [(at0 t).2.1]; show 0 * 2048 + k.val = k.val; omega
  | ⟨2, _⟩ => blk_simp; rw [(at0 t).2.2]
theorem blk1 (c : Dev nD) (t : Fin cfg0.N) (k : Fin 2048) (q : Fin 256) :
    iblk m c 1 t (ix3 0 k q) = arrW m c k ⟨5632 + (t.val % 22 * 256 + q.val), by have := lt176 t; omega⟩ := by
  unfold iblk arrW
  rw [show V m c (Pipeline.arrRef spec0 1) = m (c.tc.loc main_arg3) from V_main_arg3 m c]
  refine congrArg (m (c.tc.loc main_arg3)) (funext fun a => Fin.ext ?_)
  match a with
  | ⟨0, _⟩ => blk_simp; rw [(at1 t).1]; rfl
  | ⟨1, _⟩ => blk_simp; rw [(at1 t).2.1]; show 0 * 2048 + k.val = k.val; omega
  | ⟨2, _⟩ => blk_simp; rw [(at1 t).2.2]; show (22 + t.val % 22) * 256 + q.val = 5632 + (t.val % 22 * 256 + q.val); omega
theorem blk2 (c : Dev nD) (t : Fin cfg0.N) (q : Fin 256) (l : Fin 2048) :
    iblk m c 2 t (ix3 0 q l) = arrD m c ⟨t.val % 22 * 256 + q.val, by have := lt176 t; omega⟩ l := by
  unfold iblk arrD
  rw [show V m c (Pipeline.arrRef spec0 2) = m (c.tc.loc main_arg4) from V_main_arg4 m c]
  refine congrArg (m (c.tc.loc main_arg4)) (funext fun a => Fin.ext ?_)
  match a with
  | ⟨0, _⟩ => blk_simp; rw [(at2 t).1]; rfl
  | ⟨1, _⟩ => blk_simp; rw [(at2 t).2.1]
  | ⟨2, _⟩ => blk_simp; rw [(at2 t).2.2]; show 0 * 2048 + l.val = l.val; omega
theorem blk3 (c : Dev nD) (t : Fin cfg0.N) (r : Fin 1024) (l : Fin 2048) :
    iblk m c 3 t (ix2 r l) = arrX m c ⟨t.val / 22 * 1024 + r.val, by have := lt176 t; omega⟩ l := by
  have hN := lt176 t
  unfold iblk arrX
  have hV : V m c (Pipeline.arrRef spec0 3) = shapeCast S8192x2048 (m (c.tc.loc main_arg0)) shapeCasts_S4x2048x2048_S8192x2048 := by
    show StableHlo.after hostOps0 (fun b => m (c, b)) (Proc.tc.devRef main_v0) = _
    after_results
    rfl
  rw [hV]
  exact Ffn0Val.rows_at _ t r l
theorem blk4 (c : Dev nD) (t : Fin cfg0.N) (l : Fin 2048) : iblk m c 4 t (ix2 0 l) = arrG m c l := by
  unfold iblk arrG
  have hV : V m c (Pipeline.arrRef spec0 4) = shapeCast S1x2048 (shapeCast S2048 (extractStridedSlice S1x2048 ![3, 0] (m (c.tc.loc main_arg2)) slices_S4x2048_S1x2048_3_0) shapeCasts_S1x2048_S2048) shapeCasts_S2048_S1x2048 := by
    show StableHlo.after hostOps0 (fun b => m (c, b)) (Proc.tc.devRef main_v4) = _
    after_results
    rfl
  rw [hV]
  have e : ((cfg0.win 4).blk t).view.emb (ix2 0 l) = ix2 0 l := by
    refine funext fun a => Fin.ext ?_
    match a with
    | ⟨0, _⟩ => blk_simp; rw [(at4 t).1]; rfl
    | ⟨1, _⟩ => blk_simp; rw [(at4 t).2]; show 0 * 2048 + l.val = l.val; omega
  refine (congrArg (shapeCast S1x2048 (shapeCast S2048 (extractStridedSlice S1x2048 ![3, 0] (m (c.tc.loc main_arg2)) slices_S4x2048_S1x2048_3_0) shapeCasts_S1x2048_S2048) shapeCasts_S2048_S1x2048) e).trans ?_
  pointwise
theorem blk5 (c : Dev nD) (t : Fin cfg0.N) (l : Fin 2048) : iblk m c 5 t (ix2 0 l) = arrF m c l := by
  unfold iblk arrF
  have hV : V m c (Pipeline.arrRef spec0 5) = shapeCast S1x2048 (m (c.tc.loc main_arg5)) shapeCasts_S2048_S1x2048 := by
    show StableHlo.after hostOps0 (fun b => m (c, b)) (Proc.tc.devRef main_v5) = _
    after_results
    rfl
  rw [hV]
  have e : ((cfg0.win 5).blk t).view.emb (ix2 0 l) = ix2 0 l := by
    refine funext fun a => Fin.ext ?_
    match a with
    | ⟨0, _⟩ => blk_simp; rw [(at5 t).1]; rfl
    | ⟨1, _⟩ => blk_simp; rw [(at5 t).2]; show 0 * 2048 + l.val = l.val; omega
  refine (congrArg (shapeCast S1x2048 (m (c.tc.loc main_arg5)) shapeCasts_S2048_S1x2048) e).trans ?_
  pointwise
theorem blk6 (c : Dev nD) (t : Fin cfg0.N) (r : Fin 8) (l : Fin 2048) : iblk m c 6 t (ix2 r l) = arrS m c r l := by
  unfold iblk arrS
  have hV : V m c (Pipeline.arrRef spec0 6) = shapeCast S8x2048 (m (c.tc.loc main_arg1)) shapeCasts_S8x1x2048_S8x2048 := by
    show StableHlo.after hostOps0 (fun b => m (c, b)) (Proc.tc.devRef main_v3) = _
    after_results
    rfl
  rw [hV]
  have e : ((cfg0.win 6).blk t).view.emb (ix2 r l) = ix2 r l := by
    refine funext fun a => Fin.ext ?_
    match a with
    | ⟨0, _⟩ => blk_simp; rw [(at6 t).1]; show 0 * 8 + r.val = r.val; omega
    | ⟨1, _⟩ => blk_simp; rw [(at6 t).2]; show 0 * 2048 + l.val = l.val; omega
  refine (congrArg (shapeCast S8x2048 (m (c.tc.loc main_arg1)) shapeCasts_S8x1x2048_S8x2048) e).trans ?_
  pointwise

/-! ## The buffers, at an index -/

/-- The block of rows a point is in. -/
abbrev rowOf (n : ℕ) (h : n < 176) (r : Fin 1024) : Fin 8192 := ⟨n / 22 * 1024 + r.val, by omega⟩

theorem xnAt_val (c : Dev nD) (r : Fin 1024) (l : Fin 2048) : ∀ (n : ℕ) (h : n < cfg0.N),
    xnAt m c n h (ix2 r l) = nrmRow (arrX m c (rowOf n (lt176 ⟨n, h⟩) r)) (arrG m c) l := by
  intro n
  induction n with
  | zero =>
    intro h
    rw [xnAt_first m c ⟨0, h⟩ rfl, nrm_at]
    exact congrArg₂ (fun x g => nrmRow x g l) (funext fun k => blk3 m c ⟨0, h⟩ r k) (funext fun k => blk4 m c _ k)
  | succ n ih =>
    intro h
    by_cases h0 : (n + 1) % 22 = 0
    · rw [xnAt_first m c ⟨n + 1, h⟩ h0, nrm_at]
      exact congrArg₂ (fun x g => nrmRow x g l) (funext fun k => blk3 m c ⟨n + 1, h⟩ r k) (funext fun k => blk4 m c _ k)
    · rw [xnAt_next m c ⟨n + 1, h⟩ h0]
      refine (ih (by omega)).trans ?_
      exact congrArg (fun z => nrmRow (arrX m c z) (arrG m c) l) (Fin.ext (by show n / 22 * 1024 + r.val = (n + 1) / 22 * 1024 + r.val; omega))

/-- One point adds its tile of hidden units to the accumulator. -/
theorem stepO_val (c : Dev nD) (t : Fin cfg0.N) (o : Vec Ideal S1024x2048 .f32) (r : Fin 1024) (l : Fin 2048)
    (ho : o (ix2 r l) = upto (arrX m c (rowOf t.val (lt176 t) r)) (arrG m c) (arrW m c) (arrD m c) l (t.val % 22 * 256)) :
    stepO m c t o (ix2 r l) = upto (arrX m c (rowOf t.val (lt176 t) r)) (arrG m c) (arrW m c) (arrD m c) l ((t.val % 22 + 1) * 256) := by
  have hN := lt176 t
  unfold stepO
  rw [acc_at, ho, show (t.val % 22 + 1) * 256 = t.val % 22 * 256 + 256 by omega, ← upto_tile]
  refine add_sums fun q => ?_
  unfold Ffn.unit
  rw [dif_pos (by omega)]
  refine congrArg₂ (· * ·) ?_ (blk2 m c t q l)
  rw [show (fun k => xnAt m c t.val t.isLt (ix2 r k)) = nrmRow (arrX m c (rowOf t.val (lt176 t) r)) (arrG m c) from funext fun k => xnAt_val m c r k t.val t.isLt]
  exact congrArg₂ (hid _) (funext fun k => blk0 m c t k q) (funext fun k => blk1 m c t k q)

/-- The accumulator after every tile but the last. -/
theorem oAt_val (c : Dev nD) (r : Fin 1024) (l : Fin 2048) : ∀ (n : ℕ) (h : n < cfg0.N), n % 22 ≠ 21 →
    oAt m c n h (ix2 r l) = upto (arrX m c (rowOf n (lt176 ⟨n, h⟩) r)) (arrG m c) (arrW m c) (arrD m c) l ((n % 22 + 1) * 256) := by
  intro n
  induction n with
  | zero =>
    intro h _
    rw [oAt_first m c ⟨0, h⟩ rfl]
    exact stepO_val m c ⟨0, h⟩ _ r l ((ini_at _ r l).trans ((blk3 m c ⟨0, h⟩ r l).trans (upto_zero _ _ _ _ l).symm))
  | succ n ih =>
    intro h hn
    by_cases h0 : (n + 1) % 22 = 0
    · rw [oAt_first m c ⟨n + 1, h⟩ h0]
      refine stepO_val m c ⟨n + 1, h⟩ _ r l ((ini_at _ r l).trans ((blk3 m c ⟨n + 1, h⟩ r l).trans ?_))
      show _ = upto _ _ _ _ l ((n + 1) % 22 * 256)
      rw [h0, Nat.zero_mul, upto_zero]
    · rw [oAt_next m c ⟨n + 1, h⟩ h0 hn]
      refine stepO_val m c ⟨n + 1, h⟩ _ r l ((ih (by omega) (by omega)).trans ?_)
      refine congrArg₂ (fun z y => upto (arrX m c z) (arrG m c) (arrW m c) (arrD m c) l y) (Fin.ext ?_) ?_
      · show n / 22 * 1024 + r.val = (n + 1) / 22 * 1024 + r.val; omega
      · show (n % 22 + 1) * 256 = (n + 1) % 22 * 256; omega

/-- A row's result, from the row and the weights. -/
def resRow (c : Dev nD) (x : Fin 2048 → EReal) : Fin 2048 → EReal := nrmRow (trunk x (arrG m c) (arrW m c) (arrD m c)) (arrF m c)

/-- The last tile's point completes a block of rows. -/
theorem oAt_done (c : Dev nD) (t : Fin cfg0.N) (h : t.val % 22 = 21) (r : Fin 1024) (l : Fin 2048) :
    oAt m c t.val t.isLt (ix2 r l) = resRow m c (arrX m c (rowOf t.val (lt176 t) r)) l := by
  have hN := lt176 t
  have hs : ∀ k, stepO m c t (oAt m c (prev t).val (prev t).isLt) (ix2 r k) = trunk (arrX m c (rowOf t.val (lt176 t) r)) (arrG m c) (arrW m c) (arrD m c) k := fun k => by
    refine (stepO_val m c t _ r k ((oAt_val m c r k (prev t).val (prev t).isLt (by show (t.val - 1) % 22 ≠ 21; omega)).trans ?_)).trans ?_
    · refine congrArg₂ (fun z y => upto (arrX m c z) (arrG m c) (arrW m c) (arrD m c) k y) (Fin.ext ?_) ?_
      · show (t.val - 1) / 22 * 1024 + r.val = t.val / 22 * 1024 + r.val; omega
      · show ((t.val - 1) % 22 + 1) * 256 = t.val % 22 * 256; omega
    · rw [h]; exact upto_all _ _ _ _ k
  rw [oAt_last m c t h]
  rw [fin_at]
  exact congrArg₂ (fun x g => nrmRow x g l) (funext hs) (funext fun k => blk5 m c t k)

theorem xsn_val (c : Dev nD) (r : Fin 8) (l : Fin 2048) : xsn m c (ix2 r l) = nrmRow (arrS m c r) (arrG m c) l := by
  unfold xsn
  rw [nrmS_at]
  exact congrArg₂ (fun x g => nrmRow x g l) (funext fun k => blk6 m c _ r k) (funext fun k => blk4 m c _ k)

/-- One point of the first block of rows adds its tile to the samples' accumulator. -/
theorem stepS_val (c : Dev nD) (t : Fin cfg0.N) (ht : t.val < 22) (o : Vec Ideal S8x2048 .f32) (r : Fin 8) (l : Fin 2048)
    (ho : o (ix2 r l) = upto (arrS m c r) (arrG m c) (arrW m c) (arrD m c) l (t.val * 256)) :
    stepS m c t o (ix2 r l) = upto (arrS m c r) (arrG m c) (arrW m c) (arrD m c) l ((t.val + 1) * 256) := by
  unfold stepS
  rw [accS_at, ho, show (t.val + 1) * 256 = t.val * 256 + 256 by omega, ← upto_tile]
  refine add_sums fun q => ?_
  unfold Ffn.unit
  rw [dif_pos (by omega)]
  have e : t.val % 22 = t.val := Nat.mod_eq_of_lt ht
  refine congrArg₂ (· * ·) ?_ ((blk2 m c t q l).trans (congrArg (fun z => arrD m c z l) (Fin.ext (by show t.val % 22 * 256 + q.val = t.val * 256 + q.val; rw [e]))))
  rw [show (fun k => xsn m c (ix2 r k)) = nrmRow (arrS m c r) (arrG m c) from funext fun k => xsn_val m c r k]
  exact congrArg₂ (hid _)
    (funext fun k => (blk0 m c t k q).trans (congrArg (arrW m c k) (Fin.ext (by show t.val % 22 * 256 + q.val = t.val * 256 + q.val; rw [e]))))
    (funext fun k => (blk1 m c t k q).trans (congrArg (arrW m c k) (Fin.ext (by show 5632 + (t.val % 22 * 256 + q.val) = 5632 + (t.val * 256 + q.val); rw [e]))))

/-- The samples' accumulator within the first block of rows. -/
theorem osAt_val (c : Dev nD) (r : Fin 8) (l : Fin 2048) : ∀ (n : ℕ) (h : n < cfg0.N), n < 21 →
    osAt m c n h (ix2 r l) = upto (arrS m c r) (arrG m c) (arrW m c) (arrD m c) l ((n + 1) * 256) := by
  intro n
  induction n with
  | zero =>
    intro h _
    rw [osAt_first m c ⟨0, h⟩ rfl]
    refine stepS_val m c ⟨0, h⟩ (by simp) _ r l ((iniS_at _ r l).trans ((blk6 m c ⟨0, h⟩ r l).trans ?_))
    show _ = upto _ _ _ _ l (0 * 256)
    rw [Nat.zero_mul, upto_zero]
  | succ n ih =>
    intro h hn
    rw [osAt_next m c ⟨n + 1, h⟩ (by simp) (by simp only; omega) (by simp only; omega)]
    exact stepS_val m c ⟨n + 1, h⟩ (by simp only; omega) _ r l (ih (by omega) (by omega))

/-- From the last point of the first block of rows on the samples' buffer is complete. -/
theorem osAt_done (c : Dev nD) (r : Fin 8) (l : Fin 2048) : ∀ (n : ℕ) (h : n < cfg0.N), 21 ≤ n →
    osAt m c n h (ix2 r l) = resRow m c (arrS m c r) l := by
  intro n
  induction n with
  | zero => intro _ h; omega
  | succ n ih =>
    intro h hn
    by_cases h1 : n + 1 = 21
    · have hs : ∀ k, stepS m c ⟨n + 1, h⟩ (osAt m c n (by omega)) (ix2 r k) = trunk (arrS m c r) (arrG m c) (arrW m c) (arrD m c) k := fun k => by
        refine (stepS_val m c ⟨n + 1, h⟩ (by simp only; omega) _ r k (osAt_val m c r k n (by omega) (by omega))).trans ?_
        show upto _ _ _ _ k ((n + 1 + 1) * 256) = _
        rw [h1]; exact upto_all _ _ _ _ k
      rw [osAt_last m c ⟨n + 1, h⟩ h1]
      rw [finS_at]
      exact congrArg₂ (fun x g => nrmRow x g l) (funext hs) (funext fun k => blk5 m c _ k)
    · rw [osAt_kept m c ⟨n + 1, h⟩ (by simp only; omega)]
      exact ih (by omega) (by omega)

/-! ## The result arrays -/

/-- The prompts' result as a function of its index. -/
def whole0 (c : Dev nD) : FVec Ideal S8192x2048 .f32 := fun y => resRow m c (arrX m c ⟨(y 0).val, (y 0).isLt⟩) ⟨(y 1).val, (y 1).isLt⟩
/-- The samples' result as a function of its index. -/
def whole1 (c : Dev nD) : FVec Ideal S8x2048 .f32 := fun y => resRow m c (arrS m c ⟨(y 0).val, (y 0).isLt⟩) ⟨(y 1).val, (y 1).isLt⟩

/-- After the run the prompts' array holds the result. -/
theorem arr7 (c : Dev nD) : (dats m 0 c).arrAt 7 cfg0.N = whole0 m c := by
  refine (dats m 0 c).arrAt_eq_of_covers 7 _ (by decide +kernel) fun t hf y => ?_
  have hN := lt176 t
  have h21 : t.val % 22 = 21 := (flush0_7 t).mp hf
  blk_simp
  rw [after0_7]
  have h0 : (y 0).val < 1024 := (y 0).isLt
  have h1 : (y 1).val < 2048 := (y 1).isLt
  have e : (win0_7.blk t).view.emb y = ix2 (rowOf t.val hN ⟨(y 0).val, h0⟩) ⟨(y 1).val, h1⟩ := by
    refine funext fun a => Fin.ext ?_
    match a with
    | ⟨0, _⟩ => blk_simp; rw [(at7 t).1]; rfl
    | ⟨1, _⟩ => blk_simp; rw [(at7 t).2]; show 0 * 2048 + (y 1).val = (y 1).val; omega
  rw [e]
  refine Eq.trans (congrArg (oAt m c t.val t.isLt) ?_) (oAt_done m c t h21 ⟨(y 0).val, h0⟩ ⟨(y 1).val, h1⟩)
  exact funext fun a => match a with | ⟨0, _⟩ => rfl | ⟨1, _⟩ => rfl

/-- After the run the samples' array holds the result. -/
theorem arr8 (c : Dev nD) : (dats m 0 c).arrAt 8 cfg0.N = whole1 m c := by
  refine (dats m 0 c).arrAt_eq_of_covers 8 _ (by decide +kernel) fun t hf y => ?_
  have hN := lt176 t
  have h175 : t.val % 176 = 175 := (flush0_8 t).mp hf
  blk_simp
  rw [after0_8]
  have h0 : (y 0).val < 8 := (y 0).isLt
  have h1 : (y 1).val < 2048 := (y 1).isLt
  have e : (win0_8.blk t).view.emb y = ix2 (⟨(y 0).val, h0⟩ : Fin 8) (⟨(y 1).val, h1⟩ : Fin 2048) := by
    refine funext fun a => Fin.ext ?_
    match a with
    | ⟨0, _⟩ => blk_simp; rw [(at8 t).1]; show 0 * 8 + (y 0).val = (y 0).val; omega
    | ⟨1, _⟩ => blk_simp; rw [(at8 t).2]; show 0 * 2048 + (y 1).val = (y 1).val; omega
  rw [e]
  refine Eq.trans (congrArg (osAt m c t.val t.isLt) ?_) (osAt_done m c ⟨(y 0).val, h0⟩ ⟨(y 1).val, h1⟩ t.val t.isLt (by omega))
  exact funext fun a => match a with | ⟨0, _⟩ => rfl | ⟨1, _⟩ => rfl

end Cert.Ffn3Val

end
-- ==== Proof.FfnRef3.lean ====
/- The reference of layer 3's feed-forward block, at an index. -/
module

public import proofs.«01_k».proof.Proof.FfnMath
public import proofs.«01_k».proof.Proof.Gen.Ffn3RefIdeal.Read

@[expose] public section

set_option maxRecDepth 16384

noncomputable section

namespace Cert.Ffn3Ref

open Idealize.ShloMosaic Idealize.ShloMosaic.TcCoe Idealize.SL.Sem
open Cert.Ffn3RefIdeal Cert.Ffn3RefIdeal.Read Cert.Ffn

variable (x0 : (⟨S4x2048x2048, .f32⟩ : BufTy).Contents (Elt Ideal)) (x1 : (⟨S8x1x2048, .f32⟩ : BufTy).Contents (Elt Ideal))
  (x2 : (⟨S4x2048, .f32⟩ : BufTy).Contents (Elt Ideal)) (x3 : (⟨S4x2048x11264, .f32⟩ : BufTy).Contents (Elt Ideal))
  (x4 : (⟨S4x5632x2048, .f32⟩ : BufTy).Contents (Elt Ideal)) (x5 : (⟨S2048, .f32⟩ : BufTy).Contents (Elt Ideal))

/-- The layer's scale. -/
def rowG : Fin 2048 → EReal := fun k => x2 (ix2 3 k)
/-- The layer's upward weights. -/
def rowW : Fin 2048 → Fin 11264 → EReal := fun k q => x3 (ix3 3 k q)
/-- The layer's downward weights. -/
def rowD : Fin 5632 → Fin 2048 → EReal := fun q l => x4 (ix3 3 q l)
/-- The last scale. -/
def rowF : Fin 2048 → EReal := fun k => x5 (ix1 k)
/-- A row of the prompts. -/
def rowX (b : Fin 4) (r : Fin 2048) : Fin 2048 → EReal := fun k => x0 (ix3 b r k)
/-- A row of the samples. -/
def rowS (b : Fin 8) (r : Fin 1) : Fin 2048 → EReal := fun k => x1 (ix3 b r k)

theorem normX (b : Fin 4) (r : Fin 2048) (l : Fin 2048) : val_main_v14 (F := Ideal) x0 x2 (ix3 b r l) = nrmRow (rowX x0 b r) (rowG x2) l := by
  unfold nrmRow rowX rowG
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

theorem upX (b : Fin 4) (r : Fin 2048) (q : Fin 11264) :
    val_main_v19 (F := Ideal) x0 x2 x3 (ix3 b r q) = ∑ k, nrmRow (rowX x0 b r) (rowG x2) k * rowW x3 k q := by
  have hW : ∀ k, val_main_v16 (F := Ideal) x3 (ix2 k q) = rowW x3 k q := fun k => by
    unfold rowW
    pointwise [val_main_v16, val_main_v15]
  rw [← Finset.sum_congr rfl fun k _ => congrArg₂ (· * ·) (normX x0 x2 b r k) (hW k)]
  pointwise [val_main_v19]

theorem hidX (b : Fin 4) (r : Fin 2048) (q : Fin 5632) :
    val_main_v23 (F := Ideal) x0 x2 x3 (ix3 b r q) = hid (nrmRow (rowX x0 b r) (rowG x2)) (fun k => rowW x3 k ⟨q.val, by omega⟩) (fun k => rowW x3 k ⟨5632 + q.val, by omega⟩) := by
  unfold hid Ideal.logistic
  rw [← upX x0 x2 x3 b r ⟨q.val, by omega⟩, ← upX x0 x2 x3 b r ⟨5632 + q.val, by omega⟩, ← one_bits]
  pointwise [val_main_v23, val_main_v22, val_main_call0_v5, val_main_call0_v4, val_main_call0_cst_0, val_main_call0_v3, val_main_call0_v2, val_main_call0_cst, val_main_call0_v1, val_main_call0_v0, val_main_v21, val_main_v20]

theorem trunkX (b : Fin 4) (r : Fin 2048) (l : Fin 2048) :
    val_main_v25 (F := Ideal) x0 x2 x3 x4 (ix3 b r l) = trunk (rowX x0 b r) (rowG x2) (rowW x3) (rowD x4) l := by
  have hD : ∀ q, val_main_v18 (F := Ideal) x4 (ix2 q l) = rowD x4 q l := fun q => by
    unfold rowD
    pointwise [val_main_v18, val_main_v17]
  unfold trunk
  rw [← Finset.sum_congr rfl fun q _ => congrArg₂ (· * ·) (hidX x0 x2 x3 b r q) (hD q)]
  pointwise [val_main_v25, val_main_v24]
  rfl

theorem lastX (b : Fin 4) (r : Fin 2048) (l : Fin 2048) :
    val_main_v38 (F := Ideal) x0 x2 x3 x4 x5 (ix3 b r l) = nrmRow (trunk (rowX x0 b r) (rowG x2) (rowW x3) (rowD x4)) (rowF x5) l := by
  rw [← funext fun k => trunkX x0 x2 x3 x4 b r k]
  unfold nrmRow rowF
  pointwise [val_main_v38, val_main_v37, val_main_v36, val_main_v35, val_main_v34, val_main_v33, val_main_v32, val_main_v31, val_main_cst_4, val_main_v30, val_main_v29, val_main_cst_3, val_main_v28, val_main_v27, val_main_cst_2, val_main_v26]

/-- The reference's prompts, at an index. -/
theorem resX (r : Fin 8192) (l : Fin 2048) : val_main_v39 (F := Ideal) x0 x2 x3 x4 x5 (ix2 r l) = nrmRow (trunk (rowX x0 ⟨r.val / 2048, by omega⟩ ⟨r.val % 2048, by omega⟩) (rowG x2) (rowW x3) (rowD x4)) (rowF x5) l := by
  refine Eq.trans ?_ (lastX x0 x2 x3 x4 x5 ⟨r.val / 2048, by omega⟩ ⟨r.val % 2048, by omega⟩ l)
  unfold val_main_v39
  refine shapeCast_apply _ _ _ _ ?_
  rw [Shape.rowMajor_val_two]
  refine (Shape.rowMajor_val_three _).trans ?_
  show (r.val / 2048 * 2048 + r.val % 2048) * 2048 + l.val = r.val * 2048 + l.val
  omega

theorem normS (b : Fin 8) (r : Fin 1) (l : Fin 2048) : val_main_v54 (F := Ideal) x1 x2 (ix3 b r l) = nrmRow (rowS x1 b r) (rowG x2) l := by
  obtain rfl : r = 0 := Subsingleton.elim _ _
  unfold nrmRow rowS rowG
  pointwise [val_main_v54, val_main_v53, val_main_v52, val_main_v51, val_main_v50, val_main_v49, val_main_v48, val_main_v47, val_main_cst_7, val_main_v46, val_main_v45, val_main_cst_6, val_main_v44, val_main_v43, val_main_cst_5, val_main_v42, val_main_v41, val_main_v40]

theorem upS (b : Fin 8) (r : Fin 1) (q : Fin 11264) :
    val_main_v59 (F := Ideal) x1 x2 x3 (ix3 b r q) = ∑ k, nrmRow (rowS x1 b r) (rowG x2) k * rowW x3 k q := by
  obtain rfl : r = 0 := Subsingleton.elim _ _
  have hW : ∀ k, val_main_v56 (F := Ideal) x3 (ix2 k q) = rowW x3 k q := fun k => by
    unfold rowW
    pointwise [val_main_v56, val_main_v55]
  rw [← Finset.sum_congr rfl fun k _ => congrArg₂ (· * ·) (normS x1 x2 b 0 k) (hW k)]
  pointwise [val_main_v59]

theorem hidS (b : Fin 8) (r : Fin 1) (q : Fin 5632) :
    val_main_v63 (F := Ideal) x1 x2 x3 (ix3 b r q) = hid (nrmRow (rowS x1 b r) (rowG x2)) (fun k => rowW x3 k ⟨q.val, by omega⟩) (fun k => rowW x3 k ⟨5632 + q.val, by omega⟩) := by
  obtain rfl : r = 0 := Subsingleton.elim _ _
  unfold hid Ideal.logistic
  rw [← upS x1 x2 x3 b 0 ⟨q.val, by omega⟩, ← upS x1 x2 x3 b 0 ⟨5632 + q.val, by omega⟩, ← one_bits]
  pointwise [val_main_v63, val_main_v62, val_main_call1_v5, val_main_call1_v4, val_main_call1_cst_0, val_main_call1_v3, val_main_call1_v2, val_main_call1_cst, val_main_call1_v1, val_main_call1_v0, val_main_v61, val_main_v60]

theorem trunkS (b : Fin 8) (r : Fin 1) (l : Fin 2048) :
    val_main_v65 (F := Ideal) x1 x2 x3 x4 (ix3 b r l) = trunk (rowS x1 b r) (rowG x2) (rowW x3) (rowD x4) l := by
  obtain rfl : r = 0 := Subsingleton.elim _ _
  have hD : ∀ q, val_main_v58 (F := Ideal) x4 (ix2 q l) = rowD x4 q l := fun q => by
    unfold rowD
    pointwise [val_main_v58, val_main_v57]
  unfold trunk
  rw [← Finset.sum_congr rfl fun q _ => congrArg₂ (· * ·) (hidS x1 x2 x3 b 0 q) (hD q)]
  pointwise [val_main_v65, val_main_v64]
  rfl

theorem lastS (b : Fin 8) (r : Fin 1) (l : Fin 2048) :
    val_main_v78 (F := Ideal) x1 x2 x3 x4 x5 (ix3 b r l) = nrmRow (trunk (rowS x1 b r) (rowG x2) (rowW x3) (rowD x4)) (rowF x5) l := by
  obtain rfl : r = 0 := Subsingleton.elim _ _
  rw [← funext fun k => trunkS x1 x2 x3 x4 b 0 k]
  unfold nrmRow rowF
  pointwise [val_main_v78, val_main_v77, val_main_v76, val_main_v75, val_main_v74, val_main_v73, val_main_v72, val_main_v71, val_main_cst_10, val_main_v70, val_main_v69, val_main_cst_9, val_main_v68, val_main_v67, val_main_cst_8, val_main_v66]

/-- The reference's samples, at an index. -/
theorem resS (r : Fin 8) (l : Fin 2048) : val_main_v79 (F := Ideal) x1 x2 x3 x4 x5 (ix2 r l) = nrmRow (trunk (rowS x1 r 0) (rowG x2) (rowW x3) (rowD x4)) (rowF x5) l := by
  refine Eq.trans ?_ (lastS x1 x2 x3 x4 x5 r 0 l)
  pointwise [val_main_v79]

end Cert.Ffn3Ref

end
-- ==== Proof.FfnClaim3.lean ====
/- The feed-forward block of layer 3 and its reference end with equal results. -/
module

public import proofs.«01_k».proof.Defs
public import proofs.«01_k».proof.Proof.FfnOut3
public import proofs.«01_k».proof.Proof.FfnRef3
public import proofs.«01_k».proof.Proof.Gen.Ffn3.Frame

@[expose] public section

set_option maxRecDepth 16384

noncomputable section

namespace Cert.Ffn3Proof

open Idealize.ShloMosaic Idealize.ShloMosaic.TcCoe Idealize.SL.Sem

/-- The reference leaves its arguments alone. -/
theorem ref_frame : quiescent_Ffn3RefIdeal := fun m g _ =>
  (θ_run _ _ _).mono (fun r h => ⟨fun c => (h c).2.2, sem_eq_zero_of_no_sems rfl r.2⟩) (Ffn3RefIdeal.Value.run m g)

section

variable {F : FTy → Type} [FloatOps F]

attribute [local instance] Ffn3.Gen.facts Ffn3Ideal.Gen.facts

/-- The two printings of the kernel have the same body. -/
theorem bodies : Ffn3.defs₀ (F := F) = Ffn3Ideal.defs₀ (F := F) := by
  refine congrArg Defs.onTc (funext fun n => funext fun a => ?_)
  match n, a with
  | ⟨0, _⟩, (t, s) => rfl

/-- So they have the same table. -/
theorem tables : Ffn3.defs (F := F) = Ffn3Ideal.defs (F := F) :=
  congrArg (Pipeline.defs (Ffn3Ideal.pcfgs (F := F))) bodies

/-- The kernel leaves its arguments alone: the one run, at the machine's floats. -/
theorem kernel_frame : quiescent_Ffn3 := fun m g _ => by
  have h := Ffn3Val.frame (F := Bits) m g
  rw [← tables] at h
  exact h

end

/-- The kernel over the reals leaves its arguments alone. -/
theorem frame : quiescent_Ffn3Ideal := fun m g _ => Ffn3Val.frame m g

/-- The kernel over the reals computes what the reference does. -/
theorem algebraic : algebraic_Ffn3Ideal_Ffn3RefIdeal := by
  intro m g m' g' _ ha
  refine ⟨fun c => Ffn3Val.whole0 m c, fun c => Ffn3Val.whole1 m c, ?_, ?_⟩
  · exact (θ_run _ _ _).mono (fun r h c => ⟨((h.1.1 c).1 7).trans (Ffn3Val.arr7 m c), ((h.1.1 c).1 8).trans (Ffn3Val.arr8 m c), h.2.1 c⟩)
      (θ_run_and (Ffn3Val.run_main m g) (Ffn3Val.frame m g))
  · refine (θ_run _ _ _).mono (fun r h c => ⟨(h c).1.trans ?_, (h c).2.1.trans ?_, (h c).2.2⟩) (Ffn3RefIdeal.Value.run m' g')
    · rw [Ffn3RefIdeal.Read.val_main_v39_eq, (ha c).1, (ha c).2.2.1, (ha c).2.2.2.1, (ha c).2.2.2.2.1, (ha c).2.2.2.2.2]
      funext y
      obtain ⟨r, l, rfl⟩ : ∃ (r : Fin 8192) (l : Fin 2048), y = ix2 r l := ⟨y 0, y 1, funext fun a => match a with | ⟨0, _⟩ => rfl | ⟨1, _⟩ => rfl⟩
      exact Ffn3Ref.resX _ _ _ _ _ r l
    · rw [Ffn3RefIdeal.Read.val_main_v79_eq, (ha c).2.1, (ha c).2.2.1, (ha c).2.2.2.1, (ha c).2.2.2.2.1, (ha c).2.2.2.2.2]
      funext y
      obtain ⟨r, l, rfl⟩ : ∃ (r : Fin 8) (l : Fin 2048), y = ix2 r l := ⟨y 0, y 1, funext fun a => match a with | ⟨0, _⟩ => rfl | ⟨1, _⟩ => rfl⟩
      exact Ffn3Ref.resS _ _ _ _ _ r l

end Cert.Ffn3Proof

end
-- ==== Proof.Softmax.lean ====
/- Softmax averages over the extended reals: dividing the weighted sum once at the end gives the same number as
   weighting with the normalised weights, when every logit is a real number. -/
module

public import Idealize.ShloMosaic.Lib.Pointwise

@[expose] public section

noncomputable section

namespace Cert.Softmax

open Idealize.ShloMosaic

/-- An extended real that is a real number. -/
def Real' (x : EReal) : Prop := x ≠ ⊤ ∧ x ≠ ⊥

/-- A real number is real. -/
theorem real_coe (r : ℝ) : Real' (r : EReal) := ⟨EReal.coe_ne_top r, EReal.coe_ne_bot r⟩

/-- What is real is the image of a real number. -/
theorem Real'.lift {x : EReal} (h : Real' x) : ∃ r : ℝ, x = r := ⟨x.toReal, (EReal.coe_toReal h.1 h.2).symm⟩

/-- A magnitude below infinity is a real number's. -/
theorem real_of_abs {x : EReal} (h : max x (-x) < ⊤) : Real' x := by
  refine ⟨fun e => ?_, fun e => ?_⟩ <;> subst e <;> simp at h

/-- Products of real numbers are real. -/
theorem Real'.mul {x y : EReal} (hx : Real' x) (hy : Real' y) : Real' (x * y) := by
  obtain ⟨a, rfl⟩ := hx.lift
  obtain ⟨b, rfl⟩ := hy.lift
  rw [← EReal.coe_mul]
  exact real_coe _

/-- Finite sums of real numbers are real. -/
theorem Real'.sum {ι : Type} (s : Finset ι) (f : ι → EReal) (h : ∀ i ∈ s, Real' (f i)) : Real' (∑ i ∈ s, f i) := by
  refine Finset.sum_induction f Real' (fun x y hx hy => ?_) (by simpa using real_coe 0) h
  obtain ⟨a, rfl⟩ := hx.lift
  obtain ⟨b, rfl⟩ := hy.lift
  rw [← EReal.coe_add]
  exact real_coe _

/-- A nonnegative real factor moves into a finite sum, whatever the summands are. -/
theorem mul_sum_of_nonneg {ι : Type} (s : Finset ι) (f : ι → EReal) {c : EReal} (hc : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc ht, ih]

/-- The largest of finitely many (at least one) real logits is real. -/
theorem real_max {n : Nat} (s : Fin (n + 1) → EReal) (hs : ∀ k, Real' (s k)) :
    Real' (Finset.univ.fold max ⊥ s) := by
  constructor
  · refine ne_of_lt (Finset.fold_max_lt ⊤ |>.mpr ⟨bot_lt_top, fun k _ => lt_top_iff_ne_top.mpr (hs k).1⟩)
  · refine ne_of_gt (Finset.lt_fold_max ⊥ |>.mpr (.inr ⟨0, Finset.mem_univ _, bot_lt_iff_ne_bot.mpr (hs 0).2⟩))

/-- The sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest and smallest patterns of single precision are the infinities. -/
theorem neg_inf : Ideal.ofBits .f32 0xFF800000#32 = ⊥ := by
  show Ideal.ieee 8 23 0xFF800000#32 = ⊥
  simp [Ideal.ieee]

/-- The pattern of positive infinity is the top element. -/
theorem pos_inf : Ideal.ofBits .f32 0x7F800000#32 = ⊤ := by
  show Ideal.ieee 8 23 0x7F800000#32 = ⊤
  simp [Ideal.ieee]

/-- The scale of the logits is a real number. -/
theorem real_scale : Real' (Ideal.ofBits .f32 0x3DB504F3#32) := by
  show Real' (Ideal.ieee 8 23 0x3DB504F3#32)
  unfold Ideal.ieee
  rw [if_neg (by decide), if_neg (by decide)]
  exact real_coe _

/-- Averaging `v` with softmax weights of real logits `s`: one division of the weighted sum, or a division of each weight. -/
theorem average {n : Nat} (s v : Fin (n + 1) → EReal) (hs : ∀ k, Real' (s k)) {M : EReal} (hM : Real' M) :
    Ideal.div (∑ k, Ideal.exp (s k - M) * v k) (∑ k, Ideal.exp (s k - M))
      = ∑ k, v k * Ideal.div (Ideal.exp (s k - M)) (∑ k, Ideal.exp (s k - M)) := by
  obtain ⟨M, rfl⟩ := hM.lift
  choose a ha using fun k => (hs k).lift
  obtain rfl : s = fun k => (a k : EReal) := funext ha
  have hL : ∑ k, Ideal.exp ((a k : EReal) - M) = ((∑ k, Real.exp (a k - M) : ℝ) : EReal) := by
    rw [coe_sum]
    exact Finset.sum_congr rfl fun k _ => by rw [← EReal.coe_sub, Ideal.exp_coe]
  have hpos : 0 < ∑ k, Real.exp (a k - M) := Finset.sum_pos (fun _ _ => Real.exp_pos _) Finset.univ_nonempty
  simp only [hL]
  generalize ∑ k, Real.exp (a k - M) = L at hpos
  have hne : ((L : ℝ) : EReal) ≠ 0 := by exact_mod_cast hpos.ne'
  simp only [Ideal.div, if_neg hne]
  rw [← EReal.coe_inv, mul_comm, mul_sum_of_nonneg _ _ (by exact_mod_cast (inv_pos.mpr hpos).le) (EReal.coe_ne_top _)]
  refine Finset.sum_congr rfl fun k _ => ?_
  rw [mul_comm, mul_assoc, mul_left_comm]

end Cert.Softmax

end
-- ==== Proof.AttendBlock.lean ====
/- The memory attention of one block: what the kernel's body stores, at an index. -/
module

public import proofs.«01_k».proof.Proof.Gen.MemAttendIdeal.Value
public import proofs.«01_k».proof.Proof.Softmax

@[expose] public section

set_option maxRecDepth 16384

noncomputable section

namespace Cert.MemAttendProof

open Idealize.ShloMosaic Idealize.ShloMosaic.TcCoe Idealize.SL.Sem
open Cert.MemAttendIdeal Cert.MemAttendIdeal.Gen

/-- The attention of one row: the logits `s`, the values `v`, divided once by the sum of the weights. -/
def row (s v : Fin 256 → EReal) : EReal :=
  Ideal.div (∑ k, Ideal.exp (s k - Finset.univ.fold max ⊥ s) * v k) (∑ k, Ideal.exp (s k - Finset.univ.fold max ⊥ s))

/-- One head's attention from a block of queries, keys and values of that head. -/
def head (q : Vec Ideal S1x1024x128 .f32) (k v : Vec Ideal S256x128 .f32) (r : Fin 1024) (l : Fin 128) : EReal :=
  row (fun j => (∑ i, q (ix3 0 r i) * k (ix2 j i)) * Ideal.ofBits .f32 0x3DB504F3#32) (fun j => v (ix2 j l))

/-- The stored block of head 3. -/
theorem pay_head3 (q : Vec Ideal S1x1024x128 .f32) (k v : Vec Ideal S256x128 .f32) (r : Fin 1024) (l : Fin 128) :
    k0_pay3 (k0_pay11 v) (k0_pay12 q k) (ix3 0 r l) = head q k v r l := by
  pointwise [k0_pay3, k0_pay11, k0_pay12]
  rw [head, row, Softmax.neg_inf]

/-- The stored block of head 2. -/
theorem pay_head2 (q : Vec Ideal S1x1024x128 .f32) (k v : Vec Ideal S256x128 .f32) (r : Fin 1024) (l : Fin 128) :
    k0_pay2 (k0_pay8 v) (k0_pay10 (k0_pay9 q k) (Scalar.ofBits .f32 0x3DB504F3#32)) (ix3 0 r l) = head q k v r l := by
  pointwise [k0_pay2, k0_pay8, k0_pay9, k0_pay10]
  rw [head, row, Softmax.neg_inf]

/-- The stored block of head 1. -/
theorem pay_head1 (q : Vec Ideal S1x1024x128 .f32) (k v : Vec Ideal S256x128 .f32) (r : Fin 1024) (l : Fin 128) :
    k0_pay1 (k0_pay14 (k0_pay6 v) (k0_pay7 q k)) (ix3 0 r l) = head q k v r l := by
  pointwise [k0_pay1, k0_pay14, k0_pay6, k0_pay7]
  rw [head, row, Softmax.neg_inf]

/-- The stored block of head 0. -/
theorem pay_head0 (q : Vec Ideal S1x1024x128 .f32) (k v : Vec Ideal S256x128 .f32) (r : Fin 1024) (l : Fin 128) :
    k0_pay13 (k0_pay4 v) (k0_pay5 q k) (ix3 0 r l) = head q k v r l := by
  pointwise [k0_pay13, k0_pay4, k0_pay5]
  rw [head, row, Softmax.neg_inf]

/-- What the body leaves in its output block: row `r`, head `h`, lane `l`, from the queries' block and the memory's keys and values. -/
def cell (q : Vec Ideal S1x1024x512 .f32) (kv : Vec Ideal S256x1024 .f32) (r : Fin 1024) (h : Fin 4) (l : Fin 128) : EReal :=
  row (fun j => (∑ i : Fin 128, q (ix3 0 r ⟨128 * h.val + i.val, by omega⟩) * kv (ix2 j ⟨128 * h.val + i.val, by omega⟩))
      * Ideal.ofBits .f32 0x3DB504F3#32)
    (fun j => kv (ix2 j ⟨512 + 128 * h.val + l.val, by omega⟩))

/-- `cell` at an index of the output block. -/
def block (q : Vec Ideal S1x1024x512 .f32) (kv : Vec Ideal S256x1024 .f32) : Vec Ideal S1x1024x512 .f32 :=
  fun y => cell q kv ⟨(y 1).val, (y 1).isLt⟩ ⟨(y 2).val / 128, Nat.div_lt_of_lt_mul (y 2).isLt⟩ ⟨(y 2).val % 128, Nat.mod_lt _ (by decide)⟩

/-- A column block of the queries or of the output, at an index. -/
theorem emb3 (o : Nat) (h) (r : Fin 1024) (l : Fin 128) (hlt : o + l.val < 512) :
    (Rect.unit (s := S1x1024x512) ![0, 0, o] S1x1024x128.size h).emb (ix3 0 r l) = ix3 0 r ⟨o + l.val, hlt⟩ :=
  funext fun a => Fin.ext (by
    match a with
    | ⟨0, _⟩ => rfl
    | ⟨1, _⟩ => show 0 + 1 * r.val = r.val; omega
    | ⟨2, _⟩ => show o + 1 * l.val = o + l.val; omega)

/-- A column block of the keys and values, at an index. -/
theorem emb2 (o : Nat) (h) (k : Fin 256) (l : Fin 128) (hlt : o + l.val < 1024) :
    (Rect.unit (s := S256x1024) ![0, o] S256x128.size h).emb (ix2 k l) = ix2 k ⟨o + l.val, hlt⟩ :=
  funext fun a => Fin.ext (by
    match a with
    | ⟨0, _⟩ => show 0 + 1 * k.val = k.val; omega
    | ⟨1, _⟩ => show o + 1 * l.val = o + l.val; omega)

/-- The output block as a function of its index. -/
theorem out_eq (q : Vec Ideal S1x1024x512 .f32) (kv : Vec Ideal S256x1024 .f32) : out0_2 q kv = block q kv := by
  have key : ∀ (r : Fin 1024) (l : Fin 128) (h : Fin 4) (hlt : 128 * h.val + l.val < 512),
      block q kv (ix3 0 r ⟨128 * h.val + l.val, hlt⟩) = cell q kv r h l := by
    intro r l h hlt
    show cell q kv ⟨r.val, _⟩ ⟨(128 * h.val + l.val) / 128, _⟩ ⟨(128 * h.val + l.val) % 128, _⟩ = _
    congr 1
    · exact Fin.ext (by show (128 * h.val + l.val) / 128 = h.val; omega)
    · exact Fin.ext (by show (128 * h.val + l.val) % 128 = l.val; omega)
  unfold out0_2
  funext y
  refine View.canon_apply_of_pieces (block q kv) _ (fun p hp x => ?_) y (cover0_2 _ _ _ _ y)
  simp only [List.mem_cons, List.not_mem_nil, or_false] at hp
  have pick : ∀ x : (⟨3, ![1, 1024, 128]⟩ : Shape).Idx, ∃ (r : Fin 1024) (l : Fin 128), x = ix3 0 r l := fun x =>
    ⟨x 1, x 2, by funext a; match a with | ⟨0, _⟩ => exact Subsingleton.elim (α := Fin 1) _ _ | ⟨1, _⟩ => rfl | ⟨2, _⟩ => rfl⟩
  rcases hp with rfl | rfl | rfl | rfl
  · obtain ⟨r, l, rfl⟩ := pick x
    refine (pay_head3 _ _ _ r l).trans ((congrArg₂ row (funext fun j => congrArg (· * _) (Finset.sum_congr rfl fun i _ => ?_)) (funext fun j => ?_)).trans
      ((key r l 3 (by show 128 * 3 + l.val < 512; omega)).symm.trans (congrArg (block q kv) ?_)))
    · exact congrArg₂ (fun a b => q a * kv b) (emb3 384 _ r i (by omega)) (emb2 384 _ j i (by omega))
    · exact congrArg kv (emb2 896 _ j l (by omega))
    · exact (emb3 384 inb_S1x1024x512_S1x1024x128_0_0_384 r l (by omega)).symm
  · obtain ⟨r, l, rfl⟩ := pick x
    refine (pay_head2 _ _ _ r l).trans ((congrArg₂ row (funext fun j => congrArg (· * _) (Finset.sum_congr rfl fun i _ => ?_)) (funext fun j => ?_)).trans
      ((key r l 2 (by show 128 * 2 + l.val < 512; omega)).symm.trans (congrArg (block q kv) ?_)))
    · exact congrArg₂ (fun a b => q a * kv b) (emb3 256 _ r i (by omega)) (emb2 256 _ j i (by omega))
    · exact congrArg kv (emb2 768 _ j l (by omega))
    · exact (emb3 256 inb_S1x1024x512_S1x1024x128_0_0_256 r l (by omega)).symm
  · obtain ⟨r, l, rfl⟩ := pick x
    refine (pay_head1 _ _ _ r l).trans ((congrArg₂ row (funext fun j => congrArg (· * _) (Finset.sum_congr rfl fun i _ => ?_)) (funext fun j => ?_)).trans
      ((key r l 1 (by show 128 * 1 + l.val < 512; omega)).symm.trans (congrArg (block q kv) ?_)))
    · exact congrArg₂ (fun a b => q a * kv b) (emb3 128 _ r i (by omega)) (emb2 128 _ j i (by omega))
    · exact congrArg kv (emb2 640 _ j l (by omega))
    · exact (emb3 128 inb_S1x1024x512_S1x1024x128_0_0_128 r l (by omega)).symm
  · obtain ⟨r, l, rfl⟩ := pick x
    refine (pay_head0 _ _ _ r l).trans ((congrArg₂ row (funext fun j => congrArg (· * _) (Finset.sum_congr rfl fun i _ => ?_)) (funext fun j => ?_)).trans
      ((key r l 0 (by show 128 * 0 + l.val < 512; omega)).symm.trans (congrArg (block q kv) ?_)))
    · exact congrArg₂ (fun a b => q a * kv b) (emb3 0 _ r i (by omega)) (emb2 0 _ j i (by omega))
    · exact congrArg kv (emb2 512 _ j l (by omega))
    · exact (emb3 0 inb_S1x1024x512_S1x1024x128_0_0_0 r l (by omega)).symm

end Cert.MemAttendProof

end
-- ==== Proof.Attend.lean ====
/- The memory attention's whole result. -/
module

public import proofs.«01_k».proof.Proof.AttendBlock
public import Idealize.ShloMosaic.Lib.Pipeline.ValueKit

@[expose] public section

set_option maxRecDepth 16384

noncomputable section

namespace Cert.MemAttendProof

open Idealize.ShloMosaic Idealize.ShloMosaic.TcCoe Idealize.SL.Sem
open Idealize.ShloMosaic.Pipeline (Dat)
open Cert.MemAttendIdeal Cert.MemAttendIdeal.Gen

variable (m : (ℓ : Loc nD τ sig) → Buf (Elt Ideal) ℓ)

/-- The attention of query row `r` of batch `b` and head `h` over the memory's keys, at lane `l` of the values. -/
def at' (u : FVec Ideal S4x2048x2048 .f32) (x : FVec Ideal S4x4x256x2x4x128 .f32) (b : Fin 4) (r : Fin 2048) (h : Fin 4) (l : Fin 128) : EReal :=
  row (fun j => (∑ i : Fin 128, u (ix3 b r ⟨1536 + (h.val * 128 + i.val), by omega⟩) * x (ix6 0 b j 0 h i))
      * Ideal.ofBits .f32 0x3DB504F3#32)
    (fun j => x (ix6 0 b j 1 h l))

/-- The whole result as a function of its index. -/
def whole (u : FVec Ideal S4x2048x2048 .f32) (x : FVec Ideal S4x4x256x2x4x128 .f32) : FVec Ideal S4x2048x512 .f32 :=
  fun i => at' u x ⟨(i 0).val, (i 0).isLt⟩ ⟨(i 1).val, (i 1).isLt⟩ ⟨(i 2).val / 128, Nat.div_lt_of_lt_mul (i 2).isLt⟩ ⟨(i 2).val % 128, Nat.mod_lt _ (by decide)⟩

/-- The batch a grid point works on. -/
def bat (t : Fin cfg0.N) : Fin 4 := ⟨(grid0.coords t 0).val, (grid0.coords t 0).isLt⟩

/-- The row of the batch that a row of the point's block is. -/
def rowOf (t : Fin cfg0.N) (r : Fin 1024) : Fin 2048 :=
  ⟨(grid0.coords t 1).val * 1024 + r.val, by have h : (grid0.coords t 1).val < 2 := (grid0.coords t 1).isLt; omega⟩

/-- The queries' window moves with the point: its batch, its tile of rows, the last quarter of the columns. -/
theorem at0 : ∀ t : Fin cfg0.N, win0_0.index t 0 = (grid0.coords t 0).val ∧ win0_0.index t 1 = (grid0.coords t 1).val ∧ win0_0.index t 2 = 3 := by
  decide +kernel

/-- The keys' and values' window moves with the batch. -/
theorem at1 : ∀ t : Fin cfg0.N, win0_1.index t 0 = (grid0.coords t 0).val ∧ win0_1.index t 1 = 0 := by
  decide +kernel

/-- The output's window moves as the queries' does. -/
theorem at2 : ∀ t : Fin cfg0.N, win0_2.index t 0 = (grid0.coords t 0).val ∧ win0_2.index t 1 = (grid0.coords t 1).val ∧ win0_2.index t 2 = 0 := by
  decide +kernel

/-- The block of the queries at a point. -/
theorem queries (c : Dev nD) (t : Fin cfg0.N) (r : Fin 1024) (l : Fin 512) :
    iblk m c 0 t (ix3 0 r l) = m (c.tc.loc main_arg0) (ix3 (bat t) (rowOf t r) ⟨1536 + l.val, by omega⟩) := by
  unfold iblk
  rw [show V m c (Pipeline.arrRef spec0 0) = m (c.tc.loc main_arg0) from V_main_arg0 m c]
  refine congrArg (m (c.tc.loc main_arg0)) (funext fun a => Fin.ext ?_)
  match a with
  | ⟨0, _⟩ => blk_simp; rw [(at0 t).1]; rfl
  | ⟨1, _⟩ => blk_simp; rw [(at0 t).2.1]; rfl
  | ⟨2, _⟩ => blk_simp; rw [(at0 t).2.2]

/-- The block of the keys (`s = 0`) and values (`s = 1`) at a point. -/
theorem keys (c : Dev nD) (t : Fin cfg0.N) (j : Fin 256) (s : Fin 2) (h : Fin 4) (l : Fin 128) :
    iblk m c 1 t (ix2 j ⟨512 * s.val + (128 * h.val + l.val), by omega⟩) = m (c.tc.loc main_arg1) (ix6 0 (bat t) j s h l) := by
  unfold iblk
  have hV : V m c (Pipeline.arrRef spec0 1) = shapeCast S4096x1024 (m (c.tc.loc main_arg1)) shapeCasts_S4x4x256x2x4x128_S4096x1024 := by
    show StableHlo.after hostOps0 (fun b => m (c, b)) (Proc.tc.devRef main_v0) = _
    after_results
    rfl
  rw [hV]
  have e : ((cfg0.win 1).blk t).view.emb (ix2 j ⟨512 * s.val + (128 * h.val + l.val), by omega⟩)
      = ix2 (⟨(bat t).val * 256 + j.val, by omega⟩ : Fin 4096) (⟨512 * s.val + (128 * h.val + l.val), by omega⟩ : Fin 1024) := by
    refine funext fun a => Fin.ext ?_
    match a with
    | ⟨0, _⟩ => blk_simp; rw [(at1 t).1]; rfl
    | ⟨1, _⟩ => blk_simp; rw [(at1 t).2]; show 0 * 1024 + (512 * s.val + (128 * h.val + l.val)) = 512 * s.val + (128 * h.val + l.val); omega
  refine (congrArg (shapeCast S4096x1024 (m (c.tc.loc main_arg1)) shapeCasts_S4x4x256x2x4x128_S4096x1024) e).trans ?_
  refine shapeCast_apply _ _ _ _ ?_
  rw [Shape.rowMajor_val_two]
  refine (Shape.rowMajor_val_six (ix6 0 (bat t) j s h l)).trans ?_
  show ((((0 * 4 + (bat t).val) * 256 + j.val) * 2 + s.val) * 4 + h.val) * 128 + l.val = ((bat t).val * 256 + j.val) * 1024 + (512 * s.val + (128 * h.val + l.val))
  omega

/-- After the run the result array holds the attention of the arguments. -/
theorem arr_eq (c : Dev nD) : (dats m 0 c).arrAt 2 cfg0.N
    = whole (m (c.tc.loc main_arg0)) (m (c.tc.loc main_arg1)) := by
  refine (dats m 0 c).arrAt_eq_of_covers 2 _ (by decide +kernel) fun t hf y => ?_
  blk_simp
  rw [after0_2, out_eq]
  have h1 : (y 1).val < 1024 := (y 1).isLt
  have h2 : (y 2).val < 512 := (y 2).isLt
  have h0 : (y 0).val < 1 := (y 0).isLt
  have e : (win0_2.blk t).view.emb y = ix3 (bat t) (rowOf t ⟨(y 1).val, h1⟩) ⟨(y 2).val, h2⟩ := by
    refine funext fun a => Fin.ext ?_
    match a with
    | ⟨0, _⟩ => blk_simp; rw [(at2 t).1]; show _ = (grid0.coords t 0).val; omega
    | ⟨1, _⟩ => blk_simp; rw [(at2 t).2.1]; rfl
    | ⟨2, _⟩ => blk_simp; rw [(at2 t).2.2]; show 0 * 512 + (y 2).val = (y 2).val; omega
  rw [e]
  show cell _ _ ⟨(y 1).val, _⟩ ⟨(y 2).val / 128, _⟩ ⟨(y 2).val % 128, _⟩ = at' _ _ (bat t) (rowOf t _) ⟨(y 2).val / 128, _⟩ ⟨(y 2).val % 128, _⟩
  generalize (⟨(y 1).val, h1⟩ : Fin 1024) = r
  generalize (⟨(y 2).val / 128, _⟩ : Fin 4) = h
  generalize (⟨(y 2).val % 128, _⟩ : Fin 128) = l
  unfold cell at'
  refine congrArg₂ row (funext fun j => congrArg (· * _) (Finset.sum_congr rfl fun i _ => ?_)) (funext fun j => ?_)
  · refine congrArg₂ (· * ·) ((queries m c t r ⟨128 * h.val + i.val, by omega⟩).trans (congrArg (fun z => m (c.tc.loc main_arg0) (ix3 (bat t) (rowOf t r) z)) (Fin.ext ?_))) ?_
    · show 1536 + (128 * h.val + i.val) = 1536 + (h.val * 128 + i.val); omega
    · exact (congrArg (fun z => iblk m c 1 t (ix2 j z)) (Fin.ext (by show 128 * h.val + i.val = 512 * 0 + (128 * h.val + i.val); omega))).trans (keys m c t j 0 h i)
  · exact (congrArg (fun z => iblk m c 1 t (ix2 j z)) (Fin.ext (by show 512 + 128 * h.val + l.val = 512 * 1 + (128 * h.val + l.val); omega))).trans (keys m c t j 1 h l)

end Cert.MemAttendProof

end
-- ==== Proof.AttendRef.lean ====
/- The memory attention's reference, at an index. -/
module

public import proofs.«01_k».proof.Proof.Softmax
public import proofs.«01_k».proof.Proof.Gen.MemAttendRefIdeal.Read

@[expose] public section

set_option maxRecDepth 16384

noncomputable section

namespace Cert.MemAttendProof.Ref

open Idealize.ShloMosaic Idealize.ShloMosaic.TcCoe Idealize.SL.Sem
open Cert.MemAttendRefIdeal Cert.MemAttendRefIdeal.Read

/-- The host's maximum over the last of four axes, at an index. -/
theorem reduce_max {n0 n1 n2 n3 : Nat} (x : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf x init h hu (ix3 a b c)
      = Finset.univ.fold (fun p q : EReal => max p q) (init (Shape.Idx.first hu)) fun k => x (ix4 a b c k) := by
  rw [Host.reduce_eq_fold]
  exact h.fold_fiber_r4_a3 (ix3 a b c) _ _ x

variable (u : (⟨S4x2048x2048, .f32⟩ : BufTy).Contents (Elt Ideal)) (x : (⟨S4x4x256x2x4x128, .f32⟩ : BufTy).Contents (Elt Ideal))

/-- The queries, split in heads. -/
theorem queries (b : Fin 4) (r : Fin 2048) (h : Fin 4) (i : Fin 128) :
    val_main_v1 (F := Ideal) u (ix4 b r h i) = u (ix3 b r ⟨1536 + (h.val * 128 + i.val), by omega⟩) := by
  pointwise [val_main_v1, val_main_v0]

/-- The layer's memory. -/
theorem memory (b : Fin 4) (j : Fin 256) (s : Fin 2) (h : Fin 4) (i : Fin 128) :
    val_main_v3 (F := Ideal) x (ix5 b j s h i) = x (ix6 0 b j s h i) := by
  pointwise [val_main_v3, val_main_v2]

/-- The keys. -/
theorem keys (b : Fin 4) (j : Fin 256) (h : Fin 4) (i : Fin 128) :
    val_main_v5 (F := Ideal) x (ix4 b j h i) = x (ix6 0 b j 0 h i) := by
  pointwise [val_main_v5, val_main_v4]
  exact memory x b j 0 h i

/-- The values. -/
theorem values (b : Fin 4) (j : Fin 256) (h : Fin 4) (i : Fin 128) :
    val_main_v21 (F := Ideal) x (ix4 b j h i) = x (ix6 0 b j 1 h i) := by
  pointwise [val_main_v21, val_main_v20]
  exact memory x b j 1 h i

/-- The logit of row `r` against key `j`. -/
def logit (b h : Fin 4) (r : Fin 2048) (j : Fin 256) : EReal :=
  (∑ i : Fin 128, u (ix3 b r ⟨1536 + (h.val * 128 + i.val), by omega⟩) * x (ix6 0 b j 0 h i)) * Ideal.ofBits .f32 0x3DB504F3#32

/-- The logits. -/
theorem logits (b h : Fin 4) (r : Fin 2048) (j : Fin 256) : val_main_v8 (F := Ideal) u x (ix4 b h r j) = logit u x b h r j := by
  pointwise [val_main_v8, val_main_v7, val_main_v6, val_main_cst]
  simp only [queries, keys]
  rfl

/-- The largest logit of a row. -/
theorem largest (b h : Fin 4) (r : Fin 2048) :
    val_main_v11 (F := Ideal) u x (ix3 b h r) = Finset.univ.fold max ⊥ (logit u x b h r) := by
  have e : val_main_v9 (F := Ideal) u x (ix3 b h r) = Finset.univ.fold max ⊥ (logit u x b h r) := by
    unfold val_main_v9
    refine (reduce_max _ _ _ _ b h r).trans ?_
    simp only [logits]
    rw [← Softmax.neg_inf]
    rfl
  rw [val_main_v11_apply, e, val_main_v10_apply, val_main_cst_1_apply]
  show max (Ideal.ofBits .f32 0xFF800000#32) _ = _
  rw [Softmax.neg_inf, bot_sup_eq]

/-- The weights before they are normalised. -/
theorem weight (b h : Fin 4) (r : Fin 2048) (j : Fin 256) :
    val_main_v15 (F := Ideal) u x (ix4 b h r j) = Ideal.exp (logit u x b h r j - Finset.univ.fold max ⊥ (logit u x b h r)) := by
  pointwise [val_main_v15, val_main_v14, val_main_v13, val_main_v12]
  rw [logits, largest]

/-- The normalised weights. -/
theorem share (b h : Fin 4) (r : Fin 2048) (j : Fin 256) :
    val_main_v19 (F := Ideal) u x (ix4 b h r j)
      = Ideal.div (Ideal.exp (logit u x b h r j - Finset.univ.fold max ⊥ (logit u x b h r)))
          (∑ k, Ideal.exp (logit u x b h r k - Finset.univ.fold max ⊥ (logit u x b h r))) := by
  pointwise [val_main_v19, val_main_v18, val_main_v17, val_main_v16, val_main_cst_2]
  simp only [weight]

/-- The result. -/
theorem result (b : Fin 4) (r : Fin 2048) (l : Fin 512) :
    val_main_v24 (F := Ideal) u x (ix3 b r l)
      = ∑ k : Fin 256, x (ix6 0 b k 1 ⟨l.val / 128, by omega⟩ ⟨l.val % 128, by omega⟩)
          * Ideal.div (Ideal.exp (logit u x b ⟨l.val / 128, by omega⟩ r k - Finset.univ.fold max ⊥ (logit u x b ⟨l.val / 128, by omega⟩ r)))
              (∑ k, Ideal.exp (logit u x b ⟨l.val / 128, by omega⟩ r k - Finset.univ.fold max ⊥ (logit u x b ⟨l.val / 128, by omega⟩ r))) := by
  pointwise [val_main_v24, val_main_v23, val_main_v22]
  simp only [values, share]

end Cert.MemAttendProof.Ref

end
-- ==== Proof.AttendClaim.lean ====
/- The memory attention and its reference end with equal results. -/
module

public import proofs.«01_k».proof.Defs
public import proofs.«01_k».proof.Proof.Attend
public import proofs.«01_k».proof.Proof.AttendRef
public import Idealize.ShloMosaic.Lib.ReduceAll

@[expose] public section

set_option maxRecDepth 16384

noncomputable section

namespace Cert.MemAttendProof

open Idealize.ShloMosaic Idealize.ShloMosaic.TcCoe Idealize.SL.Sem

/-- The shapes of the precondition's operations fit. -/
theorem facts : Cert.Pre_finite_ma.Facts where
  slices_S4x2048x2048_S4x2048x512_0_0_1536 := by decide
  bcast_S_S4x2048x512 := by decide
  reducesTo_S4x2048x512_S_d0_1_2 := by decide
  h_S_ := by decide
  slices_S4x4x256x2x4x128_S1x4x256x1x4x128_0_0_0_0_0_0 := by decide
  shapeCasts_S1x4x256x1x4x128_S4x256x4x128 := by decide
  bcast_S_S4x256x4x128 := by decide
  reducesTo_S4x256x4x128_S_d0_1_2_3 := by decide

section

open Cert.Pre_finite_ma

attribute [local instance] facts

/-- Below infinity in magnitude is real. -/
theorem real_of_cmp {x y : EReal} (hy : y = ⊤) (h : Ideal.cmp .olt (max x (-x)) y = 1#1) : Softmax.Real' x := by
  subst hy
  refine Softmax.real_of_abs ?_
  by_contra hn
  rw [Ideal.cmp_olt, decide_eq_false hn] at h
  exact absurd h (by decide)

/-- Under the precondition the two reductions of the comparisons are ones. -/
theorem split (u : FVec Ideal S4x2048x2048 .f32) (x : FVec Ideal S4x4x256x2x4x128 .f32) (h : fn (F := Ideal) u x = fun _ => 1#1) :
    Host.reduce IntOp.andi (cmpf .olt (Host.absf (extractStridedSlice S4x2048x512 ![0, 0, 1536] u Facts.slices_S4x2048x2048_S4x2048x512_0_0_1536))
        (broadcastInDim S4x2048x512 ![] Facts.bcast_S_S4x2048x512 (constant (F := Ideal) S_ .f32 0x7F800000#32)))
        (constantI S_ 1 1#1) Facts.reducesTo_S4x2048x512_S_d0_1_2 Facts.h_S_ ix0 = 1#1
    ∧ Host.reduce IntOp.andi (cmpf .olt (Host.absf (shapeCast S4x256x4x128 (extractStridedSlice S1x4x256x1x4x128 ![0, 0, 0, 0, 0, 0] x
          Facts.slices_S4x4x256x2x4x128_S1x4x256x1x4x128_0_0_0_0_0_0) Facts.shapeCasts_S1x4x256x1x4x128_S4x256x4x128))
        (broadcastInDim S4x256x4x128 ![] Facts.bcast_S_S4x256x4x128 (constant (F := Ideal) S_ .f32 0x7F800000#32)))
        (constantI S_ 1 1#1) Facts.reducesTo_S4x256x4x128_S_d0_1_2_3 Facts.h_S_ ix0 = 1#1 :=
  IntOp.andi_eq_one.mp (congrFun h ix0)

/-- There is one index of rank zero. -/
local instance : Subsingleton S_.Idx := ⟨fun _ _ => funext fun a => a.elim0⟩

/-- Under the precondition the queries are real. -/
theorem real_queries (u : FVec Ideal S4x2048x2048 .f32) (x : FVec Ideal S4x4x256x2x4x128 .f32)
    (h : fn (F := Ideal) u x = fun _ => 1#1) (b : Fin 4) (r : Fin 2048) (l : Fin 512) :
    Softmax.Real' (u (ix3 b r ⟨1536 + l.val, by omega⟩)) := by
  have h1 := Host.reduce_andi_all _ _ _ _ _ (split u x h).1 (ix3 b r l)
  refine real_of_cmp Softmax.pos_inf (Eq.trans ?_ h1)
  pointwise
  rfl

/-- Under the precondition the keys are real. -/
theorem real_keys (u : FVec Ideal S4x2048x2048 .f32) (x : FVec Ideal S4x4x256x2x4x128 .f32)
    (h : fn (F := Ideal) u x = fun _ => 1#1) (b : Fin 4) (j : Fin 256) (hd : Fin 4) (i : Fin 128) :
    Softmax.Real' (x (ix6 0 b j 0 hd i)) := by
  have h1 := Host.reduce_andi_all _ _ _ _ _ (split u x h).2 (ix4 b j hd i)
  refine real_of_cmp Softmax.pos_inf (Eq.trans ?_ h1)
  pointwise
  rfl

/-- Under the precondition the kernel's array is the reference's. -/
theorem whole_eq (u : FVec Ideal S4x2048x2048 .f32) (x : FVec Ideal S4x4x256x2x4x128 .f32) (h : fn (F := Ideal) u x = fun _ => 1#1) :
    whole u x = Cert.MemAttendRefIdeal.Read.val_main_v24 (F := Ideal) u x := by
  funext y
  obtain ⟨b, r, l, rfl⟩ : ∃ (b : Fin 4) (r : Fin 2048) (l : Fin 512), y = ix3 b r l :=
    ⟨y 0, y 1, y 2, funext fun a => match a with | ⟨0, _⟩ => rfl | ⟨1, _⟩ => rfl | ⟨2, _⟩ => rfl⟩
  refine Eq.trans ?_ (Ref.result u x b r l).symm
  have hs : ∀ k, Softmax.Real' (Ref.logit u x b ⟨l.val / 128, by omega⟩ r k) := fun k =>
    .mul (.sum _ _ fun i _ => .mul (real_queries u x h b r ⟨l.val / 128 * 128 + i.val, by omega⟩) (real_keys u x h b k _ i)) Softmax.real_scale
  exact Softmax.average _ (fun k => x (ix6 0 b k 1 ⟨l.val / 128, by omega⟩ ⟨l.val % 128, by omega⟩)) hs (Softmax.real_max _ hs)

end

/-- The reference runs, leaves its arguments and every counter as they were. -/
theorem ref_frame (m : (ℓ : Loc MemAttendRefIdeal.nD MemAttendRefIdeal.τ MemAttendRefIdeal.sig) → Buf (Elt Ideal) ℓ)
    (g : Dev MemAttendRefIdeal.nD → PrngReg) :
    θ_run (MemAttendRefIdeal.defs (F := Ideal)) (onTc (τ := MemAttendRefIdeal.τ) (MemAttendRefIdeal.main (F := Ideal))) ⟨m, fun _ => 0, g⟩ (fun r =>
      (∀ c : Dev MemAttendRefIdeal.nD,
        r.2.mem ((c.tc : Thread MemAttendRefIdeal.nD MemAttendRefIdeal.τ).loc MemAttendRefIdeal.main_arg0) = m ((c.tc : Thread MemAttendRefIdeal.nD MemAttendRefIdeal.τ).loc MemAttendRefIdeal.main_arg0)
        ∧ r.2.mem ((c.tc : Thread MemAttendRefIdeal.nD MemAttendRefIdeal.τ).loc MemAttendRefIdeal.main_arg1) = m ((c.tc : Thread MemAttendRefIdeal.nD MemAttendRefIdeal.τ).loc MemAttendRefIdeal.main_arg1))
      ∧ r.2.sem = fun _ => 0) :=
  (θ_run _ _ _).mono (fun r h => ⟨fun c => (h c).2, sem_eq_zero_of_no_sems rfl r.2⟩) (MemAttendRefIdeal.Value.run m g)

/-- From equal arguments the kernel and the reference end with equal results. -/
theorem algebraic : algebraic_MemAttendIdeal_MemAttendRefIdeal_pre_finite_ma (hPre_finite_ma := facts) := by
  intro m g m' g' hp ha
  refine ⟨fun c => whole (m ((c.tc : Thread MemAttendIdeal.nD MemAttendIdeal.τ).loc MemAttendIdeal.main_arg0))
      (m ((c.tc : Thread MemAttendIdeal.nD MemAttendIdeal.τ).loc MemAttendIdeal.main_arg1)), ?_, ?_⟩
  · exact (θ_run _ _ _).mono (fun r h c => ⟨(h c).1.trans (arr_eq m c), (h c).2⟩) (MemAttendIdeal.Value.run_blocks m g)
  · refine (θ_run _ _ _).mono (fun r h c => ⟨(h c).1.trans ?_, (h c).2⟩) (MemAttendRefIdeal.Value.run m' g')
    rw [MemAttendRefIdeal.Read.val_main_v24_eq, (ha c).1, (ha c).2]
    exact (whole_eq _ _ (hp c)).symm

end Cert.MemAttendProof

end
-- ==== Proof.lean ====
/- The certificate: the input projections of the first two layers, the memory keys and values, the output projections and the feed-forward blocks of the four layers, and the memory attention of one. -/
module

public import proofs.«01_k».proof.Defs
public import proofs.«01_k».proof.Proof.InClaim0
public import proofs.«01_k».proof.Proof.InClaim1
public import proofs.«01_k».proof.Proof.MkvClaim
public import proofs.«01_k».proof.Proof.OutClaim0
public import proofs.«01_k».proof.Proof.OutClaim1
public import proofs.«01_k».proof.Proof.OutClaim2
public import proofs.«01_k».proof.Proof.OutClaim3
public import proofs.«01_k».proof.Proof.FfnClaim0
public import proofs.«01_k».proof.Proof.FfnClaim1
public import proofs.«01_k».proof.Proof.FfnClaim2
public import proofs.«01_k».proof.Proof.FfnClaim3
public import proofs.«01_k».proof.Proof.Gen.MemAttend.Frame
public import proofs.«01_k».proof.Proof.AttendClaim

@[expose] public section

noncomputable section

namespace Cert.Proof

open Idealize.ShloMosaic Idealize.SL.Sem

/-- Everything the certificate claims. -/
theorem claim : Cert.Claim := ⟨Cert.In0.Gen.facts,
  Cert.In0Ideal.Gen.facts,
  Cert.In0RefIdeal.Gen.facts,
  Cert.In1.Gen.facts,
  Cert.In1Ideal.Gen.facts,
  Cert.In1RefIdeal.Gen.facts,
  Cert.Mkv.Gen.facts,
  Cert.MkvIdeal.Gen.facts,
  Cert.MkvRefIdeal.Gen.facts,
  Cert.Out0.Gen.facts,
  Cert.Out0Ideal.Gen.facts,
  Cert.Out0RefIdeal.Gen.facts,
  Cert.Out1.Gen.facts,
  Cert.Out1Ideal.Gen.facts,
  Cert.Out1RefIdeal.Gen.facts,
  Cert.Out2.Gen.facts,
  Cert.Out2Ideal.Gen.facts,
  Cert.Out2RefIdeal.Gen.facts,
  Cert.Out3.Gen.facts,
  Cert.Out3Ideal.Gen.facts,
  Cert.Out3RefIdeal.Gen.facts,
  Cert.Ffn0.Gen.facts,
  Cert.Ffn0Ideal.Gen.facts,
  Cert.Ffn0RefIdeal.Gen.facts,
  Cert.Ffn1.Gen.facts,
  Cert.Ffn1Ideal.Gen.facts,
  Cert.Ffn1RefIdeal.Gen.facts,
  Cert.Ffn2.Gen.facts,
  Cert.Ffn2Ideal.Gen.facts,
  Cert.Ffn2RefIdeal.Gen.facts,
  Cert.Ffn3.Gen.facts,
  Cert.Ffn3Ideal.Gen.facts,
  Cert.Ffn3RefIdeal.Gen.facts,
  Cert.MemAttend.Gen.facts,
  Cert.MemAttendIdeal.Gen.facts,
  Cert.MemAttendRefIdeal.Gen.facts,
  Cert.MemAttendProof.facts,
  Cert.In0Proof.kernel_frame,
  Cert.In0Proof.frame,
  Cert.In0Proof.ref_frame,
  Cert.In1Proof.kernel_frame,
  Cert.In1Proof.frame,
  Cert.In1Proof.ref_frame,
  Cert.MkvProof.kernel_frame,
  Cert.MkvProof.frame,
  Cert.MkvProof.ref_frame,
  Cert.Out0Proof.kernel_frame,
  Cert.Out0Proof.frame,
  Cert.Out0Proof.ref_frame,
  Cert.Out1Proof.kernel_frame,
  Cert.Out1Proof.frame,
  Cert.Out1Proof.ref_frame,
  Cert.Out2Proof.kernel_frame,
  Cert.Out2Proof.frame,
  Cert.Out2Proof.ref_frame,
  Cert.Out3Proof.kernel_frame,
  Cert.Out3Proof.frame,
  Cert.Out3Proof.ref_frame,
  Cert.Ffn0Proof.kernel_frame,
  Cert.Ffn0Proof.frame,
  Cert.Ffn0Proof.ref_frame,
  Cert.Ffn1Proof.kernel_frame,
  Cert.Ffn1Proof.frame,
  Cert.Ffn1Proof.ref_frame,
  Cert.Ffn2Proof.kernel_frame,
  Cert.Ffn2Proof.frame,
  Cert.Ffn2Proof.ref_frame,
  Cert.Ffn3Proof.kernel_frame,
  Cert.Ffn3Proof.frame,
  Cert.Ffn3Proof.ref_frame,
  fun m g _ => Cert.MemAttend.Gen.frame m g,
  fun m g _ => Cert.MemAttendIdeal.Gen.frame m g,
  fun m g _ => Cert.MemAttendIdeal.Gen.frame m g,
  fun m g _ => Cert.MemAttendProof.ref_frame m g,
  fun m g _ => Cert.MemAttendProof.ref_frame m g,
  trivial,
  Cert.In0Proof.algebraic,
  trivial,
  Cert.In1Proof.algebraic,
  trivial,
  Cert.MkvProof.algebraic,
  trivial,
  Cert.Out0Proof.algebraic,
  trivial,
  Cert.Out1Proof.algebraic,
  trivial,
  Cert.Out2Proof.algebraic,
  trivial,
  Cert.Out3Proof.algebraic,
  trivial,
  Cert.Ffn0Proof.algebraic,
  trivial,
  Cert.Ffn1Proof.algebraic,
  trivial,
  Cert.Ffn2Proof.algebraic,
  trivial,
  Cert.Ffn3Proof.algebraic,
  trivial,
  Cert.MemAttendProof.algebraic⟩

end Cert.Proof

end
